-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxReferenceIdeal (m : (ℓ : Loc Cert.MixDxReferenceIdeal.nD Cert.MixDxReferenceIdeal.τ Cert.MixDxReferenceIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInReferenceIdeal (m : (ℓ : Loc Cert.WInReferenceIdeal.nD Cert.WInReferenceIdeal.τ Cert.WInReferenceIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))).1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))).2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))).2.2 = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite_mid [hPre_finite_mid : Cert.Pre_finite_mid.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3))).1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3))).2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3))).2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_finite_ffnup [hPre_finite_ffnup : Cert.Pre_finite_ffnup.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_finite_ffnup.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1))).1 = (fun _ => 1#1)
    ∧ (Cert.Pre_finite_ffnup.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1))).2 = (fun _ => 1#1)

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnUpReferenceIdeal_finite_ffnup [hPre_finite_ffnup : Cert.Pre_finite_ffnup.Facts] (m : (ℓ : Loc Cert.FfnUpReferenceIdeal.nD Cert.FfnUpReferenceIdeal.τ Cert.FfnUpReferenceIdeal.sig) → Buf (Elt Ideal) ℓ) : Prop :=
  ∀ c : Dev Cert.FfnUpReferenceIdeal.nD,
    (Cert.Pre_finite_ffnup.fn (F := Ideal) (m ((c.tc : Thread Cert.FfnUpReferenceIdeal.nD Cert.FfnUpReferenceIdeal.τ).loc Cert.FfnUpReferenceIdeal.main_arg0)) (m ((c.tc : Thread Cert.FfnUpReferenceIdeal.nD Cert.FfnUpReferenceIdeal.τ).loc Cert.FfnUpReferenceIdeal.main_arg1))).1 = (fun _ => 1#1)
    ∧ (Cert.Pre_finite_ffnup.fn (F := Ideal) (m ((c.tc : Thread Cert.FfnUpReferenceIdeal.nD Cert.FfnUpReferenceIdeal.τ).loc Cert.FfnUpReferenceIdeal.main_arg0)) (m ((c.tc : Thread Cert.FfnUpReferenceIdeal.nD Cert.FfnUpReferenceIdeal.τ).loc Cert.FfnUpReferenceIdeal.main_arg1))).2 = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_DYConv (m : (ℓ : Loc Cert.DYConv.nD Cert.DYConv.τ Cert.DYConv.sig) → Buf (Elt Bits) ℓ) : Prop :=
  True

def Pre_DYConvIdeal (m : (ℓ : Loc Cert.DYConvIdeal.nD Cert.DYConvIdeal.τ Cert.DYConvIdeal.sig) → Buf (Elt Ideal) ℓ) : Prop :=
  True

def Pre_DYConvReferenceIdeal (m : (ℓ : Loc Cert.DYConvReferenceIdeal.nD Cert.DYConvReferenceIdeal.τ Cert.DYConvReferenceIdeal.sig) → Buf (Elt Ideal) ℓ) : Prop :=
  True

def Pre_DYMla (m : (ℓ : Loc Cert.DYMla.nD Cert.DYMla.τ Cert.DYMla.sig) → Buf (Elt Bits) ℓ) : Prop :=
  True

def Pre_DYMlaIdeal (m : (ℓ : Loc Cert.DYMlaIdeal.nD Cert.DYMlaIdeal.τ Cert.DYMlaIdeal.sig) → Buf (Elt Ideal) ℓ) : Prop :=
  True

def Pre_DYMlaReferenceIdeal (m : (ℓ : Loc Cert.DYMlaReferenceIdeal.nD Cert.DYMlaReferenceIdeal.τ Cert.DYMlaReferenceIdeal.sig) → Buf (Elt Ideal) ℓ) : Prop :=
  True

def Pre_WUq (m : (ℓ : Loc Cert.WUq.nD Cert.WUq.τ Cert.WUq.sig) → Buf (Elt Bits) ℓ) : Prop :=
  True

def Pre_WUqIdeal (m : (ℓ : Loc Cert.WUqIdeal.nD Cert.WUqIdeal.τ Cert.WUqIdeal.sig) → Buf (Elt Ideal) ℓ) : Prop :=
  True

def Pre_WUqReferenceIdeal (m : (ℓ : Loc Cert.WUqReferenceIdeal.nD Cert.WUqReferenceIdeal.τ Cert.WUqReferenceIdeal.sig) → Buf (Elt Ideal) ℓ) : Prop :=
  True

def Pre_WUv (m : (ℓ : Loc Cert.WUv.nD Cert.WUv.τ Cert.WUv.sig) → Buf (Elt Bits) ℓ) : Prop :=
  True

def Pre_WUvIdeal (m : (ℓ : Loc Cert.WUvIdeal.nD Cert.WUvIdeal.τ Cert.WUvIdeal.sig) → Buf (Elt Ideal) ℓ) : Prop :=
  True

def Pre_WUvReferenceIdeal (m : (ℓ : Loc Cert.WUvReferenceIdeal.nD Cert.WUvReferenceIdeal.τ Cert.WUvReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_lnbwd [hPre_finite_lnbwd : Cert.Pre_finite_lnbwd.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_lnbwd.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).1 = (fun _ => 1#1)
    ∧ (Cert.Pre_finite_lnbwd.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).2 = (fun _ => 1#1)

def Pre_LnBwdReferenceIdeal (m : (ℓ : Loc Cert.LnBwdReferenceIdeal.nD Cert.LnBwdReferenceIdeal.τ Cert.LnBwdReferenceIdeal.sig) → Buf (Elt Ideal) ℓ) : Prop :=
  True

def Pre_LnBwdReferenceIdeal_finite_lnbwd [hPre_finite_lnbwd : Cert.Pre_finite_lnbwd.Facts] (m : (ℓ : Loc Cert.LnBwdReferenceIdeal.nD Cert.LnBwdReferenceIdeal.τ Cert.LnBwdReferenceIdeal.sig) → Buf (Elt Ideal) ℓ) : Prop :=
  ∀ c : Dev Cert.LnBwdReferenceIdeal.nD,
    (Cert.Pre_finite_lnbwd.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2))).1 = (fun _ => 1#1)
    ∧ (Cert.Pre_finite_lnbwd.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2))).2 = (fun _ => 1#1)

def Pre_LnBwdM (m : (ℓ : Loc Cert.LnBwdM.nD Cert.LnBwdM.τ Cert.LnBwdM.sig) → Buf (Elt Bits) ℓ) : Prop :=
  True

def Pre_LnBwdMIdeal (m : (ℓ : Loc Cert.LnBwdMIdeal.nD Cert.LnBwdMIdeal.τ Cert.LnBwdMIdeal.sig) → Buf (Elt Ideal) ℓ) : Prop :=
  True

def Pre_LnBwdMIdeal_finite_lnbwd [hPre_finite_lnbwd : Cert.Pre_finite_lnbwd.Facts] (m : (ℓ : Loc Cert.LnBwdMIdeal.nD Cert.LnBwdMIdeal.τ Cert.LnBwdMIdeal.sig) → Buf (Elt Ideal) ℓ) : Prop :=
  ∀ c : Dev Cert.LnBwdMIdeal.nD,
    (Cert.Pre_finite_lnbwd.fn (F := Ideal) (m ((c.tc : Thread Cert.LnBwdMIdeal.nD Cert.LnBwdMIdeal.τ).loc Cert.LnBwdMIdeal.main_arg0)) (m ((c.tc : Thread Cert.LnBwdMIdeal.nD Cert.LnBwdMIdeal.τ).loc Cert.LnBwdMIdeal.main_arg1)) (m ((c.tc : Thread Cert.LnBwdMIdeal.nD Cert.LnBwdMIdeal.τ).loc Cert.LnBwdMIdeal.main_arg2))).1 = (fun _ => 1#1)
    ∧ (Cert.Pre_finite_lnbwd.fn (F := Ideal) (m ((c.tc : Thread Cert.LnBwdMIdeal.nD Cert.LnBwdMIdeal.τ).loc Cert.LnBwdMIdeal.main_arg0)) (m ((c.tc : Thread Cert.LnBwdMIdeal.nD Cert.LnBwdMIdeal.τ).loc Cert.LnBwdMIdeal.main_arg1)) (m ((c.tc : Thread Cert.LnBwdMIdeal.nD Cert.LnBwdMIdeal.τ).loc Cert.LnBwdMIdeal.main_arg2))).2 = (fun _ => 1#1)

def Pre_LnBwdMReferenceIdeal (m : (ℓ : Loc Cert.LnBwdMReferenceIdeal.nD Cert.LnBwdMReferenceIdeal.τ Cert.LnBwdMReferenceIdeal.sig) → Buf (Elt Ideal) ℓ) : Prop :=
  True

def Pre_LnBwdMReferenceIdeal_finite_lnbwd [hPre_finite_lnbwd : Cert.Pre_finite_lnbwd.Facts] (m : (ℓ : Loc Cert.LnBwdMReferenceIdeal.nD Cert.LnBwdMReferenceIdeal.τ Cert.LnBwdMReferenceIdeal.sig) → Buf (Elt Ideal) ℓ) : Prop :=
  ∀ c : Dev Cert.LnBwdMReferenceIdeal.nD,
    (Cert.Pre_finite_lnbwd.fn (F := Ideal) (m ((c.tc : Thread Cert.LnBwdMReferenceIdeal.nD Cert.LnBwdMReferenceIdeal.τ).loc Cert.LnBwdMReferenceIdeal.main_arg0)) (m ((c.tc : Thread Cert.LnBwdMReferenceIdeal.nD Cert.LnBwdMReferenceIdeal.τ).loc Cert.LnBwdMReferenceIdeal.main_arg1)) (m ((c.tc : Thread Cert.LnBwdMReferenceIdeal.nD Cert.LnBwdMReferenceIdeal.τ).loc Cert.LnBwdMReferenceIdeal.main_arg2))).1 = (fun _ => 1#1)
    ∧ (Cert.Pre_finite_lnbwd.fn (F := Ideal) (m ((c.tc : Thread Cert.LnBwdMReferenceIdeal.nD Cert.LnBwdMReferenceIdeal.τ).loc Cert.LnBwdMReferenceIdeal.main_arg0)) (m ((c.tc : Thread Cert.LnBwdMReferenceIdeal.nD Cert.LnBwdMReferenceIdeal.τ).loc Cert.LnBwdMReferenceIdeal.main_arg1)) (m ((c.tc : Thread Cert.LnBwdMReferenceIdeal.nD Cert.LnBwdMReferenceIdeal.τ).loc Cert.LnBwdMReferenceIdeal.main_arg2))).2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_QkvBwd (m : (ℓ : Loc Cert.QkvBwd.nD Cert.QkvBwd.τ Cert.QkvBwd.sig) → Buf (Elt Bits) ℓ) : Prop :=
  True

def Pre_QkvBwdIdeal (m : (ℓ : Loc Cert.QkvBwdIdeal.nD Cert.QkvBwdIdeal.τ Cert.QkvBwdIdeal.sig) → Buf (Elt Ideal) ℓ) : Prop :=
  True

def Pre_QkvBwdIdeal_finite_qkvbwd [hPre_finite_qkvbwd : Cert.Pre_finite_qkvbwd.Facts] (m : (ℓ : Loc Cert.QkvBwdIdeal.nD Cert.QkvBwdIdeal.τ Cert.QkvBwdIdeal.sig) → Buf (Elt Ideal) ℓ) : Prop :=
  ∀ c : Dev Cert.QkvBwdIdeal.nD,
    (Cert.Pre_finite_qkvbwd.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9))).1 = (fun _ => 1#1)
    ∧ (Cert.Pre_finite_qkvbwd.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9))).2.1 = (fun _ => 1#1)
    ∧ (Cert.Pre_finite_qkvbwd.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9))).2.2.1 = (fun _ => 1#1)
    ∧ (Cert.Pre_finite_qkvbwd.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9))).2.2.2.1 = (fun _ => 1#1)
    ∧ (Cert.Pre_finite_qkvbwd.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9))).2.2.2.2.1 = (fun _ => 1#1)
    ∧ (Cert.Pre_finite_qkvbwd.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9))).2.2.2.2.2.1 = (fun _ => 1#1)
    ∧ (Cert.Pre_finite_qkvbwd.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9))).2.2.2.2.2.2.1 = (fun _ => 1#1)
    ∧ (Cert.Pre_finite_qkvbwd.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9))).2.2.2.2.2.2.2.1 = (fun _ => 1#1)
    ∧ (Cert.Pre_finite_qkvbwd.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9))).2.2.2.2.2.2.2.2 = (fun _ => 1#1)

def Pre_QkvBwdReferenceIdeal (m : (ℓ : Loc Cert.QkvBwdReferenceIdeal.nD Cert.QkvBwdReferenceIdeal.τ Cert.QkvBwdReferenceIdeal.sig) → Buf (Elt Ideal) ℓ) : Prop :=
  True

def Pre_QkvBwdReferenceIdeal_finite_qkvbwd [hPre_finite_qkvbwd : Cert.Pre_finite_qkvbwd.Facts] (m : (ℓ : Loc Cert.QkvBwdReferenceIdeal.nD Cert.QkvBwdReferenceIdeal.τ Cert.QkvBwdReferenceIdeal.sig) → Buf (Elt Ideal) ℓ) : Prop :=
  ∀ c : Dev Cert.QkvBwdReferenceIdeal.nD,
    (Cert.Pre_finite_qkvbwd.fn (F := Ideal) (m ((c.tc : Thread Cert.QkvBwdReferenceIdeal.nD Cert.QkvBwdReferenceIdeal.τ).loc Cert.QkvBwdReferenceIdeal.main_arg0)) (m ((c.tc : Thread Cert.QkvBwdReferenceIdeal.nD Cert.QkvBwdReferenceIdeal.τ).loc Cert.QkvBwdReferenceIdeal.main_arg1)) (m ((c.tc : Thread Cert.QkvBwdReferenceIdeal.nD Cert.QkvBwdReferenceIdeal.τ).loc Cert.QkvBwdReferenceIdeal.main_arg2)) (m ((c.tc : Thread Cert.QkvBwdReferenceIdeal.nD Cert.QkvBwdReferenceIdeal.τ).loc Cert.QkvBwdReferenceIdeal.main_arg3)) (m ((c.tc : Thread Cert.QkvBwdReferenceIdeal.nD Cert.QkvBwdReferenceIdeal.τ).loc Cert.QkvBwdReferenceIdeal.main_arg4)) (m ((c.tc : Thread Cert.QkvBwdReferenceIdeal.nD Cert.QkvBwdReferenceIdeal.τ).loc Cert.QkvBwdReferenceIdeal.main_arg5)) (m ((c.tc : Thread Cert.QkvBwdReferenceIdeal.nD Cert.QkvBwdReferenceIdeal.τ).loc Cert.QkvBwdReferenceIdeal.main_arg6)) (m ((c.tc : Thread Cert.QkvBwdReferenceIdeal.nD Cert.QkvBwdReferenceIdeal.τ).loc Cert.QkvBwdReferenceIdeal.main_arg7)) (m ((c.tc : Thread Cert.QkvBwdReferenceIdeal.nD Cert.QkvBwdReferenceIdeal.τ).loc Cert.QkvBwdReferenceIdeal.main_arg8)) (m ((c.tc : Thread Cert.QkvBwdReferenceIdeal.nD Cert.QkvBwdReferenceIdeal.τ).loc Cert.QkvBwdReferenceIdeal.main_arg9))).1 = (fun _ => 1#1)
    ∧ (Cert.Pre_finite_qkvbwd.fn (F := Ideal) (m ((c.tc : Thread Cert.QkvBwdReferenceIdeal.nD Cert.QkvBwdReferenceIdeal.τ).loc Cert.QkvBwdReferenceIdeal.main_arg0)) (m ((c.tc : Thread Cert.QkvBwdReferenceIdeal.nD Cert.QkvBwdReferenceIdeal.τ).loc Cert.QkvBwdReferenceIdeal.main_arg1)) (m ((c.tc : Thread Cert.QkvBwdReferenceIdeal.nD Cert.QkvBwdReferenceIdeal.τ).loc Cert.QkvBwdReferenceIdeal.main_arg2)) (m ((c.tc : Thread Cert.QkvBwdReferenceIdeal.nD Cert.QkvBwdReferenceIdeal.τ).loc Cert.QkvBwdReferenceIdeal.main_arg3)) (m ((c.tc : Thread Cert.QkvBwdReferenceIdeal.nD Cert.QkvBwdReferenceIdeal.τ).loc Cert.QkvBwdReferenceIdeal.main_arg4)) (m ((c.tc : Thread Cert.QkvBwdReferenceIdeal.nD Cert.QkvBwdReferenceIdeal.τ).loc Cert.QkvBwdReferenceIdeal.main_arg5)) (m ((c.tc : Thread Cert.QkvBwdReferenceIdeal.nD Cert.QkvBwdReferenceIdeal.τ).loc Cert.QkvBwdReferenceIdeal.main_arg6)) (m ((c.tc : Thread Cert.QkvBwdReferenceIdeal.nD Cert.QkvBwdReferenceIdeal.τ).loc Cert.QkvBwdReferenceIdeal.main_arg7)) (m ((c.tc : Thread Cert.QkvBwdReferenceIdeal.nD Cert.QkvBwdReferenceIdeal.τ).loc Cert.QkvBwdReferenceIdeal.main_arg8)) (m ((c.tc : Thread Cert.QkvBwdReferenceIdeal.nD Cert.QkvBwdReferenceIdeal.τ).loc Cert.QkvBwdReferenceIdeal.main_arg9))).2.1 = (fun _ => 1#1)
    ∧ (Cert.Pre_finite_qkvbwd.fn (F := Ideal) (m ((c.tc : Thread Cert.QkvBwdReferenceIdeal.nD Cert.QkvBwdReferenceIdeal.τ).loc Cert.QkvBwdReferenceIdeal.main_arg0)) (m ((c.tc : Thread Cert.QkvBwdReferenceIdeal.nD Cert.QkvBwdReferenceIdeal.τ).loc Cert.QkvBwdReferenceIdeal.main_arg1)) (m ((c.tc : Thread Cert.QkvBwdReferenceIdeal.nD Cert.QkvBwdReferenceIdeal.τ).loc Cert.QkvBwdReferenceIdeal.main_arg2)) (m ((c.tc : Thread Cert.QkvBwdReferenceIdeal.nD Cert.QkvBwdReferenceIdeal.τ).loc Cert.QkvBwdReferenceIdeal.main_arg3)) (m ((c.tc : Thread Cert.QkvBwdReferenceIdeal.nD Cert.QkvBwdReferenceIdeal.τ).loc Cert.QkvBwdReferenceIdeal.main_arg4)) (m ((c.tc : Thread Cert.QkvBwdReferenceIdeal.nD Cert.QkvBwdReferenceIdeal.τ).loc Cert.QkvBwdReferenceIdeal.main_arg5)) (m ((c.tc : Thread Cert.QkvBwdReferenceIdeal.nD Cert.QkvBwdReferenceIdeal.τ).loc Cert.QkvBwdReferenceIdeal.main_arg6)) (m ((c.tc : Thread Cert.QkvBwdReferenceIdeal.nD Cert.QkvBwdReferenceIdeal.τ).loc Cert.QkvBwdReferenceIdeal.main_arg7)) (m ((c.tc : Thread Cert.QkvBwdReferenceIdeal.nD Cert.QkvBwdReferenceIdeal.τ).loc Cert.QkvBwdReferenceIdeal.main_arg8)) (m ((c.tc : Thread Cert.QkvBwdReferenceIdeal.nD Cert.QkvBwdReferenceIdeal.τ).loc Cert.QkvBwdReferenceIdeal.main_arg9))).2.2.1 = (fun _ => 1#1)
    ∧ (Cert.Pre_finite_qkvbwd.fn (F := Ideal) (m ((c.tc : Thread Cert.QkvBwdReferenceIdeal.nD Cert.QkvBwdReferenceIdeal.τ).loc Cert.QkvBwdReferenceIdeal.main_arg0)) (m ((c.tc : Thread Cert.QkvBwdReferenceIdeal.nD Cert.QkvBwdReferenceIdeal.τ).loc Cert.QkvBwdReferenceIdeal.main_arg1)) (m ((c.tc : Thread Cert.QkvBwdReferenceIdeal.nD Cert.QkvBwdReferenceIdeal.τ).loc Cert.QkvBwdReferenceIdeal.main_arg2)) (m ((c.tc : Thread Cert.QkvBwdReferenceIdeal.nD Cert.QkvBwdReferenceIdeal.τ).loc Cert.QkvBwdReferenceIdeal.main_arg3)) (m ((c.tc : Thread Cert.QkvBwdReferenceIdeal.nD Cert.QkvBwdReferenceIdeal.τ).loc Cert.QkvBwdReferenceIdeal.main_arg4)) (m ((c.tc : Thread Cert.QkvBwdReferenceIdeal.nD Cert.QkvBwdReferenceIdeal.τ).loc Cert.QkvBwdReferenceIdeal.main_arg5)) (m ((c.tc : Thread Cert.QkvBwdReferenceIdeal.nD Cert.QkvBwdReferenceIdeal.τ).loc Cert.QkvBwdReferenceIdeal.main_arg6)) (m ((c.tc : Thread Cert.QkvBwdReferenceIdeal.nD Cert.QkvBwdReferenceIdeal.τ).loc Cert.QkvBwdReferenceIdeal.main_arg7)) (m ((c.tc : Thread Cert.QkvBwdReferenceIdeal.nD Cert.QkvBwdReferenceIdeal.τ).loc Cert.QkvBwdReferenceIdeal.main_arg8)) (m ((c.tc : Thread Cert.QkvBwdReferenceIdeal.nD Cert.QkvBwdReferenceIdeal.τ).loc Cert.QkvBwdReferenceIdeal.main_arg9))).2.2.2.1 = (fun _ => 1#1)
    ∧ (Cert.Pre_finite_qkvbwd.fn (F := Ideal) (m ((c.tc : Thread Cert.QkvBwdReferenceIdeal.nD Cert.QkvBwdReferenceIdeal.τ).loc Cert.QkvBwdReferenceIdeal.main_arg0)) (m ((c.tc : Thread Cert.QkvBwdReferenceIdeal.nD Cert.QkvBwdReferenceIdeal.τ).loc Cert.QkvBwdReferenceIdeal.main_arg1)) (m ((c.tc : Thread Cert.QkvBwdReferenceIdeal.nD Cert.QkvBwdReferenceIdeal.τ).loc Cert.QkvBwdReferenceIdeal.main_arg2)) (m ((c.tc : Thread Cert.QkvBwdReferenceIdeal.nD Cert.QkvBwdReferenceIdeal.τ).loc Cert.QkvBwdReferenceIdeal.main_arg3)) (m ((c.tc : Thread Cert.QkvBwdReferenceIdeal.nD Cert.QkvBwdReferenceIdeal.τ).loc Cert.QkvBwdReferenceIdeal.main_arg4)) (m ((c.tc : Thread Cert.QkvBwdReferenceIdeal.nD Cert.QkvBwdReferenceIdeal.τ).loc Cert.QkvBwdReferenceIdeal.main_arg5)) (m ((c.tc : Thread Cert.QkvBwdReferenceIdeal.nD Cert.QkvBwdReferenceIdeal.τ).loc Cert.QkvBwdReferenceIdeal.main_arg6)) (m ((c.tc : Thread Cert.QkvBwdReferenceIdeal.nD Cert.QkvBwdReferenceIdeal.τ).loc Cert.QkvBwdReferenceIdeal.main_arg7)) (m ((c.tc : Thread Cert.QkvBwdReferenceIdeal.nD Cert.QkvBwdReferenceIdeal.τ).loc Cert.QkvBwdReferenceIdeal.main_arg8)) (m ((c.tc : Thread Cert.QkvBwdReferenceIdeal.nD Cert.QkvBwdReferenceIdeal.τ).loc Cert.QkvBwdReferenceIdeal.main_arg9))).2.2.2.2.1 = (fun _ => 1#1)
    ∧ (Cert.Pre_finite_qkvbwd.fn (F := Ideal) (m ((c.tc : Thread Cert.QkvBwdReferenceIdeal.nD Cert.QkvBwdReferenceIdeal.τ).loc Cert.QkvBwdReferenceIdeal.main_arg0)) (m ((c.tc : Thread Cert.QkvBwdReferenceIdeal.nD Cert.QkvBwdReferenceIdeal.τ).loc Cert.QkvBwdReferenceIdeal.main_arg1)) (m ((c.tc : Thread Cert.QkvBwdReferenceIdeal.nD Cert.QkvBwdReferenceIdeal.τ).loc Cert.QkvBwdReferenceIdeal.main_arg2)) (m ((c.tc : Thread Cert.QkvBwdReferenceIdeal.nD Cert.QkvBwdReferenceIdeal.τ).loc Cert.QkvBwdReferenceIdeal.main_arg3)) (m ((c.tc : Thread Cert.QkvBwdReferenceIdeal.nD Cert.QkvBwdReferenceIdeal.τ).loc Cert.QkvBwdReferenceIdeal.main_arg4)) (m ((c.tc : Thread Cert.QkvBwdReferenceIdeal.nD Cert.QkvBwdReferenceIdeal.τ).loc Cert.QkvBwdReferenceIdeal.main_arg5)) (m ((c.tc : Thread Cert.QkvBwdReferenceIdeal.nD Cert.QkvBwdReferenceIdeal.τ).loc Cert.QkvBwdReferenceIdeal.main_arg6)) (m ((c.tc : Thread Cert.QkvBwdReferenceIdeal.nD Cert.QkvBwdReferenceIdeal.τ).loc Cert.QkvBwdReferenceIdeal.main_arg7)) (m ((c.tc : Thread Cert.QkvBwdReferenceIdeal.nD Cert.QkvBwdReferenceIdeal.τ).loc Cert.QkvBwdReferenceIdeal.main_arg8)) (m ((c.tc : Thread Cert.QkvBwdReferenceIdeal.nD Cert.QkvBwdReferenceIdeal.τ).loc Cert.QkvBwdReferenceIdeal.main_arg9))).2.2.2.2.2.1 = (fun _ => 1#1)
    ∧ (Cert.Pre_finite_qkvbwd.fn (F := Ideal) (m ((c.tc : Thread Cert.QkvBwdReferenceIdeal.nD Cert.QkvBwdReferenceIdeal.τ).loc Cert.QkvBwdReferenceIdeal.main_arg0)) (m ((c.tc : Thread Cert.QkvBwdReferenceIdeal.nD Cert.QkvBwdReferenceIdeal.τ).loc Cert.QkvBwdReferenceIdeal.main_arg1)) (m ((c.tc : Thread Cert.QkvBwdReferenceIdeal.nD Cert.QkvBwdReferenceIdeal.τ).loc Cert.QkvBwdReferenceIdeal.main_arg2)) (m ((c.tc : Thread Cert.QkvBwdReferenceIdeal.nD Cert.QkvBwdReferenceIdeal.τ).loc Cert.QkvBwdReferenceIdeal.main_arg3)) (m ((c.tc : Thread Cert.QkvBwdReferenceIdeal.nD Cert.QkvBwdReferenceIdeal.τ).loc Cert.QkvBwdReferenceIdeal.main_arg4)) (m ((c.tc : Thread Cert.QkvBwdReferenceIdeal.nD Cert.QkvBwdReferenceIdeal.τ).loc Cert.QkvBwdReferenceIdeal.main_arg5)) (m ((c.tc : Thread Cert.QkvBwdReferenceIdeal.nD Cert.QkvBwdReferenceIdeal.τ).loc Cert.QkvBwdReferenceIdeal.main_arg6)) (m ((c.tc : Thread Cert.QkvBwdReferenceIdeal.nD Cert.QkvBwdReferenceIdeal.τ).loc Cert.QkvBwdReferenceIdeal.main_arg7)) (m ((c.tc : Thread Cert.QkvBwdReferenceIdeal.nD Cert.QkvBwdReferenceIdeal.τ).loc Cert.QkvBwdReferenceIdeal.main_arg8)) (m ((c.tc : Thread Cert.QkvBwdReferenceIdeal.nD Cert.QkvBwdReferenceIdeal.τ).loc Cert.QkvBwdReferenceIdeal.main_arg9))).2.2.2.2.2.2.1 = (fun _ => 1#1)
    ∧ (Cert.Pre_finite_qkvbwd.fn (F := Ideal) (m ((c.tc : Thread Cert.QkvBwdReferenceIdeal.nD Cert.QkvBwdReferenceIdeal.τ).loc Cert.QkvBwdReferenceIdeal.main_arg0)) (m ((c.tc : Thread Cert.QkvBwdReferenceIdeal.nD Cert.QkvBwdReferenceIdeal.τ).loc Cert.QkvBwdReferenceIdeal.main_arg1)) (m ((c.tc : Thread Cert.QkvBwdReferenceIdeal.nD Cert.QkvBwdReferenceIdeal.τ).loc Cert.QkvBwdReferenceIdeal.main_arg2)) (m ((c.tc : Thread Cert.QkvBwdReferenceIdeal.nD Cert.QkvBwdReferenceIdeal.τ).loc Cert.QkvBwdReferenceIdeal.main_arg3)) (m ((c.tc : Thread Cert.QkvBwdReferenceIdeal.nD Cert.QkvBwdReferenceIdeal.τ).loc Cert.QkvBwdReferenceIdeal.main_arg4)) (m ((c.tc : Thread Cert.QkvBwdReferenceIdeal.nD Cert.QkvBwdReferenceIdeal.τ).loc Cert.QkvBwdReferenceIdeal.main_arg5)) (m ((c.tc : Thread Cert.QkvBwdReferenceIdeal.nD Cert.QkvBwdReferenceIdeal.τ).loc Cert.QkvBwdReferenceIdeal.main_arg6)) (m ((c.tc : Thread Cert.QkvBwdReferenceIdeal.nD Cert.QkvBwdReferenceIdeal.τ).loc Cert.QkvBwdReferenceIdeal.main_arg7)) (m ((c.tc : Thread Cert.QkvBwdReferenceIdeal.nD Cert.QkvBwdReferenceIdeal.τ).loc Cert.QkvBwdReferenceIdeal.main_arg8)) (m ((c.tc : Thread Cert.QkvBwdReferenceIdeal.nD Cert.QkvBwdReferenceIdeal.τ).loc Cert.QkvBwdReferenceIdeal.main_arg9))).2.2.2.2.2.2.2.1 = (fun _ => 1#1)
    ∧ (Cert.Pre_finite_qkvbwd.fn (F := Ideal) (m ((c.tc : Thread Cert.QkvBwdReferenceIdeal.nD Cert.QkvBwdReferenceIdeal.τ).loc Cert.QkvBwdReferenceIdeal.main_arg0)) (m ((c.tc : Thread Cert.QkvBwdReferenceIdeal.nD Cert.QkvBwdReferenceIdeal.τ).loc Cert.QkvBwdReferenceIdeal.main_arg1)) (m ((c.tc : Thread Cert.QkvBwdReferenceIdeal.nD Cert.QkvBwdReferenceIdeal.τ).loc Cert.QkvBwdReferenceIdeal.main_arg2)) (m ((c.tc : Thread Cert.QkvBwdReferenceIdeal.nD Cert.QkvBwdReferenceIdeal.τ).loc Cert.QkvBwdReferenceIdeal.main_arg3)) (m ((c.tc : Thread Cert.QkvBwdReferenceIdeal.nD Cert.QkvBwdReferenceIdeal.τ).loc Cert.QkvBwdReferenceIdeal.main_arg4)) (m ((c.tc : Thread Cert.QkvBwdReferenceIdeal.nD Cert.QkvBwdReferenceIdeal.τ).loc Cert.QkvBwdReferenceIdeal.main_arg5)) (m ((c.tc : Thread Cert.QkvBwdReferenceIdeal.nD Cert.QkvBwdReferenceIdeal.τ).loc Cert.QkvBwdReferenceIdeal.main_arg6)) (m ((c.tc : Thread Cert.QkvBwdReferenceIdeal.nD Cert.QkvBwdReferenceIdeal.τ).loc Cert.QkvBwdReferenceIdeal.main_arg7)) (m ((c.tc : Thread Cert.QkvBwdReferenceIdeal.nD Cert.QkvBwdReferenceIdeal.τ).loc Cert.QkvBwdReferenceIdeal.main_arg8)) (m ((c.tc : Thread Cert.QkvBwdReferenceIdeal.nD Cert.QkvBwdReferenceIdeal.τ).loc Cert.QkvBwdReferenceIdeal.main_arg9))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2))
      ∧ r.2.sem = fun _ => 0)

def quiescent_MixDxReferenceIdeal [hMixDxReferenceIdeal : Cert.MixDxReferenceIdeal.Facts] : Prop :=
  ∀ (m : (ℓ : Loc Cert.MixDxReferenceIdeal.nD Cert.MixDxReferenceIdeal.τ Cert.MixDxReferenceIdeal.sig) → Buf (Elt Ideal) ℓ) (g : Dev Cert.MixDxReferenceIdeal.nD → PrngReg), Pre_MixDxReferenceIdeal m →
    θ_run (Cert.MixDxReferenceIdeal.defs (F := Ideal)) (onTc (τ := Cert.MixDxReferenceIdeal.τ) (Cert.MixDxReferenceIdeal.main (F := Ideal))) ⟨m, fun _ => 0, g⟩ (fun r => (∀ c : Dev Cert.MixDxReferenceIdeal.nD,
      r.2.mem ((c.tc : Thread Cert.MixDxReferenceIdeal.nD Cert.MixDxReferenceIdeal.τ).loc Cert.MixDxReferenceIdeal.main_arg0) = m ((c.tc : Thread Cert.MixDxReferenceIdeal.nD Cert.MixDxReferenceIdeal.τ).loc Cert.MixDxReferenceIdeal.main_arg0)
      ∧ r.2.mem ((c.tc : Thread Cert.MixDxReferenceIdeal.nD Cert.MixDxReferenceIdeal.τ).loc Cert.MixDxReferenceIdeal.main_arg1) = m ((c.tc : Thread Cert.MixDxReferenceIdeal.nD Cert.MixDxReferenceIdeal.τ).loc Cert.MixDxReferenceIdeal.main_arg1)
      ∧ r.2.mem ((c.tc : Thread Cert.MixDxReferenceIdeal.nD Cert.MixDxReferenceIdeal.τ).loc Cert.MixDxReferenceIdeal.main_arg2) = m ((c.tc : Thread Cert.MixDxReferenceIdeal.nD Cert.MixDxReferenceIdeal.τ).loc Cert.MixDxReferenceIdeal.main_arg2))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInReferenceIdeal [hWInReferenceIdeal : Cert.WInReferenceIdeal.Facts] : Prop :=
  ∀ (m : (ℓ : Loc Cert.WInReferenceIdeal.nD Cert.WInReferenceIdeal.τ Cert.WInReferenceIdeal.sig) → Buf (Elt Ideal) ℓ) (g : Dev Cert.WInReferenceIdeal.nD → PrngReg), Pre_WInReferenceIdeal m →
    θ_run (Cert.WInReferenceIdeal.defs (F := Ideal)) (onTc (τ := Cert.WInReferenceIdeal.τ) (Cert.WInReferenceIdeal.main (F := Ideal))) ⟨m, fun _ => 0, g⟩ (fun r => (∀ c : Dev Cert.WInReferenceIdeal.nD,
      r.2.mem ((c.tc : Thread Cert.WInReferenceIdeal.nD Cert.WInReferenceIdeal.τ).loc Cert.WInReferenceIdeal.main_arg0) = m ((c.tc : Thread Cert.WInReferenceIdeal.nD Cert.WInReferenceIdeal.τ).loc Cert.WInReferenceIdeal.main_arg0)
      ∧ r.2.mem ((c.tc : Thread Cert.WInReferenceIdeal.nD Cert.WInReferenceIdeal.τ).loc Cert.WInReferenceIdeal.main_arg1) = m ((c.tc : Thread Cert.WInReferenceIdeal.nD Cert.WInReferenceIdeal.τ).loc Cert.WInReferenceIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3))
      ∧ r.2.sem = fun _ => 0)

def quiescent_MidReferenceIdeal_pre_finite_mid [hMidReferenceIdeal : Cert.MidReferenceIdeal.Facts] [hPre_finite_mid : Cert.Pre_finite_mid.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite_mid m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpIdeal_pre_finite_ffnup [hFfnUpIdeal : Cert.FfnUpIdeal.Facts] [hPre_finite_ffnup : Cert.Pre_finite_ffnup.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_finite_ffnup m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnUpReferenceIdeal_pre_finite_ffnup [hFfnUpReferenceIdeal : Cert.FfnUpReferenceIdeal.Facts] [hPre_finite_ffnup : Cert.Pre_finite_ffnup.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal_finite_ffnup m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3)
      ∧ r.2.mem ((c.tc : Thread Cert.FfnDownReferenceIdeal.nD Cert.FfnDownReferenceIdeal.τ).loc Cert.FfnDownReferenceIdeal.main_arg4) = m ((c.tc : Thread Cert.FfnDownReferenceIdeal.nD Cert.FfnDownReferenceIdeal.τ).loc Cert.FfnDownReferenceIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_DYConv [hDYConv : Cert.DYConv.Facts] : Prop :=
  ∀ (m : (ℓ : Loc Cert.DYConv.nD Cert.DYConv.τ Cert.DYConv.sig) → Buf (Elt Bits) ℓ) (g : Dev Cert.DYConv.nD → PrngReg), Pre_DYConv m →
    θ_run (Cert.DYConv.defs (F := Bits)) (onTc (τ := Cert.DYConv.τ) (Cert.DYConv.main (F := Bits))) ⟨m, fun _ => 0, g⟩ (fun r => (∀ c : Dev Cert.DYConv.nD,
      r.2.mem ((c.tc : Thread Cert.DYConv.nD Cert.DYConv.τ).loc Cert.DYConv.main_arg0) = m ((c.tc : Thread Cert.DYConv.nD Cert.DYConv.τ).loc Cert.DYConv.main_arg0)
      ∧ r.2.mem ((c.tc : Thread Cert.DYConv.nD Cert.DYConv.τ).loc Cert.DYConv.main_arg1) = m ((c.tc : Thread Cert.DYConv.nD Cert.DYConv.τ).loc Cert.DYConv.main_arg1))
      ∧ r.2.sem = fun _ => 0)

def quiescent_DYConvIdeal [hDYConvIdeal : Cert.DYConvIdeal.Facts] : Prop :=
  ∀ (m : (ℓ : Loc Cert.DYConvIdeal.nD Cert.DYConvIdeal.τ Cert.DYConvIdeal.sig) → Buf (Elt Ideal) ℓ) (g : Dev Cert.DYConvIdeal.nD → PrngReg), Pre_DYConvIdeal m →
    θ_run (Cert.DYConvIdeal.defs (F := Ideal)) (onTc (τ := Cert.DYConvIdeal.τ) (Cert.DYConvIdeal.main (F := Ideal))) ⟨m, fun _ => 0, g⟩ (fun r => (∀ c : Dev Cert.DYConvIdeal.nD,
      r.2.mem ((c.tc : Thread Cert.DYConvIdeal.nD Cert.DYConvIdeal.τ).loc Cert.DYConvIdeal.main_arg0) = m ((c.tc : Thread Cert.DYConvIdeal.nD Cert.DYConvIdeal.τ).loc Cert.DYConvIdeal.main_arg0)
      ∧ r.2.mem ((c.tc : Thread Cert.DYConvIdeal.nD Cert.DYConvIdeal.τ).loc Cert.DYConvIdeal.main_arg1) = m ((c.tc : Thread Cert.DYConvIdeal.nD Cert.DYConvIdeal.τ).loc Cert.DYConvIdeal.main_arg1))
      ∧ r.2.sem = fun _ => 0)

def quiescent_DYConvReferenceIdeal [hDYConvReferenceIdeal : Cert.DYConvReferenceIdeal.Facts] : Prop :=
  ∀ (m : (ℓ : Loc Cert.DYConvReferenceIdeal.nD Cert.DYConvReferenceIdeal.τ Cert.DYConvReferenceIdeal.sig) → Buf (Elt Ideal) ℓ) (g : Dev Cert.DYConvReferenceIdeal.nD → PrngReg), Pre_DYConvReferenceIdeal m →
    θ_run (Cert.DYConvReferenceIdeal.defs (F := Ideal)) (onTc (τ := Cert.DYConvReferenceIdeal.τ) (Cert.DYConvReferenceIdeal.main (F := Ideal))) ⟨m, fun _ => 0, g⟩ (fun r => (∀ c : Dev Cert.DYConvReferenceIdeal.nD,
      r.2.mem ((c.tc : Thread Cert.DYConvReferenceIdeal.nD Cert.DYConvReferenceIdeal.τ).loc Cert.DYConvReferenceIdeal.main_arg0) = m ((c.tc : Thread Cert.DYConvReferenceIdeal.nD Cert.DYConvReferenceIdeal.τ).loc Cert.DYConvReferenceIdeal.main_arg0)
      ∧ r.2.mem ((c.tc : Thread Cert.DYConvReferenceIdeal.nD Cert.DYConvReferenceIdeal.τ).loc Cert.DYConvReferenceIdeal.main_arg1) = m ((c.tc : Thread Cert.DYConvReferenceIdeal.nD Cert.DYConvReferenceIdeal.τ).loc Cert.DYConvReferenceIdeal.main_arg1))
      ∧ r.2.sem = fun _ => 0)

def quiescent_DYMla [hDYMla : Cert.DYMla.Facts] : Prop :=
  ∀ (m : (ℓ : Loc Cert.DYMla.nD Cert.DYMla.τ Cert.DYMla.sig) → Buf (Elt Bits) ℓ) (g : Dev Cert.DYMla.nD → PrngReg), Pre_DYMla m →
    θ_run (Cert.DYMla.defs (F := Bits)) (onTc (τ := Cert.DYMla.τ) (Cert.DYMla.main (F := Bits))) ⟨m, fun _ => 0, g⟩ (fun r => (∀ c : Dev Cert.DYMla.nD,
      r.2.mem ((c.tc : Thread Cert.DYMla.nD Cert.DYMla.τ).loc Cert.DYMla.main_arg0) = m ((c.tc : Thread Cert.DYMla.nD Cert.DYMla.τ).loc Cert.DYMla.main_arg0)
      ∧ r.2.mem ((c.tc : Thread Cert.DYMla.nD Cert.DYMla.τ).loc Cert.DYMla.main_arg1) = m ((c.tc : Thread Cert.DYMla.nD Cert.DYMla.τ).loc Cert.DYMla.main_arg1))
      ∧ r.2.sem = fun _ => 0)

def quiescent_DYMlaIdeal [hDYMlaIdeal : Cert.DYMlaIdeal.Facts] : Prop :=
  ∀ (m : (ℓ : Loc Cert.DYMlaIdeal.nD Cert.DYMlaIdeal.τ Cert.DYMlaIdeal.sig) → Buf (Elt Ideal) ℓ) (g : Dev Cert.DYMlaIdeal.nD → PrngReg), Pre_DYMlaIdeal m →
    θ_run (Cert.DYMlaIdeal.defs (F := Ideal)) (onTc (τ := Cert.DYMlaIdeal.τ) (Cert.DYMlaIdeal.main (F := Ideal))) ⟨m, fun _ => 0, g⟩ (fun r => (∀ c : Dev Cert.DYMlaIdeal.nD,
      r.2.mem ((c.tc : Thread Cert.DYMlaIdeal.nD Cert.DYMlaIdeal.τ).loc Cert.DYMlaIdeal.main_arg0) = m ((c.tc : Thread Cert.DYMlaIdeal.nD Cert.DYMlaIdeal.τ).loc Cert.DYMlaIdeal.main_arg0)
      ∧ r.2.mem ((c.tc : Thread Cert.DYMlaIdeal.nD Cert.DYMlaIdeal.τ).loc Cert.DYMlaIdeal.main_arg1) = m ((c.tc : Thread Cert.DYMlaIdeal.nD Cert.DYMlaIdeal.τ).loc Cert.DYMlaIdeal.main_arg1))
      ∧ r.2.sem = fun _ => 0)

def quiescent_DYMlaReferenceIdeal [hDYMlaReferenceIdeal : Cert.DYMlaReferenceIdeal.Facts] : Prop :=
  ∀ (m : (ℓ : Loc Cert.DYMlaReferenceIdeal.nD Cert.DYMlaReferenceIdeal.τ Cert.DYMlaReferenceIdeal.sig) → Buf (Elt Ideal) ℓ) (g : Dev Cert.DYMlaReferenceIdeal.nD → PrngReg), Pre_DYMlaReferenceIdeal m →
    θ_run (Cert.DYMlaReferenceIdeal.defs (F := Ideal)) (onTc (τ := Cert.DYMlaReferenceIdeal.τ) (Cert.DYMlaReferenceIdeal.main (F := Ideal))) ⟨m, fun _ => 0, g⟩ (fun r => (∀ c : Dev Cert.DYMlaReferenceIdeal.nD,
      r.2.mem ((c.tc : Thread Cert.DYMlaReferenceIdeal.nD Cert.DYMlaReferenceIdeal.τ).loc Cert.DYMlaReferenceIdeal.main_arg0) = m ((c.tc : Thread Cert.DYMlaReferenceIdeal.nD Cert.DYMlaReferenceIdeal.τ).loc Cert.DYMlaReferenceIdeal.main_arg0)
      ∧ r.2.mem ((c.tc : Thread Cert.DYMlaReferenceIdeal.nD Cert.DYMlaReferenceIdeal.τ).loc Cert.DYMlaReferenceIdeal.main_arg1) = m ((c.tc : Thread Cert.DYMlaReferenceIdeal.nD Cert.DYMlaReferenceIdeal.τ).loc Cert.DYMlaReferenceIdeal.main_arg1))
      ∧ r.2.sem = fun _ => 0)

def quiescent_WUq [hWUq : Cert.WUq.Facts] : Prop :=
  ∀ (m : (ℓ : Loc Cert.WUq.nD Cert.WUq.τ Cert.WUq.sig) → Buf (Elt Bits) ℓ) (g : Dev Cert.WUq.nD → PrngReg), Pre_WUq m →
    θ_run (Cert.WUq.defs (F := Bits)) (onTc (τ := Cert.WUq.τ) (Cert.WUq.main (F := Bits))) ⟨m, fun _ => 0, g⟩ (fun r => (∀ c : Dev Cert.WUq.nD,
      r.2.mem ((c.tc : Thread Cert.WUq.nD Cert.WUq.τ).loc Cert.WUq.main_arg0) = m ((c.tc : Thread Cert.WUq.nD Cert.WUq.τ).loc Cert.WUq.main_arg0)
      ∧ r.2.mem ((c.tc : Thread Cert.WUq.nD Cert.WUq.τ).loc Cert.WUq.main_arg1) = m ((c.tc : Thread Cert.WUq.nD Cert.WUq.τ).loc Cert.WUq.main_arg1))
      ∧ r.2.sem = fun _ => 0)

def quiescent_WUqIdeal [hWUqIdeal : Cert.WUqIdeal.Facts] : Prop :=
  ∀ (m : (ℓ : Loc Cert.WUqIdeal.nD Cert.WUqIdeal.τ Cert.WUqIdeal.sig) → Buf (Elt Ideal) ℓ) (g : Dev Cert.WUqIdeal.nD → PrngReg), Pre_WUqIdeal m →
    θ_run (Cert.WUqIdeal.defs (F := Ideal)) (onTc (τ := Cert.WUqIdeal.τ) (Cert.WUqIdeal.main (F := Ideal))) ⟨m, fun _ => 0, g⟩ (fun r => (∀ c : Dev Cert.WUqIdeal.nD,
      r.2.mem ((c.tc : Thread Cert.WUqIdeal.nD Cert.WUqIdeal.τ).loc Cert.WUqIdeal.main_arg0) = m ((c.tc : Thread Cert.WUqIdeal.nD Cert.WUqIdeal.τ).loc Cert.WUqIdeal.main_arg0)
      ∧ r.2.mem ((c.tc : Thread Cert.WUqIdeal.nD Cert.WUqIdeal.τ).loc Cert.WUqIdeal.main_arg1) = m ((c.tc : Thread Cert.WUqIdeal.nD Cert.WUqIdeal.τ).loc Cert.WUqIdeal.main_arg1))
      ∧ r.2.sem = fun _ => 0)

def quiescent_WUqReferenceIdeal [hWUqReferenceIdeal : Cert.WUqReferenceIdeal.Facts] : Prop :=
  ∀ (m : (ℓ : Loc Cert.WUqReferenceIdeal.nD Cert.WUqReferenceIdeal.τ Cert.WUqReferenceIdeal.sig) → Buf (Elt Ideal) ℓ) (g : Dev Cert.WUqReferenceIdeal.nD → PrngReg), Pre_WUqReferenceIdeal m →
    θ_run (Cert.WUqReferenceIdeal.defs (F := Ideal)) (onTc (τ := Cert.WUqReferenceIdeal.τ) (Cert.WUqReferenceIdeal.main (F := Ideal))) ⟨m, fun _ => 0, g⟩ (fun r => (∀ c : Dev Cert.WUqReferenceIdeal.nD,
      r.2.mem ((c.tc : Thread Cert.WUqReferenceIdeal.nD Cert.WUqReferenceIdeal.τ).loc Cert.WUqReferenceIdeal.main_arg0) = m ((c.tc : Thread Cert.WUqReferenceIdeal.nD Cert.WUqReferenceIdeal.τ).loc Cert.WUqReferenceIdeal.main_arg0)
      ∧ r.2.mem ((c.tc : Thread Cert.WUqReferenceIdeal.nD Cert.WUqReferenceIdeal.τ).loc Cert.WUqReferenceIdeal.main_arg1) = m ((c.tc : Thread Cert.WUqReferenceIdeal.nD Cert.WUqReferenceIdeal.τ).loc Cert.WUqReferenceIdeal.main_arg1))
      ∧ r.2.sem = fun _ => 0)

def quiescent_WUv [hWUv : Cert.WUv.Facts] : Prop :=
  ∀ (m : (ℓ : Loc Cert.WUv.nD Cert.WUv.τ Cert.WUv.sig) → Buf (Elt Bits) ℓ) (g : Dev Cert.WUv.nD → PrngReg), Pre_WUv m →
    θ_run (Cert.WUv.defs (F := Bits)) (onTc (τ := Cert.WUv.τ) (Cert.WUv.main (F := Bits))) ⟨m, fun _ => 0, g⟩ (fun r => (∀ c : Dev Cert.WUv.nD,
      r.2.mem ((c.tc : Thread Cert.WUv.nD Cert.WUv.τ).loc Cert.WUv.main_arg0) = m ((c.tc : Thread Cert.WUv.nD Cert.WUv.τ).loc Cert.WUv.main_arg0)
      ∧ r.2.mem ((c.tc : Thread Cert.WUv.nD Cert.WUv.τ).loc Cert.WUv.main_arg1) = m ((c.tc : Thread Cert.WUv.nD Cert.WUv.τ).loc Cert.WUv.main_arg1))
      ∧ r.2.sem = fun _ => 0)

def quiescent_WUvIdeal [hWUvIdeal : Cert.WUvIdeal.Facts] : Prop :=
  ∀ (m : (ℓ : Loc Cert.WUvIdeal.nD Cert.WUvIdeal.τ Cert.WUvIdeal.sig) → Buf (Elt Ideal) ℓ) (g : Dev Cert.WUvIdeal.nD → PrngReg), Pre_WUvIdeal m →
    θ_run (Cert.WUvIdeal.defs (F := Ideal)) (onTc (τ := Cert.WUvIdeal.τ) (Cert.WUvIdeal.main (F := Ideal))) ⟨m, fun _ => 0, g⟩ (fun r => (∀ c : Dev Cert.WUvIdeal.nD,
      r.2.mem ((c.tc : Thread Cert.WUvIdeal.nD Cert.WUvIdeal.τ).loc Cert.WUvIdeal.main_arg0) = m ((c.tc : Thread Cert.WUvIdeal.nD Cert.WUvIdeal.τ).loc Cert.WUvIdeal.main_arg0)
      ∧ r.2.mem ((c.tc : Thread Cert.WUvIdeal.nD Cert.WUvIdeal.τ).loc Cert.WUvIdeal.main_arg1) = m ((c.tc : Thread Cert.WUvIdeal.nD Cert.WUvIdeal.τ).loc Cert.WUvIdeal.main_arg1))
      ∧ r.2.sem = fun _ => 0)

def quiescent_WUvReferenceIdeal [hWUvReferenceIdeal : Cert.WUvReferenceIdeal.Facts] : Prop :=
  ∀ (m : (ℓ : Loc Cert.WUvReferenceIdeal.nD Cert.WUvReferenceIdeal.τ Cert.WUvReferenceIdeal.sig) → Buf (Elt Ideal) ℓ) (g : Dev Cert.WUvReferenceIdeal.nD → PrngReg), Pre_WUvReferenceIdeal m →
    θ_run (Cert.WUvReferenceIdeal.defs (F := Ideal)) (onTc (τ := Cert.WUvReferenceIdeal.τ) (Cert.WUvReferenceIdeal.main (F := Ideal))) ⟨m, fun _ => 0, g⟩ (fun r => (∀ c : Dev Cert.WUvReferenceIdeal.nD,
      r.2.mem ((c.tc : Thread Cert.WUvReferenceIdeal.nD Cert.WUvReferenceIdeal.τ).loc Cert.WUvReferenceIdeal.main_arg0) = m ((c.tc : Thread Cert.WUvReferenceIdeal.nD Cert.WUvReferenceIdeal.τ).loc Cert.WUvReferenceIdeal.main_arg0)
      ∧ r.2.mem ((c.tc : Thread Cert.WUvReferenceIdeal.nD Cert.WUvReferenceIdeal.τ).loc Cert.WUvReferenceIdeal.main_arg1) = m ((c.tc : Thread Cert.WUvReferenceIdeal.nD Cert.WUvReferenceIdeal.τ).loc Cert.WUvReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdIdeal_pre_finite_lnbwd [hLnBwdIdeal : Cert.LnBwdIdeal.Facts] [hPre_finite_lnbwd : Cert.Pre_finite_lnbwd.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_lnbwd m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdReferenceIdeal [hLnBwdReferenceIdeal : Cert.LnBwdReferenceIdeal.Facts] : Prop :=
  ∀ (m : (ℓ : Loc Cert.LnBwdReferenceIdeal.nD Cert.LnBwdReferenceIdeal.τ Cert.LnBwdReferenceIdeal.sig) → Buf (Elt Ideal) ℓ) (g : Dev Cert.LnBwdReferenceIdeal.nD → PrngReg), Pre_LnBwdReferenceIdeal m →
    θ_run (Cert.LnBwdReferenceIdeal.defs (F := Ideal)) (onTc (τ := Cert.LnBwdReferenceIdeal.τ) (Cert.LnBwdReferenceIdeal.main (F := Ideal))) ⟨m, fun _ => 0, g⟩ (fun r => (∀ c : Dev Cert.LnBwdReferenceIdeal.nD,
      r.2.mem ((c.tc : Thread Cert.LnBwdReferenceIdeal.nD Cert.LnBwdReferenceIdeal.τ).loc Cert.LnBwdReferenceIdeal.main_arg0) = m ((c.tc : Thread Cert.LnBwdReferenceIdeal.nD Cert.LnBwdReferenceIdeal.τ).loc Cert.LnBwdReferenceIdeal.main_arg0)
      ∧ r.2.mem ((c.tc : Thread Cert.LnBwdReferenceIdeal.nD Cert.LnBwdReferenceIdeal.τ).loc Cert.LnBwdReferenceIdeal.main_arg1) = m ((c.tc : Thread Cert.LnBwdReferenceIdeal.nD Cert.LnBwdReferenceIdeal.τ).loc Cert.LnBwdReferenceIdeal.main_arg1)
      ∧ r.2.mem ((c.tc : Thread Cert.LnBwdReferenceIdeal.nD Cert.LnBwdReferenceIdeal.τ).loc Cert.LnBwdReferenceIdeal.main_arg2) = m ((c.tc : Thread Cert.LnBwdReferenceIdeal.nD Cert.LnBwdReferenceIdeal.τ).loc Cert.LnBwdReferenceIdeal.main_arg2))
      ∧ r.2.sem = fun _ => 0)

def quiescent_LnBwdReferenceIdeal_pre_finite_lnbwd [hLnBwdReferenceIdeal : Cert.LnBwdReferenceIdeal.Facts] [hPre_finite_lnbwd : Cert.Pre_finite_lnbwd.Facts] : Prop :=
  ∀ (m : (ℓ : Loc Cert.LnBwdReferenceIdeal.nD Cert.LnBwdReferenceIdeal.τ Cert.LnBwdReferenceIdeal.sig) → Buf (Elt Ideal) ℓ) (g : Dev Cert.LnBwdReferenceIdeal.nD → PrngReg), Pre_LnBwdReferenceIdeal_finite_lnbwd m →
    θ_run (Cert.LnBwdReferenceIdeal.defs (F := Ideal)) (onTc (τ := Cert.LnBwdReferenceIdeal.τ) (Cert.LnBwdReferenceIdeal.main (F := Ideal))) ⟨m, fun _ => 0, g⟩ (fun r => (∀ c : Dev Cert.LnBwdReferenceIdeal.nD,
      r.2.mem ((c.tc : Thread Cert.LnBwdReferenceIdeal.nD Cert.LnBwdReferenceIdeal.τ).loc Cert.LnBwdReferenceIdeal.main_arg0) = m ((c.tc : Thread Cert.LnBwdReferenceIdeal.nD Cert.LnBwdReferenceIdeal.τ).loc Cert.LnBwdReferenceIdeal.main_arg0)
      ∧ r.2.mem ((c.tc : Thread Cert.LnBwdReferenceIdeal.nD Cert.LnBwdReferenceIdeal.τ).loc Cert.LnBwdReferenceIdeal.main_arg1) = m ((c.tc : Thread Cert.LnBwdReferenceIdeal.nD Cert.LnBwdReferenceIdeal.τ).loc Cert.LnBwdReferenceIdeal.main_arg1)
      ∧ r.2.mem ((c.tc : Thread Cert.LnBwdReferenceIdeal.nD Cert.LnBwdReferenceIdeal.τ).loc Cert.LnBwdReferenceIdeal.main_arg2) = m ((c.tc : Thread Cert.LnBwdReferenceIdeal.nD Cert.LnBwdReferenceIdeal.τ).loc Cert.LnBwdReferenceIdeal.main_arg2))
      ∧ r.2.sem = fun _ => 0)

def quiescent_LnBwdM [hLnBwdM : Cert.LnBwdM.Facts] : Prop :=
  ∀ (m : (ℓ : Loc Cert.LnBwdM.nD Cert.LnBwdM.τ Cert.LnBwdM.sig) → Buf (Elt Bits) ℓ) (g : Dev Cert.LnBwdM.nD → PrngReg), Pre_LnBwdM m →
    θ_run (Cert.LnBwdM.defs (F := Bits)) (onTc (τ := Cert.LnBwdM.τ) (Cert.LnBwdM.main (F := Bits))) ⟨m, fun _ => 0, g⟩ (fun r => (∀ c : Dev Cert.LnBwdM.nD,
      r.2.mem ((c.tc : Thread Cert.LnBwdM.nD Cert.LnBwdM.τ).loc Cert.LnBwdM.main_arg0) = m ((c.tc : Thread Cert.LnBwdM.nD Cert.LnBwdM.τ).loc Cert.LnBwdM.main_arg0)
      ∧ r.2.mem ((c.tc : Thread Cert.LnBwdM.nD Cert.LnBwdM.τ).loc Cert.LnBwdM.main_arg1) = m ((c.tc : Thread Cert.LnBwdM.nD Cert.LnBwdM.τ).loc Cert.LnBwdM.main_arg1)
      ∧ r.2.mem ((c.tc : Thread Cert.LnBwdM.nD Cert.LnBwdM.τ).loc Cert.LnBwdM.main_arg2) = m ((c.tc : Thread Cert.LnBwdM.nD Cert.LnBwdM.τ).loc Cert.LnBwdM.main_arg2))
      ∧ r.2.sem = fun _ => 0)

def quiescent_LnBwdMIdeal [hLnBwdMIdeal : Cert.LnBwdMIdeal.Facts] : Prop :=
  ∀ (m : (ℓ : Loc Cert.LnBwdMIdeal.nD Cert.LnBwdMIdeal.τ Cert.LnBwdMIdeal.sig) → Buf (Elt Ideal) ℓ) (g : Dev Cert.LnBwdMIdeal.nD → PrngReg), Pre_LnBwdMIdeal m →
    θ_run (Cert.LnBwdMIdeal.defs (F := Ideal)) (onTc (τ := Cert.LnBwdMIdeal.τ) (Cert.LnBwdMIdeal.main (F := Ideal))) ⟨m, fun _ => 0, g⟩ (fun r => (∀ c : Dev Cert.LnBwdMIdeal.nD,
      r.2.mem ((c.tc : Thread Cert.LnBwdMIdeal.nD Cert.LnBwdMIdeal.τ).loc Cert.LnBwdMIdeal.main_arg0) = m ((c.tc : Thread Cert.LnBwdMIdeal.nD Cert.LnBwdMIdeal.τ).loc Cert.LnBwdMIdeal.main_arg0)
      ∧ r.2.mem ((c.tc : Thread Cert.LnBwdMIdeal.nD Cert.LnBwdMIdeal.τ).loc Cert.LnBwdMIdeal.main_arg1) = m ((c.tc : Thread Cert.LnBwdMIdeal.nD Cert.LnBwdMIdeal.τ).loc Cert.LnBwdMIdeal.main_arg1)
      ∧ r.2.mem ((c.tc : Thread Cert.LnBwdMIdeal.nD Cert.LnBwdMIdeal.τ).loc Cert.LnBwdMIdeal.main_arg2) = m ((c.tc : Thread Cert.LnBwdMIdeal.nD Cert.LnBwdMIdeal.τ).loc Cert.LnBwdMIdeal.main_arg2))
      ∧ r.2.sem = fun _ => 0)

def quiescent_LnBwdMIdeal_pre_finite_lnbwd [hLnBwdMIdeal : Cert.LnBwdMIdeal.Facts] [hPre_finite_lnbwd : Cert.Pre_finite_lnbwd.Facts] : Prop :=
  ∀ (m : (ℓ : Loc Cert.LnBwdMIdeal.nD Cert.LnBwdMIdeal.τ Cert.LnBwdMIdeal.sig) → Buf (Elt Ideal) ℓ) (g : Dev Cert.LnBwdMIdeal.nD → PrngReg), Pre_LnBwdMIdeal_finite_lnbwd m →
    θ_run (Cert.LnBwdMIdeal.defs (F := Ideal)) (onTc (τ := Cert.LnBwdMIdeal.τ) (Cert.LnBwdMIdeal.main (F := Ideal))) ⟨m, fun _ => 0, g⟩ (fun r => (∀ c : Dev Cert.LnBwdMIdeal.nD,
      r.2.mem ((c.tc : Thread Cert.LnBwdMIdeal.nD Cert.LnBwdMIdeal.τ).loc Cert.LnBwdMIdeal.main_arg0) = m ((c.tc : Thread Cert.LnBwdMIdeal.nD Cert.LnBwdMIdeal.τ).loc Cert.LnBwdMIdeal.main_arg0)
      ∧ r.2.mem ((c.tc : Thread Cert.LnBwdMIdeal.nD Cert.LnBwdMIdeal.τ).loc Cert.LnBwdMIdeal.main_arg1) = m ((c.tc : Thread Cert.LnBwdMIdeal.nD Cert.LnBwdMIdeal.τ).loc Cert.LnBwdMIdeal.main_arg1)
      ∧ r.2.mem ((c.tc : Thread Cert.LnBwdMIdeal.nD Cert.LnBwdMIdeal.τ).loc Cert.LnBwdMIdeal.main_arg2) = m ((c.tc : Thread Cert.LnBwdMIdeal.nD Cert.LnBwdMIdeal.τ).loc Cert.LnBwdMIdeal.main_arg2))
      ∧ r.2.sem = fun _ => 0)

def quiescent_LnBwdMReferenceIdeal [hLnBwdMReferenceIdeal : Cert.LnBwdMReferenceIdeal.Facts] : Prop :=
  ∀ (m : (ℓ : Loc Cert.LnBwdMReferenceIdeal.nD Cert.LnBwdMReferenceIdeal.τ Cert.LnBwdMReferenceIdeal.sig) → Buf (Elt Ideal) ℓ) (g : Dev Cert.LnBwdMReferenceIdeal.nD → PrngReg), Pre_LnBwdMReferenceIdeal m →
    θ_run (Cert.LnBwdMReferenceIdeal.defs (F := Ideal)) (onTc (τ := Cert.LnBwdMReferenceIdeal.τ) (Cert.LnBwdMReferenceIdeal.main (F := Ideal))) ⟨m, fun _ => 0, g⟩ (fun r => (∀ c : Dev Cert.LnBwdMReferenceIdeal.nD,
      r.2.mem ((c.tc : Thread Cert.LnBwdMReferenceIdeal.nD Cert.LnBwdMReferenceIdeal.τ).loc Cert.LnBwdMReferenceIdeal.main_arg0) = m ((c.tc : Thread Cert.LnBwdMReferenceIdeal.nD Cert.LnBwdMReferenceIdeal.τ).loc Cert.LnBwdMReferenceIdeal.main_arg0)
      ∧ r.2.mem ((c.tc : Thread Cert.LnBwdMReferenceIdeal.nD Cert.LnBwdMReferenceIdeal.τ).loc Cert.LnBwdMReferenceIdeal.main_arg1) = m ((c.tc : Thread Cert.LnBwdMReferenceIdeal.nD Cert.LnBwdMReferenceIdeal.τ).loc Cert.LnBwdMReferenceIdeal.main_arg1)
      ∧ r.2.mem ((c.tc : Thread Cert.LnBwdMReferenceIdeal.nD Cert.LnBwdMReferenceIdeal.τ).loc Cert.LnBwdMReferenceIdeal.main_arg2) = m ((c.tc : Thread Cert.LnBwdMReferenceIdeal.nD Cert.LnBwdMReferenceIdeal.τ).loc Cert.LnBwdMReferenceIdeal.main_arg2))
      ∧ r.2.sem = fun _ => 0)

def quiescent_LnBwdMReferenceIdeal_pre_finite_lnbwd [hLnBwdMReferenceIdeal : Cert.LnBwdMReferenceIdeal.Facts] [hPre_finite_lnbwd : Cert.Pre_finite_lnbwd.Facts] : Prop :=
  ∀ (m : (ℓ : Loc Cert.LnBwdMReferenceIdeal.nD Cert.LnBwdMReferenceIdeal.τ Cert.LnBwdMReferenceIdeal.sig) → Buf (Elt Ideal) ℓ) (g : Dev Cert.LnBwdMReferenceIdeal.nD → PrngReg), Pre_LnBwdMReferenceIdeal_finite_lnbwd m →
    θ_run (Cert.LnBwdMReferenceIdeal.defs (F := Ideal)) (onTc (τ := Cert.LnBwdMReferenceIdeal.τ) (Cert.LnBwdMReferenceIdeal.main (F := Ideal))) ⟨m, fun _ => 0, g⟩ (fun r => (∀ c : Dev Cert.LnBwdMReferenceIdeal.nD,
      r.2.mem ((c.tc : Thread Cert.LnBwdMReferenceIdeal.nD Cert.LnBwdMReferenceIdeal.τ).loc Cert.LnBwdMReferenceIdeal.main_arg0) = m ((c.tc : Thread Cert.LnBwdMReferenceIdeal.nD Cert.LnBwdMReferenceIdeal.τ).loc Cert.LnBwdMReferenceIdeal.main_arg0)
      ∧ r.2.mem ((c.tc : Thread Cert.LnBwdMReferenceIdeal.nD Cert.LnBwdMReferenceIdeal.τ).loc Cert.LnBwdMReferenceIdeal.main_arg1) = m ((c.tc : Thread Cert.LnBwdMReferenceIdeal.nD Cert.LnBwdMReferenceIdeal.τ).loc Cert.LnBwdMReferenceIdeal.main_arg1)
      ∧ r.2.mem ((c.tc : Thread Cert.LnBwdMReferenceIdeal.nD Cert.LnBwdMReferenceIdeal.τ).loc Cert.LnBwdMReferenceIdeal.main_arg2) = m ((c.tc : Thread Cert.LnBwdMReferenceIdeal.nD Cert.LnBwdMReferenceIdeal.τ).loc Cert.LnBwdMReferenceIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6))
      ∧ r.2.sem = fun _ => 0)

def quiescent_QkvBwd [hQkvBwd : Cert.QkvBwd.Facts] : Prop :=
  ∀ (m : (ℓ : Loc Cert.QkvBwd.nD Cert.QkvBwd.τ Cert.QkvBwd.sig) → Buf (Elt Bits) ℓ) (g : Dev Cert.QkvBwd.nD → PrngReg), Pre_QkvBwd m →
    θ_run (Cert.QkvBwd.defs (F := Bits)) (onTc (τ := Cert.QkvBwd.τ) (Cert.QkvBwd.main (F := Bits))) ⟨m, fun _ => 0, g⟩ (fun r => (∀ c : Dev Cert.QkvBwd.nD,
      r.2.mem ((c.tc : Thread Cert.QkvBwd.nD Cert.QkvBwd.τ).loc Cert.QkvBwd.main_arg0) = m ((c.tc : Thread Cert.QkvBwd.nD Cert.QkvBwd.τ).loc Cert.QkvBwd.main_arg0)
      ∧ r.2.mem ((c.tc : Thread Cert.QkvBwd.nD Cert.QkvBwd.τ).loc Cert.QkvBwd.main_arg1) = m ((c.tc : Thread Cert.QkvBwd.nD Cert.QkvBwd.τ).loc Cert.QkvBwd.main_arg1)
      ∧ r.2.mem ((c.tc : Thread Cert.QkvBwd.nD Cert.QkvBwd.τ).loc Cert.QkvBwd.main_arg2) = m ((c.tc : Thread Cert.QkvBwd.nD Cert.QkvBwd.τ).loc Cert.QkvBwd.main_arg2)
      ∧ r.2.mem ((c.tc : Thread Cert.QkvBwd.nD Cert.QkvBwd.τ).loc Cert.QkvBwd.main_arg3) = m ((c.tc : Thread Cert.QkvBwd.nD Cert.QkvBwd.τ).loc Cert.QkvBwd.main_arg3)
      ∧ r.2.mem ((c.tc : Thread Cert.QkvBwd.nD Cert.QkvBwd.τ).loc Cert.QkvBwd.main_arg4) = m ((c.tc : Thread Cert.QkvBwd.nD Cert.QkvBwd.τ).loc Cert.QkvBwd.main_arg4)
      ∧ r.2.mem ((c.tc : Thread Cert.QkvBwd.nD Cert.QkvBwd.τ).loc Cert.QkvBwd.main_arg5) = m ((c.tc : Thread Cert.QkvBwd.nD Cert.QkvBwd.τ).loc Cert.QkvBwd.main_arg5)
      ∧ r.2.mem ((c.tc : Thread Cert.QkvBwd.nD Cert.QkvBwd.τ).loc Cert.QkvBwd.main_arg6) = m ((c.tc : Thread Cert.QkvBwd.nD Cert.QkvBwd.τ).loc Cert.QkvBwd.main_arg6)
      ∧ r.2.mem ((c.tc : Thread Cert.QkvBwd.nD Cert.QkvBwd.τ).loc Cert.QkvBwd.main_arg7) = m ((c.tc : Thread Cert.QkvBwd.nD Cert.QkvBwd.τ).loc Cert.QkvBwd.main_arg7)
      ∧ r.2.mem ((c.tc : Thread Cert.QkvBwd.nD Cert.QkvBwd.τ).loc Cert.QkvBwd.main_arg8) = m ((c.tc : Thread Cert.QkvBwd.nD Cert.QkvBwd.τ).loc Cert.QkvBwd.main_arg8)
      ∧ r.2.mem ((c.tc : Thread Cert.QkvBwd.nD Cert.QkvBwd.τ).loc Cert.QkvBwd.main_arg9) = m ((c.tc : Thread Cert.QkvBwd.nD Cert.QkvBwd.τ).loc Cert.QkvBwd.main_arg9))
      ∧ r.2.sem = fun _ => 0)

def quiescent_QkvBwdIdeal [hQkvBwdIdeal : Cert.QkvBwdIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
      ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
      ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
      ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
      ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
      ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9))
      ∧ r.2.sem = fun _ => 0)

def quiescent_QkvBwdIdeal_pre_finite_qkvbwd [hQkvBwdIdeal : Cert.QkvBwdIdeal.Facts] [hPre_finite_qkvbwd : Cert.Pre_finite_qkvbwd.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal_finite_qkvbwd m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
      ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
      ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
      ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
      ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
      ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9))
      ∧ r.2.sem = fun _ => 0)

def quiescent_QkvBwdReferenceIdeal [hQkvBwdReferenceIdeal : Cert.QkvBwdReferenceIdeal.Facts] : Prop :=
  ∀ (m : (ℓ : Loc Cert.QkvBwdReferenceIdeal.nD Cert.QkvBwdReferenceIdeal.τ Cert.QkvBwdReferenceIdeal.sig) → Buf (Elt Ideal) ℓ) (g : Dev Cert.QkvBwdReferenceIdeal.nD → PrngReg), Pre_QkvBwdReferenceIdeal m →
    θ_run (Cert.QkvBwdReferenceIdeal.defs (F := Ideal)) (onTc (τ := Cert.QkvBwdReferenceIdeal.τ) (Cert.QkvBwdReferenceIdeal.main (F := Ideal))) ⟨m, fun _ => 0, g⟩ (fun r => (∀ c : Dev Cert.QkvBwdReferenceIdeal.nD,
      r.2.mem ((c.tc : Thread Cert.QkvBwdReferenceIdeal.nD Cert.QkvBwdReferenceIdeal.τ).loc Cert.QkvBwdReferenceIdeal.main_arg0) = m ((c.tc : Thread Cert.QkvBwdReferenceIdeal.nD Cert.QkvBwdReferenceIdeal.τ).loc Cert.QkvBwdReferenceIdeal.main_arg0)
      ∧ r.2.mem ((c.tc : Thread Cert.QkvBwdReferenceIdeal.nD Cert.QkvBwdReferenceIdeal.τ).loc Cert.QkvBwdReferenceIdeal.main_arg1) = m ((c.tc : Thread Cert.QkvBwdReferenceIdeal.nD Cert.QkvBwdReferenceIdeal.τ).loc Cert.QkvBwdReferenceIdeal.main_arg1)
      ∧ r.2.mem ((c.tc : Thread Cert.QkvBwdReferenceIdeal.nD Cert.QkvBwdReferenceIdeal.τ).loc Cert.QkvBwdReferenceIdeal.main_arg2) = m ((c.tc : Thread Cert.QkvBwdReferenceIdeal.nD Cert.QkvBwdReferenceIdeal.τ).loc Cert.QkvBwdReferenceIdeal.main_arg2)
      ∧ r.2.mem ((c.tc : Thread Cert.QkvBwdReferenceIdeal.nD Cert.QkvBwdReferenceIdeal.τ).loc Cert.QkvBwdReferenceIdeal.main_arg3) = m ((c.tc : Thread Cert.QkvBwdReferenceIdeal.nD Cert.QkvBwdReferenceIdeal.τ).loc Cert.QkvBwdReferenceIdeal.main_arg3)
      ∧ r.2.mem ((c.tc : Thread Cert.QkvBwdReferenceIdeal.nD Cert.QkvBwdReferenceIdeal.τ).loc Cert.QkvBwdReferenceIdeal.main_arg4) = m ((c.tc : Thread Cert.QkvBwdReferenceIdeal.nD Cert.QkvBwdReferenceIdeal.τ).loc Cert.QkvBwdReferenceIdeal.main_arg4)
      ∧ r.2.mem ((c.tc : Thread Cert.QkvBwdReferenceIdeal.nD Cert.QkvBwdReferenceIdeal.τ).loc Cert.QkvBwdReferenceIdeal.main_arg5) = m ((c.tc : Thread Cert.QkvBwdReferenceIdeal.nD Cert.QkvBwdReferenceIdeal.τ).loc Cert.QkvBwdReferenceIdeal.main_arg5)
      ∧ r.2.mem ((c.tc : Thread Cert.QkvBwdReferenceIdeal.nD Cert.QkvBwdReferenceIdeal.τ).loc Cert.QkvBwdReferenceIdeal.main_arg6) = m ((c.tc : Thread Cert.QkvBwdReferenceIdeal.nD Cert.QkvBwdReferenceIdeal.τ).loc Cert.QkvBwdReferenceIdeal.main_arg6)
      ∧ r.2.mem ((c.tc : Thread Cert.QkvBwdReferenceIdeal.nD Cert.QkvBwdReferenceIdeal.τ).loc Cert.QkvBwdReferenceIdeal.main_arg7) = m ((c.tc : Thread Cert.QkvBwdReferenceIdeal.nD Cert.QkvBwdReferenceIdeal.τ).loc Cert.QkvBwdReferenceIdeal.main_arg7)
      ∧ r.2.mem ((c.tc : Thread Cert.QkvBwdReferenceIdeal.nD Cert.QkvBwdReferenceIdeal.τ).loc Cert.QkvBwdReferenceIdeal.main_arg8) = m ((c.tc : Thread Cert.QkvBwdReferenceIdeal.nD Cert.QkvBwdReferenceIdeal.τ).loc Cert.QkvBwdReferenceIdeal.main_arg8)
      ∧ r.2.mem ((c.tc : Thread Cert.QkvBwdReferenceIdeal.nD Cert.QkvBwdReferenceIdeal.τ).loc Cert.QkvBwdReferenceIdeal.main_arg9) = m ((c.tc : Thread Cert.QkvBwdReferenceIdeal.nD Cert.QkvBwdReferenceIdeal.τ).loc Cert.QkvBwdReferenceIdeal.main_arg9))
      ∧ r.2.sem = fun _ => 0)

def quiescent_QkvBwdReferenceIdeal_pre_finite_qkvbwd [hQkvBwdReferenceIdeal : Cert.QkvBwdReferenceIdeal.Facts] [hPre_finite_qkvbwd : Cert.Pre_finite_qkvbwd.Facts] : Prop :=
  ∀ (m : (ℓ : Loc Cert.QkvBwdReferenceIdeal.nD Cert.QkvBwdReferenceIdeal.τ Cert.QkvBwdReferenceIdeal.sig) → Buf (Elt Ideal) ℓ) (g : Dev Cert.QkvBwdReferenceIdeal.nD → PrngReg), Pre_QkvBwdReferenceIdeal_finite_qkvbwd m →
    θ_run (Cert.QkvBwdReferenceIdeal.defs (F := Ideal)) (onTc (τ := Cert.QkvBwdReferenceIdeal.τ) (Cert.QkvBwdReferenceIdeal.main (F := Ideal))) ⟨m, fun _ => 0, g⟩ (fun r => (∀ c : Dev Cert.QkvBwdReferenceIdeal.nD,
      r.2.mem ((c.tc : Thread Cert.QkvBwdReferenceIdeal.nD Cert.QkvBwdReferenceIdeal.τ).loc Cert.QkvBwdReferenceIdeal.main_arg0) = m ((c.tc : Thread Cert.QkvBwdReferenceIdeal.nD Cert.QkvBwdReferenceIdeal.τ).loc Cert.QkvBwdReferenceIdeal.main_arg0)
      ∧ r.2.mem ((c.tc : Thread Cert.QkvBwdReferenceIdeal.nD Cert.QkvBwdReferenceIdeal.τ).loc Cert.QkvBwdReferenceIdeal.main_arg1) = m ((c.tc : Thread Cert.QkvBwdReferenceIdeal.nD Cert.QkvBwdReferenceIdeal.τ).loc Cert.QkvBwdReferenceIdeal.main_arg1)
      ∧ r.2.mem ((c.tc : Thread Cert.QkvBwdReferenceIdeal.nD Cert.QkvBwdReferenceIdeal.τ).loc Cert.QkvBwdReferenceIdeal.main_arg2) = m ((c.tc : Thread Cert.QkvBwdReferenceIdeal.nD Cert.QkvBwdReferenceIdeal.τ).loc Cert.QkvBwdReferenceIdeal.main_arg2)
      ∧ r.2.mem ((c.tc : Thread Cert.QkvBwdReferenceIdeal.nD Cert.QkvBwdReferenceIdeal.τ).loc Cert.QkvBwdReferenceIdeal.main_arg3) = m ((c.tc : Thread Cert.QkvBwdReferenceIdeal.nD Cert.QkvBwdReferenceIdeal.τ).loc Cert.QkvBwdReferenceIdeal.main_arg3)
      ∧ r.2.mem ((c.tc : Thread Cert.QkvBwdReferenceIdeal.nD Cert.QkvBwdReferenceIdeal.τ).loc Cert.QkvBwdReferenceIdeal.main_arg4) = m ((c.tc : Thread Cert.QkvBwdReferenceIdeal.nD Cert.QkvBwdReferenceIdeal.τ).loc Cert.QkvBwdReferenceIdeal.main_arg4)
      ∧ r.2.mem ((c.tc : Thread Cert.QkvBwdReferenceIdeal.nD Cert.QkvBwdReferenceIdeal.τ).loc Cert.QkvBwdReferenceIdeal.main_arg5) = m ((c.tc : Thread Cert.QkvBwdReferenceIdeal.nD Cert.QkvBwdReferenceIdeal.τ).loc Cert.QkvBwdReferenceIdeal.main_arg5)
      ∧ r.2.mem ((c.tc : Thread Cert.QkvBwdReferenceIdeal.nD Cert.QkvBwdReferenceIdeal.τ).loc Cert.QkvBwdReferenceIdeal.main_arg6) = m ((c.tc : Thread Cert.QkvBwdReferenceIdeal.nD Cert.QkvBwdReferenceIdeal.τ).loc Cert.QkvBwdReferenceIdeal.main_arg6)
      ∧ r.2.mem ((c.tc : Thread Cert.QkvBwdReferenceIdeal.nD Cert.QkvBwdReferenceIdeal.τ).loc Cert.QkvBwdReferenceIdeal.main_arg7) = m ((c.tc : Thread Cert.QkvBwdReferenceIdeal.nD Cert.QkvBwdReferenceIdeal.τ).loc Cert.QkvBwdReferenceIdeal.main_arg7)
      ∧ r.2.mem ((c.tc : Thread Cert.QkvBwdReferenceIdeal.nD Cert.QkvBwdReferenceIdeal.τ).loc Cert.QkvBwdReferenceIdeal.main_arg8) = m ((c.tc : Thread Cert.QkvBwdReferenceIdeal.nD Cert.QkvBwdReferenceIdeal.τ).loc Cert.QkvBwdReferenceIdeal.main_arg8)
      ∧ r.2.mem ((c.tc : Thread Cert.QkvBwdReferenceIdeal.nD Cert.QkvBwdReferenceIdeal.τ).loc Cert.QkvBwdReferenceIdeal.main_arg9) = m ((c.tc : Thread Cert.QkvBwdReferenceIdeal.nD Cert.QkvBwdReferenceIdeal.τ).loc Cert.QkvBwdReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)
      ∧ m' ((c.tc : Thread Cert.GateReferenceIdeal.nD Cert.GateReferenceIdeal.τ).loc Cert.GateReferenceIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)) (v2 : (c : Dev Cert.GateIdeal.nD) → Buf (Elt Ideal) ((c.tc : Thread Cert.GateIdeal.nD Cert.GateIdeal.τ).loc Cert.GateIdeal.main_v1_2)) (v3 : (c : Dev Cert.GateIdeal.nD) → Buf (Elt Ideal) ((c.tc : Thread Cert.GateIdeal.nD Cert.GateIdeal.τ).loc Cert.GateIdeal.main_v1_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_v1_2) = v2 c
          ∧ r.2.mem ((c.tc : Thread Cert.GateIdeal.nD Cert.GateIdeal.τ).loc Cert.GateIdeal.main_v1_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v56) = v0 c
          ∧ r.2.mem ((c.tc : Thread Cert.GateReferenceIdeal.nD Cert.GateReferenceIdeal.τ).loc Cert.GateReferenceIdeal.main_v57) = v1 c
          ∧ r.2.mem ((c.tc : Thread Cert.GateReferenceIdeal.nD Cert.GateReferenceIdeal.τ).loc Cert.GateReferenceIdeal.main_v59) = v2 c
          ∧ r.2.mem ((c.tc : Thread Cert.GateReferenceIdeal.nD Cert.GateReferenceIdeal.τ).loc Cert.GateReferenceIdeal.main_v60) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v7) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v5)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v5) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v9) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2))

def preserves_MixDx_MixDxIdeal : Prop :=
  True

def algebraic_MixDxIdeal_MixDxReferenceIdeal [hMixDxIdeal : Cert.MixDxIdeal.Facts] [hMixDxReferenceIdeal : Cert.MixDxReferenceIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxReferenceIdeal.nD Cert.MixDxReferenceIdeal.τ Cert.MixDxReferenceIdeal.sig) → Buf (Elt Ideal) ℓ) (g' : Dev Cert.MixDxReferenceIdeal.nD → PrngReg), Pre_MixDxIdeal m →
    (∀ c : Dev Cert.MixDxIdeal.nD,
      m' ((c.tc : Thread Cert.MixDxReferenceIdeal.nD Cert.MixDxReferenceIdeal.τ).loc Cert.MixDxReferenceIdeal.main_arg0) = m ((c.tc : Thread Cert.MixDxIdeal.nD Cert.MixDxIdeal.τ).loc Cert.MixDxIdeal.main_arg0)
      ∧ m' ((c.tc : Thread Cert.MixDxReferenceIdeal.nD Cert.MixDxReferenceIdeal.τ).loc Cert.MixDxReferenceIdeal.main_arg1) = m ((c.tc : Thread Cert.MixDxIdeal.nD Cert.MixDxIdeal.τ).loc Cert.MixDxIdeal.main_arg1)
      ∧ m' ((c.tc : Thread Cert.MixDxReferenceIdeal.nD Cert.MixDxReferenceIdeal.τ).loc Cert.MixDxReferenceIdeal.main_arg2) = m ((c.tc : Thread Cert.MixDxIdeal.nD Cert.MixDxIdeal.τ).loc Cert.MixDxIdeal.main_arg2)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2))
      ∧ θ_run (Cert.MixDxReferenceIdeal.defs (F := Ideal)) (onTc (τ := Cert.MixDxReferenceIdeal.τ) (Cert.MixDxReferenceIdeal.main (F := Ideal))) ⟨m', fun _ => 0, g'⟩ (fun r => ∀ c : Dev Cert.MixDxReferenceIdeal.nD,
          r.2.mem ((c.tc : Thread Cert.MixDxReferenceIdeal.nD Cert.MixDxReferenceIdeal.τ).loc Cert.MixDxReferenceIdeal.main_v9) = v0 c
          ∧ r.2.mem ((c.tc : Thread Cert.MixDxReferenceIdeal.nD Cert.MixDxReferenceIdeal.τ).loc Cert.MixDxReferenceIdeal.main_arg0) = m' ((c.tc : Thread Cert.MixDxReferenceIdeal.nD Cert.MixDxReferenceIdeal.τ).loc Cert.MixDxReferenceIdeal.main_arg0)
          ∧ r.2.mem ((c.tc : Thread Cert.MixDxReferenceIdeal.nD Cert.MixDxReferenceIdeal.τ).loc Cert.MixDxReferenceIdeal.main_arg1) = m' ((c.tc : Thread Cert.MixDxReferenceIdeal.nD Cert.MixDxReferenceIdeal.τ).loc Cert.MixDxReferenceIdeal.main_arg1)
          ∧ r.2.mem ((c.tc : Thread Cert.MixDxReferenceIdeal.nD Cert.MixDxReferenceIdeal.τ).loc Cert.MixDxReferenceIdeal.main_arg2) = m' ((c.tc : Thread Cert.MixDxReferenceIdeal.nD Cert.MixDxReferenceIdeal.τ).loc Cert.MixDxReferenceIdeal.main_arg2))

def preserves_WIn_WInIdeal : Prop :=
  True

def algebraic_WInIdeal_WInReferenceIdeal [hWInIdeal : Cert.WInIdeal.Facts] [hWInReferenceIdeal : Cert.WInReferenceIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInReferenceIdeal.nD Cert.WInReferenceIdeal.τ Cert.WInReferenceIdeal.sig) → Buf (Elt Ideal) ℓ) (g' : Dev Cert.WInReferenceIdeal.nD → PrngReg), Pre_WInIdeal m →
    (∀ c : Dev Cert.WInIdeal.nD,
      m' ((c.tc : Thread Cert.WInReferenceIdeal.nD Cert.WInReferenceIdeal.τ).loc Cert.WInReferenceIdeal.main_arg0) = m ((c.tc : Thread Cert.WInIdeal.nD Cert.WInIdeal.τ).loc Cert.WInIdeal.main_arg0)
      ∧ m' ((c.tc : Thread Cert.WInReferenceIdeal.nD Cert.WInReferenceIdeal.τ).loc Cert.WInReferenceIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInReferenceIdeal.defs (F := Ideal)) (onTc (τ := Cert.WInReferenceIdeal.τ) (Cert.WInReferenceIdeal.main (F := Ideal))) ⟨m', fun _ => 0, g'⟩ (fun r => ∀ c : Dev Cert.WInReferenceIdeal.nD,
          r.2.mem ((c.tc : Thread Cert.WInReferenceIdeal.nD Cert.WInReferenceIdeal.τ).loc Cert.WInReferenceIdeal.main_v5) = v0 c
          ∧ r.2.mem ((c.tc : Thread Cert.WInReferenceIdeal.nD Cert.WInReferenceIdeal.τ).loc Cert.WInReferenceIdeal.main_arg0) = m' ((c.tc : Thread Cert.WInReferenceIdeal.nD Cert.WInReferenceIdeal.τ).loc Cert.WInReferenceIdeal.main_arg0)
          ∧ r.2.mem ((c.tc : Thread Cert.WInReferenceIdeal.nD Cert.WInReferenceIdeal.τ).loc Cert.WInReferenceIdeal.main_arg1) = m' ((c.tc : Thread Cert.WInReferenceIdeal.nD Cert.WInReferenceIdeal.τ).loc Cert.WInReferenceIdeal.main_arg1))

def preserves_WOut_WOutIdeal : Prop :=
  True

def algebraic_WOutIdeal_WOutReferenceIdeal [hWOutIdeal : Cert.WOutIdeal.Facts] [hWOutReferenceIdeal : Cert.WOutReferenceIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutIdeal m →
    (∀ c : Dev Cert.WOutIdeal.nD,
      m' ((c.tc : Thread Cert.WOutReferenceIdeal.nD Cert.WOutReferenceIdeal.τ).loc Cert.WOutReferenceIdeal.main_arg0) = m ((c.tc : Thread Cert.WOutIdeal.nD Cert.WOutIdeal.τ).loc Cert.WOutIdeal.main_arg0)
      ∧ m' ((c.tc : Thread Cert.WOutReferenceIdeal.nD Cert.WOutReferenceIdeal.τ).loc Cert.WOutReferenceIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v5) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1))

def preserves_Mid_MidIdeal : Prop :=
  True

def algebraic_MidIdeal_MidReferenceIdeal_pre_finite_mid [hMidIdeal : Cert.MidIdeal.Facts] [hMidReferenceIdeal : Cert.MidReferenceIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal_finite_mid m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v11)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v11) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v13) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3))

def preserves_FfnUp_FfnUpIdeal : Prop :=
  True

def algebraic_FfnUpIdeal_FfnUpReferenceIdeal_pre_finite_ffnup [hFfnUpIdeal : Cert.FfnUpIdeal.Facts] [hFfnUpReferenceIdeal : Cert.FfnUpReferenceIdeal.Facts] [hPre_finite_ffnup : Cert.Pre_finite_ffnup.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal_finite_ffnup m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v2_0)) (v1 : (c : Dev Cert.FfnUpIdeal.nD) → Buf (Elt Ideal) ((c.tc : Thread Cert.FfnUpIdeal.nD Cert.FfnUpIdeal.τ).loc Cert.FfnUpIdeal.main_v2_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2_0) = v0 c
          ∧ r.2.mem ((c.tc : Thread Cert.FfnUpIdeal.nD Cert.FfnUpIdeal.τ).loc Cert.FfnUpIdeal.main_v2_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v15) = v0 c
          ∧ r.2.mem ((c.tc : Thread Cert.FfnUpReferenceIdeal.nD Cert.FfnUpReferenceIdeal.τ).loc Cert.FfnUpReferenceIdeal.main_v20) = v1 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)
      ∧ m' ((c.tc : Thread Cert.FfnDownReferenceIdeal.nD Cert.FfnDownReferenceIdeal.τ).loc Cert.FfnDownReferenceIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v2_0)) (v1 : (c : Dev Cert.FfnDownIdeal.nD) → Buf (Elt Ideal) ((c.tc : Thread Cert.FfnDownIdeal.nD Cert.FfnDownIdeal.τ).loc Cert.FfnDownIdeal.main_v2_1)) (v2 : (c : Dev Cert.FfnDownIdeal.nD) → Buf (Elt Ideal) ((c.tc : Thread Cert.FfnDownIdeal.nD Cert.FfnDownIdeal.τ).loc Cert.FfnDownIdeal.main_v2_2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2_0) = v0 c
          ∧ r.2.mem ((c.tc : Thread Cert.FfnDownIdeal.nD Cert.FfnDownIdeal.τ).loc Cert.FfnDownIdeal.main_v2_1) = v1 c
          ∧ r.2.mem ((c.tc : Thread Cert.FfnDownIdeal.nD Cert.FfnDownIdeal.τ).loc Cert.FfnDownIdeal.main_v2_2) = v2 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v7) = v0 c
          ∧ r.2.mem ((c.tc : Thread Cert.FfnDownReferenceIdeal.nD Cert.FfnDownReferenceIdeal.τ).loc Cert.FfnDownReferenceIdeal.main_v29) = v1 c
          ∧ r.2.mem ((c.tc : Thread Cert.FfnDownReferenceIdeal.nD Cert.FfnDownReferenceIdeal.τ).loc Cert.FfnDownReferenceIdeal.main_v30) = v2 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3)
          ∧ r.2.mem ((c.tc : Thread Cert.FfnDownReferenceIdeal.nD Cert.FfnDownReferenceIdeal.τ).loc Cert.FfnDownReferenceIdeal.main_arg4) = m' ((c.tc : Thread Cert.FfnDownReferenceIdeal.nD Cert.FfnDownReferenceIdeal.τ).loc Cert.FfnDownReferenceIdeal.main_arg4))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v2) = v0 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1))

def preserves_Branch_BranchIdeal : Prop :=
  True

def algebraic_BranchIdeal_BranchReferenceIdeal [hBranchIdeal : Cert.BranchIdeal.Facts] [hBranchReferenceIdeal : Cert.BranchReferenceIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchIdeal m →
    (∀ c : Dev Cert.BranchIdeal.nD,
      m' ((c.tc : Thread Cert.BranchReferenceIdeal.nD Cert.BranchReferenceIdeal.τ).loc Cert.BranchReferenceIdeal.main_arg0) = m ((c.tc : Thread Cert.BranchIdeal.nD Cert.BranchIdeal.τ).loc Cert.BranchIdeal.main_arg0)
      ∧ m' ((c.tc : Thread Cert.BranchReferenceIdeal.nD Cert.BranchReferenceIdeal.τ).loc Cert.BranchReferenceIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v5) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_DYConv_DYConvIdeal : Prop :=
  True

def algebraic_DYConvIdeal_DYConvReferenceIdeal [hDYConvIdeal : Cert.DYConvIdeal.Facts] [hDYConvReferenceIdeal : Cert.DYConvReferenceIdeal.Facts] : Prop :=
  ∀ (m : (ℓ : Loc Cert.DYConvIdeal.nD Cert.DYConvIdeal.τ Cert.DYConvIdeal.sig) → Buf (Elt Ideal) ℓ) (g : Dev Cert.DYConvIdeal.nD → PrngReg)
    (m' : (ℓ : Loc Cert.DYConvReferenceIdeal.nD Cert.DYConvReferenceIdeal.τ Cert.DYConvReferenceIdeal.sig) → Buf (Elt Ideal) ℓ) (g' : Dev Cert.DYConvReferenceIdeal.nD → PrngReg), Pre_DYConvIdeal m →
    (∀ c : Dev Cert.DYConvIdeal.nD,
      m' ((c.tc : Thread Cert.DYConvReferenceIdeal.nD Cert.DYConvReferenceIdeal.τ).loc Cert.DYConvReferenceIdeal.main_arg0) = m ((c.tc : Thread Cert.DYConvIdeal.nD Cert.DYConvIdeal.τ).loc Cert.DYConvIdeal.main_arg0)
      ∧ m' ((c.tc : Thread Cert.DYConvReferenceIdeal.nD Cert.DYConvReferenceIdeal.τ).loc Cert.DYConvReferenceIdeal.main_arg1) = m ((c.tc : Thread Cert.DYConvIdeal.nD Cert.DYConvIdeal.τ).loc Cert.DYConvIdeal.main_arg1)) →
    ∃ (v0 : (c : Dev Cert.DYConvIdeal.nD) → Buf (Elt Ideal) ((c.tc : Thread Cert.DYConvIdeal.nD Cert.DYConvIdeal.τ).loc Cert.DYConvIdeal.main_v0)),
      θ_run (Cert.DYConvIdeal.defs (F := Ideal)) (onTc (τ := Cert.DYConvIdeal.τ) (Cert.DYConvIdeal.main (F := Ideal))) ⟨m, fun _ => 0, g⟩ (fun r => ∀ c : Dev Cert.DYConvIdeal.nD,
          r.2.mem ((c.tc : Thread Cert.DYConvIdeal.nD Cert.DYConvIdeal.τ).loc Cert.DYConvIdeal.main_v0) = v0 c
          ∧ r.2.mem ((c.tc : Thread Cert.DYConvIdeal.nD Cert.DYConvIdeal.τ).loc Cert.DYConvIdeal.main_arg0) = m ((c.tc : Thread Cert.DYConvIdeal.nD Cert.DYConvIdeal.τ).loc Cert.DYConvIdeal.main_arg0)
          ∧ r.2.mem ((c.tc : Thread Cert.DYConvIdeal.nD Cert.DYConvIdeal.τ).loc Cert.DYConvIdeal.main_arg1) = m ((c.tc : Thread Cert.DYConvIdeal.nD Cert.DYConvIdeal.τ).loc Cert.DYConvIdeal.main_arg1))
      ∧ θ_run (Cert.DYConvReferenceIdeal.defs (F := Ideal)) (onTc (τ := Cert.DYConvReferenceIdeal.τ) (Cert.DYConvReferenceIdeal.main (F := Ideal))) ⟨m', fun _ => 0, g'⟩ (fun r => ∀ c : Dev Cert.DYConvReferenceIdeal.nD,
          r.2.mem ((c.tc : Thread Cert.DYConvReferenceIdeal.nD Cert.DYConvReferenceIdeal.τ).loc Cert.DYConvReferenceIdeal.main_v4) = v0 c
          ∧ r.2.mem ((c.tc : Thread Cert.DYConvReferenceIdeal.nD Cert.DYConvReferenceIdeal.τ).loc Cert.DYConvReferenceIdeal.main_arg0) = m' ((c.tc : Thread Cert.DYConvReferenceIdeal.nD Cert.DYConvReferenceIdeal.τ).loc Cert.DYConvReferenceIdeal.main_arg0)
          ∧ r.2.mem ((c.tc : Thread Cert.DYConvReferenceIdeal.nD Cert.DYConvReferenceIdeal.τ).loc Cert.DYConvReferenceIdeal.main_arg1) = m' ((c.tc : Thread Cert.DYConvReferenceIdeal.nD Cert.DYConvReferenceIdeal.τ).loc Cert.DYConvReferenceIdeal.main_arg1))

def preserves_DYMla_DYMlaIdeal : Prop :=
  True

def algebraic_DYMlaIdeal_DYMlaReferenceIdeal [hDYMlaIdeal : Cert.DYMlaIdeal.Facts] [hDYMlaReferenceIdeal : Cert.DYMlaReferenceIdeal.Facts] : Prop :=
  ∀ (m : (ℓ : Loc Cert.DYMlaIdeal.nD Cert.DYMlaIdeal.τ Cert.DYMlaIdeal.sig) → Buf (Elt Ideal) ℓ) (g : Dev Cert.DYMlaIdeal.nD → PrngReg)
    (m' : (ℓ : Loc Cert.DYMlaReferenceIdeal.nD Cert.DYMlaReferenceIdeal.τ Cert.DYMlaReferenceIdeal.sig) → Buf (Elt Ideal) ℓ) (g' : Dev Cert.DYMlaReferenceIdeal.nD → PrngReg), Pre_DYMlaIdeal m →
    (∀ c : Dev Cert.DYMlaIdeal.nD,
      m' ((c.tc : Thread Cert.DYMlaReferenceIdeal.nD Cert.DYMlaReferenceIdeal.τ).loc Cert.DYMlaReferenceIdeal.main_arg0) = m ((c.tc : Thread Cert.DYMlaIdeal.nD Cert.DYMlaIdeal.τ).loc Cert.DYMlaIdeal.main_arg0)
      ∧ m' ((c.tc : Thread Cert.DYMlaReferenceIdeal.nD Cert.DYMlaReferenceIdeal.τ).loc Cert.DYMlaReferenceIdeal.main_arg1) = m ((c.tc : Thread Cert.DYMlaIdeal.nD Cert.DYMlaIdeal.τ).loc Cert.DYMlaIdeal.main_arg1)) →
    ∃ (v0 : (c : Dev Cert.DYMlaIdeal.nD) → Buf (Elt Ideal) ((c.tc : Thread Cert.DYMlaIdeal.nD Cert.DYMlaIdeal.τ).loc Cert.DYMlaIdeal.main_v0)),
      θ_run (Cert.DYMlaIdeal.defs (F := Ideal)) (onTc (τ := Cert.DYMlaIdeal.τ) (Cert.DYMlaIdeal.main (F := Ideal))) ⟨m, fun _ => 0, g⟩ (fun r => ∀ c : Dev Cert.DYMlaIdeal.nD,
          r.2.mem ((c.tc : Thread Cert.DYMlaIdeal.nD Cert.DYMlaIdeal.τ).loc Cert.DYMlaIdeal.main_v0) = v0 c
          ∧ r.2.mem ((c.tc : Thread Cert.DYMlaIdeal.nD Cert.DYMlaIdeal.τ).loc Cert.DYMlaIdeal.main_arg0) = m ((c.tc : Thread Cert.DYMlaIdeal.nD Cert.DYMlaIdeal.τ).loc Cert.DYMlaIdeal.main_arg0)
          ∧ r.2.mem ((c.tc : Thread Cert.DYMlaIdeal.nD Cert.DYMlaIdeal.τ).loc Cert.DYMlaIdeal.main_arg1) = m ((c.tc : Thread Cert.DYMlaIdeal.nD Cert.DYMlaIdeal.τ).loc Cert.DYMlaIdeal.main_arg1))
      ∧ θ_run (Cert.DYMlaReferenceIdeal.defs (F := Ideal)) (onTc (τ := Cert.DYMlaReferenceIdeal.τ) (Cert.DYMlaReferenceIdeal.main (F := Ideal))) ⟨m', fun _ => 0, g'⟩ (fun r => ∀ c : Dev Cert.DYMlaReferenceIdeal.nD,
          r.2.mem ((c.tc : Thread Cert.DYMlaReferenceIdeal.nD Cert.DYMlaReferenceIdeal.τ).loc Cert.DYMlaReferenceIdeal.main_v5) = v0 c
          ∧ r.2.mem ((c.tc : Thread Cert.DYMlaReferenceIdeal.nD Cert.DYMlaReferenceIdeal.τ).loc Cert.DYMlaReferenceIdeal.main_arg0) = m' ((c.tc : Thread Cert.DYMlaReferenceIdeal.nD Cert.DYMlaReferenceIdeal.τ).loc Cert.DYMlaReferenceIdeal.main_arg0)
          ∧ r.2.mem ((c.tc : Thread Cert.DYMlaReferenceIdeal.nD Cert.DYMlaReferenceIdeal.τ).loc Cert.DYMlaReferenceIdeal.main_arg1) = m' ((c.tc : Thread Cert.DYMlaReferenceIdeal.nD Cert.DYMlaReferenceIdeal.τ).loc Cert.DYMlaReferenceIdeal.main_arg1))

def preserves_WUq_WUqIdeal : Prop :=
  True

def algebraic_WUqIdeal_WUqReferenceIdeal [hWUqIdeal : Cert.WUqIdeal.Facts] [hWUqReferenceIdeal : Cert.WUqReferenceIdeal.Facts] : Prop :=
  ∀ (m : (ℓ : Loc Cert.WUqIdeal.nD Cert.WUqIdeal.τ Cert.WUqIdeal.sig) → Buf (Elt Ideal) ℓ) (g : Dev Cert.WUqIdeal.nD → PrngReg)
    (m' : (ℓ : Loc Cert.WUqReferenceIdeal.nD Cert.WUqReferenceIdeal.τ Cert.WUqReferenceIdeal.sig) → Buf (Elt Ideal) ℓ) (g' : Dev Cert.WUqReferenceIdeal.nD → PrngReg), Pre_WUqIdeal m →
    (∀ c : Dev Cert.WUqIdeal.nD,
      m' ((c.tc : Thread Cert.WUqReferenceIdeal.nD Cert.WUqReferenceIdeal.τ).loc Cert.WUqReferenceIdeal.main_arg0) = m ((c.tc : Thread Cert.WUqIdeal.nD Cert.WUqIdeal.τ).loc Cert.WUqIdeal.main_arg0)
      ∧ m' ((c.tc : Thread Cert.WUqReferenceIdeal.nD Cert.WUqReferenceIdeal.τ).loc Cert.WUqReferenceIdeal.main_arg1) = m ((c.tc : Thread Cert.WUqIdeal.nD Cert.WUqIdeal.τ).loc Cert.WUqIdeal.main_arg1)) →
    ∃ (v0 : (c : Dev Cert.WUqIdeal.nD) → Buf (Elt Ideal) ((c.tc : Thread Cert.WUqIdeal.nD Cert.WUqIdeal.τ).loc Cert.WUqIdeal.main_v0)),
      θ_run (Cert.WUqIdeal.defs (F := Ideal)) (onTc (τ := Cert.WUqIdeal.τ) (Cert.WUqIdeal.main (F := Ideal))) ⟨m, fun _ => 0, g⟩ (fun r => ∀ c : Dev Cert.WUqIdeal.nD,
          r.2.mem ((c.tc : Thread Cert.WUqIdeal.nD Cert.WUqIdeal.τ).loc Cert.WUqIdeal.main_v0) = v0 c
          ∧ r.2.mem ((c.tc : Thread Cert.WUqIdeal.nD Cert.WUqIdeal.τ).loc Cert.WUqIdeal.main_arg0) = m ((c.tc : Thread Cert.WUqIdeal.nD Cert.WUqIdeal.τ).loc Cert.WUqIdeal.main_arg0)
          ∧ r.2.mem ((c.tc : Thread Cert.WUqIdeal.nD Cert.WUqIdeal.τ).loc Cert.WUqIdeal.main_arg1) = m ((c.tc : Thread Cert.WUqIdeal.nD Cert.WUqIdeal.τ).loc Cert.WUqIdeal.main_arg1))
      ∧ θ_run (Cert.WUqReferenceIdeal.defs (F := Ideal)) (onTc (τ := Cert.WUqReferenceIdeal.τ) (Cert.WUqReferenceIdeal.main (F := Ideal))) ⟨m', fun _ => 0, g'⟩ (fun r => ∀ c : Dev Cert.WUqReferenceIdeal.nD,
          r.2.mem ((c.tc : Thread Cert.WUqReferenceIdeal.nD Cert.WUqReferenceIdeal.τ).loc Cert.WUqReferenceIdeal.main_v5) = v0 c
          ∧ r.2.mem ((c.tc : Thread Cert.WUqReferenceIdeal.nD Cert.WUqReferenceIdeal.τ).loc Cert.WUqReferenceIdeal.main_arg0) = m' ((c.tc : Thread Cert.WUqReferenceIdeal.nD Cert.WUqReferenceIdeal.τ).loc Cert.WUqReferenceIdeal.main_arg0)
          ∧ r.2.mem ((c.tc : Thread Cert.WUqReferenceIdeal.nD Cert.WUqReferenceIdeal.τ).loc Cert.WUqReferenceIdeal.main_arg1) = m' ((c.tc : Thread Cert.WUqReferenceIdeal.nD Cert.WUqReferenceIdeal.τ).loc Cert.WUqReferenceIdeal.main_arg1))

def preserves_WUv_WUvIdeal : Prop :=
  True

def algebraic_WUvIdeal_WUvReferenceIdeal [hWUvIdeal : Cert.WUvIdeal.Facts] [hWUvReferenceIdeal : Cert.WUvReferenceIdeal.Facts] : Prop :=
  ∀ (m : (ℓ : Loc Cert.WUvIdeal.nD Cert.WUvIdeal.τ Cert.WUvIdeal.sig) → Buf (Elt Ideal) ℓ) (g : Dev Cert.WUvIdeal.nD → PrngReg)
    (m' : (ℓ : Loc Cert.WUvReferenceIdeal.nD Cert.WUvReferenceIdeal.τ Cert.WUvReferenceIdeal.sig) → Buf (Elt Ideal) ℓ) (g' : Dev Cert.WUvReferenceIdeal.nD → PrngReg), Pre_WUvIdeal m →
    (∀ c : Dev Cert.WUvIdeal.nD,
      m' ((c.tc : Thread Cert.WUvReferenceIdeal.nD Cert.WUvReferenceIdeal.τ).loc Cert.WUvReferenceIdeal.main_arg0) = m ((c.tc : Thread Cert.WUvIdeal.nD Cert.WUvIdeal.τ).loc Cert.WUvIdeal.main_arg0)
      ∧ m' ((c.tc : Thread Cert.WUvReferenceIdeal.nD Cert.WUvReferenceIdeal.τ).loc Cert.WUvReferenceIdeal.main_arg1) = m ((c.tc : Thread Cert.WUvIdeal.nD Cert.WUvIdeal.τ).loc Cert.WUvIdeal.main_arg1)) →
    ∃ (v0 : (c : Dev Cert.WUvIdeal.nD) → Buf (Elt Ideal) ((c.tc : Thread Cert.WUvIdeal.nD Cert.WUvIdeal.τ).loc Cert.WUvIdeal.main_v0)),
      θ_run (Cert.WUvIdeal.defs (F := Ideal)) (onTc (τ := Cert.WUvIdeal.τ) (Cert.WUvIdeal.main (F := Ideal))) ⟨m, fun _ => 0, g⟩ (fun r => ∀ c : Dev Cert.WUvIdeal.nD,
          r.2.mem ((c.tc : Thread Cert.WUvIdeal.nD Cert.WUvIdeal.τ).loc Cert.WUvIdeal.main_v0) = v0 c
          ∧ r.2.mem ((c.tc : Thread Cert.WUvIdeal.nD Cert.WUvIdeal.τ).loc Cert.WUvIdeal.main_arg0) = m ((c.tc : Thread Cert.WUvIdeal.nD Cert.WUvIdeal.τ).loc Cert.WUvIdeal.main_arg0)
          ∧ r.2.mem ((c.tc : Thread Cert.WUvIdeal.nD Cert.WUvIdeal.τ).loc Cert.WUvIdeal.main_arg1) = m ((c.tc : Thread Cert.WUvIdeal.nD Cert.WUvIdeal.τ).loc Cert.WUvIdeal.main_arg1))
      ∧ θ_run (Cert.WUvReferenceIdeal.defs (F := Ideal)) (onTc (τ := Cert.WUvReferenceIdeal.τ) (Cert.WUvReferenceIdeal.main (F := Ideal))) ⟨m', fun _ => 0, g'⟩ (fun r => ∀ c : Dev Cert.WUvReferenceIdeal.nD,
          r.2.mem ((c.tc : Thread Cert.WUvReferenceIdeal.nD Cert.WUvReferenceIdeal.τ).loc Cert.WUvReferenceIdeal.main_v5) = v0 c
          ∧ r.2.mem ((c.tc : Thread Cert.WUvReferenceIdeal.nD Cert.WUvReferenceIdeal.τ).loc Cert.WUvReferenceIdeal.main_arg0) = m' ((c.tc : Thread Cert.WUvReferenceIdeal.nD Cert.WUvReferenceIdeal.τ).loc Cert.WUvReferenceIdeal.main_arg0)
          ∧ r.2.mem ((c.tc : Thread Cert.WUvReferenceIdeal.nD Cert.WUvReferenceIdeal.τ).loc Cert.WUvReferenceIdeal.main_arg1) = m' ((c.tc : Thread Cert.WUvReferenceIdeal.nD Cert.WUvReferenceIdeal.τ).loc Cert.WUvReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)) (v2 : (c : Dev Cert.MergeIdeal.nD) → Buf (Elt Ideal) ((c.tc : Thread Cert.MergeIdeal.nD Cert.MergeIdeal.τ).loc Cert.MergeIdeal.main_v1_2)) (v3 : (c : Dev Cert.MergeIdeal.nD) → Buf (Elt Ideal) ((c.tc : Thread Cert.MergeIdeal.nD Cert.MergeIdeal.τ).loc Cert.MergeIdeal.main_v1_3)) (v4 : (c : Dev Cert.MergeIdeal.nD) → Buf (Elt Ideal) ((c.tc : Thread Cert.MergeIdeal.nD Cert.MergeIdeal.τ).loc Cert.MergeIdeal.main_v1_4)) (v5 : (c : Dev Cert.MergeIdeal.nD) → Buf (Elt Ideal) ((c.tc : Thread Cert.MergeIdeal.nD Cert.MergeIdeal.τ).loc Cert.MergeIdeal.main_v1_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_v1_2) = v2 c
          ∧ r.2.mem ((c.tc : Thread Cert.MergeIdeal.nD Cert.MergeIdeal.τ).loc Cert.MergeIdeal.main_v1_3) = v3 c
          ∧ r.2.mem ((c.tc : Thread Cert.MergeIdeal.nD Cert.MergeIdeal.τ).loc Cert.MergeIdeal.main_v1_4) = v4 c
          ∧ r.2.mem ((c.tc : Thread Cert.MergeIdeal.nD Cert.MergeIdeal.τ).loc Cert.MergeIdeal.main_v1_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v60) = v0 c
          ∧ r.2.mem ((c.tc : Thread Cert.MergeReferenceIdeal.nD Cert.MergeReferenceIdeal.τ).loc Cert.MergeReferenceIdeal.main_v61) = v1 c
          ∧ r.2.mem ((c.tc : Thread Cert.MergeReferenceIdeal.nD Cert.MergeReferenceIdeal.τ).loc Cert.MergeReferenceIdeal.main_v62) = v2 c
          ∧ r.2.mem ((c.tc : Thread Cert.MergeReferenceIdeal.nD Cert.MergeReferenceIdeal.τ).loc Cert.MergeReferenceIdeal.main_v37) = v3 c
          ∧ r.2.mem ((c.tc : Thread Cert.MergeReferenceIdeal.nD Cert.MergeReferenceIdeal.τ).loc Cert.MergeReferenceIdeal.main_v59) = v4 c
          ∧ r.2.mem ((c.tc : Thread Cert.MergeReferenceIdeal.nD Cert.MergeReferenceIdeal.τ).loc Cert.MergeReferenceIdeal.main_v63) = v5 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v28) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1))

def preserves_LnBwd_LnBwdIdeal : Prop :=
  True

def algebraic_LnBwdIdeal_LnBwdReferenceIdeal_pre_finite_lnbwd [hLnBwdIdeal : Cert.LnBwdIdeal.Facts] [hLnBwdReferenceIdeal : Cert.LnBwdReferenceIdeal.Facts] [hPre_finite_lnbwd : Cert.Pre_finite_lnbwd.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdReferenceIdeal.nD Cert.LnBwdReferenceIdeal.τ Cert.LnBwdReferenceIdeal.sig) → Buf (Elt Ideal) ℓ) (g' : Dev Cert.LnBwdReferenceIdeal.nD → PrngReg), Pre_LnBwdIdeal_finite_lnbwd m →
    (∀ c : Dev Cert.LnBwdIdeal.nD,
      m' ((c.tc : Thread Cert.LnBwdReferenceIdeal.nD Cert.LnBwdReferenceIdeal.τ).loc Cert.LnBwdReferenceIdeal.main_arg0) = m ((c.tc : Thread Cert.LnBwdIdeal.nD Cert.LnBwdIdeal.τ).loc Cert.LnBwdIdeal.main_arg0)
      ∧ m' ((c.tc : Thread Cert.LnBwdReferenceIdeal.nD Cert.LnBwdReferenceIdeal.τ).loc Cert.LnBwdReferenceIdeal.main_arg1) = m ((c.tc : Thread Cert.LnBwdIdeal.nD Cert.LnBwdIdeal.τ).loc Cert.LnBwdIdeal.main_arg1)
      ∧ m' ((c.tc : Thread Cert.LnBwdReferenceIdeal.nD Cert.LnBwdReferenceIdeal.τ).loc Cert.LnBwdReferenceIdeal.main_arg2) = m ((c.tc : Thread Cert.LnBwdIdeal.nD Cert.LnBwdIdeal.τ).loc Cert.LnBwdIdeal.main_arg2)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)) (v3 : (c : Dev Cert.LnBwdIdeal.nD) → Buf (Elt Ideal) ((c.tc : Thread Cert.LnBwdIdeal.nD Cert.LnBwdIdeal.τ).loc Cert.LnBwdIdeal.main_v0_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_v0_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ θ_run (Cert.LnBwdReferenceIdeal.defs (F := Ideal)) (onTc (τ := Cert.LnBwdReferenceIdeal.τ) (Cert.LnBwdReferenceIdeal.main (F := Ideal))) ⟨m', fun _ => 0, g'⟩ (fun r => ∀ c : Dev Cert.LnBwdReferenceIdeal.nD,
          r.2.mem ((c.tc : Thread Cert.LnBwdReferenceIdeal.nD Cert.LnBwdReferenceIdeal.τ).loc Cert.LnBwdReferenceIdeal.main_v59) = v0 c
          ∧ r.2.mem ((c.tc : Thread Cert.LnBwdReferenceIdeal.nD Cert.LnBwdReferenceIdeal.τ).loc Cert.LnBwdReferenceIdeal.main_v63) = v1 c
          ∧ r.2.mem ((c.tc : Thread Cert.LnBwdReferenceIdeal.nD Cert.LnBwdReferenceIdeal.τ).loc Cert.LnBwdReferenceIdeal.main_v64) = v2 c
          ∧ r.2.mem ((c.tc : Thread Cert.LnBwdReferenceIdeal.nD Cert.LnBwdReferenceIdeal.τ).loc Cert.LnBwdReferenceIdeal.main_v65) = v3 c
          ∧ r.2.mem ((c.tc : Thread Cert.LnBwdReferenceIdeal.nD Cert.LnBwdReferenceIdeal.τ).loc Cert.LnBwdReferenceIdeal.main_arg0) = m' ((c.tc : Thread Cert.LnBwdReferenceIdeal.nD Cert.LnBwdReferenceIdeal.τ).loc Cert.LnBwdReferenceIdeal.main_arg0)
          ∧ r.2.mem ((c.tc : Thread Cert.LnBwdReferenceIdeal.nD Cert.LnBwdReferenceIdeal.τ).loc Cert.LnBwdReferenceIdeal.main_arg1) = m' ((c.tc : Thread Cert.LnBwdReferenceIdeal.nD Cert.LnBwdReferenceIdeal.τ).loc Cert.LnBwdReferenceIdeal.main_arg1)
          ∧ r.2.mem ((c.tc : Thread Cert.LnBwdReferenceIdeal.nD Cert.LnBwdReferenceIdeal.τ).loc Cert.LnBwdReferenceIdeal.main_arg2) = m' ((c.tc : Thread Cert.LnBwdReferenceIdeal.nD Cert.LnBwdReferenceIdeal.τ).loc Cert.LnBwdReferenceIdeal.main_arg2))

def preserves_LnBwdM_LnBwdMIdeal : Prop :=
  True

def algebraic_LnBwdMIdeal_LnBwdMReferenceIdeal_pre_finite_lnbwd [hLnBwdMIdeal : Cert.LnBwdMIdeal.Facts] [hLnBwdMReferenceIdeal : Cert.LnBwdMReferenceIdeal.Facts] [hPre_finite_lnbwd : Cert.Pre_finite_lnbwd.Facts] : Prop :=
  ∀ (m : (ℓ : Loc Cert.LnBwdMIdeal.nD Cert.LnBwdMIdeal.τ Cert.LnBwdMIdeal.sig) → Buf (Elt Ideal) ℓ) (g : Dev Cert.LnBwdMIdeal.nD → PrngReg)
    (m' : (ℓ : Loc Cert.LnBwdMReferenceIdeal.nD Cert.LnBwdMReferenceIdeal.τ Cert.LnBwdMReferenceIdeal.sig) → Buf (Elt Ideal) ℓ) (g' : Dev Cert.LnBwdMReferenceIdeal.nD → PrngReg), Pre_LnBwdMIdeal_finite_lnbwd m →
    (∀ c : Dev Cert.LnBwdMIdeal.nD,
      m' ((c.tc : Thread Cert.LnBwdMReferenceIdeal.nD Cert.LnBwdMReferenceIdeal.τ).loc Cert.LnBwdMReferenceIdeal.main_arg0) = m ((c.tc : Thread Cert.LnBwdMIdeal.nD Cert.LnBwdMIdeal.τ).loc Cert.LnBwdMIdeal.main_arg0)
      ∧ m' ((c.tc : Thread Cert.LnBwdMReferenceIdeal.nD Cert.LnBwdMReferenceIdeal.τ).loc Cert.LnBwdMReferenceIdeal.main_arg1) = m ((c.tc : Thread Cert.LnBwdMIdeal.nD Cert.LnBwdMIdeal.τ).loc Cert.LnBwdMIdeal.main_arg1)
      ∧ m' ((c.tc : Thread Cert.LnBwdMReferenceIdeal.nD Cert.LnBwdMReferenceIdeal.τ).loc Cert.LnBwdMReferenceIdeal.main_arg2) = m ((c.tc : Thread Cert.LnBwdMIdeal.nD Cert.LnBwdMIdeal.τ).loc Cert.LnBwdMIdeal.main_arg2)) →
    ∃ (v0 : (c : Dev Cert.LnBwdMIdeal.nD) → Buf (Elt Ideal) ((c.tc : Thread Cert.LnBwdMIdeal.nD Cert.LnBwdMIdeal.τ).loc Cert.LnBwdMIdeal.main_v0_0)) (v1 : (c : Dev Cert.LnBwdMIdeal.nD) → Buf (Elt Ideal) ((c.tc : Thread Cert.LnBwdMIdeal.nD Cert.LnBwdMIdeal.τ).loc Cert.LnBwdMIdeal.main_v0_1)) (v2 : (c : Dev Cert.LnBwdMIdeal.nD) → Buf (Elt Ideal) ((c.tc : Thread Cert.LnBwdMIdeal.nD Cert.LnBwdMIdeal.τ).loc Cert.LnBwdMIdeal.main_v0_2)) (v3 : (c : Dev Cert.LnBwdMIdeal.nD) → Buf (Elt Ideal) ((c.tc : Thread Cert.LnBwdMIdeal.nD Cert.LnBwdMIdeal.τ).loc Cert.LnBwdMIdeal.main_v0_3)),
      θ_run (Cert.LnBwdMIdeal.defs (F := Ideal)) (onTc (τ := Cert.LnBwdMIdeal.τ) (Cert.LnBwdMIdeal.main (F := Ideal))) ⟨m, fun _ => 0, g⟩ (fun r => ∀ c : Dev Cert.LnBwdMIdeal.nD,
          r.2.mem ((c.tc : Thread Cert.LnBwdMIdeal.nD Cert.LnBwdMIdeal.τ).loc Cert.LnBwdMIdeal.main_v0_0) = v0 c
          ∧ r.2.mem ((c.tc : Thread Cert.LnBwdMIdeal.nD Cert.LnBwdMIdeal.τ).loc Cert.LnBwdMIdeal.main_v0_1) = v1 c
          ∧ r.2.mem ((c.tc : Thread Cert.LnBwdMIdeal.nD Cert.LnBwdMIdeal.τ).loc Cert.LnBwdMIdeal.main_v0_2) = v2 c
          ∧ r.2.mem ((c.tc : Thread Cert.LnBwdMIdeal.nD Cert.LnBwdMIdeal.τ).loc Cert.LnBwdMIdeal.main_v0_3) = v3 c
          ∧ r.2.mem ((c.tc : Thread Cert.LnBwdMIdeal.nD Cert.LnBwdMIdeal.τ).loc Cert.LnBwdMIdeal.main_arg0) = m ((c.tc : Thread Cert.LnBwdMIdeal.nD Cert.LnBwdMIdeal.τ).loc Cert.LnBwdMIdeal.main_arg0)
          ∧ r.2.mem ((c.tc : Thread Cert.LnBwdMIdeal.nD Cert.LnBwdMIdeal.τ).loc Cert.LnBwdMIdeal.main_arg1) = m ((c.tc : Thread Cert.LnBwdMIdeal.nD Cert.LnBwdMIdeal.τ).loc Cert.LnBwdMIdeal.main_arg1)
          ∧ r.2.mem ((c.tc : Thread Cert.LnBwdMIdeal.nD Cert.LnBwdMIdeal.τ).loc Cert.LnBwdMIdeal.main_arg2) = m ((c.tc : Thread Cert.LnBwdMIdeal.nD Cert.LnBwdMIdeal.τ).loc Cert.LnBwdMIdeal.main_arg2))
      ∧ θ_run (Cert.LnBwdMReferenceIdeal.defs (F := Ideal)) (onTc (τ := Cert.LnBwdMReferenceIdeal.τ) (Cert.LnBwdMReferenceIdeal.main (F := Ideal))) ⟨m', fun _ => 0, g'⟩ (fun r => ∀ c : Dev Cert.LnBwdMReferenceIdeal.nD,
          r.2.mem ((c.tc : Thread Cert.LnBwdMReferenceIdeal.nD Cert.LnBwdMReferenceIdeal.τ).loc Cert.LnBwdMReferenceIdeal.main_v59) = v0 c
          ∧ r.2.mem ((c.tc : Thread Cert.LnBwdMReferenceIdeal.nD Cert.LnBwdMReferenceIdeal.τ).loc Cert.LnBwdMReferenceIdeal.main_v61) = v1 c
          ∧ r.2.mem ((c.tc : Thread Cert.LnBwdMReferenceIdeal.nD Cert.LnBwdMReferenceIdeal.τ).loc Cert.LnBwdMReferenceIdeal.main_v62) = v2 c
          ∧ r.2.mem ((c.tc : Thread Cert.LnBwdMReferenceIdeal.nD Cert.LnBwdMReferenceIdeal.τ).loc Cert.LnBwdMReferenceIdeal.main_v63) = v3 c
          ∧ r.2.mem ((c.tc : Thread Cert.LnBwdMReferenceIdeal.nD Cert.LnBwdMReferenceIdeal.τ).loc Cert.LnBwdMReferenceIdeal.main_arg0) = m' ((c.tc : Thread Cert.LnBwdMReferenceIdeal.nD Cert.LnBwdMReferenceIdeal.τ).loc Cert.LnBwdMReferenceIdeal.main_arg0)
          ∧ r.2.mem ((c.tc : Thread Cert.LnBwdMReferenceIdeal.nD Cert.LnBwdMReferenceIdeal.τ).loc Cert.LnBwdMReferenceIdeal.main_arg1) = m' ((c.tc : Thread Cert.LnBwdMReferenceIdeal.nD Cert.LnBwdMReferenceIdeal.τ).loc Cert.LnBwdMReferenceIdeal.main_arg1)
          ∧ r.2.mem ((c.tc : Thread Cert.LnBwdMReferenceIdeal.nD Cert.LnBwdMReferenceIdeal.τ).loc Cert.LnBwdMReferenceIdeal.main_arg2) = m' ((c.tc : Thread Cert.LnBwdMReferenceIdeal.nD Cert.LnBwdMReferenceIdeal.τ).loc Cert.LnBwdMReferenceIdeal.main_arg2))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v18) = v0 c
          ∧ r.2.mem ((c.tc : Thread Cert.LossHeadReferenceIdeal.nD Cert.LossHeadReferenceIdeal.τ).loc Cert.LossHeadReferenceIdeal.main_v19) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v33_0)) (v1 : (c : Dev Cert.QkvIdeal.nD) → Buf (Elt Ideal) ((c.tc : Thread Cert.QkvIdeal.nD Cert.QkvIdeal.τ).loc Cert.QkvIdeal.main_v33_1)) (v2 : (c : Dev Cert.QkvIdeal.nD) → Buf (Elt Ideal) ((c.tc : Thread Cert.QkvIdeal.nD Cert.QkvIdeal.τ).loc Cert.QkvIdeal.main_v33_2)) (v3 : (c : Dev Cert.QkvIdeal.nD) → Buf (Elt Ideal) ((c.tc : Thread Cert.QkvIdeal.nD Cert.QkvIdeal.τ).loc Cert.QkvIdeal.main_v33_3)) (v4 : (c : Dev Cert.QkvIdeal.nD) → Buf (Elt Ideal) ((c.tc : Thread Cert.QkvIdeal.nD Cert.QkvIdeal.τ).loc Cert.QkvIdeal.main_v33_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v33_0) = v0 c
          ∧ r.2.mem ((c.tc : Thread Cert.QkvIdeal.nD Cert.QkvIdeal.τ).loc Cert.QkvIdeal.main_v33_1) = v1 c
          ∧ r.2.mem ((c.tc : Thread Cert.QkvIdeal.nD Cert.QkvIdeal.τ).loc Cert.QkvIdeal.main_v33_2) = v2 c
          ∧ r.2.mem ((c.tc : Thread Cert.QkvIdeal.nD Cert.QkvIdeal.τ).loc Cert.QkvIdeal.main_v33_3) = v3 c
          ∧ r.2.mem ((c.tc : Thread Cert.QkvIdeal.nD Cert.QkvIdeal.τ).loc Cert.QkvIdeal.main_v33_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v79) = v0 c
          ∧ r.2.mem ((c.tc : Thread Cert.QkvReferenceIdeal.nD Cert.QkvReferenceIdeal.τ).loc Cert.QkvReferenceIdeal.main_v83) = v1 c
          ∧ r.2.mem ((c.tc : Thread Cert.QkvReferenceIdeal.nD Cert.QkvReferenceIdeal.τ).loc Cert.QkvReferenceIdeal.main_v88) = v2 c
          ∧ r.2.mem ((c.tc : Thread Cert.QkvReferenceIdeal.nD Cert.QkvReferenceIdeal.τ).loc Cert.QkvReferenceIdeal.main_v17) = v3 c
          ∧ r.2.mem ((c.tc : Thread Cert.QkvReferenceIdeal.nD Cert.QkvReferenceIdeal.τ).loc Cert.QkvReferenceIdeal.main_v75) = v4 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6))

def preserves_QkvBwd_QkvBwdIdeal : Prop :=
  True

def algebraic_QkvBwdIdeal_QkvBwdReferenceIdeal_pre_finite_qkvbwd [hQkvBwdIdeal : Cert.QkvBwdIdeal.Facts] [hQkvBwdReferenceIdeal : Cert.QkvBwdReferenceIdeal.Facts] [hPre_finite_qkvbwd : Cert.Pre_finite_qkvbwd.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg)
    (m' : (ℓ : Loc Cert.QkvBwdReferenceIdeal.nD Cert.QkvBwdReferenceIdeal.τ Cert.QkvBwdReferenceIdeal.sig) → Buf (Elt Ideal) ℓ) (g' : Dev Cert.QkvBwdReferenceIdeal.nD → PrngReg), Pre_QkvBwdIdeal_finite_qkvbwd m →
    (∀ c : Dev Cert.QkvBwdIdeal.nD,
      m' ((c.tc : Thread Cert.QkvBwdReferenceIdeal.nD Cert.QkvBwdReferenceIdeal.τ).loc Cert.QkvBwdReferenceIdeal.main_arg0) = m ((c.tc : Thread Cert.QkvBwdIdeal.nD Cert.QkvBwdIdeal.τ).loc Cert.QkvBwdIdeal.main_arg0)
      ∧ m' ((c.tc : Thread Cert.QkvBwdReferenceIdeal.nD Cert.QkvBwdReferenceIdeal.τ).loc Cert.QkvBwdReferenceIdeal.main_arg1) = m ((c.tc : Thread Cert.QkvBwdIdeal.nD Cert.QkvBwdIdeal.τ).loc Cert.QkvBwdIdeal.main_arg1)
      ∧ m' ((c.tc : Thread Cert.QkvBwdReferenceIdeal.nD Cert.QkvBwdReferenceIdeal.τ).loc Cert.QkvBwdReferenceIdeal.main_arg2) = m ((c.tc : Thread Cert.QkvBwdIdeal.nD Cert.QkvBwdIdeal.τ).loc Cert.QkvBwdIdeal.main_arg2)
      ∧ m' ((c.tc : Thread Cert.QkvBwdReferenceIdeal.nD Cert.QkvBwdReferenceIdeal.τ).loc Cert.QkvBwdReferenceIdeal.main_arg3) = m ((c.tc : Thread Cert.QkvBwdIdeal.nD Cert.QkvBwdIdeal.τ).loc Cert.QkvBwdIdeal.main_arg3)
      ∧ m' ((c.tc : Thread Cert.QkvBwdReferenceIdeal.nD Cert.QkvBwdReferenceIdeal.τ).loc Cert.QkvBwdReferenceIdeal.main_arg4) = m ((c.tc : Thread Cert.QkvBwdIdeal.nD Cert.QkvBwdIdeal.τ).loc Cert.QkvBwdIdeal.main_arg4)
      ∧ m' ((c.tc : Thread Cert.QkvBwdReferenceIdeal.nD Cert.QkvBwdReferenceIdeal.τ).loc Cert.QkvBwdReferenceIdeal.main_arg5) = m ((c.tc : Thread Cert.QkvBwdIdeal.nD Cert.QkvBwdIdeal.τ).loc Cert.QkvBwdIdeal.main_arg5)
      ∧ m' ((c.tc : Thread Cert.QkvBwdReferenceIdeal.nD Cert.QkvBwdReferenceIdeal.τ).loc Cert.QkvBwdReferenceIdeal.main_arg6) = m ((c.tc : Thread Cert.QkvBwdIdeal.nD Cert.QkvBwdIdeal.τ).loc Cert.QkvBwdIdeal.main_arg6)
      ∧ m' ((c.tc : Thread Cert.QkvBwdReferenceIdeal.nD Cert.QkvBwdReferenceIdeal.τ).loc Cert.QkvBwdReferenceIdeal.main_arg7) = m ((c.tc : Thread Cert.QkvBwdIdeal.nD Cert.QkvBwdIdeal.τ).loc Cert.QkvBwdIdeal.main_arg7)
      ∧ m' ((c.tc : Thread Cert.QkvBwdReferenceIdeal.nD Cert.QkvBwdReferenceIdeal.τ).loc Cert.QkvBwdReferenceIdeal.main_arg8) = m ((c.tc : Thread Cert.QkvBwdIdeal.nD Cert.QkvBwdIdeal.τ).loc Cert.QkvBwdIdeal.main_arg8)
      ∧ m' ((c.tc : Thread Cert.QkvBwdReferenceIdeal.nD Cert.QkvBwdReferenceIdeal.τ).loc Cert.QkvBwdReferenceIdeal.main_arg9) = m ((c.tc : Thread Cert.QkvBwdIdeal.nD Cert.QkvBwdIdeal.τ).loc Cert.QkvBwdIdeal.main_arg9)) →
    ∃ (v0 : (c : Dev Cert.QkvBwdIdeal.nD) → Buf (Elt Ideal) ((c.tc : Thread Cert.QkvBwdIdeal.nD Cert.QkvBwdIdeal.τ).loc Cert.QkvBwdIdeal.main_v36_0)) (v1 : (c : Dev Cert.QkvBwdIdeal.nD) → Buf (Elt Ideal) ((c.tc : Thread Cert.QkvBwdIdeal.nD Cert.QkvBwdIdeal.τ).loc Cert.QkvBwdIdeal.main_v36_1)) (v2 : (c : Dev Cert.QkvBwdIdeal.nD) → Buf (Elt Ideal) ((c.tc : Thread Cert.QkvBwdIdeal.nD Cert.QkvBwdIdeal.τ).loc Cert.QkvBwdIdeal.main_v36_2)) (v3 : (c : Dev Cert.QkvBwdIdeal.nD) → Buf (Elt Ideal) ((c.tc : Thread Cert.QkvBwdIdeal.nD Cert.QkvBwdIdeal.τ).loc Cert.QkvBwdIdeal.main_v36_3)) (v4 : (c : Dev Cert.QkvBwdIdeal.nD) → Buf (Elt Ideal) ((c.tc : Thread Cert.QkvBwdIdeal.nD Cert.QkvBwdIdeal.τ).loc Cert.QkvBwdIdeal.main_v36_4)) (v5 : (c : Dev Cert.QkvBwdIdeal.nD) → Buf (Elt Ideal) ((c.tc : Thread Cert.QkvBwdIdeal.nD Cert.QkvBwdIdeal.τ).loc Cert.QkvBwdIdeal.main_v36_5)),
      θ_run (Cert.QkvBwdIdeal.defs (F := Ideal)) (onTc (τ := Cert.QkvBwdIdeal.τ) (Cert.QkvBwdIdeal.main (F := Ideal))) ⟨m, fun _ => 0, g⟩ (fun r => ∀ c : Dev Cert.QkvBwdIdeal.nD,
          r.2.mem ((c.tc : Thread Cert.QkvBwdIdeal.nD Cert.QkvBwdIdeal.τ).loc Cert.QkvBwdIdeal.main_v36_0) = v0 c
          ∧ r.2.mem ((c.tc : Thread Cert.QkvBwdIdeal.nD Cert.QkvBwdIdeal.τ).loc Cert.QkvBwdIdeal.main_v36_1) = v1 c
          ∧ r.2.mem ((c.tc : Thread Cert.QkvBwdIdeal.nD Cert.QkvBwdIdeal.τ).loc Cert.QkvBwdIdeal.main_v36_2) = v2 c
          ∧ r.2.mem ((c.tc : Thread Cert.QkvBwdIdeal.nD Cert.QkvBwdIdeal.τ).loc Cert.QkvBwdIdeal.main_v36_3) = v3 c
          ∧ r.2.mem ((c.tc : Thread Cert.QkvBwdIdeal.nD Cert.QkvBwdIdeal.τ).loc Cert.QkvBwdIdeal.main_v36_4) = v4 c
          ∧ r.2.mem ((c.tc : Thread Cert.QkvBwdIdeal.nD Cert.QkvBwdIdeal.τ).loc Cert.QkvBwdIdeal.main_v36_5) = v5 c
          ∧ r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
          ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
          ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
          ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
          ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
          ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
          ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
          ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
          ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
          ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9))
      ∧ θ_run (Cert.QkvBwdReferenceIdeal.defs (F := Ideal)) (onTc (τ := Cert.QkvBwdReferenceIdeal.τ) (Cert.QkvBwdReferenceIdeal.main (F := Ideal))) ⟨m', fun _ => 0, g'⟩ (fun r => ∀ c : Dev Cert.QkvBwdReferenceIdeal.nD,
          r.2.mem ((c.tc : Thread Cert.QkvBwdReferenceIdeal.nD Cert.QkvBwdReferenceIdeal.τ).loc Cert.QkvBwdReferenceIdeal.main_v185) = v0 c
          ∧ r.2.mem ((c.tc : Thread Cert.QkvBwdReferenceIdeal.nD Cert.QkvBwdReferenceIdeal.τ).loc Cert.QkvBwdReferenceIdeal.main_v189) = v1 c
          ∧ r.2.mem ((c.tc : Thread Cert.QkvBwdReferenceIdeal.nD Cert.QkvBwdReferenceIdeal.τ).loc Cert.QkvBwdReferenceIdeal.main_v193) = v2 c
          ∧ r.2.mem ((c.tc : Thread Cert.QkvBwdReferenceIdeal.nD Cert.QkvBwdReferenceIdeal.τ).loc Cert.QkvBwdReferenceIdeal.main_v194) = v3 c
          ∧ r.2.mem ((c.tc : Thread Cert.QkvBwdReferenceIdeal.nD Cert.QkvBwdReferenceIdeal.τ).loc Cert.QkvBwdReferenceIdeal.main_v182) = v4 c
          ∧ r.2.mem ((c.tc : Thread Cert.QkvBwdReferenceIdeal.nD Cert.QkvBwdReferenceIdeal.τ).loc Cert.QkvBwdReferenceIdeal.main_v184) = v5 c
          ∧ r.2.mem ((c.tc : Thread Cert.QkvBwdReferenceIdeal.nD Cert.QkvBwdReferenceIdeal.τ).loc Cert.QkvBwdReferenceIdeal.main_arg0) = m' ((c.tc : Thread Cert.QkvBwdReferenceIdeal.nD Cert.QkvBwdReferenceIdeal.τ).loc Cert.QkvBwdReferenceIdeal.main_arg0)
          ∧ r.2.mem ((c.tc : Thread Cert.QkvBwdReferenceIdeal.nD Cert.QkvBwdReferenceIdeal.τ).loc Cert.QkvBwdReferenceIdeal.main_arg1) = m' ((c.tc : Thread Cert.QkvBwdReferenceIdeal.nD Cert.QkvBwdReferenceIdeal.τ).loc Cert.QkvBwdReferenceIdeal.main_arg1)
          ∧ r.2.mem ((c.tc : Thread Cert.QkvBwdReferenceIdeal.nD Cert.QkvBwdReferenceIdeal.τ).loc Cert.QkvBwdReferenceIdeal.main_arg2) = m' ((c.tc : Thread Cert.QkvBwdReferenceIdeal.nD Cert.QkvBwdReferenceIdeal.τ).loc Cert.QkvBwdReferenceIdeal.main_arg2)
          ∧ r.2.mem ((c.tc : Thread Cert.QkvBwdReferenceIdeal.nD Cert.QkvBwdReferenceIdeal.τ).loc Cert.QkvBwdReferenceIdeal.main_arg3) = m' ((c.tc : Thread Cert.QkvBwdReferenceIdeal.nD Cert.QkvBwdReferenceIdeal.τ).loc Cert.QkvBwdReferenceIdeal.main_arg3)
          ∧ r.2.mem ((c.tc : Thread Cert.QkvBwdReferenceIdeal.nD Cert.QkvBwdReferenceIdeal.τ).loc Cert.QkvBwdReferenceIdeal.main_arg4) = m' ((c.tc : Thread Cert.QkvBwdReferenceIdeal.nD Cert.QkvBwdReferenceIdeal.τ).loc Cert.QkvBwdReferenceIdeal.main_arg4)
          ∧ r.2.mem ((c.tc : Thread Cert.QkvBwdReferenceIdeal.nD Cert.QkvBwdReferenceIdeal.τ).loc Cert.QkvBwdReferenceIdeal.main_arg5) = m' ((c.tc : Thread Cert.QkvBwdReferenceIdeal.nD Cert.QkvBwdReferenceIdeal.τ).loc Cert.QkvBwdReferenceIdeal.main_arg5)
          ∧ r.2.mem ((c.tc : Thread Cert.QkvBwdReferenceIdeal.nD Cert.QkvBwdReferenceIdeal.τ).loc Cert.QkvBwdReferenceIdeal.main_arg6) = m' ((c.tc : Thread Cert.QkvBwdReferenceIdeal.nD Cert.QkvBwdReferenceIdeal.τ).loc Cert.QkvBwdReferenceIdeal.main_arg6)
          ∧ r.2.mem ((c.tc : Thread Cert.QkvBwdReferenceIdeal.nD Cert.QkvBwdReferenceIdeal.τ).loc Cert.QkvBwdReferenceIdeal.main_arg7) = m' ((c.tc : Thread Cert.QkvBwdReferenceIdeal.nD Cert.QkvBwdReferenceIdeal.τ).loc Cert.QkvBwdReferenceIdeal.main_arg7)
          ∧ r.2.mem ((c.tc : Thread Cert.QkvBwdReferenceIdeal.nD Cert.QkvBwdReferenceIdeal.τ).loc Cert.QkvBwdReferenceIdeal.main_arg8) = m' ((c.tc : Thread Cert.QkvBwdReferenceIdeal.nD Cert.QkvBwdReferenceIdeal.τ).loc Cert.QkvBwdReferenceIdeal.main_arg8)
          ∧ r.2.mem ((c.tc : Thread Cert.QkvBwdReferenceIdeal.nD Cert.QkvBwdReferenceIdeal.τ).loc Cert.QkvBwdReferenceIdeal.main_arg9) = m' ((c.tc : Thread Cert.QkvBwdReferenceIdeal.nD Cert.QkvBwdReferenceIdeal.τ).loc Cert.QkvBwdReferenceIdeal.main_arg9))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hDx : Cert.Dx.Facts) (hDxIdeal : Cert.DxIdeal.Facts) (hDxReferenceIdeal : Cert.DxReferenceIdeal.Facts) (hMixDx : Cert.MixDx.Facts) (hMixDxIdeal : Cert.MixDxIdeal.Facts) (hMixDxReferenceIdeal : Cert.MixDxReferenceIdeal.Facts) (hWIn : Cert.WIn.Facts) (hWInIdeal : Cert.WInIdeal.Facts) (hWInReferenceIdeal : Cert.WInReferenceIdeal.Facts) (hWOut : Cert.WOut.Facts) (hWOutIdeal : Cert.WOutIdeal.Facts) (hWOutReferenceIdeal : Cert.WOutReferenceIdeal.Facts) (hMid : Cert.Mid.Facts) (hMidIdeal : Cert.MidIdeal.Facts) (hMidReferenceIdeal : Cert.MidReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hMixIn : Cert.MixIn.Facts) (hMixInIdeal : Cert.MixInIdeal.Facts) (hMixInReferenceIdeal : Cert.MixInReferenceIdeal.Facts) (hBranch : Cert.Branch.Facts) (hBranchIdeal : Cert.BranchIdeal.Facts) (hBranchReferenceIdeal : Cert.BranchReferenceIdeal.Facts) (hDYConv : Cert.DYConv.Facts) (hDYConvIdeal : Cert.DYConvIdeal.Facts) (hDYConvReferenceIdeal : Cert.DYConvReferenceIdeal.Facts) (hDYMla : Cert.DYMla.Facts) (hDYMlaIdeal : Cert.DYMlaIdeal.Facts) (hDYMlaReferenceIdeal : Cert.DYMlaReferenceIdeal.Facts) (hWUq : Cert.WUq.Facts) (hWUqIdeal : Cert.WUqIdeal.Facts) (hWUqReferenceIdeal : Cert.WUqReferenceIdeal.Facts) (hWUv : Cert.WUv.Facts) (hWUvIdeal : Cert.WUvIdeal.Facts) (hWUvReferenceIdeal : Cert.WUvReferenceIdeal.Facts) (hMerge : Cert.Merge.Facts) (hMergeIdeal : Cert.MergeIdeal.Facts) (hMergeReferenceIdeal : Cert.MergeReferenceIdeal.Facts) (hConvFwd : Cert.ConvFwd.Facts) (hConvFwdIdeal : Cert.ConvFwdIdeal.Facts) (hConvFwdReferenceIdeal : Cert.ConvFwdReferenceIdeal.Facts) (hLnBwd : Cert.LnBwd.Facts) (hLnBwdIdeal : Cert.LnBwdIdeal.Facts) (hLnBwdReferenceIdeal : Cert.LnBwdReferenceIdeal.Facts) (hLnBwdM : Cert.LnBwdM.Facts) (hLnBwdMIdeal : Cert.LnBwdMIdeal.Facts) (hLnBwdMReferenceIdeal : Cert.LnBwdMReferenceIdeal.Facts) (hLossHead : Cert.LossHead.Facts) (hLossHeadIdeal : Cert.LossHeadIdeal.Facts) (hLossHeadReferenceIdeal : Cert.LossHeadReferenceIdeal.Facts) (hQkv : Cert.Qkv.Facts) (hQkvIdeal : Cert.QkvIdeal.Facts) (hQkvReferenceIdeal : Cert.QkvReferenceIdeal.Facts) (hQkvBwd : Cert.QkvBwd.Facts) (hQkvBwdIdeal : Cert.QkvBwdIdeal.Facts) (hQkvBwdReferenceIdeal : Cert.QkvBwdReferenceIdeal.Facts) (hPre_finite_mid : Cert.Pre_finite_mid.Facts) (hPre_finite_ffnup : Cert.Pre_finite_ffnup.Facts) (hPre_finite_lnbwd : Cert.Pre_finite_lnbwd.Facts) (hPre_finite_qkvbwd : Cert.Pre_finite_qkvbwd.Facts),
    quiescent_Kernel (hKernel := hKernel)
    ∧ quiescent_KernelIdeal (hKernelIdeal := hKernelIdeal)
    ∧ quiescent_ReferenceIdeal (hReferenceIdeal := hReferenceIdeal)
    ∧ quiescent_Gate (hGate := hGate)
    ∧ quiescent_GateIdeal (hGateIdeal := hGateIdeal)
    ∧ quiescent_GateReferenceIdeal (hGateReferenceIdeal := hGateReferenceIdeal)
    ∧ quiescent_Down (hDown := hDown)
    ∧ quiescent_DownIdeal (hDownIdeal := hDownIdeal)
    ∧ quiescent_DownReferenceIdeal (hDownReferenceIdeal := hDownReferenceIdeal)
    ∧ quiescent_Up (hUp := hUp)
    ∧ quiescent_UpIdeal (hUpIdeal := hUpIdeal)
    ∧ quiescent_UpReferenceIdeal (hUpReferenceIdeal := hUpReferenceIdeal)
    ∧ quiescent_Dx (hDx := hDx)
    ∧ quiescent_DxIdeal (hDxIdeal := hDxIdeal)
    ∧ quiescent_DxReferenceIdeal (hDxReferenceIdeal := hDxReferenceIdeal)
    ∧ quiescent_MixDx (hMixDx := hMixDx)
    ∧ quiescent_MixDxIdeal (hMixDxIdeal := hMixDxIdeal)
    ∧ quiescent_MixDxReferenceIdeal (hMixDxReferenceIdeal := hMixDxReferenceIdeal)
    ∧ quiescent_WIn (hWIn := hWIn)
    ∧ quiescent_WInIdeal (hWInIdeal := hWInIdeal)
    ∧ quiescent_WInReferenceIdeal (hWInReferenceIdeal := hWInReferenceIdeal)
    ∧ quiescent_WOut (hWOut := hWOut)
    ∧ quiescent_WOutIdeal (hWOutIdeal := hWOutIdeal)
    ∧ quiescent_WOutReferenceIdeal (hWOutReferenceIdeal := hWOutReferenceIdeal)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidReferenceIdeal (hMidReferenceIdeal := hMidReferenceIdeal)
    ∧ quiescent_MidReferenceIdeal_pre_finite_mid (hMidReferenceIdeal := hMidReferenceIdeal) (hPre_finite_mid := hPre_finite_mid)
    ∧ quiescent_FfnUp (hFfnUp := hFfnUp)
    ∧ quiescent_FfnUpIdeal (hFfnUpIdeal := hFfnUpIdeal)
    ∧ quiescent_FfnUpIdeal_pre_finite_ffnup (hFfnUpIdeal := hFfnUpIdeal) (hPre_finite_ffnup := hPre_finite_ffnup)
    ∧ quiescent_FfnUpReferenceIdeal (hFfnUpReferenceIdeal := hFfnUpReferenceIdeal)
    ∧ quiescent_FfnUpReferenceIdeal_pre_finite_ffnup (hFfnUpReferenceIdeal := hFfnUpReferenceIdeal) (hPre_finite_ffnup := hPre_finite_ffnup)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_Branch (hBranch := hBranch)
    ∧ quiescent_BranchIdeal (hBranchIdeal := hBranchIdeal)
    ∧ quiescent_BranchReferenceIdeal (hBranchReferenceIdeal := hBranchReferenceIdeal)
    ∧ quiescent_DYConv (hDYConv := hDYConv)
    ∧ quiescent_DYConvIdeal (hDYConvIdeal := hDYConvIdeal)
    ∧ quiescent_DYConvReferenceIdeal (hDYConvReferenceIdeal := hDYConvReferenceIdeal)
    ∧ quiescent_DYMla (hDYMla := hDYMla)
    ∧ quiescent_DYMlaIdeal (hDYMlaIdeal := hDYMlaIdeal)
    ∧ quiescent_DYMlaReferenceIdeal (hDYMlaReferenceIdeal := hDYMlaReferenceIdeal)
    ∧ quiescent_WUq (hWUq := hWUq)
    ∧ quiescent_WUqIdeal (hWUqIdeal := hWUqIdeal)
    ∧ quiescent_WUqReferenceIdeal (hWUqReferenceIdeal := hWUqReferenceIdeal)
    ∧ quiescent_WUv (hWUv := hWUv)
    ∧ quiescent_WUvIdeal (hWUvIdeal := hWUvIdeal)
    ∧ quiescent_WUvReferenceIdeal (hWUvReferenceIdeal := hWUvReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ quiescent_LnBwd (hLnBwd := hLnBwd)
    ∧ quiescent_LnBwdIdeal (hLnBwdIdeal := hLnBwdIdeal)
    ∧ quiescent_LnBwdIdeal_pre_finite_lnbwd (hLnBwdIdeal := hLnBwdIdeal) (hPre_finite_lnbwd := hPre_finite_lnbwd)
    ∧ quiescent_LnBwdReferenceIdeal (hLnBwdReferenceIdeal := hLnBwdReferenceIdeal)
    ∧ quiescent_LnBwdReferenceIdeal_pre_finite_lnbwd (hLnBwdReferenceIdeal := hLnBwdReferenceIdeal) (hPre_finite_lnbwd := hPre_finite_lnbwd)
    ∧ quiescent_LnBwdM (hLnBwdM := hLnBwdM)
    ∧ quiescent_LnBwdMIdeal (hLnBwdMIdeal := hLnBwdMIdeal)
    ∧ quiescent_LnBwdMIdeal_pre_finite_lnbwd (hLnBwdMIdeal := hLnBwdMIdeal) (hPre_finite_lnbwd := hPre_finite_lnbwd)
    ∧ quiescent_LnBwdMReferenceIdeal (hLnBwdMReferenceIdeal := hLnBwdMReferenceIdeal)
    ∧ quiescent_LnBwdMReferenceIdeal_pre_finite_lnbwd (hLnBwdMReferenceIdeal := hLnBwdMReferenceIdeal) (hPre_finite_lnbwd := hPre_finite_lnbwd)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_QkvBwd (hQkvBwd := hQkvBwd)
    ∧ quiescent_QkvBwdIdeal (hQkvBwdIdeal := hQkvBwdIdeal)
    ∧ quiescent_QkvBwdIdeal_pre_finite_qkvbwd (hQkvBwdIdeal := hQkvBwdIdeal) (hPre_finite_qkvbwd := hPre_finite_qkvbwd)
    ∧ quiescent_QkvBwdReferenceIdeal (hQkvBwdReferenceIdeal := hQkvBwdReferenceIdeal)
    ∧ quiescent_QkvBwdReferenceIdeal_pre_finite_qkvbwd (hQkvBwdReferenceIdeal := hQkvBwdReferenceIdeal) (hPre_finite_qkvbwd := hPre_finite_qkvbwd)
    ∧ preserves_Kernel_KernelIdeal
    ∧ algebraic_KernelIdeal_ReferenceIdeal (hKernelIdeal := hKernelIdeal) (hReferenceIdeal := hReferenceIdeal)
    ∧ preserves_Gate_GateIdeal
    ∧ algebraic_GateIdeal_GateReferenceIdeal (hGateIdeal := hGateIdeal) (hGateReferenceIdeal := hGateReferenceIdeal)
    ∧ preserves_Down_DownIdeal
    ∧ algebraic_DownIdeal_DownReferenceIdeal (hDownIdeal := hDownIdeal) (hDownReferenceIdeal := hDownReferenceIdeal)
    ∧ preserves_Up_UpIdeal
    ∧ algebraic_UpIdeal_UpReferenceIdeal (hUpIdeal := hUpIdeal) (hUpReferenceIdeal := hUpReferenceIdeal)
    ∧ preserves_Dx_DxIdeal
    ∧ algebraic_DxIdeal_DxReferenceIdeal (hDxIdeal := hDxIdeal) (hDxReferenceIdeal := hDxReferenceIdeal)
    ∧ preserves_MixDx_MixDxIdeal
    ∧ algebraic_MixDxIdeal_MixDxReferenceIdeal (hMixDxIdeal := hMixDxIdeal) (hMixDxReferenceIdeal := hMixDxReferenceIdeal)
    ∧ preserves_WIn_WInIdeal
    ∧ algebraic_WInIdeal_WInReferenceIdeal (hWInIdeal := hWInIdeal) (hWInReferenceIdeal := hWInReferenceIdeal)
    ∧ preserves_WOut_WOutIdeal
    ∧ algebraic_WOutIdeal_WOutReferenceIdeal (hWOutIdeal := hWOutIdeal) (hWOutReferenceIdeal := hWOutReferenceIdeal)
    ∧ preserves_Mid_MidIdeal
    ∧ algebraic_MidIdeal_MidReferenceIdeal_pre_finite_mid (hMidIdeal := hMidIdeal) (hMidReferenceIdeal := hMidReferenceIdeal) (hPre_finite_mid := hPre_finite_mid)
    ∧ preserves_FfnUp_FfnUpIdeal
    ∧ algebraic_FfnUpIdeal_FfnUpReferenceIdeal_pre_finite_ffnup (hFfnUpIdeal := hFfnUpIdeal) (hFfnUpReferenceIdeal := hFfnUpReferenceIdeal) (hPre_finite_ffnup := hPre_finite_ffnup)
    ∧ preserves_FfnDown_FfnDownIdeal
    ∧ algebraic_FfnDownIdeal_FfnDownReferenceIdeal (hFfnDownIdeal := hFfnDownIdeal) (hFfnDownReferenceIdeal := hFfnDownReferenceIdeal)
    ∧ preserves_MixIn_MixInIdeal
    ∧ algebraic_MixInIdeal_MixInReferenceIdeal (hMixInIdeal := hMixInIdeal) (hMixInReferenceIdeal := hMixInReferenceIdeal)
    ∧ preserves_Branch_BranchIdeal
    ∧ algebraic_BranchIdeal_BranchReferenceIdeal (hBranchIdeal := hBranchIdeal) (hBranchReferenceIdeal := hBranchReferenceIdeal)
    ∧ preserves_DYConv_DYConvIdeal
    ∧ algebraic_DYConvIdeal_DYConvReferenceIdeal (hDYConvIdeal := hDYConvIdeal) (hDYConvReferenceIdeal := hDYConvReferenceIdeal)
    ∧ preserves_DYMla_DYMlaIdeal
    ∧ algebraic_DYMlaIdeal_DYMlaReferenceIdeal (hDYMlaIdeal := hDYMlaIdeal) (hDYMlaReferenceIdeal := hDYMlaReferenceIdeal)
    ∧ preserves_WUq_WUqIdeal
    ∧ algebraic_WUqIdeal_WUqReferenceIdeal (hWUqIdeal := hWUqIdeal) (hWUqReferenceIdeal := hWUqReferenceIdeal)
    ∧ preserves_WUv_WUvIdeal
    ∧ algebraic_WUvIdeal_WUvReferenceIdeal (hWUvIdeal := hWUvIdeal) (hWUvReferenceIdeal := hWUvReferenceIdeal)
    ∧ preserves_Merge_MergeIdeal
    ∧ algebraic_MergeIdeal_MergeReferenceIdeal (hMergeIdeal := hMergeIdeal) (hMergeReferenceIdeal := hMergeReferenceIdeal)
    ∧ preserves_ConvFwd_ConvFwdIdeal
    ∧ algebraic_ConvFwdIdeal_ConvFwdReferenceIdeal (hConvFwdIdeal := hConvFwdIdeal) (hConvFwdReferenceIdeal := hConvFwdReferenceIdeal)
    ∧ preserves_LnBwd_LnBwdIdeal
    ∧ algebraic_LnBwdIdeal_LnBwdReferenceIdeal_pre_finite_lnbwd (hLnBwdIdeal := hLnBwdIdeal) (hLnBwdReferenceIdeal := hLnBwdReferenceIdeal) (hPre_finite_lnbwd := hPre_finite_lnbwd)
    ∧ preserves_LnBwdM_LnBwdMIdeal
    ∧ algebraic_LnBwdMIdeal_LnBwdMReferenceIdeal_pre_finite_lnbwd (hLnBwdMIdeal := hLnBwdMIdeal) (hLnBwdMReferenceIdeal := hLnBwdMReferenceIdeal) (hPre_finite_lnbwd := hPre_finite_lnbwd)
    ∧ preserves_LossHead_LossHeadIdeal
    ∧ algebraic_LossHeadIdeal_LossHeadReferenceIdeal (hLossHeadIdeal := hLossHeadIdeal) (hLossHeadReferenceIdeal := hLossHeadReferenceIdeal)
    ∧ preserves_Qkv_QkvIdeal
    ∧ algebraic_QkvIdeal_QkvReferenceIdeal (hQkvIdeal := hQkvIdeal) (hQkvReferenceIdeal := hQkvReferenceIdeal)
    ∧ preserves_QkvBwd_QkvBwdIdeal
    ∧ algebraic_QkvBwdIdeal_QkvBwdReferenceIdeal_pre_finite_qkvbwd (hQkvBwdIdeal := hQkvBwdIdeal) (hQkvBwdReferenceIdeal := hQkvBwdReferenceIdeal) (hPre_finite_qkvbwd := hPre_finite_qkvbwd)
-- ==== Pre_finite_ffnup.lean ====
abbrev S8448x1024 : Shape := ⟨2, ![8448, 1024]⟩
abbrev S1024x5632 : Shape := ⟨2, ![1024, 5632]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  bcast_S_S1024x5632 : S_.BroadcastsInDim S1024x5632 (![] : Fin 0 → Fin S1024x5632.rank)

variable [Facts]

def fn {F : FTy → Type} [FloatOps F] (main_arg0 : FVec F S8448x1024 .bf16) (main_arg1 : FVec F S1024x5632 .bf16) : IVec S8448x1024 1 × IVec S1024x5632 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  (main_v3, main_v7)
-- ==== Pre_finite_lnbwd.lean ====
abbrev S8448x1024 : Shape := ⟨2, ![8448, 1024]⟩
abbrev S1x1024 : Shape := ⟨2, ![1, 1024]⟩
abbrev S_ : Shape := ⟨0, ![]⟩

class Facts : Prop where
  bcast_S_S8448x1024 : S_.BroadcastsInDim S8448x1024 (![] : Fin 0 → Fin S8448x1024.rank)
  bcast_S_S1x1024 : S_.BroadcastsInDim S1x1024 (![] : Fin 0 → Fin S1x1024.rank)

variable [Facts]

def fn {F : FTy → Type} [FloatOps F] (main_arg0 : FVec F S8448x1024 .f32) (main_arg1 : FVec F S8448x1024 .f32) (main_arg2 : FVec F S1x1024 .f32) : IVec S8448x1024 1 × IVec S1x1024 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== Pre_finite_mid.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  bcast_S_S2816x1024 : S_.BroadcastsInDim S2816x1024 (![] : Fin 0 → Fin S2816x1024.rank)
  bcast_S_S8448x2816 : S_.BroadcastsInDim S8448x2816 (![] : Fin 0 → Fin S8448x2816.rank)

variable [Facts]

def fn {F : FTy → Type} [FloatOps F] (main_arg0 : FVec F S8448x1024 .bf16) (main_arg1 : FVec F S2816x1024 .bf16) (main_arg2 : FVec F S8448x2816 .f32) (main_arg3 : FVec F S8448x2816 .f32) : IVec S8448x1024 1 × IVec S2816x1024 1 × IVec S8448x2816 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S8448x2816 .f32 := Host.absf main_arg3
  let main_cst_1 : FVec F S_ .f32 := constant S_ .f32 0x7F800000#32
  let main_v9 : FVec F S8448x2816 .f32 := broadcastInDim S8448x2816 ![] bcast_S_S8448x2816 main_cst_1
  let main_v10 : IVec S8448x2816 1 := cmpf .olt main_v8 main_v9
  (main_v3, main_v7, main_v10)
-- ==== Pre_finite_qkvbwd.lean ====
abbrev S8448x1024 : Shape := ⟨2, ![8448, 1024]⟩
abbrev S8448x512 : Shape := ⟨2, ![8448, 512]⟩
abbrev S8448x4096 : Shape := ⟨2, ![8448, 4096]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S8448x16 : Shape := ⟨2, ![8448, 16]⟩
abbrev S_ : Shape := ⟨0, ![]⟩

class Facts : Prop where
  bcast_S_S8448x1024 : S_.BroadcastsInDim S8448x1024 (![] : Fin 0 → Fin S8448x1024.rank)
  bcast_S_S8448x512 : S_.BroadcastsInDim S8448x512 (![] : Fin 0 → Fin S8448x512.rank)
  bcast_S_S1x256 : S_.BroadcastsInDim S1x256 (![] : Fin 0 → Fin S1x256.rank)
  bcast_S_S1x128 : S_.BroadcastsInDim S1x128 (![] : Fin 0 → Fin S1x128.rank)
  bitsLt_bf16_f32 : FTy.bits .bf16 < FTy.bits .f32
  bcast_S_S256x768 : S_.BroadcastsInDim S256x768 (![] : Fin 0 → Fin S256x768.rank)
  bcast_S_S128x1024 : S_.BroadcastsInDim S128x1024 (![] : Fin 0 → Fin S128x1024.rank)
  bcast_S_S8448x16 : S_.BroadcastsInDim S8448x16 (![] : Fin 0 → Fin S8448x16.rank)

variable [Facts]

def fn_part1 {F : FTy → Type} [FloatOps F] (main_arg7 : FVec F S128x1024 .bf16) (main_arg8 : FVec F S8448x16 .f32) (main_arg9 : FVec F S8448x16 .f32) (main_v2 : IVec S8448x1024 1) (main_v5 : IVec S8448x1024 1) (main_v8 : IVec S8448x512 1) (main_v11 : IVec S1x256 1) (main_v14 : IVec S1x128 1) (main_v16 : FVec F S256x768 .f32) (main_v17 : FVec F S256x768 .f32) : IVec S8448x1024 1 × IVec S8448x1024 1 × IVec S8448x512 1 × IVec S1x256 1 × IVec S1x128 1 × IVec S256x768 1 × IVec S128x1024 1 × IVec S8448x16 1 × IVec S8448x16 1 :=
  let main_v18 : IVec S256x768 1 := cmpf .olt main_v16 main_v17
  let main_v19 : FVec F S128x1024 .f32 := (extf .f32 · bitsLt_bf16_f32) main_arg7
  let main_v20 : FVec F S128x1024 .f32 := Host.absf main_v19
  let main_cst_5 : FVec F S_ .f32 := constant S_ .f32 0x7F800000#32
  let main_v21 : FVec F S128x1024 .f32 := broadcastInDim S128x1024 ![] bcast_S_S128x1024 main_cst_5
  let main_v22 : IVec S128x1024 1 := cmpf .olt main_v20 main_v21
  let main_v23 : FVec F S8448x16 .f32 := Host.absf main_arg8
  let main_cst_6 : FVec F S_ .f32 := constant S_ .f32 0x7F800000#32
  let main_v24 : FVec F S8448x16 .f32 := broadcastInDim S8448x16 ![] bcast_S_S8448x16 main_cst_6
  let main_v25 : IVec S8448x16 1 := cmpf .olt main_v23 main_v24
  let main_v26 : FVec F S8448x16 .f32 := Host.absf main_arg9
  let main_cst_7 : FVec F S_ .f32 := constant S_ .f32 0x7F800000#32
  let main_v27 : FVec F S8448x16 .f32 := broadcastInDim S8448x16 ![] bcast_S_S8448x16 main_cst_7
  let main_v28 : IVec S8448x16 1 := cmpf .olt main_v26 main_v27
  (main_v2, main_v5, main_v8, main_v11, main_v14, main_v18, main_v22, main_v25, main_v28)

def fn {F : FTy → Type} [FloatOps F] (main_arg0 : FVec F S8448x1024 .f32) (main_arg1 : FVec F S8448x1024 .f32) (main_arg2 : FVec F S8448x512 .f32) (main_arg3 : FVec F S8448x4096 .f32) (main_arg4 : FVec F S1x256 .f32) (main_arg5 : FVec F S1x128 .f32) (main_arg6 : FVec F S256x768 .bf16) (main_arg7 : FVec F S128x1024 .bf16) (main_arg8 : FVec F S8448x16 .f32) (main_arg9 : FVec F S8448x16 .f32) : IVec S8448x1024 1 × IVec S8448x1024 1 × IVec S8448x512 1 × IVec S1x256 1 × IVec S1x128 1 × IVec S256x768 1 × IVec S128x1024 1 × IVec S8448x16 1 × IVec S8448x16 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8448x1024 .f32 := Host.absf main_arg1
  let main_cst_0 : FVec F S_ .f32 := constant S_ .f32 0x7F800000#32
  let main_v4 : FVec F S8448x1024 .f32 := broadcastInDim S8448x1024 ![] bcast_S_S8448x1024 main_cst_0
  let main_v5 : IVec S8448x1024 1 := cmpf .olt main_v3 main_v4
  let main_v6 : FVec F S8448x512 .f32 := Host.absf main_arg2
  let main_cst_1 : FVec F S_ .f32 := constant S_ .f32 0x7F800000#32
  let main_v7 : FVec F S8448x512 .f32 := broadcastInDim S8448x512 ![] bcast_S_S8448x512 main_cst_1
  let main_v8 : IVec S8448x512 1 := cmpf .olt main_v6 main_v7
  let main_v9 : FVec F S1x256 .f32 := Host.absf main_arg4
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_v12 : FVec F S1x128 .f32 := Host.absf main_arg5
  let main_cst_3 : FVec F S_ .f32 := constant S_ .f32 0x7F800000#32
  let main_v13 : FVec F S1x128 .f32 := broadcastInDim S1x128 ![] bcast_S_S1x128 main_cst_3
  let main_v14 : IVec S1x128 1 := cmpf .olt main_v12 main_v13
  let main_v15 : FVec F S256x768 .f32 := (extf .f32 · bitsLt_bf16_f32) main_arg6
  let main_v16 : FVec F S256x768 .f32 := Host.absf main_v15
  let main_cst_4 : FVec F S_ .f32 := constant S_ .f32 0x7F800000#32
  let main_v17 : FVec F S256x768 .f32 := broadcastInDim S256x768 ![] bcast_S_S256x768 main_cst_4
  fn_part1 (F := F) main_arg7 main_arg8 main_arg9 main_v2 main_v5 main_v8 main_v11 main_v14 main_v16 main_v17
-- ==== Kernel.lean ====
abbrev S8448x512 : Shape := ⟨2, ![8448, 512]⟩
abbrev S8448x4096 : Shape := ⟨2, ![8448, 4096]⟩
abbrev S3x512 : Shape := ⟨2, ![3, 512]⟩
abbrev S_ : Shape := ⟨0, ![]⟩
abbrev S8x512 : Shape := ⟨2, ![8, 512]⟩
abbrev S8448x1536 : Shape := ⟨2, ![8448, 1536]⟩
abbrev S768x512 : Shape := ⟨2, ![768, 512]⟩
abbrev S768x1536 : Shape := ⟨2, ![768, 1536]⟩
abbrev S776x512 : Shape := ⟨2, ![776, 512]⟩
abbrev S1x512 : Shape := ⟨2, ![1, 512]⟩
abbrev S512 : Shape := ⟨1, ![512]⟩

abbrev nBuf : Space → Nat
  | .hbm => 8
  | .vmem => 20
  | .smem => 0
  | _ => 0

abbrev bufTy : (tb : Table) → Fin (tcTables nBuf tb) → BufTy
  | .hbm, ⟨0, _⟩ => ⟨S8448x512, .f32⟩
  | .hbm, ⟨1, _⟩ => ⟨S8448x4096, .f32⟩
  | .hbm, ⟨2, _⟩ => ⟨S3x512, .f32⟩
  | .hbm, ⟨3, _⟩ => ⟨S_, .i32⟩
  | .hbm, ⟨4, _⟩ => ⟨S_, .f32⟩
  | .hbm, ⟨5, _⟩ => ⟨S8x512, .f32⟩
  | .hbm, ⟨6, _⟩ => ⟨S8448x1536, .bf16⟩
  | .hbm, ⟨7, _⟩ => ⟨S8x512, .f32⟩
  | .local _ .vmem, ⟨0, _⟩ => ⟨S768x512, .f32⟩
  | .local _ .vmem, ⟨1, _⟩ => ⟨S768x512, .f32⟩
  | .local _ .vmem, ⟨2, _⟩ => ⟨S768x512, .f32⟩
  | .local _ .vmem, ⟨3, _⟩ => ⟨S768x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S768x1536, .bf16⟩
  | .local _ .vmem, ⟨18, _⟩ => ⟨S768x1536, .bf16⟩
  | .local _ .vmem, ⟨19, _⟩ => ⟨S8x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c96_i32 : BitVec 32 := 96#32
  let v0 : BitVec 32 := Scalar.muli arg0 c96_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c96_i32 : BitVec 32 := 96#32
  let v0 : BitVec 32 := Scalar.muli arg0 c96_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c96_i32 : BitVec 32 := 96#32
  let v1 : BitVec 32 := Scalar.muli v0 c96_i32
  let c1055_i32 : BitVec 32 := 1055#32
  let v2 : BitVec 32 := Scalar.minsi v1 c1055_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c96_i32 : BitVec 32 := 96#32
  let v1 : BitVec 32 := Scalar.muli v0 c96_i32
  let c1055_i32 : BitVec 32 := 1055#32
  let v2 : BitVec 32 := Scalar.minsi v1 c1055_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S768x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8448x512 : Shape := ⟨2, ![8448, 512]⟩
abbrev S8448x4096 : Shape := ⟨2, ![8448, 4096]⟩
abbrev S3x512 : Shape := ⟨2, ![3, 512]⟩
abbrev S8448x1536 : Shape := ⟨2, ![8448, 1536]⟩
abbrev S_ : Shape := ⟨0, ![]⟩
abbrev S2x512 : Shape := ⟨2, ![2, 512]⟩
abbrev S8450x512 : Shape := ⟨2, ![8450, 512]⟩
abbrev S1x512 : Shape := ⟨2, ![1, 512]⟩
abbrev S512 : Shape := ⟨1, ![512]⟩
abbrev S8x512 : Shape := ⟨2, ![8, 512]⟩

abbrev nBuf : Space → Nat
  | .hbm => 88
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x4096, .f32⟩
  | .hbm, ⟨2, _⟩ => ⟨S3x512, .f32⟩
  | .hbm, ⟨3, _⟩ => ⟨S8448x1536, .f32⟩
  | .hbm, ⟨4, _⟩ => ⟨S8448x512, .f32⟩
  | .hbm, ⟨5, _⟩ => ⟨S8448x512, .f32⟩
  | .hbm, ⟨6, _⟩ => ⟨S8448x512, .f32⟩
  | .hbm, ⟨7, _⟩ => ⟨S8448x512, .f32⟩
  | .hbm, ⟨8, _⟩ => ⟨S_, .f32⟩
  | .hbm, ⟨9, _⟩ => ⟨S2x512, .f32⟩
  | .hbm, ⟨10, _⟩ => ⟨S8450x512, .f32⟩
  | .hbm, ⟨11, _⟩ => ⟨S_, .f32⟩
  | .hbm, ⟨12, _⟩ => ⟨S2x512, .f32⟩
  | .hbm, ⟨13, _⟩ => ⟨S8448x512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S8448x512, .f32⟩
  | .hbm, ⟨18, _⟩ => ⟨S8448x512, .f32⟩
  | .hbm, ⟨19, _⟩ => ⟨S8448x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S8448x512, .f32⟩
  | .hbm, ⟨24, _⟩ => ⟨S8448x512, .f32⟩
  | .hbm, ⟨25, _⟩ => ⟨S8448x512, .f32⟩
  | .hbm, ⟨26, _⟩ => ⟨S8448x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S8448x512, .f32⟩
  | .hbm, ⟨31, _⟩ => ⟨S8448x512, .f32⟩
  | .hbm, ⟨32, _⟩ => ⟨S8448x512, .f32⟩
  | .hbm, ⟨33, _⟩ => ⟨S8448x512, .f32⟩
  | .hbm, ⟨34, _⟩ => ⟨S8448x512, .f32⟩
  | .hbm, ⟨35, _⟩ => ⟨S8448x512, .f32⟩
  | .hbm, ⟨36, _⟩ => ⟨S8448x512, .f32⟩
  | .hbm, ⟨37, _⟩ => ⟨S_, .f32⟩
  | .hbm, ⟨38, _⟩ => ⟨S512, .f32⟩
  | .hbm, ⟨39, _⟩ => ⟨S1x512, .f32⟩
  | .hbm, ⟨40, _⟩ => ⟨S8448x512, .f32⟩
  | .hbm, ⟨41, _⟩ => ⟨S8448x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S3x512, .f32⟩
  | .hbm, ⟨47, _⟩ => ⟨S_, .f32⟩
  | .hbm, ⟨48, _⟩ => ⟨S8450x512, .f32⟩
  | .hbm, ⟨49, _⟩ => ⟨S8448x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S8448x512, .f32⟩
  | .hbm, ⟨54, _⟩ => ⟨S8448x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S_, .f32⟩
  | .hbm, ⟨59, _⟩ => ⟨S3x512, .f32⟩
  | .hbm, ⟨60, _⟩ => ⟨S3x512, .f32⟩
  | .hbm, ⟨61, _⟩ => ⟨S_, .f32⟩
  | .hbm, ⟨62, _⟩ => ⟨S8450x512, .f32⟩
  | .hbm, ⟨63, _⟩ => ⟨S8450x512, .f32⟩
  | .hbm, ⟨64, _⟩ => ⟨S8448x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S8448x512, .f32⟩
  | .hbm, ⟨69, _⟩ => ⟨S8448x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S3x512, .f32⟩
  | .hbm, ⟨75, _⟩ => ⟨S3x512, .f32⟩
  | .hbm, ⟨76, _⟩ => ⟨S_, .f32⟩
  | .hbm, ⟨77, _⟩ => ⟨S8450x512, .f32⟩
  | .hbm, ⟨78, _⟩ => ⟨S8450x512, .f32⟩
  | .hbm, ⟨79, _⟩ => ⟨S2x512, .f32⟩
  | .hbm, ⟨80, _⟩ => ⟨S8448x512, .f32⟩
  | .hbm, ⟨81, _⟩ => ⟨S8448x512, .f32⟩
  | .hbm, ⟨82, _⟩ => ⟨S8448x512, .f32⟩
  | .hbm, ⟨83, _⟩ => ⟨S8448x1536, .f32⟩
  | .hbm, ⟨84, _⟩ => ⟨S8448x1536, .bf16⟩
  | .hbm, ⟨85, _⟩ => ⟨S_, .i32⟩
  | .hbm, ⟨86, _⟩ => ⟨S_, .f32⟩
  | .hbm, ⟨87, _⟩ => ⟨S8x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c : Ref sig .tc := ⟨.hbm, 85, rfl⟩
abbrev main_call0_v0 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Gate.lean ====
abbrev S8448x1024 : Shape := ⟨2, ![8448, 1024]⟩
abbrev S1024x1024 : Shape := ⟨2, ![1024, 1024]⟩
abbrev S8448x4096 : Shape := ⟨2, ![8448, 4096]⟩
abbrev S2x1024 : Shape := ⟨2, ![2, 1024]⟩
abbrev S_ : Shape := ⟨0, ![]⟩
abbrev S8x1024 : Shape := ⟨2, ![8, 1024]⟩
abbrev S8448x2048 : Shape := ⟨2, ![8448, 2048]⟩
abbrev S384x1024 : Shape := ⟨2, ![384, 1024]⟩
abbrev S384x2048 : Shape := ⟨2, ![384, 2048]⟩
abbrev S1x1024 : Shape := ⟨2, ![1, 1024]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x4096, .f32⟩
  | .hbm, ⟨3, _⟩ => ⟨S2x1024, .f32⟩
  | .hbm, ⟨4, _⟩ => ⟨S8448x1024, .bf16⟩
  | .hbm, ⟨5, _⟩ => ⟨S8448x1024, .bf16⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S8448x1024, .bf16⟩
  | .hbm, ⟨10, _⟩ => ⟨S8448x1024, .bf16⟩
  | .hbm, ⟨11, _⟩ => ⟨S8448x2048, .bf16⟩
  | .hbm, ⟨12, _⟩ => ⟨S8x1024, .f32⟩
  | .local _ .vmem, ⟨0, _⟩ => ⟨S384x1024, .bf16⟩
  | .local _ .vmem, ⟨1, _⟩ => ⟨S384x1024, .bf16⟩
  | .local _ .vmem, ⟨2, _⟩ => ⟨S1024x1024, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S8x1024, .f32⟩
  | .local _ .vmem, ⟨8, _⟩ => ⟨S384x1024, .bf16⟩
  | .local _ .vmem, ⟨9, _⟩ => ⟨S384x1024, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S384x1024, .bf16⟩
  | .local _ .vmem, ⟨14, _⟩ => ⟨S384x1024, .bf16⟩
  | .local _ .vmem, ⟨15, _⟩ => ⟨S384x1024, .bf16⟩
  | .local _ .vmem, ⟨16, _⟩ => ⟨S384x2048, .bf16⟩
  | .local _ .vmem, ⟨17, _⟩ => ⟨S384x2048, .bf16⟩
  | .local _ .vmem, ⟨18, _⟩ => ⟨S8x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateReferenceIdeal.lean ====
abbrev S8448x1024 : Shape := ⟨2, ![8448, 1024]⟩
abbrev S1024x1024 : Shape := ⟨2, ![1024, 1024]⟩
abbrev S8448x4096 : Shape := ⟨2, ![8448, 4096]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8448x2048 : Shape := ⟨2, ![8448, 2048]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x4096, .f32⟩
  | .hbm, ⟨3, _⟩ => ⟨S2x1024, .f32⟩
  | .hbm, ⟨4, _⟩ => ⟨S8448x1024, .bf16⟩
  | .hbm, ⟨5, _⟩ => ⟨S8448x1024, .bf16⟩
  | .hbm, ⟨6, _⟩ => ⟨S8448x1024, .f32⟩
  | .hbm, ⟨7, _⟩ => ⟨S8448x1024, .f32⟩
  | .hbm, ⟨8, _⟩ => ⟨S1024x1024, .f32⟩
  | .hbm, ⟨9, _⟩ => ⟨S8448x1024, .f32⟩
  | .hbm, ⟨10, _⟩ => ⟨S8448x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S_, .f32⟩
  | .hbm, ⟨22, _⟩ => ⟨S8448x1024, .f32⟩
  | .hbm, ⟨23, _⟩ => ⟨S8448x1024, .f32⟩
  | .hbm, ⟨24, _⟩ => ⟨S_, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S_, .f32⟩
  | .hbm, ⟨37, _⟩ => ⟨S8448x1024, .f32⟩
  | .hbm, ⟨38, _⟩ => ⟨S8448x1024, .f32⟩
  | .hbm, ⟨39, _⟩ => ⟨S_, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S2x1024, .f32⟩
  | .hbm, ⟨62, _⟩ => ⟨S8448x1024, .f32⟩
  | .hbm, ⟨63, _⟩ => ⟨S8448x1024, .f32⟩
  | .hbm, ⟨64, _⟩ => ⟨S8448x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S2x1024, .f32⟩
  | .hbm, ⟨73, _⟩ => ⟨S2x1024, .f32⟩
  | .hbm, ⟨74, _⟩ => ⟨S8448x1024, .bf16⟩
  | .hbm, ⟨75, _⟩ => ⟨S8448x1024, .bf16⟩
  | .hbm, ⟨76, _⟩ => ⟨S8448x2048, .f32⟩
  | .hbm, ⟨77, _⟩ => ⟨S8448x2048, .bf16⟩
  | .hbm, ⟨78, _⟩ => ⟨S_, .i32⟩
  | .hbm, ⟨79, _⟩ => ⟨S_, .f32⟩
  | .hbm, ⟨80, _⟩ => ⟨S8x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c : Ref sig .tc := ⟨.hbm, 78, rfl⟩
abbrev main_call0_v0 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Down.lean ====
abbrev S8448x2816 : Shape := ⟨2, ![8448, 2816]⟩
abbrev S8448x1024 : Shape := ⟨2, ![8448, 1024]⟩
abbrev S8448x4x704 : Shape := ⟨3, ![8448, 4, 704]⟩
abbrev S4x8448x704 : Shape := ⟨3, ![4, 8448, 704]⟩
abbrev S2816x1024 : Shape := ⟨2, ![2816, 1024]⟩
abbrev S1x2816x704 : Shape := ⟨3, ![1, 2816, 704]⟩
abbrev S704x1024 : Shape := ⟨2, ![704, 1024]⟩
abbrev S2816x704 : Shape := ⟨2, ![2816, 704]⟩

abbrev nBuf : Space → Nat
  | .hbm => 5
  | .vmem => 6
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S8448x4x704, .bf16⟩
  | .hbm, ⟨3, _⟩ => ⟨S4x8448x704, .bf16⟩
  | .hbm, ⟨4, _⟩ => ⟨S2816x1024, .f32⟩
  | .local _ .vmem, ⟨0, _⟩ => ⟨S1x2816x704, .bf16⟩
  | .local _ .vmem, ⟨1, _⟩ => ⟨S1x2816x704, .bf16⟩
  | .local _ .vmem, ⟨2, _⟩ => ⟨S2816x1024, .bf16⟩
  | .local _ .vmem, ⟨3, _⟩ => ⟨S2816x1024, .bf16⟩
  | .local _ .vmem, ⟨4, _⟩ => ⟨S704x1024, .f32⟩
  | .local _ .vmem, ⟨5, _⟩ => ⟨S704x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2816x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownReferenceIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S8448x1024, .f32⟩
  | .hbm, ⟨7, _⟩ => ⟨S1024x2816, .f32⟩
  | .hbm, ⟨8, _⟩ => ⟨S2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S8448x1024 : Shape := ⟨2, ![8448, 1024]⟩
abbrev S8448x5632 : Shape := ⟨2, ![8448, 5632]⟩
abbrev S8448x8x704 : Shape := ⟨3, ![8448, 8, 704]⟩
abbrev S8x8448x704 : Shape := ⟨3, ![8, 8448, 704]⟩
abbrev S2x4x8448x704 : Shape := ⟨4, ![2, 4, 8448, 704]⟩
abbrev S8x1024x704 : Shape := ⟨3, ![8, 1024, 704]⟩
abbrev S2816x1024 : Shape := ⟨2, ![2816, 1024]⟩
abbrev S1x1x2816x704 : Shape := ⟨4, ![1, 1, 2816, 704]⟩
abbrev S1x1024x704 : Shape := ⟨3, ![1, 1024, 704]⟩
abbrev S2816x704 : Shape := ⟨2, ![2816, 704]⟩
abbrev S1024x704 : Shape := ⟨2, ![1024, 704]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S8448x8x704, .bf16⟩
  | .hbm, ⟨3, _⟩ => ⟨S8x8448x704, .bf16⟩
  | .hbm, ⟨4, _⟩ => ⟨S2x4x8448x704, .bf16⟩
  | .hbm, ⟨5, _⟩ => ⟨S8x1024x704, .f32⟩
  | .local _ .vmem, ⟨0, _⟩ => ⟨S2816x1024, .bf16⟩
  | .local _ .vmem, ⟨1, _⟩ => ⟨S2816x1024, .bf16⟩
  | .local _ .vmem, ⟨2, _⟩ => ⟨S1x1x2816x704, .bf16⟩
  | .local _ .vmem, ⟨3, _⟩ => ⟨S1x1x2816x704, .bf16⟩
  | .local _ .vmem, ⟨4, _⟩ => ⟨S1x1024x704, .f32⟩
  | .local _ .vmem, ⟨5, _⟩ => ⟨S1x1024x704, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 3], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let v8 : BitVec 32 := Scalar.extui v7
  let c0_i32_7 : BitVec 32 := 0#32
  let v9 : BitVec 1 := Scalar.cmpi .ne v8 c0_i32_7
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg2.toNat, c0_i32_10.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1x2816x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpReferenceIdeal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S_, .f32⟩
  | .hbm, ⟨3, _⟩ => ⟨S1024x5632, .f32⟩
  | .hbm, ⟨4, _⟩ => ⟨S8448x1024, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | .hbm, ⟨9, _⟩ => ⟨S1024x8x704, .f32⟩
  | .hbm, ⟨10, _⟩ => ⟨S8x1024x704, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dx.lean ====
abbrev S8448x5632 : Shape := ⟨2, ![8448, 5632]⟩
abbrev S1024x5632 : Shape := ⟨2, ![1024, 5632]⟩
abbrev S8448x1024 : Shape := ⟨2, ![8448, 1024]⟩
abbrev S8448x8x704 : Shape := ⟨3, ![8448, 8, 704]⟩
abbrev S8x8448x704 : Shape := ⟨3, ![8, 8448, 704]⟩
abbrev S2x4x8448x704 : Shape := ⟨4, ![2, 4, 8448, 704]⟩
abbrev S1024x8x704 : Shape := ⟨3, ![1024, 8, 704]⟩
abbrev S8x1024x704 : Shape := ⟨3, ![8, 1024, 704]⟩
abbrev S1x4x768x704 : Shape := ⟨4, ![1, 4, 768, 704]⟩
abbrev S4x1024x704 : Shape := ⟨3, ![4, 1024, 704]⟩
abbrev S768x1024 : Shape := ⟨2, ![768, 1024]⟩
abbrev S1x1x768x704 : Shape := ⟨4, ![1, 1, 768, 704]⟩
abbrev S768x704 : Shape := ⟨2, ![768, 704]⟩
abbrev S1x1024x704 : Shape := ⟨3, ![1, 1024, 704]⟩
abbrev S1024x704 : Shape := ⟨2, ![1024, 704]⟩

abbrev nBuf : Space → Nat
  | .hbm => 9
  | .vmem => 9
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .f32⟩
  | .hbm, ⟨3, _⟩ => ⟨S8448x8x704, .bf16⟩
  | .hbm, ⟨4, _⟩ => ⟨S8x8448x704, .bf16⟩
  | .hbm, ⟨5, _⟩ => ⟨S2x4x8448x704, .bf16⟩
  | .hbm, ⟨6, _⟩ => ⟨S1024x8x704, .bf16⟩
  | .hbm, ⟨7, _⟩ => ⟨S8x1024x704, .bf16⟩
  | .hbm, ⟨8, _⟩ => ⟨S8448x1024, .f32⟩
  | .local _ .vmem, ⟨0, _⟩ => ⟨S1x4x768x704, .bf16⟩
  | .local _ .vmem, ⟨1, _⟩ => ⟨S1x4x768x704, .bf16⟩
  | .local _ .vmem, ⟨2, _⟩ => ⟨S4x1024x704, .bf16⟩
  | .local _ .vmem, ⟨3, _⟩ => ⟨S4x1024x704, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_30 : BitVec 32 := 0#32
  let v31 : BitVec 1 := Scalar.cmpi .ne v30 c0_i32_30
  v31

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x4x768x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== DxReferenceIdeal.lean ====
abbrev S8448x5632 : Shape := ⟨2, ![8448, 5632]⟩
abbrev S1024x5632 : Shape := ⟨2, ![1024, 5632]⟩
abbrev S8448x1024 : Shape := ⟨2, ![8448, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .f32⟩
  | .hbm, ⟨3, _⟩ => ⟨S_, .f32⟩
  | .hbm, ⟨4, _⟩ => ⟨S8448x1024, .f32⟩
  | .hbm, ⟨5, _⟩ => ⟨S1024x5632, .f32⟩
  | .hbm, ⟨6, _⟩ => ⟨S8448x5632, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S8448x5632, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S8448x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== MixDx.lean ====
abbrev S8448x4096 : Shape := ⟨2, ![8448, 4096]⟩
abbrev S1024x4096 : Shape := ⟨2, ![1024, 4096]⟩
abbrev S8448x1024 : Shape := ⟨2, ![8448, 1024]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8448x4096, .bf16⟩
  | .hbm, ⟨1, _⟩ => ⟨S1024x4096, .bf16⟩
  | .hbm, ⟨2, _⟩ => ⟨S8448x1024, .f32⟩
  | .hbm, ⟨3, _⟩ => ⟨S8448x1024, .f32⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixDxReferenceIdeal.lean ====
abbrev S8448x4096 : Shape := ⟨2, ![8448, 4096]⟩
abbrev S1024x4096 : Shape := ⟨2, ![1024, 4096]⟩
abbrev S8448x1024 : Shape := ⟨2, ![8448, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S1024x4096, .bf16⟩
  | .hbm, ⟨2, _⟩ => ⟨S8448x1024, .f32⟩
  | .hbm, ⟨3, _⟩ => ⟨S_, .f32⟩
  | .hbm, ⟨4, _⟩ => ⟨S8448x1024, .f32⟩
  | .hbm, ⟨5, _⟩ => ⟨S1024x4096, .f32⟩
  | .hbm, ⟨6, _⟩ => ⟨S8448x4096, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S8448x4096, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S8448x1024, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== WIn.lean ====
abbrev S8448x1024 : Shape := ⟨2, ![8448, 1024]⟩
abbrev S8448x4096 : Shape := ⟨2, ![8448, 4096]⟩
abbrev S1024x4096 : Shape := ⟨2, ![1024, 4096]⟩
abbrev S2816x1024 : Shape := ⟨2, ![2816, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S1024x4096, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInReferenceIdeal.lean ====
abbrev S8448x1024 : Shape := ⟨2, ![8448, 1024]⟩
abbrev S8448x4096 : Shape := ⟨2, ![8448, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S_, .f32⟩
  | .hbm, ⟨3, _⟩ => ⟨S1024x4096, .f32⟩
  | .hbm, ⟨4, _⟩ => ⟨S8448x1024, .f32⟩
  | .hbm, ⟨5, _⟩ => ⟨S8448x4096, .f32⟩
  | .hbm, ⟨6, _⟩ => ⟨S8448x4096, .f32⟩
  | .hbm, ⟨7, _⟩ => ⟨S4096x1024, .f32⟩
  | .hbm, ⟨8, _⟩ => ⟨S1024x4096, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WOut.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOutReferenceIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mid.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩
abbrev S8448x5632 : Shape := ⟨2, ![8448, 5632]⟩
abbrev S8448x8x704 : Shape := ⟨3, ![8448, 8, 704]⟩
abbrev S8x8448x704 : Shape := ⟨3, ![8, 8448, 704]⟩
abbrev S2x4x8448x704 : Shape := ⟨4, ![2, 4, 8448, 704]⟩
abbrev S768x1024 : Shape := ⟨2, ![768, 1024]⟩
abbrev S704x1024 : Shape := ⟨2, ![704, 1024]⟩
abbrev S2x1x768x704 : Shape := ⟨4, ![2, 1, 768, 704]⟩
abbrev S768x704 : Shape := ⟨2, ![768, 704]⟩
abbrev S1x1x768x704 : Shape := ⟨4, ![1, 1, 768, 704]⟩

abbrev nBuf : Space → Nat
  | .hbm => 32
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S_, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S_, .f32⟩
  | .hbm, ⟨19, _⟩ => ⟨S8448x2816, .f32⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x5632, .f32⟩
  | .hbm, ⟨27, _⟩ => ⟨S8448x5632, .bf16⟩
  | .hbm, ⟨28, _⟩ => ⟨S8448x8x704, .bf16⟩
  | .hbm, ⟨29, _⟩ => ⟨S8x8448x704, .bf16⟩
  | .hbm, ⟨30, _⟩ => ⟨S2x4x8448x704, .bf16⟩
  | .hbm, ⟨31, _⟩ => ⟨S2x4x8448x704, .bf16⟩
  | .local _ .vmem, ⟨0, _⟩ => ⟨S768x1024, .bf16⟩
  | .local _ .vmem, ⟨1, _⟩ => ⟨S768x1024, .bf16⟩
  | .local _ .vmem, ⟨2, _⟩ => ⟨S704x1024, .bf16⟩
  | .local _ .vmem, ⟨3, _⟩ => ⟨S704x1024, .bf16⟩
  | .local _ .vmem, ⟨4, _⟩ => ⟨S2x1x768x704, .bf16⟩
  | .local _ .vmem, ⟨5, _⟩ => ⟨S2x1x768x704, .bf16⟩
  | .local _ .vmem, ⟨6, _⟩ => ⟨S2x1x768x704, .bf16⟩
  | .local _ .vmem, ⟨7, _⟩ => ⟨S2x1x768x704, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x768x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x768x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MidReferenceIdeal.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩
abbrev S8448x5632 : Shape := ⟨2, ![8448, 5632]⟩
abbrev S8448x8x704 : Shape := ⟨3, ![8448, 8, 704]⟩
abbrev S8x8448x704 : Shape := ⟨3, ![8, 8448, 704]⟩
abbrev S2x4x8448x704 : Shape := ⟨4, ![2, 4, 8448, 704]⟩

abbrev nBuf : Space → Nat
  | .hbm => 33
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .f32⟩
  | .hbm, ⟨3, _⟩ => ⟨S8448x2816, .f32⟩
  | .hbm, ⟨4, _⟩ => ⟨S2816x1024, .f32⟩
  | .hbm, ⟨5, _⟩ => ⟨S8448x2816, .f32⟩
  | .hbm, ⟨6, _⟩ => ⟨S8448x2816, .f32⟩
  | .hbm, ⟨7, _⟩ => ⟨S_, .f32⟩
  | .hbm, ⟨8, _⟩ => ⟨S8448x2816, .f32⟩
  | .hbm, ⟨9, _⟩ => ⟨S8448x2816, .f32⟩
  | .hbm, ⟨10, _⟩ => ⟨S_, .f32⟩
  | .hbm, ⟨11, _⟩ => ⟨S8448x2816, .f32⟩
  | .hbm, ⟨12, _⟩ => ⟨S8448x2816, .f32⟩
  | .hbm, ⟨13, _⟩ => ⟨S_, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x1024, .f32⟩
  | .hbm, ⟨20, _⟩ => ⟨S8448x1024, .f32⟩
  | .hbm, ⟨21, _⟩ => ⟨S8448x2816, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x5632, .f32⟩
  | .hbm, ⟨29, _⟩ => ⟨S8448x5632, .bf16⟩
  | .hbm, ⟨30, _⟩ => ⟨S8448x8x704, .bf16⟩
  | .hbm, ⟨31, _⟩ => ⟨S8x8448x704, .bf16⟩
  | .hbm, ⟨32, _⟩ => ⟨S2x4x8448x704, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== FfnUp.lean ====
abbrev S8448x1024 : Shape := ⟨2, ![8448, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S2x4x8448x704 : Shape := ⟨4, ![2, 4, 8448, 704]⟩
abbrev S4x8448x704 : Shape := ⟨3, ![4, 8448, 704]⟩
abbrev S768x1024 : Shape := ⟨2, ![768, 1024]⟩
abbrev S1x1024x704 : Shape := ⟨3, ![1, 1024, 704]⟩
abbrev S2x1x768x704 : Shape := ⟨4, ![2, 1, 768, 704]⟩
abbrev S1x768x704 : Shape := ⟨3, ![1, 768, 704]⟩
abbrev S1024x704 : Shape := ⟨2, ![1024, 704]⟩
abbrev S768x704 : Shape := ⟨2, ![768, 704]⟩
abbrev S1x1x768x704 : Shape := ⟨4, ![1, 1, 768, 704]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S1024x8x704, .bf16⟩
  | .hbm, ⟨3, _⟩ => ⟨S8x1024x704, .bf16⟩
  | .hbm, ⟨4, _⟩ => ⟨S2x4x8448x704, .bf16⟩
  | .hbm, ⟨5, _⟩ => ⟨S4x8448x704, .bf16⟩
  | .local _ .vmem, ⟨0, _⟩ => ⟨S768x1024, .bf16⟩
  | .local _ .vmem, ⟨1, _⟩ => ⟨S768x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S2x1x768x704, .bf16⟩
  | .local _ .vmem, ⟨7, _⟩ => ⟨S2x1x768x704, .bf16⟩
  | .local _ .vmem, ⟨8, _⟩ => ⟨S1x768x704, .bf16⟩
  | .local _ .vmem, ⟨9, _⟩ => ⟨S1x768x704, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x768x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpReferenceIdeal.lean ====
abbrev S8448x1024 : Shape := ⟨2, ![8448, 1024]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩
abbrev S8448x8x704 : Shape := ⟨3, ![8448, 8, 704]⟩
abbrev S8x8448x704 : Shape := ⟨3, ![8, 8448, 704]⟩
abbrev S2x4x8448x704 : Shape := ⟨4, ![2, 4, 8448, 704]⟩
abbrev S8448x4x704 : Shape := ⟨3, ![8448, 4, 704]⟩
abbrev S4x8448x704 : Shape := ⟨3, ![4, 8448, 704]⟩

abbrev nBuf : Space → Nat
  | .hbm => 47
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x1024, .f32⟩
  | .hbm, ⟨3, _⟩ => ⟨S1024x5632, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S_, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x5632, .f32⟩
  | .hbm, ⟨30, _⟩ => ⟨S8448x5632, .bf16⟩
  | .hbm, ⟨31, _⟩ => ⟨S8448x8x704, .bf16⟩
  | .hbm, ⟨32, _⟩ => ⟨S8x8448x704, .bf16⟩
  | .hbm, ⟨33, _⟩ => ⟨S2x4x8448x704, .bf16⟩
  | .hbm, ⟨34, _⟩ => ⟨S8448x2816, .f32⟩
  | .hbm, ⟨35, _⟩ => ⟨S8448x2816, .f32⟩
  | .hbm, ⟨36, _⟩ => ⟨S_, .f32⟩
  | .hbm, ⟨37, _⟩ => ⟨S8448x2816, .f32⟩
  | .hbm, ⟨38, _⟩ => ⟨S8448x2816, .f32⟩
  | .hbm, ⟨39, _⟩ => ⟨S_, .f32⟩
  | .hbm, ⟨40, _⟩ => ⟨S8448x2816, .f32⟩
  | .hbm, ⟨41, _⟩ => ⟨S8448x2816, .f32⟩
  | .hbm, ⟨42, _⟩ => ⟨S8448x2816, .f32⟩
  | .hbm, ⟨43, _⟩ => ⟨S8448x2816, .f32⟩
  | .hbm, ⟨44, _⟩ => ⟨S8448x2816, .bf16⟩
  | .hbm, ⟨45, _⟩ => ⟨S8448x4x704, .bf16⟩
  | .hbm, ⟨46, _⟩ => ⟨S4x8448x704, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v5_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v5_1 : Ref sig .tc := ⟨.hbm, 18, rfl⟩
abbrev main_v5_0 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩

abbrev nD : Nat := 1
abbrev τ : Topo := Topo.v7x

variable {F : FTy → Type} [FloatOps F]
-- ==== FfnDown.lean ====
abbrev S8448x2816 : Shape := ⟨2, ![8448, 2816]⟩
abbrev S2816x1024 : Shape := ⟨2, ![2816, 1024]⟩
abbrev S8448x1024 : Shape := ⟨2, ![8448, 1024]⟩
abbrev S1x1024 : Shape := ⟨2, ![1, 1024]⟩
abbrev S8448x4x704 : Shape := ⟨3, ![8448, 4, 704]⟩
abbrev S4x8448x704 : Shape := ⟨3, ![4, 8448, 704]⟩
abbrev S4x384x704 : Shape := ⟨3, ![4, 384, 704]⟩
abbrev S384x1024 : Shape := ⟨2, ![384, 1024]⟩
abbrev S1x384x704 : Shape := ⟨3, ![1, 384, 704]⟩
abbrev S384x704 : Shape := ⟨2, ![384, 704]⟩
abbrev S704x1024 : Shape := ⟨2, ![704, 1024]⟩
abbrev S384 : Shape := ⟨1, ![384]⟩
abbrev S384x1 : Shape := ⟨2, ![384, 1]⟩

abbrev nBuf : Space → Nat
  | .hbm => 10
  | .vmem => 13
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S1x1024, .f32⟩
  | .hbm, ⟨4, _⟩ => ⟨S1x1024, .f32⟩
  | .hbm, ⟨5, _⟩ => ⟨S8448x4x704, .bf16⟩
  | .hbm, ⟨6, _⟩ => ⟨S4x8448x704, .bf16⟩
  | .hbm, ⟨7, _⟩ => ⟨S8448x1024, .f32⟩
  | .hbm, ⟨8, _⟩ => ⟨S8448x1024, .f32⟩
  | .hbm, ⟨9, _⟩ => ⟨S8448x1024, .bf16⟩
  | .local _ .vmem, ⟨0, _⟩ => ⟨S4x384x704, .bf16⟩
  | .local _ .vmem, ⟨1, _⟩ => ⟨S4x384x704, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .bf16⟩
  | .local _ .vmem, ⟨12, _⟩ => ⟨S384x1024, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x384x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnDownReferenceIdeal.lean ====
abbrev S8448x2816 : Shape := ⟨2, ![8448, 2816]⟩
abbrev S2816x1024 : Shape := ⟨2, ![2816, 1024]⟩
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩

abbrev nBuf : Space → Nat
  | .hbm => 43
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x2816, .f32⟩
  | .hbm, ⟨9, _⟩ => ⟨S2816x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S_, .f32⟩
  | .hbm, ⟨25, _⟩ => ⟨S8448, .f32⟩
  | .hbm, ⟨26, _⟩ => ⟨S8448x1, .f32⟩
  | .hbm, ⟨27, _⟩ => ⟨S_, .f32⟩
  | .hbm, ⟨28, _⟩ => ⟨S8448x1, .f32⟩
  | .hbm, ⟨29, _⟩ => ⟨S8448x1, .f32⟩
  | .hbm, ⟨30, _⟩ => ⟨S8448x1024, .f32⟩
  | .hbm, ⟨31, _⟩ => ⟨S8448x1024, .f32⟩
  | .hbm, ⟨32, _⟩ => ⟨S_, .f32⟩
  | .hbm, ⟨33, _⟩ => ⟨S8448x1, .f32⟩
  | .hbm, ⟨34, _⟩ => ⟨S8448x1, .f32⟩
  | .hbm, ⟨35, _⟩ => ⟨S8448x1, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== MixIn.lean ====
abbrev S8448x1024 : Shape := ⟨2, ![8448, 1024]⟩
abbrev S1024x4096 : Shape := ⟨2, ![1024, 4096]⟩
abbrev S8448x4096 : Shape := ⟨2, ![8448, 4096]⟩
abbrev S768x1024 : Shape := ⟨2, ![768, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x4096, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInReferenceIdeal.lean ====
abbrev S8448x1024 : Shape := ⟨2, ![8448, 1024]⟩
abbrev S1024x4096 : Shape := ⟨2, ![1024, 4096]⟩
abbrev S8448x4096 : Shape := ⟨2, ![8448, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x1024, .f32⟩
  | .hbm, ⟨3, _⟩ => ⟨S1024x4096, .f32⟩
  | .hbm, ⟨4, _⟩ => ⟨S8448x4096, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Branch.lean ====
abbrev S8448x512 : Shape := ⟨2, ![8448, 512]⟩
abbrev S8448x1024 : Shape := ⟨2, ![8448, 1024]⟩
abbrev S512x1024 : Shape := ⟨2, ![512, 1024]⟩
abbrev S2816x512 : Shape := ⟨2, ![2816, 512]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S512x1024, .f32⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchReferenceIdeal.lean ====
abbrev S8448x512 : Shape := ⟨2, ![8448, 512]⟩
abbrev S8448x1024 : Shape := ⟨2, ![8448, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S_, .f32⟩
  | .hbm, ⟨3, _⟩ => ⟨S512x1024, .f32⟩
  | .hbm, ⟨4, _⟩ => ⟨S8448x512, .f32⟩
  | .hbm, ⟨5, _⟩ => ⟨S8448x1024, .f32⟩
  | .hbm, ⟨6, _⟩ => ⟨S8448x1024, .f32⟩
  | .hbm, ⟨7, _⟩ => ⟨S1024x512, .f32⟩
  | .hbm, ⟨8, _⟩ => ⟨S512x1024, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DYConv.lean ====
abbrev S8448x1024 : Shape := ⟨2, ![8448, 1024]⟩
abbrev S512x1024 : Shape := ⟨2, ![512, 1024]⟩
abbrev S8448x512 : Shape := ⟨2, ![8448, 512]⟩
abbrev S768x1024 : Shape := ⟨2, ![768, 1024]⟩
abbrev S768x512 : Shape := ⟨2, ![768, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S8448x512, .f32⟩
  | .local _ .vmem, ⟨0, _⟩ => ⟨S768x1024, .bf16⟩
  | .local _ .vmem, ⟨1, _⟩ => ⟨S768x1024, .bf16⟩
  | .local _ .vmem, ⟨2, _⟩ => ⟨S512x1024, .bf16⟩
  | .local _ .vmem, ⟨3, _⟩ => ⟨S768x512, .f32⟩
  | .local _ .vmem, ⟨4, _⟩ => ⟨S768x512, .f32⟩
  | .local _ .vmem, ⟨5, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYConvReferenceIdeal.lean ====
abbrev S8448x1024 : Shape := ⟨2, ![8448, 1024]⟩
abbrev S512x1024 : Shape := ⟨2, ![512, 1024]⟩
abbrev S_ : Shape := ⟨0, ![]⟩
abbrev S8448x512 : Shape := ⟨2, ![8448, 512]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S_, .f32⟩
  | .hbm, ⟨3, _⟩ => ⟨S8448x512, .f32⟩
  | .hbm, ⟨4, _⟩ => ⟨S512x1024, .f32⟩
  | .hbm, ⟨5, _⟩ => ⟨S8448x1024, .f32⟩
  | .hbm, ⟨6, _⟩ => ⟨S8448x1024, .f32⟩
  | .hbm, ⟨7, _⟩ => ⟨S8448x512, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DYMla.lean ====
abbrev S8448x1024 : Shape := ⟨2, ![8448, 1024]⟩
abbrev S512x1024 : Shape := ⟨2, ![512, 1024]⟩
abbrev S8448x512 : Shape := ⟨2, ![8448, 512]⟩
abbrev S768x1024 : Shape := ⟨2, ![768, 1024]⟩
abbrev S768x512 : Shape := ⟨2, ![768, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S8448x512, .bf16⟩
  | .local _ .vmem, ⟨0, _⟩ => ⟨S768x1024, .bf16⟩
  | .local _ .vmem, ⟨1, _⟩ => ⟨S768x1024, .bf16⟩
  | .local _ .vmem, ⟨2, _⟩ => ⟨S512x1024, .bf16⟩
  | .local _ .vmem, ⟨3, _⟩ => ⟨S768x512, .bf16⟩
  | .local _ .vmem, ⟨4, _⟩ => ⟨S768x512, .bf16⟩
  | .local _ .vmem, ⟨5, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYMlaReferenceIdeal.lean ====
abbrev S8448x1024 : Shape := ⟨2, ![8448, 1024]⟩
abbrev S512x1024 : Shape := ⟨2, ![512, 1024]⟩
abbrev S_ : Shape := ⟨0, ![]⟩
abbrev S8448x512 : Shape := ⟨2, ![8448, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S_, .f32⟩
  | .hbm, ⟨3, _⟩ => ⟨S8448x512, .f32⟩
  | .hbm, ⟨4, _⟩ => ⟨S512x1024, .f32⟩
  | .hbm, ⟨5, _⟩ => ⟨S8448x1024, .f32⟩
  | .hbm, ⟨6, _⟩ => ⟨S8448x1024, .f32⟩
  | .hbm, ⟨7, _⟩ => ⟨S8448x512, .f32⟩
  | .hbm, ⟨8, _⟩ => ⟨S8448x512, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WUq.lean ====
abbrev S8448x256 : Shape := ⟨2, ![8448, 256]⟩
abbrev S8448x1024 : Shape := ⟨2, ![8448, 1024]⟩
abbrev S256x1024 : Shape := ⟨2, ![256, 1024]⟩
abbrev S2816x256 : Shape := ⟨2, ![2816, 256]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x256, .bf16⟩
  | .hbm, ⟨1, _⟩ => ⟨S8448x1024, .bf16⟩
  | .hbm, ⟨2, _⟩ => ⟨S256x1024, .f32⟩
  | .local _ .vmem, ⟨0, _⟩ => ⟨S2816x256, .bf16⟩
  | .local _ .vmem, ⟨1, _⟩ => ⟨S2816x256, .bf16⟩
  | .local _ .vmem, ⟨2, _⟩ => ⟨S2816x1024, .bf16⟩
  | .local _ .vmem, ⟨3, _⟩ => ⟨S2816x1024, .bf16⟩
  | .local _ .vmem, ⟨4, _⟩ => ⟨S256x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WUqReferenceIdeal.lean ====
abbrev S8448x256 : Shape := ⟨2, ![8448, 256]⟩
abbrev S8448x1024 : Shape := ⟨2, ![8448, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S8448x1024, .bf16⟩
  | .hbm, ⟨2, _⟩ => ⟨S_, .f32⟩
  | .hbm, ⟨3, _⟩ => ⟨S256x1024, .f32⟩
  | .hbm, ⟨4, _⟩ => ⟨S8448x256, .f32⟩
  | .hbm, ⟨5, _⟩ => ⟨S8448x1024, .f32⟩
  | .hbm, ⟨6, _⟩ => ⟨S8448x1024, .f32⟩
  | .hbm, ⟨7, _⟩ => ⟨S1024x256, .f32⟩
  | .hbm, ⟨8, _⟩ => ⟨S256x1024, .f32⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WUv.lean ====
abbrev S8448x256 : Shape := ⟨2, ![8448, 256]⟩
abbrev S8448x512 : Shape := ⟨2, ![8448, 512]⟩
abbrev S256x512 : Shape := ⟨2, ![256, 512]⟩
abbrev S2816x256 : Shape := ⟨2, ![2816, 256]⟩
abbrev S2816x512 : Shape := ⟨2, ![2816, 512]⟩

abbrev nBuf : Space → Nat
  | .hbm => 3
  | .vmem => 5
  | .smem => 0
  | _ => 0

abbrev bufTy : (tb : Table) → Fin (tcTables nBuf tb) → BufTy
  | .hbm, ⟨0, _⟩ => ⟨S8448x256, .bf16⟩
  | .hbm, ⟨1, _⟩ => ⟨S8448x512, .bf16⟩
  | .hbm, ⟨2, _⟩ => ⟨S256x512, .f32⟩
  | .local _ .vmem, ⟨0, _⟩ => ⟨S2816x256, .bf16⟩
  | .local _ .vmem, ⟨1, _⟩ => ⟨S2816x256, .bf16⟩
  | .local _ .vmem, ⟨2, _⟩ => ⟨S2816x512, .bf16⟩
  | .local _ .vmem, ⟨3, _⟩ => ⟨S2816x512, .bf16⟩
  | .local _ .vmem, ⟨4, _⟩ => ⟨S256x512, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WUvReferenceIdeal.lean ====
abbrev S8448x256 : Shape := ⟨2, ![8448, 256]⟩
abbrev S8448x512 : Shape := ⟨2, ![8448, 512]⟩
abbrev S_ : Shape := ⟨0, ![]⟩
abbrev S256x512 : Shape := ⟨2, ![256, 512]⟩
abbrev S512x256 : Shape := ⟨2, ![512, 256]⟩

abbrev nBuf : Space → Nat
  | .hbm => 9
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S8448x512, .bf16⟩
  | .hbm, ⟨2, _⟩ => ⟨S_, .f32⟩
  | .hbm, ⟨3, _⟩ => ⟨S256x512, .f32⟩
  | .hbm, ⟨4, _⟩ => ⟨S8448x256, .f32⟩
  | .hbm, ⟨5, _⟩ => ⟨S8448x512, .f32⟩
  | .hbm, ⟨6, _⟩ => ⟨S8448x512, .f32⟩
  | .hbm, ⟨7, _⟩ => ⟨S512x256, .f32⟩
  | .hbm, ⟨8, _⟩ => ⟨S256x512, .f32⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Merge.lean ====
abbrev S8448x512 : Shape := ⟨2, ![8448, 512]⟩
abbrev S512x1024 : Shape := ⟨2, ![512, 1024]⟩
abbrev S8448x4096 : Shape := ⟨2, ![8448, 4096]⟩
abbrev S2x1024 : Shape := ⟨2, ![2, 1024]⟩
abbrev S1024x1024 : Shape := ⟨2, ![1024, 1024]⟩
abbrev S8448x1024 : Shape := ⟨2, ![8448, 1024]⟩
abbrev S1x1024 : Shape := ⟨2, ![1, 1024]⟩
abbrev S_ : Shape := ⟨0, ![]⟩
abbrev S8x1024 : Shape := ⟨2, ![8, 1024]⟩
abbrev S384x512 : Shape := ⟨2, ![384, 512]⟩
abbrev S384x1024 : Shape := ⟨2, ![384, 1024]⟩
abbrev S384 : Shape := ⟨1, ![384]⟩
abbrev S384x1 : Shape := ⟨2, ![384, 1]⟩

abbrev nBuf : Space → Nat
  | .hbm => 19
  | .vmem => 28
  | .smem => 0
  | _ => 0

abbrev bufTy : (tb : Table) → Fin (tcTables nBuf tb) → BufTy
  | .hbm, ⟨0, _⟩ => ⟨S8448x512, .bf16⟩
  | .hbm, ⟨1, _⟩ => ⟨S8448x512, .bf16⟩
  | .hbm, ⟨2, _⟩ => ⟨S512x1024, .bf16⟩
  | .hbm, ⟨3, _⟩ => ⟨S512x1024, .bf16⟩
  | .hbm, ⟨4, _⟩ => ⟨S8448x4096, .f32⟩
  | .hbm, ⟨5, _⟩ => ⟨S2x1024, .f32⟩
  | .hbm, ⟨6, _⟩ => ⟨S1024x1024, .bf16⟩
  | .hbm, ⟨7, _⟩ => ⟨S8448x1024, .f32⟩
  | .hbm, ⟨8, _⟩ => ⟨S1x1024, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S8448x1024, .bf16⟩
  | .hbm, ⟨14, _⟩ => ⟨S8448x1024, .bf16⟩
  | .hbm, ⟨15, _⟩ => ⟨S8448x1024, .bf16⟩
  | .hbm, ⟨16, _⟩ => ⟨S8448x1024, .f32⟩
  | .hbm, ⟨17, _⟩ => ⟨S8448x1024, .f32⟩
  | .hbm, ⟨18, _⟩ => ⟨S8448x1024, .bf16⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S512x1024, .bf16⟩
  | .local _ .vmem, ⟨5, _⟩ => ⟨S512x1024, .bf16⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S8x1024, .f32⟩
  | .local _ .vmem, ⟨11, _⟩ => ⟨S1024x1024, .bf16⟩
  | .local _ .vmem, ⟨12, _⟩ => ⟨S384x1024, .f32⟩
  | .local _ .vmem, ⟨13, _⟩ => ⟨S384x1024, .f32⟩
  | .local _ .vmem, ⟨14, _⟩ => ⟨S1x1024, .f32⟩
  | .local _ .vmem, ⟨15, _⟩ => ⟨S1x1024, .f32⟩
  | .local _ .vmem, ⟨16, _⟩ => ⟨S384x1024, .bf16⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S384x1024, .bf16⟩
  | .local _ .vmem, ⟨21, _⟩ => ⟨S384x1024, .bf16⟩
  | .local _ .vmem, ⟨22, _⟩ => ⟨S384x1024, .f32⟩
  | .local _ .vmem, ⟨23, _⟩ => ⟨S384x1024, .f32⟩
  | .local _ .vmem, ⟨24, _⟩ => ⟨S384x1024, .f32⟩
  | .local _ .vmem, ⟨25, _⟩ => ⟨S384x1024, .f32⟩
  | .local _ .vmem, ⟨26, _⟩ => ⟨S384x1024, .bf16⟩
  | .local _ .vmem, ⟨27, _⟩ => ⟨S384x1024, .bf16⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v1_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeReferenceIdeal.lean ====
abbrev S8448x512 : Shape := ⟨2, ![8448, 512]⟩
abbrev S512x1024 : Shape := ⟨2, ![512, 1024]⟩
abbrev S8448x4096 : Shape := ⟨2, ![8448, 4096]⟩
abbrev S2x1024 : Shape := ⟨2, ![2, 1024]⟩
abbrev S1024x1024 : Shape := ⟨2, ![1024, 1024]⟩
abbrev S8448x1024 : Shape := ⟨2, ![8448, 1024]⟩
abbrev S1x1024 : Shape := ⟨2, ![1, 1024]⟩
abbrev S1024 : Shape := ⟨1, ![1024]⟩
abbrev S_ : Shape := ⟨0, ![]⟩
abbrev S8448 : Shape := ⟨1, ![8448]⟩
abbrev S8448x1 : Shape := ⟨2, ![8448, 1]⟩

abbrev nBuf : Space → Nat
  | .hbm => 84
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x512, .bf16⟩
  | .hbm, ⟨2, _⟩ => ⟨S512x1024, .bf16⟩
  | .hbm, ⟨3, _⟩ => ⟨S512x1024, .bf16⟩
  | .hbm, ⟨4, _⟩ => ⟨S8448x4096, .f32⟩
  | .hbm, ⟨5, _⟩ => ⟨S2x1024, .f32⟩
  | .hbm, ⟨6, _⟩ => ⟨S1024x1024, .bf16⟩
  | .hbm, ⟨7, _⟩ => ⟨S8448x1024, .f32⟩
  | .hbm, ⟨8, _⟩ => ⟨S1x1024, .f32⟩
  | .hbm, ⟨9, _⟩ => ⟨S1x1024, .f32⟩
  | .hbm, ⟨10, _⟩ => ⟨S8448x512, .f32⟩
  | .hbm, ⟨11, _⟩ => ⟨S512x1024, .f32⟩
  | .hbm, ⟨12, _⟩ => ⟨S8448x1024, .f32⟩
  | .hbm, ⟨13, _⟩ => ⟨S8448x512, .f32⟩
  | .hbm, ⟨14, _⟩ => ⟨S512x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S_, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S_, .f32⟩
  | .hbm, ⟨48, _⟩ => ⟨S8448x1024, .f32⟩
  | .hbm, ⟨49, _⟩ => ⟨S8448x1024, .f32⟩
  | .hbm, ⟨50, _⟩ => ⟨S1024x1024, .f32⟩
  | .hbm, ⟨51, _⟩ => ⟨S8448x1024, .f32⟩
  | .hbm, ⟨52, _⟩ => ⟨S8448x1024, .f32⟩
  | .hbm, ⟨53, _⟩ => ⟨S_, .f32⟩
  | .hbm, ⟨54, _⟩ => ⟨S8448, .f32⟩
  | .hbm, ⟨55, _⟩ => ⟨S8448x1, .f32⟩
  | .hbm, ⟨56, _⟩ => ⟨S_, .f32⟩
  | .hbm, ⟨57, _⟩ => ⟨S8448x1, .f32⟩
  | .hbm, ⟨58, _⟩ => ⟨S8448x1, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S_, .f32⟩
  | .hbm, ⟨63, _⟩ => ⟨S8448, .f32⟩
  | .hbm, ⟨64, _⟩ => ⟨S8448x1, .f32⟩
  | .hbm, ⟨65, _⟩ => ⟨S_, .f32⟩
  | .hbm, ⟨66, _⟩ => ⟨S8448x1, .f32⟩
  | .hbm, ⟨67, _⟩ => ⟨S8448x1, .f32⟩
  | .hbm, ⟨68, _⟩ => ⟨S8448x1024, .f32⟩
  | .hbm, ⟨69, _⟩ => ⟨S8448x1024, .f32⟩
  | .hbm, ⟨70, _⟩ => ⟨S_, .f32⟩
  | .hbm, ⟨71, _⟩ => ⟨S8448x1, .f32⟩
  | .hbm, ⟨72, _⟩ => ⟨S8448x1, .f32⟩
  | .hbm, ⟨73, _⟩ => ⟨S8448x1, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S8448x1024, .f32⟩
  | .hbm, ⟨79, _⟩ => ⟨S8448x1024, .f32⟩
  | .hbm, ⟨80, _⟩ => ⟨S8448x1024, .bf16⟩
  | .hbm, ⟨81, _⟩ => ⟨S8448x1024, .bf16⟩
  | .hbm, ⟨82, _⟩ => ⟨S8448x1024, .bf16⟩
  | .hbm, ⟨83, _⟩ => ⟨S8448x1024, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== ConvFwd.lean ====
abbrev S8448x4096 : Shape := ⟨2, ![8448, 4096]⟩
abbrev S3x512 : Shape := ⟨2, ![3, 512]⟩
abbrev S_ : Shape := ⟨0, ![]⟩
abbrev S8x512 : Shape := ⟨2, ![8, 512]⟩
abbrev S8448x512 : Shape := ⟨2, ![8448, 512]⟩
abbrev S768x512 : Shape := ⟨2, ![768, 512]⟩
abbrev S776x512 : Shape := ⟨2, ![776, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S8448x4096, .f32⟩
  | .hbm, ⟨1, _⟩ => ⟨S3x512, .f32⟩
  | .hbm, ⟨2, _⟩ => ⟨S_, .i32⟩
  | .hbm, ⟨3, _⟩ => ⟨S_, .f32⟩
  | .hbm, ⟨4, _⟩ => ⟨S8x512, .f32⟩
  | .hbm, ⟨5, _⟩ => ⟨S8448x512, .bf16⟩
  | .local _ .vmem, ⟨0, _⟩ => ⟨S768x512, .f32⟩
  | .local _ .vmem, ⟨1, _⟩ => ⟨S768x512, .f32⟩
  | .local _ .vmem, ⟨2, _⟩ => ⟨S768x512, .f32⟩
  | .local _ .vmem, ⟨3, _⟩ => ⟨S768x512, .f32⟩
  | .local _ .vmem, ⟨4, _⟩ => ⟨S768x512, .f32⟩
  | .local _ .vmem, ⟨5, _⟩ => ⟨S768x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S768x512, .bf16⟩
  | .local _ .vmem, ⟨12, _⟩ => ⟨S768x512, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c96_i32 : BitVec 32 := 96#32
  let v0 : BitVec 32 := Scalar.muli arg0 c96_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c96_i32 : BitVec 32 := 96#32
  let v0 : BitVec 32 := Scalar.muli arg0 c96_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdReferenceIdeal.lean ====
abbrev S8448x4096 : Shape := ⟨2, ![8448, 4096]⟩
abbrev S3x512 : Shape := ⟨2, ![3, 512]⟩
abbrev S8448x1536 : Shape := ⟨2, ![8448, 1536]⟩
abbrev S8448x512 : Shape := ⟨2, ![8448, 512]⟩
abbrev S_ : Shape := ⟨0, ![]⟩
abbrev S2x512 : Shape := ⟨2, ![2, 512]⟩
abbrev S8450x512 : Shape := ⟨2, ![8450, 512]⟩
abbrev S1x512 : Shape := ⟨2, ![1, 512]⟩
abbrev S512 : Shape := ⟨1, ![512]⟩

abbrev nBuf : Space → Nat
  | .hbm => 32
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S3x512, .f32⟩
  | .hbm, ⟨2, _⟩ => ⟨S8448x1536, .f32⟩
  | .hbm, ⟨3, _⟩ => ⟨S8448x512, .f32⟩
  | .hbm, ⟨4, _⟩ => ⟨S8448x512, .f32⟩
  | .hbm, ⟨5, _⟩ => ⟨S8448x512, .f32⟩
  | .hbm, ⟨6, _⟩ => ⟨S8448x512, .f32⟩
  | .hbm, ⟨7, _⟩ => ⟨S_, .f32⟩
  | .hbm, ⟨8, _⟩ => ⟨S2x512, .f32⟩
  | .hbm, ⟨9, _⟩ => ⟨S8450x512, .f32⟩
  | .hbm, ⟨10, _⟩ => ⟨S8448x512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S8448x512, .f32⟩
  | .hbm, ⟨15, _⟩ => ⟨S8448x512, .f32⟩
  | .hbm, ⟨16, _⟩ => ⟨S8448x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S8448x512, .f32⟩
  | .hbm, ⟨21, _⟩ => ⟨S8448x512, .f32⟩
  | .hbm, ⟨22, _⟩ => ⟨S8448x512, .f32⟩
  | .hbm, ⟨23, _⟩ => ⟨S8448x512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S8448x512, .f32⟩
  | .hbm, ⟨28, _⟩ => ⟨S8448x512, .f32⟩
  | .hbm, ⟨29, _⟩ => ⟨S8448x512, .f32⟩
  | .hbm, ⟨30, _⟩ => ⟨S8448x512, .f32⟩
  | .hbm, ⟨31, _⟩ => ⟨S8448x512, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== LnBwd.lean ====
abbrev S8448x1024 : Shape := ⟨2, ![8448, 1024]⟩
abbrev S1x1024 : Shape := ⟨2, ![1, 1024]⟩
abbrev S8x1024 : Shape := ⟨2, ![8, 1024]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S8448x1024, .f32⟩
  | .hbm, ⟨4, _⟩ => ⟨S8448x1024, .bf16⟩
  | .hbm, ⟨5, _⟩ => ⟨S8x1024, .f32⟩
  | .hbm, ⟨6, _⟩ => ⟨S8x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .bf16⟩
  | .local _ .vmem, ⟨8, _⟩ => ⟨S384x1024, .bf16⟩
  | .local _ .vmem, ⟨9, _⟩ => ⟨S8x1024, .f32⟩
  | .local _ .vmem, ⟨10, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdReferenceIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8448x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S_, .f32⟩
  | .hbm, ⟨51, _⟩ => ⟨S8448, .f32⟩
  | .hbm, ⟨52, _⟩ => ⟨S8448x1, .f32⟩
  | .hbm, ⟨53, _⟩ => ⟨S8448x1024, .f32⟩
  | .hbm, ⟨54, _⟩ => ⟨S8448x1024, .f32⟩
  | .hbm, ⟨55, _⟩ => ⟨S8448x1, .f32⟩
  | .hbm, ⟨56, _⟩ => ⟨S8448x1024, .f32⟩
  | .hbm, ⟨57, _⟩ => ⟨S_, .f32⟩
  | .hbm, ⟨58, _⟩ => ⟨S8448, .f32⟩
  | .hbm, ⟨59, _⟩ => ⟨S8448x1, .f32⟩
  | .hbm, ⟨60, _⟩ => ⟨S_, .f32⟩
  | .hbm, ⟨61, _⟩ => ⟨S8448x1, .f32⟩
  | .hbm, ⟨62, _⟩ => ⟨S8448x1, .f32⟩
  | .hbm, ⟨63, _⟩ => ⟨S_, .f32⟩
  | .hbm, ⟨64, _⟩ => ⟨S8448, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S_, .f32⟩
  | .hbm, ⟨69, _⟩ => ⟨S8448, .f32⟩
  | .hbm, ⟨70, _⟩ => ⟨S8448x1, .f32⟩
  | .hbm, ⟨71, _⟩ => ⟨S8448x1024, .f32⟩
  | .hbm, ⟨72, _⟩ => ⟨S8448x1, .f32⟩
  | .hbm, ⟨73, _⟩ => ⟨S_, .f32⟩
  | .hbm, ⟨74, _⟩ => ⟨S8448x1, .f32⟩
  | .hbm, ⟨75, _⟩ => ⟨S8448x1, .f32⟩
  | .hbm, ⟨76, _⟩ => ⟨S_, .f32⟩
  | .hbm, ⟨77, _⟩ => ⟨S8448, .f32⟩
  | .hbm, ⟨78, _⟩ => ⟨S8448x1024, .f32⟩
  | .hbm, ⟨79, _⟩ => ⟨S8448x1024, .f32⟩
  | .hbm, ⟨80, _⟩ => ⟨S_, .f32⟩
  | .hbm, ⟨81, _⟩ => ⟨S7x1024, .f32⟩
  | .hbm, ⟨82, _⟩ => ⟨S_, .f32⟩
  | .hbm, ⟨83, _⟩ => ⟨S8448x1024, .f32⟩
  | .hbm, ⟨84, _⟩ => ⟨S8448x1024, .f32⟩
  | .hbm, ⟨85, _⟩ => ⟨S8448x1024, .bf16⟩
  | .hbm, ⟨86, _⟩ => ⟨S8x1024, .f32⟩
  | .hbm, ⟨87, _⟩ => ⟨S8x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_16 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== LnBwdM.lean ====
abbrev S8448x1024 : Shape := ⟨2, ![8448, 1024]⟩
abbrev S1x1024 : Shape := ⟨2, ![1, 1024]⟩
abbrev S8x1024 : Shape := ⟨2, ![8, 1024]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S8448x1024, .f32⟩
  | .hbm, ⟨4, _⟩ => ⟨S8448x1024, .bf16⟩
  | .hbm, ⟨5, _⟩ => ⟨S8x1024, .f32⟩
  | .hbm, ⟨6, _⟩ => ⟨S8x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .bf16⟩
  | .local _ .vmem, ⟨8, _⟩ => ⟨S384x1024, .bf16⟩
  | .local _ .vmem, ⟨9, _⟩ => ⟨S8x1024, .f32⟩
  | .local _ .vmem, ⟨10, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdMReferenceIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8448x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S_, .f32⟩
  | .hbm, ⟨51, _⟩ => ⟨S8448, .f32⟩
  | .hbm, ⟨52, _⟩ => ⟨S8448x1, .f32⟩
  | .hbm, ⟨53, _⟩ => ⟨S8448x1024, .f32⟩
  | .hbm, ⟨54, _⟩ => ⟨S8448x1024, .f32⟩
  | .hbm, ⟨55, _⟩ => ⟨S8448x1, .f32⟩
  | .hbm, ⟨56, _⟩ => ⟨S8448x1024, .f32⟩
  | .hbm, ⟨57, _⟩ => ⟨S_, .f32⟩
  | .hbm, ⟨58, _⟩ => ⟨S8448, .f32⟩
  | .hbm, ⟨59, _⟩ => ⟨S8448x1, .f32⟩
  | .hbm, ⟨60, _⟩ => ⟨S_, .f32⟩
  | .hbm, ⟨61, _⟩ => ⟨S8448x1, .f32⟩
  | .hbm, ⟨62, _⟩ => ⟨S8448x1, .f32⟩
  | .hbm, ⟨63, _⟩ => ⟨S_, .f32⟩
  | .hbm, ⟨64, _⟩ => ⟨S8448, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S_, .f32⟩
  | .hbm, ⟨69, _⟩ => ⟨S8448, .f32⟩
  | .hbm, ⟨70, _⟩ => ⟨S8448x1, .f32⟩
  | .hbm, ⟨71, _⟩ => ⟨S8448x1024, .f32⟩
  | .hbm, ⟨72, _⟩ => ⟨S8448x1, .f32⟩
  | .hbm, ⟨73, _⟩ => ⟨S_, .f32⟩
  | .hbm, ⟨74, _⟩ => ⟨S8448x1, .f32⟩
  | .hbm, ⟨75, _⟩ => ⟨S8448x1, .f32⟩
  | .hbm, ⟨76, _⟩ => ⟨S_, .f32⟩
  | .hbm, ⟨77, _⟩ => ⟨S8448, .f32⟩
  | .hbm, ⟨78, _⟩ => ⟨S8448x1024, .f32⟩
  | .hbm, ⟨79, _⟩ => ⟨S8448x1024, .f32⟩
  | .hbm, ⟨80, _⟩ => ⟨S_, .f32⟩
  | .hbm, ⟨81, _⟩ => ⟨S7x1024, .f32⟩
  | .hbm, ⟨82, _⟩ => ⟨S8448x1024, .bf16⟩
  | .hbm, ⟨83, _⟩ => ⟨S8x1024, .f32⟩
  | .hbm, ⟨84, _⟩ => ⟨S8x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_16 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== LossHead.lean ====
abbrev S8448x1024 : Shape := ⟨2, ![8448, 1024]⟩
abbrev S8192x1024 : Shape := ⟨2, ![8192, 1024]⟩
abbrev S_ : Shape := ⟨0, ![]⟩
abbrev S16x1024 : Shape := ⟨2, ![16, 1024]⟩
abbrev S240x1024 : Shape := ⟨2, ![240, 1024]⟩
abbrev S8x128 : Shape := ⟨2, ![8, 128]⟩
abbrev S384x1024 : Shape := ⟨2, ![384, 1024]⟩
abbrev S384x1 : Shape := ⟨2, ![384, 1]⟩
abbrev S384 : Shape := ⟨1, ![384]⟩
abbrev S1 : Shape := ⟨1, ![1]⟩
abbrev S1x1 : Shape := ⟨2, ![1, 1]⟩

abbrev nBuf : Space → Nat
  | .hbm => 9
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S_, .f32⟩
  | .hbm, ⟨3, _⟩ => ⟨S16x1024, .f32⟩
  | .hbm, ⟨4, _⟩ => ⟨S_, .f32⟩
  | .hbm, ⟨5, _⟩ => ⟨S240x1024, .f32⟩
  | .hbm, ⟨6, _⟩ => ⟨S8448x1024, .f32⟩
  | .hbm, ⟨7, _⟩ => ⟨S8448x1024, .f32⟩
  | .hbm, ⟨8, _⟩ => ⟨S8x128, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S8x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadReferenceIdeal.lean ====
abbrev S8448x1024 : Shape := ⟨2, ![8448, 1024]⟩
abbrev S8192x1024 : Shape := ⟨2, ![8192, 1024]⟩
abbrev S_ : Shape := ⟨0, ![]⟩
abbrev S8192 : Shape := ⟨1, ![8192]⟩
abbrev S16x1024 : Shape := ⟨2, ![16, 1024]⟩
abbrev S240x1024 : Shape := ⟨2, ![240, 1024]⟩
abbrev S8x128 : Shape := ⟨2, ![8, 128]⟩

abbrev nBuf : Space → Nat
  | .hbm => 32
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S16x1024, .f32⟩
  | .hbm, ⟨28, _⟩ => ⟨S_, .f32⟩
  | .hbm, ⟨29, _⟩ => ⟨S240x1024, .f32⟩
  | .hbm, ⟨30, _⟩ => ⟨S8448x1024, .f32⟩
  | .hbm, ⟨31, _⟩ => ⟨S8x128, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Qkv.lean ====
abbrev S8448x4096 : Shape := ⟨2, ![8448, 4096]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S8448x16 : Shape := ⟨2, ![8448, 16]⟩
abbrev S256x8x96 : Shape := ⟨3, ![256, 8, 96]⟩
abbrev S_ : Shape := ⟨0, ![]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S8448x64 : Shape := ⟨2, ![8448, 64]⟩
abbrev S8448x32 : Shape := ⟨2, ![8448, 32]⟩
abbrev S8448x128 : Shape := ⟨2, ![8448, 128]⟩
abbrev S8448x80 : Shape := ⟨2, ![8448, 80]⟩
abbrev S8448x48 : Shape := ⟨2, ![8448, 48]⟩
abbrev S8448x1024 : Shape := ⟨2, ![8448, 1024]⟩
abbrev S8448x256 : Shape := ⟨2, ![8448, 256]⟩
abbrev S384x512 : Shape := ⟨2, ![384, 512]⟩
abbrev S384x128 : Shape := ⟨2, ![384, 128]⟩
abbrev S384x1024 : Shape := ⟨2, ![384, 1024]⟩
abbrev S384x256 : Shape := ⟨2, ![384, 256]⟩
abbrev S384 : Shape := ⟨1, ![384]⟩
abbrev S384x1 : Shape := ⟨2, ![384, 1]⟩

abbrev nBuf : Space → Nat
  | .hbm => 64
  | .vmem => 23
  | .smem => 0
  | _ => 0

abbrev bufTy : (tb : Table) → Fin (tcTables nBuf tb) → BufTy
  | .hbm, ⟨0, _⟩ => ⟨S8448x4096, .f32⟩
  | .hbm, ⟨1, _⟩ => ⟨S1x256, .f32⟩
  | .hbm, ⟨2, _⟩ => ⟨S1x128, .f32⟩
  | .hbm, ⟨3, _⟩ => ⟨S256x768, .bf16⟩
  | .hbm, ⟨4, _⟩ => ⟨S128x1024, .bf16⟩
  | .hbm, ⟨5, _⟩ => ⟨S8448x16, .f32⟩
  | .hbm, ⟨6, _⟩ => ⟨S8448x16, .f32⟩
  | .hbm, ⟨7, _⟩ => ⟨S256x8x96, .bf16⟩
  | .hbm, ⟨8, _⟩ => ⟨S_, .i32⟩
  | .hbm, ⟨9, _⟩ => ⟨S_, .bf16⟩
  | .hbm, ⟨10, _⟩ => ⟨S256x8x128, .bf16⟩
  | .hbm, ⟨11, _⟩ => ⟨S256x1024, .bf16⟩
  | .hbm, ⟨12, _⟩ => ⟨S128x8x128, .bf16⟩
  | .hbm, ⟨13, _⟩ => ⟨S128x8x64, .bf16⟩
  | .hbm, ⟨14, _⟩ => ⟨S_, .i32⟩
  | .hbm, ⟨15, _⟩ => ⟨S_, .bf16⟩
  | .hbm, ⟨16, _⟩ => ⟨S128x8x128, .bf16⟩
  | .hbm, ⟨17, _⟩ => ⟨S128x1024, .bf16⟩
  | .hbm, ⟨18, _⟩ => ⟨S128x1024, .i32⟩
  | .hbm, ⟨19, _⟩ => ⟨S128x1024, .i32⟩
  | .hbm, ⟨20, _⟩ => ⟨S_, .i32⟩
  | .hbm, ⟨21, _⟩ => ⟨S128x1024, .i32⟩
  | .hbm, ⟨22, _⟩ => ⟨S128x1024, .i32⟩
  | .hbm, ⟨23, _⟩ => ⟨S_, .i32⟩
  | .hbm, ⟨24, _⟩ => ⟨S128x1024, .i32⟩
  | .hbm, ⟨25, _⟩ => ⟨S128x1024, .i1⟩
  | .hbm, ⟨26, _⟩ => ⟨S_, .i32⟩
  | .hbm, ⟨27, _⟩ => ⟨S128x1024, .i32⟩
  | .hbm, ⟨28, _⟩ => ⟨S128x1024, .i32⟩
  | .hbm, ⟨29, _⟩ => ⟨S128x1024, .i1⟩
  | .hbm, ⟨30, _⟩ => ⟨S128x1024, .i1⟩
  | .hbm, ⟨31, _⟩ => ⟨S_, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S128x1024, .bf16⟩
  | .hbm, ⟨37, _⟩ => ⟨S256x1024, .bf16⟩
  | .hbm, ⟨38, _⟩ => ⟨S128x8x64, .bf16⟩
  | .hbm, ⟨39, _⟩ => ⟨S_, .i32⟩
  | .hbm, ⟨40, _⟩ => ⟨S_, .bf16⟩
  | .hbm, ⟨41, _⟩ => ⟨S128x8x128, .bf16⟩
  | .hbm, ⟨42, _⟩ => ⟨S128x1024, .bf16⟩
  | .hbm, ⟨43, _⟩ => ⟨S_, .f32⟩
  | .hbm, ⟨44, _⟩ => ⟨S8448x64, .f32⟩
  | .hbm, ⟨45, _⟩ => ⟨S_, .f32⟩
  | .hbm, ⟨46, _⟩ => ⟨S8448x32, .f32⟩
  | .hbm, ⟨47, _⟩ => ⟨S8448x128, .f32⟩
  | .hbm, ⟨48, _⟩ => ⟨S_, .f32⟩
  | .hbm, ⟨49, _⟩ => ⟨S8448x80, .f32⟩
  | .hbm, ⟨50, _⟩ => ⟨S_, .f32⟩
  | .hbm, ⟨51, _⟩ => ⟨S8448x32, .f32⟩
  | .hbm, ⟨52, _⟩ => ⟨S8448x128, .f32⟩
  | .hbm, ⟨53, _⟩ => ⟨S_, .f32⟩
  | .hbm, ⟨54, _⟩ => ⟨S8448x64, .f32⟩
  | .hbm, ⟨55, _⟩ => ⟨S8448x16, .f32⟩
  | .hbm, ⟨56, _⟩ => ⟨S_, .f32⟩
  | .hbm, ⟨57, _⟩ => ⟨S8448x48, .f32⟩
  | .hbm, ⟨58, _⟩ => ⟨S8448x128, .f32⟩
  | .hbm, ⟨59, _⟩ => ⟨S8448x1024, .bf16⟩
  | .hbm, ⟨60, _⟩ => ⟨S8448x1024, .bf16⟩
  | .hbm, ⟨61, _⟩ => ⟨S8448x1024, .bf16⟩
  | .hbm, ⟨62, _⟩ => ⟨S8448x256, .bf16⟩
  | .hbm, ⟨63, _⟩ => ⟨S8448x256, .bf16⟩
  | .local _ .vmem, ⟨0, _⟩ => ⟨S384x512, .f32⟩
  | .local _ .vmem, ⟨1, _⟩ => ⟨S384x512, .f32⟩
  | .local _ .vmem, ⟨2, _⟩ => ⟨S1x256, .f32⟩
  | .local _ .vmem, ⟨3, _⟩ => ⟨S1x128, .f32⟩
  | .local _ .vmem, ⟨4, _⟩ => ⟨S256x1024, .bf16⟩
  | .local _ .vmem, ⟨5, _⟩ => ⟨S256x1024, .bf16⟩
  | .local _ .vmem, ⟨6, _⟩ => ⟨S128x1024, .bf16⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x1024, .bf16⟩
  | .local _ .vmem, ⟨14, _⟩ => ⟨S384x1024, .bf16⟩
  | .local _ .vmem, ⟨15, _⟩ => ⟨S384x1024, .bf16⟩
  | .local _ .vmem, ⟨16, _⟩ => ⟨S384x1024, .bf16⟩
  | .local _ .vmem, ⟨17, _⟩ => ⟨S384x1024, .bf16⟩
  | .local _ .vmem, ⟨18, _⟩ => ⟨S384x1024, .bf16⟩
  | .local _ .vmem, ⟨19, _⟩ => ⟨S384x256, .bf16⟩
  | .local _ .vmem, ⟨20, _⟩ => ⟨S384x256, .bf16⟩
  | .local _ .vmem, ⟨21, _⟩ => ⟨S384x256, .bf16⟩
  | .local _ .vmem, ⟨22, _⟩ => ⟨S384x256, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_cst_4 : Ref sig .tc := ⟨.hbm, 32, rfl⟩
abbrev main_call2_v0 : Ref sig .tc := ⟨.hbm, 33, rfl⟩
abbrev main_call2_v1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_call3_v0 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_cst_8 : Ref sig .tc := ⟨.hbm, 48, rfl⟩
abbrev main_v26 : Ref sig .tc := ⟨.hbm, 49, rfl⟩
abbrev main_cst_9 : Ref sig .tc := ⟨.hbm, 50, rfl⟩
abbrev main_v27 : Ref sig .tc := ⟨.hbm, 51, rfl⟩
abbrev main_v28 : Ref sig .tc := ⟨.hbm, 52, rfl⟩
abbrev main_cst_10 : Ref sig .tc := ⟨.hbm, 53, rfl⟩
abbrev main_v29 : Ref sig .tc := ⟨.hbm, 54, rfl⟩
abbrev main_v30 : Ref sig .tc := ⟨.hbm, 55, rfl⟩
abbrev main_cst_11 : Ref sig .tc := ⟨.hbm, 56, rfl⟩
abbrev main_v31 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_v33_2 : Ref sig .tc := ⟨.hbm, 61, rfl⟩
abbrev main_v33_3 : Ref sig .tc := ⟨.hbm, 62, rfl⟩
abbrev main_v33_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== QkvReferenceIdeal.lean ====
abbrev S8448x4096 : Shape := ⟨2, ![8448, 4096]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S8448x16 : Shape := ⟨2, ![8448, 16]⟩
abbrev S8448x512 : Shape := ⟨2, ![8448, 512]⟩
abbrev S8448x256 : Shape := ⟨2, ![8448, 256]⟩
abbrev S8448x128 : Shape := ⟨2, ![8448, 128]⟩
abbrev S8448x32 : Shape := ⟨2, ![8448, 32]⟩
abbrev S8448x96 : Shape := ⟨2, ![8448, 96]⟩
abbrev S_ : Shape := ⟨0, ![]⟩
abbrev S8448 : Shape := ⟨1, ![8448]⟩
abbrev S8448x1 : Shape := ⟨2, ![8448, 1]⟩
abbrev S8448x768 : Shape := ⟨2, ![8448, 768]⟩
abbrev S8448x8x96 : Shape := ⟨3, ![8448, 8, 96]⟩
abbrev S8448x8x32 : Shape := ⟨3, ![8448, 8, 32]⟩
abbrev S8448x1x16 : Shape := ⟨3, ![8448, 1, 16]⟩
abbrev S8448x8x16 : Shape := ⟨3, ![8448, 8, 16]⟩
abbrev S8448x8x64 : Shape := ⟨3, ![8448, 8, 64]⟩
abbrev S8448x1024 : Shape := ⟨2, ![8448, 1024]⟩
abbrev S8448x8x128 : Shape := ⟨3, ![8448, 8, 128]⟩
abbrev S8448x1x32 : Shape := ⟨3, ![8448, 1, 32]⟩

abbrev nBuf : Space → Nat
  | .hbm => 106
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S1x256, .f32⟩
  | .hbm, ⟨2, _⟩ => ⟨S1x128, .f32⟩
  | .hbm, ⟨3, _⟩ => ⟨S256x768, .bf16⟩
  | .hbm, ⟨4, _⟩ => ⟨S128x1024, .bf16⟩
  | .hbm, ⟨5, _⟩ => ⟨S8448x16, .f32⟩
  | .hbm, ⟨6, _⟩ => ⟨S8448x16, .f32⟩
  | .hbm, ⟨7, _⟩ => ⟨S8448x512, .f32⟩
  | .hbm, ⟨8, _⟩ => ⟨S8448x256, .f32⟩
  | .hbm, ⟨9, _⟩ => ⟨S8448x128, .f32⟩
  | .hbm, ⟨10, _⟩ => ⟨S8448x32, .f32⟩
  | .hbm, ⟨11, _⟩ => ⟨S8448x96, .f32⟩
  | .hbm, ⟨12, _⟩ => ⟨S8448x256, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1, .f32⟩
  | .hbm, ⟨23, _⟩ => ⟨S8448x256, .f32⟩
  | .hbm, ⟨24, _⟩ => ⟨S8448x256, .f32⟩
  | .hbm, ⟨25, _⟩ => ⟨S8448x256, .f32⟩
  | .hbm, ⟨26, _⟩ => ⟨S8448x256, .f32⟩
  | .hbm, ⟨27, _⟩ => ⟨S8448x256, .bf16⟩
  | .hbm, ⟨28, _⟩ => ⟨S8448x128, .f32⟩
  | .hbm, ⟨29, _⟩ => ⟨S_, .f32⟩
  | .hbm, ⟨30, _⟩ => ⟨S8448, .f32⟩
  | .hbm, ⟨31, _⟩ => ⟨S8448x1, .f32⟩
  | .hbm, ⟨32, _⟩ => ⟨S_, .f32⟩
  | .hbm, ⟨33, _⟩ => ⟨S8448x1, .f32⟩
  | .hbm, ⟨34, _⟩ => ⟨S8448x1, .f32⟩
  | .hbm, ⟨35, _⟩ => ⟨S_, .f32⟩
  | .hbm, ⟨36, _⟩ => ⟨S8448x1, .f32⟩
  | .hbm, ⟨37, _⟩ => ⟨S8448x1, .f32⟩
  | .hbm, ⟨38, _⟩ => ⟨S8448x1, .f32⟩
  | .hbm, ⟨39, _⟩ => ⟨S8448x128, .f32⟩
  | .hbm, ⟨40, _⟩ => ⟨S8448x128, .f32⟩
  | .hbm, ⟨41, _⟩ => ⟨S8448x128, .f32⟩
  | .hbm, ⟨42, _⟩ => ⟨S8448x128, .f32⟩
  | .hbm, ⟨43, _⟩ => ⟨S8448x128, .bf16⟩
  | .hbm, ⟨44, _⟩ => ⟨S8448x256, .f32⟩
  | .hbm, ⟨45, _⟩ => ⟨S256x768, .f32⟩
  | .hbm, ⟨46, _⟩ => ⟨S8448x768, .f32⟩
  | .hbm, ⟨47, _⟩ => ⟨S8448x8x96, .f32⟩
  | .hbm, ⟨48, _⟩ => ⟨S8448x8x32, .f32⟩
  | .hbm, ⟨49, _⟩ => ⟨S8448x1x16, .f32⟩
  | .hbm, ⟨50, _⟩ => ⟨S8448x1x16, .f32⟩
  | .hbm, ⟨51, _⟩ => ⟨S8448x8x16, .f32⟩
  | .hbm, ⟨52, _⟩ => ⟨S8448x8x16, .f32⟩
  | .hbm, ⟨53, _⟩ => ⟨S8448x8x16, .f32⟩
  | .hbm, ⟨54, _⟩ => ⟨S8448x8x16, .f32⟩
  | .hbm, ⟨55, _⟩ => ⟨S8448x8x16, .f32⟩
  | .hbm, ⟨56, _⟩ => ⟨S8448x8x16, .f32⟩
  | .hbm, ⟨57, _⟩ => ⟨S8448x8x16, .f32⟩
  | .hbm, ⟨58, _⟩ => ⟨S8448x8x16, .f32⟩
  | .hbm, ⟨59, _⟩ => ⟨S8448x8x16, .f32⟩
  | .hbm, ⟨60, _⟩ => ⟨S8448x8x16, .f32⟩
  | .hbm, ⟨61, _⟩ => ⟨S8448x8x16, .f32⟩
  | .hbm, ⟨62, _⟩ => ⟨S8448x8x16, .f32⟩
  | .hbm, ⟨63, _⟩ => ⟨S8448x8x32, .f32⟩
  | .hbm, ⟨64, _⟩ => ⟨S8448x8x64, .f32⟩
  | .hbm, ⟨65, _⟩ => ⟨S8448x8x96, .f32⟩
  | .hbm, ⟨66, _⟩ => ⟨S_, .f32⟩
  | .hbm, ⟨67, _⟩ => ⟨S8448x8x96, .f32⟩
  | .hbm, ⟨68, _⟩ => ⟨S8448x8x96, .f32⟩
  | .hbm, ⟨69, _⟩ => ⟨S8448x128, .f32⟩
  | .hbm, ⟨70, _⟩ => ⟨S128x1024, .f32⟩
  | .hbm, ⟨71, _⟩ => ⟨S8448x1024, .f32⟩
  | .hbm, ⟨72, _⟩ => ⟨S8448x8x128, .f32⟩
  | .hbm, ⟨73, _⟩ => ⟨S8448x32, .bf16⟩
  | .hbm, ⟨74, _⟩ => ⟨S8448x32, .f32⟩
  | .hbm, ⟨75, _⟩ => ⟨S8448x16, .f32⟩
  | .hbm, ⟨76, _⟩ => ⟨S8448x16, .f32⟩
  | .hbm, ⟨77, _⟩ => ⟨S8448x16, .f32⟩
  | .hbm, ⟨78, _⟩ => ⟨S8448x16, .f32⟩
  | .hbm, ⟨79, _⟩ => ⟨S8448x16, .f32⟩
  | .hbm, ⟨80, _⟩ => ⟨S8448x16, .f32⟩
  | .hbm, ⟨81, _⟩ => ⟨S8448x16, .f32⟩
  | .hbm, ⟨82, _⟩ => ⟨S8448x16, .f32⟩
  | .hbm, ⟨83, _⟩ => ⟨S8448x32, .f32⟩
  | .hbm, ⟨84, _⟩ => ⟨S8448x1x32, .f32⟩
  | .hbm, ⟨85, _⟩ => ⟨S8448x8x32, .f32⟩
  | .hbm, ⟨86, _⟩ => ⟨S8448x8x64, .f32⟩
  | .hbm, ⟨87, _⟩ => ⟨S8448x8x96, .f32⟩
  | .hbm, ⟨88, _⟩ => ⟨S8448x96, .bf16⟩
  | .hbm, ⟨89, _⟩ => ⟨S8448x256, .bf16⟩
  | .hbm, ⟨90, _⟩ => ⟨S_, .f32⟩
  | .hbm, ⟨91, _⟩ => ⟨S8448x8x32, .f32⟩
  | .hbm, ⟨92, _⟩ => ⟨S8448x8x128, .f32⟩
  | .hbm, ⟨93, _⟩ => ⟨S8448x1024, .f32⟩
  | .hbm, ⟨94, _⟩ => ⟨S8448x1024, .bf16⟩
  | .hbm, ⟨95, _⟩ => ⟨S_, .f32⟩
  | .hbm, ⟨96, _⟩ => ⟨S8448x8x32, .f32⟩
  | .hbm, ⟨97, _⟩ => ⟨S8448x8x128, .f32⟩
  | .hbm, ⟨98, _⟩ => ⟨S8448x1024, .f32⟩
  | .hbm, ⟨99, _⟩ => ⟨S8448x1024, .bf16⟩
  | .hbm, ⟨100, _⟩ => ⟨S8448x8x64, .f32⟩
  | .hbm, ⟨101, _⟩ => ⟨S_, .f32⟩
  | .hbm, ⟨102, _⟩ => ⟨S8448x8x64, .f32⟩
  | .hbm, ⟨103, _⟩ => ⟨S8448x8x128, .f32⟩
  | .hbm, ⟨104, _⟩ => ⟨S8448x1024, .f32⟩
  | .hbm, ⟨105, _⟩ => ⟨S8448x1024, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_6 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_7 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_8 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩

abbrev nD : Nat := 1
abbrev τ : Topo := Topo.v7x

variable {F : FTy → Type} [FloatOps F]
-- ==== QkvBwd.lean ====
abbrev S8448x1024 : Shape := ⟨2, ![8448, 1024]⟩
abbrev S8448x512 : Shape := ⟨2, ![8448, 512]⟩
abbrev S8448x4096 : Shape := ⟨2, ![8448, 4096]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S8448x16 : Shape := ⟨2, ![8448, 16]⟩
abbrev S256x8x96 : Shape := ⟨3, ![256, 8, 96]⟩
abbrev S_ : Shape := ⟨0, ![]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S8448x64 : Shape := ⟨2, ![8448, 64]⟩
abbrev S8448x32 : Shape := ⟨2, ![8448, 32]⟩
abbrev S8448x128 : Shape := ⟨2, ![8448, 128]⟩
abbrev S8448x80 : Shape := ⟨2, ![8448, 80]⟩
abbrev S8448x48 : Shape := ⟨2, ![8448, 48]⟩
abbrev S8x256 : Shape := ⟨2, ![8, 256]⟩
abbrev S8x128 : Shape := ⟨2, ![8, 128]⟩
abbrev S384x1024 : Shape := ⟨2, ![384, 1024]⟩
abbrev S384x512 : Shape := ⟨2, ![384, 512]⟩
abbrev S384x128 : Shape := ⟨2, ![384, 128]⟩
abbrev S384x256 : Shape := ⟨2, ![384, 256]⟩
abbrev S384 : Shape := ⟨1, ![384]⟩
abbrev S384x1 : Shape := ⟨2, ![384, 1]⟩
abbrev S256 : Shape := ⟨1, ![256]⟩
abbrev S128 : Shape := ⟨1, ![128]⟩

abbrev nBuf : Space → Nat
  | .hbm => 71
  | .vmem => 29
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x512, .f32⟩
  | .hbm, ⟨3, _⟩ => ⟨S8448x4096, .f32⟩
  | .hbm, ⟨4, _⟩ => ⟨S1x256, .f32⟩
  | .hbm, ⟨5, _⟩ => ⟨S1x128, .f32⟩
  | .hbm, ⟨6, _⟩ => ⟨S256x768, .bf16⟩
  | .hbm, ⟨7, _⟩ => ⟨S128x1024, .bf16⟩
  | .hbm, ⟨8, _⟩ => ⟨S8448x16, .f32⟩
  | .hbm, ⟨9, _⟩ => ⟨S8448x16, .f32⟩
  | .hbm, ⟨10, _⟩ => ⟨S256x8x96, .bf16⟩
  | .hbm, ⟨11, _⟩ => ⟨S_, .i32⟩
  | .hbm, ⟨12, _⟩ => ⟨S_, .bf16⟩
  | .hbm, ⟨13, _⟩ => ⟨S256x8x128, .bf16⟩
  | .hbm, ⟨14, _⟩ => ⟨S256x1024, .bf16⟩
  | .hbm, ⟨15, _⟩ => ⟨S128x8x128, .bf16⟩
  | .hbm, ⟨16, _⟩ => ⟨S128x8x64, .bf16⟩
  | .hbm, ⟨17, _⟩ => ⟨S_, .i32⟩
  | .hbm, ⟨18, _⟩ => ⟨S_, .bf16⟩
  | .hbm, ⟨19, _⟩ => ⟨S128x8x128, .bf16⟩
  | .hbm, ⟨20, _⟩ => ⟨S128x1024, .bf16⟩
  | .hbm, ⟨21, _⟩ => ⟨S128x1024, .i32⟩
  | .hbm, ⟨22, _⟩ => ⟨S128x1024, .i32⟩
  | .hbm, ⟨23, _⟩ => ⟨S_, .i32⟩
  | .hbm, ⟨24, _⟩ => ⟨S128x1024, .i32⟩
  | .hbm, ⟨25, _⟩ => ⟨S128x1024, .i32⟩
  | .hbm, ⟨26, _⟩ => ⟨S_, .i32⟩
  | .hbm, ⟨27, _⟩ => ⟨S128x1024, .i32⟩
  | .hbm, ⟨28, _⟩ => ⟨S128x1024, .i1⟩
  | .hbm, ⟨29, _⟩ => ⟨S_, .i32⟩
  | .hbm, ⟨30, _⟩ => ⟨S128x1024, .i32⟩
  | .hbm, ⟨31, _⟩ => ⟨S128x1024, .i32⟩
  | .hbm, ⟨32, _⟩ => ⟨S128x1024, .i1⟩
  | .hbm, ⟨33, _⟩ => ⟨S128x1024, .i1⟩
  | .hbm, ⟨34, _⟩ => ⟨S_, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S128x1024, .bf16⟩
  | .hbm, ⟨40, _⟩ => ⟨S256x1024, .bf16⟩
  | .hbm, ⟨41, _⟩ => ⟨S128x8x64, .bf16⟩
  | .hbm, ⟨42, _⟩ => ⟨S_, .i32⟩
  | .hbm, ⟨43, _⟩ => ⟨S_, .bf16⟩
  | .hbm, ⟨44, _⟩ => ⟨S128x8x128, .bf16⟩
  | .hbm, ⟨45, _⟩ => ⟨S128x1024, .bf16⟩
  | .hbm, ⟨46, _⟩ => ⟨S128x8x128, .bf16⟩
  | .hbm, ⟨47, _⟩ => ⟨S128x8x64, .bf16⟩
  | .hbm, ⟨48, _⟩ => ⟨S128x512, .bf16⟩
  | .hbm, ⟨49, _⟩ => ⟨S_, .f32⟩
  | .hbm, ⟨50, _⟩ => ⟨S8448x64, .f32⟩
  | .hbm, ⟨51, _⟩ => ⟨S_, .f32⟩
  | .hbm, ⟨52, _⟩ => ⟨S8448x32, .f32⟩
  | .hbm, ⟨53, _⟩ => ⟨S8448x128, .f32⟩
  | .hbm, ⟨54, _⟩ => ⟨S_, .f32⟩
  | .hbm, ⟨55, _⟩ => ⟨S8448x80, .f32⟩
  | .hbm, ⟨56, _⟩ => ⟨S_, .f32⟩
  | .hbm, ⟨57, _⟩ => ⟨S8448x32, .f32⟩
  | .hbm, ⟨58, _⟩ => ⟨S8448x128, .f32⟩
  | .hbm, ⟨59, _⟩ => ⟨S_, .f32⟩
  | .hbm, ⟨60, _⟩ => ⟨S8448x64, .f32⟩
  | .hbm, ⟨61, _⟩ => ⟨S8448x16, .f32⟩
  | .hbm, ⟨62, _⟩ => ⟨S_, .f32⟩
  | .hbm, ⟨63, _⟩ => ⟨S8448x48, .f32⟩
  | .hbm, ⟨64, _⟩ => ⟨S8448x128, .f32⟩
  | .hbm, ⟨65, _⟩ => ⟨S8448x512, .bf16⟩
  | .hbm, ⟨66, _⟩ => ⟨S8448x1024, .bf16⟩
  | .hbm, ⟨67, _⟩ => ⟨S8448x1024, .bf16⟩
  | .hbm, ⟨68, _⟩ => ⟨S8448x512, .bf16⟩
  | .hbm, ⟨69, _⟩ => ⟨S8x256, .f32⟩
  | .hbm, ⟨70, _⟩ => ⟨S8x128, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S1x256, .f32⟩
  | .local _ .vmem, ⟨9, _⟩ => ⟨S1x128, .f32⟩
  | .local _ .vmem, ⟨10, _⟩ => ⟨S256x1024, .bf16⟩
  | .local _ .vmem, ⟨11, _⟩ => ⟨S256x1024, .bf16⟩
  | .local _ .vmem, ⟨12, _⟩ => ⟨S128x512, .bf16⟩
  | .local _ .vmem, ⟨13, _⟩ => ⟨S384x128, .f32⟩
  | .local _ .vmem, ⟨14, _⟩ => ⟨S384x128, .f32⟩
  | .local _ .vmem, ⟨15, _⟩ => ⟨S384x128, .f32⟩
  | .local _ .vmem, ⟨16, _⟩ => ⟨S384x128, .f32⟩
  | .local _ .vmem, ⟨17, _⟩ => ⟨S384x128, .f32⟩
  | .local _ .vmem, ⟨18, _⟩ => ⟨S384x128, .f32⟩
  | .local _ .vmem, ⟨19, _⟩ => ⟨S384x512, .bf16⟩
  | .local _ .vmem, ⟨20, _⟩ => ⟨S384x512, .bf16⟩
  | .local _ .vmem, ⟨21, _⟩ => ⟨S384x1024, .bf16⟩
  | .local _ .vmem, ⟨22, _⟩ => ⟨S384x1024, .bf16⟩
  | .local _ .vmem, ⟨23, _⟩ => ⟨S384x1024, .bf16⟩
  | .local _ .vmem, ⟨24, _⟩ => ⟨S384x1024, .bf16⟩
  | .local _ .vmem, ⟨25, _⟩ => ⟨S384x512, .bf16⟩
  | .local _ .vmem, ⟨26, _⟩ => ⟨S384x512, .bf16⟩
  | .local _ .vmem, ⟨27, _⟩ => ⟨S8x256, .f32⟩
  | .local _ .vmem, ⟨28, _⟩ => ⟨S8x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_cst_4 : Ref sig .tc := ⟨.hbm, 35, rfl⟩
abbrev main_call2_v0 : Ref sig .tc := ⟨.hbm, 36, rfl⟩
abbrev main_call2_v1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_call3_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_cst_9 : Ref sig .tc := ⟨.hbm, 56, rfl⟩
abbrev main_v30 : Ref sig .tc := ⟨.hbm, 57, rfl⟩
abbrev main_v31 : Ref sig .tc := ⟨.hbm, 58, rfl⟩
abbrev main_cst_10 : Ref sig .tc := ⟨.hbm, 59, rfl⟩
abbrev main_v32 : Ref sig .tc := ⟨.hbm, 60, rfl⟩
abbrev main_v33 : Ref sig .tc := ⟨.hbm, 61, rfl⟩
abbrev main_cst_11 : Ref sig .tc := ⟨.hbm, 62, rfl⟩
abbrev main_v34 : Ref sig .tc := ⟨.hbm, 63, rfl⟩
abbrev main_v35 : Ref sig .tc := ⟨.hbm, 64, rfl⟩
abbrev main_v36_0 : Ref sig .tc := ⟨.hbm, 65, rfl⟩
abbrev main_v36_1 : Ref sig .tc := ⟨.hbm, 66, rfl⟩
abbrev main_v36_2 : Ref sig .tc := ⟨.hbm, 67, rfl⟩
abbrev main_v36_3 : Ref sig .tc := ⟨.hbm, 68, rfl⟩
abbrev main_v36_4 : Ref sig .tc := ⟨.hbm, 69, rfl⟩
abbrev main_v36_5 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== QkvBwdReferenceIdeal.lean ====
abbrev S8448x1024 : Shape := ⟨2, ![8448, 1024]⟩
abbrev S8448x512 : Shape := ⟨2, ![8448, 512]⟩
abbrev S8448x4096 : Shape := ⟨2, ![8448, 4096]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S8448x16 : Shape := ⟨2, ![8448, 16]⟩
abbrev S_ : Shape := ⟨0, ![]⟩
abbrev S8448x8x96 : Shape := ⟨3, ![8448, 8, 96]⟩
abbrev S8448x8x64 : Shape := ⟨3, ![8448, 8, 64]⟩
abbrev S8448x8x32 : Shape := ⟨3, ![8448, 8, 32]⟩
abbrev S8448x1x16 : Shape := ⟨3, ![8448, 1, 16]⟩
abbrev S8448x8x16 : Shape := ⟨3, ![8448, 8, 16]⟩
abbrev S8448x8x128 : Shape := ⟨3, ![8448, 8, 128]⟩
abbrev S8448x256 : Shape := ⟨2, ![8448, 256]⟩
abbrev S8448x768 : Shape := ⟨2, ![8448, 768]⟩
abbrev S8448x128 : Shape := ⟨2, ![8448, 128]⟩
abbrev S8448x32 : Shape := ⟨2, ![8448, 32]⟩
abbrev S8448x1x32 : Shape := ⟨3, ![8448, 1, 32]⟩
abbrev S8448 : Shape := ⟨1, ![8448]⟩
abbrev S8448x1 : Shape := ⟨2, ![8448, 1]⟩
abbrev S256 : Shape := ⟨1, ![256]⟩
abbrev S128 : Shape := ⟨1, ![128]⟩
abbrev S8448x96 : Shape := ⟨2, ![8448, 96]⟩
abbrev S7x256 : Shape := ⟨2, ![7, 256]⟩
abbrev S8x256 : Shape := ⟨2, ![8, 256]⟩
abbrev S7x128 : Shape := ⟨2, ![7, 128]⟩
abbrev S8x128 : Shape := ⟨2, ![8, 128]⟩

abbrev nBuf : Space → Nat
  | .hbm => 242
  | .vmem => 0
  | .smem => 0
  | _ => 0

abbrev hbmTy0_0 (i : Nat) : BufTy := match i % 128 with
  | 0 => ⟨S8448x1024, .f32⟩
  | 1 => ⟨S8448x1024, .f32⟩
  | 2 => ⟨S8448x512, .f32⟩
  | 3 => ⟨S8448x4096, .f32⟩
  | 4 => ⟨S1x256, .f32⟩
  | 5 => ⟨S1x128, .f32⟩
  | 6 => ⟨S256x768, .bf16⟩
  | 7 => ⟨S128x1024, .bf16⟩
  | 8 => ⟨S8448x16, .f32⟩
  | 9 => ⟨S8448x16, .f32⟩
  | 10 => ⟨S_, .f32⟩
  | 11 => ⟨S8448x8x96, .f32⟩
  | 12 => ⟨S8448x8x64, .f32⟩
  | 13 => ⟨S8448x8x32, .f32⟩
  | 14 => ⟨S8448x1x16, .f32⟩
  | 15 => ⟨S8448x1x16, .f32⟩
  | 16 => ⟨S8448x8x16, .f32⟩
  | 17 => ⟨S8448x8x16, .f32⟩
  | 18 => ⟨S8448x8x16, .f32⟩
  | 19 => ⟨S8448x8x16, .f32⟩
  | 20 => ⟨S8448x8x16, .f32⟩
  | 21 => ⟨S8448x8x16, .f32⟩
  | 22 => ⟨S8448x8x16, .f32⟩
  | 23 => ⟨S8448x8x16, .f32⟩
  | 24 => ⟨S8448x8x16, .f32⟩
  | 25 => ⟨S8448x8x16, .f32⟩
  | 26 => ⟨S8448x8x16, .f32⟩
  | 27 => ⟨S8448x8x16, .f32⟩
  | 28 => ⟨S8448x8x32, .f32⟩
  | 29 => ⟨S8448x8x96, .f32⟩
  | 30 => ⟨S_, .f32⟩
  | 31 => ⟨S8448x8x96, .f32⟩
  | 32 => ⟨S8448x8x96, .f32⟩
  | 33 => ⟨S8448x8x128, .f32⟩
  | 34 => ⟨S8448x8x96, .f32⟩
  | 35 => ⟨S_, .f32⟩
  | 36 => ⟨S8448x8x96, .f32⟩
  | 37 => ⟨S8448x8x96, .f32⟩
  | 38 => ⟨S8448x8x64, .f32⟩
  | 39 => ⟨S8448x8x32, .f32⟩
  | 40 => ⟨S8448x8x16, .f32⟩
  | 41 => ⟨S8448x8x16, .f32⟩
  | 42 => ⟨S8448x8x16, .f32⟩
  | 43 => ⟨S8448x8x16, .f32⟩
  | 44 => ⟨S8448x8x16, .f32⟩
  | 45 => ⟨S8448x8x16, .f32⟩
  | 46 => ⟨S8448x8x16, .f32⟩
  | 47 => ⟨S8448x8x16, .f32⟩
  | 48 => ⟨S8448x8x16, .f32⟩
  | 49 => ⟨S8448x8x16, .f32⟩
  | 50 => ⟨S8448x8x16, .f32⟩
  | 51 => ⟨S8448x8x16, .f32⟩
  | 52 => ⟨S8448x8x16, .f32⟩
  | 53 => ⟨S8448x8x32, .f32⟩
  | 54 => ⟨S_, .f32⟩
  | 55 => ⟨S8448x8x96, .f32⟩
  | 56 => ⟨S_, .f32⟩
  | 57 => ⟨S8448x8x96, .f32⟩
  | 58 => ⟨S8448x8x96, .f32⟩
  | 59 => ⟨S8448x8x64, .f32⟩
  | 60 => ⟨S8448x8x32, .f32⟩
  | 61 => ⟨S8448x1x16, .f32⟩
  | 62 => ⟨S8448x1x16, .f32⟩
  | 63 => ⟨S8448x8x16, .f32⟩
  | 64 => ⟨S8448x8x16, .f32⟩
  | 65 => ⟨S8448x8x16, .f32⟩
  | 66 => ⟨S8448x8x16, .f32⟩
  | 67 => ⟨S8448x8x16, .f32⟩
  | 68 => ⟨S8448x8x16, .f32⟩
  | 69 => ⟨S8448x8x16, .f32⟩
  | 70 => ⟨S8448x8x16, .f32⟩
  | 71 => ⟨S8448x8x16, .f32⟩
  | 72 => ⟨S8448x8x16, .f32⟩
  | 73 => ⟨S8448x8x16, .f32⟩
  | 74 => ⟨S8448x8x16, .f32⟩
  | 75 => ⟨S8448x8x32, .f32⟩
  | 76 => ⟨S8448x8x96, .f32⟩
  | 77 => ⟨S8448x8x128, .f32⟩
  | 78 => ⟨S8448x8x96, .f32⟩
  | 79 => ⟨S8448x8x64, .f32⟩
  | 80 => ⟨S8448x8x32, .f32⟩
  | 81 => ⟨S8448x8x16, .f32⟩
  | 82 => ⟨S8448x8x16, .f32⟩
  | 83 => ⟨S8448x8x16, .f32⟩
  | 84 => ⟨S8448x8x16, .f32⟩
  | 85 => ⟨S8448x8x16, .f32⟩
  | 86 => ⟨S8448x8x16, .f32⟩
  | 87 => ⟨S8448x8x16, .f32⟩
  | 88 => ⟨S8448x8x16, .f32⟩
  | 89 => ⟨S8448x8x16, .f32⟩
  | 90 => ⟨S8448x8x16, .f32⟩
  | 91 => ⟨S8448x8x16, .f32⟩
  | 92 => ⟨S8448x8x16, .f32⟩
  | 93 => ⟨S8448x8x16, .f32⟩
  | 94 => ⟨S8448x8x32, .f32⟩
  | 95 => ⟨S_, .f32⟩
  | 96 => ⟨S8448x8x96, .f32⟩
  | 97 => ⟨S_, .f32⟩
  | 98 => ⟨S8448x8x96, .f32⟩
  | 99 => ⟨S8448x8x96, .f32⟩
  | 100 => ⟨S_, .f32⟩
  | 101 => ⟨S8448x256, .f32⟩
  | 102 => ⟨S256x768, .f32⟩
  | 103 => ⟨S8448x768, .f32⟩
  | 104 => ⟨S8448x768, .f32⟩
  | 105 => ⟨S8448x256, .f32⟩
  | 106 => ⟨S_, .f32⟩
  | 107 => ⟨S8448x128, .f32⟩
  | 108 => ⟨S_, .f32⟩
  | 109 => ⟨S8448x32, .f32⟩
  | 110 => ⟨S128x1024, .f32⟩
  | 111 => ⟨S8448x1024, .f32⟩
  | 112 => ⟨S8448x8x128, .f32⟩
  | 113 => ⟨S8448x1x32, .f32⟩
  | 114 => ⟨S8448x8x32, .f32⟩
  | 115 => ⟨S8448x8x64, .f32⟩
  | 116 => ⟨S8448x8x96, .f32⟩
  | 117 => ⟨S8448x8x64, .f32⟩
  | 118 => ⟨S8448x8x64, .f32⟩
  | 119 => ⟨S_, .f32⟩
  | 120 => ⟨S8448x8x128, .f32⟩
  | 121 => ⟨S8448x8x64, .f32⟩
  | 122 => ⟨S8448x8x32, .f32⟩
  | 123 => ⟨S_, .f32⟩
  | 124 => ⟨S8448x8x128, .f32⟩
  | 125 => ⟨S8448x8x128, .f32⟩
  | 126 => ⟨S_, .f32⟩
  | 127 => ⟨S8448x32, .f32⟩
  | _ => ⟨S8448x1024, .f32⟩

abbrev hbmTy0_1 (i : Nat) : BufTy := match i % 128 with
  | 0 => ⟨S8448x1x32, .f32⟩
  | 1 => ⟨S_, .f32⟩
  | 2 => ⟨S8448x32, .f32⟩
  | 3 => ⟨S8448x1024, .f32⟩
  | 4 => ⟨S8448x128, .f32⟩
  | 5 => ⟨S8448x256, .f32⟩
  | 6 => ⟨S8448x128, .f32⟩
  | 7 => ⟨S8448x256, .f32⟩
  | 8 => ⟨S_, .f32⟩
  | 9 => ⟨S8448x256, .f32⟩
  | 10 => ⟨S8448x256, .f32⟩
  | 11 => ⟨S_, .f32⟩
  | 12 => ⟨S8448, .f32⟩
  | 13 => ⟨S8448x1, .f32⟩
  | 14 => ⟨S_, .f32⟩
  | 15 => ⟨S8448x1, .f32⟩
  | 16 => ⟨S8448x1, .f32⟩
  | 17 => ⟨S_, .f32⟩
  | 18 => ⟨S8448x1, .f32⟩
  | 19 => ⟨S8448x1, .f32⟩
  | 20 => ⟨S8448x1, .f32⟩
  | 21 => ⟨S8448x1, .f32⟩
  | 22 => ⟨S_, .f32⟩
  | 23 => ⟨S8448x1, .f32⟩
  | 24 => ⟨S8448x1, .f32⟩
  | 25 => ⟨S8448x256, .f32⟩
  | 26 => ⟨S8448x256, .f32⟩
  | 27 => ⟨S8448x256, .f32⟩
  | 28 => ⟨S8448x256, .f32⟩
  | 29 => ⟨S8448x256, .f32⟩
  | 30 => ⟨S_, .f32⟩
  | 31 => ⟨S256, .f32⟩
  | 32 => ⟨S1x256, .f32⟩
  | 33 => ⟨S8448x256, .f32⟩
  | 34 => ⟨S8448x256, .f32⟩
  | 35 => ⟨S8448x256, .f32⟩
  | 36 => ⟨S_, .f32⟩
  | 37 => ⟨S8448, .f32⟩
  | 38 => ⟨S8448x1, .f32⟩
  | 39 => ⟨S8448x256, .f32⟩
  | 40 => ⟨S8448x256, .f32⟩
  | 41 => ⟨S8448x1, .f32⟩
  | 42 => ⟨S_, .f32⟩
  | 43 => ⟨S8448x1, .f32⟩
  | 44 => ⟨S8448x1, .f32⟩
  | 45 => ⟨S_, .f32⟩
  | 46 => ⟨S8448, .f32⟩
  | 47 => ⟨S8448x256, .f32⟩
  | 48 => ⟨S8448x256, .f32⟩
  | 49 => ⟨S8448x256, .f32⟩
  | 50 => ⟨S8448x128, .f32⟩
  | 51 => ⟨S_, .f32⟩
  | 52 => ⟨S8448x128, .f32⟩
  | 53 => ⟨S8448x128, .f32⟩
  | 54 => ⟨S_, .f32⟩
  | 55 => ⟨S8448, .f32⟩
  | 56 => ⟨S8448x1, .f32⟩
  | 57 => ⟨S_, .f32⟩
  | 58 => ⟨S8448x1, .f32⟩
  | 59 => ⟨S8448x1, .f32⟩
  | 60 => ⟨S_, .f32⟩
  | 61 => ⟨S8448x1, .f32⟩
  | 62 => ⟨S8448x1, .f32⟩
  | 63 => ⟨S8448x1, .f32⟩
  | 64 => ⟨S8448x1, .f32⟩
  | 65 => ⟨S_, .f32⟩
  | 66 => ⟨S8448x1, .f32⟩
  | 67 => ⟨S8448x1, .f32⟩
  | 68 => ⟨S8448x128, .f32⟩
  | 69 => ⟨S8448x128, .f32⟩
  | 70 => ⟨S8448x128, .f32⟩
  | 71 => ⟨S8448x128, .f32⟩
  | 72 => ⟨S8448x128, .f32⟩
  | 73 => ⟨S_, .f32⟩
  | 74 => ⟨S128, .f32⟩
  | 75 => ⟨S1x128, .f32⟩
  | 76 => ⟨S8448x128, .f32⟩
  | 77 => ⟨S8448x128, .f32⟩
  | 78 => ⟨S8448x128, .f32⟩
  | 79 => ⟨S_, .f32⟩
  | 80 => ⟨S8448, .f32⟩
  | 81 => ⟨S8448x1, .f32⟩
  | 82 => ⟨S8448x128, .f32⟩
  | 83 => ⟨S8448x128, .f32⟩
  | 84 => ⟨S8448x1, .f32⟩
  | 85 => ⟨S_, .f32⟩
  | 86 => ⟨S8448x1, .f32⟩
  | 87 => ⟨S8448x1, .f32⟩
  | 88 => ⟨S_, .f32⟩
  | 89 => ⟨S8448, .f32⟩
  | 90 => ⟨S8448x128, .f32⟩
  | 91 => ⟨S8448x128, .f32⟩
  | 92 => ⟨S8448x128, .f32⟩
  | 93 => ⟨S_, .f32⟩
  | 94 => ⟨S8448x96, .f32⟩
  | 95 => ⟨S8448x512, .f32⟩
  | 96 => ⟨S_, .f32⟩
  | 97 => ⟨S7x256, .f32⟩
  | 98 => ⟨S8x256, .f32⟩
  | 99 => ⟨S_, .f32⟩
  | 100 => ⟨S7x128, .f32⟩
  | 101 => ⟨S8x128, .f32⟩
  | 102 => ⟨S8448x512, .bf16⟩
  | 103 => ⟨S_, .f32⟩
  | 104 => ⟨S8448x8x32, .f32⟩
  | 105 => ⟨S8448x8x128, .f32⟩
  | 106 => ⟨S8448x1024, .f32⟩
  | 107 => ⟨S8448x1024, .bf16⟩
  | 108 => ⟨S_, .f32⟩
  | 109 => ⟨S8448x8x32, .f32⟩
  | 110 => ⟨S8448x8x128, .f32⟩
  | 111 => ⟨S8448x1024, .f32⟩
  | 112 => ⟨S8448x1024, .bf16⟩
  | 113 => ⟨S8448x512, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_4 : Ref sig .tc := ⟨.hbm, 95, rfl⟩
abbrev main_v80 : Ref sig .tc := ⟨.hbm, 96, rfl⟩
abbrev main_cst_5 : Ref sig .tc := ⟨.hbm, 97, rfl⟩
abbrev main_v81 : Ref sig .tc := ⟨.hbm, 98, rfl⟩
abbrev main_v82 : Ref sig .tc := ⟨.hbm, 99, rfl⟩
abbrev main_cst_6 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_7 : Ref sig .tc := ⟨.hbm, 106, rfl⟩
abbrev main_v88 : Ref sig .tc := ⟨.hbm, 107, rfl⟩
abbrev main_cst_8 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_9 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_10 : Ref sig .tc := ⟨.hbm, 123, rfl⟩
abbrev main_v102 : Ref sig .tc := ⟨.hbm, 124, rfl⟩
abbrev main_v103 : Ref sig .tc := ⟨.hbm, 125, rfl⟩
abbrev main_cst_11 : Ref sig .tc := ⟨.hbm, 126, rfl⟩
abbrev main_v104 : Ref sig .tc := ⟨.hbm, 127, rfl⟩
abbrev main_v105 : Ref sig .tc := ⟨.hbm, 128, rfl⟩
abbrev main_cst_12 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_13 : Ref sig .tc := ⟨.hbm, 136, rfl⟩
abbrev main_v112 : Ref sig .tc := ⟨.hbm, 137, rfl⟩
abbrev main_v113 : Ref sig .tc := ⟨.hbm, 138, rfl⟩
abbrev main_cst_14 : Ref sig .tc := ⟨.hbm, 139, rfl⟩
abbrev main_v114 : Ref sig .tc := ⟨.hbm, 140, rfl⟩
abbrev main_v115 : Ref sig .tc := ⟨.hbm, 141, rfl⟩
abbrev main_cst_15 : Ref sig .tc := ⟨.hbm, 142, rfl⟩
abbrev main_v116 : Ref sig .tc := ⟨.hbm, 143, rfl⟩
abbrev main_v117 : Ref sig .tc := ⟨.hbm, 144, rfl⟩
abbrev main_cst_16 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_17 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_18 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_19 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_20 : Ref sig .tc := ⟨.hbm, 170, rfl⟩
abbrev main_v139 : Ref sig .tc := ⟨.hbm, 171, rfl⟩
abbrev main_v140 : Ref sig .tc := ⟨.hbm, 172, rfl⟩
abbrev main_cst_21 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_22 : Ref sig .tc := ⟨.hbm, 179, rfl⟩
abbrev main_v146 : Ref sig .tc := ⟨.hbm, 180, rfl⟩
abbrev main_v147 : Ref sig .tc := ⟨.hbm, 181, rfl⟩
abbrev main_cst_23 : Ref sig .tc := ⟨.hbm, 182, rfl⟩
abbrev main_v148 : Ref sig .tc := ⟨.hbm, 183, rfl⟩
abbrev main_v149 : Ref sig .tc := ⟨.hbm, 184, rfl⟩
abbrev main_cst_24 : Ref sig .tc := ⟨.hbm, 185, rfl⟩
abbrev main_v150 : Ref sig .tc := ⟨.hbm, 186, rfl⟩
abbrev main_v151 : Ref sig .tc := ⟨.hbm, 187, rfl⟩
abbrev main_cst_25 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_26 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_27 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_cst_28 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_cst_29 : Ref sig .tc := ⟨.hbm, 213, rfl⟩
abbrev main_v173 : Ref sig .tc := ⟨.hbm, 214, rfl⟩
abbrev main_v174 : Ref sig .tc := ⟨.hbm, 215, rfl⟩
abbrev main_cst_30 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_cst_31 : Ref sig .tc := ⟨.hbm, 221, rfl⟩
abbrev main_v179 : Ref sig .tc := ⟨.hbm, 222, rfl⟩
abbrev main_v180 : Ref sig .tc := ⟨.hbm, 223, rfl⟩
abbrev main_cst_32 : Ref sig .tc := ⟨.hbm, 224, rfl⟩
abbrev main_v181 : Ref sig .tc := ⟨.hbm, 225, rfl⟩
abbrev main_v182 : Ref sig .tc := ⟨.hbm, 226, rfl⟩
abbrev main_cst_33 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_cst_34 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_35 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩

abbrev nD : Nat := 1
abbrev τ : Topo := Topo.v7x

variable {F : FTy → Type} [FloatOps F]
-- ==== Proof.ConvMath.lean ====
/- The closed forms of the gradient of the gated causal short convolution: for `y = b · conv(c · h, w)` with three taps,
   the gradient of its three inputs and of its weights, over the extended reals. -/
module

public import proofs.«01_k».proof.Defs
public import Idealize.ShloMosaic.Lib.Pointwise

@[expose] public section

noncomputable section

namespace Cert.ConvMath

open Idealize.ShloMosaic

/-- The result's gradient, [8448, 512]. -/
abbrev SDy : Shape := ⟨2, ![8448, 512]⟩
/-- The projections, [8448, 4096]: columns 0, 512 and 1024 begin the inputs b, c and h. -/
abbrev SZ : Shape := ⟨2, ![8448, 4096]⟩
/-- The weights, [3, 512]. -/
abbrev SW : Shape := ⟨2, ![3, 512]⟩
/-- The gradient of the three inputs, [8448, 1536]. -/
abbrev SDz : Shape := ⟨2, ![8448, 1536]⟩
/-- The gradient of the weights under five rows of zeros, [8, 512]. -/
abbrev SDw : Shape := ⟨2, ![8, 512]⟩

variable (dy : SDy.Idx → EReal) (z : SZ.Idx → EReal) (w : SW.Idx → EReal)

/-- The convolution's input `c · h` at row `t`, zero after the last row. -/
def u (t : ℕ) (l : Fin 512) : EReal :=
  if h : t < 8448 then
    z (ix2 (⟨t, h⟩ : Fin 8448) (⟨512 + l.val, by omega⟩ : Fin 4096)) * z (ix2 (⟨t, h⟩ : Fin 8448) (⟨1024 + l.val, by omega⟩ : Fin 4096))
  else 0

/-- The convolution's input under two rows of zeros. -/
def up (t : ℕ) (l : Fin 512) : EReal := if t < 2 then 0 else u z (t - 2) l

/-- The gradient of the convolution's result, `dy · b` at row `t`, zero after the last row. -/
def e (t : ℕ) (l : Fin 512) : EReal :=
  if h : t < 8448 then dy (ix2 (⟨t, h⟩ : Fin 8448) l) * z (ix2 (⟨t, h⟩ : Fin 8448) (⟨l.val, by omega⟩ : Fin 4096)) else 0

/-- The convolution's result at row `t`. -/
def conv (t : ℕ) (l : Fin 512) : EReal :=
  w (ix2 (0 : Fin 3) l) * up z t l + w (ix2 (1 : Fin 3) l) * up z (t + 1) l + w (ix2 (2 : Fin 3) l) * up z (t + 2) l

/-- The gradient of the convolution's input at row `t`. -/
def du (t : ℕ) (l : Fin 512) : EReal :=
  w (ix2 (2 : Fin 3) l) * e dy z t l + w (ix2 (1 : Fin 3) l) * e dy z (t + 1) l + w (ix2 (0 : Fin 3) l) * e dy z (t + 2) l

/-- The gradient of b, c and h side by side. -/
def dz (j : SDz.Idx) : EReal :=
  if h : (j 1).val < 512 then
    dy (ix2 (⟨(j 0).val, (j 0).isLt⟩ : Fin 8448) (⟨(j 1).val, h⟩ : Fin 512)) * conv z w (j 0).val ⟨(j 1).val, h⟩
  else if h' : (j 1).val < 1024 then
    du dy z w (j 0).val ⟨(j 1).val - 512, by omega⟩
      * z (ix2 (⟨(j 0).val, (j 0).isLt⟩ : Fin 8448) (⟨(j 1).val + 512, by omega⟩ : Fin 4096))
  else
    du dy z w (j 0).val ⟨(j 1).val - 1024, by have : (j 1).val < 1536 := (j 1).isLt; omega⟩
      * z (ix2 (⟨(j 0).val, (j 0).isLt⟩ : Fin 8448) (⟨(j 1).val - 512, by have : (j 1).val < 1536 := (j 1).isLt; omega⟩ : Fin 4096))

/-- The gradient of the weights: each tap's sum over the rows, zero from row 3 on. -/
def dw (j : SDw.Idx) : EReal :=
  if (j 0).val < 3 then ∑ t : Fin 8448, e dy z t.val (⟨(j 1).val, (j 1).isLt⟩ : Fin 512) * up z (t.val + (j 0).val) (⟨(j 1).val, (j 1).isLt⟩ : Fin 512) else 0

/-- The layer's result at row `t`: `b · conv`. -/
def fwd (t : Fin 8448) (l : Fin 512) : EReal := z (ix2 t (⟨l.val, by omega⟩ : Fin 4096)) * conv z w t.val l

theorem u_eq (t : ℕ) (l : Fin 512) (h : t < 8448) : u z t l =
    z (ix2 (⟨t, h⟩ : Fin 8448) (⟨512 + l.val, by omega⟩ : Fin 4096)) * z (ix2 (⟨t, h⟩ : Fin 8448) (⟨1024 + l.val, by omega⟩ : Fin 4096)) := dif_pos h

theorem dz_ix2 (t : Fin 8448) (l : Fin 1536) : dz dy z w (ix2 t l) =
    if h : l.val < 512 then dy (ix2 t (⟨l.val, h⟩ : Fin 512)) * conv z w t.val ⟨l.val, h⟩
    else if h' : l.val < 1024 then
      du dy z w t.val ⟨l.val - 512, by omega⟩ * z (ix2 t (⟨l.val + 512, by omega⟩ : Fin 4096))
    else
      du dy z w t.val ⟨l.val - 1024, by omega⟩ * z (ix2 t (⟨l.val - 512, by omega⟩ : Fin 4096)) := rfl

theorem dw_ix2 (r : Fin 8) (l : Fin 512) : dw dy z (ix2 r l) =
    if r.val < 3 then ∑ t : Fin 8448, e dy z t.val l * up z (t.val + r.val) l else 0 := rfl

end Cert.ConvMath
end
-- ==== Proof.Rows.lean ====
/- Reading an [8, C] accumulator whose rows are stored one at a time. -/
module

public import Idealize.ShloMosaic.Lib.Pipeline.ValueKit
public import Idealize.ShloMosaic.Lib.Pipeline.ReadBack
public import Idealize.ShloMosaic.Lib.WritesUnit
public import Idealize.ShloMosaic.Lib.Pointwise

@[expose] public section

noncomputable section

namespace Cert.Rows

open Idealize.ShloMosaic

variable {Val : EltTy → Type} {e : EltTy} {C : ℕ}

/-- The newest store of one row, read from a list of stores over unknown contents. -/
theorem canon_row [∀ e, Nonempty (Val e)] {k : ℕ} (inb : ∀ a : Fin 2, (![k, 0] : Fin 2 → ℕ) a + (![1, C] : Fin 2 → ℕ) a ≤ (![8, C] : Fin 2 → ℕ) a)
    (w : (Rect.unit (s := ⟨2, ![8, C]⟩) ![k, 0] ![1, C] inb).shape.Idx → Val e) (L : List (View.Piece Val (⟨2, ![8, C]⟩ : Shape) e))
    (r : Fin 8) (l : Fin C) :
    View.canon ((⟨Rect.unit (s := ⟨2, ![8, C]⟩) ![k, 0] ![1, C] inb, w⟩ : View.Piece Val (⟨2, ![8, C]⟩ : Shape) e) :: L) (ix2 r l)
      = if r.val = k then w (ix2 (0 : Fin 1) l) else View.canon L (ix2 r l) := by
  split
  · rename_i h
    have hy : (Rect.unit (s := ⟨2, ![8, C]⟩) ![k, 0] ![1, C] inb).emb (ix2 (0 : Fin 1) l) = ix2 r l := by
      funext a
      apply Fin.ext
      match a with
      | ⟨0, _⟩ => show k + 1 * 0 = r.val; omega
      | ⟨1, _⟩ => show 0 + 1 * l.val = l.val; omega
    rw [← hy]
    exact View.canon_cons_emb _ _ _ _
  · rename_i h
    refine View.canon_cons_of_not_mem _ _ ?_
    show ix2 r l ∉ (Rect.unit (s := ⟨2, ![8, C]⟩) ![k, 0] ![1, C] inb).set
    rw [Rect.mem_set_unit]
    intro hm
    have h0 : k ≤ r.val ∧ r.val < k + 1 := hm 0
    omega

/-- The newest store of one row, read from a list of stores over given contents. -/
theorem read_row {sig : RefSig} {κ : Kind} {sp : Space} {v : View sig κ sp ⟨2, ![8, C]⟩ e} {f : v.ty.Contents Val}
    {k : ℕ} (inb : ∀ a : Fin 2, (![k, 0] : Fin 2 → ℕ) a + (![1, C] : Fin 2 → ℕ) a ≤ (![8, C] : Fin 2 → ℕ) a)
    (w : (Rect.unit (s := ⟨2, ![8, C]⟩) ![k, 0] ![1, C] inb).shape.Idx → Val e) (L : List (View.Piece Val (⟨2, ![8, C]⟩ : Shape) e))
    (r : Fin 8) (l : Fin C) :
    v.read Val (v.writes Val f ((⟨Rect.unit (s := ⟨2, ![8, C]⟩) ![k, 0] ![1, C] inb, w⟩ : View.Piece Val (⟨2, ![8, C]⟩ : Shape) e) :: L)) (ix2 r l)
      = if r.val = k then w (ix2 (0 : Fin 1) l) else v.read Val (v.writes Val f L) (ix2 r l) := by
  split
  · rename_i h
    exact View.read_writes_cons_rows_of_mem v f inb w L (ix2 r l) (ix2 (0 : Fin 1) l) rfl (by show r.val = k + 0; omega) rfl
  · rename_i h
    exact View.read_writes_cons_rows_of_not_mem v f inb w L (ix2 r l) rfl (W := 1) rfl (by show r.val < k ∨ k + 1 ≤ r.val; omega)

/-- A load of one row. -/
theorem ld_row {k : ℕ} (hk : k < 8) (inb : ∀ a : Fin 2, (![k, 0] : Fin 2 → ℕ) a + (![1, C] : Fin 2 → ℕ) a ≤ (![8, C] : Fin 2 → ℕ) a)
    (X : (⟨2, ![8, C]⟩ : Shape).Idx → Val e) (l : Fin C) :
    View.ld X (Rect.unit (s := ⟨2, ![8, C]⟩) ![k, 0] ![1, C] inb) (ix2 (0 : Fin 1) l) = X (ix2 (⟨k, hk⟩ : Fin 8) l) := by
  show X ((Rect.unit (s := ⟨2, ![8, C]⟩) ![k, 0] ![1, C] inb).emb (ix2 (0 : Fin 1) l)) = _
  congr 1
  funext a
  apply Fin.ext
  match a with
  | ⟨0, _⟩ => show k + 1 * 0 = k; omega
  | ⟨1, _⟩ => show 0 + 1 * l.val = l.val; omega

end Cert.Rows
end
-- ==== Proof.ConvKernel.lean ====
/- The kernel of the gated short convolution's gradient, read at an index: eleven blocks of rows, each with eight rows of the blocks beside it. -/
module

public import proofs.«01_k».proof.Proof.Gen.KernelIdeal.Value
public import proofs.«01_k».proof.Proof.ConvMath
public import proofs.«01_k».proof.Proof.Rows

@[expose] public section

set_option maxRecDepth 16384

noncomputable section

namespace Cert.KernelIdeal.Conv

open Cert.KernelIdeal Cert.KernelIdeal.Gen Idealize.ShloMosaic Idealize.ShloMosaic.TcCoe Idealize.SL.Sem
open Idealize.ShloMosaic.Pipeline (Dat)
open Cert

variable (m : (ℓ : Loc nD τ sig) → Buf (Elt Ideal) ℓ) (ρ : Dev nD → PrngReg)

abbrev dyv (c : Dev nD) : ConvMath.SDy.Idx → EReal := m (c, main_arg0)
abbrev zv (c : Dev nD) : ConvMath.SZ.Idx → EReal := m (c, main_arg1)
abbrev wv (c : Dev nD) : ConvMath.SW.Idx → EReal := m (c, main_arg2)

theorem coords0 : ∀ t : Fin cfg0.N, (grid0.coords t 0).val = t.val :=
  (by decide +kernel : ∀ t : Fin grid0.N, (grid0.coords t 0).val = t.val)

theorem idx0 : ∀ t : Fin cfg0.N, win0_0.index t = ![t.val, 0] ∧ win0_1.index t = ![t.val, 0] ∧ win0_2.index t = ![t.val, 1]
    ∧ win0_3.index t = ![t.val, 2] ∧ win0_4.index t = ![96 * t.val - 1, 1] ∧ win0_5.index t = ![96 * t.val - 1, 2]
    ∧ win0_6.index t = ![min (96 * t.val + 96) 1055, 0] ∧ win0_7.index t = ![min (96 * t.val + 96) 1055, 0] ∧ win0_8.index t = ![0, 0]
    ∧ win0_9.index t = ![t.val, 0] ∧ win0_10.index t = ![0, 0] :=
  (by decide +kernel : ∀ t : Fin grid0.N, win0_0.index t = ![t.val, 0] ∧ win0_1.index t = ![t.val, 0] ∧ win0_2.index t = ![t.val, 1]
    ∧ win0_3.index t = ![t.val, 2] ∧ win0_4.index t = ![96 * t.val - 1, 1] ∧ win0_5.index t = ![96 * t.val - 1, 2]
    ∧ win0_6.index t = ![min (96 * t.val + 96) 1055, 0] ∧ win0_7.index t = ![min (96 * t.val + 96) 1055, 0] ∧ win0_8.index t = ![0, 0]
    ∧ win0_9.index t = ![t.val, 0] ∧ win0_10.index t = ![0, 0])

theorem lt11 (t : Fin cfg0.N) : t.val < 11 := N_0 ▸ t.isLt

/-! ## The blocks that a point reads -/

theorem b0 (c : Dev nD) (t : Fin cfg0.N) (r : Fin 768) (l : Fin 512) :
    iblk m c 0 t (ix2 r l) = dyv m c (ix2 (⟨768 * t.val + r.val, by have := lt11 t; omega⟩ : Fin 8448) l) := by
  have := lt11 t
  blk_ext [iblk, V_main_arg0 m c, idx0 t]

theorem b1 (c : Dev nD) (t : Fin cfg0.N) (r : Fin 768) (l : Fin 512) :
    iblk m c 1 t (ix2 r l) = zv m c (ix2 (⟨768 * t.val + r.val, by have := lt11 t; omega⟩ : Fin 8448) (⟨l.val, by omega⟩ : Fin 4096)) := by
  have := lt11 t
  blk_ext [iblk, V_main_arg1 m c, idx0 t]

theorem b2 (c : Dev nD) (t : Fin cfg0.N) (r : Fin 768) (l : Fin 512) :
    iblk m c 2 t (ix2 r l) = zv m c (ix2 (⟨768 * t.val + r.val, by have := lt11 t; omega⟩ : Fin 8448) (⟨512 + l.val, by omega⟩ : Fin 4096)) := by
  have := lt11 t
  blk_ext [iblk, V_main_arg1 m c, idx0 t]

theorem b3 (c : Dev nD) (t : Fin cfg0.N) (r : Fin 768) (l : Fin 512) :
    iblk m c 3 t (ix2 r l) = zv m c (ix2 (⟨768 * t.val + r.val, by have := lt11 t; omega⟩ : Fin 8448) (⟨1024 + l.val, by omega⟩ : Fin 4096)) := by
  have := lt11 t
  blk_ext [iblk, V_main_arg1 m c, idx0 t]

theorem b4 (c : Dev nD) (t : Fin cfg0.N) (r : Fin 8) (l : Fin 512) :
    iblk m c 4 t (ix2 r l) = zv m c (ix2 (⟨8 * (96 * t.val - 1) + r.val, by have := lt11 t; omega⟩ : Fin 8448) (⟨512 + l.val, by omega⟩ : Fin 4096)) := by
  have := lt11 t
  blk_ext [iblk, V_main_arg1 m c, idx0 t]

theorem b5 (c : Dev nD) (t : Fin cfg0.N) (r : Fin 8) (l : Fin 512) :
    iblk m c 5 t (ix2 r l) = zv m c (ix2 (⟨8 * (96 * t.val - 1) + r.val, by have := lt11 t; omega⟩ : Fin 8448) (⟨1024 + l.val, by omega⟩ : Fin 4096)) := by
  have := lt11 t
  blk_ext [iblk, V_main_arg1 m c, idx0 t]

theorem b6 (c : Dev nD) (t : Fin cfg0.N) (r : Fin 8) (l : Fin 512) :
    iblk m c 6 t (ix2 r l) = dyv m c (ix2 (⟨8 * min (96 * t.val + 96) 1055 + r.val, by have := lt11 t; omega⟩ : Fin 8448) l) := by
  have := lt11 t
  blk_ext [iblk, V_main_arg0 m c, idx0 t]

theorem b7 (c : Dev nD) (t : Fin cfg0.N) (r : Fin 8) (l : Fin 512) :
    iblk m c 7 t (ix2 r l) = zv m c (ix2 (⟨8 * min (96 * t.val + 96) 1055 + r.val, by have := lt11 t; omega⟩ : Fin 8448) (⟨l.val, by omega⟩ : Fin 4096)) := by
  have := lt11 t
  blk_ext [iblk, V_main_arg1 m c, idx0 t]

theorem V_w8 (c : Dev nD) : V m c main_v0
    = pad S8x512 ![0, 0] ![5, 0] ![0, 0] (wv m c) (sitofp (F := Ideal) .f32 (constantI S_ 32 0#32)) pads_S3x512_S8x512_050_000 h_S_ := by
  simp only [V, hostOps0, hostOps0_1, List.flatten_cons, List.flatten_nil, List.append_nil, List.cons_append, List.nil_append]
  entry_read
  rfl

theorem b8 (c : Dev nD) (t : Fin cfg0.N) (k : Fin 8) (l : Fin 512) (hk : k.val < 3) :
    iblk m c 8 t (ix2 k l) = wv m c (ix2 (⟨k.val, hk⟩ : Fin 3) l) := by
  have hp : (win0_8.blk t).view.emb (ix2 k l) = ix2 (k : Fin 8) (l : Fin 512) := by
    blk_ext [iblk, idx0 t]
  show V m c main_v0 ((win0_8.blk t).view.emb (ix2 k l)) = _
  rw [hp, V_w8]
  pointwise
  rw [dif_pos (by omega)]

/-! ## The shifted sequences -/

theorem sgt_eq (t : Fin cfg0.N) : Scalar.cmpi .sgt (BitVec.ofNat 32 (grid0.coords t 0).val) 0#32 = if t.val = 0 then 0#1 else 1#1 := by
  rw [coords0]; exact (by decide +kernel : ∀ t : Fin 11, Scalar.cmpi .sgt (BitVec.ofNat 32 t.val) 0#32 = if t.val = 0 then 0#1 else 1#1) ⟨t.val, lt11 t⟩

theorem slt_eq (t : Fin cfg0.N) : Scalar.cmpi .slt (BitVec.ofNat 32 (grid0.coords t 0).val) 10#32 = if t.val = 10 then 0#1 else 1#1 := by
  rw [coords0]; exact (by decide +kernel : ∀ t : Fin 11, Scalar.cmpi .slt (BitVec.ofNat 32 t.val) 10#32 = if t.val = 10 then 0#1 else 1#1) ⟨t.val, lt11 t⟩

/-- The rows before the block: the two last rows of the block before it, zero at the first block. -/
theorem halo_up (c : Dev nD) (t : Fin cfg0.N) (r : Fin 8) (l : Fin 512) (hr : 6 ≤ r.val) :
    Scalar.select (if t.val = 0 then 0#1 else 1#1) (@HMul.hMul EReal EReal EReal instHMul (iblk m c 4 t (ix2 r l)) (iblk m c 5 t (ix2 r l))) 0
      = ConvMath.up (zv m c) (768 * t.val + r.val - 6) l := by
  have := lt11 t
  unfold ConvMath.up
  by_cases h : t.val = 0
  · rw [if_pos h, if_pos (by omega)]; rfl
  · rw [if_neg h, if_neg (by omega), ConvMath.u_eq _ _ _ (by omega), b4, b5]
    have e : 768 * t.val + r.val - 6 - 2 = 8 * (96 * t.val - 1) + r.val := by omega
    simp only [e]; rfl

theorem s0_apply (c : Dev nD) (t : Fin cfg0.N) (r : Fin 768) (l : Fin 512) :
    k0_pay3 (F := Ideal) (iblk m c 2 t) (iblk m c 3 t) (ix2 r l) = ConvMath.up (zv m c) (768 * t.val + r.val + 2) l := by
  have := lt11 t
  unfold ConvMath.up
  rw [if_neg (by omega), ConvMath.u_eq _ _ _ (by omega), k0_pay3, mulf_apply, b2, b3]
  rfl

theorem ue_apply (c : Dev nD) (t : Fin cfg0.N) (r : Fin 776) (l : Fin 512) (hr : 6 ≤ r.val) :
    k0_pay4 (F := Ideal) (grid0.coords t) (iblk m c 2 t) (iblk m c 3 t) (iblk m c 4 t) (iblk m c 5 t) (ix2 r l)
      = ConvMath.up (zv m c) (768 * t.val + r.val - 6) l := by
  have := lt11 t
  pointwise [k0_pay4]
  split
  · rename_i h
    rw [sgt_eq]
    exact halo_up m c t ⟨r.val, h⟩ l hr
  · rename_i h
    rw [s0_apply]
    congr 1
    simp only
    omega

theorem s1_apply (c : Dev nD) (t : Fin cfg0.N) (r : Fin 768) (l : Fin 512) :
    k0_pay5 (F := Ideal) (grid0.coords t) (iblk m c 2 t) (iblk m c 3 t) (iblk m c 4 t) (iblk m c 5 t) (ix2 r l)
      = ConvMath.up (zv m c) (768 * t.val + r.val + 1) l := by
  pointwise [k0_pay5]
  rw [ue_apply _ _ _ _ _ (by simp only; omega)]
  congr 1
  simp only
  omega

theorem s2_apply (c : Dev nD) (t : Fin cfg0.N) (r : Fin 768) (l : Fin 512) :
    k0_pay6 (F := Ideal) (grid0.coords t) (iblk m c 2 t) (iblk m c 3 t) (iblk m c 4 t) (iblk m c 5 t) (ix2 r l)
      = ConvMath.up (zv m c) (768 * t.val + r.val) l := by
  pointwise [k0_pay6]
  rw [ue_apply _ _ _ _ _ (by simp only; omega)]
  congr 1
  simp only
  omega

theorem e_eq (dy : ConvMath.SDy.Idx → EReal) (z : ConvMath.SZ.Idx → EReal) (t : ℕ) (l : Fin 512) (h : t < 8448) : ConvMath.e dy z t l =
    dy (ix2 (⟨t, h⟩ : Fin 8448) l) * z (ix2 (⟨t, h⟩ : Fin 8448) (⟨l.val, by omega⟩ : Fin 4096)) := dif_pos h

theorem e_apply (c : Dev nD) (t : Fin cfg0.N) (r : Fin 768) (l : Fin 512) :
    k0_pay9 (F := Ideal) (iblk m c 0 t) (iblk m c 1 t) (ix2 r l) = ConvMath.e (dyv m c) (zv m c) (768 * t.val + r.val) l := by
  have := lt11 t
  rw [e_eq _ _ _ _ (by omega), k0_pay9, mulf_apply, b0, b1]
  rfl

/-- The rows after the block: the first rows of the block after it, zero at the last block. -/
theorem halo_e (c : Dev nD) (t : Fin cfg0.N) (r : Fin 8) (l : Fin 512) :
    Scalar.select (if t.val = 10 then 0#1 else 1#1) (@HMul.hMul EReal EReal EReal instHMul (iblk m c 6 t (ix2 r l)) (iblk m c 7 t (ix2 r l))) 0
      = ConvMath.e (dyv m c) (zv m c) (768 * t.val + 768 + r.val) l := by
  have := lt11 t
  by_cases h : t.val = 10
  · unfold ConvMath.e
    rw [if_pos h, dif_neg (by omega)]; rfl
  · rw [if_neg h, e_eq _ _ _ _ (by omega), b6, b7]
    have e : 768 * t.val + 768 + r.val = 8 * min (96 * t.val + 96) 1055 + r.val := by omega
    simp only [e]; rfl

theorem conv_apply (c : Dev nD) (t : Fin cfg0.N) (r : Fin 768) (l : Fin 512) :
    k0_pay8 (F := Ideal) (grid0.coords t) (iblk m c 2 t) (iblk m c 3 t) (iblk m c 4 t) (iblk m c 5 t) (iblk m c 8 t) (ix2 r l)
      = ConvMath.conv (zv m c) (wv m c) (768 * t.val + r.val) l := by
  pointwise [k0_pay8, k0_pay7]
  rw [s0_apply, s1_apply, s2_apply, b8 m c t 0 l (by decide), b8 m c t 1 l (by decide), b8 m c t 2 l (by decide)]
  rfl

theorem ee_apply (c : Dev nD) (t : Fin cfg0.N) (r : ℕ) (hr : r < 776) (l : Fin 512) :
    (if h : r < 768 then ConvMath.e (dyv m c) (zv m c) (768 * t.val + r) l
      else Scalar.select (if t.val = 10 then 0#1 else 1#1)
        (@HMul.hMul EReal EReal EReal instHMul (iblk m c 6 t (ix2 (⟨r - 768, by omega⟩ : Fin 8) l)) (iblk m c 7 t (ix2 (⟨r - 768, by omega⟩ : Fin 8) l))) 0)
      = ConvMath.e (dyv m c) (zv m c) (768 * t.val + r) l := by
  split
  · rfl
  · rw [halo_e]
    congr 1
    show 768 * t.val + 768 + (r - 768) = _
    omega

theorem du_apply (c : Dev nD) (t : Fin cfg0.N) (r : Fin 768) (l : Fin 512) :
    k0_pay12 (F := Ideal) (k0_pay7 (iblk m c 8 t)) (k0_pay9 (iblk m c 0 t) (iblk m c 1 t))
      (Scalar.cmpi CmpIPredicate.slt (BitVec.ofNat 32 (grid0.coords t 0).val) 10#32)
      (k0_pay10 (iblk m c 6 t) (iblk m c 7 t)) k0_pay11 (ix2 r l)
      = ConvMath.du (dyv m c) (zv m c) (wv m c) (768 * t.val + r.val) l := by
  have := lt11 t
  pointwise [k0_pay12, k0_pay7, k0_pay10, k0_pay11]
  rw [slt_eq, e_apply, b8 m c t 0 l (by decide), b8 m c t 1 l (by decide), b8 m c t 2 l (by decide)]
  simp only [e_apply]
  rw [ee_apply m c t _ (by omega), ee_apply m c t _ (by omega),
    show (r.val + 776 - 775) % 776 = r.val + 1 by omega, show (r.val + 776 - 774) % 776 = r.val + 2 by omega]
  rfl

/-! ## The gradient of the inputs -/

theorem dz_piece0 (c : Dev nD) (t : Fin cfg0.N) (y : S768x1536.Idx) (i : ConvMath.SDz.Idx) (hi : (i 0).val = 768 * t.val + (y 0).val) (hi1 : (i 1).val = (y 1).val)
    (x : S768x512.Idx) (h0 : (y 0).val = (x 0).val) (h1 : (y 1).val = (x 1).val) :
    k0_pay13 (F := Ideal) (k0_pay8 (grid0.coords t) (iblk m c 2 t) (iblk m c 3 t) (iblk m c 4 t) (iblk m c 5 t) (iblk m c 8 t)) (iblk m c 0 t) x
      = ConvMath.dz (dyv m c) (zv m c) (wv m c) i := by
  idx_vars x
  pointwise [k0_pay13]
  rw [conv_apply, b0]
  unfold ConvMath.dz
  simp only [hi, hi1, h0, h1]
  rw [dif_pos (by simp only [Fin.is_lt])]

theorem dz_piece1 (c : Dev nD) (t : Fin cfg0.N) (y : S768x1536.Idx) (i : ConvMath.SDz.Idx) (hi : (i 0).val = 768 * t.val + (y 0).val) (hi1 : (i 1).val = (y 1).val)
    (x : S768x512.Idx) (h0 : (y 0).val = (x 0).val) (h1 : (y 1).val = 512 + (x 1).val) :
    k0_pay14 (F := Ideal) (k0_pay7 (iblk m c 8 t)) (k0_pay9 (iblk m c 0 t) (iblk m c 1 t))
      (Scalar.cmpi CmpIPredicate.slt (BitVec.ofNat 32 (grid0.coords t 0).val) 10#32)
      (k0_pay10 (iblk m c 6 t) (iblk m c 7 t)) k0_pay11 (iblk m c 3 t) x
      = ConvMath.dz (dyv m c) (zv m c) (wv m c) i := by
  idx_vars x
  pointwise [k0_pay14]
  rw [du_apply, b3]
  unfold ConvMath.dz
  have h2 : (x1 : ℕ) < 512 := x1.isLt
  rw [dif_neg (by simp only [hi1, h1, ix2_1]; omega), dif_pos (by simp only [hi1, h1, ix2_1]; omega)]
  simp only [hi, hi1, h0, h1, Nat.add_sub_cancel_left]
  congr 1
  blk_ext []

theorem dz_piece2 (c : Dev nD) (t : Fin cfg0.N) (y : S768x1536.Idx) (i : ConvMath.SDz.Idx) (hi : (i 0).val = 768 * t.val + (y 0).val) (hi1 : (i 1).val = (y 1).val)
    (x : S768x512.Idx) (h0 : (y 0).val = (x 0).val) (h1 : (y 1).val = 1024 + (x 1).val) :
    k0_pay15 (F := Ideal) (k0_pay7 (iblk m c 8 t)) (k0_pay9 (iblk m c 0 t) (iblk m c 1 t))
      (Scalar.cmpi CmpIPredicate.slt (BitVec.ofNat 32 (grid0.coords t 0).val) 10#32)
      (k0_pay10 (iblk m c 6 t) (iblk m c 7 t)) k0_pay11 (iblk m c 2 t) x
      = ConvMath.dz (dyv m c) (zv m c) (wv m c) i := by
  idx_vars x
  pointwise [k0_pay15]
  rw [du_apply, b2]
  unfold ConvMath.dz
  have h2 : (x1 : ℕ) < 512 := x1.isLt
  rw [dif_neg (by simp only [hi1, h1, ix2_1]; omega), dif_neg (by simp only [hi1, h1, ix2_1]; omega)]
  simp only [hi, hi1, h0, h1, Nat.add_sub_cancel_left]
  congr 1
  blk_ext []

theorem after9_apply (c : Dev nD) (t : Fin cfg0.N) (y : S768x1536.Idx) (i : ConvMath.SDz.Idx) (hi : (i 0).val = 768 * t.val + (y 0).val) (hi1 : (i 1).val = (y 1).val) :
     (outsAt0 m c t.val t.isLt).1 y = ConvMath.dz (dyv m c) (zv m c) (wv m c) i := by
  by_cases h0 : t.val % 11 = 0
  · rw [outsAt0_A m c t h0]
    frame_out
    canon_tiles x h
    · exact dz_piece2 m c t y i hi hi1 x ‹_› ‹_›
    · exact dz_piece1 m c t y i hi hi1 x ‹_› ‹_›
    · exact dz_piece0 m c t y i hi hi1 x ‹_› ‹_›
  · rw [outsAt0_B m c t h0]
    frame_out
    canon_tiles x h
    · exact dz_piece2 m c t y i hi hi1 x ‹_› ‹_›
    · exact dz_piece1 m c t y i hi hi1 x ‹_› ‹_›
    · exact dz_piece0 m c t y i hi hi1 x ‹_› ‹_›

theorem final9 (c : Dev nD) : (dats m 0 c).arrAt 9 cfg0.N = ConvMath.dz (dyv m c) (zv m c) (wv m c) := by
  refine (dats m 0 c).arrAt_eq_of_covers 9 _ (by decide +kernel) fun t hf y => ?_
  blk_simp
  rw [after0_9]
  refine after9_apply m c t _ _ ?_ ?_
  · blk_simp [idx0 t]; omega
  · blk_simp [idx0 t]

/-! ## The gradient of the weights -/

/-- What point `t` adds to row `k` of the weights' gradient. -/
def term (c : Dev nD) (t : Fin cfg0.N) (j : S8x512.Idx) : EReal :=
  if (j 0).val < 3 then ∑ r : Fin 768, ConvMath.e (dyv m c) (zv m c) (768 * t.val + r.val) (⟨(j 1).val, (j 1).isLt⟩ : Fin 512)
      * ConvMath.up (zv m c) (768 * t.val + r.val + (j 0).val) (⟨(j 1).val, (j 1).isLt⟩ : Fin 512) else 0

/-- A store of a row: the row read before, plus the columns' sums of a product. -/
theorem row0_apply (v13 v29 : FVec Ideal S768x512 .f32) (v66 : Vec Ideal S1x512 .f32) (l : Fin 512) :
    k0_pay17 v13 v29 v66 (ix2 (0 : Fin 1) l) = v66 (ix2 (0 : Fin 1) l) + ∑ r : Fin 768, v29 (ix2 r l) * v13 (ix2 r l) := by
  pointwise [k0_pay17]

theorem row1_apply (v13 v29 : FVec Ideal S768x512 .f32) (v66 : Vec Ideal S1x512 .f32) (l : Fin 512) :
    k0_pay1 v13 v29 v66 (ix2 (0 : Fin 1) l) = v66 (ix2 (0 : Fin 1) l) + ∑ r : Fin 768, v29 (ix2 r l) * v13 (ix2 r l) := by
  pointwise [k0_pay1]

theorem row2_apply (v13 v29 : FVec Ideal S768x512 .f32) (v66 : Vec Ideal S1x512 .f32) (l : Fin 512) :
    k0_pay2 v13 v29 v66 (ix2 (0 : Fin 1) l) = v66 (ix2 (0 : Fin 1) l) + ∑ r : Fin 768, v29 (ix2 r l) * v13 (ix2 r l) := by
  pointwise [k0_pay2]

/-- The rows that the three stores leave, over the values `X` held before. -/
theorem rows_eq (c : Dev nD) (t : Fin cfg0.N) (X : S8x512.Idx → EReal) (y0 : Fin 8) (y1 : Fin 512) :
    (if y0.val = 2 then
        X (ix2 (2 : Fin 8) y1) + ∑ r : Fin 768, k0_pay9 (F := Ideal) (iblk m c 0 t) (iblk m c 1 t) (ix2 r y1)
          * k0_pay3 (F := Ideal) (iblk m c 2 t) (iblk m c 3 t) (ix2 r y1)
      else if y0.val = 1 then
        X (ix2 (1 : Fin 8) y1) + ∑ r : Fin 768, k0_pay9 (F := Ideal) (iblk m c 0 t) (iblk m c 1 t) (ix2 r y1)
          * k0_pay5 (F := Ideal) (grid0.coords t) (iblk m c 2 t) (iblk m c 3 t) (iblk m c 4 t) (iblk m c 5 t) (ix2 r y1)
      else if y0.val = 0 then
        X (ix2 (0 : Fin 8) y1) + ∑ r : Fin 768, k0_pay9 (F := Ideal) (iblk m c 0 t) (iblk m c 1 t) (ix2 r y1)
          * k0_pay6 (F := Ideal) (grid0.coords t) (iblk m c 2 t) (iblk m c 3 t) (iblk m c 4 t) (iblk m c 5 t) (ix2 r y1)
      else X (ix2 y0 y1)) = X (ix2 y0 y1) + term m c t (ix2 y0 y1) := by
  unfold term
  simp only [s0_apply, s1_apply, s2_apply, e_apply]
  obtain ⟨k, hk⟩ := y0
  rcases Nat.lt_or_ge k 3 with h | h
  · rcases (by omega : k = 0 ∨ k = 1 ∨ k = 2) with rfl | rfl | rfl <;> rfl
  · rw [if_neg (by show ¬ k = 2; omega), if_neg (by show ¬ k = 1; omega), if_neg (by show ¬ k = 0; omega), if_neg (by show ¬ k < 3; omega)]
    exact (add_zero _).symm

theorem step_A (c : Dev nD) (t : Fin cfg0.N) (h0 : t.val % 11 = 0) (y : S8x512.Idx) : (outsAt0 m c t.val t.isLt).2 y = k0_pay16 (F := Ideal) y + term m c t y := by
  rw [outsAt0_A m c t h0]
  frame_open
  simp (disch := decide) only [↓ View.readCov_skip, ↓ View.readCov_cons_toLoadRect, ↓ View.readCov_fill]
  frame_out
  idx_vars y
  rw [Rows.canon_row, Rows.canon_row, Rows.canon_row, row0_apply, row1_apply, row2_apply, Rows.ld_row (by decide), Rows.ld_row (by decide),
    Rows.ld_row (by decide), View.canon_cons_unit_lit (S := S8x512)]
  · exact rows_eq m c t (k0_pay16 (F := Ideal)) y0 y1
  · decide

theorem step_B (c : Dev nD) (t : Fin cfg0.N) (h0 : ¬ t.val % 11 = 0) (y : S8x512.Idx) : (outsAt0 m c t.val t.isLt).2 y
     = (outsAt0 m c (t.val - 1) (Nat.lt_of_le_of_lt (Nat.sub_le _ _) t.isLt)).2 y + term m c t y := by
  rw [outsAt0_B m c t h0]
  frame_out
  idx_vars y
  rw [Rows.read_row, Rows.read_row, Rows.read_row, row0_apply, row1_apply, row2_apply, Rows.ld_row (by decide), Rows.ld_row (by decide),
    Rows.ld_row (by decide), View.writes, Memref.IsWhole.read_unread]
  exact rows_eq m c t (outsAt0 m c (t.val - 1) (Nat.lt_of_le_of_lt (Nat.sub_le _ _) t.isLt)).2 y0 y1

theorem after10_apply (c : Dev nD) (t : Fin cfg0.N) (ht : t.val + 1 = cfg0.N) (j : S8x512.Idx) :
    (outsAt0 m c t.val t.isLt).2 j = ConvMath.dw (dyv m c) (zv m c) j := by
  rw [Pipeline.eq_sum_fin_of_reset_step_apply_last (fun n h => (outsAt0 m c n h).2) 11 (k0_pay16 (F := Ideal)) (term m c)
    (step_A m c) (step_B m c) (by decide) t ht j]
  pointwise [k0_pay16]
  unfold term ConvMath.dw
  split
  · rw [← Fin.sum_univ_univ_mul_add 11 768 (fun t => ConvMath.e (dyv m c) (zv m c) t (⟨(j 1).val, (j 1).isLt⟩ : Fin 512)
      * ConvMath.up (zv m c) (t + (j 0).val) (⟨(j 1).val, (j 1).isLt⟩ : Fin 512))]
    refine Finset.sum_congr rfl fun t _ => Finset.sum_congr rfl fun r _ => ?_
    rw [Nat.mul_comm]
  · simp

theorem final10 (c : Dev nD) : (dats m 0 c).arrAt 10 cfg0.N = ConvMath.dw (dyv m c) (zv m c) := by
  refine (dats m 0 c).arrAt_eq_of_after_last 10 t0_10 (by decide +kernel) _ fun j => ?_
  blk_simp
  rw [after0_10]
  exact after10_apply m c t0_10 (by decide) j

end Cert.KernelIdeal.Conv
end
-- ==== Proof.ConvRef.lean ====
/- The reference's results, read at an index: the closed forms of the gated short convolution's gradient. -/
module

public import proofs.«01_k».proof.Proof.Gen.ReferenceIdeal.Read
public import proofs.«01_k».proof.Proof.ConvMath

@[expose] public section

set_option maxRecDepth 16384

noncomputable section

namespace Cert.ReferenceIdeal.Conv

open Cert.ReferenceIdeal Cert.ReferenceIdeal.Gen Cert.ReferenceIdeal.Read Idealize.ShloMosaic Idealize.ShloMosaic.TcCoe
open Cert

variable (dy : ConvMath.SDy.Idx → EReal) (z : ConvMath.SZ.Idx → EReal) (w : ConvMath.SW.Idx → EReal)

/-- The convolution's input under two rows of zeros. -/
theorem v6_apply (t : Fin 8450) (l : Fin 512) : val_main_v6 (F := Ideal) z (ix2 t l) = ConvMath.up z t.val l := by
  pointwise [val_main_v6, val_main_v5, val_main_cst, val_main_v4, val_main_v2, val_main_v3, val_main_v0]
  unfold ConvMath.up
  by_cases h : t.val < 2
  · rw [dif_pos h, if_pos h]
  · rw [dif_neg h, if_neg h, ConvMath.u, dif_pos (by omega)]

/-- The convolution's result. -/
theorem v27_apply (t : Fin 8448) (l : Fin 512) : val_main_v27 (F := Ideal) z w (ix2 t l) = ConvMath.conv z w t.val l := by
  pointwise [val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8]
  simp only [v6_apply]
  rw [ConvMath.conv, Nat.add_comm 1 t.val, Nat.add_comm 2 t.val]
  simp only [mul_comm (w _)]

/-- The gradient of the convolution's result. -/
theorem v29_apply (t : Fin 8448) (l : Fin 512) : val_main_v29 (F := Ideal) dy z (ix2 t l) = ConvMath.e dy z t.val l := by
  pointwise [val_main_v29, val_main_v1, val_main_v0]
  rw [ConvMath.e, dif_pos t.isLt, mul_comm]

/-- The gradient of the convolution's input. -/
theorem v63_apply (t : Fin 8448) (l : Fin 512) : val_main_v63 (F := Ideal) dy z w (ix2 t l) = ConvMath.du dy z w t.val l := by
  pointwise [val_main_v63, val_main_v61, val_main_v60, val_main_v50, val_main_v49, val_main_v39, val_main_v35, val_main_v34, val_main_v44, val_main_v43,
    val_main_v55, val_main_v54, val_main_v24, val_main_v23, val_main_v22, val_main_v17, val_main_v16, val_main_v15, val_main_v11, val_main_v10, val_main_v9,
    val_main_cst_4, val_main_cst_8, val_main_cst_12]
  simp only [v29_apply]
  have e1 : ∀ n : ℕ, ¬ n < 8448 → ConvMath.e dy z n l = 0 := fun n h => dif_neg h
  rw [ConvMath.du, show 2 + t.val - 1 = t.val + 1 by omega, show 2 + t.val = t.val + 2 by omega]
  simp only [mul_comm (w _)]
  congr 1
  · congr 1
    split_ifs with h
    · rfl
    · rw [e1 _ (by omega), zero_mul]
  · split_ifs with h
    · rfl
    · rw [e1 _ h, zero_mul]

/-- The gradient of b, c and h. -/
theorem dz_eq : val_main_v67 (F := Ideal) dy z w = ConvMath.dz dy z w := by
  funext y
  idx_vars y
  pointwise [val_main_v67, val_main_v66, val_main_v65, val_main_v64, val_main_v30, val_main_v2, val_main_v3, val_main_v0]
  simp only [v27_apply, v63_apply]
  rw [ConvMath.dz_ix2]
  by_cases h0 : y1.val < 512
  · rw [dif_pos h0, dif_pos h0]
  · rw [dif_neg h0, dif_neg h0]
    by_cases h1 : y1.val < 1024
    · rw [dif_pos (by omega), dif_pos h1]
      exact congrArg (fun b : Fin 4096 => ConvMath.du dy z w y0.val ⟨y1.val - 512, by omega⟩ * z (ix2 y0 b)) (Fin.ext (show 1024 + (y1.val - 512) = y1.val + 512 by omega))
    · rw [dif_neg (by omega), dif_neg h1]
      refine (mul_comm _ _).trans ?_
      exact congrArg₂ (fun (a : Fin 512) (b : Fin 4096) => ConvMath.du dy z w y0.val a * z (ix2 y0 b)) (Fin.ext (show y1.val - 512 - 512 = y1.val - 1024 by omega))
        (Fin.ext (show 512 + (y1.val - 512 - 512) = y1.val - 512 by omega))

/-- The gradient of the weights. -/
theorem dw_eq : val_main_v68 (F := Ideal) dy z = ConvMath.dw dy z := by
  funext y
  idx_vars y
  pointwise [val_main_v68, val_main_v59, val_main_v58, val_main_v57, val_main_v56, val_main_v53, val_main_v52, val_main_v51, val_main_v48, val_main_v47, val_main_v46, val_main_v45,
    val_main_v42, val_main_v41, val_main_v40, val_main_v38, val_main_v37, val_main_v36, val_main_v33, val_main_v32, val_main_v31, val_main_v21, val_main_v14, val_main_v8,
    val_main_cst_1, val_main_cst_2, val_main_cst_3, val_main_cst_5, val_main_cst_6, val_main_cst_7, val_main_cst_9, val_main_cst_10, val_main_cst_11, val_main_call0_v0, val_main_c]
  simp only [v29_apply, v6_apply]
  rw [ConvMath.dw_ix2]
  have hs : ∀ n : ℕ, (∑ _x : Fin 1, ∑ x : Fin 8448, ConvMath.up z (n + x.val) y1 * ConvMath.e dy z x.val y1)
      = ∑ x : Fin 8448, ConvMath.e dy z x.val y1 * ConvMath.up z (x.val + n) y1 := fun n => by
    rw [Fin.sum_univ_one]
    exact Finset.sum_congr rfl fun x _ => by rw [mul_comm, Nat.add_comm]
  have hs0 := hs 0
  simp only [Nat.zero_add] at hs0
  simp only [hs, hs0]
  by_cases h : y0.val < 3
  · rw [dif_pos h, if_pos h]
    obtain h | h | h : y0.val = 0 ∨ y0.val = 1 ∨ y0.val = 2 := by omega
    · rw [dif_neg (by omega), dif_neg (by omega), dif_pos (by omega), h]; simp
    · rw [dif_neg (by omega), dif_pos (by omega), dif_neg (by omega), h]; simp
    · rw [dif_pos (by omega), dif_neg (by omega), dif_neg (by omega), h]; simp
  · rw [dif_neg h, if_neg h]
    show (((0#32).toInt : ℝ) : EReal) = 0
    simp

end Cert.ReferenceIdeal.Conv
end
-- ==== Proof.ConvClaim.lean ====
/- The claims about the gated short convolution's gradient: the frames and the equality of the results. -/
module

public import proofs.«01_k».proof.Proof.Gen.Kernel.Frame
public import proofs.«01_k».proof.Proof.ConvKernel
public import proofs.«01_k».proof.Proof.ConvRef

@[expose] public section

set_option maxRecDepth 16384

noncomputable section

namespace Cert.ConvClaim

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

theorem frame_k : Cert.quiescent_Kernel := fun m ρ _ => Cert.Kernel.Gen.frame m ρ
theorem frame_ki : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Both programs leave the closed forms of ConvMath. -/
theorem algebraic : Cert.algebraic_KernelIdeal_ReferenceIdeal := fun m g m' g' _ hm =>
  ⟨fun c => ConvMath.dz (KernelIdeal.Conv.dyv m c) (KernelIdeal.Conv.zv m c) (KernelIdeal.Conv.wv m c),
   fun c => ConvMath.dw (KernelIdeal.Conv.dyv m c) (KernelIdeal.Conv.zv m c),
   (θ_run Cert.KernelIdeal.defs _ _).mono (fun _ h c => ⟨(h c).1.trans (KernelIdeal.Conv.final9 m c), (h c).2.1.trans (KernelIdeal.Conv.final10 m c), (h c).2.2⟩)
     (Cert.KernelIdeal.Value.run_blocks (F := Ideal) m g),
   (θ_run Cert.ReferenceIdeal.defs _ _).mono (fun _ h c => ⟨by
      rw [(h c).1, ReferenceIdeal.Read.val_main_v67_eq, (hm c).1, (hm c).2.1, (hm c).2.2]
      exact ReferenceIdeal.Conv.dz_eq _ _ _, by
      rw [(h c).2.1, ReferenceIdeal.Read.val_main_v68_eq, (hm c).1, (hm c).2.1]
      exact ReferenceIdeal.Conv.dw_eq _ _, (h c).2.2⟩)
     (Cert.ReferenceIdeal.Value.run (F := Ideal) m' g')⟩

end Cert.ConvClaim
end
-- ==== Proof.GateMath.lean ====
/- The closed forms of the gradient of the gates: for `y = (σ(g₀ + b₀) · p₀ + σ(g₁ + b₁) · p₁) · W`, the gradient of the two
   branches, of the gates' inputs and of the gates' bias, over the extended reals. -/
module

public import proofs.«01_k».proof.Defs
public import Idealize.ShloMosaic.Lib.Pointwise
public import Idealize.ShloMosaic.PureOps.Ideal.Laws

@[expose] public section

noncomputable section

namespace Cert.GateMath

open Idealize.ShloMosaic

/-- An array of one row per token, [8448, 1024]. -/
abbrev ST : Shape := ⟨2, ![8448, 1024]⟩
/-- The weights of the product, [1024, 1024]. -/
abbrev SW : Shape := ⟨2, ![1024, 1024]⟩
/-- The projections, [8448, 4096]: columns 2048 and 3072 begin the inputs of the two gates. -/
abbrev SZ : Shape := ⟨2, ![8448, 4096]⟩
/-- The bias of the gates, [2, 1024]. -/
abbrev SB : Shape := ⟨2, ![2, 1024]⟩
/-- The gradient of the gates' inputs, [8448, 2048]. -/
abbrev SG : Shape := ⟨2, ![8448, 2048]⟩
/-- The gradient of the bias under six rows of zeros, [8, 1024]. -/
abbrev SDb : Shape := ⟨2, ![8, 1024]⟩

variable (dm : ST.Idx → EReal) (wo : SW.Idx → EReal) (z : SZ.Idx → EReal) (bg : SB.Idx → EReal)

/-- The gradient of the product's left operand. -/
def dmg (t : Fin 8448) (l : Fin 1024) : EReal := ∑ k : Fin 1024, dm (ix2 t k) * wo (ix2 l k)

/-- The first gate. -/
def s0 (t : Fin 8448) (l : Fin 1024) : EReal :=
  Ideal.logistic (z (ix2 t (⟨2048 + l.val, by omega⟩ : Fin 4096)) + bg (ix2 (0 : Fin 2) l))

/-- The second gate. -/
def s1 (t : Fin 8448) (l : Fin 1024) : EReal :=
  Ideal.logistic (z (ix2 t (⟨3072 + l.val, by omega⟩ : Fin 4096)) + bg (ix2 (1 : Fin 2) l))

/-- The gradient of a gate's input, from the gate `s` and the branch `p`. -/
def dg (s : Fin 8448 → Fin 1024 → EReal) (p : ST.Idx → EReal) (t : Fin 8448) (l : Fin 1024) : EReal :=
  dmg dm wo t l * p (ix2 t l) * (s t l * (1 - s t l))

/-- The gradient of a branch, from its gate `s`. -/
def dp (s : Fin 8448 → Fin 1024 → EReal) (j : ST.Idx) : EReal := dmg dm wo (j 0) (j 1) * s (j 0) (j 1)

variable (pa pb : ST.Idx → EReal)

/-- The gradient of both gates' inputs side by side. -/
def dgs (j : SG.Idx) : EReal :=
  if h : (j 1).val < 1024 then dg dm wo (s0 z bg) pa (j 0) ⟨(j 1).val, h⟩
  else dg dm wo (s1 z bg) pb (j 0) ⟨(j 1).val - 1024, by have : (j 1).val < 2048 := (j 1).isLt; omega⟩

theorem dgs_ix2 (t : Fin 8448) (l : Fin 2048) : dgs dm wo z bg pa pb (ix2 t l) =
    if h : l.val < 1024 then dg dm wo (s0 z bg) pa t ⟨l.val, h⟩ else dg dm wo (s1 z bg) pb t ⟨l.val - 1024, by omega⟩ := rfl

/-- The gradient of the bias: each gate's sum over the rows, zero from row 2 on. -/
def dbg (j : SDb.Idx) : EReal :=
  if (j 0).val = 0 then ∑ t : Fin 8448, dg dm wo (s0 z bg) pa t (j 1)
  else if (j 0).val = 1 then ∑ t : Fin 8448, dg dm wo (s1 z bg) pb t (j 1) else 0

theorem dbg_ix2 (r : Fin 8) (l : Fin 1024) : dbg dm wo z bg pa pb (ix2 r l) =
    if r.val = 0 then ∑ t : Fin 8448, dg dm wo (s0 z bg) pa t l
    else if r.val = 1 then ∑ t : Fin 8448, dg dm wo (s1 z bg) pb t l else 0 := rfl

end Cert.GateMath
end
-- ==== Proof.GateKernel.lean ====
/- The kernel of the gates' gradient, read at an index: its four results are the closed forms. -/
module

public import proofs.«01_k».proof.Proof.Gen.GateIdeal.Value
public import proofs.«01_k».proof.Proof.GateMath
public import proofs.«01_k».proof.Proof.Rows

@[expose] public section

set_option maxRecDepth 16384

noncomputable section

namespace Cert.GateIdeal.Gate

open Cert.GateIdeal Cert.GateIdeal.Gen Idealize.ShloMosaic Idealize.ShloMosaic.TcCoe Idealize.SL.Sem
open Idealize.ShloMosaic.Pipeline (Dat)
open Cert

variable (m : (ℓ : Loc nD τ sig) → Buf (Elt Ideal) ℓ)

abbrev dmv (c : Dev nD) : GateMath.ST.Idx → EReal := m (c, main_arg0)
abbrev wov (c : Dev nD) : GateMath.SW.Idx → EReal := m (c, main_arg1)
abbrev zv (c : Dev nD) : GateMath.SZ.Idx → EReal := m (c, main_arg2)
abbrev bgv (c : Dev nD) : GateMath.SB.Idx → EReal := m (c, main_arg3)
abbrev pav (c : Dev nD) : GateMath.ST.Idx → EReal := m (c, main_arg4)
abbrev pbv (c : Dev nD) : GateMath.ST.Idx → EReal := m (c, main_arg5)

theorem idx0 : ∀ t : Fin cfg0.N, win0_0.index t = ![t.val, 0] ∧ win0_1.index t = ![0, 0] ∧ win0_2.index t = ![t.val, 2]
    ∧ win0_3.index t = ![t.val, 3] ∧ win0_4.index t = ![0, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![0, 0] :=
  (by decide +kernel : ∀ t : Fin grid0.N, win0_0.index t = ![t.val, 0] ∧ win0_1.index t = ![0, 0] ∧ win0_2.index t = ![t.val, 2]
    ∧ win0_3.index t = ![t.val, 3] ∧ win0_4.index t = ![0, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![0, 0])

theorem lt22 (t : Fin cfg0.N) : t.val < 22 := N_0 ▸ t.isLt

/-- The row of the whole array that a point's row is. -/
abbrev row (t : Fin cfg0.N) (r : Fin 384) : Fin 8448 := ⟨384 * t.val + r.val, by have := lt22 t; omega⟩

/-! ## The blocks that a point reads -/

theorem b0 (c : Dev nD) (t : Fin cfg0.N) (r : Fin 384) (l : Fin 1024) : iblk m c 0 t (ix2 r l) = dmv m c (ix2 (row t r) l) := by
  have := lt22 t
  blk_ext [iblk, V_main_arg0 m c, idx0 t]

theorem b1 (c : Dev nD) (t : Fin cfg0.N) (r : Fin 1024) (l : Fin 1024) : iblk m c 1 t (ix2 r l) = wov m c (ix2 r l) := by
  have := lt22 t
  blk_ext [iblk, V_main_arg1 m c, idx0 t]

theorem b2 (c : Dev nD) (t : Fin cfg0.N) (r : Fin 384) (l : Fin 1024) :
    iblk m c 2 t (ix2 r l) = zv m c (ix2 (row t r) (⟨2048 + l.val, by omega⟩ : Fin 4096)) := by
  have := lt22 t
  blk_ext [iblk, V_main_arg2 m c, idx0 t]

theorem b3 (c : Dev nD) (t : Fin cfg0.N) (r : Fin 384) (l : Fin 1024) :
    iblk m c 3 t (ix2 r l) = zv m c (ix2 (row t r) (⟨3072 + l.val, by omega⟩ : Fin 4096)) := by
  have := lt22 t
  blk_ext [iblk, V_main_arg2 m c, idx0 t]

theorem b5 (c : Dev nD) (t : Fin cfg0.N) (r : Fin 384) (l : Fin 1024) : iblk m c 5 t (ix2 r l) = pav m c (ix2 (row t r) l) := by
  have := lt22 t
  blk_ext [iblk, V_main_arg4 m c, idx0 t]

theorem b6 (c : Dev nD) (t : Fin cfg0.N) (r : Fin 384) (l : Fin 1024) : iblk m c 6 t (ix2 r l) = pbv m c (ix2 (row t r) l) := by
  have := lt22 t
  blk_ext [iblk, V_main_arg5 m c, idx0 t]

theorem V_b8 (c : Dev nD) : V m c main_v0
    = pad S8x1024 ![0, 0] ![6, 0] ![0, 0] (bgv m c) (sitofp (F := Ideal) .f32 (constantI S_ 32 0#32)) pads_S2x1024_S8x1024_060_000 h_S_ := by
  simp only [V, hostOps0, hostOps0_1, List.flatten_cons, List.flatten_nil, List.append_nil, List.cons_append, List.nil_append]
  entry_read
  rfl

theorem b4 (c : Dev nD) (t : Fin cfg0.N) (k : Fin 8) (l : Fin 1024) (hk : k.val < 2) :
    iblk m c 4 t (ix2 k l) = bgv m c (ix2 (⟨k.val, hk⟩ : Fin 2) l) := by
  have hp : (win0_4.blk t).view.emb (ix2 k l) = ix2 (k : Fin 8) (l : Fin 1024) := by
    blk_ext [iblk, idx0 t]
  show V m c main_v0 ((win0_4.blk t).view.emb (ix2 k l)) = _
  rw [hp, V_b8]
  pointwise
  rw [dif_pos (by omega)]

/-! ## The values of a point -/

theorem dm_apply (c : Dev nD) (t : Fin cfg0.N) (r : Fin 384) (l : Fin 1024) :
    k0_pay5 (F := Ideal) (iblk m c 0 t) (iblk m c 1 t) (ix2 r l) = GateMath.dmg (dmv m c) (wov m c) (row t r) l := by
  pointwise [k0_pay5]
  simp only [b0, b1]
  rfl

theorem s0_apply (c : Dev nD) (t : Fin cfg0.N) (r : Fin 384) (l : Fin 1024) :
    k0_pay7 (F := Ideal) (iblk m c 4 t) (iblk m c 2 t) (ix2 r l) = GateMath.s0 (zv m c) (bgv m c) (row t r) l := by
  pointwise [k0_pay7, k0_pay6]
  rw [b2, b4 m c t 0 l (by decide)]
  rfl

theorem s1_apply (c : Dev nD) (t : Fin cfg0.N) (r : Fin 384) (l : Fin 1024) :
    k0_pay8 (F := Ideal) (iblk m c 4 t) (iblk m c 3 t) (ix2 r l) = GateMath.s1 (zv m c) (bgv m c) (row t r) l := by
  pointwise [k0_pay8, k0_pay6]
  rw [b3, b4 m c t 1 l (by decide)]
  rfl

/-- The gradient of the first gate's input. -/
abbrev dg0 (c : Dev nD) (t : Fin 8448) (l : Fin 1024) : EReal := GateMath.dg (dmv m c) (wov m c) (GateMath.s0 (zv m c) (bgv m c)) (pav m c) t l
/-- The gradient of the second gate's input. -/
abbrev dg1 (c : Dev nD) (t : Fin 8448) (l : Fin 1024) : EReal := GateMath.dg (dmv m c) (wov m c) (GateMath.s1 (zv m c) (bgv m c)) (pbv m c) t l

theorem dg0_apply (c : Dev nD) (t : Fin cfg0.N) (r : Fin 384) (l : Fin 1024) :
    k0_pay11 (F := Ideal) (iblk m c 0 t) (iblk m c 1 t) (iblk m c 4 t) (iblk m c 2 t) (iblk m c 5 t) (ix2 r l) = dg0 m c (row t r) l := by
  pointwise [k0_pay11]
  rw [dm_apply, s0_apply, b5]
  rfl

theorem dg1_apply (c : Dev nD) (t : Fin cfg0.N) (r : Fin 384) (l : Fin 1024) :
    k0_pay12 (F := Ideal) (iblk m c 0 t) (iblk m c 1 t) (iblk m c 4 t) (iblk m c 3 t) (iblk m c 6 t) (ix2 r l) = dg1 m c (row t r) l := by
  pointwise [k0_pay12]
  rw [dm_apply, s1_apply, b6]
  rfl

/-! ## The gradients of the branches -/

theorem after7_apply (c : Dev nD) (t : Fin cfg0.N) (y : S384x1024.Idx) :
    (outsAt0 m c t.val t.isLt).1 y = GateMath.dp (dmv m c) (wov m c) (GateMath.s0 (zv m c) (bgv m c)) (ix2 (row t (y 0)) (y 1)) := by
  have e : k0_pay9 (F := Ideal) (iblk m c 0 t) (iblk m c 1 t) (iblk m c 4 t) (iblk m c 2 t) y
      = GateMath.dp (dmv m c) (wov m c) (GateMath.s0 (zv m c) (bgv m c)) (ix2 (row t (y 0)) (y 1)) := by
    idx_vars y
    pointwise [k0_pay9]
    rw [dm_apply, s0_apply]
    rfl
  by_cases h0 : t.val % 22 = 0
  · rw [outsAt0_A m c t h0]
    frame_out
    exact e
  · rw [outsAt0_B m c t h0]
    frame_out
    exact e

theorem final7 (c : Dev nD) : (dats m 0 c).arrAt 7 cfg0.N = GateMath.dp (dmv m c) (wov m c) (GateMath.s0 (zv m c) (bgv m c)) := by
  refine (dats m 0 c).arrAt_eq_of_covers 7 _ (by decide +kernel) fun t hf y => ?_
  blk_simp
  rw [after0_7]
  have hy : (win0_7.blk t).view.emb y = ix2 (row t (y 0)) (y 1) := by
    have := lt22 t
    blk_ext [idx0 t]
  rw [hy, after7_apply]
  rfl

theorem after8_apply (c : Dev nD) (t : Fin cfg0.N) (y : S384x1024.Idx) :
    (outsAt0 m c t.val t.isLt).2.1 y = GateMath.dp (dmv m c) (wov m c) (GateMath.s1 (zv m c) (bgv m c)) (ix2 (row t (y 0)) (y 1)) := by
  have e : k0_pay10 (F := Ideal) (iblk m c 0 t) (iblk m c 1 t) (iblk m c 4 t) (iblk m c 3 t) y
      = GateMath.dp (dmv m c) (wov m c) (GateMath.s1 (zv m c) (bgv m c)) (ix2 (row t (y 0)) (y 1)) := by
    idx_vars y
    pointwise [k0_pay10]
    rw [dm_apply, s1_apply]
    rfl
  by_cases h0 : t.val % 22 = 0
  · rw [outsAt0_A m c t h0]
    frame_out
    exact e
  · rw [outsAt0_B m c t h0]
    frame_out
    exact e

theorem final8 (c : Dev nD) : (dats m 0 c).arrAt 8 cfg0.N = GateMath.dp (dmv m c) (wov m c) (GateMath.s1 (zv m c) (bgv m c)) := by
  refine (dats m 0 c).arrAt_eq_of_covers 8 _ (by decide +kernel) fun t hf y => ?_
  blk_simp
  rw [after0_8]
  have hy : (win0_8.blk t).view.emb y = ix2 (row t (y 0)) (y 1) := by
    have := lt22 t
    blk_ext [idx0 t]
  rw [hy, after8_apply]
  rfl

/-! ## The gradient of the gates' inputs -/

theorem after9_apply (c : Dev nD) (t : Fin cfg0.N) (y : S384x2048.Idx) :
    (outsAt0 m c t.val t.isLt).2.2.1 y = GateMath.dgs (dmv m c) (wov m c) (zv m c) (bgv m c) (pav m c) (pbv m c) (ix2 (row t (y 0)) (y 1)) := by
  have hp0 : ∀ x : S384x1024.Idx, (y 0).val = (x 0).val → (y 1).val = (x 1).val →
      k0_pay13 (F := Ideal) (iblk m c 0 t) (iblk m c 1 t) (iblk m c 4 t) (iblk m c 2 t) (iblk m c 5 t) x
        = GateMath.dgs (dmv m c) (wov m c) (zv m c) (bgv m c) (pav m c) (pbv m c) (ix2 (row t (y 0)) (y 1)) := by
    intro x h0 h1
    idx_vars y
    idx_vars x
    obtain rfl : y0 = x0 := Fin.ext h0
    have h1' : y1.val = x1.val := h1
    have hx : x1.val < 1024 := x1.isLt
    pointwise [k0_pay13]
    rw [dg0_apply, GateMath.dgs_ix2, dif_pos (by omega)]
    exact congrArg (dg0 m c (row t y0)) (Fin.ext h1'.symm)
  have hp1 : ∀ x : S384x1024.Idx, (y 0).val = (x 0).val → (y 1).val = 1024 + (x 1).val →
      k0_pay1 (F := Ideal) (k0_pay12 (iblk m c 0 t) (iblk m c 1 t) (iblk m c 4 t) (iblk m c 3 t) (iblk m c 6 t)) x
        = GateMath.dgs (dmv m c) (wov m c) (zv m c) (bgv m c) (pav m c) (pbv m c) (ix2 (row t (y 0)) (y 1)) := by
    intro x h0 h1
    idx_vars y
    idx_vars x
    obtain rfl : y0 = x0 := Fin.ext h0
    have h1' : y1.val = 1024 + x1.val := h1
    have hx : x1.val < 1024 := x1.isLt
    pointwise [k0_pay1]
    rw [dg1_apply, GateMath.dgs_ix2, dif_neg (by omega)]
    exact congrArg (dg1 m c (row t y0)) (Fin.ext (show x1.val = y1.val - 1024 by omega))
  by_cases h0 : t.val % 22 = 0
  · rw [outsAt0_A m c t h0]
    frame_out
    canon_tiles x h
    · exact hp1 x ‹_› ‹_›
    · exact hp0 x ‹_› ‹_›
  · rw [outsAt0_B m c t h0]
    frame_out
    canon_tiles x h
    · exact hp1 x ‹_› ‹_›
    · exact hp0 x ‹_› ‹_›

theorem final9 (c : Dev nD) : (dats m 0 c).arrAt 9 cfg0.N = GateMath.dgs (dmv m c) (wov m c) (zv m c) (bgv m c) (pav m c) (pbv m c) := by
  refine (dats m 0 c).arrAt_eq_of_covers 9 _ (by decide +kernel) fun t hf y => ?_
  blk_simp
  rw [after0_9]
  have hy : (win0_9.blk t).view.emb y = ix2 (row t (y 0)) (y 1) := by
    have := lt22 t
    blk_ext [idx0 t]
  rw [hy, after9_apply]
  rfl

/-! ## The gradient of the bias -/

/-- What point `t` adds to row `k` of the bias' gradient. -/
def term (c : Dev nD) (t : Fin cfg0.N) (j : S8x1024.Idx) : EReal :=
  if (j 0).val = 0 then ∑ r : Fin 384, dg0 m c (row t r) (⟨(j 1).val, (j 1).isLt⟩ : Fin 1024)
  else if (j 0).val = 1 then ∑ r : Fin 384, dg1 m c (row t r) (⟨(j 1).val, (j 1).isLt⟩ : Fin 1024) else 0

theorem term_ix2 (c : Dev nD) (t : Fin cfg0.N) (k : Fin 8) (l : Fin 1024) : term m c t (ix2 k l) =
    if k.val = 0 then ∑ r : Fin 384, dg0 m c (row t r) l else if k.val = 1 then ∑ r : Fin 384, dg1 m c (row t r) l else 0 := rfl

theorem row0_apply (v27 : FVec Ideal S384x1024 .f32) (v42 : Vec Ideal S1x1024 .f32) (l : Fin 1024) :
    k0_pay3 v27 v42 (ix2 (0 : Fin 1) l) = v42 (ix2 (0 : Fin 1) l) + ∑ r : Fin 384, v27 (ix2 r l) := by
  pointwise [k0_pay3]

theorem row1_apply (v27 : FVec Ideal S384x1024 .f32) (v42 : Vec Ideal S1x1024 .f32) (l : Fin 1024) :
    k0_pay4 v27 v42 (ix2 (0 : Fin 1) l) = v42 (ix2 (0 : Fin 1) l) + ∑ r : Fin 384, v27 (ix2 r l) := by
  pointwise [k0_pay4]

/-- The rows that the two stores leave, over the values `X` held before. -/
theorem rows_eq (c : Dev nD) (t : Fin cfg0.N) (X : S8x1024.Idx → EReal) (y0 : Fin 8) (y1 : Fin 1024) :
    (if y0.val = 1 then
        X (ix2 (1 : Fin 8) y1) + ∑ r : Fin 384, k0_pay12 (F := Ideal) (iblk m c 0 t) (iblk m c 1 t) (iblk m c 4 t) (iblk m c 3 t) (iblk m c 6 t) (ix2 r y1)
      else if y0.val = 0 then
        X (ix2 (0 : Fin 8) y1) + ∑ r : Fin 384, k0_pay11 (F := Ideal) (iblk m c 0 t) (iblk m c 1 t) (iblk m c 4 t) (iblk m c 2 t) (iblk m c 5 t) (ix2 r y1)
      else X (ix2 y0 y1)) = X (ix2 y0 y1) + term m c t (ix2 y0 y1) := by
  unfold term
  simp only [dg0_apply, dg1_apply]
  obtain ⟨k, hk⟩ := y0
  rcases Nat.lt_or_ge k 2 with h | h
  · rcases (by omega : k = 0 ∨ k = 1) with rfl | rfl <;> rfl
  · rw [if_neg (by show ¬ k = 1; omega), if_neg (by show ¬ k = 0; omega), if_neg (by show ¬ k = 0; omega), if_neg (by show ¬ k = 1; omega)]
    exact (add_zero _).symm

theorem step_A (c : Dev nD) (t : Fin cfg0.N) (h0 : t.val % 22 = 0) (y : S8x1024.Idx) : (outsAt0 m c t.val t.isLt).2.2.2 y = k0_pay2 (F := Ideal) y + term m c t y := by
  rw [outsAt0_A m c t h0]
  frame_open
  simp (disch := decide) only [↓ View.readCov_skip, ↓ View.readCov_cons_toLoadRect, ↓ View.readCov_fill]
  frame_out
  idx_vars y
  rw [Rows.canon_row, Rows.canon_row, row0_apply, row1_apply, Rows.ld_row (by decide), Rows.ld_row (by decide), View.canon_cons_unit_lit (S := S8x1024)]
  · exact rows_eq m c t (k0_pay2 (F := Ideal)) y0 y1
  · decide

theorem step_B (c : Dev nD) (t : Fin cfg0.N) (h0 : ¬ t.val % 22 = 0) (y : S8x1024.Idx) : (outsAt0 m c t.val t.isLt).2.2.2 y
     = (outsAt0 m c (t.val - 1) (Nat.lt_of_le_of_lt (Nat.sub_le _ _) t.isLt)).2.2.2 y + term m c t y := by
  rw [outsAt0_B m c t h0]
  frame_out
  idx_vars y
  rw [Rows.read_row, Rows.read_row, row0_apply, row1_apply, Rows.ld_row (by decide), Rows.ld_row (by decide), View.writes, Memref.IsWhole.read_unread]
  exact rows_eq m c t (outsAt0 m c (t.val - 1) (Nat.lt_of_le_of_lt (Nat.sub_le _ _) t.isLt)).2.2.2 y0 y1

/-- The points' sums are the sum over all rows. -/
theorem sum_rows (g : Fin 8448 → EReal) : ∑ t : Fin 22, ∑ r : Fin 384, g (⟨384 * t.val + r.val, by omega⟩ : Fin 8448) = ∑ t : Fin 8448, g t := by
  have h := Fin.sum_univ_univ_mul_add 22 384 (fun t => if h : t < 8448 then g ⟨t, h⟩ else 0)
  simp only [Nat.reduceMul, Fin.is_lt, dif_pos, Fin.eta] at h
  rw [← h]
  refine Finset.sum_congr rfl fun t _ => Finset.sum_congr rfl fun r _ => ?_
  rw [dif_pos (by omega)]
  exact congrArg g (Fin.ext (show 384 * t.val + r.val = t.val * 384 + r.val by omega))

theorem after10_apply (c : Dev nD) (t : Fin cfg0.N) (ht : t.val + 1 = cfg0.N) (j : S8x1024.Idx) :
    (outsAt0 m c t.val t.isLt).2.2.2 j = GateMath.dbg (dmv m c) (wov m c) (zv m c) (bgv m c) (pav m c) (pbv m c) j := by
  rw [Pipeline.eq_sum_fin_of_reset_step_apply_last (fun n h => (outsAt0 m c n h).2.2.2) 22 (k0_pay2 (F := Ideal)) (term m c)
    (step_A m c) (step_B m c) (by decide) t ht j]
  idx_vars j
  pointwise [k0_pay2]
  rw [GateMath.dbg_ix2, ← sum_rows, ← sum_rows]
  simp only [term_ix2]
  by_cases h0 : j0.val = 0
  · simp only [if_pos h0]; rfl
  · by_cases h1 : j0.val = 1
    · simp only [if_neg h0, if_pos h1]; rfl
    · simp only [if_neg h0, if_neg h1]; simp

/-- The last point. -/
def tLast : Fin cfg0.N := ⟨21, (by rw [N_0]; decide : 21 < grid0.N)⟩

theorem final10 (c : Dev nD) : (dats m 0 c).arrAt 10 cfg0.N = GateMath.dbg (dmv m c) (wov m c) (zv m c) (bgv m c) (pav m c) (pbv m c) := by
  refine (dats m 0 c).arrAt_eq_of_after_last 10 tLast (by decide +kernel) _ fun j => ?_
  blk_simp
  rw [after0_10]
  exact after10_apply m c tLast N_0.symm j

end Cert.GateIdeal.Gate
end
-- ==== Proof.GateRef.lean ====
/- The reference's results, read at an index: the closed forms of the gates' gradient. -/
module

public import proofs.«01_k».proof.Proof.Gen.GateReferenceIdeal.Read
public import proofs.«01_k».proof.Proof.GateMath

@[expose] public section

set_option maxRecDepth 16384

noncomputable section

namespace Cert.GateReferenceIdeal.Gate

open Cert.GateReferenceIdeal Cert.GateReferenceIdeal.Gen Cert.GateReferenceIdeal.Read Idealize.ShloMosaic Idealize.ShloMosaic.TcCoe
open Cert

variable (dm : GateMath.ST.Idx → EReal) (wo : GateMath.SW.Idx → EReal) (z : GateMath.SZ.Idx → EReal) (bg : GateMath.SB.Idx → EReal)
  (pa pb : GateMath.ST.Idx → EReal)

theorem v38_apply (t : Fin 8448) (l : Fin 1024) : val_main_v38 (F := Ideal) dm wo (ix2 t l) = GateMath.dmg dm wo t l := by
  pointwise [val_main_v38, val_main_v37, val_main_v2]
  rfl

theorem v15_apply (t : Fin 8448) (l : Fin 1024) : val_main_v15 (F := Ideal) z bg (ix2 t l) = GateMath.s0 z bg t l := by
  pointwise [val_main_v15, val_main_v14, val_main_cst_0, val_main_v13, val_main_v12, val_main_cst, val_main_v11, val_main_v10, val_main_v9,
   val_main_v8, val_main_v7, val_main_v6, val_main_v5, val_main_v0]
  rfl

theorem v30_apply (t : Fin 8448) (l : Fin 1024) : val_main_v30 (F := Ideal) z bg (ix2 t l) = GateMath.s1 z bg t l := by
  pointwise [val_main_v30, val_main_v29, val_main_cst_3, val_main_v28, val_main_v27, val_main_cst_2, val_main_v26, val_main_v25, val_main_v24,
   val_main_v23, val_main_v22, val_main_v21, val_main_v20, val_main_v1]
  rfl

theorem v49_apply (t : Fin 8448) (l : Fin 1024) : val_main_v49 (F := Ideal) dm wo z bg pa (ix2 t l) = GateMath.dg dm wo (GateMath.s0 z bg) pa t l := by
  pointwise [val_main_v49, val_main_v48, val_main_v3, val_main_v18, val_main_v17, val_main_v16, val_main_cst_1]
  rw [v38_apply, v15_apply]
  rfl

theorem v41_apply (t : Fin 8448) (l : Fin 1024) : val_main_v41 (F := Ideal) dm wo z bg pb (ix2 t l) = GateMath.dg dm wo (GateMath.s1 z bg) pb t l := by
  pointwise [val_main_v41, val_main_v40, val_main_v4, val_main_v33, val_main_v32, val_main_v31, val_main_cst_4]
  rw [v38_apply, v30_apply]
  rfl

theorem dpa_eq : val_main_v56 (F := Ideal) dm wo z bg = GateMath.dp dm wo (GateMath.s0 z bg) := by
  funext y
  idx_vars y
  pointwise [val_main_v56, val_main_v47]
  rw [v38_apply, v15_apply, mul_comm]
  rfl

theorem dpb_eq : val_main_v57 (F := Ideal) dm wo z bg = GateMath.dp dm wo (GateMath.s1 z bg) := by
  funext y
  idx_vars y
  pointwise [val_main_v57, val_main_v39]
  rw [v38_apply, v30_apply, mul_comm]
  rfl

theorem dgs_eq : val_main_v59 (F := Ideal) dm wo z bg pa pb = GateMath.dgs dm wo z bg pa pb := by
  funext y
  idx_vars y
  pointwise [val_main_v59, val_main_v58]
  simp only [v49_apply, v41_apply]
  rfl

theorem dbg_eq : val_main_v60 (F := Ideal) dm wo z bg pa pb = GateMath.dbg dm wo z bg pa pb := by
  funext y
  idx_vars y
  pointwise [val_main_v60, val_main_v55, val_main_v54, val_main_v53, val_main_v52, val_main_v51, val_main_v50, val_main_v46, val_main_v45, val_main_v44, val_main_v43, val_main_v42,
    val_main_cst_5, val_main_cst_6, val_main_cst_7, val_main_cst_8, val_main_cst_9, val_main_cst_10, val_main_call0_v0, val_main_c]
  simp only [v49_apply, v41_apply]
  rw [GateMath.dbg_ix2]
  simp only [Fin.sum_univ_one]
  by_cases h0 : y0.val < 2
  · rw [dif_pos h0]
    obtain h | h : y0.val = 0 ∨ y0.val = 1 := by omega
    · rw [dif_neg (by omega), dif_pos (by omega), if_pos h]; simp
    · rw [dif_pos (by omega), dif_neg (by omega), if_neg (by omega), if_pos h]; simp
  · rw [dif_neg h0, if_neg (by omega), if_neg (by omega)]
    show (((0#32).toInt : ℝ) : EReal) = 0
    simp

end Cert.GateReferenceIdeal.Gate
end
-- ==== Proof.GateClaim.lean ====
/- The claims about the gates' gradient: the frames and the equality of the results. -/
module

public import proofs.«01_k».proof.Proof.Gen.Gate.Frame
public import proofs.«01_k».proof.Proof.GateKernel
public import proofs.«01_k».proof.Proof.GateRef

@[expose] public section

set_option maxRecDepth 16384

noncomputable section

namespace Cert.GateClaim

open Idealize.ShloMosaic Idealize.ShloMosaic.TcCoe Idealize.SL.Sem

local instance : Cert.Gate.Facts := Cert.Gate.Gen.facts
local instance : Cert.GateIdeal.Facts := Cert.GateIdeal.Gen.facts
local instance : Cert.GateReferenceIdeal.Facts := Cert.GateReferenceIdeal.Gen.facts

theorem frame_k : Cert.quiescent_Gate := fun m ρ _ => Cert.Gate.Gen.frame m ρ
theorem frame_ki : Cert.quiescent_GateIdeal := fun m ρ _ => Cert.GateIdeal.Gen.frame m ρ
theorem frame_ri : Cert.quiescent_GateReferenceIdeal := fun m ρ _ =>
  (θ_run Cert.GateReferenceIdeal.defs _ _).mono (fun r h => ⟨fun c => (h c).2.2.2.2, sem_eq_zero_of_no_sems (by decide) r.2⟩)
    (Cert.GateReferenceIdeal.Value.run (F := Ideal) m ρ)

/-- Both programs leave the closed forms of GateMath. -/
theorem algebraic : Cert.algebraic_GateIdeal_GateReferenceIdeal := fun m g m' g' _ hm =>
  ⟨fun c => GateMath.dp (GateIdeal.Gate.dmv m c) (GateIdeal.Gate.wov m c) (GateMath.s0 (GateIdeal.Gate.zv m c) (GateIdeal.Gate.bgv m c)),
   fun c => GateMath.dp (GateIdeal.Gate.dmv m c) (GateIdeal.Gate.wov m c) (GateMath.s1 (GateIdeal.Gate.zv m c) (GateIdeal.Gate.bgv m c)),
   fun c => GateMath.dgs (GateIdeal.Gate.dmv m c) (GateIdeal.Gate.wov m c) (GateIdeal.Gate.zv m c) (GateIdeal.Gate.bgv m c) (GateIdeal.Gate.pav m c) (GateIdeal.Gate.pbv m c),
   fun c => GateMath.dbg (GateIdeal.Gate.dmv m c) (GateIdeal.Gate.wov m c) (GateIdeal.Gate.zv m c) (GateIdeal.Gate.bgv m c) (GateIdeal.Gate.pav m c) (GateIdeal.Gate.pbv m c),
   (θ_run Cert.GateIdeal.defs _ _).mono (fun _ h c => ⟨(h c).1.trans (GateIdeal.Gate.final7 m c), (h c).2.1.trans (GateIdeal.Gate.final8 m c),
      (h c).2.2.1.trans (GateIdeal.Gate.final9 m c), (h c).2.2.2.1.trans (GateIdeal.Gate.final10 m c), (h c).2.2.2.2⟩)
     (Cert.GateIdeal.Value.run_blocks (F := Ideal) m g),
   (θ_run Cert.GateReferenceIdeal.defs _ _).mono (fun _ h c => by
      obtain ⟨e0, e1, e2, e3, e4, e5⟩ := hm c
      obtain ⟨h0, h1, h2, h3, hk⟩ := h c
      refine ⟨h0.trans ?_, h1.trans ?_, h2.trans ?_, h3.trans ?_, hk⟩
      · rw [e0, e1, e2, e3]
        exact GateReferenceIdeal.Gate.dpa_eq _ _ _ _
      · rw [e0, e1, e2, e3]
        exact GateReferenceIdeal.Gate.dpb_eq _ _ _ _
      · rw [e0, e1, e2, e3, e4, e5]
        exact GateReferenceIdeal.Gate.dgs_eq _ _ _ _ _ _
      · rw [GateReferenceIdeal.Read.val_main_v60_eq, e0, e1, e2, e3, e4, e5]
        exact GateReferenceIdeal.Gate.dbg_eq _ _ _ _ _ _)
     (Cert.GateReferenceIdeal.Value.run (F := Ideal) m' g')⟩

end Cert.GateClaim
end
-- ==== Proof.Products.lean ====
/- The closed forms of the products of the backward pass, over the extended reals, and the sum over blocks of rows as the sum over
   all rows. -/
module

public import proofs.«01_k».proof.Defs
public import Idealize.ShloMosaic.Lib.Pipeline.ValueKit
public import Idealize.ShloMosaic.Lib.Pointwise
public import Idealize.ShloMosaic.PureOps.Ideal.Laws

@[expose] public section

noncomputable section

namespace Cert.Products

open Idealize.ShloMosaic

/-- A matrix of extended reals. -/
abbrev Mat (r n : ℕ) : Type := (⟨2, ![r, n]⟩ : Shape).Idx → EReal

variable {r n l : ℕ}

/-- The product with the left factor transposed, `aᵀ · b`: a weight's gradient, summed over the rows. -/
def tn (a : Mat r n) (b : Mat r l) (i : Fin n) (j : Fin l) : EReal := ∑ t : Fin r, a (ix2 t i) * b (ix2 t j)

/-- The product with the right factor transposed, `a · bᵀ`: the gradient of a product's input. -/
def nt (a : Mat r n) (b : Mat l n) (i : Fin r) (j : Fin l) : EReal := ∑ k : Fin n, a (ix2 i k) * b (ix2 j k)

/-- The product `a · b`. -/
def nn (a : Mat r n) (b : Mat n l) (i : Fin r) (j : Fin l) : EReal := ∑ k : Fin n, a (ix2 i k) * b (ix2 k j)

/-- A matrix from its elements. -/
abbrev mat (g : Fin r → Fin n → EReal) : Mat r n := fun y => g (y 0) (y 1)

/-- The weight of the residual branch, the single-precision number nearest to √2. -/
abbrev alpha : EReal := (Scalar.ofBits .f32 0x3FB504F3#32 : Ideal .f32)

/-- The gradient of the input `h` of `(h · w, α h)`. -/
def resid (a : Mat r n) (b : Mat l n) (d : Mat r l) (i : Fin r) (j : Fin l) : EReal := nt a b i j + alpha * d (ix2 i j)

/-- The gradient of `w_up` in eight blocks of columns, as the exchange between the devices takes it. -/
def upOut (h : Mat 8448 1024) (dgu : Mat 8448 5632) : (⟨3, ![8, 1024, 704]⟩ : Shape).Idx → EReal := fun y =>
  tn h dgu (y 1) ⟨(y 0).val * 704 + (y 2).val, by
    have h0 : (y 0).val < 8 := (y 0).isLt
    have h2 : (y 2).val < 704 := (y 2).isLt
    omega⟩

/-- The sum over blocks of rows of `aᵀ · b` is the whole sum. -/
theorem tn_blocks {S p : ℕ} (a : Mat r n) (b : Mat r l) (i : Fin n) (j : Fin l) (hS : r = S * p)
    (h : ∀ (s : Fin S) (k : Fin p), s.val * p + k.val < r) :
    ∑ s : Fin S, ∑ k : Fin p, a (ix2 (⟨s.val * p + k.val, h s k⟩ : Fin r) i) * b (ix2 (⟨s.val * p + k.val, h s k⟩ : Fin r) j) = tn a b i j :=
  Fin.sum_mul_add_congr (fun s k hl => rfl) hS

/-- The sum over blocks of columns of `a · bᵀ` is the whole sum. -/
theorem nt_blocks {S p : ℕ} (a : Mat r n) (b : Mat l n) (i : Fin r) (j : Fin l) (hS : n = S * p)
    (h : ∀ (s : Fin S) (k : Fin p), s.val * p + k.val < n) :
    ∑ s : Fin S, ∑ k : Fin p, a (ix2 i (⟨s.val * p + k.val, h s k⟩ : Fin n)) * b (ix2 j (⟨s.val * p + k.val, h s k⟩ : Fin n)) = nt a b i j :=
  Fin.sum_mul_add_congr (fun s k hl => rfl) hS

end Cert.Products
end
-- ==== Proof.DownKernel.lean ====
/- The kernel of the gradient of `w_down`, read at an index: `aᵀ · b` summed over three blocks of rows. -/
module

public import proofs.«01_k».proof.Proof.Gen.DownIdeal.Value
public import proofs.«01_k».proof.Proof.Products
public import proofs.«01_k».proof.Proof.Rows

@[expose] public section

set_option maxRecDepth 16384

noncomputable section

namespace Cert.DownIdeal.Val

open Cert.DownIdeal Cert.DownIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 2816 := m (c, main_arg0)
abbrev bv (c : Dev nD) : Mat 8448 1024 := m (c, main_arg1)

theorem idx0 : ∀ t : Fin cfg0.N, win0_0.index t = ![t.val / 3, t.val % 3, 0] ∧ win0_1.index t = ![t.val % 3, 0] ∧ win0_2.index t = ![t.val / 3, 0] :=
  (by decide +kernel : ∀ t : Fin grid0.N, win0_0.index t = ![t.val / 3, t.val % 3, 0] ∧ win0_1.index t = ![t.val % 3, 0] ∧ win0_2.index t = ![t.val / 3, 0])

theorem ltN (t : Fin cfg0.N) : t.val < 12 := N_0 ▸ t.isLt

/-- The row of the whole array that a point's row is. -/
abbrev row (t : Fin cfg0.N) (k : Fin 2816) : Fin 8448 := ⟨t.val % 3 * 2816 + k.val, by omega⟩
/-- The column of the left factor that a point's column is. -/
abbrev ca (t : Fin cfg0.N) (i : Fin 704) : Fin 2816 := ⟨t.val / 3 * 704 + i.val, by have := ltN t; omega⟩
/-- The column of the right factor that a point's column is. -/
abbrev cb (t : Fin cfg0.N) (j : Fin 1024) : Fin 1024 := j

/-- The left factor in its four blocks of columns. -/
theorem V_a (c : Dev nD) : V m c main_v1 = transpose S4x8448x704 [1, 0, 2] (shapeCast S8448x4x704 (av m c) shapeCasts_S8448x2816_S8448x4x704) transposes_S8448x4x704_S4x8448x704_1_0_2 := by
  simp only [V, hostOps0, List.flatten_cons, List.flatten_nil, List.append_nil, List.cons_append, List.nil_append]
  entry_read
  rfl

theorem b0 (c : Dev nD) (t : Fin cfg0.N) (k : Fin 2816) (i : Fin 704) : iblk m c 0 t (ix3 (0 : Fin 1) k i) = av m c (ix2 (row t k) (ca t i)) := by
  have := ltN t
  have hp : (win0_0.blk t).view.emb (ix3 (0 : Fin 1) k i) = ix3 (⟨t.val / 3, by omega⟩ : Fin 4) (row t k) i := by
    blk_ext [iblk, idx0 t]
  show V m c main_v1 ((win0_0.blk t).view.emb (ix3 (0 : Fin 1) k i)) = _
  rw [hp, V_a]
  pointwise

theorem b1 (c : Dev nD) (t : Fin cfg0.N) (k : Fin 2816) (i : Fin 1024) : iblk m c 1 t (ix2 k i) = bv m c (ix2 (row t k) (cb t i)) := by
  have := ltN t
  blk_ext [iblk, V_main_arg1 m c, idx0 t]

/-- What a point adds. -/
def term (c : Dev nD) (t : Fin cfg0.N) (i : Fin 704) (j : Fin 1024) : EReal :=
  ∑ k : Fin 2816, av m c (ix2 (row t k) (ca t i)) * bv m c (ix2 (row t k) (cb t j))

theorem part_apply (c : Dev nD) (t : Fin cfg0.N) (i : Fin 704) (j : Fin 1024) :
    k0_pay1 (F := Ideal) (iblk m c 0 t) (iblk m c 1 t) (ix2 i j) = term m c t i j := by
  pointwise [k0_pay1]
  simp only [b0, b1]
  rfl

theorem step_A (c : Dev nD) (t : Fin cfg0.N) (h0 : t.val % 3 = 0) (y : S704x1024.Idx) :
    outsAt0 m c t.val t.isLt y = 0 + term m c t (y 0) (y 1) := by
  have := ltN t
  rw [outsAt0_A m c t h0 (by omega)]
  frame_out
  rw [zero_add]
  idx_vars y
  show _ = term m c t y0 y1
  rw [← part_apply]

theorem step_B (c : Dev nD) (t : Fin cfg0.N) (h0 : ¬ t.val % 3 = 0) (y : S704x1024.Idx) :
    outsAt0 m c t.val t.isLt y = outsAt0 m c (t.val - 1) (Nat.lt_of_le_of_lt (Nat.sub_le _ _) t.isLt) y + term m c t (y 0) (y 1) := by
  have := ltN t
  rw [outsAt0_B m c t h0 (by omega)]
  frame_out
  idx_vars y
  show _ = _ + term m c t y0 y1
  rw [← part_apply]
  pointwise [k0_pay2]

theorem after2_apply (c : Dev nD) (t : Fin cfg0.N) (ht : t.val % 3 = 2) (y : S704x1024.Idx) :
    outsAt0 m c t.val t.isLt y = tn (av m c) (bv m c) (ca t (y 0)) (cb t (y 1)) := by
  rw [Pipeline.eq_sum_fin_of_reset_step_apply_of_flush (fun n h => outsAt0 m c n h) 3 (fun _ => 0)
    (fun t y => term m c t (y 0) (y 1)) (step_A m c) (step_B m c) t ht y, zero_add]
  refine Eq.trans ?_ (tn_blocks (S := 3) (p := 2816) (av m c) (bv m c) (ca t (y 0)) (cb t (y 1)) rfl fun s k => by omega)
  refine Finset.sum_congr rfl fun s _ => Finset.sum_congr rfl fun k _ => ?_
  have e : row ⟨3 * (t.val / 3) + s.val, Pipeline.run_point_lt_of_flush t ht s⟩ k = (⟨s.val * 2816 + k.val, by omega⟩ : Fin 8448) :=
    Fin.ext (show (3 * (t.val / 3) + s.val) % 3 * 2816 + k.val = s.val * 2816 + k.val by omega)
  have ea : ca ⟨3 * (t.val / 3) + s.val, Pipeline.run_point_lt_of_flush t ht s⟩ (y 0) = ca t (y 0) :=
    Fin.ext (show (3 * (t.val / 3) + s.val) / 3 * 704 + ((y 0)).val = t.val / 3 * 704 + ((y 0)).val by omega)
  rw [e, ea]

theorem final (c : Dev nD) : (dats m 0 c).arrAt 2 cfg0.N = mat (tn (av m c) (bv m c)) := by
  refine (dats m 0 c).arrAt_eq_of_covers 2 _ (by decide +kernel) fun t hf y => ?_
  blk_simp
  rw [after0_2]
  have hy : (win0_2.blk t).view.emb y = ix2 (ca t (y 0)) (cb t (y 1)) := by
    have := ltN t
    blk_ext [idx0 t]
  rw [hy, after2_apply m c t ((flush0_2 t).mp hf)]
  rfl

end Cert.DownIdeal.Val
end
-- ==== Proof.DownClaim.lean ====
/- The claims about the gradient of w_down: the frames and the equality of the results. -/
module

public import proofs.«01_k».proof.Proof.Gen.Down.Frame
public import proofs.«01_k».proof.Proof.Gen.DownReferenceIdeal.Run
public import proofs.«01_k».proof.Proof.Gen.DownReferenceIdeal.Read
public import proofs.«01_k».proof.Proof.DownKernel

@[expose] public section

set_option maxRecDepth 16384

noncomputable section

namespace Cert.DownClaim

open Idealize.ShloMosaic Idealize.ShloMosaic.TcCoe Idealize.SL.Sem
open Cert Cert.Products Cert.DownReferenceIdeal Cert.DownReferenceIdeal.Gen Cert.DownReferenceIdeal.Read

/-- The reference's result in closed form. -/
theorem ref_eq (a : Mat 8448 2816) (b : Mat 8448 1024) : val_main_v5 (F := Ideal) a b = mat (tn a b) := by
  funext y
  idx_vars y
  pointwise [val_main_v5, val_main_v4, val_main_v3, val_main_v1]
  exact Finset.sum_congr rfl fun t _ => mul_comm _ _

local instance : Cert.Down.Facts := Cert.Down.Gen.facts
local instance : Cert.DownIdeal.Facts := Cert.DownIdeal.Gen.facts
local instance : Cert.DownReferenceIdeal.Facts := Cert.DownReferenceIdeal.Gen.facts

theorem frame_k : Cert.quiescent_Down := fun m ρ _ => Cert.Down.Gen.frame m ρ
theorem frame_ki : Cert.quiescent_DownIdeal := fun m ρ _ => Cert.DownIdeal.Gen.frame m ρ
theorem frame_ri : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- Both programs leave the same product. -/
theorem algebraic : Cert.algebraic_DownIdeal_DownReferenceIdeal := fun m g m' g' _ hm =>
  ⟨fun c => mat (tn (DownIdeal.Val.av m c) (DownIdeal.Val.bv m c)),
   (θ_run Cert.DownIdeal.defs _ _).mono (fun _ h c => ⟨(h c).1.trans (DownIdeal.Val.final m c), (h c).2⟩)
     (Cert.DownIdeal.Value.run_blocks (F := Ideal) m g),
   (θ_run Cert.DownReferenceIdeal.defs _ _).mono (fun _ h c => by
      obtain ⟨e0, e1⟩ := hm c
      refine ⟨(h c).1.trans ?_, (h c).2⟩
      rw [e0, e1]
      exact ref_eq _ _)
     (Cert.DownReferenceIdeal.Value.run (F := Ideal) m' g')⟩

end Cert.DownClaim
end
-- ==== Proof.UpKernel.lean ====
/- The kernel of the gradient of `w_up`, read at an index: `aᵀ · b` summed over three blocks of rows. -/
module

public import proofs.«01_k».proof.Proof.Gen.UpIdeal.Value
public import proofs.«01_k».proof.Proof.Products
public import proofs.«01_k».proof.Proof.Rows

@[expose] public section

set_option maxRecDepth 16384

noncomputable section

namespace Cert.UpIdeal.Val

open Cert.UpIdeal Cert.UpIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 1024 := m (c, main_arg0)
abbrev bv (c : Dev nD) : Mat 8448 5632 := m (c, main_arg1)

theorem idx0 : ∀ t : Fin cfg0.N, win0_0.index t = ![t.val % 3, 0] ∧ win0_1.index t = ![t.val / 3 / 4, t.val / 3 % 4, t.val % 3, 0] ∧ win0_2.index t = ![t.val / 3, 0, 0] :=
  (by decide +kernel : ∀ t : Fin grid0.N, win0_0.index t = ![t.val % 3, 0] ∧ win0_1.index t = ![t.val / 3 / 4, t.val / 3 % 4, t.val % 3, 0] ∧ win0_2.index t = ![t.val / 3, 0, 0])

theorem ltN (t : Fin cfg0.N) : t.val < 24 := N_0 ▸ t.isLt

/-- The row of the whole array that a point's row is. -/
abbrev row (t : Fin cfg0.N) (k : Fin 2816) : Fin 8448 := ⟨t.val % 3 * 2816 + k.val, by omega⟩
/-- The column of the left factor that a point's column is. -/
abbrev ca (t : Fin cfg0.N) (i : Fin 1024) : Fin 1024 := i
/-- The column of the right factor that a point's column is. -/
abbrev cb (t : Fin cfg0.N) (j : Fin 704) : Fin 5632 := ⟨t.val / 3 * 704 + j.val, by have := ltN t; omega⟩

theorem b0 (c : Dev nD) (t : Fin cfg0.N) (k : Fin 2816) (i : Fin 1024) : iblk m c 0 t (ix2 k i) = av m c (ix2 (row t k) (ca t i)) := by
  have := ltN t
  blk_ext [iblk, V_main_arg0 m c, idx0 t]

/-- The right factor in its eight blocks of columns. -/
theorem V_b (c : Dev nD) : V m c main_v2 = shapeCast S2x4x8448x704 (transpose S8x8448x704 [1, 0, 2] (shapeCast S8448x8x704 (bv m c) shapeCasts_S8448x5632_S8448x8x704) transposes_S8448x8x704_S8x8448x704_1_0_2) shapeCasts_S8x8448x704_S2x4x8448x704 := by
  simp only [V, hostOps0, List.flatten_cons, List.flatten_nil, List.append_nil, List.cons_append, List.nil_append]
  entry_read
  rfl

theorem b1 (c : Dev nD) (t : Fin cfg0.N) (k : Fin 2816) (i : Fin 704) :
    iblk m c 1 t (ix4 (0 : Fin 1) (0 : Fin 1) k i) = bv m c (ix2 (row t k) (cb t i)) := by
  have := ltN t
  have hp : (win0_1.blk t).view.emb (ix4 (0 : Fin 1) (0 : Fin 1) k i)
      = ix4 (⟨t.val / 3 / 4, by omega⟩ : Fin 2) (⟨t.val / 3 % 4, by omega⟩ : Fin 4) (row t k) i := by
    blk_ext [iblk, idx0 t]
  show V m c main_v2 ((win0_1.blk t).view.emb (ix4 (0 : Fin 1) (0 : Fin 1) k i)) = _
  rw [hp, V_b]
  pointwise
  exact congrArg (fun x : Fin 5632 => bv m c (ix2 (row t k) x))
    (Fin.ext (show (t.val / 3 / 4 * 4 + t.val / 3 % 4) * 704 + i.val = t.val / 3 * 704 + i.val by omega))

/-- What a point adds. -/
def term (c : Dev nD) (t : Fin cfg0.N) (i : Fin 1024) (j : Fin 704) : EReal :=
  ∑ k : Fin 2816, av m c (ix2 (row t k) (ca t i)) * bv m c (ix2 (row t k) (cb t j))

theorem part_apply (c : Dev nD) (t : Fin cfg0.N) (i : Fin 1024) (j : Fin 704) :
    k0_pay1 (F := Ideal) (iblk m c 0 t) (iblk m c 1 t) (ix2 i j) = term m c t i j := by
  pointwise [k0_pay1]
  simp only [b0, b1]
  rfl

theorem step_A (c : Dev nD) (t : Fin cfg0.N) (h0 : t.val % 3 = 0) (y : S1x1024x704.Idx) :
    outsAt0 m c t.val t.isLt y = 0 + term m c t (y 1) (y 2) := by
  have := ltN t
  rw [outsAt0_A m c t h0 (by omega)]
  frame_out
  rw [zero_add]
  idx_vars y
  show _ = term m c t y1 y2
  rw [← part_apply]
  pointwise [k0_pay2]

theorem step_B (c : Dev nD) (t : Fin cfg0.N) (h0 : ¬ t.val % 3 = 0) (y : S1x1024x704.Idx) :
    outsAt0 m c t.val t.isLt y = outsAt0 m c (t.val - 1) (Nat.lt_of_le_of_lt (Nat.sub_le _ _) t.isLt) y + term m c t (y 1) (y 2) := by
  have := ltN t
  rw [outsAt0_B m c t h0 (by omega)]
  frame_out
  idx_vars y
  show _ = _ + term m c t y1 y2
  rw [← part_apply]
  obtain rfl : y0 = 0 := Subsingleton.elim _ _
  pointwise [k0_pay3]

theorem after2_apply (c : Dev nD) (t : Fin cfg0.N) (ht : t.val % 3 = 2) (y : S1x1024x704.Idx) :
    outsAt0 m c t.val t.isLt y = tn (av m c) (bv m c) (ca t (y 1)) (cb t (y 2)) := by
  rw [Pipeline.eq_sum_fin_of_reset_step_apply_of_flush (fun n h => outsAt0 m c n h) 3 (fun _ => 0)
    (fun t y => term m c t (y 1) (y 2)) (step_A m c) (step_B m c) t ht y, zero_add]
  refine Eq.trans ?_ (tn_blocks (S := 3) (p := 2816) (av m c) (bv m c) (ca t (y 1)) (cb t (y 2)) rfl fun s k => by omega)
  refine Finset.sum_congr rfl fun s _ => Finset.sum_congr rfl fun k _ => ?_
  have e : row ⟨3 * (t.val / 3) + s.val, Pipeline.run_point_lt_of_flush t ht s⟩ k = (⟨s.val * 2816 + k.val, by omega⟩ : Fin 8448) :=
    Fin.ext (show (3 * (t.val / 3) + s.val) % 3 * 2816 + k.val = s.val * 2816 + k.val by omega)
  have eb : cb ⟨3 * (t.val / 3) + s.val, Pipeline.run_point_lt_of_flush t ht s⟩ (y 2) = cb t (y 2) :=
    Fin.ext (show (3 * (t.val / 3) + s.val) / 3 * 704 + ((y 2)).val = t.val / 3 * 704 + ((y 2)).val by omega)
  rw [e, eb]

theorem final (c : Dev nD) : (dats m 0 c).arrAt 2 cfg0.N = upOut (av m c) (bv m c) := by
  refine (dats m 0 c).arrAt_eq_of_covers 2 _ (by decide +kernel) fun t hf y => ?_
  blk_simp
  rw [after0_2]
  have hy : (win0_2.blk t).view.emb y = ix3 (⟨t.val / 3, by have := ltN t; omega⟩ : Fin 8) (y 1) (y 2) := by
    have := ltN t
    blk_ext [idx0 t]
  rw [hy, after2_apply m c t ((flush0_2 t).mp hf)]
  rfl

end Cert.UpIdeal.Val
end
-- ==== Proof.UpClaim.lean ====
/- The claims about the gradient of w_up: the frames and the equality of the results. -/
module

public import proofs.«01_k».proof.Proof.Gen.Up.Frame
public import proofs.«01_k».proof.Proof.Gen.UpReferenceIdeal.Run
public import proofs.«01_k».proof.Proof.Gen.UpReferenceIdeal.Read
public import proofs.«01_k».proof.Proof.UpKernel

@[expose] public section

set_option maxRecDepth 16384

noncomputable section

namespace Cert.UpClaim

open Idealize.ShloMosaic Idealize.ShloMosaic.TcCoe Idealize.SL.Sem
open Cert Cert.Products Cert.UpReferenceIdeal Cert.UpReferenceIdeal.Gen Cert.UpReferenceIdeal.Read

/-- The reference's result in closed form. -/
theorem ref_eq (a : Mat 8448 1024) (b : Mat 8448 5632) : val_main_v7 (F := Ideal) a b = upOut a b := by
  funext y
  idx_vars y
  pointwise [val_main_v7, val_main_v6, val_main_v5, val_main_v4, val_main_v3, val_main_v1]
  exact Finset.sum_congr rfl fun t _ => mul_comm (b _) (a _)

local instance : Cert.Up.Facts := Cert.Up.Gen.facts
local instance : Cert.UpIdeal.Facts := Cert.UpIdeal.Gen.facts
local instance : Cert.UpReferenceIdeal.Facts := Cert.UpReferenceIdeal.Gen.facts

theorem frame_k : Cert.quiescent_Up := fun m ρ _ => Cert.Up.Gen.frame m ρ
theorem frame_ki : Cert.quiescent_UpIdeal := fun m ρ _ => Cert.UpIdeal.Gen.frame m ρ
theorem frame_ri : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run (F := Ideal) m ρ)

/-- Both programs leave the same product. -/
theorem algebraic : Cert.algebraic_UpIdeal_UpReferenceIdeal := fun m g m' g' _ hm =>
  ⟨fun c => upOut (UpIdeal.Val.av m c) (UpIdeal.Val.bv m c),
   (θ_run Cert.UpIdeal.defs _ _).mono (fun _ h c => ⟨(h c).1.trans (UpIdeal.Val.final m c), (h c).2⟩)
     (Cert.UpIdeal.Value.run_blocks (F := Ideal) m g),
   (θ_run Cert.UpReferenceIdeal.defs _ _).mono (fun _ h c => by
      obtain ⟨e0, e1⟩ := hm c
      refine ⟨(h c).1.trans ?_, (h c).2⟩
      rw [e0, e1]
      exact ref_eq _ _)
     (Cert.UpReferenceIdeal.Value.run (F := Ideal) m' g')⟩

end Cert.UpClaim
end
-- ==== Proof.DxKernel.lean ====
/- The kernel of the gradient of the feed-forward block's input, read at an index: `dgu · wᵀ + α · dr`, the columns in eight blocks. -/
module

public import proofs.«01_k».proof.Proof.Gen.DxIdeal.Value
public import proofs.«01_k».proof.Proof.Products
public import proofs.«01_k».proof.Proof.Rows

@[expose] public section

set_option maxRecDepth 16384

noncomputable section

namespace Cert.DxIdeal.Val

open Cert.DxIdeal Cert.DxIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 5632 := m (c, main_arg0)
abbrev bv (c : Dev nD) : Mat 1024 5632 := m (c, main_arg1)
abbrev rv (c : Dev nD) : Mat 8448 1024 := m (c, main_arg2)

theorem idx0 : ∀ t : Fin cfg0.N, win0_0.index t = ![t.val % 2, 0, t.val / 2, 0] ∧ win0_1.index t = ![t.val % 2, 0, 0]
    ∧ win0_2.index t = ![t.val / 2, 0] ∧ win0_3.index t = ![t.val / 2, 0] :=
  (by decide +kernel : ∀ t : Fin grid0.N, win0_0.index t = ![t.val % 2, 0, t.val / 2, 0] ∧ win0_1.index t = ![t.val % 2, 0, 0]
    ∧ win0_2.index t = ![t.val / 2, 0] ∧ win0_3.index t = ![t.val / 2, 0])

theorem ltN (t : Fin cfg0.N) : t.val < 22 := N_0 ▸ t.isLt

/-- The row of the whole array that a point's row is. -/
abbrev row (t : Fin cfg0.N) (r : Fin 768) : Fin 8448 := ⟨t.val / 2 * 768 + r.val, by have := ltN t; omega⟩
/-- The column of the whole array that column `k` of block `s` is. -/
abbrev col (s : Fin 8) (k : Fin 704) : Fin 5632 := ⟨s.val * 704 + k.val, by omega⟩
/-- The block of columns that a point reads as its piece `p`. -/
abbrev kb (t : Fin cfg0.N) (p : Fin 4) : Fin 8 := ⟨t.val % 2 * 4 + p.val, by omega⟩

theorem kb_even (t : Fin cfg0.N) (h : t.val % 2 = 0) (p : Fin 4) : kb t p = ⟨p.val, by omega⟩ :=
  Fin.ext (show t.val % 2 * 4 + p.val = p.val by omega)

theorem kb_odd (t : Fin cfg0.N) (h : t.val % 2 = 1) (p : Fin 4) : kb t p = ⟨4 + p.val, by omega⟩ :=
  Fin.ext (show t.val % 2 * 4 + p.val = 4 + p.val by omega)

/-- The left factor in its eight blocks of columns. -/
theorem V_a (c : Dev nD) : V m c main_v2 = shapeCast S2x4x8448x704 (transpose S8x8448x704 [1, 0, 2] (shapeCast S8448x8x704 (av m c) shapeCasts_S8448x5632_S8448x8x704) transposes_S8448x8x704_S8x8448x704_1_0_2) shapeCasts_S8x8448x704_S2x4x8448x704 := by
  simp only [V, hostOps0, List.flatten_cons, List.flatten_nil, List.append_nil, List.cons_append, List.nil_append]
  entry_read
  rfl

/-- The right factor in its eight blocks of columns. -/
theorem V_b (c : Dev nD) : V m c main_v4 = transpose S8x1024x704 [1, 0, 2] (shapeCast S1024x8x704 (bv m c) shapeCasts_S1024x5632_S1024x8x704) transposes_S1024x8x704_S8x1024x704_1_0_2 := by
  simp only [V, hostOps0, List.flatten_cons, List.flatten_nil, List.append_nil, List.cons_append, List.nil_append]
  entry_read
  rfl

theorem b0 (c : Dev nD) (t : Fin cfg0.N) (p : Fin 4) (r : Fin 768) (k : Fin 704) :
    iblk m c 0 t (ix4 (0 : Fin 1) p r k) = av m c (ix2 (row t r) (col (kb t p) k)) := by
  have := ltN t
  have hp : (win0_0.blk t).view.emb (ix4 (0 : Fin 1) p r k) = ix4 (⟨t.val % 2, by omega⟩ : Fin 2) p (row t r) k := by
    blk_ext [iblk, idx0 t]
  show V m c main_v2 ((win0_0.blk t).view.emb (ix4 (0 : Fin 1) p r k)) = _
  rw [hp, V_a]
  pointwise

theorem b1 (c : Dev nD) (t : Fin cfg0.N) (p : Fin 4) (r : Fin 1024) (k : Fin 704) :
    iblk m c 1 t (ix3 p r k) = bv m c (ix2 r (col (kb t p) k)) := by
  have := ltN t
  have hp : (win0_1.blk t).view.emb (ix3 p r k) = ix3 (kb t p) r k := by
    blk_ext [iblk, idx0 t]
  show V m c main_v4 ((win0_1.blk t).view.emb (ix3 p r k)) = _
  rw [hp, V_b]
  pointwise

theorem b2 (c : Dev nD) (t : Fin cfg0.N) (r : Fin 768) (k : Fin 1024) : iblk m c 2 t (ix2 r k) = rv m c (ix2 (row t r) k) := by
  have := ltN t
  blk_ext [iblk, V_main_arg2 m c, idx0 t]

/-- The product over one block of columns. -/
def part (c : Dev nD) (i : Fin 8448) (j : Fin 1024) (s : Fin 8) : EReal :=
  ∑ k : Fin 704, av m c (ix2 i (col s k)) * bv m c (ix2 j (col s k))

theorem acc_A (c : Dev nD) (t : Fin cfg0.N) (h0 : t.val % 2 = 0) (r : Fin 768) (j : Fin 1024) :
    (outsAt0 m c t.val t.isLt).2 (ix2 r j) = part m c (row t r) j 0 + part m c (row t r) j 1 + part m c (row t r) j 2 + part m c (row t r) j 3 := by
  rw [outsAt0_A m c t h0 (by omega) (by omega)]
  frame_out
  pointwise [k0_pay1, k0_pay4]
  simp only [b0, b1]
  rw [kb_even t h0 0, kb_even t h0 1, kb_even t h0 2, kb_even t h0 3]
  rfl

/-- The eight blocks of columns make the whole product. -/
theorem sum_parts (c : Dev nD) (i : Fin 8448) (j : Fin 1024) :
    (part m c i j 0 + part m c i j 1 + part m c i j 2 + part m c i j 3) + (part m c i j 4 + part m c i j 5 + part m c i j 6 + part m c i j 7)
      = nt (av m c) (bv m c) i j := by
  rw [← nt_blocks (S := 8) (p := 704) (av m c) (bv m c) i j rfl fun s k => by omega]
  refine Eq.trans ?_ (Fin.sum_univ_eight (part m c i j)).symm
  simp only [add_assoc]

theorem after3_apply (c : Dev nD) (t : Fin cfg0.N) (ht : t.val % 2 = 1) (y : S768x1024.Idx) :
    (outsAt0 m c t.val t.isLt).1 y = resid (av m c) (bv m c) (rv m c) (row t (y 0)) (y 1) := by
  have h22 := ltN t
  obtain ⟨u, hu, hr, hk⟩ : ∃ u : Fin cfg0.N, u.val = t.val - 1 ∧ u.val / 2 = t.val / 2 ∧ u.val % 2 = 0 :=
    ⟨⟨t.val - 1, Nat.lt_of_le_of_lt (Nat.sub_le _ _) t.isLt⟩, rfl, by show (t.val - 1) / 2 = _; omega, by show (t.val - 1) % 2 = 0; omega⟩
  have eu : outsAt0 m c (t.val - 1) (Nat.lt_of_le_of_lt (Nat.sub_le _ _) t.isLt) = outsAt0 m c u.val u.isLt := by
    have : (⟨t.val - 1, Nat.lt_of_le_of_lt (Nat.sub_le _ _) t.isLt⟩ : Fin cfg0.N) = u := Fin.ext hu.symm
    rw [← this]
  have ey : row u = row t := funext fun r => Fin.ext (show u.val / 2 * 768 + r.val = t.val / 2 * 768 + r.val by omega)
  rw [outsAt0_B m c t (by omega) ht ht]
  frame_open
  simp (disch := decide) only [↓ View.readCov_skip, ↓ View.readCov_cons_toLoadRect, ↓ View.readCov_fill]
  frame_out
  rw [eu]
  idx_vars y
  show _ = resid (av m c) (bv m c) (rv m c) (row t y0) y1
  pointwise [k0_pay3, k0_pay2, k0_pay4]
  simp only [b0, b1]
  erw [Memref.IsWhole.read_unread]
  rw [acc_A m c u hk, b2, ey, kb_odd t ht 0, kb_odd t ht 1, kb_odd t ht 2, kb_odd t ht 3]
  unfold resid
  rw [← sum_parts]
  rfl

theorem final (c : Dev nD) : (dats m 0 c).arrAt 3 cfg0.N = mat (resid (av m c) (bv m c) (rv m c)) := by
  refine (dats m 0 c).arrAt_eq_of_covers 3 _ (by decide +kernel) fun t hf y => ?_
  blk_simp
  rw [after0_3]
  have hy : (win0_3.blk t).view.emb y = ix2 (row t (y 0)) (y 1) := by
    have := ltN t
    blk_ext [idx0 t]
  rw [hy, after3_apply m c t ((flush0_3 t).mp hf)]
  rfl

end Cert.DxIdeal.Val
end
-- ==== Proof.DxClaim.lean ====
/- The claims about the gradient of the feed-forward part's input: the frames and the equality of the results. -/
module

public import proofs.«01_k».proof.Proof.Gen.Dx.Frame
public import proofs.«01_k».proof.Proof.Gen.DxReferenceIdeal.Run
public import proofs.«01_k».proof.Proof.Gen.DxReferenceIdeal.Read
public import proofs.«01_k».proof.Proof.DxKernel

@[expose] public section

set_option maxRecDepth 16384

noncomputable section

namespace Cert.DxClaim

open Idealize.ShloMosaic Idealize.ShloMosaic.TcCoe Idealize.SL.Sem
open Cert Cert.Products Cert.DxReferenceIdeal Cert.DxReferenceIdeal.Gen Cert.DxReferenceIdeal.Read

/-- The reference's result in closed form. -/
theorem ref_eq (a : Mat 8448 5632) (b : Mat 1024 5632) (d : Mat 8448 1024) : val_main_v9 (F := Ideal) a b d = mat (resid a b d) := by
  funext y
  idx_vars y
  pointwise [val_main_v9, val_main_v8, val_main_v7, val_main_v6, val_main_cst_1, val_main_v5, val_main_v1]
  exact (add_comm _ _).trans rfl

local instance : Cert.Dx.Facts := Cert.Dx.Gen.facts
local instance : Cert.DxIdeal.Facts := Cert.DxIdeal.Gen.facts
local instance : Cert.DxReferenceIdeal.Facts := Cert.DxReferenceIdeal.Gen.facts

theorem frame_k : Cert.quiescent_Dx := fun m ρ _ => Cert.Dx.Gen.frame m ρ
theorem frame_ki : Cert.quiescent_DxIdeal := fun m ρ _ => Cert.DxIdeal.Gen.frame m ρ
theorem frame_ri : Cert.quiescent_DxReferenceIdeal := fun m ρ _ =>
  (θ_run Cert.DxReferenceIdeal.defs _ _).mono (fun r h => ⟨fun c => (h c).2, sem_eq_zero_of_no_sems (by decide) r.2⟩)
    (Cert.DxReferenceIdeal.Value.run (F := Ideal) m ρ)

/-- Both programs leave the same product. -/
theorem algebraic : Cert.algebraic_DxIdeal_DxReferenceIdeal := fun m g m' g' _ hm =>
  ⟨fun c => mat (resid (DxIdeal.Val.av m c) (DxIdeal.Val.bv m c) (DxIdeal.Val.rv m c)),
   (θ_run Cert.DxIdeal.defs _ _).mono (fun _ h c => ⟨(h c).1.trans (DxIdeal.Val.final m c), (h c).2⟩)
     (Cert.DxIdeal.Value.run_blocks (F := Ideal) m g),
   (θ_run Cert.DxReferenceIdeal.defs _ _).mono (fun _ h c => by
      obtain ⟨e0, e1, e2⟩ := hm c
      refine ⟨(h c).1.trans ?_, (h c).2⟩
      rw [e0, e1, e2]
      exact ref_eq _ _ _)
     (Cert.DxReferenceIdeal.Value.run (F := Ideal) m' g')⟩

end Cert.DxClaim
end
-- ==== Proof.MixDxKernel.lean ====
/- The kernel of the gradient of the input of the projections, read at an index: `dz · wᵀ + α · dr`, the columns in two blocks. -/
module

public import proofs.«01_k».proof.Proof.Gen.MixDxIdeal.Value
public import proofs.«01_k».proof.Proof.Products
public import proofs.«01_k».proof.Proof.Rows

@[expose] public section

set_option maxRecDepth 16384

noncomputable section

namespace Cert.MixDxIdeal.Val

open Cert.MixDxIdeal Cert.MixDxIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 4096 := m (c, main_arg0)
abbrev bv (c : Dev nD) : Mat 1024 4096 := m (c, main_arg1)
abbrev rv (c : Dev nD) : Mat 8448 1024 := m (c, main_arg2)

theorem idx0 : ∀ t : Fin cfg0.N, win0_0.index t = ![t.val / 2, t.val % 2] ∧ win0_1.index t = ![0, t.val % 2]
    ∧ win0_2.index t = ![t.val / 2, 0] ∧ win0_3.index t = ![t.val / 2, 0] :=
  (by decide +kernel : ∀ t : Fin grid0.N, win0_0.index t = ![t.val / 2, t.val % 2] ∧ win0_1.index t = ![0, t.val % 2]
    ∧ win0_2.index t = ![t.val / 2, 0] ∧ win0_3.index t = ![t.val / 2, 0])

theorem ltN (t : Fin cfg0.N) : t.val < 22 := N_0 ▸ t.isLt

/-- The row of the whole array that a point's row is. -/
abbrev row (t : Fin cfg0.N) (r : Fin 768) : Fin 8448 := ⟨t.val / 2 * 768 + r.val, by have := ltN t; omega⟩
/-- The column of the whole array that a point's column is. -/
abbrev col (s : Fin 2) (k : Fin 2048) : Fin 4096 := ⟨s.val * 2048 + k.val, by omega⟩
/-- The block of columns that a point reads. -/
abbrev kb (t : Fin cfg0.N) : Fin 2 := ⟨t.val % 2, by omega⟩

theorem b0 (c : Dev nD) (t : Fin cfg0.N) (r : Fin 768) (k : Fin 2048) : iblk m c 0 t (ix2 r k) = av m c (ix2 (row t r) (col (kb t) k)) := by
  have := ltN t
  blk_ext [iblk, V_main_arg0 m c, idx0 t]

theorem b1 (c : Dev nD) (t : Fin cfg0.N) (r : Fin 1024) (k : Fin 2048) : iblk m c 1 t (ix2 r k) = bv m c (ix2 r (col (kb t) k)) := by
  have := ltN t
  blk_ext [iblk, V_main_arg1 m c, idx0 t]

theorem b2 (c : Dev nD) (t : Fin cfg0.N) (r : Fin 768) (k : Fin 1024) : iblk m c 2 t (ix2 r k) = rv m c (ix2 (row t r) k) := by
  have := ltN t
  blk_ext [iblk, V_main_arg2 m c, idx0 t]

/-- The product over one block of columns. -/
def part (c : Dev nD) (i : Fin 8448) (j : Fin 1024) (s : Fin 2) : EReal :=
  ∑ k : Fin 2048, av m c (ix2 i (col s k)) * bv m c (ix2 j (col s k))

theorem part_apply (c : Dev nD) (t : Fin cfg0.N) (r : Fin 768) (j : Fin 1024) :
    k0_pay1 (F := Ideal) (iblk m c 0 t) (iblk m c 1 t) (ix2 r j) = part m c (row t r) j (kb t) := by
  pointwise [k0_pay1]
  simp only [b0, b1]
  rfl

theorem acc_A (c : Dev nD) (t : Fin cfg0.N) (h0 : t.val % 2 = 0) (r : Fin 768) (j : Fin 1024) :
    (outsAt0 m c t.val t.isLt).2 (ix2 r j) = part m c (row t r) j 0 := by
  rw [outsAt0_A m c t h0 (by omega) (by omega)]
  frame_out
  pointwise [k0_pay2]
  rw [part_apply]
  exact congrArg (part m c (row t r) j) (Fin.ext h0)

theorem sum_parts (c : Dev nD) (i : Fin 8448) (j : Fin 1024) : part m c i j 0 + part m c i j 1 = nt (av m c) (bv m c) i j := by
  rw [← nt_blocks (S := 2) (p := 2048) (av m c) (bv m c) i j rfl fun s k => by omega]
  exact (Fin.sum_univ_two (part m c i j)).symm

theorem after3_apply (c : Dev nD) (t : Fin cfg0.N) (ht : t.val % 2 = 1) (y : S768x1024.Idx) :
    (outsAt0 m c t.val t.isLt).1 y = resid (av m c) (bv m c) (rv m c) (row t (y 0)) (y 1) := by
  have h22 := ltN t
  obtain ⟨u, hu, hr, hk⟩ : ∃ u : Fin cfg0.N, u.val = t.val - 1 ∧ u.val / 2 = t.val / 2 ∧ u.val % 2 = 0 :=
    ⟨⟨t.val - 1, Nat.lt_of_le_of_lt (Nat.sub_le _ _) t.isLt⟩, rfl, by show (t.val - 1) / 2 = _; omega, by show (t.val - 1) % 2 = 0; omega⟩
  have eu : outsAt0 m c (t.val - 1) (Nat.lt_of_le_of_lt (Nat.sub_le _ _) t.isLt) = outsAt0 m c u.val u.isLt := by
    have : (⟨t.val - 1, Nat.lt_of_le_of_lt (Nat.sub_le _ _) t.isLt⟩ : Fin cfg0.N) = u := Fin.ext hu.symm
    rw [← this]
  have ey : row u = row t := funext fun r => Fin.ext (show u.val / 2 * 768 + r.val = t.val / 2 * 768 + r.val by omega)
  rw [outsAt0_B m c t (by omega) ht ht]
  frame_open
  simp (disch := decide) only [↓ View.readCov_skip, ↓ View.readCov_cons_toLoadRect, ↓ View.readCov_fill]
  frame_out
  rw [eu]
  idx_vars y
  show _ = resid (av m c) (bv m c) (rv m c) (row t y0) y1
  pointwise [k0_pay4, k0_pay3]
  erw [Memref.IsWhole.read_unread]
  rw [part_apply, acc_A m c u hk, b2, ey, (Fin.ext ht : kb t = 1), sum_parts]
  rfl

theorem final (c : Dev nD) : (dats m 0 c).arrAt 3 cfg0.N = mat (resid (av m c) (bv m c) (rv m c)) := by
  refine (dats m 0 c).arrAt_eq_of_covers 3 _ (by decide +kernel) fun t hf y => ?_
  blk_simp
  rw [after0_3]
  have hy : (win0_3.blk t).view.emb y = ix2 (row t (y 0)) (y 1) := by
    have := ltN t
    blk_ext [idx0 t]
  rw [hy, after3_apply m c t ((flush0_3 t).mp hf)]
  rfl

end Cert.MixDxIdeal.Val
end
-- ==== Proof.MixDxClaim.lean ====
/- The claims about the gradient of the mixer's input: the frames and the equality of the results. -/
module

public import proofs.«01_k».proof.Proof.Gen.MixDx.Frame
public import proofs.«01_k».proof.Proof.Gen.MixDxReferenceIdeal.Run
public import proofs.«01_k».proof.Proof.Gen.MixDxReferenceIdeal.Read
public import proofs.«01_k».proof.Proof.MixDxKernel

@[expose] public section

set_option maxRecDepth 16384

noncomputable section

namespace Cert.MixDxClaim

open Idealize.ShloMosaic Idealize.ShloMosaic.TcCoe Idealize.SL.Sem
open Cert Cert.Products Cert.MixDxReferenceIdeal Cert.MixDxReferenceIdeal.Gen Cert.MixDxReferenceIdeal.Read

/-- The reference's result in closed form. -/
theorem ref_eq (a : Mat 8448 4096) (b : Mat 1024 4096) (d : Mat 8448 1024) : val_main_v9 (F := Ideal) a b d = mat (resid a b d) := by
  funext y
  idx_vars y
  pointwise [val_main_v9, val_main_v8, val_main_v7, val_main_v6, val_main_cst_1, val_main_v5, val_main_v1]
  exact (add_comm _ _).trans rfl

local instance : Cert.MixDx.Facts := Cert.MixDx.Gen.facts
local instance : Cert.MixDxIdeal.Facts := Cert.MixDxIdeal.Gen.facts
local instance : Cert.MixDxReferenceIdeal.Facts := Cert.MixDxReferenceIdeal.Gen.facts

theorem frame_k : Cert.quiescent_MixDx := fun m ρ _ => Cert.MixDx.Gen.frame m ρ
theorem frame_ki : Cert.quiescent_MixDxIdeal := fun m ρ _ => Cert.MixDxIdeal.Gen.frame m ρ
theorem frame_ri : Cert.quiescent_MixDxReferenceIdeal := fun m ρ _ =>
  (θ_run Cert.MixDxReferenceIdeal.defs _ _).mono (fun r h => ⟨fun c => (h c).2, sem_eq_zero_of_no_sems (by decide) r.2⟩)
    (Cert.MixDxReferenceIdeal.Value.run (F := Ideal) m ρ)

/-- Both programs leave the same product. -/
theorem algebraic : Cert.algebraic_MixDxIdeal_MixDxReferenceIdeal := fun m g m' g' _ hm =>
  ⟨fun c => mat (resid (MixDxIdeal.Val.av m c) (MixDxIdeal.Val.bv m c) (MixDxIdeal.Val.rv m c)),
   (θ_run Cert.MixDxIdeal.defs _ _).mono (fun _ h c => ⟨(h c).1.trans (MixDxIdeal.Val.final m c), (h c).2⟩)
     (Cert.MixDxIdeal.Value.run_blocks (F := Ideal) m g),
   (θ_run Cert.MixDxReferenceIdeal.defs _ _).mono (fun _ h c => by
      obtain ⟨e0, e1, e2⟩ := hm c
      refine ⟨(h c).1.trans ?_, (h c).2⟩
      rw [e0, e1, e2]
      exact ref_eq _ _ _)
     (Cert.MixDxReferenceIdeal.Value.run (F := Ideal) m' g')⟩

end Cert.MixDxClaim
end
-- ==== Proof.WInKernel.lean ====
/- The kernel of the gradient of `w_in`, read at an index: `aᵀ · b` summed over three blocks of rows. -/
module

public import proofs.«01_k».proof.Proof.Gen.WInIdeal.Value
public import proofs.«01_k».proof.Proof.Products
public import proofs.«01_k».proof.Proof.Rows

@[expose] public section

set_option maxRecDepth 16384

noncomputable section

namespace Cert.WInIdeal.Val

open Cert.WInIdeal Cert.WInIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 1024 := m (c, main_arg0)
abbrev bv (c : Dev nD) : Mat 8448 4096 := m (c, main_arg1)

theorem idx0 : ∀ t : Fin cfg0.N, win0_0.index t = ![t.val % 3, 0] ∧ win0_1.index t = ![t.val % 3, t.val / 3] ∧ win0_2.index t = ![0, t.val / 3] :=
  (by decide +kernel : ∀ t : Fin grid0.N, win0_0.index t = ![t.val % 3, 0] ∧ win0_1.index t = ![t.val % 3, t.val / 3] ∧ win0_2.index t = ![0, t.val / 3])

theorem ltN (t : Fin cfg0.N) : t.val < 12 := N_0 ▸ t.isLt

/-- The row of the whole array that a point's row is. -/
abbrev row (t : Fin cfg0.N) (k : Fin 2816) : Fin 8448 := ⟨t.val % 3 * 2816 + k.val, by omega⟩
/-- The column of the left factor that a point's column is. -/
abbrev ca (t : Fin cfg0.N) (i : Fin 1024) : Fin 1024 := i
/-- The column of the right factor that a point's column is. -/
abbrev cb (t : Fin cfg0.N) (j : Fin 1024) : Fin 4096 := ⟨t.val / 3 * 1024 + j.val, by have := ltN t; omega⟩

theorem b0 (c : Dev nD) (t : Fin cfg0.N) (k : Fin 2816) (i : Fin 1024) : iblk m c 0 t (ix2 k i) = av m c (ix2 (row t k) (ca t i)) := by
  have := ltN t
  blk_ext [iblk, V_main_arg0 m c, idx0 t]

theorem b1 (c : Dev nD) (t : Fin cfg0.N) (k : Fin 2816) (i : Fin 1024) : iblk m c 1 t (ix2 k i) = bv m c (ix2 (row t k) (cb t i)) := by
  have := ltN t
  blk_ext [iblk, V_main_arg1 m c, idx0 t]

/-- What a point adds. -/
def term (c : Dev nD) (t : Fin cfg0.N) (i : Fin 1024) (j : Fin 1024) : EReal :=
  ∑ k : Fin 2816, av m c (ix2 (row t k) (ca t i)) * bv m c (ix2 (row t k) (cb t j))

theorem part_apply (c : Dev nD) (t : Fin cfg0.N) (i : Fin 1024) (j : Fin 1024) :
    k0_pay1 (F := Ideal) (iblk m c 0 t) (iblk m c 1 t) (ix2 i j) = term m c t i j := by
  pointwise [k0_pay1]
  simp only [b0, b1]
  rfl

theorem step_A (c : Dev nD) (t : Fin cfg0.N) (h0 : t.val % 3 = 0) (y : S1024x1024.Idx) :
    outsAt0 m c t.val t.isLt y = 0 + term m c t (y 0) (y 1) := by
  have := ltN t
  rw [outsAt0_A m c t h0 (by omega)]
  frame_out
  rw [zero_add]
  idx_vars y
  show _ = term m c t y0 y1
  rw [← part_apply]

theorem step_B (c : Dev nD) (t : Fin cfg0.N) (h0 : ¬ t.val % 3 = 0) (y : S1024x1024.Idx) :
    outsAt0 m c t.val t.isLt y = outsAt0 m c (t.val - 1) (Nat.lt_of_le_of_lt (Nat.sub_le _ _) t.isLt) y + term m c t (y 0) (y 1) := by
  have := ltN t
  rw [outsAt0_B m c t h0 (by omega)]
  frame_out
  idx_vars y
  show _ = _ + term m c t y0 y1
  rw [← part_apply]
  pointwise [k0_pay2]

theorem after2_apply (c : Dev nD) (t : Fin cfg0.N) (ht : t.val % 3 = 2) (y : S1024x1024.Idx) :
    outsAt0 m c t.val t.isLt y = tn (av m c) (bv m c) (ca t (y 0)) (cb t (y 1)) := by
  rw [Pipeline.eq_sum_fin_of_reset_step_apply_of_flush (fun n h => outsAt0 m c n h) 3 (fun _ => 0)
    (fun t y => term m c t (y 0) (y 1)) (step_A m c) (step_B m c) t ht y, zero_add]
  refine Eq.trans ?_ (tn_blocks (S := 3) (p := 2816) (av m c) (bv m c) (ca t (y 0)) (cb t (y 1)) rfl fun s k => by omega)
  refine Finset.sum_congr rfl fun s _ => Finset.sum_congr rfl fun k _ => ?_
  have e : row ⟨3 * (t.val / 3) + s.val, Pipeline.run_point_lt_of_flush t ht s⟩ k = (⟨s.val * 2816 + k.val, by omega⟩ : Fin 8448) :=
    Fin.ext (show (3 * (t.val / 3) + s.val) % 3 * 2816 + k.val = s.val * 2816 + k.val by omega)
  have eb : cb ⟨3 * (t.val / 3) + s.val, Pipeline.run_point_lt_of_flush t ht s⟩ (y 1) = cb t (y 1) :=
    Fin.ext (show (3 * (t.val / 3) + s.val) / 3 * 1024 + ((y 1)).val = t.val / 3 * 1024 + ((y 1)).val by omega)
  rw [e, eb]

theorem final (c : Dev nD) : (dats m 0 c).arrAt 2 cfg0.N = mat (tn (av m c) (bv m c)) := by
  refine (dats m 0 c).arrAt_eq_of_covers 2 _ (by decide +kernel) fun t hf y => ?_
  blk_simp
  rw [after0_2]
  have hy : (win0_2.blk t).view.emb y = ix2 (ca t (y 0)) (cb t (y 1)) := by
    have := ltN t
    blk_ext [idx0 t]
  rw [hy, after2_apply m c t ((flush0_2 t).mp hf)]
  rfl

end Cert.WInIdeal.Val
end
-- ==== Proof.WInClaim.lean ====
/- The claims about the gradient of w_in: the frames and the equality of the results. -/
module

public import proofs.«01_k».proof.Proof.Gen.WIn.Frame
public import proofs.«01_k».proof.Proof.Gen.WInReferenceIdeal.Run
public import proofs.«01_k».proof.Proof.Gen.WInReferenceIdeal.Read
public import proofs.«01_k».proof.Proof.WInKernel

@[expose] public section

set_option maxRecDepth 16384

noncomputable section

namespace Cert.WInClaim

open Idealize.ShloMosaic Idealize.ShloMosaic.TcCoe Idealize.SL.Sem
open Cert Cert.Products Cert.WInReferenceIdeal Cert.WInReferenceIdeal.Gen Cert.WInReferenceIdeal.Read

/-- The reference's result in closed form. -/
theorem ref_eq (a : Mat 8448 1024) (b : Mat 8448 4096) : val_main_v5 (F := Ideal) a b = mat (tn a b) := by
  funext y
  idx_vars y
  pointwise [val_main_v5, val_main_v4, val_main_v3, val_main_v1]
  exact Finset.sum_congr rfl fun t _ => mul_comm _ _

local instance : Cert.WIn.Facts := Cert.WIn.Gen.facts
local instance : Cert.WInIdeal.Facts := Cert.WInIdeal.Gen.facts
local instance : Cert.WInReferenceIdeal.Facts := Cert.WInReferenceIdeal.Gen.facts

theorem frame_k : Cert.quiescent_WIn := fun m ρ _ => Cert.WIn.Gen.frame m ρ
theorem frame_ki : Cert.quiescent_WInIdeal := fun m ρ _ => Cert.WInIdeal.Gen.frame m ρ
theorem frame_ri : Cert.quiescent_WInReferenceIdeal := fun m ρ _ =>
  (θ_run Cert.WInReferenceIdeal.defs _ _).mono (fun r h => ⟨fun c => (h c).2, sem_eq_zero_of_no_sems (by decide) r.2⟩)
    (Cert.WInReferenceIdeal.Value.run (F := Ideal) m ρ)

/-- Both programs leave the same product. -/
theorem algebraic : Cert.algebraic_WInIdeal_WInReferenceIdeal := fun m g m' g' _ hm =>
  ⟨fun c => mat (tn (WInIdeal.Val.av m c) (WInIdeal.Val.bv m c)),
   (θ_run Cert.WInIdeal.defs _ _).mono (fun _ h c => ⟨(h c).1.trans (WInIdeal.Val.final m c), (h c).2⟩)
     (Cert.WInIdeal.Value.run_blocks (F := Ideal) m g),
   (θ_run Cert.WInReferenceIdeal.defs _ _).mono (fun _ h c => by
      obtain ⟨e0, e1⟩ := hm c
      refine ⟨(h c).1.trans ?_, (h c).2⟩
      rw [e0, e1]
      exact ref_eq _ _)
     (Cert.WInReferenceIdeal.Value.run (F := Ideal) m' g')⟩

end Cert.WInClaim
end
-- ==== Proof.WOutKernel.lean ====
/- The kernel of the gradient of `w_o`, read at an index: `aᵀ · b` summed over three blocks of rows. -/
module

public import proofs.«01_k».proof.Proof.Gen.WOutIdeal.Value
public import proofs.«01_k».proof.Proof.Products
public import proofs.«01_k».proof.Proof.Rows

@[expose] public section

set_option maxRecDepth 16384

noncomputable section

namespace Cert.WOutIdeal.Val

open Cert.WOutIdeal Cert.WOutIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 1024 := m (c, main_arg0)
abbrev bv (c : Dev nD) : Mat 8448 1024 := m (c, main_arg1)

theorem idx0 : ∀ t : Fin cfg0.N, win0_0.index t = ![t.val % 3, 0] ∧ win0_1.index t = ![t.val % 3, 0] ∧ win0_2.index t = ![0, 0] :=
  (by decide +kernel : ∀ t : Fin grid0.N, win0_0.index t = ![t.val % 3, 0] ∧ win0_1.index t = ![t.val % 3, 0] ∧ win0_2.index t = ![0, 0])

theorem ltN (t : Fin cfg0.N) : t.val < 3 := N_0 ▸ t.isLt

/-- The row of the whole array that a point's row is. -/
abbrev row (t : Fin cfg0.N) (k : Fin 2816) : Fin 8448 := ⟨t.val % 3 * 2816 + k.val, by omega⟩
/-- The column of the left factor that a point's column is. -/
abbrev ca (t : Fin cfg0.N) (i : Fin 1024) : Fin 1024 := i
/-- The column of the right factor that a point's column is. -/
abbrev cb (t : Fin cfg0.N) (j : Fin 1024) : Fin 1024 := j

theorem b0 (c : Dev nD) (t : Fin cfg0.N) (k : Fin 2816) (i : Fin 1024) : iblk m c 0 t (ix2 k i) = av m c (ix2 (row t k) (ca t i)) := by
  have := ltN t
  blk_ext [iblk, V_main_arg0 m c, idx0 t]

theorem b1 (c : Dev nD) (t : Fin cfg0.N) (k : Fin 2816) (i : Fin 1024) : iblk m c 1 t (ix2 k i) = bv m c (ix2 (row t k) (cb t i)) := by
  have := ltN t
  blk_ext [iblk, V_main_arg1 m c, idx0 t]

/-- What a point adds. -/
def term (c : Dev nD) (t : Fin cfg0.N) (i : Fin 1024) (j : Fin 1024) : EReal :=
  ∑ k : Fin 2816, av m c (ix2 (row t k) (ca t i)) * bv m c (ix2 (row t k) (cb t j))

theorem part_apply (c : Dev nD) (t : Fin cfg0.N) (i : Fin 1024) (j : Fin 1024) :
    k0_pay1 (F := Ideal) (iblk m c 0 t) (iblk m c 1 t) (ix2 i j) = term m c t i j := by
  pointwise [k0_pay1]
  simp only [b0, b1]
  rfl

theorem step_A (c : Dev nD) (t : Fin cfg0.N) (h0 : t.val % 3 = 0) (y : S1024x1024.Idx) :
    outsAt0 m c t.val t.isLt y = 0 + term m c t (y 0) (y 1) := by
  have := ltN t
  rw [outsAt0_A m c t h0 (by omega)]
  frame_out
  rw [zero_add]
  idx_vars y
  show _ = term m c t y0 y1
  rw [← part_apply]

theorem step_B (c : Dev nD) (t : Fin cfg0.N) (h0 : ¬ t.val % 3 = 0) (y : S1024x1024.Idx) :
    outsAt0 m c t.val t.isLt y = outsAt0 m c (t.val - 1) (Nat.lt_of_le_of_lt (Nat.sub_le _ _) t.isLt) y + term m c t (y 0) (y 1) := by
  have := ltN t
  rw [outsAt0_B m c t h0 (by omega)]
  frame_out
  idx_vars y
  show _ = _ + term m c t y0 y1
  rw [← part_apply]
  pointwise [k0_pay2]

theorem after2_apply (c : Dev nD) (t : Fin cfg0.N) (ht : t.val % 3 = 2) (y : S1024x1024.Idx) :
    outsAt0 m c t.val t.isLt y = tn (av m c) (bv m c) (ca t (y 0)) (cb t (y 1)) := by
  rw [Pipeline.eq_sum_fin_of_reset_step_apply_of_flush (fun n h => outsAt0 m c n h) 3 (fun _ => 0)
    (fun t y => term m c t (y 0) (y 1)) (step_A m c) (step_B m c) t ht y, zero_add]
  refine Eq.trans ?_ (tn_blocks (S := 3) (p := 2816) (av m c) (bv m c) (ca t (y 0)) (cb t (y 1)) rfl fun s k => by omega)
  refine Finset.sum_congr rfl fun s _ => Finset.sum_congr rfl fun k _ => ?_
  have e : row ⟨3 * (t.val / 3) + s.val, Pipeline.run_point_lt_of_flush t ht s⟩ k = (⟨s.val * 2816 + k.val, by omega⟩ : Fin 8448) :=
    Fin.ext (show (3 * (t.val / 3) + s.val) % 3 * 2816 + k.val = s.val * 2816 + k.val by omega)
  rw [e]

theorem final (c : Dev nD) : (dats m 0 c).arrAt 2 cfg0.N = mat (tn (av m c) (bv m c)) := by
  refine (dats m 0 c).arrAt_eq_of_covers 2 _ (by decide +kernel) fun t hf y => ?_
  blk_simp
  rw [after0_2]
  have hy : (win0_2.blk t).view.emb y = ix2 (ca t (y 0)) (cb t (y 1)) := by
    have := ltN t
    blk_ext [idx0 t]
  rw [hy, after2_apply m c t ((flush0_2 t).mp hf)]
  rfl

end Cert.WOutIdeal.Val
end
-- ==== Proof.WOutClaim.lean ====
/- The claims about the gradient of w_o: the frames and the equality of the results. -/
module

public import proofs.«01_k».proof.Proof.Gen.WOut.Frame
public import proofs.«01_k».proof.Proof.Gen.WOutReferenceIdeal.Run
public import proofs.«01_k».proof.Proof.Gen.WOutReferenceIdeal.Read
public import proofs.«01_k».proof.Proof.WOutKernel

@[expose] public section

set_option maxRecDepth 16384

noncomputable section

namespace Cert.WOutClaim

open Idealize.ShloMosaic Idealize.ShloMosaic.TcCoe Idealize.SL.Sem
open Cert Cert.Products Cert.WOutReferenceIdeal Cert.WOutReferenceIdeal.Gen Cert.WOutReferenceIdeal.Read

/-- The reference's result in closed form. -/
theorem ref_eq (a : Mat 8448 1024) (b : Mat 8448 1024) : val_main_v5 (F := Ideal) a b = mat (tn a b) := by
  funext y
  idx_vars y
  pointwise [val_main_v5, val_main_v4, val_main_v3, val_main_v1]
  exact Finset.sum_congr rfl fun t _ => mul_comm _ _

local instance : Cert.WOut.Facts := Cert.WOut.Gen.facts
local instance : Cert.WOutIdeal.Facts := Cert.WOutIdeal.Gen.facts
local instance : Cert.WOutReferenceIdeal.Facts := Cert.WOutReferenceIdeal.Gen.facts

theorem frame_k : Cert.quiescent_WOut := fun m ρ _ => Cert.WOut.Gen.frame m ρ
theorem frame_ki : Cert.quiescent_WOutIdeal := fun m ρ _ => Cert.WOutIdeal.Gen.frame m ρ
theorem frame_ri : Cert.quiescent_WOutReferenceIdeal := fun m ρ _ =>
  (θ_run Cert.WOutReferenceIdeal.defs _ _).mono (fun r h => ⟨fun c => (h c).2, sem_eq_zero_of_no_sems (by decide) r.2⟩)
    (Cert.WOutReferenceIdeal.Value.run (F := Ideal) m ρ)

/-- Both programs leave the same product. -/
theorem algebraic : Cert.algebraic_WOutIdeal_WOutReferenceIdeal := fun m g m' g' _ hm =>
  ⟨fun c => mat (tn (WOutIdeal.Val.av m c) (WOutIdeal.Val.bv m c)),
   (θ_run Cert.WOutIdeal.defs _ _).mono (fun _ h c => ⟨(h c).1.trans (WOutIdeal.Val.final m c), (h c).2⟩)
     (Cert.WOutIdeal.Value.run_blocks (F := Ideal) m g),
   (θ_run Cert.WOutReferenceIdeal.defs _ _).mono (fun _ h c => by
      obtain ⟨e0, e1⟩ := hm c
      refine ⟨(h c).1.trans ?_, (h c).2⟩
      rw [e0, e1]
      exact ref_eq _ _)
     (Cert.WOutReferenceIdeal.Value.run (F := Ideal) m' g')⟩

end Cert.WOutClaim
end
-- ==== Proof.FfnMath.lean ====
/- The activation `silu(g) · u` of the feed-forward part and its two slopes, over the extended reals, with the facts on finite
   numbers that put the kernel's slope and the reference's on one form. -/
module

public import proofs.«01_k».proof.Proof.Products

@[expose] public section

noncomputable section

namespace Cert.FfnMath

open Idealize.ShloMosaic Cert.Products

/-- An extended real that is a real number. -/
def Fin' (x : EReal) : Prop := ∃ r : ℝ, x = (r : EReal)

/-- A number whose absolute value compares below infinity is a real number. -/
theorem fin_of_abs {x : EReal} (h : Ideal.cmp .olt (max x (-x)) (Ideal.ofBits FTy.f32 0x7F800000#32) = 1#1) : Fin' x := by
  have hi : Ideal.ofBits FTy.f32 0x7F800000#32 = ⊤ := by
    simp [Ideal.ofBits, Ideal.ieee]
  rw [hi] at h
  induction x using EReal.rec with
  | bot => simp [Ideal.cmp] at h
  | top => simp [Ideal.cmp] at h
  | coe r => exact ⟨r, rfl⟩

theorem fin_mul {x y : EReal} (hx : Fin' x) (hy : Fin' y) : Fin' (x * y) := by
  obtain ⟨a, rfl⟩ := hx
  obtain ⟨b, rfl⟩ := hy
  exact ⟨a * b, (EReal.coe_mul a b).symm⟩

theorem fin_add {x y : EReal} (hx : Fin' x) (hy : Fin' y) : Fin' (x + y) := by
  obtain ⟨a, rfl⟩ := hx
  obtain ⟨b, rfl⟩ := hy
  exact ⟨a + b, (EReal.coe_add a b).symm⟩

theorem fin_sum {ι : Type} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact fin_add (h a) ih

theorem fin_nn {r n l : ℕ} {a : Mat r n} {b : Mat n l} (ha : ∀ i, Fin' (a i)) (hb : ∀ i, Fin' (b i)) (i : Fin r) (j : Fin l) : Fin' (nn a b i j) :=
  fin_sum _ fun k => fin_mul (ha _) (hb _)

theorem fin_nt {r n l : ℕ} {a : Mat r n} {b : Mat l n} (ha : ∀ i, Fin' (a i)) (hb : ∀ i, Fin' (b i)) (i : Fin r) (j : Fin l) : Fin' (nt a b i j) :=
  fin_sum _ fun k => fin_mul (ha _) (hb _)

/-- `silu g = g · σ(g)`: the slope of the activation in `u`. -/
def silu (g : EReal) : EReal := g * Ideal.logistic g

/-- The gradient in `g` of `silu(g) · u` under the cotangent `d`, as differentiating line by line gives it. -/
def slope (d g u : EReal) : EReal := d * u * Ideal.logistic g + g * (d * u) * (Ideal.logistic g * (1 - Ideal.logistic g))

theorem one_sub_coe (s : ℝ) : (1 : EReal) - (s : EReal) = ((1 - s : ℝ) : EReal) := by
  rw [← EReal.coe_one, ← EReal.coe_sub]

/-- The slope factored, as the forward kernel computes it. -/
theorem slope_factored {g u : EReal} (hg : Fin' g) (hu : Fin' u) :
    u * (Ideal.logistic g * (1 + g * (1 - Ideal.logistic g))) = slope 1 g u := by
  obtain ⟨g, rfl⟩ := hg
  obtain ⟨u, rfl⟩ := hu
  unfold slope
  rw [Ideal.logistic_coe, one_mul, one_sub_coe, ← EReal.coe_one]
  simp only [← EReal.coe_mul, ← EReal.coe_add]
  congr 1
  ring

/-- A cotangent times the slope under the cotangent one is the slope under that cotangent. -/
theorem mul_slope {d u : EReal} (hd : Fin' d) (hu : Fin' u) (g : EReal) : d * slope 1 g u = slope d g u := by
  obtain ⟨d, rfl⟩ := hd
  obtain ⟨u, rfl⟩ := hu
  unfold slope
  induction g using EReal.rec with
  | bot => simp
  | top =>
    rw [Ideal.logistic_top]
    have h : (1 : EReal) - 1 = 0 := by rw [← EReal.coe_one, ← EReal.coe_sub]; simp
    simp [h]
  | coe g =>
    rw [Ideal.logistic_coe, one_mul, one_sub_coe]
    simp only [← EReal.coe_mul, ← EReal.coe_add]
    congr 1
    ring

/-- Two arrays of `2816` columns each in four blocks of columns, one after the other: the layout of the slopes and of their gradients. -/
def pairOut (p q : Fin 8448 → Fin 2816 → EReal) : (⟨4, ![2, 4, 8448, 704]⟩ : Shape).Idx → EReal := fun y =>
  have h1 : (y 1).val < 4 := (y 1).isLt
  have h3 : (y 3).val < 704 := (y 3).isLt
  if (y 0).val = 0 then p (y 2) ⟨(y 1).val * 704 + (y 3).val, by omega⟩ else q (y 2) ⟨(y 1).val * 704 + (y 3).val, by omega⟩

theorem pairOut_ix4 (p q : Fin 8448 → Fin 2816 → EReal) (h : Fin 2) (j : Fin 4) (t : Fin 8448) (k : Fin 704) :
    pairOut p q (ix4 h j t k) = if h.val = 0 then p t ⟨j.val * 704 + k.val, by omega⟩ else q t ⟨j.val * 704 + k.val, by omega⟩ := rfl

/-- The two arrays side by side, read at the column that the layout's index is. -/
theorem pair_dite (p q : Fin 8448 → Fin 2816 → EReal) (h : Fin 2) (j : Fin 4) (t : Fin 8448) (k : Fin 704) :
    (if hc : (h.val * 4 + j.val) * 704 + k.val < 2816 then p t ⟨(h.val * 4 + j.val) * 704 + k.val, hc⟩
      else q t ⟨(h.val * 4 + j.val) * 704 + k.val - 2816, by omega⟩) = pairOut p q (ix4 h j t k) := by
  rw [pairOut_ix4]
  by_cases hc : (h.val * 4 + j.val) * 704 + k.val < 2816
  · rw [dif_pos hc, if_pos (by omega)]
    exact congrArg (p t) (Fin.ext (show (h.val * 4 + j.val) * 704 + k.val = j.val * 704 + k.val by omega))
  · rw [dif_neg hc, if_neg (by omega)]
    exact congrArg (q t) (Fin.ext (show (h.val * 4 + j.val) * 704 + k.val - 2816 = j.val * 704 + k.val by omega))

/-- An array of `2816` columns in four blocks of columns. -/
def fourOut (p : Fin 8448 → Fin 2816 → EReal) : (⟨3, ![4, 8448, 704]⟩ : Shape).Idx → EReal := fun y =>
  have h0 : (y 0).val < 4 := (y 0).isLt
  have h2 : (y 2).val < 704 := (y 2).isLt
  p (y 1) ⟨(y 0).val * 704 + (y 2).val, by omega⟩

/-- The gate's half of `h · w_up`. -/
def gate (h : Mat 8448 1024) (w : Mat 1024 5632) (t : Fin 8448) (j : Fin 2816) : EReal := nn h w t (⟨j.val, by omega⟩ : Fin 5632)
/-- The other half of `h · w_up`. -/
def lin (h : Mat 8448 1024) (w : Mat 1024 5632) (t : Fin 8448) (j : Fin 2816) : EReal := nn h w t (⟨2816 + j.val, by omega⟩ : Fin 5632)

/-- The slopes that the forward pass keeps. -/
def upSlopes (h : Mat 8448 1024) (w : Mat 1024 5632) : (⟨4, ![2, 4, 8448, 704]⟩ : Shape).Idx → EReal :=
  pairOut (fun t j => slope 1 (gate h w t j) (lin h w t j)) (fun t j => silu (gate h w t j))

/-- The activation. -/
def upAct (h : Mat 8448 1024) (w : Mat 1024 5632) : (⟨3, ![4, 8448, 704]⟩ : Shape).Idx → EReal :=
  fourOut fun t j => silu (gate h w t j) * lin h w t j

/-- The gradients of the activation's two arguments. -/
def midOut (df : Mat 8448 1024) (w : Mat 2816 1024) (g u : Mat 8448 2816) : (⟨4, ![2, 4, 8448, 704]⟩ : Shape).Idx → EReal :=
  pairOut (fun t j => slope (nt df w t j) (g (ix2 t j)) (u (ix2 t j))) (fun t j => silu (g (ix2 t j)) * nt df w t j)

end Cert.FfnMath
end
-- ==== Proof.Pair.lean ====
/- Reading a block of two layers that are stored one after the other. -/
module

public import Idealize.ShloMosaic.Lib.Pipeline.ValueKit
public import Idealize.ShloMosaic.Lib.Pipeline.ReadBack
public import Idealize.ShloMosaic.Lib.WritesUnit
public import Idealize.ShloMosaic.Lib.Pointwise

@[expose] public section

noncomputable section

namespace Cert.Pair

open Idealize.ShloMosaic

variable {Val : EltTy → Type} {e : EltTy} {A B : ℕ}

/-- Two stores of a layer each, read at an index of the block. -/
theorem canon_pair [∀ e, Nonempty (Val e)]
    (inb1 : ∀ a : Fin 4, (![1, 0, 0, 0] : Fin 4 → ℕ) a + (![1, 1, A, B] : Fin 4 → ℕ) a ≤ (![2, 1, A, B] : Fin 4 → ℕ) a)
    (inb0 : ∀ a : Fin 4, (![0, 0, 0, 0] : Fin 4 → ℕ) a + (![1, 1, A, B] : Fin 4 → ℕ) a ≤ (![2, 1, A, B] : Fin 4 → ℕ) a)
    (w1 : (Rect.unit (s := ⟨4, ![2, 1, A, B]⟩) ![1, 0, 0, 0] ![1, 1, A, B] inb1).shape.Idx → Val e)
    (w0 : (Rect.unit (s := ⟨4, ![2, 1, A, B]⟩) ![0, 0, 0, 0] ![1, 1, A, B] inb0).shape.Idx → Val e)
    (h : Fin 2) (r : Fin A) (k : Fin B) :
    View.canon [(⟨Rect.unit (s := ⟨4, ![2, 1, A, B]⟩) ![1, 0, 0, 0] ![1, 1, A, B] inb1, w1⟩ : View.Piece Val (⟨4, ![2, 1, A, B]⟩ : Shape) e),
        ⟨Rect.unit (s := ⟨4, ![2, 1, A, B]⟩) ![0, 0, 0, 0] ![1, 1, A, B] inb0, w0⟩] (ix4 h (0 : Fin 1) r k)
      = if h.val = 0 then w0 (ix4 (0 : Fin 1) (0 : Fin 1) r k) else w1 (ix4 (0 : Fin 1) (0 : Fin 1) r k) := by
  split
  · rename_i hz
    rw [View.canon_cons_of_not_mem]
    · have hy : (Rect.unit (s := ⟨4, ![2, 1, A, B]⟩) ![0, 0, 0, 0] ![1, 1, A, B] inb0).emb (ix4 (0 : Fin 1) (0 : Fin 1) r k) = ix4 h (0 : Fin 1) r k := by
        funext a
        apply Fin.ext
        match a with
        | ⟨0, _⟩ => show 0 + 1 * 0 = h.val; omega
        | ⟨1, _⟩ => show 0 + 1 * 0 = 0; omega
        | ⟨2, _⟩ => show 0 + 1 * r.val = r.val; omega
        | ⟨3, _⟩ => show 0 + 1 * k.val = k.val; omega
      rw [← hy]
      exact View.canon_cons_emb _ _ _ _
    · show ix4 h (0 : Fin 1) r k ∉ (Rect.unit (s := ⟨4, ![2, 1, A, B]⟩) ![1, 0, 0, 0] ![1, 1, A, B] inb1).set
      rw [Rect.mem_set_unit]
      intro hm
      have h0 : 1 ≤ h.val ∧ h.val < 1 + 1 := hm 0
      omega
  · rename_i hz
    have hy : (Rect.unit (s := ⟨4, ![2, 1, A, B]⟩) ![1, 0, 0, 0] ![1, 1, A, B] inb1).emb (ix4 (0 : Fin 1) (0 : Fin 1) r k) = ix4 h (0 : Fin 1) r k := by
      have := h.isLt
      funext a
      apply Fin.ext
      match a with
      | ⟨0, _⟩ => show 1 + 1 * 0 = h.val; omega
      | ⟨1, _⟩ => show 0 + 1 * 0 = 0; omega
      | ⟨2, _⟩ => show 0 + 1 * r.val = r.val; omega
      | ⟨3, _⟩ => show 0 + 1 * k.val = k.val; omega
    rw [← hy]
    exact View.canon_cons_emb _ _ _ _

end Cert.Pair
end
-- ==== Proof.MidKernel.lean ====
/- The kernel of the feed-forward part's gradients before its first product, read at an index. -/
module

public import proofs.«01_k».proof.Proof.Gen.MidIdeal.Value
public import proofs.«01_k».proof.Proof.FfnMath
public import proofs.«01_k».proof.Proof.Pair

@[expose] public section

set_option maxRecDepth 16384

noncomputable section

namespace Cert.MidIdeal.Val

open Cert.MidIdeal Cert.MidIdeal.Gen Idealize.ShloMosaic Idealize.ShloMosaic.TcCoe Idealize.SL.Sem
open Idealize.ShloMosaic.Pipeline (Dat)
open Cert Cert.Products Cert.FfnMath

variable (m : (ℓ : Loc nD τ sig) → Buf (Elt Ideal) ℓ)

abbrev dv (c : Dev nD) : Mat 8448 1024 := m (c, main_arg0)
abbrev wv (c : Dev nD) : Mat 2816 1024 := m (c, main_arg1)
abbrev gv (c : Dev nD) : Mat 8448 2816 := m (c, main_arg2)
abbrev uv (c : Dev nD) : Mat 8448 2816 := m (c, main_arg3)

theorem idx0 : ∀ t : Fin cfg0.N, win0_0.index t = ![t.val % 11, 0] ∧ win0_1.index t = ![t.val / 11, 0] ∧ win0_2.index t = ![0, t.val / 11, t.val % 11, 0]
    ∧ win0_3.index t = ![0, t.val / 11, t.val % 11, 0] :=
  (by decide +kernel : ∀ t : Fin grid0.N, win0_0.index t = ![t.val % 11, 0] ∧ win0_1.index t = ![t.val / 11, 0] ∧ win0_2.index t = ![0, t.val / 11, t.val % 11, 0]
    ∧ win0_3.index t = ![0, t.val / 11, t.val % 11, 0])

theorem ltN (t : Fin cfg0.N) : t.val < 44 := N_0 ▸ t.isLt

/-- The row of the whole array that a point's row is. -/
abbrev row (t : Fin cfg0.N) (r : Fin 768) : Fin 8448 := ⟨t.val % 11 * 768 + r.val, by omega⟩
/-- The column of either half that a point's column is. -/
abbrev col (t : Fin cfg0.N) (k : Fin 704) : Fin 2816 := ⟨t.val / 11 * 704 + k.val, by have := ltN t; omega⟩

/-- Ones. -/
def ones : FVec Ideal S8448x2816 .f32 := broadcastInDim S8448x2816 ![] bcast_S_S8448x2816 (constant S_ .f32 0x3F800000#32)
/-- The host's logistic function. -/
def hsg (g : FVec Ideal S8448x2816 .f32) : FVec Ideal S8448x2816 .f32 := Host.divf ones (addf ones (Host.exp (Host.negf g)))
/-- The host's slope in `g`. -/
def hdg (g u : FVec Ideal S8448x2816 .f32) : FVec Ideal S8448x2816 .f32 :=
  addf (mulf (mulf ones u) (hsg g)) (mulf (mulf g (mulf ones u)) (mulf (hsg g) (subf ones (hsg g))))
/-- The host's slope in `u`. -/
def hdu (g : FVec Ideal S8448x2816 .f32) : FVec Ideal S8448x2816 .f32 := mulf (mulf g (hsg g)) ones
/-- The host's array of both. -/
def hgu (g u : FVec Ideal S8448x2816 .f32) : FVec Ideal S2x4x8448x704 .bf16 :=
  shapeCast S2x4x8448x704 (transpose S8x8448x704 [1, 0, 2] (shapeCast S8448x8x704 (truncf .bf16
    (concatenate S8448x5632 1 [⟨S8448x2816, hdg g u⟩, ⟨S8448x2816, hdu g⟩] concatenates_S8448x2816_S8448x2816_S8448x5632_d1) bitsLt_bf16_f32)
    shapeCasts_S8448x5632_S8448x8x704) transposes_S8448x8x704_S8x8448x704_1_0_2) shapeCasts_S8x8448x704_S2x4x8448x704

theorem hsg_apply (g : Mat 8448 2816) (t : Fin 8448) (j : Fin 2816) : hsg g (ix2 t j) = Ideal.logistic (g (ix2 t j)) := by
  pointwise [hsg, ones]
  rfl

theorem hdg_apply (g u : Mat 8448 2816) (t : Fin 8448) (j : Fin 2816) : hdg g u (ix2 t j) = FfnMath.slope 1 (g (ix2 t j)) (u (ix2 t j)) := by
  pointwise [hdg, ones]
  simp only [hsg_apply]
  unfold FfnMath.slope
  rw [one_mul]

theorem hdu_apply (g : Mat 8448 2816) (t : Fin 8448) (j : Fin 2816) : hdu g (ix2 t j) = silu (g (ix2 t j)) := by
  pointwise [hdu, ones]
  simp only [hsg_apply]
  rfl

theorem hgu_eq (g u : Mat 8448 2816) : hgu g u = pairOut (fun t j => FfnMath.slope 1 (g (ix2 t j)) (u (ix2 t j))) (fun t j => silu (g (ix2 t j))) := by
  funext y
  idx_vars y
  pointwise [hgu]
  simp only [hdg_apply, hdu_apply]
  exact pair_dite (fun t j => FfnMath.slope 1 (g (ix2 t j)) (u (ix2 t j))) (fun t j => silu (g (ix2 t j))) y0 y1 y2 y3

/-- The slope in `g` from its parts. -/
abbrev haddf (d sg g e : FVec Ideal S8448x2816 .f32) : FVec Ideal S8448x2816 .f32 := addf (mulf d sg) (mulf (mulf g d) e)

/-- What the host's four stretches leave in the buffers that later ones read. -/
theorem host0 (v : Idealize.ShloMosaic.Valuation τ sig (Elt Ideal)) :
    StableHlo.after hostOps0 v (Proc.devRef .tc main_v0_0) = mulf (v (Proc.devRef .tc main_arg2)) (hsg (v (Proc.devRef .tc main_arg2)))
    ∧ StableHlo.after hostOps0 v (Proc.devRef .tc main_v0_1) = mulf (hsg (v (Proc.devRef .tc main_arg2))) (subf ones (hsg (v (Proc.devRef .tc main_arg2))))
    ∧ StableHlo.after hostOps0 v (Proc.devRef .tc main_v0_2) = hsg (v (Proc.devRef .tc main_arg2))
    ∧ StableHlo.after hostOps0 v (Proc.devRef .tc main_arg2) = v (Proc.devRef .tc main_arg2)
    ∧ StableHlo.after hostOps0 v (Proc.devRef .tc main_arg3) = v (Proc.devRef .tc main_arg3) := by
  refine ⟨?_, ?_, ?_, ?_, ?_⟩ <;> (entry_read; rfl)

theorem host1 (v : Idealize.ShloMosaic.Valuation τ sig (Elt Ideal)) :
    StableHlo.after hostOps0_1 v (Proc.devRef .tc main_v3) = mulf (v (Proc.devRef .tc main_v0_0)) ones
    ∧ StableHlo.after hostOps0_1 v (Proc.devRef .tc main_v4) = mulf ones (v (Proc.devRef .tc main_arg3))
    ∧ StableHlo.after hostOps0_1 v (Proc.devRef .tc main_v0_1) = v (Proc.devRef .tc main_v0_1)
    ∧ StableHlo.after hostOps0_1 v (Proc.devRef .tc main_v0_2) = v (Proc.devRef .tc main_v0_2)
    ∧ StableHlo.after hostOps0_1 v (Proc.devRef .tc main_arg2) = v (Proc.devRef .tc main_arg2) := by
  refine ⟨?_, ?_, ?_, ?_, ?_⟩ <;> (entry_read; rfl)

theorem host2 (v : Idealize.ShloMosaic.Valuation τ sig (Elt Ideal)) :
    StableHlo.after hostOps0_2 v (Proc.devRef .tc main_v5)
      = haddf (v (Proc.devRef .tc main_v4)) (v (Proc.devRef .tc main_v0_2)) (v (Proc.devRef .tc main_arg2)) (v (Proc.devRef .tc main_v0_1))
    ∧ StableHlo.after hostOps0_2 v (Proc.devRef .tc main_v3) = v (Proc.devRef .tc main_v3) := by
  refine ⟨?_, ?_⟩ <;> (entry_read; rfl)

theorem host3 (v : Idealize.ShloMosaic.Valuation τ sig (Elt Ideal)) :
    StableHlo.after hostOps0_3 v (Proc.devRef .tc main_v10)
      = shapeCast S2x4x8448x704 (transpose S8x8448x704 [1, 0, 2] (shapeCast S8448x8x704 (truncf (F := Ideal) (s := S8448x5632) (φ := .f32) .bf16
    (concatenate S8448x5632 1 [⟨S8448x2816, v (Proc.devRef .tc main_v5)⟩, ⟨S8448x2816, v (Proc.devRef .tc main_v3)⟩] concatenates_S8448x2816_S8448x2816_S8448x5632_d1) bitsLt_bf16_f32)
    shapeCasts_S8448x5632_S8448x8x704) transposes_S8448x8x704_S8x8448x704_1_0_2) shapeCasts_S8x8448x704_S2x4x8448x704 := by
  entry_read
  rfl

/-- The slopes that the host prepares. -/
theorem V_gu (c : Dev nD) : V m c main_v10 = hgu (gv m c) (uv m c) := by
  show StableHlo.after (hostOps0 ++ (hostOps0_1 ++ (hostOps0_2 ++ (hostOps0_3 ++ [])))) (fun b => m (c, b)) (Proc.devRef .tc main_v10) = _
  rw [StableHlo.after_append, StableHlo.after_append, StableHlo.after_append, List.append_nil, host3, (host2 _).1, (host2 _).2, (host1 _).1, (host1 _).2.1,
    (host1 _).2.2.1, (host1 _).2.2.2.1, (host1 _).2.2.2.2, (host0 _).1, (host0 _).2.1, (host0 _).2.2.1, (host0 _).2.2.2.1, (host0 _).2.2.2.2]
  rfl

theorem b0 (c : Dev nD) (t : Fin cfg0.N) (r : Fin 768) (k : Fin 1024) : iblk m c 0 t (ix2 r k) = dv m c (ix2 (row t r) k) := by
  have := ltN t
  blk_ext [iblk, V_main_arg0 m c, idx0 t]

theorem b1 (c : Dev nD) (t : Fin cfg0.N) (j : Fin 704) (k : Fin 1024) : iblk m c 1 t (ix2 j k) = wv m c (ix2 (col t j) k) := by
  have := ltN t
  blk_ext [iblk, V_main_arg1 m c, idx0 t]

/-- A block of the slopes, read at an index. -/
theorem read2 (v : FVec Ideal S2x4x8448x704 .bf16) (t : Fin cfg0.N) (y : S2x1x768x704.Idx) :
    ((cfg0.win 2).blk t).view.read (Elt Ideal) v y = v ((win0_2.blk t).view.emb y) := rfl

theorem iblk2 (c : Dev nD) (t : Fin cfg0.N) : iblk m c 2 t = ((cfg0.win 2).blk t).view.read (Elt Ideal) (hgu (gv m c) (uv m c)) := by
  unfold iblk
  exact congrArg (fun v : FVec Ideal S2x4x8448x704 .bf16 => ((cfg0.win 2).blk t).view.read (Elt Ideal) v) (V_gu m c)

theorem b2 (c : Dev nD) (t : Fin cfg0.N) (h : Fin 2) (z : Fin 1) (r : Fin 768) (j : Fin 704) :
    iblk m c 2 t (ix4 h z r j) = if h.val = 0 then FfnMath.slope 1 (gv m c (ix2 (row t r) (col t j))) (uv m c (ix2 (row t r) (col t j))) else silu (gv m c (ix2 (row t r) (col t j))) := by
  have := ltN t
  have hp : (win0_2.blk t).view.emb (ix4 h z r j) = ix4 h (⟨t.val / 11, by omega⟩ : Fin 4) (row t r) j := by
    blk_ext [iblk, idx0 t]
  rw [iblk2]
  refine (read2 (hgu (gv m c) (uv m c)) t (ix4 h z r j)).trans ?_
  rw [hp, hgu_eq, pairOut_ix4]

/-- A point's gradients of the activation. -/
theorem pay1_apply (c : Dev nD) (t : Fin cfg0.N) (r : Fin 768) (j : Fin 704) :
    k0_pay1 (F := Ideal) (iblk m c 0 t) (iblk m c 1 t) (ix2 r j) = nt (dv m c) (wv m c) (row t r) (col t j) := by
  pointwise [k0_pay1]
  simp only [b0, b1]
  rfl

/-- A point's gradients in `g`. -/
theorem pay2_apply (c : Dev nD) (hd : ∀ i j, Fin' (nt (dv m c) (wv m c) i j)) (hu : ∀ i, Fin' (uv m c i)) (t : Fin cfg0.N) (r : Fin 768) (k : Fin 704) :
    k0_pay2 (F := Ideal) (iblk m c 0 t) (iblk m c 1 t) (View.ld (iblk m c 2 t) r0_2) (ix4 (0 : Fin 1) (0 : Fin 1) r k)
      = FfnMath.slope (nt (dv m c) (wv m c) (row t r) (col t k)) (gv m c (ix2 (row t r) (col t k))) (uv m c (ix2 (row t r) (col t k))) := by
  pointwise [k0_pay2]
  rw [pay1_apply, b2, if_pos (show (0 : Fin 2).val = 0 from rfl)]
  exact mul_slope (hd _ _) (hu _) _

/-- A point's gradients in `u`. -/
theorem pay3_apply (c : Dev nD) (t : Fin cfg0.N) (r : Fin 768) (k : Fin 704) :
    k0_pay3 (F := Ideal) (iblk m c 0 t) (iblk m c 1 t) (View.ld (iblk m c 2 t) r0_3) (ix4 (0 : Fin 1) (0 : Fin 1) r k)
      = silu (gv m c (ix2 (row t r) (col t k))) * nt (dv m c) (wv m c) (row t r) (col t k) := by
  pointwise [k0_pay3]
  rw [pay1_apply, b2, if_neg (show ¬ (1 : Fin 2).val = 0 by decide)]
  exact mul_comm (nt (dv m c) (wv m c) (row t r) (col t k)) (silu (gv m c (ix2 (row t r) (col t k))))

theorem after3_apply (c : Dev nD) (hd : ∀ i j, Fin' (nt (dv m c) (wv m c) i j)) (hu : ∀ i, Fin' (uv m c i)) (t : Fin cfg0.N)
    (h : Fin 2) (z : Fin 1) (r : Fin 768) (k : Fin 704) :
    out0_3 (iblk m c 0 t) (iblk m c 1 t) (iblk m c 2 t) (ix4 h z r k)
      = if h.val = 0 then FfnMath.slope (nt (dv m c) (wv m c) (row t r) (col t k)) (gv m c (ix2 (row t r) (col t k))) (uv m c (ix2 (row t r) (col t k)))
        else silu (gv m c (ix2 (row t r) (col t k))) * nt (dv m c) (wv m c) (row t r) (col t k) := by
  have := ltN t
  obtain rfl : z = 0 := Subsingleton.elim _ _
  unfold out0_3
  frame_out
  refine (Pair.canon_pair (Val := Elt Ideal) (e := .bf16) (A := 768) (B := 704) _ _
    (k0_pay3 (F := Ideal) (iblk m c 0 t) (iblk m c 1 t) (View.ld (iblk m c 2 t) r0_3))
    (k0_pay2 (F := Ideal) (iblk m c 0 t) (iblk m c 1 t) (View.ld (iblk m c 2 t) r0_2)) h r k).trans ?_
  by_cases hz : h.val = 0
  · rw [if_pos hz, if_pos hz]
    exact pay2_apply m c hd hu t r k
  · rw [if_neg hz, if_neg hz]
    exact pay3_apply m c t r k

theorem final3 (c : Dev nD) (hd : ∀ i j, Fin' (nt (dv m c) (wv m c) i j)) (hu : ∀ i, Fin' (uv m c i)) :
    (dats m 0 c).arrAt 3 cfg0.N = midOut (dv m c) (wv m c) (gv m c) (uv m c) := by
  refine (dats m 0 c).arrAt_eq_of_covers 3 _ (by decide +kernel) fun t hf y => ?_
  blk_simp
  rw [after0_3]
  idx_vars y
  have := ltN t
  have hy : (win0_3.blk t).view.emb (ix4 y0 y1 y2 y3) = ix4 y0 (⟨t.val / 11, by omega⟩ : Fin 4) (row t y2) y3 := by
    blk_ext [idx0 t]
  rw [hy, after3_apply m c hd hu t]
  rfl

end Cert.MidIdeal.Val
end
-- ==== Proof.MidRef.lean ====
/- The reference's gradients of the activation's two arguments in closed form. -/
module

public import proofs.«01_k».proof.Proof.Gen.MidReferenceIdeal.Read
public import proofs.«01_k».proof.Proof.FfnMath

@[expose] public section

set_option maxRecDepth 16384

noncomputable section

namespace Cert.MidReferenceIdeal.Val

open Idealize.ShloMosaic Idealize.ShloMosaic.TcCoe Idealize.SL.Sem
open Cert Cert.Products Cert.FfnMath Cert.MidReferenceIdeal Cert.MidReferenceIdeal.Gen Cert.MidReferenceIdeal.Read

variable (df : Mat 8448 1024) (w : Mat 2816 1024) (g u : Mat 8448 2816)

theorem sg_apply (t : Fin 8448) (j : Fin 2816) : val_main_v1_2 (F := Ideal) g (ix2 t j) = Ideal.logistic (g (ix2 t j)) := by
  pointwise [val_main_v1_2, val_main_call0_v4, val_main_call0_cst_0, val_main_call0_v3, val_main_call0_v2, val_main_call0_cst, val_main_call0_v1, val_main_call0_v0]
  rfl

theorem v5_apply (t : Fin 8448) (j : Fin 2816) : val_main_v5 (F := Ideal) df w (ix2 t j) = nt df w t j := by
  pointwise [val_main_v5, val_main_v4, val_main_v0]
  rfl

theorem v8_apply (t : Fin 8448) (j : Fin 2816) : val_main_v8 (F := Ideal) df w g u (ix2 t j) = FfnMath.slope (nt df w t j) (g (ix2 t j)) (u (ix2 t j)) := by
  pointwise [val_main_v8, val_main_call1_v1, val_main_call1_v2, val_main_call1_v0, val_main_v1_1, val_main_call0_v7, val_main_call0_v6, val_main_call0_cst_1, val_main_v7]
  rw [sg_apply, v5_apply]
  rfl

theorem v6_apply (t : Fin 8448) (j : Fin 2816) : val_main_v6 (F := Ideal) df w g (ix2 t j) = silu (g (ix2 t j)) * nt df w t j := by
  pointwise [val_main_v6, val_main_v1_0]
  rw [sg_apply, v5_apply]
  rfl

theorem out_eq : val_main_v13 (F := Ideal) df w g u = midOut df w g u := by
  funext y
  idx_vars y
  pointwise [val_main_v13, val_main_v12, val_main_v11, val_main_v10, val_main_v9]
  simp only [v8_apply, v6_apply]
  exact pair_dite (fun t j => FfnMath.slope (nt df w t j) (g (ix2 t j)) (u (ix2 t j))) (fun t j => silu (g (ix2 t j)) * nt df w t j) y0 y1 y2 y3

end Cert.MidReferenceIdeal.Val
end
-- ==== Proof.MidClaim.lean ====
/- The claims about the gradients of the feed-forward part's activation: the frames, and the equality of the result where three of the arguments are finite. -/
module

public import proofs.«01_k».proof.Proof.Gen.Mid.Frame
public import proofs.«01_k».proof.Proof.MidKernel
public import proofs.«01_k».proof.Proof.MidRef

@[expose] public section

set_option maxRecDepth 16384

noncomputable section

namespace Cert.MidClaim

open Idealize.ShloMosaic Idealize.ShloMosaic.TcCoe Idealize.SL.Sem
open Cert Cert.Products Cert.FfnMath

local instance : Cert.Mid.Facts := Cert.Mid.Gen.facts
local instance : Cert.MidIdeal.Facts := Cert.MidIdeal.Gen.facts
local instance : Cert.MidReferenceIdeal.Facts := Cert.MidReferenceIdeal.Gen.facts

/-- What the precondition's three comparisons need of the shapes. -/
theorem preFacts : Cert.Pre_finite_mid.Facts := ⟨by decide, by decide, by decide, by decide⟩

local instance : Cert.Pre_finite_mid.Facts := preFacts

theorem frame_k : Cert.quiescent_Mid := fun m ρ _ => Cert.Mid.Gen.frame m ρ
theorem frame_ki : Cert.quiescent_MidIdeal := fun m ρ _ => Cert.MidIdeal.Gen.frame m ρ
theorem frame_ki_pre : Cert.quiescent_MidIdeal_pre_finite_mid := fun m ρ _ => Cert.MidIdeal.Gen.frame m ρ
theorem frame_ri : Cert.quiescent_MidReferenceIdeal := fun m ρ _ =>
  (θ_run Cert.MidReferenceIdeal.defs _ _).mono (fun r h => ⟨fun c => (h c).2, sem_eq_zero_of_no_sems (by decide) r.2⟩)
    (Cert.MidReferenceIdeal.Value.run (F := Ideal) m ρ)
theorem frame_ri_pre : Cert.quiescent_MidReferenceIdeal_pre_finite_mid := fun m ρ _ => frame_ri m ρ trivial

/-- The precondition says that every number of three of the arguments is a real. -/
theorem fin_args (m : (ℓ : Loc Cert.MidIdeal.nD Cert.MidIdeal.τ Cert.MidIdeal.sig) → Buf (Elt Ideal) ℓ)
    (hp : Cert.Pre_MidIdeal_finite_mid m) (c : Dev Cert.MidIdeal.nD) :
    (∀ i, Fin' (MidIdeal.Val.dv m c i)) ∧ (∀ i, Fin' (MidIdeal.Val.wv m c i)) ∧ (∀ i, Fin' (MidIdeal.Val.uv m c i)) :=
  ⟨fun i => fin_of_abs (congrFun (hp c).1 i), fun i => fin_of_abs (congrFun (hp c).2.1 i), fun i => fin_of_abs (congrFun (hp c).2.2 i)⟩

/-- Both programs leave the closed form of FfnMath. -/
theorem algebraic : Cert.algebraic_MidIdeal_MidReferenceIdeal_pre_finite_mid := fun m g m' g' hp hm =>
  ⟨fun c => midOut (MidIdeal.Val.dv m c) (MidIdeal.Val.wv m c) (MidIdeal.Val.gv m c) (MidIdeal.Val.uv m c),
   (θ_run Cert.MidIdeal.defs _ _).mono (fun _ h c =>
      ⟨(h c).1.trans (MidIdeal.Val.final3 m c (fun i j => fin_nt (fin_args m hp c).1 (fin_args m hp c).2.1 i j) (fin_args m hp c).2.2), (h c).2⟩)
     (Cert.MidIdeal.Value.run_blocks (F := Ideal) m g),
   (θ_run Cert.MidReferenceIdeal.defs _ _).mono (fun _ h c => by
      obtain ⟨e0, e1, e2, e3⟩ := hm c
      obtain ⟨h0, hk⟩ := h c
      refine ⟨h0.trans ?_, hk⟩
      rw [MidReferenceIdeal.Read.val_main_v13_eq, e0, e1, e2, e3]
      exact MidReferenceIdeal.Val.out_eq _ _ _ _)
     (Cert.MidReferenceIdeal.Value.run (F := Ideal) m' g')⟩

end Cert.MidClaim
end
-- ==== Proof.FfnUpKernel.lean ====
/- The forward kernel of the feed-forward part's first product, read at an index: the slopes and the activation. -/
module

public import proofs.«01_k».proof.Proof.Gen.FfnUpIdeal.Value
public import proofs.«01_k».proof.Proof.FfnMath
public import proofs.«01_k».proof.Proof.Pair

@[expose] public section

set_option maxRecDepth 16384

noncomputable section

namespace Cert.FfnUpIdeal.Val

open Cert.FfnUpIdeal Cert.FfnUpIdeal.Gen Idealize.ShloMosaic Idealize.ShloMosaic.TcCoe Idealize.SL.Sem
open Idealize.ShloMosaic.Pipeline (Dat)
open Cert Cert.Products Cert.FfnMath

variable (m : (ℓ : Loc nD τ sig) → Buf (Elt Ideal) ℓ)

abbrev av (c : Dev nD) : Mat 8448 1024 := m (c, main_arg0)
abbrev bv (c : Dev nD) : Mat 1024 5632 := m (c, main_arg1)

theorem idx0 : ∀ t : Fin cfg0.N, win0_0.index t = ![t.val % 11, 0] ∧ win0_1.index t = ![t.val / 11, 0, 0] ∧ win0_2.index t = ![t.val / 11 + 4, 0, 0]
    ∧ win0_3.index t = ![0, t.val / 11, t.val % 11, 0] ∧ win0_4.index t = ![t.val / 11, t.val % 11, 0] :=
  (by decide +kernel : ∀ t : Fin grid0.N, win0_0.index t = ![t.val % 11, 0] ∧ win0_1.index t = ![t.val / 11, 0, 0] ∧ win0_2.index t = ![t.val / 11 + 4, 0, 0]
    ∧ win0_3.index t = ![0, t.val / 11, t.val % 11, 0] ∧ win0_4.index t = ![t.val / 11, t.val % 11, 0])

theorem ltN (t : Fin cfg0.N) : t.val < 44 := N_0 ▸ t.isLt

/-- The row of the whole array that a point's row is. -/
abbrev row (t : Fin cfg0.N) (r : Fin 768) : Fin 8448 := ⟨t.val % 11 * 768 + r.val, by omega⟩
/-- The column of either half that a point's column is. -/
abbrev col (t : Fin cfg0.N) (k : Fin 704) : Fin 2816 := ⟨t.val / 11 * 704 + k.val, by have := ltN t; omega⟩

/-- The weights in their eight blocks of columns. -/
theorem V_b (c : Dev nD) : V m c main_v1 = transpose S8x1024x704 [1, 0, 2] (shapeCast S1024x8x704 (bv m c) shapeCasts_S1024x5632_S1024x8x704) transposes_S1024x8x704_S8x1024x704_1_0_2 := by
  simp only [V, hostOps0, List.flatten_cons, List.flatten_nil, List.append_nil, List.cons_append, List.nil_append]
  entry_read
  rfl

theorem b0 (c : Dev nD) (t : Fin cfg0.N) (r : Fin 768) (k : Fin 1024) : iblk m c 0 t (ix2 r k) = av m c (ix2 (row t r) k) := by
  have := ltN t
  blk_ext [iblk, V_main_arg0 m c, idx0 t]

theorem b1 (c : Dev nD) (t : Fin cfg0.N) (k : Fin 1024) (j : Fin 704) :
    iblk m c 1 t (ix3 (0 : Fin 1) k j) = bv m c (ix2 k (⟨(col t j).val, by omega⟩ : Fin 5632)) := by
  have := ltN t
  have hp : (win0_1.blk t).view.emb (ix3 (0 : Fin 1) k j) = ix3 (⟨t.val / 11, by omega⟩ : Fin 8) k j := by
    blk_ext [iblk, idx0 t]
  show V m c main_v1 ((win0_1.blk t).view.emb (ix3 (0 : Fin 1) k j)) = _
  rw [hp, V_b]
  pointwise

theorem b2 (c : Dev nD) (t : Fin cfg0.N) (k : Fin 1024) (j : Fin 704) :
    iblk m c 2 t (ix3 (0 : Fin 1) k j) = bv m c (ix2 k (⟨2816 + (col t j).val, by omega⟩ : Fin 5632)) := by
  have := ltN t
  have hp : (win0_2.blk t).view.emb (ix3 (0 : Fin 1) k j) = ix3 (⟨t.val / 11 + 4, by omega⟩ : Fin 8) k j := by
    blk_ext [iblk, idx0 t]
  show V m c main_v1 ((win0_2.blk t).view.emb (ix3 (0 : Fin 1) k j)) = _
  rw [hp, V_b]
  pointwise
  exact congrArg (fun x => bv m c (ix2 k x)) (Fin.ext (show (t.val / 11 + 4) * 704 + j.val = 2816 + (t.val / 11 * 704 + j.val) by omega))

/-- A point's gates. -/
theorem pay1_apply (c : Dev nD) (t : Fin cfg0.N) (r : Fin 768) (j : Fin 704) :
    k0_pay1 (F := Ideal) (iblk m c 0 t) (iblk m c 1 t) (ix2 r j) = gate (av m c) (bv m c) (row t r) (col t j) := by
  pointwise [k0_pay1]
  simp only [b0, b1]
  rfl

/-- A point's other half. -/
theorem pay2_apply (c : Dev nD) (t : Fin cfg0.N) (r : Fin 768) (j : Fin 704) :
    k0_pay2 (F := Ideal) (iblk m c 0 t) (iblk m c 2 t) (ix2 r j) = lin (av m c) (bv m c) (row t r) (col t j) := by
  pointwise [k0_pay2]
  simp only [b0, b2]
  rfl

/-- A point's slopes in `g`. -/
theorem pay5_apply (c : Dev nD) (hg : ∀ i j, Fin' (gate (av m c) (bv m c) i j)) (hl : ∀ i j, Fin' (lin (av m c) (bv m c) i j)) (t : Fin cfg0.N)
    (r : Fin 768) (k : Fin 704) :
    k0_pay5 (F := Ideal) (iblk m c 0 t) (iblk m c 1 t) (iblk m c 2 t) (ix4 (0 : Fin 1) (0 : Fin 1) r k)
      = slope 1 (gate (av m c) (bv m c) (row t r) (col t k)) (lin (av m c) (bv m c) (row t r) (col t k)) := by
  pointwise [k0_pay5, k0_pay3]
  rw [pay1_apply, pay2_apply]
  exact slope_factored (hg _ _) (hl _ _)

/-- A point's slopes in `u`. -/
theorem pay6_apply (c : Dev nD) (t : Fin cfg0.N) (r : Fin 768) (k : Fin 704) :
    k0_pay6 (F := Ideal) (iblk m c 0 t) (iblk m c 1 t) (ix4 (0 : Fin 1) (0 : Fin 1) r k) = silu (gate (av m c) (bv m c) (row t r) (col t k)) := by
  pointwise [k0_pay6, k0_pay4, k0_pay3]
  rw [pay1_apply]
  rfl

theorem after3_apply (c : Dev nD) (hg : ∀ i j, Fin' (gate (av m c) (bv m c) i j)) (hl : ∀ i j, Fin' (lin (av m c) (bv m c) i j)) (t : Fin cfg0.N)
    (h : Fin 2) (z : Fin 1) (r : Fin 768) (k : Fin 704) :
    out0_3 (iblk m c 0 t) (iblk m c 1 t) (iblk m c 2 t) (ix4 h z r k)
      = if h.val = 0 then slope 1 (gate (av m c) (bv m c) (row t r) (col t k)) (lin (av m c) (bv m c) (row t r) (col t k)) else silu (gate (av m c) (bv m c) (row t r) (col t k)) := by
  have := ltN t
  obtain rfl : z = 0 := Subsingleton.elim _ _
  unfold out0_3
  frame_out
  refine (Pair.canon_pair (Val := Elt Ideal) (e := .bf16) (A := 768) (B := 704) _ _ (k0_pay6 (F := Ideal) (iblk m c 0 t) (iblk m c 1 t)) (k0_pay5 (F := Ideal) (iblk m c 0 t) (iblk m c 1 t) (iblk m c 2 t)) h r k).trans ?_
  by_cases hz : h.val = 0
  · rw [if_pos hz, if_pos hz]
    exact pay5_apply m c hg hl t r k
  · rw [if_neg hz, if_neg hz]
    exact pay6_apply m c t r k

theorem after4_apply (c : Dev nD) (t : Fin cfg0.N) (z : Fin 1) (r : Fin 768) (k : Fin 704) :
    out0_4 (iblk m c 0 t) (iblk m c 1 t) (iblk m c 2 t) (ix3 z r k) = silu (gate (av m c) (bv m c) (row t r) (col t k)) * lin (av m c) (bv m c) (row t r) (col t k) := by
  obtain rfl : z = 0 := Subsingleton.elim _ _
  unfold out0_4
  frame_out
  pointwise [k0_pay7, k0_pay4, k0_pay3]
  rw [pay1_apply, pay2_apply]
  rfl

theorem final3 (c : Dev nD) (hg : ∀ i j, Fin' (gate (av m c) (bv m c) i j)) (hl : ∀ i j, Fin' (lin (av m c) (bv m c) i j)) :
    (dats m 0 c).arrAt 3 cfg0.N = upSlopes (av m c) (bv m c) := by
  refine (dats m 0 c).arrAt_eq_of_covers 3 _ (by decide +kernel) fun t hf y => ?_
  blk_simp
  rw [after0_3]
  idx_vars y
  have := ltN t
  have hy : (win0_3.blk t).view.emb (ix4 y0 y1 y2 y3) = ix4 y0 (⟨t.val / 11, by omega⟩ : Fin 4) (row t y2) y3 := by
    blk_ext [idx0 t]
  rw [hy, after3_apply m c hg hl t]
  rfl

theorem final4 (c : Dev nD) : (dats m 0 c).arrAt 4 cfg0.N = upAct (av m c) (bv m c) := by
  refine (dats m 0 c).arrAt_eq_of_covers 4 _ (by decide +kernel) fun t hf y => ?_
  blk_simp
  rw [after0_4]
  idx_vars y
  have := ltN t
  have hy : (win0_4.blk t).view.emb (ix3 y0 y1 y2) = ix3 (⟨t.val / 11, by omega⟩ : Fin 4) (row t y1) y2 := by
    blk_ext [idx0 t]
  rw [hy, after4_apply m c t]
  rfl

end Cert.FfnUpIdeal.Val
end
-- ==== Proof.FfnUpRef.lean ====
/- The reference's slopes and activation in closed form. -/
module

public import proofs.«01_k».proof.Proof.Gen.FfnUpReferenceIdeal.Read
public import proofs.«01_k».proof.Proof.FfnMath

@[expose] public section

set_option maxRecDepth 16384

noncomputable section

namespace Cert.FfnUpReferenceIdeal.Val

open Idealize.ShloMosaic Idealize.ShloMosaic.TcCoe Idealize.SL.Sem
open Cert Cert.Products Cert.FfnMath Cert.FfnUpReferenceIdeal Cert.FfnUpReferenceIdeal.Gen Cert.FfnUpReferenceIdeal.Read

variable (h : Mat 8448 1024) (w : Mat 1024 5632)

theorem v3_apply (t : Fin 8448) (j : Fin 2816) : val_main_v3 (F := Ideal) h w (ix2 t j) = gate h w t j := by
  pointwise [val_main_v3, val_main_v2, val_main_v1, val_main_v0]
  rfl

theorem v4_apply (t : Fin 8448) (j : Fin 2816) : val_main_v4 (F := Ideal) h w (ix2 t j) = lin h w t j := by
  pointwise [val_main_v4, val_main_v2, val_main_v1, val_main_v0]
  rfl

theorem sg_apply (t : Fin 8448) (j : Fin 2816) : val_main_v5_2 (F := Ideal) h w (ix2 t j) = Ideal.logistic (gate h w t j) := by
  pointwise [val_main_v5_2, val_main_call0_v4, val_main_call0_cst_0, val_main_call0_v3, val_main_call0_v2, val_main_call0_cst, val_main_call0_v1, val_main_call0_v0]
  rw [v3_apply]
  rfl

theorem v10_apply (t : Fin 8448) (j : Fin 2816) : val_main_v10 (F := Ideal) h w (ix2 t j) = slope 1 (gate h w t j) (lin h w t j) := by
  pointwise [val_main_v10, val_main_call1_v1, val_main_call1_v2, val_main_call1_v0, val_main_v5_1, val_main_call0_v7, val_main_call0_v6, val_main_call0_cst_1,
    val_main_v9, val_main_v7, val_main_cst]
  rw [sg_apply, v3_apply, v4_apply]
  unfold FfnMath.slope
  rw [one_mul]

theorem v8_apply (t : Fin 8448) (j : Fin 2816) : val_main_v8 (F := Ideal) h w (ix2 t j) = silu (gate h w t j) := by
  pointwise [val_main_v8, val_main_v5_0, val_main_v7, val_main_cst]
  rw [sg_apply, v3_apply]
  rfl

theorem slopes_eq : val_main_v15 (F := Ideal) h w = upSlopes h w := by
  funext y
  idx_vars y
  pointwise [val_main_v15, val_main_v14, val_main_v13, val_main_v12, val_main_v11]
  simp only [v10_apply, v8_apply]
  exact pair_dite (fun t j => FfnMath.slope 1 (gate h w t j) (lin h w t j)) (fun t j => silu (gate h w t j)) y0 y1 y2 y3

theorem act_eq : val_main_v20 (F := Ideal) h w = upAct h w := by
  funext y
  idx_vars y
  pointwise [val_main_v20, val_main_v19, val_main_v18, val_main_v17, val_main_v16, val_main_call2_v5, val_main_call2_v4, val_main_call2_cst_0, val_main_call2_v3,
    val_main_call2_v2, val_main_call2_cst, val_main_call2_v1, val_main_call2_v0]
  rw [v3_apply, v4_apply]
  rfl

end Cert.FfnUpReferenceIdeal.Val
end
-- ==== Proof.FfnUpClaim.lean ====
/- The claims about the feed-forward block's first product: the frames, and the equality of both results where the arguments are finite. -/
module

public import proofs.«01_k».proof.Proof.Gen.FfnUp.Frame
public import proofs.«01_k».proof.Proof.FfnUpKernel
public import proofs.«01_k».proof.Proof.FfnUpRef

@[expose] public section

set_option maxRecDepth 16384

noncomputable section

namespace Cert.FfnUpClaim

open Idealize.ShloMosaic Idealize.ShloMosaic.TcCoe Idealize.SL.Sem
open Cert Cert.Products Cert.FfnMath

local instance : Cert.FfnUp.Facts := Cert.FfnUp.Gen.facts
local instance : Cert.FfnUpIdeal.Facts := Cert.FfnUpIdeal.Gen.facts
local instance : Cert.FfnUpReferenceIdeal.Facts := Cert.FfnUpReferenceIdeal.Gen.facts

/-- What the precondition's two comparisons need of the shapes. -/
theorem preFacts : Cert.Pre_finite_ffnup.Facts := ⟨by decide, by decide, by decide⟩

local instance : Cert.Pre_finite_ffnup.Facts := preFacts

theorem frame_k : Cert.quiescent_FfnUp := fun m ρ _ => Cert.FfnUp.Gen.frame m ρ
theorem frame_ki : Cert.quiescent_FfnUpIdeal := fun m ρ _ => Cert.FfnUpIdeal.Gen.frame m ρ
theorem frame_ki_pre : Cert.quiescent_FfnUpIdeal_pre_finite_ffnup := fun m ρ _ => Cert.FfnUpIdeal.Gen.frame m ρ
theorem frame_ri : Cert.quiescent_FfnUpReferenceIdeal := fun m ρ _ =>
  (θ_run Cert.FfnUpReferenceIdeal.defs _ _).mono (fun r h => ⟨fun c => (h c).2.2, sem_eq_zero_of_no_sems (by decide) r.2⟩)
    (Cert.FfnUpReferenceIdeal.Value.run (F := Ideal) m ρ)
theorem frame_ri_pre : Cert.quiescent_FfnUpReferenceIdeal_pre_finite_ffnup := fun m ρ _ => frame_ri m ρ trivial

/-- The precondition says that every number of both arguments is a real. -/
theorem fin_args (m : (ℓ : Loc Cert.FfnUpIdeal.nD Cert.FfnUpIdeal.τ Cert.FfnUpIdeal.sig) → Buf (Elt Ideal) ℓ)
    (hp : Cert.Pre_FfnUpIdeal_finite_ffnup m) (c : Dev Cert.FfnUpIdeal.nD) :
    (∀ i, Fin' (FfnUpIdeal.Val.av m c i)) ∧ (∀ i, Fin' (FfnUpIdeal.Val.bv m c i)) :=
  ⟨fun i => fin_of_abs (congrFun (hp c).1 i), fun i => fin_of_abs (congrFun (hp c).2 i)⟩

/-- Both programs leave the closed forms of FfnMath. -/
theorem algebraic : Cert.algebraic_FfnUpIdeal_FfnUpReferenceIdeal_pre_finite_ffnup := fun m g m' g' hp hm =>
  ⟨fun c => upSlopes (FfnUpIdeal.Val.av m c) (FfnUpIdeal.Val.bv m c),
   fun c => upAct (FfnUpIdeal.Val.av m c) (FfnUpIdeal.Val.bv m c),
   (θ_run Cert.FfnUpIdeal.defs _ _).mono (fun _ h c =>
      ⟨(h c).1.trans (FfnUpIdeal.Val.final3 m c (fun i j => fin_nn (fin_args m hp c).1 (fin_args m hp c).2 i _)
          (fun i j => fin_nn (fin_args m hp c).1 (fin_args m hp c).2 i _)),
        (h c).2.1.trans (FfnUpIdeal.Val.final4 m c), (h c).2.2⟩)
     (Cert.FfnUpIdeal.Value.run_blocks (F := Ideal) m g),
   (θ_run Cert.FfnUpReferenceIdeal.defs _ _).mono (fun _ h c => by
      obtain ⟨e0, e1⟩ := hm c
      obtain ⟨h0, h1, hk⟩ := h c
      refine ⟨h0.trans ?_, h1.trans ?_, hk⟩
      · rw [FfnUpReferenceIdeal.Read.val_main_v15_eq, e0, e1]
        exact FfnUpReferenceIdeal.Val.slopes_eq _ _
      · rw [FfnUpReferenceIdeal.Read.val_main_v20_eq, e0, e1]
        exact FfnUpReferenceIdeal.Val.act_eq _ _)
     (Cert.FfnUpReferenceIdeal.Value.run (F := Ideal) m' g')⟩

end Cert.FfnUpClaim
end
-- ==== Proof.NormMath.lean ====
/- The closed forms of the layers that end in a normalised row: a residual sum, and the row normalised to mean zero and variance one, scaled and shifted. -/
module

public import proofs.«01_k».proof.Proof.Products

@[expose] public section

noncomputable section

namespace Cert.NormMath

open Idealize.ShloMosaic Idealize.ShloMosaic.TcCoe
open Cert Cert.Products

/-- The number of columns, 1024, as the programs write it. -/
abbrev cols : EReal := (Scalar.ofBits .f32 0x44800000#32 : Ideal .f32)
/-- The number added to a variance, the single-precision number nearest to 10⁻⁵. -/
abbrev eps : EReal := (Scalar.ofBits .f32 0x3727C5AC#32 : Ideal .f32)
/-- One half. -/
abbrev half : EReal := (Scalar.ofBits .f32 0x3F000000#32 : Ideal .f32)

/-- The mean of a row. -/
def mean (x : Fin 1024 → EReal) : EReal := Ideal.div (∑ k, x k) cols

/-- A row normalised, scaled by `g` and shifted by `b`. -/
def norm (x : Fin 1024 → EReal) (g b : Mat 1 1024) (j : Fin 1024) : EReal :=
  (x j - mean x) * Ideal.rsqrt (Ideal.div (∑ k, (x k - mean x) * (x k - mean x)) cols + eps) * g (ix2 0 j) + b (ix2 0 j)

/-- The residual sum after the feed-forward block: `α h + a · w / 2`. -/
def ffnRes (a : Mat 8448 2816) (w : Mat 2816 1024) (h : Mat 8448 1024) (i : Fin 8448) (j : Fin 1024) : EReal :=
  alpha * h (ix2 i j) + half * nn a w i j

/-- A sum over 2816 indices in four pieces. -/
theorem sum_four (f : Fin 2816 → EReal) :
    ((∑ k : Fin 704, f ⟨k.val, by omega⟩ + ∑ k : Fin 704, f ⟨704 + k.val, by omega⟩) + ∑ k : Fin 704, f ⟨1408 + k.val, by omega⟩)
      + ∑ k : Fin 704, f ⟨2112 + k.val, by omega⟩ = ∑ k, f k := by
  have h : ∑ s : Fin 4, ∑ k : Fin 704, f ⟨s.val * 704 + k.val, by omega⟩ = ∑ k, f k := Fin.sum_mul_add_congr (fun s k hl => rfl) rfl
  rw [← h]
  refine Eq.trans ?_ (Fin.sum_univ_four _).symm
  simp only [Fin.val_zero, Fin.val_one, zero_mul, zero_add, one_mul]
  rfl

end Cert.NormMath
end
-- ==== Proof.FfnDownKernel.lean ====
/- The kernel of the feed-forward block's second product, read at an index: `r = α h + a · w / 2`, the middle columns in four blocks, and its rows normalised. -/
module

public import proofs.«01_k».proof.Proof.Gen.FfnDownIdeal.Value
public import proofs.«01_k».proof.Proof.NormMath
public import proofs.«01_k».proof.Proof.Rows

@[expose] public section

set_option maxRecDepth 16384

noncomputable section

namespace Cert.FfnDownIdeal.Val

open Cert.FfnDownIdeal Cert.FfnDownIdeal.Gen Idealize.ShloMosaic Idealize.ShloMosaic.TcCoe Idealize.SL.Sem
open Idealize.ShloMosaic.Pipeline (Dat)
open Cert Cert.Products Cert.NormMath

variable (m : (ℓ : Loc nD τ sig) → Buf (Elt Ideal) ℓ)

abbrev av (c : Dev nD) : Mat 8448 2816 := m (c, main_arg0)
abbrev wv (c : Dev nD) : Mat 2816 1024 := m (c, main_arg1)
abbrev hv (c : Dev nD) : Mat 8448 1024 := m (c, main_arg2)
abbrev gv (c : Dev nD) : Mat 1 1024 := m (c, main_arg3)
abbrev bv (c : Dev nD) : Mat 1 1024 := m (c, main_arg4)

theorem idx0 : ∀ t : Fin cfg0.N, win0_0.index t = ![0, t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0])

theorem ltN (t : Fin cfg0.N) : t.val < 22 := N_0 ▸ t.isLt

/-- The row of the whole array that a point's row is. -/
abbrev row (t : Fin cfg0.N) (r : Fin 384) : Fin 8448 := ⟨t.val * 384 + r.val, by have := ltN t; omega⟩

/-- The left factor in its four blocks of columns. -/
theorem V_a (c : Dev nD) : V m c main_v1 = transpose S4x8448x704 [1, 0, 2] (shapeCast S8448x4x704 (av m c) shapeCasts_S8448x2816_S8448x4x704) transposes_S8448x4x704_S4x8448x704_1_0_2 := by
  simp only [V, hostOps0, List.flatten_cons, List.flatten_nil, List.append_nil, List.cons_append, List.nil_append]
  entry_read
  rfl

theorem b0 (c : Dev nD) (t : Fin cfg0.N) (s : Fin 4) (r : Fin 384) (k : Fin 704) :
    iblk m c 0 t (ix3 s r k) = av m c (ix2 (row t r) (⟨s.val * 704 + k.val, by omega⟩ : Fin 2816)) := by
  have := ltN t
  have hp : (win0_0.blk t).view.emb (ix3 s r k) = ix3 s (row t r) k := by
    blk_ext [iblk, idx0 t]
  show V m c main_v1 ((win0_0.blk t).view.emb (ix3 s r k)) = _
  rw [hp, V_a]
  pointwise

theorem b1 (c : Dev nD) (t : Fin cfg0.N) (k : Fin 2816) (j : Fin 1024) : iblk m c 1 t (ix2 k j) = wv m c (ix2 k j) := by
  have := ltN t
  blk_ext [iblk, V_main_arg1 m c, idx0 t]

theorem b2 (c : Dev nD) (t : Fin cfg0.N) (r : Fin 384) (j : Fin 1024) : iblk m c 2 t (ix2 r j) = hv m c (ix2 (row t r) j) := by
  have := ltN t
  blk_ext [iblk, V_main_arg2 m c, idx0 t]

theorem b3 (c : Dev nD) (t : Fin cfg0.N) (z : Fin 1) (j : Fin 1024) : iblk m c 3 t (ix2 z j) = gv m c (ix2 z j) := by
  have := ltN t
  blk_ext [iblk, V_main_arg3 m c, idx0 t]

theorem b4 (c : Dev nD) (t : Fin cfg0.N) (z : Fin 1) (j : Fin 1024) : iblk m c 4 t (ix2 z j) = bv m c (ix2 z j) := by
  have := ltN t
  blk_ext [iblk, V_main_arg4 m c, idx0 t]

/-- The residual sum of a point's rows. -/
theorem pay5_apply (c : Dev nD) (t : Fin cfg0.N) (r : Fin 384) (j : Fin 1024) :
    k0_pay5 (F := Ideal) (iblk m c 0 t) (iblk m c 1 t) (iblk m c 2 t) (iblk m c 3 t) (iblk m c 4 t) (ix2 r j)
      = ffnRes (av m c) (wv m c) (hv m c) (row t r) j := by
  unfold k0_pay5
  pointwise [k0_pay3]
  simp only [b0, b1, b2]
  unfold ffnRes nn
  rw [← sum_four]
  rfl

/-- Their means. -/
theorem pay6_apply (c : Dev nD) (t : Fin cfg0.N) (r : Fin 384) :
    k0_pay6 (F := Ideal) (iblk m c 0 t) (iblk m c 1 t) (iblk m c 2 t) (iblk m c 3 t) (iblk m c 4 t) (ix2 r (0 : Fin 1))
      = mean (ffnRes (av m c) (wv m c) (hv m c) (row t r)) := by
  have h : ∀ j, k0_pay3 (F := Ideal) (View.ld (iblk m c 0 t) r0_0) (View.ld (iblk m c 1 t) r0_1) (View.ld (iblk m c 0 t) r0_2) (View.ld (iblk m c 1 t) r0_3)
      (View.ld (iblk m c 0 t) r0_4) (View.ld (iblk m c 1 t) r0_5) (View.ld (iblk m c 0 t) r0_6) (View.ld (iblk m c 1 t) r0_7) (View.ld (iblk m c 2 t) r0_8) (ix2 r j)
      = ffnRes (av m c) (wv m c) (hv m c) (row t r) j := fun j => pay5_apply m c t r j
  unfold k0_pay6
  pointwise [k0_pay4]
  exact congrArg (fun s => Ideal.div s cols) (Finset.sum_congr rfl fun x _ => h x)

theorem after5_apply (c : Dev nD) (t : Fin cfg0.N) (r : Fin 384) (j : Fin 1024) :
    out0_5 (iblk m c 0 t) (iblk m c 1 t) (iblk m c 2 t) (iblk m c 3 t) (iblk m c 4 t) (ix2 r j) = ffnRes (av m c) (wv m c) (hv m c) (row t r) j := by
  unfold out0_5
  frame_out
  exact pay5_apply m c t r j

theorem after6_apply (c : Dev nD) (t : Fin cfg0.N) (r : Fin 384) (j : Fin 1024) :
    out0_6 (iblk m c 0 t) (iblk m c 1 t) (iblk m c 2 t) (iblk m c 3 t) (iblk m c 4 t) (ix2 r j)
      = norm (ffnRes (av m c) (wv m c) (hv m c) (row t r)) (gv m c) (bv m c) j := by
  unfold out0_6
  frame_out
  pointwise [k0_pay1]
  simp only [pay5_apply, pay6_apply, b3, b4]
  rfl

theorem after7_apply (c : Dev nD) (t : Fin cfg0.N) (r : Fin 384) (j : Fin 1024) :
    out0_7 (iblk m c 0 t) (iblk m c 1 t) (iblk m c 2 t) (iblk m c 3 t) (iblk m c 4 t) (ix2 r j)
      = norm (ffnRes (av m c) (wv m c) (hv m c) (row t r)) (gv m c) (bv m c) j := by
  unfold out0_7
  frame_out
  pointwise [k0_pay2, k0_pay1]
  simp only [pay5_apply, pay6_apply, b3, b4]
  rfl

theorem final5 (c : Dev nD) : (dats m 0 c).arrAt 5 cfg0.N = mat (ffnRes (av m c) (wv m c) (hv m c)) := by
  refine (dats m 0 c).arrAt_eq_of_covers 5 _ (by decide +kernel) fun t hf y => ?_
  blk_simp
  rw [after0_5]
  idx_vars y
  have := ltN t
  have hy : (win0_5.blk t).view.emb (ix2 y0 y1) = ix2 (row t y0) y1 := by
    blk_ext [idx0 t]
  rw [hy, after5_apply m c t]
  rfl

theorem final6 (c : Dev nD) : (dats m 0 c).arrAt 6 cfg0.N = mat (fun i => norm (ffnRes (av m c) (wv m c) (hv m c) i) (gv m c) (bv m c)) := by
  refine (dats m 0 c).arrAt_eq_of_covers 6 _ (by decide +kernel) fun t hf y => ?_
  blk_simp
  rw [after0_6]
  idx_vars y
  have := ltN t
  have hy : (win0_6.blk t).view.emb (ix2 y0 y1) = ix2 (row t y0) y1 := by
    blk_ext [idx0 t]
  rw [hy, after6_apply m c t]
  rfl

theorem final7 (c : Dev nD) : (dats m 0 c).arrAt 7 cfg0.N = mat (fun i => norm (ffnRes (av m c) (wv m c) (hv m c) i) (gv m c) (bv m c)) := by
  refine (dats m 0 c).arrAt_eq_of_covers 7 _ (by decide +kernel) fun t hf y => ?_
  blk_simp
  rw [after0_7]
  idx_vars y
  have := ltN t
  have hy : (win0_7.blk t).view.emb (ix2 y0 y1) = ix2 (row t y0) y1 := by
    blk_ext [idx0 t]
  rw [hy, after7_apply m c t]
  rfl

end Cert.FfnDownIdeal.Val
end
-- ==== Proof.FfnDownRef.lean ====
/- The reference's residual sum and normalised rows in closed form. -/
module

public import proofs.«01_k».proof.Proof.Gen.FfnDownReferenceIdeal.Read
public import proofs.«01_k».proof.Proof.NormMath

@[expose] public section

set_option maxRecDepth 16384

noncomputable section

namespace Cert.FfnDownReferenceIdeal.Val

open Idealize.ShloMosaic Idealize.ShloMosaic.TcCoe Idealize.SL.Sem
open Cert Cert.Products Cert.NormMath Cert.FfnDownReferenceIdeal Cert.FfnDownReferenceIdeal.Gen Cert.FfnDownReferenceIdeal.Read

variable (a : Mat 8448 2816) (w : Mat 2816 1024) (h : Mat 8448 1024) (g b : Mat 1 1024)

theorem v7_apply (i : Fin 8448) (j : Fin 1024) : val_main_v7 (F := Ideal) a w h (ix2 i j) = ffnRes a w h i j := by
  pointwise [val_main_v7, val_main_v6, val_main_v5, val_main_cst_0, val_main_v4, val_main_v3, val_main_v2, val_main_v1, val_main_v0, val_main_cst]
  rfl

theorem v29_apply (i : Fin 8448) (j : Fin 1024) : val_main_v29 (F := Ideal) a w h g b (ix2 i j) = norm (ffnRes a w h i) g b j := by
  pointwise [val_main_v29, val_main_v28, val_main_v27, val_main_v26, val_main_v25, val_main_v24, val_main_v23, val_main_v22, val_main_v21, val_main_cst_5, val_main_v20,
    val_main_v19, val_main_v18, val_main_v17, val_main_cst_4, val_main_v16, val_main_v15, val_main_cst_3, val_main_v14, val_main_v13, val_main_v12, val_main_v11,
    val_main_v10, val_main_cst_2, val_main_v9, val_main_v8, val_main_cst_1]
  simp only [v7_apply]
  rfl

theorem r_eq : val_main_v7 (F := Ideal) a w h = mat (ffnRes a w h) := by
  funext y
  idx_vars y
  exact v7_apply a w h y0 y1

theorem y_eq : val_main_v29 (F := Ideal) a w h g b = mat (fun i => norm (ffnRes a w h i) g b) := by
  funext y
  idx_vars y
  exact v29_apply a w h g b y0 y1

theorem yb_eq : val_main_v30 (F := Ideal) a w h g b = mat (fun i => norm (ffnRes a w h i) g b) := by
  funext y
  idx_vars y
  pointwise [val_main_v30]
  exact v29_apply a w h g b y0 y1

end Cert.FfnDownReferenceIdeal.Val
end
-- ==== Proof.FfnDownClaim.lean ====
/- The claims about the feed-forward block's second product and the normalised rows after it: the frames, and the equality of the three results. -/
module

public import proofs.«01_k».proof.Proof.Gen.FfnDown.Frame
public import proofs.«01_k».proof.Proof.FfnDownKernel
public import proofs.«01_k».proof.Proof.FfnDownRef

@[expose] public section

set_option maxRecDepth 16384

noncomputable section

namespace Cert.FfnDownClaim

open Idealize.ShloMosaic Idealize.ShloMosaic.TcCoe Idealize.SL.Sem
open Cert Cert.Products Cert.NormMath Cert.FfnDownIdeal.Val

local instance : Cert.FfnDown.Facts := Cert.FfnDown.Gen.facts
local instance : Cert.FfnDownIdeal.Facts := Cert.FfnDownIdeal.Gen.facts
local instance : Cert.FfnDownReferenceIdeal.Facts := Cert.FfnDownReferenceIdeal.Gen.facts

theorem frame_k : Cert.quiescent_FfnDown := fun m ρ _ => Cert.FfnDown.Gen.frame m ρ
theorem frame_ki : Cert.quiescent_FfnDownIdeal := fun m ρ _ => Cert.FfnDownIdeal.Gen.frame m ρ
theorem frame_ri : Cert.quiescent_FfnDownReferenceIdeal := fun m ρ _ =>
  (θ_run Cert.FfnDownReferenceIdeal.defs _ _).mono (fun r h => ⟨fun c => (h c).2.2.2, sem_eq_zero_of_no_sems (by decide) r.2⟩)
    (Cert.FfnDownReferenceIdeal.Value.run (F := Ideal) m ρ)

/-- Both programs leave the closed forms of NormMath. -/
theorem algebraic : Cert.algebraic_FfnDownIdeal_FfnDownReferenceIdeal := fun m g m' g' _ hm =>
  ⟨fun c => mat (ffnRes (av m c) (wv m c) (hv m c)),
   fun c => mat (fun i => norm (ffnRes (av m c) (wv m c) (hv m c) i) (gv m c) (bv m c)),
   fun c => mat (fun i => norm (ffnRes (av m c) (wv m c) (hv m c) i) (gv m c) (bv m c)),
   (θ_run Cert.FfnDownIdeal.defs _ _).mono (fun _ h c =>
      ⟨(h c).1.trans (final5 m c), (h c).2.1.trans (final6 m c), (h c).2.2.1.trans (final7 m c), (h c).2.2.2⟩)
     (Cert.FfnDownIdeal.Value.run_blocks (F := Ideal) m g),
   (θ_run Cert.FfnDownReferenceIdeal.defs _ _).mono (fun _ h c => by
      obtain ⟨e0, e1, e2, e3, e4⟩ := hm c
      obtain ⟨h0, h1, h2, hk⟩ := h c
      refine ⟨h0.trans ?_, h1.trans ?_, h2.trans ?_, hk⟩
      · rw [FfnDownReferenceIdeal.Read.val_main_v7_eq, e0, e1, e2]
        exact FfnDownReferenceIdeal.Val.r_eq _ _ _
      · rw [FfnDownReferenceIdeal.Read.val_main_v29_eq, e0, e1, e2, e3, e4]
        exact FfnDownReferenceIdeal.Val.y_eq _ _ _ _ _
      · rw [FfnDownReferenceIdeal.Read.val_main_v30_eq, e0, e1, e2, e3, e4]
        exact FfnDownReferenceIdeal.Val.yb_eq _ _ _ _ _)
     (Cert.FfnDownReferenceIdeal.Value.run (F := Ideal) m' g')⟩

end Cert.FfnDownClaim
end
-- ==== Proof.MixInKernel.lean ====
/- The kernel of the mixer's input product `h · w_in`, read at an index. -/
module

public import proofs.«01_k».proof.Proof.Gen.MixInIdeal.Value
public import proofs.«01_k».proof.Proof.Products
public import proofs.«01_k».proof.Proof.Rows

@[expose] public section

set_option maxRecDepth 16384

noncomputable section

namespace Cert.MixInIdeal.Val

open Cert.MixInIdeal Cert.MixInIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 1024 := m (c, main_arg0)
abbrev bv (c : Dev nD) : Mat 1024 4096 := m (c, main_arg1)

theorem idx0 : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem ltN (t : Fin cfg0.N) : t.val < 44 := N_0 ▸ t.isLt

/-- The row of the whole array that a point's row is. -/
abbrev row (t : Fin cfg0.N) (r : Fin 768) : Fin 8448 := ⟨t.val / 4 * 768 + r.val, by have := ltN t; omega⟩
/-- The column of the whole array that a point's column is. -/
abbrev col (t : Fin cfg0.N) (j : Fin 1024) : Fin 4096 := ⟨t.val % 4 * 1024 + j.val, by omega⟩

theorem b0 (c : Dev nD) (t : Fin cfg0.N) (r : Fin 768) (k : Fin 1024) : iblk m c 0 t (ix2 r k) = av m c (ix2 (row t r) k) := by
  have := ltN t
  blk_ext [iblk, V_main_arg0 m c, idx0 t]

theorem b1 (c : Dev nD) (t : Fin cfg0.N) (k : Fin 1024) (j : Fin 1024) : iblk m c 1 t (ix2 k j) = bv m c (ix2 k (col t j)) := by
  have := ltN t
  blk_ext [iblk, V_main_arg1 m c, idx0 t]

theorem after2_apply (c : Dev nD) (t : Fin cfg0.N) (y : S768x1024.Idx) :
    outsAt0 m c t y = nn (av m c) (bv m c) (row t (y 0)) (col t (y 1)) := by
  unfold outsAt0
  frame_open
  simp (disch := decide) only [↓ View.readCov_skip, ↓ View.readCov_cons_toLoadRect, ↓ View.readCov_fill]
  frame_out
  idx_vars y
  show _ = nn (av m c) (bv m c) (row t y0) (col t y1)
  pointwise [k0_pay1, k0_pay2]
  simp only [b0, b1]
  rfl

theorem final (c : Dev nD) : (dats m 0 c).arrAt 2 cfg0.N = mat (nn (av m c) (bv m c)) := by
  refine (dats m 0 c).arrAt_eq_of_covers 2 _ (by decide +kernel) fun t hf y => ?_
  blk_simp
  rw [after0_2]
  have hy : (win0_2.blk t).view.emb y = ix2 (row t (y 0)) (col t (y 1)) := by
    have := ltN t
    blk_ext [idx0 t]
  rw [hy, after2_apply m c t]
  rfl

end Cert.MixInIdeal.Val
end
-- ==== Proof.MixInClaim.lean ====
/- The claims about the mixer's input product: the frames and the equality of the results. -/
module

public import proofs.«01_k».proof.Proof.Gen.MixIn.Frame
public import proofs.«01_k».proof.Proof.Gen.MixInReferenceIdeal.Run
public import proofs.«01_k».proof.Proof.Gen.MixInReferenceIdeal.Read
public import proofs.«01_k».proof.Proof.MixInKernel

@[expose] public section

set_option maxRecDepth 16384

noncomputable section

namespace Cert.MixInClaim

open Idealize.ShloMosaic Idealize.ShloMosaic.TcCoe Idealize.SL.Sem
open Cert Cert.Products Cert.MixInReferenceIdeal Cert.MixInReferenceIdeal.Gen Cert.MixInReferenceIdeal.Read

/-- The reference's result in closed form. -/
theorem ref_eq (a : Mat 8448 1024) (b : Mat 1024 4096) : val_main_v2 (F := Ideal) a b = mat (nn a b) := by
  funext y
  idx_vars y
  pointwise [val_main_v2, val_main_v1, val_main_v0]
  rfl

local instance : Cert.MixIn.Facts := Cert.MixIn.Gen.facts
local instance : Cert.MixInIdeal.Facts := Cert.MixInIdeal.Gen.facts
local instance : Cert.MixInReferenceIdeal.Facts := Cert.MixInReferenceIdeal.Gen.facts

theorem frame_k : Cert.quiescent_MixIn := fun m ρ _ => Cert.MixIn.Gen.frame m ρ
theorem frame_ki : Cert.quiescent_MixInIdeal := fun m ρ _ => Cert.MixInIdeal.Gen.frame m ρ
theorem frame_ri : Cert.quiescent_MixInReferenceIdeal := fun m ρ _ =>
  (θ_run Cert.MixInReferenceIdeal.defs _ _).mono (fun r h => ⟨fun c => (h c).2, sem_eq_zero_of_no_sems (by decide) r.2⟩)
    (Cert.MixInReferenceIdeal.Value.run (F := Ideal) m ρ)

/-- Both programs leave the same product. -/
theorem algebraic : Cert.algebraic_MixInIdeal_MixInReferenceIdeal := fun m g m' g' _ hm =>
  ⟨fun c => mat (nn (MixInIdeal.Val.av m c) (MixInIdeal.Val.bv m c)),
   (θ_run Cert.MixInIdeal.defs _ _).mono (fun _ h c => ⟨(h c).1.trans (MixInIdeal.Val.final m c), (h c).2⟩)
     (Cert.MixInIdeal.Value.run_blocks (F := Ideal) m g),
   (θ_run Cert.MixInReferenceIdeal.defs _ _).mono (fun _ h c => by
      obtain ⟨e0, e1⟩ := hm c
      refine ⟨(h c).1.trans ?_, (h c).2⟩
      rw [e0, e1]
      exact ref_eq _ _)
     (Cert.MixInReferenceIdeal.Value.run (F := Ideal) m' g')⟩

end Cert.MixInClaim
end
-- ==== Proof.BranchKernel.lean ====
/- The kernel of the gradient of `w_br`, read at an index: `aᵀ · b` summed over three blocks of rows. -/
module

public import proofs.«01_k».proof.Proof.Gen.BranchIdeal.Value
public import proofs.«01_k».proof.Proof.Products
public import proofs.«01_k».proof.Proof.Rows

@[expose] public section

set_option maxRecDepth 16384

noncomputable section

namespace Cert.BranchIdeal.Val

open Cert.BranchIdeal Cert.BranchIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 512 := m (c, main_arg0)
abbrev bv (c : Dev nD) : Mat 8448 1024 := m (c, main_arg1)

theorem idx0 : ∀ t : Fin cfg0.N, win0_0.index t = ![t.val % 3, 0] ∧ win0_1.index t = ![t.val % 3, 0] ∧ win0_2.index t = ![0, 0] :=
  (by decide +kernel : ∀ t : Fin grid0.N, win0_0.index t = ![t.val % 3, 0] ∧ win0_1.index t = ![t.val % 3, 0] ∧ win0_2.index t = ![0, 0])

theorem ltN (t : Fin cfg0.N) : t.val < 3 := N_0 ▸ t.isLt

/-- The row of the whole array that a point's row is. -/
abbrev row (t : Fin cfg0.N) (k : Fin 2816) : Fin 8448 := ⟨t.val % 3 * 2816 + k.val, by omega⟩
/-- The column of the left factor that a point's column is. -/
abbrev ca (t : Fin cfg0.N) (i : Fin 512) : Fin 512 := i
/-- The column of the right factor that a point's column is. -/
abbrev cb (t : Fin cfg0.N) (j : Fin 1024) : Fin 1024 := j

theorem b0 (c : Dev nD) (t : Fin cfg0.N) (k : Fin 2816) (i : Fin 512) : iblk m c 0 t (ix2 k i) = av m c (ix2 (row t k) (ca t i)) := by
  have := ltN t
  blk_ext [iblk, V_main_arg0 m c, idx0 t]

theorem b1 (c : Dev nD) (t : Fin cfg0.N) (k : Fin 2816) (i : Fin 1024) : iblk m c 1 t (ix2 k i) = bv m c (ix2 (row t k) (cb t i)) := by
  have := ltN t
  blk_ext [iblk, V_main_arg1 m c, idx0 t]

/-- What a point adds. -/
def term (c : Dev nD) (t : Fin cfg0.N) (i : Fin 512) (j : Fin 1024) : EReal :=
  ∑ k : Fin 2816, av m c (ix2 (row t k) (ca t i)) * bv m c (ix2 (row t k) (cb t j))

theorem part_apply (c : Dev nD) (t : Fin cfg0.N) (i : Fin 512) (j : Fin 1024) :
    k0_pay1 (F := Ideal) (iblk m c 0 t) (iblk m c 1 t) (ix2 i j) = term m c t i j := by
  pointwise [k0_pay1]
  simp only [b0, b1]
  rfl

theorem step_A (c : Dev nD) (t : Fin cfg0.N) (h0 : t.val % 3 = 0) (y : S512x1024.Idx) :
    outsAt0 m c t.val t.isLt y = 0 + term m c t (y 0) (y 1) := by
  have := ltN t
  rw [outsAt0_A m c t h0 (by omega)]
  frame_out
  rw [zero_add]
  idx_vars y
  show _ = term m c t y0 y1
  rw [← part_apply]

theorem step_B (c : Dev nD) (t : Fin cfg0.N) (h0 : ¬ t.val % 3 = 0) (y : S512x1024.Idx) :
    outsAt0 m c t.val t.isLt y = outsAt0 m c (t.val - 1) (Nat.lt_of_le_of_lt (Nat.sub_le _ _) t.isLt) y + term m c t (y 0) (y 1) := by
  have := ltN t
  rw [outsAt0_B m c t h0 (by omega)]
  frame_out
  idx_vars y
  show _ = _ + term m c t y0 y1
  rw [← part_apply]
  pointwise [k0_pay2]

theorem after2_apply (c : Dev nD) (t : Fin cfg0.N) (ht : t.val % 3 = 2) (y : S512x1024.Idx) :
    outsAt0 m c t.val t.isLt y = tn (av m c) (bv m c) (ca t (y 0)) (cb t (y 1)) := by
  rw [Pipeline.eq_sum_fin_of_reset_step_apply_of_flush (fun n h => outsAt0 m c n h) 3 (fun _ => 0)
    (fun t y => term m c t (y 0) (y 1)) (step_A m c) (step_B m c) t ht y, zero_add]
  refine Eq.trans ?_ (tn_blocks (S := 3) (p := 2816) (av m c) (bv m c) (ca t (y 0)) (cb t (y 1)) rfl fun s k => by omega)
  refine Finset.sum_congr rfl fun s _ => Finset.sum_congr rfl fun k _ => ?_
  have e : row ⟨3 * (t.val / 3) + s.val, Pipeline.run_point_lt_of_flush t ht s⟩ k = (⟨s.val * 2816 + k.val, by omega⟩ : Fin 8448) :=
    Fin.ext (show (3 * (t.val / 3) + s.val) % 3 * 2816 + k.val = s.val * 2816 + k.val by omega)
  rw [e]

theorem final (c : Dev nD) : (dats m 0 c).arrAt 2 cfg0.N = mat (tn (av m c) (bv m c)) := by
  refine (dats m 0 c).arrAt_eq_of_covers 2 _ (by decide +kernel) fun t hf y => ?_
  blk_simp
  rw [after0_2]
  have hy : (win0_2.blk t).view.emb y = ix2 (ca t (y 0)) (cb t (y 1)) := by
    have := ltN t
    blk_ext [idx0 t]
  rw [hy, after2_apply m c t ((flush0_2 t).mp hf)]
  rfl

end Cert.BranchIdeal.Val
end
-- ==== Proof.BranchClaim.lean ====
/- The claims about the gradients of w_br_conv and of w_br_mla: the frames and the equality of the results. -/
module

public import proofs.«01_k».proof.Proof.Gen.Branch.Frame
public import proofs.«01_k».proof.Proof.Gen.BranchReferenceIdeal.Run
public import proofs.«01_k».proof.Proof.Gen.BranchReferenceIdeal.Read
public import proofs.«01_k».proof.Proof.BranchKernel

@[expose] public section

set_option maxRecDepth 16384

noncomputable section

namespace Cert.BranchClaim

open Idealize.ShloMosaic Idealize.ShloMosaic.TcCoe Idealize.SL.Sem
open Cert Cert.Products Cert.BranchReferenceIdeal Cert.BranchReferenceIdeal.Gen Cert.BranchReferenceIdeal.Read

/-- The reference's result in closed form. -/
theorem ref_eq (a : Mat 8448 512) (b : Mat 8448 1024) : val_main_v5 (F := Ideal) a b = mat (tn a b) := by
  funext y
  idx_vars y
  pointwise [val_main_v5, val_main_v4, val_main_v3, val_main_v1]
  exact Finset.sum_congr rfl fun t _ => mul_comm _ _

local instance : Cert.Branch.Facts := Cert.Branch.Gen.facts
local instance : Cert.BranchIdeal.Facts := Cert.BranchIdeal.Gen.facts
local instance : Cert.BranchReferenceIdeal.Facts := Cert.BranchReferenceIdeal.Gen.facts

theorem frame_k : Cert.quiescent_Branch := fun m ρ _ => Cert.Branch.Gen.frame m ρ
theorem frame_ki : Cert.quiescent_BranchIdeal := fun m ρ _ => Cert.BranchIdeal.Gen.frame m ρ
theorem frame_ri : Cert.quiescent_BranchReferenceIdeal := fun m ρ _ =>
  (θ_run Cert.BranchReferenceIdeal.defs _ _).mono (fun r h => ⟨fun c => (h c).2, sem_eq_zero_of_no_sems (by decide) r.2⟩)
    (Cert.BranchReferenceIdeal.Value.run (F := Ideal) m ρ)

/-- Both programs leave the same product. -/
theorem algebraic : Cert.algebraic_BranchIdeal_BranchReferenceIdeal := fun m g m' g' _ hm =>
  ⟨fun c => mat (tn (BranchIdeal.Val.av m c) (BranchIdeal.Val.bv m c)),
   (θ_run Cert.BranchIdeal.defs _ _).mono (fun _ h c => ⟨(h c).1.trans (BranchIdeal.Val.final m c), (h c).2⟩)
     (Cert.BranchIdeal.Value.run_blocks (F := Ideal) m g),
   (θ_run Cert.BranchReferenceIdeal.defs _ _).mono (fun _ h c => by
      obtain ⟨e0, e1⟩ := hm c
      refine ⟨(h c).1.trans ?_, (h c).2⟩
      rw [e0, e1]
      exact ref_eq _ _)
     (Cert.BranchReferenceIdeal.Value.run (F := Ideal) m' g')⟩

end Cert.BranchClaim
end
-- ==== Proof.DYConvKernel.lean ====
/- The kernel of the gradient of the convolution branch's output, `d · wᵀ`, read at an index. -/
module

public import proofs.«01_k».proof.Proof.Gen.DYConvIdeal.Value
public import proofs.«01_k».proof.Proof.Products
public import proofs.«01_k».proof.Proof.Rows

@[expose] public section

set_option maxRecDepth 16384

noncomputable section

namespace Cert.DYConvIdeal.Val

open Cert.DYConvIdeal Cert.DYConvIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 1024 := m (c, main_arg0)
abbrev bv (c : Dev nD) : Mat 512 1024 := m (c, main_arg1)

theorem idx0 : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem ltN (t : Fin cfg0.N) : t.val < 11 := N_0 ▸ t.isLt

/-- The row of the whole array that a point's row is. -/
abbrev row (t : Fin cfg0.N) (r : Fin 768) : Fin 8448 := ⟨t.val * 768 + r.val, by have := ltN t; omega⟩
/-- The column of the whole array that a point's column is. -/
abbrev col (t : Fin cfg0.N) (j : Fin 512) : Fin 512 := j

theorem b0 (c : Dev nD) (t : Fin cfg0.N) (r : Fin 768) (k : Fin 1024) : iblk m c 0 t (ix2 r k) = av m c (ix2 (row t r) k) := by
  have := ltN t
  blk_ext [iblk, V_main_arg0 m c, idx0 t]

theorem b1 (c : Dev nD) (t : Fin cfg0.N) (j : Fin 512) (k : Fin 1024) : iblk m c 1 t (ix2 j k) = bv m c (ix2 j k) := by
  have := ltN t
  blk_ext [iblk, V_main_arg1 m c, idx0 t]

theorem after2_apply (c : Dev nD) (t : Fin cfg0.N) (y : S768x512.Idx) :
    outsAt0 m c t y = nt (av m c) (bv m c) (row t (y 0)) (col t (y 1)) := by
  unfold outsAt0
  frame_open
  simp (disch := decide) only [↓ View.readCov_skip, ↓ View.readCov_cons_toLoadRect, ↓ View.readCov_fill]
  frame_out
  idx_vars y
  show _ = nt (av m c) (bv m c) (row t y0) (col t y1)
  pointwise [k0_pay1, k0_pay2]
  simp only [b0, b1]
  rfl

theorem final (c : Dev nD) : (dats m 0 c).arrAt 2 cfg0.N = mat (nt (av m c) (bv m c)) := by
  refine (dats m 0 c).arrAt_eq_of_covers 2 _ (by decide +kernel) fun t hf y => ?_
  blk_simp
  rw [after0_2]
  have hy : (win0_2.blk t).view.emb y = ix2 (row t (y 0)) (col t (y 1)) := by
    have := ltN t
    blk_ext [idx0 t]
  rw [hy, after2_apply m c t]
  rfl

end Cert.DYConvIdeal.Val
end
-- ==== Proof.DYConvClaim.lean ====
/- The claims about the gradient of the convolution branch's output: the frames and the equality of the results. -/
module

public import proofs.«01_k».proof.Proof.Gen.DYConv.Frame
public import proofs.«01_k».proof.Proof.Gen.DYConvReferenceIdeal.Run
public import proofs.«01_k».proof.Proof.Gen.DYConvReferenceIdeal.Read
public import proofs.«01_k».proof.Proof.DYConvKernel

@[expose] public section

set_option maxRecDepth 16384

noncomputable section

namespace Cert.DYConvClaim

open Idealize.ShloMosaic Idealize.ShloMosaic.TcCoe Idealize.SL.Sem
open Cert Cert.Products Cert.DYConvReferenceIdeal Cert.DYConvReferenceIdeal.Gen Cert.DYConvReferenceIdeal.Read

/-- The reference's result in closed form. -/
theorem ref_eq (a : Mat 8448 1024) (b : Mat 512 1024) : val_main_v4 (F := Ideal) a b = mat (nt a b) := by
  funext y
  idx_vars y
  pointwise [val_main_v4, val_main_v3, val_main_v1]
  rfl

local instance : Cert.DYConv.Facts := Cert.DYConv.Gen.facts
local instance : Cert.DYConvIdeal.Facts := Cert.DYConvIdeal.Gen.facts
local instance : Cert.DYConvReferenceIdeal.Facts := Cert.DYConvReferenceIdeal.Gen.facts

theorem frame_k : Cert.quiescent_DYConv := fun m ρ _ => Cert.DYConv.Gen.frame m ρ
theorem frame_ki : Cert.quiescent_DYConvIdeal := fun m ρ _ => Cert.DYConvIdeal.Gen.frame m ρ
theorem frame_ri : Cert.quiescent_DYConvReferenceIdeal := fun m ρ _ =>
  (θ_run Cert.DYConvReferenceIdeal.defs _ _).mono (fun r h => ⟨fun c => (h c).2, sem_eq_zero_of_no_sems (by decide) r.2⟩)
    (Cert.DYConvReferenceIdeal.Value.run (F := Ideal) m ρ)

/-- Both programs leave the same product. -/
theorem algebraic : Cert.algebraic_DYConvIdeal_DYConvReferenceIdeal := fun m g m' g' _ hm =>
  ⟨fun c => mat (nt (DYConvIdeal.Val.av m c) (DYConvIdeal.Val.bv m c)),
   (θ_run Cert.DYConvIdeal.defs _ _).mono (fun _ h c => ⟨(h c).1.trans (DYConvIdeal.Val.final m c), (h c).2⟩)
     (Cert.DYConvIdeal.Value.run_blocks (F := Ideal) m g),
   (θ_run Cert.DYConvReferenceIdeal.defs _ _).mono (fun _ h c => by
      obtain ⟨e0, e1⟩ := hm c
      refine ⟨(h c).1.trans ?_, (h c).2⟩
      rw [e0, e1]
      exact ref_eq _ _)
     (Cert.DYConvReferenceIdeal.Value.run (F := Ideal) m' g')⟩

end Cert.DYConvClaim
end
-- ==== Proof.DYMlaKernel.lean ====
/- The kernel of the gradient of the attention branch's output, `d · wᵀ`, read at an index. -/
module

public import proofs.«01_k».proof.Proof.Gen.DYMlaIdeal.Value
public import proofs.«01_k».proof.Proof.Products
public import proofs.«01_k».proof.Proof.Rows

@[expose] public section

set_option maxRecDepth 16384

noncomputable section

namespace Cert.DYMlaIdeal.Val

open Cert.DYMlaIdeal Cert.DYMlaIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 1024 := m (c, main_arg0)
abbrev bv (c : Dev nD) : Mat 512 1024 := m (c, main_arg1)

theorem idx0 : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem ltN (t : Fin cfg0.N) : t.val < 11 := N_0 ▸ t.isLt

/-- The row of the whole array that a point's row is. -/
abbrev row (t : Fin cfg0.N) (r : Fin 768) : Fin 8448 := ⟨t.val * 768 + r.val, by have := ltN t; omega⟩
/-- The column of the whole array that a point's column is. -/
abbrev col (t : Fin cfg0.N) (j : Fin 512) : Fin 512 := j

theorem b0 (c : Dev nD) (t : Fin cfg0.N) (r : Fin 768) (k : Fin 1024) : iblk m c 0 t (ix2 r k) = av m c (ix2 (row t r) k) := by
  have := ltN t
  blk_ext [iblk, V_main_arg0 m c, idx0 t]

theorem b1 (c : Dev nD) (t : Fin cfg0.N) (j : Fin 512) (k : Fin 1024) : iblk m c 1 t (ix2 j k) = bv m c (ix2 j k) := by
  have := ltN t
  blk_ext [iblk, V_main_arg1 m c, idx0 t]

theorem after2_apply (c : Dev nD) (t : Fin cfg0.N) (y : S768x512.Idx) :
    outsAt0 m c t y = nt (av m c) (bv m c) (row t (y 0)) (col t (y 1)) := by
  unfold outsAt0
  frame_open
  simp (disch := decide) only [↓ View.readCov_skip, ↓ View.readCov_cons_toLoadRect, ↓ View.readCov_fill]
  frame_out
  idx_vars y
  show _ = nt (av m c) (bv m c) (row t y0) (col t y1)
  pointwise [k0_pay1, k0_pay2, k0_pay4]
  simp only [b0, b1]
  rfl

theorem final (c : Dev nD) : (dats m 0 c).arrAt 2 cfg0.N = mat (nt (av m c) (bv m c)) := by
  refine (dats m 0 c).arrAt_eq_of_covers 2 _ (by decide +kernel) fun t hf y => ?_
  blk_simp
  rw [after0_2]
  have hy : (win0_2.blk t).view.emb y = ix2 (row t (y 0)) (col t (y 1)) := by
    have := ltN t
    blk_ext [idx0 t]
  rw [hy, after2_apply m c t]
  rfl

end Cert.DYMlaIdeal.Val
end
-- ==== Proof.DYMlaClaim.lean ====
/- The claims about the gradient of the attention branch's output: the frames and the equality of the results. -/
module

public import proofs.«01_k».proof.Proof.Gen.DYMla.Frame
public import proofs.«01_k».proof.Proof.Gen.DYMlaReferenceIdeal.Run
public import proofs.«01_k».proof.Proof.Gen.DYMlaReferenceIdeal.Read
public import proofs.«01_k».proof.Proof.DYMlaKernel

@[expose] public section

set_option maxRecDepth 16384

noncomputable section

namespace Cert.DYMlaClaim

open Idealize.ShloMosaic Idealize.ShloMosaic.TcCoe Idealize.SL.Sem
open Cert Cert.Products Cert.DYMlaReferenceIdeal Cert.DYMlaReferenceIdeal.Gen Cert.DYMlaReferenceIdeal.Read

/-- The reference's result in closed form. -/
theorem ref_eq (a : Mat 8448 1024) (b : Mat 512 1024) : val_main_v5 (F := Ideal) a b = mat (nt a b) := by
  funext y
  idx_vars y
  pointwise [val_main_v5, val_main_v4, val_main_v3, val_main_v1]
  rfl

local instance : Cert.DYMla.Facts := Cert.DYMla.Gen.facts
local instance : Cert.DYMlaIdeal.Facts := Cert.DYMlaIdeal.Gen.facts
local instance : Cert.DYMlaReferenceIdeal.Facts := Cert.DYMlaReferenceIdeal.Gen.facts

theorem frame_k : Cert.quiescent_DYMla := fun m ρ _ => Cert.DYMla.Gen.frame m ρ
theorem frame_ki : Cert.quiescent_DYMlaIdeal := fun m ρ _ => Cert.DYMlaIdeal.Gen.frame m ρ
theorem frame_ri : Cert.quiescent_DYMlaReferenceIdeal := fun m ρ _ =>
  (θ_run Cert.DYMlaReferenceIdeal.defs _ _).mono (fun r h => ⟨fun c => (h c).2, sem_eq_zero_of_no_sems (by decide) r.2⟩)
    (Cert.DYMlaReferenceIdeal.Value.run (F := Ideal) m ρ)

/-- Both programs leave the same product. -/
theorem algebraic : Cert.algebraic_DYMlaIdeal_DYMlaReferenceIdeal := fun m g m' g' _ hm =>
  ⟨fun c => mat (nt (DYMlaIdeal.Val.av m c) (DYMlaIdeal.Val.bv m c)),
   (θ_run Cert.DYMlaIdeal.defs _ _).mono (fun _ h c => ⟨(h c).1.trans (DYMlaIdeal.Val.final m c), (h c).2⟩)
     (Cert.DYMlaIdeal.Value.run_blocks (F := Ideal) m g),
   (θ_run Cert.DYMlaReferenceIdeal.defs _ _).mono (fun _ h c => by
      obtain ⟨e0, e1⟩ := hm c
      refine ⟨(h c).1.trans ?_, (h c).2⟩
      rw [e0, e1]
      exact ref_eq _ _)
     (Cert.DYMlaReferenceIdeal.Value.run (F := Ideal) m' g')⟩

end Cert.DYMlaClaim
end
-- ==== Proof.WUqKernel.lean ====
/- The kernel of the gradient of `w_uq`, read at an index: `aᵀ · b` summed over three blocks of rows. -/
module

public import proofs.«01_k».proof.Proof.Gen.WUqIdeal.Value
public import proofs.«01_k».proof.Proof.Products
public import proofs.«01_k».proof.Proof.Rows

@[expose] public section

set_option maxRecDepth 16384

noncomputable section

namespace Cert.WUqIdeal.Val

open Cert.WUqIdeal Cert.WUqIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 256 := m (c, main_arg0)
abbrev bv (c : Dev nD) : Mat 8448 1024 := m (c, main_arg1)

theorem idx0 : ∀ t : Fin cfg0.N, win0_0.index t = ![t.val % 3, 0] ∧ win0_1.index t = ![t.val % 3, 0] ∧ win0_2.index t = ![0, 0] :=
  (by decide +kernel : ∀ t : Fin grid0.N, win0_0.index t = ![t.val % 3, 0] ∧ win0_1.index t = ![t.val % 3, 0] ∧ win0_2.index t = ![0, 0])

theorem ltN (t : Fin cfg0.N) : t.val < 3 := N_0 ▸ t.isLt

/-- The row of the whole array that a point's row is. -/
abbrev row (t : Fin cfg0.N) (k : Fin 2816) : Fin 8448 := ⟨t.val % 3 * 2816 + k.val, by omega⟩
/-- The column of the left factor that a point's column is. -/
abbrev ca (t : Fin cfg0.N) (i : Fin 256) : Fin 256 := i
/-- The column of the right factor that a point's column is. -/
abbrev cb (t : Fin cfg0.N) (j : Fin 1024) : Fin 1024 := j

theorem b0 (c : Dev nD) (t : Fin cfg0.N) (k : Fin 2816) (i : Fin 256) : iblk m c 0 t (ix2 k i) = av m c (ix2 (row t k) (ca t i)) := by
  have := ltN t
  blk_ext [iblk, V_main_arg0 m c, idx0 t]

theorem b1 (c : Dev nD) (t : Fin cfg0.N) (k : Fin 2816) (i : Fin 1024) : iblk m c 1 t (ix2 k i) = bv m c (ix2 (row t k) (cb t i)) := by
  have := ltN t
  blk_ext [iblk, V_main_arg1 m c, idx0 t]

/-- What a point adds. -/
def term (c : Dev nD) (t : Fin cfg0.N) (i : Fin 256) (j : Fin 1024) : EReal :=
  ∑ k : Fin 2816, av m c (ix2 (row t k) (ca t i)) * bv m c (ix2 (row t k) (cb t j))

theorem part_apply (c : Dev nD) (t : Fin cfg0.N) (i : Fin 256) (j : Fin 1024) :
    k0_pay1 (F := Ideal) (iblk m c 0 t) (iblk m c 1 t) (ix2 i j) = term m c t i j := by
  pointwise [k0_pay1]
  simp only [b0, b1]
  rfl

theorem step_A (c : Dev nD) (t : Fin cfg0.N) (h0 : t.val % 3 = 0) (y : S256x1024.Idx) :
    outsAt0 m c t.val t.isLt y = 0 + term m c t (y 0) (y 1) := by
  have := ltN t
  rw [outsAt0_A m c t h0 (by omega)]
  frame_out
  rw [zero_add]
  idx_vars y
  show _ = term m c t y0 y1
  rw [← part_apply]

theorem step_B (c : Dev nD) (t : Fin cfg0.N) (h0 : ¬ t.val % 3 = 0) (y : S256x1024.Idx) :
    outsAt0 m c t.val t.isLt y = outsAt0 m c (t.val - 1) (Nat.lt_of_le_of_lt (Nat.sub_le _ _) t.isLt) y + term m c t (y 0) (y 1) := by
  have := ltN t
  rw [outsAt0_B m c t h0 (by omega)]
  frame_out
  idx_vars y
  show _ = _ + term m c t y0 y1
  rw [← part_apply]
  pointwise [k0_pay2]

theorem after2_apply (c : Dev nD) (t : Fin cfg0.N) (ht : t.val % 3 = 2) (y : S256x1024.Idx) :
    outsAt0 m c t.val t.isLt y = tn (av m c) (bv m c) (ca t (y 0)) (cb t (y 1)) := by
  rw [Pipeline.eq_sum_fin_of_reset_step_apply_of_flush (fun n h => outsAt0 m c n h) 3 (fun _ => 0)
    (fun t y => term m c t (y 0) (y 1)) (step_A m c) (step_B m c) t ht y, zero_add]
  refine Eq.trans ?_ (tn_blocks (S := 3) (p := 2816) (av m c) (bv m c) (ca t (y 0)) (cb t (y 1)) rfl fun s k => by omega)
  refine Finset.sum_congr rfl fun s _ => Finset.sum_congr rfl fun k _ => ?_
  have e : row ⟨3 * (t.val / 3) + s.val, Pipeline.run_point_lt_of_flush t ht s⟩ k = (⟨s.val * 2816 + k.val, by omega⟩ : Fin 8448) :=
    Fin.ext (show (3 * (t.val / 3) + s.val) % 3 * 2816 + k.val = s.val * 2816 + k.val by omega)
  rw [e]

theorem final (c : Dev nD) : (dats m 0 c).arrAt 2 cfg0.N = mat (tn (av m c) (bv m c)) := by
  refine (dats m 0 c).arrAt_eq_of_covers 2 _ (by decide +kernel) fun t hf y => ?_
  blk_simp
  rw [after0_2]
  have hy : (win0_2.blk t).view.emb y = ix2 (ca t (y 0)) (cb t (y 1)) := by
    have := ltN t
    blk_ext [idx0 t]
  rw [hy, after2_apply m c t ((flush0_2 t).mp hf)]
  rfl

end Cert.WUqIdeal.Val
end
-- ==== Proof.WUqClaim.lean ====
/- The claims about the gradients of w_uq and of w_uk: the frames and the equality of the results. -/
module

public import proofs.«01_k».proof.Proof.Gen.WUq.Frame
public import proofs.«01_k».proof.Proof.Gen.WUqReferenceIdeal.Run
public import proofs.«01_k».proof.Proof.Gen.WUqReferenceIdeal.Read
public import proofs.«01_k».proof.Proof.WUqKernel

@[expose] public section

set_option maxRecDepth 16384

noncomputable section

namespace Cert.WUqClaim

open Idealize.ShloMosaic Idealize.ShloMosaic.TcCoe Idealize.SL.Sem
open Cert Cert.Products Cert.WUqReferenceIdeal Cert.WUqReferenceIdeal.Gen Cert.WUqReferenceIdeal.Read

/-- The reference's result in closed form. -/
theorem ref_eq (a : Mat 8448 256) (b : Mat 8448 1024) : val_main_v5 (F := Ideal) a b = mat (tn a b) := by
  funext y
  idx_vars y
  pointwise [val_main_v5, val_main_v4, val_main_v3, val_main_v1]
  exact Finset.sum_congr rfl fun t _ => mul_comm _ _

local instance : Cert.WUq.Facts := Cert.WUq.Gen.facts
local instance : Cert.WUqIdeal.Facts := Cert.WUqIdeal.Gen.facts
local instance : Cert.WUqReferenceIdeal.Facts := Cert.WUqReferenceIdeal.Gen.facts

theorem frame_k : Cert.quiescent_WUq := fun m ρ _ => Cert.WUq.Gen.frame m ρ
theorem frame_ki : Cert.quiescent_WUqIdeal := fun m ρ _ => Cert.WUqIdeal.Gen.frame m ρ
theorem frame_ri : Cert.quiescent_WUqReferenceIdeal := fun m ρ _ =>
  (θ_run Cert.WUqReferenceIdeal.defs _ _).mono (fun r h => ⟨fun c => (h c).2, sem_eq_zero_of_no_sems (by decide) r.2⟩)
    (Cert.WUqReferenceIdeal.Value.run (F := Ideal) m ρ)

/-- Both programs leave the same product. -/
theorem algebraic : Cert.algebraic_WUqIdeal_WUqReferenceIdeal := fun m g m' g' _ hm =>
  ⟨fun c => mat (tn (WUqIdeal.Val.av m c) (WUqIdeal.Val.bv m c)),
   (θ_run Cert.WUqIdeal.defs _ _).mono (fun _ h c => ⟨(h c).1.trans (WUqIdeal.Val.final m c), (h c).2⟩)
     (Cert.WUqIdeal.Value.run_blocks (F := Ideal) m g),
   (θ_run Cert.WUqReferenceIdeal.defs _ _).mono (fun _ h c => by
      obtain ⟨e0, e1⟩ := hm c
      refine ⟨(h c).1.trans ?_, (h c).2⟩
      rw [e0, e1]
      exact ref_eq _ _)
     (Cert.WUqReferenceIdeal.Value.run (F := Ideal) m' g')⟩

end Cert.WUqClaim
end
-- ==== Proof.WUvKernel.lean ====
/- The kernel of the gradient of `w_uv`, read at an index: `aᵀ · b` summed over three blocks of rows. -/
module

public import proofs.«01_k».proof.Proof.Gen.WUvIdeal.Value
public import proofs.«01_k».proof.Proof.Products
public import proofs.«01_k».proof.Proof.Rows

@[expose] public section

set_option maxRecDepth 16384

noncomputable section

namespace Cert.WUvIdeal.Val

open Cert.WUvIdeal Cert.WUvIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev av (c : Dev nD) : Mat 8448 256 := m (c, main_arg0)
abbrev bv (c : Dev nD) : Mat 8448 512 := m (c, main_arg1)

theorem idx0 : ∀ t : Fin cfg0.N, win0_0.index t = ![t.val % 3, 0] ∧ win0_1.index t = ![t.val % 3, 0] ∧ win0_2.index t = ![0, 0] :=
  (by decide +kernel : ∀ t : Fin grid0.N, win0_0.index t = ![t.val % 3, 0] ∧ win0_1.index t = ![t.val % 3, 0] ∧ win0_2.index t = ![0, 0])

theorem ltN (t : Fin cfg0.N) : t.val < 3 := N_0 ▸ t.isLt

/-- The row of the whole array that a point's row is. -/
abbrev row (t : Fin cfg0.N) (k : Fin 2816) : Fin 8448 := ⟨t.val % 3 * 2816 + k.val, by omega⟩
/-- The column of the left factor that a point's column is. -/
abbrev ca (t : Fin cfg0.N) (i : Fin 256) : Fin 256 := i
/-- The column of the right factor that a point's column is. -/
abbrev cb (t : Fin cfg0.N) (j : Fin 512) : Fin 512 := j

theorem b0 (c : Dev nD) (t : Fin cfg0.N) (k : Fin 2816) (i : Fin 256) : iblk m c 0 t (ix2 k i) = av m c (ix2 (row t k) (ca t i)) := by
  have := ltN t
  blk_ext [iblk, V_main_arg0 m c, idx0 t]

theorem b1 (c : Dev nD) (t : Fin cfg0.N) (k : Fin 2816) (i : Fin 512) : iblk m c 1 t (ix2 k i) = bv m c (ix2 (row t k) (cb t i)) := by
  have := ltN t
  blk_ext [iblk, V_main_arg1 m c, idx0 t]

/-- What a point adds. -/
def term (c : Dev nD) (t : Fin cfg0.N) (i : Fin 256) (j : Fin 512) : EReal :=
  ∑ k : Fin 2816, av m c (ix2 (row t k) (ca t i)) * bv m c (ix2 (row t k) (cb t j))

theorem part_apply (c : Dev nD) (t : Fin cfg0.N) (i : Fin 256) (j : Fin 512) :
    k0_pay1 (F := Ideal) (iblk m c 0 t) (iblk m c 1 t) (ix2 i j) = term m c t i j := by
  pointwise [k0_pay1]
  simp only [b0, b1]
  rfl

theorem step_A (c : Dev nD) (t : Fin cfg0.N) (h0 : t.val % 3 = 0) (y : S256x512.Idx) :
    outsAt0 m c t.val t.isLt y = 0 + term m c t (y 0) (y 1) := by
  have := ltN t
  rw [outsAt0_A m c t h0 (by omega)]
  frame_out
  rw [zero_add]
  idx_vars y
  show _ = term m c t y0 y1
  rw [← part_apply]

theorem step_B (c : Dev nD) (t : Fin cfg0.N) (h0 : ¬ t.val % 3 = 0) (y : S256x512.Idx) :
    outsAt0 m c t.val t.isLt y = outsAt0 m c (t.val - 1) (Nat.lt_of_le_of_lt (Nat.sub_le _ _) t.isLt) y + term m c t (y 0) (y 1) := by
  have := ltN t
  rw [outsAt0_B m c t h0 (by omega)]
  frame_out
  idx_vars y
  show _ = _ + term m c t y0 y1
  rw [← part_apply]
  pointwise [k0_pay2]

theorem after2_apply (c : Dev nD) (t : Fin cfg0.N) (ht : t.val % 3 = 2) (y : S256x512.Idx) :
    outsAt0 m c t.val t.isLt y = tn (av m c) (bv m c) (ca t (y 0)) (cb t (y 1)) := by
  rw [Pipeline.eq_sum_fin_of_reset_step_apply_of_flush (fun n h => outsAt0 m c n h) 3 (fun _ => 0)
    (fun t y => term m c t (y 0) (y 1)) (step_A m c) (step_B m c) t ht y, zero_add]
  refine Eq.trans ?_ (tn_blocks (S := 3) (p := 2816) (av m c) (bv m c) (ca t (y 0)) (cb t (y 1)) rfl fun s k => by omega)
  refine Finset.sum_congr rfl fun s _ => Finset.sum_congr rfl fun k _ => ?_
  have e : row ⟨3 * (t.val / 3) + s.val, Pipeline.run_point_lt_of_flush t ht s⟩ k = (⟨s.val * 2816 + k.val, by omega⟩ : Fin 8448) :=
    Fin.ext (show (3 * (t.val / 3) + s.val) % 3 * 2816 + k.val = s.val * 2816 + k.val by omega)
  rw [e]

theorem final (c : Dev nD) : (dats m 0 c).arrAt 2 cfg0.N = mat (tn (av m c) (bv m c)) := by
  refine (dats m 0 c).arrAt_eq_of_covers 2 _ (by decide +kernel) fun t hf y => ?_
  blk_simp
  rw [after0_2]
  have hy : (win0_2.blk t).view.emb y = ix2 (ca t (y 0)) (cb t (y 1)) := by
    have := ltN t
    blk_ext [idx0 t]
  rw [hy, after2_apply m c t ((flush0_2 t).mp hf)]
  rfl

end Cert.WUvIdeal.Val
end
-- ==== Proof.WUvClaim.lean ====
/- The claims about the gradient of w_uv: the frames and the equality of the results. -/
module

public import proofs.«01_k».proof.Proof.Gen.WUv.Frame
public import proofs.«01_k».proof.Proof.Gen.WUvReferenceIdeal.Run
public import proofs.«01_k».proof.Proof.Gen.WUvReferenceIdeal.Read
public import proofs.«01_k».proof.Proof.WUvKernel

@[expose] public section

set_option maxRecDepth 16384

noncomputable section

namespace Cert.WUvClaim

open Idealize.ShloMosaic Idealize.ShloMosaic.TcCoe Idealize.SL.Sem
open Cert Cert.Products Cert.WUvReferenceIdeal Cert.WUvReferenceIdeal.Gen Cert.WUvReferenceIdeal.Read

/-- The reference's result in closed form. -/
theorem ref_eq (a : Mat 8448 256) (b : Mat 8448 512) : val_main_v5 (F := Ideal) a b = mat (tn a b) := by
  funext y
  idx_vars y
  pointwise [val_main_v5, val_main_v4, val_main_v3, val_main_v1]
  exact Finset.sum_congr rfl fun t _ => mul_comm _ _

local instance : Cert.WUv.Facts := Cert.WUv.Gen.facts
local instance : Cert.WUvIdeal.Facts := Cert.WUvIdeal.Gen.facts
local instance : Cert.WUvReferenceIdeal.Facts := Cert.WUvReferenceIdeal.Gen.facts

theorem frame_k : Cert.quiescent_WUv := fun m ρ _ => Cert.WUv.Gen.frame m ρ
theorem frame_ki : Cert.quiescent_WUvIdeal := fun m ρ _ => Cert.WUvIdeal.Gen.frame m ρ
theorem frame_ri : Cert.quiescent_WUvReferenceIdeal := fun m ρ _ =>
  (θ_run Cert.WUvReferenceIdeal.defs _ _).mono (fun r h => ⟨fun c => (h c).2, sem_eq_zero_of_no_sems (by decide) r.2⟩)
    (Cert.WUvReferenceIdeal.Value.run (F := Ideal) m ρ)

/-- Both programs leave the same product. -/
theorem algebraic : Cert.algebraic_WUvIdeal_WUvReferenceIdeal := fun m g m' g' _ hm =>
  ⟨fun c => mat (tn (WUvIdeal.Val.av m c) (WUvIdeal.Val.bv m c)),
   (θ_run Cert.WUvIdeal.defs _ _).mono (fun _ h c => ⟨(h c).1.trans (WUvIdeal.Val.final m c), (h c).2⟩)
     (Cert.WUvIdeal.Value.run_blocks (F := Ideal) m g),
   (θ_run Cert.WUvReferenceIdeal.defs _ _).mono (fun _ h c => by
      obtain ⟨e0, e1⟩ := hm c
      refine ⟨(h c).1.trans ?_, (h c).2⟩
      rw [e0, e1]
      exact ref_eq _ _)
     (Cert.WUvReferenceIdeal.Value.run (F := Ideal) m' g')⟩

end Cert.WUvClaim
end
-- ==== Proof.MergeMath.lean ====
/- The closed form of the layer that merges the two branches: each branch's product weighted by its gate, the output product, and the residual sum. -/
module

public import proofs.«01_k».proof.Proof.NormMath

@[expose] public section

noncomputable section

namespace Cert.MergeMath

open Idealize.ShloMosaic Idealize.ShloMosaic.TcCoe
open Cert Cert.Products Cert.NormMath

variable (yc ym : Mat 8448 512) (wbc wbm : Mat 512 1024) (z : Mat 8448 4096) (bg : Mat 2 1024) (wo : Mat 1024 1024) (h : Mat 8448 1024)

/-- The convolution branch's gate, from columns 2048 to 3071 of the projections. -/
def gc (i : Fin 8448) (j : Fin 1024) : EReal := Ideal.logistic (z (ix2 i (⟨2048 + j.val, by omega⟩ : Fin 4096)) + bg (ix2 0 j))

/-- The attention branch's gate, from columns 3072 to 4095 of the projections. -/
def gm (i : Fin 8448) (j : Fin 1024) : EReal := Ideal.logistic (z (ix2 i (⟨3072 + j.val, by omega⟩ : Fin 4096)) + bg (ix2 1 j))

/-- The two branches merged. -/
def merged (i : Fin 8448) (j : Fin 1024) : EReal := gc z bg i j * nn yc wbc i j + gm z bg i j * nn ym wbm i j

/-- The residual sum: `α h` and the merged branches' product. -/
def res (i : Fin 8448) (j : Fin 1024) : EReal := alpha * h (ix2 i j) + ∑ k : Fin 1024, merged yc ym wbc wbm z bg i k * wo (ix2 k j)

end Cert.MergeMath
end
-- ==== Proof.MergeKernel.lean ====
/- The kernel that merges the two branches, read at an index: six results, block by block of rows. -/
module

public import proofs.«01_k».proof.Proof.Gen.MergeIdeal.Value
public import proofs.«01_k».proof.Proof.MergeMath
public import proofs.«01_k».proof.Proof.Rows

@[expose] public section

set_option maxRecDepth 16384

noncomputable section

namespace Cert.MergeIdeal.Val

open Cert.MergeIdeal Cert.MergeIdeal.Gen Idealize.ShloMosaic Idealize.ShloMosaic.TcCoe Idealize.SL.Sem
open Idealize.ShloMosaic.Pipeline (Dat)
open Cert Cert.Products Cert.NormMath Cert.MergeMath

variable (m : (ℓ : Loc nD τ sig) → Buf (Elt Ideal) ℓ)

abbrev ycv (c : Dev nD) : Mat 8448 512 := m (c, main_arg0)
abbrev ymv (c : Dev nD) : Mat 8448 512 := m (c, main_arg1)
abbrev wbcv (c : Dev nD) : Mat 512 1024 := m (c, main_arg2)
abbrev wbmv (c : Dev nD) : Mat 512 1024 := m (c, main_arg3)
abbrev zv (c : Dev nD) : Mat 8448 4096 := m (c, main_arg4)
abbrev bgv (c : Dev nD) : Mat 2 1024 := m (c, main_arg5)
abbrev wov (c : Dev nD) : Mat 1024 1024 := m (c, main_arg6)
abbrev hv (c : Dev nD) : Mat 8448 1024 := m (c, main_arg7)
abbrev gv (c : Dev nD) : Mat 1 1024 := m (c, main_arg8)
abbrev bv (c : Dev nD) : Mat 1 1024 := m (c, main_arg9)

theorem idx0 : ∀ t : Fin cfg0.N, win0_0.index t = ![t.val, 0] ∧ win0_1.index t = ![t.val, 0] ∧ win0_2.index t = ![0, 0] ∧ win0_3.index t = ![0, 0] ∧ win0_4.index t = ![t.val, 2] ∧ win0_5.index t = ![t.val, 3] ∧ win0_6.index t = ![0, 0] ∧ win0_7.index t = ![0, 0] ∧ win0_8.index t = ![t.val, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 2] ∧ win0_5.index t = ![t.val, 3] ∧ win0_6.index t = ![0, 0] ∧ win0_7.index t = ![0, 0] ∧ win0_8.index t = ![t.val, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0])

theorem ltN (t : Fin cfg0.N) : t.val < 22 := N_0 ▸ t.isLt

/-- The row of the whole array that a point's row is. -/
abbrev row (t : Fin cfg0.N) (r : Fin 384) : Fin 8448 := ⟨t.val * 384 + r.val, by have := ltN t; omega⟩

/-- The gates' biases under six rows of zeros. -/
theorem V_bg (c : Dev nD) : V m c main_v0
    = pad S8x1024 ![0, 0] ![6, 0] ![0, 0] (bgv m c) (sitofp (F := Ideal) .f32 (constantI S_ 32 0#32)) pads_S2x1024_S8x1024_060_000 h_S_ := by
  simp only [V, hostOps0, hostOps0_1, List.flatten_cons, List.flatten_nil, List.append_nil, List.cons_append, List.nil_append]
  entry_read
  rfl

theorem b0 (c : Dev nD) (t : Fin cfg0.N) (r : Fin 384) (k : Fin 512) : iblk m c 0 t (ix2 r k) = ycv m c (ix2 (row t r) k) := by
  have := ltN t
  blk_ext [iblk, V_main_arg0 m c, idx0 t]

theorem b1 (c : Dev nD) (t : Fin cfg0.N) (r : Fin 384) (k : Fin 512) : iblk m c 1 t (ix2 r k) = ymv m c (ix2 (row t r) k) := by
  have := ltN t
  blk_ext [iblk, V_main_arg1 m c, idx0 t]

theorem b2 (c : Dev nD) (t : Fin cfg0.N) (k : Fin 512) (j : Fin 1024) : iblk m c 2 t (ix2 k j) = wbcv m c (ix2 k j) := by
  have := ltN t
  blk_ext [iblk, V_main_arg2 m c, idx0 t]

theorem b3 (c : Dev nD) (t : Fin cfg0.N) (k : Fin 512) (j : Fin 1024) : iblk m c 3 t (ix2 k j) = wbmv m c (ix2 k j) := by
  have := ltN t
  blk_ext [iblk, V_main_arg3 m c, idx0 t]

theorem b4 (c : Dev nD) (t : Fin cfg0.N) (r : Fin 384) (j : Fin 1024) : iblk m c 4 t (ix2 r j) = zv m c (ix2 (row t r) (⟨2048 + j.val, by omega⟩ : Fin 4096)) := by
  have := ltN t
  blk_ext [iblk, V_main_arg4 m c, idx0 t]

theorem b5 (c : Dev nD) (t : Fin cfg0.N) (r : Fin 384) (j : Fin 1024) : iblk m c 5 t (ix2 r j) = zv m c (ix2 (row t r) (⟨3072 + j.val, by omega⟩ : Fin 4096)) := by
  have := ltN t
  blk_ext [iblk, V_main_arg4 m c, idx0 t]

theorem b6 (c : Dev nD) (t : Fin cfg0.N) (k : Fin 8) (j : Fin 1024) (hk : k.val < 2) : iblk m c 6 t (ix2 k j) = bgv m c (ix2 (⟨k.val, hk⟩ : Fin 2) j) := by
  have hp : (win0_6.blk t).view.emb (ix2 k j) = ix2 (k : Fin 8) (j : Fin 1024) := by
    blk_ext [iblk, idx0 t]
  show V m c main_v0 ((win0_6.blk t).view.emb (ix2 k j)) = _
  rw [hp, V_bg]
  pointwise
  rw [dif_pos (by omega)]

theorem b7 (c : Dev nD) (t : Fin cfg0.N) (k : Fin 1024) (j : Fin 1024) : iblk m c 7 t (ix2 k j) = wov m c (ix2 k j) := by
  have := ltN t
  blk_ext [iblk, V_main_arg6 m c, idx0 t]

theorem b8 (c : Dev nD) (t : Fin cfg0.N) (r : Fin 384) (j : Fin 1024) : iblk m c 8 t (ix2 r j) = hv m c (ix2 (row t r) j) := by
  have := ltN t
  blk_ext [iblk, V_main_arg7 m c, idx0 t]

theorem b9 (c : Dev nD) (t : Fin cfg0.N) (k : Fin 1) (j : Fin 1024) : iblk m c 9 t (ix2 k j) = gv m c (ix2 k j) := by
  have := ltN t
  blk_ext [iblk, V_main_arg8 m c, idx0 t]

theorem b10 (c : Dev nD) (t : Fin cfg0.N) (k : Fin 1) (j : Fin 1024) : iblk m c 10 t (ix2 k j) = bv m c (ix2 k j) := by
  have := ltN t
  blk_ext [iblk, V_main_arg9 m c, idx0 t]

/-- The convolution branch's product. -/
theorem pay4_apply (c : Dev nD) (t : Fin cfg0.N) (r : Fin 384) (j : Fin 1024) :
    k0_pay4 (F := Ideal) (iblk m c 0 t) (iblk m c 2 t) (ix2 r j) = nn (ycv m c) (wbcv m c) (row t r) j := by
  pointwise [k0_pay4]
  simp only [b0, b2]
  rfl

/-- The attention branch's product. -/
theorem pay5_apply (c : Dev nD) (t : Fin cfg0.N) (r : Fin 384) (j : Fin 1024) :
    k0_pay5 (F := Ideal) (iblk m c 1 t) (iblk m c 3 t) (ix2 r j) = nn (ymv m c) (wbmv m c) (row t r) j := by
  pointwise [k0_pay5]
  simp only [b1, b3]
  rfl

/-- The merged branches. -/
theorem pay6_apply (c : Dev nD) (t : Fin cfg0.N) (r : Fin 384) (j : Fin 1024) :
    k0_pay6 (F := Ideal) (iblk m c 0 t) (iblk m c 2 t) (iblk m c 1 t) (iblk m c 3 t) (iblk m c 6 t) (iblk m c 4 t) (iblk m c 5 t) (ix2 r j)
      = merged (ycv m c) (ymv m c) (wbcv m c) (wbmv m c) (zv m c) (bgv m c) (row t r) j := by
  pointwise [k0_pay6]
  rw [pay4_apply, pay5_apply, b4, b5, b6 m c t 0 j (by decide), b6 m c t 1 j (by decide)]
  rfl

/-- The residual sum. -/
theorem pay1_apply (c : Dev nD) (t : Fin cfg0.N) (r : Fin 384) (j : Fin 1024) :
    k0_pay1 (F := Ideal) (k0_pay6 (iblk m c 0 t) (iblk m c 2 t) (iblk m c 1 t) (iblk m c 3 t) (iblk m c 6 t) (iblk m c 4 t) (iblk m c 5 t)) (k0_pay9 (iblk m c 8 t)) (iblk m c 7 t) (ix2 r j)
      = res (ycv m c) (ymv m c) (wbcv m c) (wbmv m c) (zv m c) (bgv m c) (wov m c) (hv m c) (row t r) j := by
  pointwise [k0_pay1, k0_pay9]
  simp only [pay6_apply, b7, b8]
  rfl

/-- The residual sum normalised. -/
theorem pay2_apply (c : Dev nD) (t : Fin cfg0.N) (r : Fin 384) (j : Fin 1024) :
    k0_pay2 (F := Ideal) (k0_pay6 (iblk m c 0 t) (iblk m c 2 t) (iblk m c 1 t) (iblk m c 3 t) (iblk m c 6 t) (iblk m c 4 t) (iblk m c 5 t)) (k0_pay9 (iblk m c 8 t)) (iblk m c 7 t) (iblk m c 9 t) (iblk m c 10 t) (ix2 r j)
      = norm (res (ycv m c) (ymv m c) (wbcv m c) (wbmv m c) (zv m c) (bgv m c) (wov m c) (hv m c) (row t r)) (gv m c) (bv m c) j := by
  pointwise [k0_pay2]
  simp only [pay1_apply, b9, b10]
  rfl

theorem after11_apply (c : Dev nD) (t : Fin cfg0.N) (r : Fin 384) (j : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = (merged (ycv m c) (ymv m c) (wbcv m c) (wbmv m c) (zv m c) (bgv m c)) (row t r) j := by
  unfold_out out0_11
  frame_out
  exact pay6_apply m c t r j

theorem final11 (c : Dev nD) : (dats m 0 c).arrAt 11 cfg0.N = mat (merged (ycv m c) (ymv m c) (wbcv m c) (wbmv m c) (zv m c) (bgv m c)) := by
  refine (dats m 0 c).arrAt_eq_of_covers 11 _ (by decide +kernel) fun t hf y => ?_
  blk_simp
  rw [after0_11]
  idx_vars y
  have := ltN t
  have hy : (win0_11.blk t).view.emb (ix2 y0 y1) = ix2 (row t y0) y1 := by
    blk_ext [idx0 t]
  rw [hy, after11_apply m c t]
  rfl

theorem after12_apply (c : Dev nD) (t : Fin cfg0.N) (r : Fin 384) (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = (nn (ycv m c) (wbcv m c)) (row t r) j := by
  unfold_out out0_12
  frame_out
  pointwise [k0_pay7]
  exact pay4_apply m c t r j

theorem final12 (c : Dev nD) : (dats m 0 c).arrAt 12 cfg0.N = mat (nn (ycv m c) (wbcv m c)) := by
  refine (dats m 0 c).arrAt_eq_of_covers 12 _ (by decide +kernel) fun t hf y => ?_
  blk_simp
  rw [after0_12]
  idx_vars y
  have := ltN t
  have hy : (win0_12.blk t).view.emb (ix2 y0 y1) = ix2 (row t y0) y1 := by
    blk_ext [idx0 t]
  rw [hy, after12_apply m c t]
  rfl

theorem after13_apply (c : Dev nD) (t : Fin cfg0.N) (r : Fin 384) (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = (nn (ymv m c) (wbmv m c)) (row t r) j := by
  unfold_out out0_13
  frame_out
  pointwise [k0_pay8]
  exact pay5_apply m c t r j

theorem final13 (c : Dev nD) : (dats m 0 c).arrAt 13 cfg0.N = mat (nn (ymv m c) (wbmv m c)) := by
  refine (dats m 0 c).arrAt_eq_of_covers 13 _ (by decide +kernel) fun t hf y => ?_
  blk_simp
  rw [after0_13]
  idx_vars y
  have := ltN t
  have hy : (win0_13.blk t).view.emb (ix2 y0 y1) = ix2 (row t y0) y1 := by
    blk_ext [idx0 t]
  rw [hy, after13_apply m c t]
  rfl

theorem after14_apply (c : Dev nD) (t : Fin cfg0.N) (r : Fin 384) (j : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = (res (ycv m c) (ymv m c) (wbcv m c) (wbmv m c) (zv m c) (bgv m c) (wov m c) (hv m c)) (row t r) j := by
  unfold_out out0_14
  frame_out
  exact pay1_apply m c t r j

theorem final14 (c : Dev nD) : (dats m 0 c).arrAt 14 cfg0.N = mat (res (ycv m c) (ymv m c) (wbcv m c) (wbmv m c) (zv m c) (bgv m c) (wov m c) (hv m c)) := by
  refine (dats m 0 c).arrAt_eq_of_covers 14 _ (by decide +kernel) fun t hf y => ?_
  blk_simp
  rw [after0_14]
  idx_vars y
  have := ltN t
  have hy : (win0_14.blk t).view.emb (ix2 y0 y1) = ix2 (row t y0) y1 := by
    blk_ext [idx0 t]
  rw [hy, after14_apply m c t]
  rfl

theorem after15_apply (c : Dev nD) (t : Fin cfg0.N) (r : Fin 384) (j : Fin 1024) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = (fun i => norm (res (ycv m c) (ymv m c) (wbcv m c) (wbmv m c) (zv m c) (bgv m c) (wov m c) (hv m c) i) (gv m c) (bv m c)) (row t r) j := by
  unfold_out out0_15
  frame_out
  exact pay2_apply m c t r j

theorem final15 (c : Dev nD) : (dats m 0 c).arrAt 15 cfg0.N = mat (fun i => norm (res (ycv m c) (ymv m c) (wbcv m c) (wbmv m c) (zv m c) (bgv m c) (wov m c) (hv m c) i) (gv m c) (bv m c)) := by
  refine (dats m 0 c).arrAt_eq_of_covers 15 _ (by decide +kernel) fun t hf y => ?_
  blk_simp
  rw [after0_15]
  idx_vars y
  have := ltN t
  have hy : (win0_15.blk t).view.emb (ix2 y0 y1) = ix2 (row t y0) y1 := by
    blk_ext [idx0 t]
  rw [hy, after15_apply m c t]
  rfl

theorem after16_apply (c : Dev nD) (t : Fin cfg0.N) (r : Fin 384) (j : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = (fun i => norm (res (ycv m c) (ymv m c) (wbcv m c) (wbmv m c) (zv m c) (bgv m c) (wov m c) (hv m c) i) (gv m c) (bv m c)) (row t r) j := by
  unfold_out out0_16
  frame_out
  pointwise [k0_pay3]
  exact pay2_apply m c t r j

theorem final16 (c : Dev nD) : (dats m 0 c).arrAt 16 cfg0.N = mat (fun i => norm (res (ycv m c) (ymv m c) (wbcv m c) (wbmv m c) (zv m c) (bgv m c) (wov m c) (hv m c) i) (gv m c) (bv m c)) := by
  refine (dats m 0 c).arrAt_eq_of_covers 16 _ (by decide +kernel) fun t hf y => ?_
  blk_simp
  rw [after0_16]
  idx_vars y
  have := ltN t
  have hy : (win0_16.blk t).view.emb (ix2 y0 y1) = ix2 (row t y0) y1 := by
    blk_ext [idx0 t]
  rw [hy, after16_apply m c t]
  rfl

end Cert.MergeIdeal.Val
end
-- ==== Proof.MergeRef.lean ====
/- The reference's six results of the merging layer in closed form. -/
module

public import proofs.«01_k».proof.Proof.Gen.MergeReferenceIdeal.Read
public import proofs.«01_k».proof.Proof.MergeMath

@[expose] public section

set_option maxRecDepth 16384

noncomputable section

namespace Cert.MergeReferenceIdeal.Val

open Idealize.ShloMosaic Idealize.ShloMosaic.TcCoe Idealize.SL.Sem
open Cert Cert.Products Cert.NormMath Cert.MergeMath Cert.MergeReferenceIdeal Cert.MergeReferenceIdeal.Gen Cert.MergeReferenceIdeal.Read

variable (yc ym : Mat 8448 512) (wbc wbm : Mat 512 1024) (z : Mat 8448 4096) (bg : Mat 2 1024) (wo : Mat 1024 1024) (h : Mat 8448 1024) (g b : Mat 1 1024)

theorem v2_apply (i : Fin 8448) (j : Fin 1024) : val_main_v2 (F := Ideal) yc wbc (ix2 i j) = nn yc wbc i j := by
  pointwise [val_main_v2, val_main_v1, val_main_v0]
  rfl

theorem v5_apply (i : Fin 8448) (j : Fin 1024) : val_main_v5 (F := Ideal) ym wbm (ix2 i j) = nn ym wbm i j := by
  pointwise [val_main_v5, val_main_v4, val_main_v3]
  rfl

theorem v18_apply (i : Fin 8448) (j : Fin 1024) : val_main_v18 (F := Ideal) z bg (ix2 i j) = gc z bg i j := by
  pointwise [val_main_v18, val_main_v17, val_main_cst_0, val_main_v16, val_main_v15, val_main_cst, val_main_v14, val_main_v13, val_main_v12, val_main_v11,
    val_main_v10, val_main_v9, val_main_v8, val_main_v6]
  rfl

theorem v30_apply (i : Fin 8448) (j : Fin 1024) : val_main_v30 (F := Ideal) z bg (ix2 i j) = gm z bg i j := by
  pointwise [val_main_v30, val_main_v29, val_main_cst_2, val_main_v28, val_main_v27, val_main_cst_1, val_main_v26, val_main_v25, val_main_v24, val_main_v23,
    val_main_v22, val_main_v21, val_main_v20, val_main_v7]
  rfl

theorem v32_apply (i : Fin 8448) (j : Fin 1024) : val_main_v32 (F := Ideal) yc ym wbc wbm z bg (ix2 i j) = merged yc ym wbc wbm z bg i j := by
  pointwise [val_main_v32, val_main_v31, val_main_v19]
  rw [v2_apply, v5_apply, v18_apply, v30_apply]
  rfl

theorem v37_apply (i : Fin 8448) (j : Fin 1024) : val_main_v37 (F := Ideal) yc ym wbc wbm z bg wo h (ix2 i j) = res yc ym wbc wbm z bg wo h i j := by
  pointwise [val_main_v37, val_main_v36, val_main_v35, val_main_v34, val_main_v33, val_main_cst_3]
  simp only [v32_apply]
  rfl

theorem v59_apply (i : Fin 8448) (j : Fin 1024) :
    val_main_v59 (F := Ideal) yc ym wbc wbm z bg wo h g b (ix2 i j) = norm (res yc ym wbc wbm z bg wo h i) g b j := by
  pointwise [val_main_v59, val_main_v58, val_main_v57, val_main_v56, val_main_v55, val_main_v54, val_main_v53, val_main_v52, val_main_v51, val_main_cst_8, val_main_v50,
    val_main_v49, val_main_v48, val_main_v47, val_main_cst_7, val_main_v46, val_main_v45, val_main_cst_6, val_main_v44, val_main_v43, val_main_v42, val_main_v41,
    val_main_v40, val_main_cst_5, val_main_v39, val_main_v38, val_main_cst_4]
  simp only [v37_apply]
  rfl

theorem mg_eq : val_main_v60 (F := Ideal) yc ym wbc wbm z bg = mat (merged yc ym wbc wbm z bg) := by
  funext y
  idx_vars y
  pointwise [val_main_v60]
  exact v32_apply yc ym wbc wbm z bg y0 y1

theorem pa_eq : val_main_v61 (F := Ideal) yc wbc = mat (nn yc wbc) := by
  funext y
  idx_vars y
  pointwise [val_main_v61]
  exact v2_apply yc wbc y0 y1

theorem pb_eq : val_main_v62 (F := Ideal) ym wbm = mat (nn ym wbm) := by
  funext y
  idx_vars y
  pointwise [val_main_v62]
  exact v5_apply ym wbm y0 y1

theorem r_eq : val_main_v37 (F := Ideal) yc ym wbc wbm z bg wo h = mat (res yc ym wbc wbm z bg wo h) := by
  funext y
  idx_vars y
  exact v37_apply yc ym wbc wbm z bg wo h y0 y1

theorem y_eq : val_main_v59 (F := Ideal) yc ym wbc wbm z bg wo h g b = mat (fun i => norm (res yc ym wbc wbm z bg wo h i) g b) := by
  funext y
  idx_vars y
  exact v59_apply yc ym wbc wbm z bg wo h g b y0 y1

theorem yb_eq : val_main_v63 (F := Ideal) yc ym wbc wbm z bg wo h g b = mat (fun i => norm (res yc ym wbc wbm z bg wo h i) g b) := by
  funext y
  idx_vars y
  pointwise [val_main_v63]
  exact v59_apply yc ym wbc wbm z bg wo h g b y0 y1

end Cert.MergeReferenceIdeal.Val
end
-- ==== Proof.MergeClaim.lean ====
/- The claims about the layer that merges the two branches: the frames, and the equality of the six results. -/
module

public import proofs.«01_k».proof.Proof.Gen.Merge.Frame
public import proofs.«01_k».proof.Proof.MergeKernel
public import proofs.«01_k».proof.Proof.MergeRef

@[expose] public section

set_option maxRecDepth 16384

noncomputable section

namespace Cert.MergeClaim

open Idealize.ShloMosaic Idealize.ShloMosaic.TcCoe Idealize.SL.Sem
open Cert Cert.Products Cert.NormMath Cert.MergeMath Cert.MergeIdeal.Val

local instance : Cert.Merge.Facts := Cert.Merge.Gen.facts
local instance : Cert.MergeIdeal.Facts := Cert.MergeIdeal.Gen.facts
local instance : Cert.MergeReferenceIdeal.Facts := Cert.MergeReferenceIdeal.Gen.facts

theorem frame_k : Cert.quiescent_Merge := fun m ρ _ => Cert.Merge.Gen.frame m ρ
theorem frame_ki : Cert.quiescent_MergeIdeal := fun m ρ _ => Cert.MergeIdeal.Gen.frame m ρ
theorem frame_ri : Cert.quiescent_MergeReferenceIdeal := fun m ρ _ =>
  (θ_run Cert.MergeReferenceIdeal.defs _ _).mono (fun r h => ⟨fun c => (h c).2.2.2.2.2.2, sem_eq_zero_of_no_sems (by decide) r.2⟩)
    (Cert.MergeReferenceIdeal.Value.run (F := Ideal) m ρ)

/-- Both programs leave the closed forms of MergeMath. -/

theorem algebraic : Cert.algebraic_MergeIdeal_MergeReferenceIdeal := fun m g m' g' _ hm =>
  ⟨fun c => mat (merged (ycv m c) (ymv m c) (wbcv m c) (wbmv m c) (zv m c) (bgv m c)),
   fun c => mat (nn (ycv m c) (wbcv m c)),
   fun c => mat (nn (ymv m c) (wbmv m c)),
   fun c => mat (res (ycv m c) (ymv m c) (wbcv m c) (wbmv m c) (zv m c) (bgv m c) (wov m c) (hv m c)),
   fun c => mat (fun i => norm (res (ycv m c) (ymv m c) (wbcv m c) (wbmv m c) (zv m c) (bgv m c) (wov m c) (hv m c) i) (gv m c) (bv m c)),
   fun c => mat (fun i => norm (res (ycv m c) (ymv m c) (wbcv m c) (wbmv m c) (zv m c) (bgv m c) (wov m c) (hv m c) i) (gv m c) (bv m c)),
   (θ_run Cert.MergeIdeal.defs _ _).mono (fun _ h c =>
      ⟨(h c).1.trans (final11 m c), (h c).2.1.trans (final12 m c), (h c).2.2.1.trans (final13 m c), (h c).2.2.2.1.trans (final14 m c), (h c).2.2.2.2.1.trans (final15 m c), (h c).2.2.2.2.2.1.trans (final16 m c), (h c).2.2.2.2.2.2⟩)
     (Cert.MergeIdeal.Value.run_blocks (F := Ideal) m g),
   (θ_run Cert.MergeReferenceIdeal.defs _ _).mono (fun _ h c => by
      obtain ⟨e0, e1, e2, e3, e4, e5, e6, e7, e8, e9⟩ := hm c
      obtain ⟨h0, h1, h2, h3, h4, h5, hk⟩ := h c
      refine ⟨h0.trans ?_, h1.trans ?_, h2.trans ?_, h3.trans ?_, h4.trans ?_, h5.trans ?_, hk⟩
      · rw [MergeReferenceIdeal.Read.val_main_v60_eq, e0, e1, e2, e3, e4, e5]
        exact MergeReferenceIdeal.Val.mg_eq _ _ _ _ _ _
      · rw [MergeReferenceIdeal.Read.val_main_v61_eq, e0, e2]
        exact MergeReferenceIdeal.Val.pa_eq _ _
      · rw [MergeReferenceIdeal.Read.val_main_v62_eq, e1, e3]
        exact MergeReferenceIdeal.Val.pb_eq _ _
      · rw [MergeReferenceIdeal.Read.val_main_v37_eq, e0, e1, e2, e3, e4, e5, e6, e7]
        exact MergeReferenceIdeal.Val.r_eq _ _ _ _ _ _ _ _
      · rw [MergeReferenceIdeal.Read.val_main_v59_eq, e0, e1, e2, e3, e4, e5, e6, e7, e8, e9]
        exact MergeReferenceIdeal.Val.y_eq _ _ _ _ _ _ _ _ _ _
      · rw [MergeReferenceIdeal.Read.val_main_v63_eq, e0, e1, e2, e3, e4, e5, e6, e7, e8, e9]
        exact MergeReferenceIdeal.Val.yb_eq _ _ _ _ _ _ _ _ _ _)
     (Cert.MergeReferenceIdeal.Value.run (F := Ideal) m' g')⟩

end Cert.MergeClaim
end
-- ==== Proof.ConvFwdKernel.lean ====
/- The kernel of the gated short convolution, read at an index: eleven blocks of rows, each with the eight rows before it. -/
module

public import proofs.«01_k».proof.Proof.Gen.ConvFwdIdeal.Value
public import proofs.«01_k».proof.Proof.ConvMath
public import proofs.«01_k».proof.Proof.Rows

@[expose] public section

set_option maxRecDepth 16384

noncomputable section

namespace Cert.ConvFwdIdeal.Val

open Cert.ConvFwdIdeal Cert.ConvFwdIdeal.Gen Idealize.ShloMosaic Idealize.ShloMosaic.TcCoe Idealize.SL.Sem
open Idealize.ShloMosaic.Pipeline (Dat)
open Cert

variable (m : (ℓ : Loc nD τ sig) → Buf (Elt Ideal) ℓ)

abbrev zv (c : Dev nD) : ConvMath.SZ.Idx → EReal := m (c, main_arg0)
abbrev wv (c : Dev nD) : ConvMath.SW.Idx → EReal := m (c, main_arg1)

theorem coords0 : ∀ t : Fin cfg0.N, (grid0.coords t 0).val = t.val :=
  (by decide +kernel : ∀ t : Fin grid0.N, (grid0.coords t 0).val = t.val)

theorem idx0 : ∀ t : Fin cfg0.N, win0_0.index t = ![t.val, 0] ∧ win0_1.index t = ![t.val, 1] ∧ win0_2.index t = ![t.val, 2]
    ∧ win0_3.index t = ![96 * t.val - 1, 1] ∧ win0_4.index t = ![96 * t.val - 1, 2] ∧ win0_5.index t = ![0, 0] ∧ win0_6.index t = ![t.val, 0] :=
  (by decide +kernel : ∀ t : Fin grid0.N, win0_0.index t = ![t.val, 0] ∧ win0_1.index t = ![t.val, 1] ∧ win0_2.index t = ![t.val, 2]
    ∧ win0_3.index t = ![96 * t.val - 1, 1] ∧ win0_4.index t = ![96 * t.val - 1, 2] ∧ win0_5.index t = ![0, 0] ∧ win0_6.index t = ![t.val, 0])

theorem ltN (t : Fin cfg0.N) : t.val < 11 := N_0 ▸ t.isLt

/-- The row of the whole array that a point's row is. -/
abbrev row (t : Fin cfg0.N) (r : Fin 768) : Fin 8448 := ⟨768 * t.val + r.val, by have := ltN t; omega⟩
/-- The row of the whole array that a row before a point's block is. -/
abbrev prev (t : Fin cfg0.N) (r : Fin 8) : Fin 8448 := ⟨8 * (96 * t.val - 1) + r.val, by have := ltN t; omega⟩

theorem b0 (c : Dev nD) (t : Fin cfg0.N) (r : Fin 768) (l : Fin 512) : iblk m c 0 t (ix2 r l) = zv m c (ix2 (row t r) (⟨l.val, by omega⟩ : Fin 4096)) := by
  have := ltN t
  blk_ext [iblk, V_main_arg0 m c, idx0 t]

theorem b1 (c : Dev nD) (t : Fin cfg0.N) (r : Fin 768) (l : Fin 512) : iblk m c 1 t (ix2 r l) = zv m c (ix2 (row t r) (⟨512 + l.val, by omega⟩ : Fin 4096)) := by
  have := ltN t
  blk_ext [iblk, V_main_arg0 m c, idx0 t]

theorem b2 (c : Dev nD) (t : Fin cfg0.N) (r : Fin 768) (l : Fin 512) : iblk m c 2 t (ix2 r l) = zv m c (ix2 (row t r) (⟨1024 + l.val, by omega⟩ : Fin 4096)) := by
  have := ltN t
  blk_ext [iblk, V_main_arg0 m c, idx0 t]

theorem b3 (c : Dev nD) (t : Fin cfg0.N) (r : Fin 8) (l : Fin 512) : iblk m c 3 t (ix2 r l) = zv m c (ix2 (prev t r) (⟨512 + l.val, by omega⟩ : Fin 4096)) := by
  have := ltN t
  blk_ext [iblk, V_main_arg0 m c, idx0 t]

theorem b4 (c : Dev nD) (t : Fin cfg0.N) (r : Fin 8) (l : Fin 512) : iblk m c 4 t (ix2 r l) = zv m c (ix2 (prev t r) (⟨1024 + l.val, by omega⟩ : Fin 4096)) := by
  have := ltN t
  blk_ext [iblk, V_main_arg0 m c, idx0 t]

theorem V_w8 (c : Dev nD) : V m c main_v0
    = pad S8x512 ![0, 0] ![5, 0] ![0, 0] (wv m c) (sitofp (F := Ideal) .f32 (constantI S_ 32 0#32)) pads_S3x512_S8x512_050_000 h_S_ := by
  simp only [V, hostOps0, hostOps0_1, List.flatten_cons, List.flatten_nil, List.append_nil, List.cons_append, List.nil_append]
  entry_read
  rfl

theorem b5 (c : Dev nD) (t : Fin cfg0.N) (k : Fin 8) (l : Fin 512) (hk : k.val < 3) :
    iblk m c 5 t (ix2 k l) = wv m c (ix2 (⟨k.val, hk⟩ : Fin 3) l) := by
  have hp : (win0_5.blk t).view.emb (ix2 k l) = ix2 (k : Fin 8) (l : Fin 512) := by
    blk_ext [iblk, idx0 t]
  show V m c main_v0 ((win0_5.blk t).view.emb (ix2 k l)) = _
  rw [hp, V_w8]
  pointwise
  rw [dif_pos (by omega)]

theorem sgt_eq (t : Fin cfg0.N) : Scalar.cmpi .sgt (BitVec.ofNat 32 (grid0.coords t 0).val) 0#32 = if t.val = 0 then 0#1 else 1#1 := by
  rw [coords0]; exact (by decide +kernel : ∀ t : Fin 11, Scalar.cmpi .sgt (BitVec.ofNat 32 t.val) 0#32 = if t.val = 0 then 0#1 else 1#1) ⟨t.val, ltN t⟩

/-- The convolution's input over a point's rows. -/
theorem s0_apply (c : Dev nD) (t : Fin cfg0.N) (r : Fin 768) (l : Fin 512) :
    (@HMul.hMul EReal EReal EReal instHMul (iblk m c 1 t (ix2 r l)) (iblk m c 2 t (ix2 r l))) = ConvMath.up (zv m c) (768 * t.val + r.val + 2) l := by
  have := ltN t
  unfold ConvMath.up
  rw [if_neg (by omega), ConvMath.u_eq _ _ _ (by omega), b1, b2]
  rfl

/-- The rows before the block: the last rows of the block before it, zero at the first block. -/
theorem halo (c : Dev nD) (t : Fin cfg0.N) (r : Fin 8) (l : Fin 512) (hr : 6 ≤ r.val) :
    Scalar.select (if t.val = 0 then 0#1 else 1#1) (@HMul.hMul EReal EReal EReal instHMul (iblk m c 3 t (ix2 r l)) (iblk m c 4 t (ix2 r l))) 0
      = ConvMath.up (zv m c) (768 * t.val + r.val - 6) l := by
  have := ltN t
  unfold ConvMath.up
  by_cases h : t.val = 0
  · rw [if_pos h, if_pos (by omega)]; rfl
  · rw [if_neg h, if_neg (by omega), ConvMath.u_eq _ _ _ (by omega), b3, b4]
    have e : 768 * t.val + r.val - 6 - 2 = 8 * (96 * t.val - 1) + r.val := by omega
    simp only [e]; rfl

/-- A point's rows under the eight rows before them. -/
theorem ue_apply (c : Dev nD) (t : Fin cfg0.N) (r : ℕ) (hr : 6 ≤ r) (hr' : r < 776) (l : Fin 512) :
    (if h : r < 8 then Scalar.select (if t.val = 0 then 0#1 else 1#1) (@HMul.hMul EReal EReal EReal instHMul (iblk m c 3 t (ix2 (⟨r, h⟩ : Fin 8) l)) (iblk m c 4 t (ix2 (⟨r, h⟩ : Fin 8) l))) 0
      else @HMul.hMul EReal EReal EReal instHMul (iblk m c 1 t (ix2 (⟨r - 8, by omega⟩ : Fin 768) l)) (iblk m c 2 t (ix2 (⟨r - 8, by omega⟩ : Fin 768) l)))
      = ConvMath.up (zv m c) (768 * t.val + r - 6) l := by
  split
  · rename_i h
    exact halo m c t ⟨r, h⟩ l hr
  · rw [s0_apply]
    congr 1
    show 768 * t.val + (r - 8) + 2 = _
    omega

theorem after6_apply (c : Dev nD) (t : Fin cfg0.N) (r : Fin 768) (l : Fin 512) :
    out0_6 (grid0.coords t) (iblk m c 0 t) (iblk m c 1 t) (iblk m c 2 t) (iblk m c 3 t) (iblk m c 4 t) (iblk m c 5 t) (ix2 r l) = ConvMath.fwd (zv m c) (wv m c) (row t r) l := by
  have := ltN t
  unfold out0_6
  frame_out
  pointwise [k0_pay1]
  rw [sgt_eq, ue_apply m c t _ (by omega) (by omega), ue_apply m c t _ (by omega) (by omega), s0_apply, b0, b5 m c t 0 l (by decide), b5 m c t 1 l (by decide), b5 m c t 2 l (by decide)]
  rw [show 768 * t.val + (8 + r.val + 776 - 2) % 776 - 6 = 768 * t.val + r.val by omega, show 768 * t.val + (8 + r.val + 776 - 1) % 776 - 6 = 768 * t.val + r.val + 1 by omega]
  rfl

theorem final (c : Dev nD) : (dats m 0 c).arrAt 6 cfg0.N = (fun y => ConvMath.fwd (zv m c) (wv m c) (y 0) (y 1)) := by
  refine (dats m 0 c).arrAt_eq_of_covers 6 _ (by decide +kernel) fun t hf y => ?_
  blk_simp
  rw [after0_6]
  idx_vars y
  have := ltN t
  have hy : (win0_6.blk t).view.emb (ix2 y0 y1) = ix2 (row t y0) y1 := by
    blk_ext [idx0 t]
  rw [hy, after6_apply m c t]
  rfl

end Cert.ConvFwdIdeal.Val
end
-- ==== Proof.ConvFwdRef.lean ====
/- The reference's gated short convolution in closed form. -/
module

public import proofs.«01_k».proof.Proof.Gen.ConvFwdReferenceIdeal.Read
public import proofs.«01_k».proof.Proof.ConvMath

@[expose] public section

set_option maxRecDepth 16384

noncomputable section

namespace Cert.ConvFwdReferenceIdeal.Val

open Cert.ConvFwdReferenceIdeal Cert.ConvFwdReferenceIdeal.Gen Cert.ConvFwdReferenceIdeal.Read Idealize.ShloMosaic Idealize.ShloMosaic.TcCoe
open Cert

variable (z : ConvMath.SZ.Idx → EReal) (w : ConvMath.SW.Idx → EReal)

/-- The convolution's input under two rows of zeros. -/
theorem v6_apply (t : Fin 8450) (l : Fin 512) : val_main_v6 (F := Ideal) z (ix2 t l) = ConvMath.up z t.val l := by
  pointwise [val_main_v6, val_main_v5, val_main_cst, val_main_v4, val_main_v2, val_main_v3, val_main_v0]
  unfold ConvMath.up
  by_cases h : t.val < 2
  · rw [dif_pos h, if_pos h]
  · rw [dif_neg h, if_neg h, ConvMath.u, dif_pos (by omega)]

theorem ref_eq : val_main_v28 (F := Ideal) z w = (fun y => ConvMath.fwd z w (y 0) (y 1)) := by
  funext y
  idx_vars y
  show _ = ConvMath.fwd z w y0 y1
  pointwise [val_main_v28, val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8, val_main_v7, val_main_v1, val_main_v0]
  simp only [v6_apply]
  rw [ConvMath.fwd, ConvMath.conv, Nat.add_comm 1 y0.val, Nat.add_comm 2 y0.val]
  simp only [mul_comm (w _)]

end Cert.ConvFwdReferenceIdeal.Val
end
-- ==== Proof.ConvFwdClaim.lean ====
/- The claims about the gated short convolution: the frames, and the equality of the result. -/
module

public import proofs.«01_k».proof.Proof.Gen.ConvFwd.Frame
public import proofs.«01_k».proof.Proof.ConvFwdKernel
public import proofs.«01_k».proof.Proof.ConvFwdRef

@[expose] public section

set_option maxRecDepth 16384

noncomputable section

namespace Cert.ConvFwdClaim

open Idealize.ShloMosaic Idealize.ShloMosaic.TcCoe Idealize.SL.Sem
open Cert Cert.ConvFwdIdeal.Val

local instance : Cert.ConvFwd.Facts := Cert.ConvFwd.Gen.facts
local instance : Cert.ConvFwdIdeal.Facts := Cert.ConvFwdIdeal.Gen.facts
local instance : Cert.ConvFwdReferenceIdeal.Facts := Cert.ConvFwdReferenceIdeal.Gen.facts

theorem frame_k : Cert.quiescent_ConvFwd := fun m ρ _ => Cert.ConvFwd.Gen.frame m ρ
theorem frame_ki : Cert.quiescent_ConvFwdIdeal := fun m ρ _ => Cert.ConvFwdIdeal.Gen.frame m ρ
theorem frame_ri : Cert.quiescent_ConvFwdReferenceIdeal := fun m ρ _ =>
  (θ_run Cert.ConvFwdReferenceIdeal.defs _ _).mono (fun r h => ⟨fun c => (h c).2, sem_eq_zero_of_no_sems (by decide) r.2⟩)
    (Cert.ConvFwdReferenceIdeal.Value.run (F := Ideal) m ρ)

/-- Both programs leave the closed form of ConvMath. -/
theorem algebraic : Cert.algebraic_ConvFwdIdeal_ConvFwdReferenceIdeal := fun m g m' g' _ hm =>
  ⟨fun c => (fun y => ConvMath.fwd (zv m c) (wv m c) (y 0) (y 1)),
   (θ_run Cert.ConvFwdIdeal.defs _ _).mono (fun _ h c => ⟨(h c).1.trans (final m c), (h c).2⟩)
     (Cert.ConvFwdIdeal.Value.run_blocks (F := Ideal) m g),
   (θ_run Cert.ConvFwdReferenceIdeal.defs _ _).mono (fun _ h c => by
      obtain ⟨e0, e1⟩ := hm c
      obtain ⟨h0, hk⟩ := h c
      refine ⟨h0.trans ?_, hk⟩
      rw [ConvFwdReferenceIdeal.Read.val_main_v28_eq, e0, e1]
      exact ConvFwdReferenceIdeal.Val.ref_eq _ _)
     (Cert.ConvFwdReferenceIdeal.Value.run (F := Ideal) m' g')⟩

end Cert.ConvFwdClaim
end
-- ==== Proof.LnMath.lean ====
/- The gradient of the row normalisation in its input: the kernel's closed form, the derivative taken line by line, and their
   equality at a finite cotangent. -/
module

public import proofs.«01_k».proof.Proof.NormMath
public import proofs.«01_k».proof.Proof.FfnMath

@[expose] public section

noncomputable section

namespace Cert.LnMath

open Idealize.ShloMosaic
open Cert.Products Cert.NormMath Cert.FfnMath

/-- Minus one half. -/
abbrev mhalf : EReal := (Scalar.ofBits .f32 0xBF000000#32 : Ideal .f32)
/-- Two. -/
abbrev two : EReal := (Scalar.ofBits .f32 0x40000000#32 : Ideal .f32)

/-- A row less its mean. -/
def xc (x : Fin 1024 → EReal) (j : Fin 1024) : EReal := x j - mean x
/-- The variance of a row and the small number added to it. -/
def var (x : Fin 1024 → EReal) : EReal := Ideal.div (∑ k, xc x k * xc x k) cols + eps
/-- The row normalised to mean zero and variance one. -/
def xh (x : Fin 1024 → EReal) (j : Fin 1024) : EReal := xc x j * Ideal.rsqrt (var x)

/-- The gradient in the row, under the cotangent `d` of its normalised form, as the kernel computes it. -/
def dx (d x : Fin 1024 → EReal) (j : Fin 1024) : EReal :=
  Ideal.rsqrt (var x) * (d j - Ideal.div (∑ k, d k) cols - xh x j * Ideal.div (∑ k, d k * xh x k) cols)

/-- The cotangent of a difference from the mean through the variance. -/
def viaVar (d x : Fin 1024 → EReal) (j : Fin 1024) : EReal :=
  Ideal.div ((∑ k, xc x k * d k) * (mhalf * Ideal.div (Ideal.rsqrt (var x)) (var x))) cols * (two * xc x j)

/-- The same gradient as differentiating line by line gives it. -/
def dxLines (d x : Fin 1024 → EReal) (j : Fin 1024) : EReal :=
  d j * Ideal.rsqrt (var x) + viaVar d x j
    + Ideal.div ((∑ k, -(d k * Ideal.rsqrt (var x))) + ∑ k, -(viaVar d x k)) cols

/-- Row `i` of an array. -/
abbrev rowOf (x : Mat 8448 1024) (i : Fin 8448) (k : Fin 1024) : EReal := x (ix2 i k)
/-- Row `i` of the cotangent, scaled by the gain. -/
abbrev dh (dy : Mat 8448 1024) (g : Mat 1 1024) (i : Fin 8448) (k : Fin 1024) : EReal := dy (ix2 i k) * g (ix2 0 k)

/-- A row of numbers and seven rows of zeros. -/
def firstRow (f : Fin 1024 → EReal) : Mat 8 1024 := fun y => if (y 0).val = 0 then f (y 1) else 0

theorem firstRow_ix2 (f : Fin 1024 → EReal) (k : Fin 8) (l : Fin 1024) : firstRow f (ix2 k l) = if k.val = 0 then f l else 0 := rfl

/-- The gradient of the gain. -/
def dg (dy x : Mat 8448 1024) (l : Fin 1024) : EReal := ∑ t : Fin 8448, dy (ix2 t l) * xh (rowOf x t) l
/-- The gradient of the shift. -/
def db (dy : Mat 8448 1024) (l : Fin 1024) : EReal := ∑ t : Fin 8448, dy (ix2 t l)

/-! ## The constants -/

theorem cols_eq : cols = ((1024 : ℝ) : EReal) := by
  show Ideal.ofBits FTy.f32 0x44800000#32 = _
  simp [Ideal.ofBits, Ideal.ieee]
  norm_num
  rw [← EReal.coe_mul]
  norm_num

theorem mhalf_eq : mhalf = ((-(1 / 2) : ℝ) : EReal) := by
  show Ideal.ofBits FTy.f32 0xBF000000#32 = _
  simp [Ideal.ofBits, Ideal.ieee]
  norm_num
  rw [← EReal.coe_mul]
  norm_num

theorem two_eq : two = ((2 : ℝ) : EReal) := by
  show Ideal.ofBits FTy.f32 0x40000000#32 = _
  simp [Ideal.ofBits, Ideal.ieee]
  norm_num
  rw [← EReal.coe_mul]
  norm_num

theorem eps_eq : ∃ e : ℝ, 0 < e ∧ eps = (e : EReal) := by
  refine ⟨_, ?_, show Ideal.ofBits FTy.f32 0x3727C5AC#32 = ((10995116 / 2 ^ 40 : ℝ) : EReal) from ?_⟩
  · norm_num
  · simp [Ideal.ofBits, Ideal.ieee]
    norm_num
    rw [← EReal.coe_mul]
    norm_num

/-! ## Real numbers -/

theorem coe_sum {n : ℕ} (f : Fin n → ℝ) : ∑ k, ((f k : ℝ) : EReal) = ((∑ k, f k : ℝ) : EReal) := by
  classical
  have h : ∀ s : Finset (Fin n), ∑ k ∈ s, ((f k : ℝ) : EReal) = ((∑ k ∈ s, f k : ℝ) : EReal) := fun s => by
    induction s using Finset.induction_on with
    | empty => simp
    | insert a s ha ih => rw [Finset.sum_insert ha, Finset.sum_insert ha, ih, EReal.coe_add]
  exact h _

theorem div_cols (a : ℝ) : Ideal.div (a : EReal) cols = ((a / 1024 : ℝ) : EReal) := by
  rw [cols_eq, Ideal.div_coe (by norm_num), ← EReal.coe_mul]
  congr 1
  ring

/-- The difference of a real row from its mean. -/
def rxc (x : Fin 1024 → ℝ) (j : Fin 1024) : ℝ := x j - (∑ k, x k) / 1024

theorem xc_coe (x : Fin 1024 → ℝ) (j : Fin 1024) : xc (fun k => (x k : EReal)) j = (rxc x j : EReal) := by
  unfold xc mean rxc
  rw [coe_sum, div_cols, ← EReal.coe_sub]

theorem sum_rxc (x : Fin 1024 → ℝ) : ∑ k, rxc x k = 0 := by
  unfold rxc
  rw [Finset.sum_sub_distrib, Finset.sum_const, Finset.card_univ, Fintype.card_fin]
  simp
  ring

/-- The variance of a real row is positive after the small number is added. -/
theorem var_coe (x : Fin 1024 → ℝ) : ∃ v : ℝ, 0 < v ∧ var (fun k => (x k : EReal)) = (v : EReal) := by
  obtain ⟨e, he, hq⟩ := eps_eq
  refine ⟨(∑ k, rxc x k * rxc x k) / 1024 + e, ?_, ?_⟩
  · have : 0 ≤ ∑ k, rxc x k * rxc x k := Finset.sum_nonneg fun k _ => mul_self_nonneg _
    positivity
  · unfold var
    simp only [xc_coe, ← EReal.coe_mul]
    rw [coe_sum, div_cols, hq, ← EReal.coe_add]

/-- The equality over the reals: `s` is the inverse root of `v`, and the differences `c` sum to zero. -/
theorem real_eq (d c : Fin 1024 → ℝ) (v s : ℝ) (hv : 0 < v) (hs : s * s = 1 / v) (hc : ∑ k, c k = 0) (j : Fin 1024) :
    s * (d j - (∑ k, d k) / 1024 - c j * s * ((∑ k, d k * (c k * s)) / 1024))
      = d j * s + ((∑ k, c k * d k) * (-(1 / 2) * (s * (1 / v)))) / 1024 * (2 * c j)
        + ((∑ k, -(d k * s)) + ∑ k, -(((∑ k, c k * d k) * (-(1 / 2) * (s * (1 / v)))) / 1024 * (2 * c k))) / 1024 := by
  have h1 : ∑ k, d k * (c k * s) = (∑ k, c k * d k) * s := by
    rw [Finset.sum_mul]
    exact Finset.sum_congr rfl fun k _ => by ring
  have h2 : ∑ k, -(d k * s) = -((∑ k, d k) * s) := by
    rw [Finset.sum_neg_distrib, Finset.sum_mul]
  have h3 : ∀ a : ℝ, ∑ k, -(a * (2 * c k)) = 0 := fun a => by
    have h : ∀ k, -(a * (2 * c k)) = (-(2 * a)) * c k := fun k => by ring
    simp only [h]
    rw [← Finset.mul_sum, hc, mul_zero]
  rw [h1, h2, h3, ← hs]
  ring

/-- At a finite row the kernel's gradient is the derivative's. -/
theorem dx_eq_fin {d x : Fin 1024 → EReal} (hd : ∀ k, Fin' (d k)) (hx : ∀ k, Fin' (x k)) (j : Fin 1024) : dx d x j = dxLines d x j := by
  choose d' hd' using hd
  choose x' hx' using hx
  obtain rfl : d = fun k => (d' k : EReal) := funext hd'
  obtain rfl : x = fun k => (x' k : EReal) := funext hx'
  obtain ⟨v, hv, hvar⟩ := var_coe x'
  have hr : Ideal.rsqrt (v : EReal) = (((Real.sqrt v)⁻¹ : ℝ) : EReal) := by
    rw [Ideal.rsqrt_coe, if_neg (not_lt.2 hv.le), if_neg hv.ne']
  have hdv : ∀ a : ℝ, Ideal.div (a : EReal) (v : EReal) = ((a * (1 / v) : ℝ) : EReal) := fun a => by
    rw [Ideal.div_coe hv.ne', ← EReal.coe_mul]
  unfold dx dxLines viaVar xh
  simp only [hvar, hr, hdv, xc_coe, mhalf_eq, two_eq, ← EReal.coe_mul, ← EReal.coe_neg, coe_sum, div_cols, ← EReal.coe_add, ← EReal.coe_sub]
  refine congrArg _ (real_eq d' (rxc x') v _ hv ?_ (sum_rxc x') j)
  rw [← mul_inv, Real.mul_self_sqrt hv.le, one_div]

/-! ## A row that holds an infinity -/

theorem fin_of_add {a b : EReal} (h : Fin' (a + b)) : Fin' a ∧ Fin' b := by
  obtain ⟨r, hr⟩ := h
  induction a with
  | bot => simp at hr
  | top =>
    induction b with
    | bot => simp at hr
    | top => simp at hr
    | coe b => simp at hr
  | coe a =>
    induction b with
    | bot => simp at hr
    | top => simp at hr
    | coe b => exact ⟨⟨a, rfl⟩, ⟨b, rfl⟩⟩

theorem fin_of_sum {ι : Type} (s : Finset ι) {f : ι → EReal} (h : Fin' (∑ i ∈ s, f i)) : ∀ i ∈ s, Fin' (f i) := by
  classical
  induction s using Finset.induction_on with
  | empty => simp
  | insert a s ha ih =>
    rw [Finset.sum_insert ha] at h
    intro i hi
    rcases Finset.mem_insert.1 hi with rfl | hi
    · exact (fin_of_add h).1
    · exact ih (fin_of_add h).2 i hi

theorem not_fin {a : EReal} (h : ¬ Fin' a) : a = ⊥ ∨ a = ⊤ := by
  induction a with
  | bot => exact .inl rfl
  | top => exact .inr rfl
  | coe a => exact absurd ⟨a, rfl⟩ h

/-- No entry of such a row is at a finite distance from the mean. -/
theorem xc_sq_top {x : Fin 1024 → EReal} (h : ¬ ∀ k, Fin' (x k)) (j : Fin 1024) : xc x j * xc x j = ⊤ := by
  have hs : ¬ Fin' (∑ k, x k) := fun hf => h fun k => fin_of_sum _ hf k (Finset.mem_univ k)
  have hm : mean x = ⊥ ∨ mean x = ⊤ := by
    unfold mean
    rw [cols_eq, Ideal.div_coe (by norm_num)]
    rcases not_fin hs with e | e <;> rw [e]
    · exact .inl (EReal.bot_mul_coe_of_pos (by norm_num))
    · exact .inr (EReal.top_mul_coe_of_pos (by norm_num))
  unfold xc
  rcases hm with e | e <;> rw [e, sub_eq_add_neg]
  · induction x j with
    | bot => simp
    | top => simp
    | coe a => simp
  · simp

/-- The variance of such a row is infinite. -/
theorem var_top {x : Fin 1024 → EReal} (h : ¬ ∀ k, Fin' (x k)) : var x = ⊤ := by
  have hs : ∑ k, xc x k * xc x k = ⊤ := by
    rw [Finset.sum_congr rfl fun k _ => xc_sq_top h k]
    refine (not_fin fun hf => ?_).resolve_left fun hb => ?_
    · obtain ⟨r, hr⟩ := fin_of_sum _ hf 0 (Finset.mem_univ _)
      exact EReal.top_ne_coe r hr
    · have : (0 : EReal) ≤ ∑ _k : Fin 1024, (⊤ : EReal) := Finset.sum_nonneg fun _ _ => le_top
      rw [hb] at this
      simp at this
  obtain ⟨e, _, he⟩ := eps_eq
  unfold var
  rw [hs, cols_eq, Ideal.div_coe (by norm_num), EReal.top_mul_coe_of_pos (by norm_num), he]
  exact EReal.top_add_coe e

/-- At a finite cotangent the kernel's gradient is the derivative's: at a row that holds an infinity both are zero. -/
theorem dx_eq {d x : Fin 1024 → EReal} (hd : ∀ k, Fin' (d k)) (j : Fin 1024) : dx d x j = dxLines d x j := by
  by_cases hx : ∀ k, Fin' (x k)
  · exact dx_eq_fin hd hx j
  · have hr : Ideal.rsqrt (⊤ : EReal) = 0 := rfl
    have hz : Ideal.div 0 cols = 0 := by
      rw [cols_eq, Ideal.div_coe (by norm_num), zero_mul]
    have hv : ∀ k, viaVar d x k = 0 := fun k => by
      unfold viaVar
      rw [var_top hx, hr, show Ideal.div 0 (⊤ : EReal) = 0 from by simp [Ideal.div], mul_zero, mul_zero, hz, zero_mul]
    unfold dx dxLines
    simp only [hv, var_top hx, hr, zero_mul, mul_zero, neg_zero, Finset.sum_const_zero, add_zero, hz]

end Cert.LnMath
end
-- ==== Proof.LnBwdKernel.lean ====
/- The kernel of the row normalisation's gradients, read at an index: its four results are the closed forms. -/
module

public import proofs.«01_k».proof.Proof.Gen.LnBwdIdeal.Value
public import proofs.«01_k».proof.Proof.LnMath
public import proofs.«01_k».proof.Proof.Rows

@[expose] public section

set_option maxRecDepth 16384

noncomputable section

namespace Cert.LnBwdIdeal.Val

open Cert.LnBwdIdeal Cert.LnBwdIdeal.Gen Idealize.ShloMosaic Idealize.ShloMosaic.TcCoe Idealize.SL.Sem
open Idealize.ShloMosaic.Pipeline (Dat)
open Cert Cert.Products Cert.NormMath Cert.LnMath

variable (m : (ℓ : Loc nD τ sig) → Buf (Elt Ideal) ℓ)

abbrev dyv (c : Dev nD) : Mat 8448 1024 := m (c, main_arg0)
abbrev xv (c : Dev nD) : Mat 8448 1024 := m (c, main_arg1)
abbrev gv (c : Dev nD) : Mat 1 1024 := m (c, main_arg2)

theorem idx0 : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0])

theorem lt22 (t : Fin cfg0.N) : t.val < 22 := N_0 ▸ t.isLt

/-- The row of the whole array that a point's row is. -/
abbrev row (t : Fin cfg0.N) (r : Fin 384) : Fin 8448 := ⟨384 * t.val + r.val, by have := lt22 t; omega⟩

/-! ## The blocks that a point reads -/

theorem b0 (c : Dev nD) (t : Fin cfg0.N) (r : Fin 384) (l : Fin 1024) : iblk m c 0 t (ix2 r l) = dyv m c (ix2 (row t r) l) := by
  have := lt22 t
  blk_ext [iblk, V_main_arg0 m c, idx0 t]

theorem b1 (c : Dev nD) (t : Fin cfg0.N) (r : Fin 384) (l : Fin 1024) : iblk m c 1 t (ix2 r l) = xv m c (ix2 (row t r) l) := by
  have := lt22 t
  blk_ext [iblk, V_main_arg1 m c, idx0 t]

theorem b2 (c : Dev nD) (t : Fin cfg0.N) (r : Fin 1) (l : Fin 1024) : iblk m c 2 t (ix2 r l) = gv m c (ix2 0 l) := by
  have := lt22 t
  blk_ext [iblk, V_main_arg2 m c, idx0 t]

/-! ## The values of a point -/

theorem pay6_apply (c : Dev nD) (t : Fin cfg0.N) (r : Fin 384) (l : Fin 1024) :
    k0_pay6 (F := Ideal) (iblk m c 1 t) (ix2 r l) = xc (rowOf (xv m c) (row t r)) l := by
  pointwise [k0_pay6]
  simp only [b1]
  rfl

theorem pay7_apply (c : Dev nD) (t : Fin cfg0.N) (r : Fin 384) (k : Fin 1) :
    k0_pay7 (F := Ideal) (iblk m c 1 t) (ix2 r k) = Ideal.rsqrt (var (rowOf (xv m c) (row t r))) := by
  pointwise [k0_pay7]
  simp only [pay6_apply]
  rfl

theorem pay8_apply (c : Dev nD) (t : Fin cfg0.N) (r : Fin 384) (l : Fin 1024) :
    k0_pay8 (F := Ideal) (iblk m c 1 t) (ix2 r l) = xh (rowOf (xv m c) (row t r)) l := by
  pointwise [k0_pay8]
  rw [pay6_apply, pay7_apply]
  rfl

theorem pay9_apply (c : Dev nD) (t : Fin cfg0.N) (r : Fin 384) (l : Fin 1024) :
    k0_pay9 (F := Ideal) (iblk m c 1 t) (iblk m c 0 t) (iblk m c 2 t) (ix2 r l) = dx (dh (dyv m c) (gv m c) (row t r)) (rowOf (xv m c) (row t r)) l := by
  pointwise [k0_pay9]
  simp only [pay7_apply, pay8_apply, b0, b2]
  rfl

/-! ## The gradient of the rows -/

theorem after3_apply (c : Dev nD) (t : Fin cfg0.N) (y : S384x1024.Idx) :
    (outsAt0 m c t.val t.isLt).1 y = dx (dh (dyv m c) (gv m c) (row t (y 0))) (rowOf (xv m c) (row t (y 0))) (y 1) := by
  have e : k0_pay9 (F := Ideal) (iblk m c 1 t) (iblk m c 0 t) (iblk m c 2 t) y
      = dx (dh (dyv m c) (gv m c) (row t (y 0))) (rowOf (xv m c) (row t (y 0))) (y 1) := by
    idx_vars y
    exact pay9_apply m c t y0 y1
  by_cases h0 : t.val % 22 = 0
  · rw [outsAt0_A m c t h0]
    frame_out
    exact e
  · rw [outsAt0_B m c t h0]
    frame_out
    exact e

theorem final3 (c : Dev nD) : (dats m 0 c).arrAt 3 cfg0.N = mat (fun i => dx (dh (dyv m c) (gv m c) i) (rowOf (xv m c) i)) := by
  refine (dats m 0 c).arrAt_eq_of_covers 3 _ (by decide +kernel) fun t hf y => ?_
  blk_simp
  rw [after0_3]
  have hy : (win0_3.blk t).view.emb y = ix2 (row t (y 0)) (y 1) := by
    have := lt22 t
    blk_ext [idx0 t]
  rw [hy, after3_apply]
  rfl

theorem after4_apply (c : Dev nD) (t : Fin cfg0.N) (y : S384x1024.Idx) :
    (outsAt0 m c t.val t.isLt).2.1 y = half * dx (dh (dyv m c) (gv m c) (row t (y 0))) (rowOf (xv m c) (row t (y 0))) (y 1) := by
  have e : k0_pay1 (F := Ideal) (k0_pay10 (iblk m c 1 t) (iblk m c 0 t) (iblk m c 2 t)) y
      = half * dx (dh (dyv m c) (gv m c) (row t (y 0))) (rowOf (xv m c) (row t (y 0))) (y 1) := by
    idx_vars y
    pointwise [k0_pay1, k0_pay10]
    rw [pay9_apply]
  by_cases h0 : t.val % 22 = 0
  · rw [outsAt0_A m c t h0]
    frame_out
    exact e
  · rw [outsAt0_B m c t h0]
    frame_out
    exact e

theorem final4 (c : Dev nD) : (dats m 0 c).arrAt 4 cfg0.N = mat (fun i j => half * dx (dh (dyv m c) (gv m c) i) (rowOf (xv m c) i) j) := by
  refine (dats m 0 c).arrAt_eq_of_covers 4 _ (by decide +kernel) fun t hf y => ?_
  blk_simp
  rw [after0_4]
  have hy : (win0_4.blk t).view.emb y = ix2 (row t (y 0)) (y 1) := by
    have := lt22 t
    blk_ext [idx0 t]
  rw [hy, after4_apply]
  rfl

/-! ## The gradients of the gain and of the shift -/

/-- What point `t` adds to the gain's gradient. -/
def termG (c : Dev nD) (t : Fin cfg0.N) : S8x1024.Idx → EReal :=
  firstRow fun l => ∑ r : Fin 384, dyv m c (ix2 (row t r) l) * xh (rowOf (xv m c) (row t r)) l
/-- What point `t` adds to the shift's gradient. -/
def termB (c : Dev nD) (t : Fin cfg0.N) : S8x1024.Idx → EReal :=
  firstRow fun l => ∑ r : Fin 384, dyv m c (ix2 (row t r) l)

theorem rowG_apply (c : Dev nD) (t : Fin cfg0.N) (v : Vec Ideal S1x1024 .f32) (l : Fin 1024) :
    k0_pay4 (F := Ideal) (iblk m c 0 t) (k0_pay8 (iblk m c 1 t)) v (ix2 (0 : Fin 1) l)
      = v (ix2 (0 : Fin 1) l) + ∑ r : Fin 384, dyv m c (ix2 (row t r) l) * xh (rowOf (xv m c) (row t r)) l := by
  pointwise [k0_pay4]
  simp only [pay8_apply, b0]

theorem rowB_apply (c : Dev nD) (t : Fin cfg0.N) (v : Vec Ideal S1x1024 .f32) (l : Fin 1024) :
    k0_pay5 (F := Ideal) (iblk m c 0 t) v (ix2 (0 : Fin 1) l) = v (ix2 (0 : Fin 1) l) + ∑ r : Fin 384, dyv m c (ix2 (row t r) l) := by
  pointwise [k0_pay5]
  simp only [b0]

/-- The first row that a store leaves, over the values `X` held before. -/
theorem rows_eq (X : S8x1024.Idx → EReal) (f : Fin 1024 → EReal) (y0 : Fin 8) (y1 : Fin 1024) :
    (if y0.val = 0 then X (ix2 (0 : Fin 8) y1) + f y1 else X (ix2 y0 y1)) = X (ix2 y0 y1) + firstRow f (ix2 y0 y1) := by
  rw [firstRow_ix2]
  obtain ⟨k, hk⟩ := y0
  by_cases h : k = 0
  · subst h; rfl
  · rw [if_neg h, if_neg h, add_zero]

theorem stepG_A (c : Dev nD) (t : Fin cfg0.N) (h0 : t.val % 22 = 0) (y : S8x1024.Idx) :
    (outsAt0 m c t.val t.isLt).2.2.1 y = k0_pay2 (F := Ideal) y + termG m c t y := by
  rw [outsAt0_A m c t h0]
  frame_open
  simp (disch := decide) only [↓ View.readCov_skip, ↓ View.readCov_cons_toLoadRect, ↓ View.readCov_fill]
  frame_out
  idx_vars y
  rw [Rows.canon_row, rowG_apply, Rows.ld_row (by decide), View.canon_cons_unit_lit (S := S8x1024)]
  · exact rows_eq (k0_pay2 (F := Ideal)) (fun l => ∑ r : Fin 384, dyv m c (ix2 (row t r) l) * xh (rowOf (xv m c) (row t r)) l) y0 y1
  · decide

theorem stepG_B (c : Dev nD) (t : Fin cfg0.N) (h0 : ¬ t.val % 22 = 0) (y : S8x1024.Idx) : (outsAt0 m c t.val t.isLt).2.2.1 y
     = (outsAt0 m c (t.val - 1) (Nat.lt_of_le_of_lt (Nat.sub_le _ _) t.isLt)).2.2.1 y + termG m c t y := by
  rw [outsAt0_B m c t h0]
  frame_out
  idx_vars y
  rw [Rows.read_row, rowG_apply, Rows.ld_row (by decide), View.writes, Memref.IsWhole.read_unread]
  exact rows_eq (outsAt0 m c (t.val - 1) (Nat.lt_of_le_of_lt (Nat.sub_le _ _) t.isLt)).2.2.1 (fun l => ∑ r : Fin 384, dyv m c (ix2 (row t r) l) * xh (rowOf (xv m c) (row t r)) l) y0 y1

theorem stepB_A (c : Dev nD) (t : Fin cfg0.N) (h0 : t.val % 22 = 0) (y : S8x1024.Idx) :
    (outsAt0 m c t.val t.isLt).2.2.2 y = k0_pay3 (F := Ideal) y + termB m c t y := by
  rw [outsAt0_A m c t h0]
  frame_open
  simp (disch := decide) only [↓ View.readCov_skip, ↓ View.readCov_cons_toLoadRect, ↓ View.readCov_fill]
  frame_out
  idx_vars y
  rw [Rows.canon_row, rowB_apply, Rows.ld_row (by decide), View.canon_cons_unit_lit (S := S8x1024)]
  · exact rows_eq (k0_pay3 (F := Ideal)) (fun l => ∑ r : Fin 384, dyv m c (ix2 (row t r) l)) y0 y1
  · decide

theorem stepB_B (c : Dev nD) (t : Fin cfg0.N) (h0 : ¬ t.val % 22 = 0) (y : S8x1024.Idx) : (outsAt0 m c t.val t.isLt).2.2.2 y
     = (outsAt0 m c (t.val - 1) (Nat.lt_of_le_of_lt (Nat.sub_le _ _) t.isLt)).2.2.2 y + termB m c t y := by
  rw [outsAt0_B m c t h0]
  frame_out
  idx_vars y
  rw [Rows.read_row, rowB_apply, Rows.ld_row (by decide), View.writes, Memref.IsWhole.read_unread]
  exact rows_eq (outsAt0 m c (t.val - 1) (Nat.lt_of_le_of_lt (Nat.sub_le _ _) t.isLt)).2.2.2 (fun l => ∑ r : Fin 384, dyv m c (ix2 (row t r) l)) y0 y1

/-- The points' sums are the sum over all rows. -/
theorem sum_rows (g : Fin 8448 → EReal) : ∑ t : Fin 22, ∑ r : Fin 384, g (⟨384 * t.val + r.val, by omega⟩ : Fin 8448) = ∑ t : Fin 8448, g t := by
  have h := Fin.sum_univ_univ_mul_add 22 384 (fun t => if h : t < 8448 then g ⟨t, h⟩ else 0)
  simp only [Nat.reduceMul, Fin.is_lt, dif_pos, Fin.eta] at h
  rw [← h]
  refine Finset.sum_congr rfl fun t _ => Finset.sum_congr rfl fun r _ => ?_
  rw [dif_pos (by omega)]
  exact congrArg g (Fin.ext (show 384 * t.val + r.val = t.val * 384 + r.val by omega))

theorem after5_apply (c : Dev nD) (t : Fin cfg0.N) (ht : t.val + 1 = cfg0.N) (j : S8x1024.Idx) :
    (outsAt0 m c t.val t.isLt).2.2.1 j = firstRow (dg (dyv m c) (xv m c)) j := by
  rw [Pipeline.eq_sum_fin_of_reset_step_apply_last (fun n h => (outsAt0 m c n h).2.2.1) 22 (k0_pay2 (F := Ideal)) (termG m c)
    (stepG_A m c) (stepG_B m c) (by decide) t ht j]
  idx_vars j
  pointwise [k0_pay2]
  unfold dg termG
  simp only [firstRow_ix2]
  rw [← sum_rows]
  by_cases h0 : j0.val = 0
  · simp only [if_pos h0]; rfl
  · simp only [if_neg h0]; simp

theorem after6_apply (c : Dev nD) (t : Fin cfg0.N) (ht : t.val + 1 = cfg0.N) (j : S8x1024.Idx) :
    (outsAt0 m c t.val t.isLt).2.2.2 j = firstRow (db (dyv m c)) j := by
  rw [Pipeline.eq_sum_fin_of_reset_step_apply_last (fun n h => (outsAt0 m c n h).2.2.2) 22 (k0_pay3 (F := Ideal)) (termB m c)
    (stepB_A m c) (stepB_B m c) (by decide) t ht j]
  idx_vars j
  pointwise [k0_pay3]
  unfold db termB
  simp only [firstRow_ix2]
  rw [← sum_rows]
  by_cases h0 : j0.val = 0
  · simp only [if_pos h0]; rfl
  · simp only [if_neg h0]; simp

/-- The last point. -/
def tLast : Fin cfg0.N := ⟨21, (by rw [N_0]; decide : 21 < grid0.N)⟩

theorem final5 (c : Dev nD) : (dats m 0 c).arrAt 5 cfg0.N = firstRow (dg (dyv m c) (xv m c)) := by
  refine (dats m 0 c).arrAt_eq_of_after_last 5 tLast (by decide +kernel) _ fun j => ?_
  blk_simp
  rw [after0_5]
  exact after5_apply m c tLast N_0.symm j

theorem final6 (c : Dev nD) : (dats m 0 c).arrAt 6 cfg0.N = firstRow (db (dyv m c)) := by
  refine (dats m 0 c).arrAt_eq_of_after_last 6 tLast (by decide +kernel) _ fun j => ?_
  blk_simp
  rw [after0_6]
  exact after6_apply m c tLast N_0.symm j

end Cert.LnBwdIdeal.Val
end
-- ==== Proof.LnBwdRef.lean ====
/- The reference's gradients of the row normalisation in closed form. -/
module

public import proofs.«01_k».proof.Proof.Gen.LnBwdReferenceIdeal.Read
public import proofs.«01_k».proof.Proof.LnMath

@[expose] public section

set_option maxRecDepth 16384

noncomputable section

namespace Cert.LnBwdReferenceIdeal.Val

open Idealize.ShloMosaic Idealize.ShloMosaic.TcCoe Idealize.SL.Sem
open Cert Cert.Products Cert.NormMath Cert.LnMath Cert.LnBwdReferenceIdeal Cert.LnBwdReferenceIdeal.Gen Cert.LnBwdReferenceIdeal.Read

variable (dy x : Mat 8448 1024) (g : Mat 1 1024)

theorem v6_apply (i : Fin 8448) (j : Fin 1024) : val_main_v6 (F := Ideal) x (ix2 i j) = xc (rowOf x i) j := by
  pointwise [val_main_v6, val_main_v5, val_main_v4, val_main_v3, val_main_cst_1, val_main_v2, val_main_v1, val_main_cst_0]
  rfl

theorem v15_apply (i : Fin 8448) (j : Fin 1024) : val_main_v15 (F := Ideal) x (ix2 i j) = xc (rowOf x i) j := by
  pointwise [val_main_v15, val_main_v14, val_main_v4, val_main_v3, val_main_cst_1, val_main_v2, val_main_v1, val_main_cst_0]
  rfl

theorem v17_apply (i : Fin 8448) (k : Fin 1) : val_main_v17 (F := Ideal) x (ix2 i k) = var (rowOf x i) := by
  pointwise [val_main_v17, val_main_v16, val_main_cst_5, val_main_v13, val_main_v12, val_main_cst_4, val_main_v11, val_main_v10, val_main_cst_3, val_main_v7]
  simp only [v6_apply]
  rfl

theorem v18_apply (i : Fin 8448) (k : Fin 1) : val_main_v18 (F := Ideal) x (ix2 i k) = Ideal.rsqrt (var (rowOf x i)) := by
  pointwise [val_main_v18]
  rw [v17_apply]

theorem v35_apply (i : Fin 8448) (j : Fin 1024) : val_main_v35 (F := Ideal) dy g (ix2 i j) = dh dy g i j := by
  pointwise [val_main_v35, val_main_v34, val_main_v28]

theorem v40_apply (i : Fin 8448) (j : Fin 1024) : val_main_v40 (F := Ideal) dy x g (ix2 i j) = dh dy g i j * Ideal.rsqrt (var (rowOf x i)) := by
  pointwise [val_main_v40, val_main_v39]
  rw [v35_apply, v18_apply]

theorem v49_apply (i : Fin 8448) (j : Fin 1024) : val_main_v49 (F := Ideal) dy x g (ix2 i j) = viaVar (dh dy g i) (rowOf x i) j := by
  pointwise [val_main_v49, val_main_v48, val_main_v47, val_main_cst_12, val_main_v46, val_main_v45, val_main_cst_11, val_main_v41, val_main_v38, val_main_v37, val_main_cst_9, val_main_v36,
    val_main_v21, val_main_v20, val_main_cst_6, val_main_v19, val_main_v9, val_main_v8, val_main_cst_2]
  simp only [v6_apply, v15_apply, v17_apply, v18_apply, v35_apply, Fin.sum_univ_one]
  rfl

theorem v59_apply (i : Fin 8448) (j : Fin 1024) : val_main_v59 (F := Ideal) dy x g (ix2 i j) = dxLines (dh dy g i) (rowOf x i) j := by
  pointwise [val_main_v59, val_main_v58, val_main_v57, val_main_cst_15, val_main_v56, val_main_v55, val_main_cst_14, val_main_v54, val_main_v53, val_main_v52, val_main_v51, val_main_cst_13,
    val_main_v50, val_main_v44, val_main_v43, val_main_cst_10, val_main_v42]
  simp only [v40_apply, v49_apply, Fin.sum_univ_one]
  rfl

theorem dr_eq : val_main_v59 (F := Ideal) dy x g = mat (fun i => dxLines (dh dy g i) (rowOf x i)) := by
  funext y
  idx_vars y
  exact v59_apply dy x g y0 y1

theorem drb_eq : val_main_v63 (F := Ideal) dy x g = mat (fun i j => half * dxLines (dh dy g i) (rowOf x i) j) := by
  funext y
  idx_vars y
  pointwise [val_main_v63, val_main_v62, val_main_v61, val_main_cst_17]
  rw [v59_apply]
  rfl

theorem dg_eq : val_main_v64 (F := Ideal) dy x = firstRow (dg dy x) := by
  funext y
  idx_vars y
  pointwise [val_main_v64, val_main_v33, val_main_v32, val_main_cst_8, val_main_v31, val_main_v28, val_main_v23, val_main_v22, val_main_v60, val_main_cst_16]
  simp only [v15_apply, v18_apply]
  rw [firstRow_ix2]
  by_cases h : y0.val = 0
  · rw [dif_pos (by omega), if_pos h]
    exact Finset.sum_congr rfl fun t _ => mul_comm _ _
  · rw [dif_neg (by omega), if_neg h]

theorem db_eq : val_main_v65 (F := Ideal) dy = firstRow (db dy) := by
  funext y
  idx_vars y
  pointwise [val_main_v65, val_main_v30, val_main_v29, val_main_cst_7, val_main_v28, val_main_v60, val_main_cst_16]
  rw [firstRow_ix2]
  by_cases h : y0.val = 0
  · rw [dif_pos (by omega), if_pos h]
    rfl
  · rw [dif_neg (by omega), if_neg h]

end Cert.LnBwdReferenceIdeal.Val
end
-- ==== Proof.LnBwdClaim.lean ====
/- The claims about the gradients of the row normalisation: the frames, and the equality of the results where the cotangent and the gain are finite. -/
module

public import proofs.«01_k».proof.Proof.Gen.LnBwd.Frame
public import proofs.«01_k».proof.Proof.LnBwdKernel
public import proofs.«01_k».proof.Proof.LnBwdRef

@[expose] public section

set_option maxRecDepth 16384

noncomputable section

namespace Cert.LnBwdClaim

open Idealize.ShloMosaic Idealize.ShloMosaic.TcCoe Idealize.SL.Sem
open Cert Cert.Products Cert.NormMath Cert.FfnMath Cert.LnMath

local instance : Cert.LnBwd.Facts := Cert.LnBwd.Gen.facts
local instance : Cert.LnBwdIdeal.Facts := Cert.LnBwdIdeal.Gen.facts
local instance : Cert.LnBwdReferenceIdeal.Facts := Cert.LnBwdReferenceIdeal.Gen.facts

/-- What the precondition's three comparisons need of the shapes. -/
theorem preFacts : Cert.Pre_finite_lnbwd.Facts := ⟨by decide, by decide⟩

local instance : Cert.Pre_finite_lnbwd.Facts := preFacts

theorem frame_k : Cert.quiescent_LnBwd := fun m ρ _ => Cert.LnBwd.Gen.frame m ρ
theorem frame_ki : Cert.quiescent_LnBwdIdeal := fun m ρ _ => Cert.LnBwdIdeal.Gen.frame m ρ
theorem frame_ki_pre : Cert.quiescent_LnBwdIdeal_pre_finite_lnbwd := fun m ρ _ => Cert.LnBwdIdeal.Gen.frame m ρ
theorem frame_ri : Cert.quiescent_LnBwdReferenceIdeal := fun m ρ _ =>
  (θ_run Cert.LnBwdReferenceIdeal.defs _ _).mono (fun r h => ⟨fun c => (h c).2.2.2.2, sem_eq_zero_of_no_sems (by decide) r.2⟩)
    (Cert.LnBwdReferenceIdeal.Value.run (F := Ideal) m ρ)
theorem frame_ri_pre : Cert.quiescent_LnBwdReferenceIdeal_pre_finite_lnbwd := fun m ρ _ => frame_ri m ρ trivial

/-- The precondition says that every number of the cotangent and of the gain is a real. -/
theorem fin_args (m : (ℓ : Loc Cert.LnBwdIdeal.nD Cert.LnBwdIdeal.τ Cert.LnBwdIdeal.sig) → Buf (Elt Ideal) ℓ)
    (hp : Cert.Pre_LnBwdIdeal_finite_lnbwd m) (c : Dev Cert.LnBwdIdeal.nD) :
    (∀ i, Fin' (LnBwdIdeal.Val.dyv m c i)) ∧ (∀ i, Fin' (LnBwdIdeal.Val.gv m c i)) :=
  ⟨fun i => fin_of_abs (congrFun (hp c).1 i), fun i => fin_of_abs (congrFun (hp c).2 i)⟩

/-- The kernel's form of a row's gradient is the reference's. -/
theorem rows_eq (m : (ℓ : Loc Cert.LnBwdIdeal.nD Cert.LnBwdIdeal.τ Cert.LnBwdIdeal.sig) → Buf (Elt Ideal) ℓ)
    (hp : Cert.Pre_LnBwdIdeal_finite_lnbwd m) (c : Dev Cert.LnBwdIdeal.nD) (i : Fin 8448) (j : Fin 1024) :
    dxLines (dh (LnBwdIdeal.Val.dyv m c) (LnBwdIdeal.Val.gv m c) i) (rowOf (LnBwdIdeal.Val.xv m c) i) j
      = dx (dh (LnBwdIdeal.Val.dyv m c) (LnBwdIdeal.Val.gv m c) i) (rowOf (LnBwdIdeal.Val.xv m c) i) j :=
  (dx_eq (fun k => fin_mul ((fin_args m hp c).1 _) ((fin_args m hp c).2 _)) j).symm

/-- Both programs leave the closed forms of LnMath. -/
theorem algebraic : Cert.algebraic_LnBwdIdeal_LnBwdReferenceIdeal_pre_finite_lnbwd := fun m g m' g' hp hm =>
  ⟨fun c => mat (fun i => dx (dh (LnBwdIdeal.Val.dyv m c) (LnBwdIdeal.Val.gv m c) i) (rowOf (LnBwdIdeal.Val.xv m c) i)),
   fun c => mat (fun i j => half * dx (dh (LnBwdIdeal.Val.dyv m c) (LnBwdIdeal.Val.gv m c) i) (rowOf (LnBwdIdeal.Val.xv m c) i) j),
   fun c => firstRow (dg (LnBwdIdeal.Val.dyv m c) (LnBwdIdeal.Val.xv m c)),
   fun c => firstRow (db (LnBwdIdeal.Val.dyv m c)),
   (θ_run Cert.LnBwdIdeal.defs _ _).mono (fun _ h c => ⟨(h c).1.trans (LnBwdIdeal.Val.final3 m c), (h c).2.1.trans (LnBwdIdeal.Val.final4 m c),
      (h c).2.2.1.trans (LnBwdIdeal.Val.final5 m c), (h c).2.2.2.1.trans (LnBwdIdeal.Val.final6 m c), (h c).2.2.2.2⟩)
     (Cert.LnBwdIdeal.Value.run_blocks (F := Ideal) m g),
   (θ_run Cert.LnBwdReferenceIdeal.defs _ _).mono (fun _ h c => by
      obtain ⟨e0, e1, e2⟩ := hm c
      obtain ⟨h0, h1, h2, h3, hk⟩ := h c
      refine ⟨h0.trans ?_, h1.trans ?_, h2.trans ?_, h3.trans ?_, hk⟩
      · rw [LnBwdReferenceIdeal.Read.val_main_v59_eq, e0, e1, e2]
        exact (LnBwdReferenceIdeal.Val.dr_eq _ _ _).trans (congrArg mat (funext fun i => funext fun j => rows_eq m hp c i j))
      · rw [LnBwdReferenceIdeal.Read.val_main_v63_eq, e0, e1, e2]
        exact (LnBwdReferenceIdeal.Val.drb_eq _ _ _).trans (congrArg mat (funext fun i => funext fun j => congrArg (half * ·) (rows_eq m hp c i j)))
      · rw [e0, e1]
        exact LnBwdReferenceIdeal.Val.dg_eq _ _
      · rw [e0]
        exact LnBwdReferenceIdeal.Val.db_eq _)
     (Cert.LnBwdReferenceIdeal.Value.run (F := Ideal) m' g')⟩

end Cert.LnBwdClaim
end
-- ==== Proof.LnBwdMKernel.lean ====
/- The kernel of the merge normalisation's gradients, read at an index: its four results are the closed forms. -/
module

public import proofs.«01_k».proof.Proof.Gen.LnBwdMIdeal.Value
public import proofs.«01_k».proof.Proof.LnMath
public import proofs.«01_k».proof.Proof.Rows

@[expose] public section

set_option maxRecDepth 16384

noncomputable section

namespace Cert.LnBwdMIdeal.Val

open Cert.LnBwdMIdeal Cert.LnBwdMIdeal.Gen Idealize.ShloMosaic Idealize.ShloMosaic.TcCoe Idealize.SL.Sem
open Idealize.ShloMosaic.Pipeline (Dat)
open Cert Cert.Products Cert.NormMath Cert.LnMath

variable (m : (ℓ : Loc nD τ sig) → Buf (Elt Ideal) ℓ)

abbrev dyv (c : Dev nD) : Mat 8448 1024 := m (c, main_arg0)
abbrev xv (c : Dev nD) : Mat 8448 1024 := m (c, main_arg1)
abbrev gv (c : Dev nD) : Mat 1 1024 := m (c, main_arg2)

theorem idx0 : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0])

theorem lt22 (t : Fin cfg0.N) : t.val < 22 := N_0 ▸ t.isLt

/-- The row of the whole array that a point's row is. -/
abbrev row (t : Fin cfg0.N) (r : Fin 384) : Fin 8448 := ⟨384 * t.val + r.val, by have := lt22 t; omega⟩

/-! ## The blocks that a point reads -/

theorem b0 (c : Dev nD) (t : Fin cfg0.N) (r : Fin 384) (l : Fin 1024) : iblk m c 0 t (ix2 r l) = dyv m c (ix2 (row t r) l) := by
  have := lt22 t
  blk_ext [iblk, V_main_arg0 m c, idx0 t]

theorem b1 (c : Dev nD) (t : Fin cfg0.N) (r : Fin 384) (l : Fin 1024) : iblk m c 1 t (ix2 r l) = xv m c (ix2 (row t r) l) := by
  have := lt22 t
  blk_ext [iblk, V_main_arg1 m c, idx0 t]

theorem b2 (c : Dev nD) (t : Fin cfg0.N) (r : Fin 1) (l : Fin 1024) : iblk m c 2 t (ix2 r l) = gv m c (ix2 0 l) := by
  have := lt22 t
  blk_ext [iblk, V_main_arg2 m c, idx0 t]

/-! ## The values of a point -/

theorem pay6_apply (c : Dev nD) (t : Fin cfg0.N) (r : Fin 384) (l : Fin 1024) :
    k0_pay6 (F := Ideal) (iblk m c 1 t) (ix2 r l) = xc (rowOf (xv m c) (row t r)) l := by
  pointwise [k0_pay6]
  simp only [b1]
  rfl

theorem pay7_apply (c : Dev nD) (t : Fin cfg0.N) (r : Fin 384) (k : Fin 1) :
    k0_pay7 (F := Ideal) (iblk m c 1 t) (ix2 r k) = Ideal.rsqrt (var (rowOf (xv m c) (row t r))) := by
  pointwise [k0_pay7]
  simp only [pay6_apply]
  rfl

theorem pay8_apply (c : Dev nD) (t : Fin cfg0.N) (r : Fin 384) (l : Fin 1024) :
    k0_pay8 (F := Ideal) (iblk m c 1 t) (ix2 r l) = xh (rowOf (xv m c) (row t r)) l := by
  pointwise [k0_pay8]
  rw [pay6_apply, pay7_apply]
  rfl

theorem pay9_apply (c : Dev nD) (t : Fin cfg0.N) (r : Fin 384) (l : Fin 1024) :
    k0_pay9 (F := Ideal) (iblk m c 1 t) (iblk m c 0 t) (iblk m c 2 t) (ix2 r l) = dx (dh (dyv m c) (gv m c) (row t r)) (rowOf (xv m c) (row t r)) l := by
  pointwise [k0_pay9]
  simp only [pay7_apply, pay8_apply, b0, b2]
  rfl

/-! ## The gradient of the rows -/

theorem after3_apply (c : Dev nD) (t : Fin cfg0.N) (y : S384x1024.Idx) :
    (outsAt0 m c t.val t.isLt).1 y = dx (dh (dyv m c) (gv m c) (row t (y 0))) (rowOf (xv m c) (row t (y 0))) (y 1) := by
  have e : k0_pay9 (F := Ideal) (iblk m c 1 t) (iblk m c 0 t) (iblk m c 2 t) y
      = dx (dh (dyv m c) (gv m c) (row t (y 0))) (rowOf (xv m c) (row t (y 0))) (y 1) := by
    idx_vars y
    exact pay9_apply m c t y0 y1
  by_cases h0 : t.val % 22 = 0
  · rw [outsAt0_A m c t h0]
    frame_out
    exact e
  · rw [outsAt0_B m c t h0]
    frame_out
    exact e

theorem final3 (c : Dev nD) : (dats m 0 c).arrAt 3 cfg0.N = mat (fun i => dx (dh (dyv m c) (gv m c) i) (rowOf (xv m c) i)) := by
  refine (dats m 0 c).arrAt_eq_of_covers 3 _ (by decide +kernel) fun t hf y => ?_
  blk_simp
  rw [after0_3]
  have hy : (win0_3.blk t).view.emb y = ix2 (row t (y 0)) (y 1) := by
    have := lt22 t
    blk_ext [idx0 t]
  rw [hy, after3_apply]
  rfl

theorem after4_apply (c : Dev nD) (t : Fin cfg0.N) (y : S384x1024.Idx) :
    (outsAt0 m c t.val t.isLt).2.1 y = dx (dh (dyv m c) (gv m c) (row t (y 0))) (rowOf (xv m c) (row t (y 0))) (y 1) := by
  have e : k0_pay1 (F := Ideal) (k0_pay10 (iblk m c 1 t) (iblk m c 0 t) (iblk m c 2 t)) y
      = dx (dh (dyv m c) (gv m c) (row t (y 0))) (rowOf (xv m c) (row t (y 0))) (y 1) := by
    idx_vars y
    pointwise [k0_pay1, k0_pay10]
    rw [pay9_apply]
  by_cases h0 : t.val % 22 = 0
  · rw [outsAt0_A m c t h0]
    frame_out
    exact e
  · rw [outsAt0_B m c t h0]
    frame_out
    exact e

theorem final4 (c : Dev nD) : (dats m 0 c).arrAt 4 cfg0.N = mat (fun i j => dx (dh (dyv m c) (gv m c) i) (rowOf (xv m c) i) j) := by
  refine (dats m 0 c).arrAt_eq_of_covers 4 _ (by decide +kernel) fun t hf y => ?_
  blk_simp
  rw [after0_4]
  have hy : (win0_4.blk t).view.emb y = ix2 (row t (y 0)) (y 1) := by
    have := lt22 t
    blk_ext [idx0 t]
  rw [hy, after4_apply]
  rfl

/-! ## The gradients of the gain and of the shift -/

/-- What point `t` adds to the gain's gradient. -/
def termG (c : Dev nD) (t : Fin cfg0.N) : S8x1024.Idx → EReal :=
  firstRow fun l => ∑ r : Fin 384, dyv m c (ix2 (row t r) l) * xh (rowOf (xv m c) (row t r)) l
/-- What point `t` adds to the shift's gradient. -/
def termB (c : Dev nD) (t : Fin cfg0.N) : S8x1024.Idx → EReal :=
  firstRow fun l => ∑ r : Fin 384, dyv m c (ix2 (row t r) l)

theorem rowG_apply (c : Dev nD) (t : Fin cfg0.N) (v : Vec Ideal S1x1024 .f32) (l : Fin 1024) :
    k0_pay4 (F := Ideal) (iblk m c 0 t) (k0_pay8 (iblk m c 1 t)) v (ix2 (0 : Fin 1) l)
      = v (ix2 (0 : Fin 1) l) + ∑ r : Fin 384, dyv m c (ix2 (row t r) l) * xh (rowOf (xv m c) (row t r)) l := by
  pointwise [k0_pay4]
  simp only [pay8_apply, b0]

theorem rowB_apply (c : Dev nD) (t : Fin cfg0.N) (v : Vec Ideal S1x1024 .f32) (l : Fin 1024) :
    k0_pay5 (F := Ideal) (iblk m c 0 t) v (ix2 (0 : Fin 1) l) = v (ix2 (0 : Fin 1) l) + ∑ r : Fin 384, dyv m c (ix2 (row t r) l) := by
  pointwise [k0_pay5]
  simp only [b0]

/-- The first row that a store leaves, over the values `X` held before. -/
theorem rows_eq (X : S8x1024.Idx → EReal) (f : Fin 1024 → EReal) (y0 : Fin 8) (y1 : Fin 1024) :
    (if y0.val = 0 then X (ix2 (0 : Fin 8) y1) + f y1 else X (ix2 y0 y1)) = X (ix2 y0 y1) + firstRow f (ix2 y0 y1) := by
  rw [firstRow_ix2]
  obtain ⟨k, hk⟩ := y0
  by_cases h : k = 0
  · subst h; rfl
  · rw [if_neg h, if_neg h, add_zero]

theorem stepG_A (c : Dev nD) (t : Fin cfg0.N) (h0 : t.val % 22 = 0) (y : S8x1024.Idx) :
    (outsAt0 m c t.val t.isLt).2.2.1 y = k0_pay2 (F := Ideal) y + termG m c t y := by
  rw [outsAt0_A m c t h0]
  frame_open
  simp (disch := decide) only [↓ View.readCov_skip, ↓ View.readCov_cons_toLoadRect, ↓ View.readCov_fill]
  frame_out
  idx_vars y
  rw [Rows.canon_row, rowG_apply, Rows.ld_row (by decide), View.canon_cons_unit_lit (S := S8x1024)]
  · exact rows_eq (k0_pay2 (F := Ideal)) (fun l => ∑ r : Fin 384, dyv m c (ix2 (row t r) l) * xh (rowOf (xv m c) (row t r)) l) y0 y1
  · decide

theorem stepG_B (c : Dev nD) (t : Fin cfg0.N) (h0 : ¬ t.val % 22 = 0) (y : S8x1024.Idx) : (outsAt0 m c t.val t.isLt).2.2.1 y
     = (outsAt0 m c (t.val - 1) (Nat.lt_of_le_of_lt (Nat.sub_le _ _) t.isLt)).2.2.1 y + termG m c t y := by
  rw [outsAt0_B m c t h0]
  frame_out
  idx_vars y
  rw [Rows.read_row, rowG_apply, Rows.ld_row (by decide), View.writes, Memref.IsWhole.read_unread]
  exact rows_eq (outsAt0 m c (t.val - 1) (Nat.lt_of_le_of_lt (Nat.sub_le _ _) t.isLt)).2.2.1 (fun l => ∑ r : Fin 384, dyv m c (ix2 (row t r) l) * xh (rowOf (xv m c) (row t r)) l) y0 y1

theorem stepB_A (c : Dev nD) (t : Fin cfg0.N) (h0 : t.val % 22 = 0) (y : S8x1024.Idx) :
    (outsAt0 m c t.val t.isLt).2.2.2 y = k0_pay3 (F := Ideal) y + termB m c t y := by
  rw [outsAt0_A m c t h0]
  frame_open
  simp (disch := decide) only [↓ View.readCov_skip, ↓ View.readCov_cons_toLoadRect, ↓ View.readCov_fill]
  frame_out
  idx_vars y
  rw [Rows.canon_row, rowB_apply, Rows.ld_row (by decide), View.canon_cons_unit_lit (S := S8x1024)]
  · exact rows_eq (k0_pay3 (F := Ideal)) (fun l => ∑ r : Fin 384, dyv m c (ix2 (row t r) l)) y0 y1
  · decide

theorem stepB_B (c : Dev nD) (t : Fin cfg0.N) (h0 : ¬ t.val % 22 = 0) (y : S8x1024.Idx) : (outsAt0 m c t.val t.isLt).2.2.2 y
     = (outsAt0 m c (t.val - 1) (Nat.lt_of_le_of_lt (Nat.sub_le _ _) t.isLt)).2.2.2 y + termB m c t y := by
  rw [outsAt0_B m c t h0]
  frame_out
  idx_vars y
  rw [Rows.read_row, rowB_apply, Rows.ld_row (by decide), View.writes, Memref.IsWhole.read_unread]
  exact rows_eq (outsAt0 m c (t.val - 1) (Nat.lt_of_le_of_lt (Nat.sub_le _ _) t.isLt)).2.2.2 (fun l => ∑ r : Fin 384, dyv m c (ix2 (row t r) l)) y0 y1

/-- The points' sums are the sum over all rows. -/
theorem sum_rows (g : Fin 8448 → EReal) : ∑ t : Fin 22, ∑ r : Fin 384, g (⟨384 * t.val + r.val, by omega⟩ : Fin 8448) = ∑ t : Fin 8448, g t := by
  have h := Fin.sum_univ_univ_mul_add 22 384 (fun t => if h : t < 8448 then g ⟨t, h⟩ else 0)
  simp only [Nat.reduceMul, Fin.is_lt, dif_pos, Fin.eta] at h
  rw [← h]
  refine Finset.sum_congr rfl fun t _ => Finset.sum_congr rfl fun r _ => ?_
  rw [dif_pos (by omega)]
  exact congrArg g (Fin.ext (show 384 * t.val + r.val = t.val * 384 + r.val by omega))

theorem after5_apply (c : Dev nD) (t : Fin cfg0.N) (ht : t.val + 1 = cfg0.N) (j : S8x1024.Idx) :
    (outsAt0 m c t.val t.isLt).2.2.1 j = firstRow (dg (dyv m c) (xv m c)) j := by
  rw [Pipeline.eq_sum_fin_of_reset_step_apply_last (fun n h => (outsAt0 m c n h).2.2.1) 22 (k0_pay2 (F := Ideal)) (termG m c)
    (stepG_A m c) (stepG_B m c) (by decide) t ht j]
  idx_vars j
  pointwise [k0_pay2]
  unfold dg termG
  simp only [firstRow_ix2]
  rw [← sum_rows]
  by_cases h0 : j0.val = 0
  · simp only [if_pos h0]; rfl
  · simp only [if_neg h0]; simp

theorem after6_apply (c : Dev nD) (t : Fin cfg0.N) (ht : t.val + 1 = cfg0.N) (j : S8x1024.Idx) :
    (outsAt0 m c t.val t.isLt).2.2.2 j = firstRow (db (dyv m c)) j := by
  rw [Pipeline.eq_sum_fin_of_reset_step_apply_last (fun n h => (outsAt0 m c n h).2.2.2) 22 (k0_pay3 (F := Ideal)) (termB m c)
    (stepB_A m c) (stepB_B m c) (by decide) t ht j]
  idx_vars j
  pointwise [k0_pay3]
  unfold db termB
  simp only [firstRow_ix2]
  rw [← sum_rows]
  by_cases h0 : j0.val = 0
  · simp only [if_pos h0]; rfl
  · simp only [if_neg h0]; simp

/-- The last point. -/
def tLast : Fin cfg0.N := ⟨21, (by rw [N_0]; decide : 21 < grid0.N)⟩

theorem final5 (c : Dev nD) : (dats m 0 c).arrAt 5 cfg0.N = firstRow (dg (dyv m c) (xv m c)) := by
  refine (dats m 0 c).arrAt_eq_of_after_last 5 tLast (by decide +kernel) _ fun j => ?_
  blk_simp
  rw [after0_5]
  exact after5_apply m c tLast N_0.symm j

theorem final6 (c : Dev nD) : (dats m 0 c).arrAt 6 cfg0.N = firstRow (db (dyv m c)) := by
  refine (dats m 0 c).arrAt_eq_of_after_last 6 tLast (by decide +kernel) _ fun j => ?_
  blk_simp
  rw [after0_6]
  exact after6_apply m c tLast N_0.symm j

end Cert.LnBwdMIdeal.Val
end
-- ==== Proof.LnBwdMRef.lean ====
/- The reference's gradients of the merge normalisation in closed form. -/
module

public import proofs.«01_k».proof.Proof.Gen.LnBwdMReferenceIdeal.Read
public import proofs.«01_k».proof.Proof.LnMath

@[expose] public section

set_option maxRecDepth 16384

noncomputable section

namespace Cert.LnBwdMReferenceIdeal.Val

open Idealize.ShloMosaic Idealize.ShloMosaic.TcCoe Idealize.SL.Sem
open Cert Cert.Products Cert.NormMath Cert.LnMath Cert.LnBwdMReferenceIdeal Cert.LnBwdMReferenceIdeal.Gen Cert.LnBwdMReferenceIdeal.Read

variable (dy x : Mat 8448 1024) (g : Mat 1 1024)

theorem v6_apply (i : Fin 8448) (j : Fin 1024) : val_main_v6 (F := Ideal) x (ix2 i j) = xc (rowOf x i) j := by
  pointwise [val_main_v6, val_main_v5, val_main_v4, val_main_v3, val_main_cst_1, val_main_v2, val_main_v1, val_main_cst_0]
  rfl

theorem v15_apply (i : Fin 8448) (j : Fin 1024) : val_main_v15 (F := Ideal) x (ix2 i j) = xc (rowOf x i) j := by
  pointwise [val_main_v15, val_main_v14, val_main_v4, val_main_v3, val_main_cst_1, val_main_v2, val_main_v1, val_main_cst_0]
  rfl

theorem v17_apply (i : Fin 8448) (k : Fin 1) : val_main_v17 (F := Ideal) x (ix2 i k) = var (rowOf x i) := by
  pointwise [val_main_v17, val_main_v16, val_main_cst_5, val_main_v13, val_main_v12, val_main_cst_4, val_main_v11, val_main_v10, val_main_cst_3, val_main_v7]
  simp only [v6_apply]
  rfl

theorem v18_apply (i : Fin 8448) (k : Fin 1) : val_main_v18 (F := Ideal) x (ix2 i k) = Ideal.rsqrt (var (rowOf x i)) := by
  pointwise [val_main_v18]
  rw [v17_apply]

theorem v35_apply (i : Fin 8448) (j : Fin 1024) : val_main_v35 (F := Ideal) dy g (ix2 i j) = dh dy g i j := by
  pointwise [val_main_v35, val_main_v34, val_main_v28]

theorem v40_apply (i : Fin 8448) (j : Fin 1024) : val_main_v40 (F := Ideal) dy x g (ix2 i j) = dh dy g i j * Ideal.rsqrt (var (rowOf x i)) := by
  pointwise [val_main_v40, val_main_v39]
  rw [v35_apply, v18_apply]

theorem v49_apply (i : Fin 8448) (j : Fin 1024) : val_main_v49 (F := Ideal) dy x g (ix2 i j) = viaVar (dh dy g i) (rowOf x i) j := by
  pointwise [val_main_v49, val_main_v48, val_main_v47, val_main_cst_12, val_main_v46, val_main_v45, val_main_cst_11, val_main_v41, val_main_v38, val_main_v37, val_main_cst_9, val_main_v36,
    val_main_v21, val_main_v20, val_main_cst_6, val_main_v19, val_main_v9, val_main_v8, val_main_cst_2]
  simp only [v6_apply, v15_apply, v17_apply, v18_apply, v35_apply, Fin.sum_univ_one]
  rfl

theorem v59_apply (i : Fin 8448) (j : Fin 1024) : val_main_v59 (F := Ideal) dy x g (ix2 i j) = dxLines (dh dy g i) (rowOf x i) j := by
  pointwise [val_main_v59, val_main_v58, val_main_v57, val_main_cst_15, val_main_v56, val_main_v55, val_main_cst_14, val_main_v54, val_main_v53, val_main_v52, val_main_v51, val_main_cst_13,
    val_main_v50, val_main_v44, val_main_v43, val_main_cst_10, val_main_v42]
  simp only [v40_apply, v49_apply, Fin.sum_univ_one]
  rfl

theorem dr_eq : val_main_v59 (F := Ideal) dy x g = mat (fun i => dxLines (dh dy g i) (rowOf x i)) := by
  funext y
  idx_vars y
  exact v59_apply dy x g y0 y1

theorem drb_eq : val_main_v61 (F := Ideal) dy x g = mat (fun i j => dxLines (dh dy g i) (rowOf x i) j) := by
  funext y
  idx_vars y
  pointwise [val_main_v61]
  exact v59_apply dy x g y0 y1

theorem dg_eq : val_main_v62 (F := Ideal) dy x = firstRow (dg dy x) := by
  funext y
  idx_vars y
  pointwise [val_main_v62, val_main_v33, val_main_v32, val_main_cst_8, val_main_v31, val_main_v28, val_main_v23, val_main_v22, val_main_v60, val_main_cst_16]
  simp only [v15_apply, v18_apply]
  rw [firstRow_ix2]
  by_cases h : y0.val = 0
  · rw [dif_pos (by omega), if_pos h]
    exact Finset.sum_congr rfl fun t _ => mul_comm _ _
  · rw [dif_neg (by omega), if_neg h]

theorem db_eq : val_main_v63 (F := Ideal) dy = firstRow (db dy) := by
  funext y
  idx_vars y
  pointwise [val_main_v63, val_main_v30, val_main_v29, val_main_cst_7, val_main_v28, val_main_v60, val_main_cst_16]
  rw [firstRow_ix2]
  by_cases h : y0.val = 0
  · rw [dif_pos (by omega), if_pos h]
    rfl
  · rw [dif_neg (by omega), if_neg h]

end Cert.LnBwdMReferenceIdeal.Val
end
-- ==== Proof.LnBwdMClaim.lean ====
/- The claims about the gradients of the merge normalisation: the frames, and the equality of the results where the cotangent and the gain are finite. -/
module

public import proofs.«01_k».proof.Proof.Gen.LnBwdM.Frame
public import proofs.«01_k».proof.Proof.LnBwdMKernel
public import proofs.«01_k».proof.Proof.LnBwdMRef

@[expose] public section

set_option maxRecDepth 16384

noncomputable section

namespace Cert.LnBwdMClaim

open Idealize.ShloMosaic Idealize.ShloMosaic.TcCoe Idealize.SL.Sem
open Cert Cert.Products Cert.NormMath Cert.FfnMath Cert.LnMath

local instance : Cert.LnBwdM.Facts := Cert.LnBwdM.Gen.facts
local instance : Cert.LnBwdMIdeal.Facts := Cert.LnBwdMIdeal.Gen.facts
local instance : Cert.LnBwdMReferenceIdeal.Facts := Cert.LnBwdMReferenceIdeal.Gen.facts

/-- What the precondition's three comparisons need of the shapes. -/
theorem preFacts : Cert.Pre_finite_lnbwd.Facts := ⟨by decide, by decide⟩

local instance : Cert.Pre_finite_lnbwd.Facts := preFacts

theorem frame_k : Cert.quiescent_LnBwdM := fun m ρ _ => Cert.LnBwdM.Gen.frame m ρ
theorem frame_ki : Cert.quiescent_LnBwdMIdeal := fun m ρ _ => Cert.LnBwdMIdeal.Gen.frame m ρ
theorem frame_ki_pre : Cert.quiescent_LnBwdMIdeal_pre_finite_lnbwd := fun m ρ _ => Cert.LnBwdMIdeal.Gen.frame m ρ
theorem frame_ri : Cert.quiescent_LnBwdMReferenceIdeal := fun m ρ _ =>
  (θ_run Cert.LnBwdMReferenceIdeal.defs _ _).mono (fun r h => ⟨fun c => (h c).2.2.2.2, sem_eq_zero_of_no_sems (by decide) r.2⟩)
    (Cert.LnBwdMReferenceIdeal.Value.run (F := Ideal) m ρ)
theorem frame_ri_pre : Cert.quiescent_LnBwdMReferenceIdeal_pre_finite_lnbwd := fun m ρ _ => frame_ri m ρ trivial

/-- The precondition says that every number of the cotangent and of the gain is a real. -/
theorem fin_args (m : (ℓ : Loc Cert.LnBwdMIdeal.nD Cert.LnBwdMIdeal.τ Cert.LnBwdMIdeal.sig) → Buf (Elt Ideal) ℓ)
    (hp : Cert.Pre_LnBwdMIdeal_finite_lnbwd m) (c : Dev Cert.LnBwdMIdeal.nD) :
    (∀ i, Fin' (LnBwdMIdeal.Val.dyv m c i)) ∧ (∀ i, Fin' (LnBwdMIdeal.Val.gv m c i)) :=
  ⟨fun i => fin_of_abs (congrFun (hp c).1 i), fun i => fin_of_abs (congrFun (hp c).2 i)⟩

/-- The kernel's form of a row's gradient is the reference's. -/
theorem rows_eq (m : (ℓ : Loc Cert.LnBwdMIdeal.nD Cert.LnBwdMIdeal.τ Cert.LnBwdMIdeal.sig) → Buf (Elt Ideal) ℓ)
    (hp : Cert.Pre_LnBwdMIdeal_finite_lnbwd m) (c : Dev Cert.LnBwdMIdeal.nD) (i : Fin 8448) (j : Fin 1024) :
    dxLines (dh (LnBwdMIdeal.Val.dyv m c) (LnBwdMIdeal.Val.gv m c) i) (rowOf (LnBwdMIdeal.Val.xv m c) i) j
      = dx (dh (LnBwdMIdeal.Val.dyv m c) (LnBwdMIdeal.Val.gv m c) i) (rowOf (LnBwdMIdeal.Val.xv m c) i) j :=
  (dx_eq (fun k => fin_mul ((fin_args m hp c).1 _) ((fin_args m hp c).2 _)) j).symm

/-- Both programs leave the closed forms of LnMath. -/
theorem algebraic : Cert.algebraic_LnBwdMIdeal_LnBwdMReferenceIdeal_pre_finite_lnbwd := fun m g m' g' hp hm =>
  ⟨fun c => mat (fun i => dx (dh (LnBwdMIdeal.Val.dyv m c) (LnBwdMIdeal.Val.gv m c) i) (rowOf (LnBwdMIdeal.Val.xv m c) i)),
   fun c => mat (fun i j => dx (dh (LnBwdMIdeal.Val.dyv m c) (LnBwdMIdeal.Val.gv m c) i) (rowOf (LnBwdMIdeal.Val.xv m c) i) j),
   fun c => firstRow (dg (LnBwdMIdeal.Val.dyv m c) (LnBwdMIdeal.Val.xv m c)),
   fun c => firstRow (db (LnBwdMIdeal.Val.dyv m c)),
   (θ_run Cert.LnBwdMIdeal.defs _ _).mono (fun _ h c => ⟨(h c).1.trans (LnBwdMIdeal.Val.final3 m c), (h c).2.1.trans (LnBwdMIdeal.Val.final4 m c),
      (h c).2.2.1.trans (LnBwdMIdeal.Val.final5 m c), (h c).2.2.2.1.trans (LnBwdMIdeal.Val.final6 m c), (h c).2.2.2.2⟩)
     (Cert.LnBwdMIdeal.Value.run_blocks (F := Ideal) m g),
   (θ_run Cert.LnBwdMReferenceIdeal.defs _ _).mono (fun _ h c => by
      obtain ⟨e0, e1, e2⟩ := hm c
      obtain ⟨h0, h1, h2, h3, hk⟩ := h c
      refine ⟨h0.trans ?_, h1.trans ?_, h2.trans ?_, h3.trans ?_, hk⟩
      · rw [LnBwdMReferenceIdeal.Read.val_main_v59_eq, e0, e1, e2]
        exact (LnBwdMReferenceIdeal.Val.dr_eq _ _ _).trans (congrArg mat (funext fun i => funext fun j => rows_eq m hp c i j))
      · rw [LnBwdMReferenceIdeal.Read.val_main_v61_eq, e0, e1, e2]
        exact (LnBwdMReferenceIdeal.Val.drb_eq _ _ _).trans (congrArg mat (funext fun i => funext fun j => congrArg (·) (rows_eq m hp c i j)))
      · rw [e0, e1]
        exact LnBwdMReferenceIdeal.Val.dg_eq _ _
      · rw [e0]
        exact LnBwdMReferenceIdeal.Val.db_eq _)
     (Cert.LnBwdMReferenceIdeal.Value.run (F := Ideal) m' g')⟩

end Cert.LnBwdMClaim
end
-- ==== Proof.LossMath.lean ====
/- The loss's mathematics: half the sum over the real rows of the mean square error, and its gradient. -/
module

public import proofs.«01_k».proof.Proof.LnMath

@[expose] public section

set_option maxRecDepth 16384

noncomputable section

namespace Cert.LossMath

open Idealize.ShloMosaic Idealize.ShloMosaic.TcCoe
open Cert Cert.Products Cert.NormMath Cert.FfnMath Cert.LnMath

/-- A value of the real rows `16 … 8207`, and nothing in the others. -/
def onReal (f : Fin 8192 → EReal) (n : Fin 8448) : EReal :=
  if h : 16 ≤ n.val ∧ n.val < 8208 then f ⟨n.val - 16, by omega⟩ else 0

/-- The row of the padded array that a real row is. -/
abbrev real (n : Fin 8192) : Fin 8448 := ⟨16 + n.val, by omega⟩

/-- The error of a real row. -/
abbrev err (h : Mat 8448 1024) (y : Mat 8192 1024) (l : Fin 1024) (n : Fin 8192) : EReal := h (ix2 (real n) l) - y (ix2 n l)

/-- One part of 1024, as the kernel writes it. -/
abbrev part : EReal := Ideal.ofBits .f32 0x3A800000#32

/-- The gradient of the loss. -/
def grad (h : Mat 8448 1024) (y : Mat 8192 1024) : Mat 8448 1024 := mat fun n l => onReal (err h y l) n * part

/-- A row's square error times one part of 1024. -/
def rowLoss (h : Mat 8448 1024) (y : Mat 8192 1024) (n : Fin 8448) : EReal :=
  (∑ l : Fin 1024, onReal (err h y l) n * onReal (err h y l) n) * part

/-- The loss, summed up block by block as the kernel does. -/
def loss (h : Mat 8448 1024) (y : Mat 8192 1024) : EReal := half * ∑ n : Fin 8448, rowLoss h y n

theorem part_eq : part = ((1 / 1024 : ℝ) : EReal) := by
  simp [part, Ideal.ofBits, Ideal.ieee]
  rw [← EReal.coe_mul]
  norm_num

theorem half_eq : half = ((1 / 2 : ℝ) : EReal) := by
  simp [half, Ideal.ofBits, Ideal.ieee]
  rw [← EReal.coe_mul]
  norm_num

/-- The sum over all rows is the sum over the real ones. -/
theorem sum_onReal (f : Fin 8192 → EReal) : ∑ n : Fin 8448, onReal f n = ∑ n : Fin 8192, f n := by
  change ∑ n : Fin (16 + (8192 + 240)), onReal f n = _
  rw [Fin.sum_univ_add, Fin.sum_univ_add]
  rw [Finset.sum_eq_zero, zero_add]
  · conv_lhs => rhs; rw [Finset.sum_eq_zero (fun n _ => by
      rw [onReal, dif_neg]
      simp only [Fin.val_natAdd]
      omega)]
    rw [add_zero]
    refine Finset.sum_congr rfl fun n _ => ?_
    rw [onReal, dif_pos ⟨by simp, by simp; omega⟩]
    congr 1
    ext
    simp
  · intro n _
    rw [onReal, dif_neg]
    simp only [Fin.val_castAdd]
    omega

theorem sq_nonneg (x : EReal) : 0 ≤ x * x := by
  induction x with
  | bot => simp
  | top => simp
  | coe x => exact_mod_cast mul_self_nonneg x

theorem rowLoss_nonneg (h : Mat 8448 1024) (y : Mat 8192 1024) (n : Fin 8448) : 0 ≤ rowLoss h y n := by
  refine mul_nonneg (Finset.sum_nonneg fun l _ => sq_nonneg _) ?_
  rw [part_eq]
  exact_mod_cast (by norm_num : (0 : ℝ) ≤ 1 / 1024)

/-- A half of a sum of numbers that are not negative is the sum of their halves. -/
theorem half_sum {ι : Type*} (s : Finset ι) (f : ι → EReal) (hf : ∀ i, 0 ≤ f i) : half * ∑ i ∈ s, f i = ∑ i ∈ s, half * f i := by
  classical
  induction s using Finset.induction_on with
  | empty => simp
  | insert a s ha ih =>
    rw [Finset.sum_insert ha, Finset.sum_insert ha, EReal.left_distrib_of_nonneg (hf a) (Finset.sum_nonneg fun i _ => hf i), ih]

theorem div_cols (x : EReal) : Ideal.div x cols = x * part := by
  rw [cols_eq, part_eq, Ideal.div_coe (by norm_num)]

/-- The reference's scaling of the error. -/
theorem scale_eq (x : EReal) : Ideal.div half cols * (two * x) = x * part := by
  rw [div_cols, ← mul_assoc, mul_comm x]
  congr 1
  rw [half_eq, part_eq, two_eq, ← EReal.coe_mul, ← EReal.coe_mul]
  norm_num

/-- A row's mean square error, read on the real rows. -/
theorem rowLoss_eq (h : Mat 8448 1024) (y : Mat 8192 1024) (n : Fin 8448) :
    rowLoss h y n = onReal (fun k => Ideal.div (∑ l : Fin 1024, err h y l k * err h y l k) cols) n := by
  unfold rowLoss onReal
  by_cases hn : 16 ≤ n.val ∧ n.val < 8208
  · simp only [dif_pos hn, div_cols]
  · simp only [dif_neg hn]
    simp

theorem loss_eq (h : Mat 8448 1024) (y : Mat 8192 1024) :
    loss h y = half * ∑ n : Fin 8192, Ideal.div (∑ l : Fin 1024, err h y l n * err h y l n) cols := by
  rw [loss, Finset.sum_congr rfl fun n _ => rowLoss_eq h y n, sum_onReal]

end Cert.LossMath
end
-- ==== Proof.LossHeadKernel.lean ====
/- The kernel of the loss and its gradient, read at an index: its two results are the closed forms. -/
module

public import proofs.«01_k».proof.Proof.Gen.LossHeadIdeal.Value
public import proofs.«01_k».proof.Proof.LossMath

@[expose] public section

set_option maxRecDepth 16384

noncomputable section

namespace Cert.LossHeadIdeal.Val

open Cert.LossHeadIdeal Cert.LossHeadIdeal.Gen Idealize.ShloMosaic Idealize.ShloMosaic.TcCoe Idealize.SL.Sem
open Idealize.ShloMosaic.Pipeline (Dat)
open Cert Cert.Products Cert.NormMath Cert.LnMath Cert.LossMath

variable (m : (ℓ : Loc nD τ sig) → Buf (Elt Ideal) ℓ)

abbrev hv (c : Dev nD) : Mat 8448 1024 := m (c, main_arg0)
abbrev yv (c : Dev nD) : Mat 8192 1024 := m (c, main_arg1)

theorem idx0 : ∀ t : Fin cfg0.N, win0_0.index t = ![t.val, 0] ∧ win0_1.index t = ![t.val, 0] ∧ win0_2.index t = ![t.val, 0] ∧ win0_3.index t = ![0, 0] :=
  (by decide +kernel : ∀ t : Fin grid0.N, win0_0.index t = ![t.val, 0] ∧ win0_1.index t = ![t.val, 0] ∧ win0_2.index t = ![t.val, 0] ∧ win0_3.index t = ![0, 0])

theorem lt22 (t : Fin cfg0.N) : t.val < 22 := N_0 ▸ t.isLt

theorem coords0 (t : Fin cfg0.N) : (grid0.coords t 0).val = t.val :=
  (by decide +kernel : ∀ t : Fin grid0.N, (grid0.coords t 0).val = t.val) t

/-- The row of the whole array that a point's row is. -/
abbrev row (t : Fin cfg0.N) (r : Fin 384) : Fin 8448 := ⟨384 * t.val + r.val, by have := lt22 t; omega⟩

/-! ## The blocks that a point reads -/

theorem b0 (c : Dev nD) (t : Fin cfg0.N) (r : Fin 384) (l : Fin 1024) : iblk m c 0 t (ix2 r l) = hv m c (ix2 (row t r) l) := by
  have := lt22 t
  blk_ext [iblk, V_main_arg0 m c, idx0 t]

/-- The targets between rows of zeros. -/
abbrev padded (y : Mat 8192 1024) : Mat 8448 1024 :=
  concatenate S8448x1024 0 [⟨S16x1024, broadcastInDim S16x1024 ![] bcast_S_S16x1024 (constant (F := Ideal) S_ .f32 0x00000000#32)⟩, ⟨S8192x1024, y⟩,
    ⟨S240x1024, broadcastInDim S240x1024 ![] bcast_S_S240x1024 (constant (F := Ideal) S_ .f32 0x00000000#32)⟩] concatenates_S16x1024_S8192x1024_S240x1024_S8448x1024_d0

/-- The joining of the three parts, over any contents. -/
theorem host0_last (v : Idealize.ShloMosaic.Valuation τ sig (Elt Ideal)) :
    StableHlo.after (hostOps0.drop 4) v (Proc.devRef .tc main_v2)
      = concatenate S8448x1024 0 [⟨S16x1024, v (Proc.devRef .tc main_v0)⟩, ⟨S8192x1024, v (Proc.devRef .tc main_arg1)⟩, ⟨S240x1024, v (Proc.devRef .tc main_v1)⟩]
        concatenates_S16x1024_S8192x1024_S240x1024_S8448x1024_d0 := by
  rw [hostOps0, List.drop_succ_cons, List.drop_succ_cons, List.drop_succ_cons, List.drop_succ_cons, List.drop_zero, StableHlo.after_cons, StableHlo.after_nil]
  exact StableHlo.nary_result _ _ _ _ _ _

/-- The parts before they are joined. -/
theorem host0_first (v : Idealize.ShloMosaic.Valuation τ sig (Elt Ideal)) :
    StableHlo.after (hostOps0.take 4) v (Proc.devRef .tc main_v0) = broadcastInDim S16x1024 ![] bcast_S_S16x1024 (constant (F := Ideal) S_ .f32 0x00000000#32)
    ∧ StableHlo.after (hostOps0.take 4) v (Proc.devRef .tc main_v1) = broadcastInDim S240x1024 ![] bcast_S_S240x1024 (constant (F := Ideal) S_ .f32 0x00000000#32)
    ∧ StableHlo.after (hostOps0.take 4) v (Proc.devRef .tc main_arg1) = v (Proc.devRef .tc main_arg1) := by
  rw [hostOps0, List.take_succ_cons, List.take_succ_cons, List.take_succ_cons, List.take_succ_cons, List.take_zero]
  refine ⟨?_, ?_, ?_⟩ <;> (entry_read; try rfl)

theorem host0 (v : Idealize.ShloMosaic.Valuation τ sig (Elt Ideal)) :
    StableHlo.after hostOps0 v (Proc.devRef .tc main_v2) = padded (v (Proc.devRef .tc main_arg1)) := by
  rw [← List.take_append_drop 4 (hostOps0 (F := Ideal)), StableHlo.after_append, host0_last, (host0_first v).1, (host0_first v).2.1, (host0_first v).2.2]

theorem V_y (c : Dev nD) : V m c main_v2 = padded (yv m c) := by
  show StableHlo.after (hostOps0 ++ []) (fun b => m (c, b)) (Proc.devRef .tc main_v2) = _
  rw [List.append_nil, host0]

theorem b1 (c : Dev nD) (t : Fin cfg0.N) (r : Fin 384) (l : Fin 1024) (h : 16 ≤ (row t r).val ∧ (row t r).val < 8208) :
    iblk m c 1 t (ix2 r l) = yv m c (ix2 (⟨(row t r).val - 16, by omega⟩ : Fin 8192) l) := by
  have hp : (win0_1.blk t).view.emb (ix2 r l) = ix2 (row t r) l := by
    have := lt22 t
    blk_ext [iblk, idx0 t]
  change V m c main_v2 ((win0_1.blk t).view.emb (ix2 r l)) = _
  rw [hp, V_y]
  pointwise [padded]
  have h0 : ¬ 384 * t.val + r.val < 16 := by simpa using h.1
  have h1 : 384 * t.val + r.val - 16 < 8192 := by have : 384 * t.val + r.val < 8208 := h.2; omega
  rw [dif_neg h0, dif_pos h1]

/-- The mask's bit: whether a row is real. -/
theorem mask_eq (t : Fin cfg0.N) (r : Fin 384) :
    IntOp.andi (IntOp.cmpi .sge (IntOp.addi (BitVec.ofNat 32 r.val) (Scalar.muli (BitVec.ofNat 32 t.val) 384#32)) 16#32)
        (IntOp.cmpi .slt (IntOp.addi (BitVec.ofNat 32 r.val) (Scalar.muli (BitVec.ofNat 32 t.val) 384#32)) 8208#32)
      = if 16 ≤ 384 * t.val + r.val ∧ 384 * t.val + r.val < 8208 then 1#1 else 0#1 :=
  (by decide +kernel : ∀ (t : Fin 22) (r : Fin 384),
    IntOp.andi (IntOp.cmpi .sge (IntOp.addi (BitVec.ofNat 32 r.val) (Scalar.muli (BitVec.ofNat 32 t.val) 384#32)) 16#32)
        (IntOp.cmpi .slt (IntOp.addi (BitVec.ofNat 32 r.val) (Scalar.muli (BitVec.ofNat 32 t.val) 384#32)) 8208#32)
      = if 16 ≤ 384 * t.val + r.val ∧ 384 * t.val + r.val < 8208 then 1#1 else 0#1) ⟨t.val, lt22 t⟩ r

theorem pay1_apply (c : Dev nD) (t : Fin cfg0.N) (r : Fin 384) (l : Fin 1024) :
    k0_pay1 (F := Ideal) (grid0.coords t) (iblk m c 0 t) (iblk m c 1 t) (ix2 r l) = onReal (err (hv m c) (yv m c) l) (row t r) := by
  pointwise [k0_pay1]
  rw [coords0, mask_eq]
  unfold onReal
  by_cases h : 16 ≤ 384 * t.val + r.val ∧ 384 * t.val + r.val < 8208
  · rw [if_pos h, dif_pos h, b0, b1 m c t r l h]
    have e : real ⟨(row t r).val - 16, by have := h.1; have := h.2; simp only [row]; omega⟩ = row t r := by
      ext
      simp only [row]
      omega
    unfold err
    rw [e]
    rfl
  · rw [if_neg h, dif_neg h]
    rfl

/-- Half of a block's loss. -/
def term (c : Dev nD) (t : Fin cfg0.N) : S8x128.Idx → EReal := fun _ => half * ∑ r : Fin 384, rowLoss (hv m c) (yv m c) (row t r)

theorem pay4_apply (c : Dev nD) (t : Fin cfg0.N) (v : Vec Ideal S8x128 .f32) (y : S8x128.Idx) :
    k0_pay4 (F := Ideal) (grid0.coords t) (iblk m c 0 t) (iblk m c 1 t) v y = v y + term m c t y := by
  idx_vars y
  pointwise [k0_pay4]
  simp only [pay1_apply]
  rfl

theorem step_A (c : Dev nD) (t : Fin cfg0.N) (h0 : t.val % 22 = 0) (y : S8x128.Idx) :
    (outsAt0 m c t.val t.isLt).2 y = k0_pay3 (F := Ideal) y + term m c t y := by
  rw [outsAt0_A m c t h0]
  frame_open
  frame_out
  exact pay4_apply m c t _ y

theorem step_B (c : Dev nD) (t : Fin cfg0.N) (h0 : ¬ t.val % 22 = 0) (y : S8x128.Idx) : (outsAt0 m c t.val t.isLt).2 y
     = (outsAt0 m c (t.val - 1) (Nat.lt_of_le_of_lt (Nat.sub_le _ _) t.isLt)).2 y + term m c t y := by
  rw [outsAt0_B m c t h0]
  frame_out
  exact pay4_apply m c t _ y

/-- The points' sums are the sum over all rows. -/
theorem sum_rows (g : Fin 8448 → EReal) : ∑ t : Fin 22, ∑ r : Fin 384, g (⟨384 * t.val + r.val, by omega⟩ : Fin 8448) = ∑ t : Fin 8448, g t := by
  have h := Fin.sum_univ_univ_mul_add 22 384 (fun t => if h : t < 8448 then g ⟨t, h⟩ else 0)
  simp only [Nat.reduceMul, Fin.is_lt, dif_pos, Fin.eta] at h
  rw [← h]
  refine Finset.sum_congr rfl fun t _ => Finset.sum_congr rfl fun r _ => ?_
  rw [dif_pos (by omega)]
  exact congrArg g (Fin.ext (show 384 * t.val + r.val = t.val * 384 + r.val by omega))

theorem after3_apply (c : Dev nD) (t : Fin cfg0.N) (ht : t.val + 1 = cfg0.N) (j : S8x128.Idx) :
    (outsAt0 m c t.val t.isLt).2 j = loss (hv m c) (yv m c) := by
  rw [Pipeline.eq_sum_fin_of_reset_step_apply_last (fun n h => (outsAt0 m c n h).2) 22 (k0_pay3 (F := Ideal)) (term m c)
    (step_A m c) (step_B m c) (by decide) t ht j]
  pointwise [k0_pay3]
  unfold loss term
  rw [← sum_rows, half_sum _ _ fun t => Finset.sum_nonneg fun r _ => rowLoss_nonneg _ _ _]
  rfl

/-- The last point. -/
def tLast : Fin cfg0.N := ⟨21, (by rw [N_0]; decide : 21 < grid0.N)⟩

theorem final3 (c : Dev nD) : (dats m 0 c).arrAt 3 cfg0.N = fun _ => loss (hv m c) (yv m c) := by
  refine (dats m 0 c).arrAt_eq_of_after_last 3 tLast (by decide +kernel) _ fun j => ?_
  blk_simp
  rw [after0_3]
  exact after3_apply m c tLast N_0.symm j

/-! ## The gradient -/

theorem after2_apply (c : Dev nD) (t : Fin cfg0.N) (y : S384x1024.Idx) :
    (outsAt0 m c t.val t.isLt).1 y = onReal (err (hv m c) (yv m c) (y 1)) (row t (y 0)) * part := by
  have e : k0_pay2 (F := Ideal) (grid0.coords t) (iblk m c 0 t) (iblk m c 1 t) y = onReal (err (hv m c) (yv m c) (y 1)) (row t (y 0)) * part := by
    idx_vars y
    pointwise [k0_pay2]
    rw [pay1_apply]
  by_cases h0 : t.val % 22 = 0
  · rw [outsAt0_A m c t h0]
    frame_out
    exact e
  · rw [outsAt0_B m c t h0]
    frame_out
    exact e

theorem final2 (c : Dev nD) : (dats m 0 c).arrAt 2 cfg0.N = grad (hv m c) (yv m c) := by
  refine (dats m 0 c).arrAt_eq_of_covers 2 _ (by decide +kernel) fun t hf y => ?_
  blk_simp
  rw [after0_2]
  have hy : (win0_2.blk t).view.emb y = ix2 (row t (y 0)) (y 1) := by
    have := lt22 t
    blk_ext [idx0 t]
  rw [hy, after2_apply]
  rfl

end Cert.LossHeadIdeal.Val
end
-- ==== Proof.LossHeadRef.lean ====
/- The reference's loss and its gradient in closed form. -/
module

public import proofs.«01_k».proof.Proof.Gen.LossHeadReferenceIdeal.Read
public import proofs.«01_k».proof.Proof.LossMath

@[expose] public section

set_option maxRecDepth 16384

noncomputable section

namespace Cert.LossHeadReferenceIdeal.Val

open Idealize.ShloMosaic Idealize.ShloMosaic.TcCoe Idealize.SL.Sem
open Cert Cert.Products Cert.NormMath Cert.LnMath Cert.LossMath Cert.LossHeadReferenceIdeal Cert.LossHeadReferenceIdeal.Gen Cert.LossHeadReferenceIdeal.Read

variable (h : Mat 8448 1024) (y : Mat 8192 1024)

theorem v1_apply (n : Fin 8192) (l : Fin 1024) : val_main_v1 (F := Ideal) h y (ix2 n l) = err h y l n := by
  pointwise [val_main_v1, val_main_v0]

theorem v7_apply (n : Fin 8192) : val_main_v7 (F := Ideal) h y (ix1 n) = Ideal.div (∑ l : Fin 1024, err h y l n * err h y l n) cols := by
  pointwise [val_main_v7, val_main_v6, val_main_cst_1, val_main_v5, val_main_cst_0, val_main_v2]
  simp only [v1_apply]

theorem v15_apply (n : Fin 8192) (l : Fin 1024) : val_main_v15 (F := Ideal) h y (ix2 n l) = err h y l n * part := by
  pointwise [val_main_v15, val_main_v14, val_main_v13, val_main_v12, val_main_cst_6, val_main_v11, val_main_v10, val_main_cst_5, val_main_cst_4, val_main_v4, val_main_v3, val_main_cst]
  rw [v1_apply]
  exact scale_eq _

theorem grad_eq : val_main_v18 (F := Ideal) h y = grad h y := by
  funext i
  idx_vars i
  pointwise [val_main_v18, val_main_v16, val_main_cst_7, val_main_v17, val_main_cst_8]
  change _ = onReal (err h y i1) i0 * part
  unfold onReal
  by_cases h0 : i0.val < 16
  · rw [dif_pos h0, dif_neg (by omega), zero_mul]
  · rw [dif_neg h0]
    by_cases h1 : i0.val - 16 < 8192
    · rw [dif_pos h1, dif_pos (by omega), v15_apply]
    · rw [dif_neg h1, dif_neg (by omega), zero_mul]

theorem loss_eq' : val_main_v19 (F := Ideal) h y = fun _ => loss h y := by
  funext i
  rw [loss_eq]
  pointwise [val_main_v19, val_main_v9, val_main_cst_3, val_main_v8, val_main_cst_2]
  simp only [v7_apply]
  rfl

end Cert.LossHeadReferenceIdeal.Val
end
-- ==== Proof.LossHeadClaim.lean ====
/- The claims about the loss and its gradient: the frames and the equality of the results. -/
module

public import proofs.«01_k».proof.Proof.Gen.LossHead.Frame
public import proofs.«01_k».proof.Proof.LossHeadKernel
public import proofs.«01_k».proof.Proof.LossHeadRef

@[expose] public section

set_option maxRecDepth 16384

noncomputable section

namespace Cert.LossHeadClaim

open Idealize.ShloMosaic Idealize.ShloMosaic.TcCoe Idealize.SL.Sem
open Cert Cert.Products Cert.LossMath

local instance : Cert.LossHead.Facts := Cert.LossHead.Gen.facts
local instance : Cert.LossHeadIdeal.Facts := Cert.LossHeadIdeal.Gen.facts
local instance : Cert.LossHeadReferenceIdeal.Facts := Cert.LossHeadReferenceIdeal.Gen.facts

theorem frame_k : Cert.quiescent_LossHead := fun m ρ _ => Cert.LossHead.Gen.frame m ρ
theorem frame_ki : Cert.quiescent_LossHeadIdeal := fun m ρ _ => Cert.LossHeadIdeal.Gen.frame m ρ
theorem frame_ri : Cert.quiescent_LossHeadReferenceIdeal := fun m ρ _ =>
  (θ_run Cert.LossHeadReferenceIdeal.defs _ _).mono (fun r h => ⟨fun c => (h c).2.2, sem_eq_zero_of_no_sems (by decide) r.2⟩)
    (Cert.LossHeadReferenceIdeal.Value.run (F := Ideal) m ρ)

/-- Both programs leave the closed forms of LossMath. -/
theorem algebraic : Cert.algebraic_LossHeadIdeal_LossHeadReferenceIdeal := fun m g m' g' _ hm =>
  ⟨fun c => grad (LossHeadIdeal.Val.hv m c) (LossHeadIdeal.Val.yv m c),
   fun c _ => loss (LossHeadIdeal.Val.hv m c) (LossHeadIdeal.Val.yv m c),
   (θ_run Cert.LossHeadIdeal.defs _ _).mono (fun _ h c => ⟨(h c).1.trans (LossHeadIdeal.Val.final2 m c), (h c).2.1.trans (LossHeadIdeal.Val.final3 m c), (h c).2.2⟩)
     (Cert.LossHeadIdeal.Value.run_blocks (F := Ideal) m g),
   (θ_run Cert.LossHeadReferenceIdeal.defs _ _).mono (fun _ h c => by
      obtain ⟨e0, e1⟩ := hm c
      obtain ⟨h0, h1, hk⟩ := h c
      refine ⟨h0.trans ?_, h1.trans ?_, hk⟩
      · rw [e0, e1]
        exact LossHeadReferenceIdeal.Val.grad_eq _ _
      · rw [e0, e1]
        exact LossHeadReferenceIdeal.Val.loss_eq' _ _)
     (Cert.LossHeadReferenceIdeal.Value.run (F := Ideal) m' g')⟩

end Cert.LossHeadClaim
end
-- ==== Proof.QkvHost.lean ====
/- What the host prepares for the kernel of the queries, keys and values: the weights spread over lanes of 128 a head, and the
   rotation's tables, read at an index. -/
module

public import proofs.«01_k».proof.Proof.Gen.QkvIdeal.Value
public import proofs.«01_k».proof.Proof.Products

@[expose] public section

set_option maxRecDepth 16384

noncomputable section

namespace Cert.QkvIdeal.Val

open Cert.QkvIdeal Cert.QkvIdeal.Gen Idealize.ShloMosaic Idealize.ShloMosaic.TcCoe Idealize.SL.Sem
open Idealize.ShloMosaic.Pipeline (Dat)
open Cert Cert.Products

variable (m : (ℓ : Loc nD τ sig) → Buf (Elt Ideal) ℓ)

abbrev zv (c : Dev nD) : Mat 8448 4096 := m (c, main_arg0)
abbrev gqv (c : Dev nD) : Mat 1 256 := m (c, main_arg1)
abbrev gkvv (c : Dev nD) : Mat 1 128 := m (c, main_arg2)
abbrev wuqv (c : Dev nD) : Mat 256 768 := m (c, main_arg3)
abbrev wukvv (c : Dev nD) : Mat 128 1024 := m (c, main_arg4)
abbrev cosv (c : Dev nD) : Mat 8448 16 := m (c, main_arg5)
abbrev sinv (c : Dev nD) : Mat 8448 16 := m (c, main_arg6)

/-- Zero in a lane. -/
abbrev z16 : (⟨0, ![]⟩ : Shape).Idx → EReal := sitofp (F := Ideal) .bf16 (constantI S_ 32 0#32)

/-- The queries' weight, 96 columns a head, spread over 128 lanes a head. -/
abbrev wqOf (w : Mat 256 768) : Mat 256 1024 := shapeCast S256x1024
    (pad S256x8x128 ![0, 0, 0] ![0, 0, 32] ![0, 0, 0] (shapeCast S256x8x96 w shapeCasts_S256x768_S256x8x96) z16
      pads_S256x8x96_S256x8x128_000_000_0320 h_S_) shapeCasts_S256x8x128_S256x1024

/-- The keys' weight for the latent: the first 64 of 128 columns a head, the others zero. -/
abbrev wkTop (w : Mat 128 1024) : Mat 128 1024 := shapeCast S128x1024
    (pad S128x8x128 ![0, 0, 0] ![0, 0, 64] ![0, 0, 0] (extractStridedSlice S128x8x64 ![0, 0, 0] (shapeCast S128x8x128 w shapeCasts_S128x1024_S128x8x128) slices_S128x8x128_S128x8x64_0_0_0) z16
      pads_S128x8x64_S128x8x128_000_000_0640 h_S_) shapeCasts_S128x8x128_S128x1024

/-- The values' weight: the last 64 of 128 columns a head in the first 64 lanes, the others zero. -/
abbrev wvOf (w : Mat 128 1024) : Mat 128 1024 := shapeCast S128x1024
    (pad S128x8x128 ![0, 0, 0] ![0, 0, 64] ![0, 0, 0] (extractStridedSlice S128x8x64 ![0, 0, 64] (shapeCast S128x8x128 w shapeCasts_S128x1024_S128x8x128) slices_S128x8x128_S128x8x64_0_0_64) z16
      pads_S128x8x64_S128x8x128_000_000_0640 h_S_) shapeCasts_S128x8x128_S128x1024

/-- The lanes that the shared rotary key goes to, the lane's number within its head being 64 more than the row's. -/
abbrev placed : IVec S128x1024 1 :=
  andi (cmpi .slt (iotaInDim S128x1024 32 0) (broadcastInDim S128x1024 ![] bcast_S_S128x1024 (constantI S_ 32 32#32)))
    (cmpi .eq (andi (iotaInDim S128x1024 32 1) (broadcastInDim S128x1024 ![] bcast_S_S128x1024 (constantI S_ 32 127#32)))
      (addi (broadcastInDim S128x1024 ![] bcast_S_S128x1024 (constantI S_ 32 64#32)) (iotaInDim S128x1024 32 0)))

/-- One where the shared rotary key goes, zero elsewhere. -/
abbrev place : Mat 128 1024 := truncf (F := Ideal) .bf16 (select placed (broadcastInDim S128x1024 ![] bcast_S_S128x1024 (constant (F := Ideal) S_ .f32 0x3F800000#32))
      (broadcastInDim S128x1024 ![] bcast_S_S128x1024 (constant (F := Ideal) S_ .f32 0x00000000#32))) bitsLt_bf16_f32

abbrev wkOf (w : Mat 128 1024) : Mat 256 1024 :=
  concatenate S256x1024 0 [⟨S128x1024, wkTop w⟩, ⟨S128x1024, place⟩] concatenates_S128x1024_S128x1024_S256x1024_d0

theorem V_wq (c : Dev nD) : V m c main_v2 = wqOf (wuqv m c) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V_wv (c : Dev nD) : V m c main_v22 = wvOf (wukvv m c) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V_wk (c : Dev nD) : V m c main_v19 = wkOf (wukvv m c) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The integer zero as a number. -/
theorem zero_eq : (FloatOps.sitofp FTy.bf16 0#32 : Ideal .bf16) = (0 : EReal) := by
  show (((0#32 : BitVec 32).toInt : ℝ) : EReal) = 0
  simp

theorem wq_apply (w : Mat 256 768) (k : Fin 256) (j : Fin 1024) : wqOf w (ix2 k j)
    = if h : j.val % 128 < 96 then w (ix2 k (⟨96 * (j.val / 128) + j.val % 128, by omega⟩ : Fin 768)) else 0 := by
  pointwise
  split <;> rename_i h
  · rw [dif_pos h.2]
    have e : j.val / 128 * 96 + j.val % 128 = 96 * (j.val / 128) + j.val % 128 := by omega
    simp only [e]
  · rw [dif_neg (by omega), zero_eq]

theorem wkTop_apply (w : Mat 128 1024) (k : Fin 128) (j : Fin 1024) : wkTop w (ix2 k j)
    = if j.val % 128 < 64 then w (ix2 k j) else 0 := by
  pointwise
  split <;> rename_i h
  · rw [if_pos h.2]
  · rw [if_neg (by omega), zero_eq]

theorem wv_apply (w : Mat 128 1024) (k : Fin 128) (j : Fin 1024) : wvOf w (ix2 k j)
    = if h : j.val % 128 < 64 then w (ix2 k (⟨j.val + 64, by omega⟩ : Fin 1024)) else 0 := by
  pointwise
  split <;> rename_i h
  · rw [dif_pos h.2]
    have e : j.val / 128 * 128 + (64 + j.val % 128) = j.val + 64 := by omega
    simp only [e]
  · rw [dif_neg (by omega), zero_eq]

theorem low_eq (j : Fin 1024) : IntOp.andi (BitVec.ofNat 32 j.val) 127#32 = BitVec.ofNat 32 (j.val % 128) :=
  (by decide +kernel : ∀ j : Fin 1024, IntOp.andi (BitVec.ofNat 32 j.val) 127#32 = BitVec.ofNat 32 (j.val % 128)) j

theorem placed_eq (k d : Fin 128) : IntOp.andi (IntOp.cmpi CmpIPredicate.slt (BitVec.ofNat 32 k.val) 32#32)
    (IntOp.cmpi CmpIPredicate.eq (BitVec.ofNat 32 d.val) (IntOp.addi (64#32) (BitVec.ofNat 32 k.val))) = if k.val < 32 ∧ d.val = 64 + k.val then 1#1 else 0#1 :=
  (by decide +kernel : ∀ k d : Fin 128, IntOp.andi (IntOp.cmpi CmpIPredicate.slt (BitVec.ofNat 32 k.val) 32#32)
    (IntOp.cmpi CmpIPredicate.eq (BitVec.ofNat 32 d.val) (IntOp.addi (64#32) (BitVec.ofNat 32 k.val))) = if k.val < 32 ∧ d.val = 64 + k.val then 1#1 else 0#1) k d

theorem place_apply (k : Fin 128) (j : Fin 1024) : place (ix2 k j) = if k.val < 32 ∧ j.val % 128 = 64 + k.val then 1 else 0 := by
  pointwise
  rw [low_eq, placed_eq k ⟨j.val % 128, by omega⟩]
  by_cases h : k.val < 32 ∧ j.val % 128 = 64 + k.val
  · rw [if_pos h, if_pos h]; rfl
  · rw [if_neg h, if_neg h]; rfl

theorem wk_apply (w : Mat 128 1024) (k : Fin 256) (j : Fin 1024) : wkOf w (ix2 k j)
    = if h : k.val < 128 then wkTop w (ix2 (⟨k.val, h⟩ : Fin 128) j) else place (ix2 (⟨k.val - 128, by omega⟩ : Fin 128) j) := by
  rw [wkOf]
  generalize wkTop w = a
  generalize place = b
  pointwise

/-! ## The rotation's tables -/

/-- The cosines over 128 lanes: one in the first 64, the 16 cosines twice, zero. -/
abbrev cOf (x : Mat 8448 16) : Mat 8448 128 :=
  concatenate S8448x128 1 [⟨S8448x64, broadcastInDim S8448x64 ![] bcast_S_S8448x64 (constant (F := Ideal) S_ .f32 0x3F800000#32)⟩,
      ⟨S8448x16, x⟩, ⟨S8448x16, x⟩, ⟨S8448x32, broadcastInDim S8448x32 ![] bcast_S_S8448x32 (constant (F := Ideal) S_ .f32 0x00000000#32)⟩]
      concatenates_S8448x64_S8448x16_S8448x16_S8448x32_S8448x128_d1

/-- The sines in the lanes 80 to 95, zero elsewhere. -/
abbrev s1Of (x : Mat 8448 16) : Mat 8448 128 :=
  concatenate S8448x128 1 [⟨S8448x80, broadcastInDim S8448x80 ![] bcast_S_S8448x80 (constant (F := Ideal) S_ .f32 0x00000000#32)⟩,
      ⟨S8448x16, x⟩, ⟨S8448x32, broadcastInDim S8448x32 ![] bcast_S_S8448x32 (constant (F := Ideal) S_ .f32 0x00000000#32)⟩]
      concatenates_S8448x80_S8448x16_S8448x32_S8448x128_d1

/-- The sines' negatives in the lanes 64 to 79, zero elsewhere. -/
abbrev s2Of (x : Mat 8448 16) : Mat 8448 128 :=
  concatenate S8448x128 1 [⟨S8448x64, broadcastInDim S8448x64 ![] bcast_S_S8448x64 (constant (F := Ideal) S_ .f32 0x00000000#32)⟩,
      ⟨S8448x16, Host.negf (F := Ideal) (φ := .f32) x⟩, ⟨S8448x48, broadcastInDim S8448x48 ![] bcast_S_S8448x48 (constant (F := Ideal) S_ .f32 0x00000000#32)⟩]
      concatenates_S8448x64_S8448x16_S8448x48_S8448x128_d1

/-- The host's operations before the tables. -/
abbrev front : List (HloOp τ sig (Elt Ideal)) := hostOps0 ++ (hostOps0_1 ++ (hostOps0_2 ++ (hostOps0_3 ++ (hostOps0_4 ++ (hostOps0_5 ++ (hostOps0_6 ++ hostOps0_7))))))

theorem front_arg5 (v : Idealize.ShloMosaic.Valuation τ sig (Elt Ideal)) : StableHlo.after front v (Proc.devRef .tc main_arg5) = v (Proc.devRef .tc main_arg5) := by
  simp only [front, hostOps0, hostOps0_1, hostOps0_2, hostOps0_3, hostOps0_4, hostOps0_5, hostOps0_6, hostOps0_7, List.cons_append, List.nil_append]
  entry_read
  rfl

theorem front_arg6 (v : Idealize.ShloMosaic.Valuation τ sig (Elt Ideal)) : StableHlo.after front v (Proc.devRef .tc main_arg6) = v (Proc.devRef .tc main_arg6) := by
  simp only [front, hostOps0, hostOps0_1, hostOps0_2, hostOps0_3, hostOps0_4, hostOps0_5, hostOps0_6, hostOps0_7, List.cons_append, List.nil_append]
  entry_read
  rfl

theorem take5 (v : Idealize.ShloMosaic.Valuation τ sig (Elt Ideal)) :
    StableHlo.after (hostOps0_8.take 5) v (Proc.devRef .tc main_v23) = broadcastInDim S8448x64 ![] bcast_S_S8448x64 (constant (F := Ideal) S_ .f32 0x3F800000#32)
    ∧ StableHlo.after (hostOps0_8.take 5) v (Proc.devRef .tc main_v24) = broadcastInDim S8448x32 ![] bcast_S_S8448x32 (constant (F := Ideal) S_ .f32 0x00000000#32)
    ∧ StableHlo.after (hostOps0_8.take 5) v (Proc.devRef .tc main_arg5) = v (Proc.devRef .tc main_arg5)
    ∧ StableHlo.after (hostOps0_8.take 5) v (Proc.devRef .tc main_arg6) = v (Proc.devRef .tc main_arg6) := by
  rw [hostOps0_8, List.take_succ_cons, List.take_succ_cons, List.take_succ_cons, List.take_succ_cons, List.take_succ_cons, List.take_zero]
  refine ⟨?_, ?_, ?_, ?_⟩ <;> (entry_read; try rfl)

theorem drop6 (v : Idealize.ShloMosaic.Valuation τ sig (Elt Ideal)) :
    StableHlo.after (hostOps0_8.drop 6) v (Proc.devRef .tc main_v25) = v (Proc.devRef .tc main_v25) := by
  rw [hostOps0_8, List.drop_succ_cons, List.drop_succ_cons, List.drop_succ_cons, List.drop_succ_cons, List.drop_succ_cons, List.drop_succ_cons, List.drop_zero]
  entry_read
  rfl

theorem at5 (v : Idealize.ShloMosaic.Valuation τ sig (Elt Ideal)) :
    StableHlo.after ((hostOps0_8.drop 5).take 1) v (Proc.devRef .tc main_v25)
      = concatenate S8448x128 1 [⟨S8448x64, v (Proc.devRef .tc main_v23)⟩, ⟨S8448x16, v (Proc.devRef .tc main_arg5)⟩, ⟨S8448x16, v (Proc.devRef .tc main_arg5)⟩,
          ⟨S8448x32, v (Proc.devRef .tc main_v24)⟩] concatenates_S8448x64_S8448x16_S8448x16_S8448x32_S8448x128_d1 := by
  rw [hostOps0_8, List.drop_succ_cons, List.drop_succ_cons, List.drop_succ_cons, List.drop_succ_cons, List.drop_succ_cons, List.drop_zero, List.take_succ_cons, List.take_zero,
    StableHlo.after_cons, StableHlo.after_nil]
  exact StableHlo.nary_result _ _ _ _ _ _

theorem cut5 : (hostOps0_8 : List (HloOp τ sig (Elt Ideal))) = hostOps0_8.take 5 ++ ((hostOps0_8.drop 5).take 1 ++ hostOps0_8.drop 6) := rfl

theorem host8_c (v : Idealize.ShloMosaic.Valuation τ sig (Elt Ideal)) :
    StableHlo.after hostOps0_8 v (Proc.devRef .tc main_v25) = cOf (v (Proc.devRef .tc main_arg5)) := by
  rw [cut5, StableHlo.after_append, StableHlo.after_append, drop6, at5, (take5 v).1, (take5 v).2.1, (take5 v).2.2.1]

theorem take10 (v : Idealize.ShloMosaic.Valuation τ sig (Elt Ideal)) :
    StableHlo.after (hostOps0_8.take 10) v (Proc.devRef .tc main_v26) = broadcastInDim S8448x80 ![] bcast_S_S8448x80 (constant (F := Ideal) S_ .f32 0x00000000#32)
    ∧ StableHlo.after (hostOps0_8.take 10) v (Proc.devRef .tc main_v27) = broadcastInDim S8448x32 ![] bcast_S_S8448x32 (constant (F := Ideal) S_ .f32 0x00000000#32)
    ∧ StableHlo.after (hostOps0_8.take 10) v (Proc.devRef .tc main_arg6) = v (Proc.devRef .tc main_arg6) := by
  rw [hostOps0_8, List.take_succ_cons, List.take_succ_cons, List.take_succ_cons, List.take_succ_cons, List.take_succ_cons, List.take_succ_cons, List.take_succ_cons, List.take_succ_cons, List.take_succ_cons, List.take_succ_cons, List.take_zero]
  refine ⟨?_, ?_, ?_⟩ <;> (entry_read; try rfl)

theorem at10 (v : Idealize.ShloMosaic.Valuation τ sig (Elt Ideal)) :
    StableHlo.after ((hostOps0_8.drop 10).take 1) v (Proc.devRef .tc main_v28)
      = concatenate S8448x128 1 [⟨S8448x80, v (Proc.devRef .tc main_v26)⟩, ⟨S8448x16, v (Proc.devRef .tc main_arg6)⟩,
          ⟨S8448x32, v (Proc.devRef .tc main_v27)⟩] concatenates_S8448x80_S8448x16_S8448x32_S8448x128_d1 := by
  rw [hostOps0_8, List.drop_succ_cons, List.drop_succ_cons, List.drop_succ_cons, List.drop_succ_cons, List.drop_succ_cons, List.drop_succ_cons, List.drop_succ_cons, List.drop_succ_cons, List.drop_succ_cons, List.drop_succ_cons, List.drop_zero, List.take_succ_cons, List.take_zero,
    StableHlo.after_cons, StableHlo.after_nil]
  exact StableHlo.nary_result _ _ _ _ _ _

theorem drop11 (v : Idealize.ShloMosaic.Valuation τ sig (Elt Ideal)) :
    StableHlo.after (hostOps0_8.drop 11) v (Proc.devRef .tc main_v28) = v (Proc.devRef .tc main_v28) := by
  rw [hostOps0_8, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_zero]
  entry_read
  rfl

theorem host8_s1 (v : Idealize.ShloMosaic.Valuation τ sig (Elt Ideal)) :
    StableHlo.after hostOps0_8 v (Proc.devRef .tc main_v28) = s1Of (v (Proc.devRef .tc main_arg6)) := by
  rw [show (hostOps0_8 : List (HloOp τ sig (Elt Ideal))) = hostOps0_8.take 10 ++ ((hostOps0_8.drop 10).take 1 ++ hostOps0_8.drop 11) from rfl,
    StableHlo.after_append, StableHlo.after_append, drop11, at10, (take10 v).1, (take10 v).2.1, (take10 v).2.2]

theorem take16 (v : Idealize.ShloMosaic.Valuation τ sig (Elt Ideal)) :
    StableHlo.after (hostOps0_8.take 16) v (Proc.devRef .tc main_v29) = broadcastInDim S8448x64 ![] bcast_S_S8448x64 (constant (F := Ideal) S_ .f32 0x00000000#32)
    ∧ StableHlo.after (hostOps0_8.take 16) v (Proc.devRef .tc main_v31) = broadcastInDim S8448x48 ![] bcast_S_S8448x48 (constant (F := Ideal) S_ .f32 0x00000000#32)
    ∧ StableHlo.after (hostOps0_8.take 16) v (Proc.devRef .tc main_v30) = Host.negf (F := Ideal) (φ := .f32) (v (Proc.devRef .tc main_arg6)) := by
  rw [hostOps0_8, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_zero]
  refine ⟨?_, ?_, ?_⟩ <;> (entry_read; try rfl)

theorem at16 (v : Idealize.ShloMosaic.Valuation τ sig (Elt Ideal)) :
    StableHlo.after (hostOps0_8.drop 16) v (Proc.devRef .tc main_v32)
      = concatenate S8448x128 1 [⟨S8448x64, v (Proc.devRef .tc main_v29)⟩, ⟨S8448x16, v (Proc.devRef .tc main_v30)⟩,
          ⟨S8448x48, v (Proc.devRef .tc main_v31)⟩] concatenates_S8448x64_S8448x16_S8448x48_S8448x128_d1 := by
  rw [hostOps0_8, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_zero,
    StableHlo.after_cons, StableHlo.after_nil]
  exact StableHlo.nary_result _ _ _ _ _ _

theorem host8_s2 (v : Idealize.ShloMosaic.Valuation τ sig (Elt Ideal)) :
    StableHlo.after hostOps0_8 v (Proc.devRef .tc main_v32) = s2Of (v (Proc.devRef .tc main_arg6)) := by
  rw [show (hostOps0_8 : List (HloOp τ sig (Elt Ideal))) = hostOps0_8.take 16 ++ hostOps0_8.drop 16 from rfl,
    StableHlo.after_append, at16, (take16 v).1, (take16 v).2.1, (take16 v).2.2]

theorem V_eq (c : Dev nD) (b : Ref sig .tc) : V m c b = StableHlo.after hostOps0_8 (StableHlo.after front (fun b => m (c, b))) (Proc.devRef .tc b) := by
  rw [← StableHlo.after_append]
  rfl

theorem V_c (c : Dev nD) : V m c main_v25 = cOf (cosv m c) := by
  rw [V_eq, host8_c, front_arg5]

theorem V_s1 (c : Dev nD) : V m c main_v28 = s1Of (sinv m c) := by
  rw [V_eq, host8_s1, front_arg6]

theorem V_s2 (c : Dev nD) : V m c main_v32 = s2Of (sinv m c) := by
  rw [V_eq, host8_s2, front_arg6]

theorem c_apply (x : Mat 8448 16) (i : Fin 8448) (d : Fin 128) : cOf x (ix2 i d)
    = if h : d.val < 64 then 1 else if h : d.val - 64 < 16 then x (ix2 i (⟨d.val - 64, h⟩ : Fin 16))
      else if h : d.val - 64 - 16 < 16 then x (ix2 i (⟨d.val - 64 - 16, h⟩ : Fin 16)) else 0 := by
  pointwise

theorem s1_apply (x : Mat 8448 16) (i : Fin 8448) (d : Fin 128) : s1Of x (ix2 i d)
    = if d.val < 80 then 0 else if h : d.val - 80 < 16 then x (ix2 i (⟨d.val - 80, h⟩ : Fin 16)) else 0 := by
  pointwise
  rfl

theorem s2_apply (x : Mat 8448 16) (i : Fin 8448) (d : Fin 128) : s2Of x (ix2 i d)
    = if d.val < 64 then 0 else if h : d.val - 64 < 16 then -x (ix2 i (⟨d.val - 64, h⟩ : Fin 16)) else 0 := by
  pointwise
  rfl

end Cert.QkvIdeal.Val
end
-- ==== Proof.QkvMath.lean ====
/- The closed forms of the attention's queries, keys and values: a row normalised by its root mean square, the products of the heads,
   the rotation by position, and the places of the heads' columns in lanes of 128. -/
module

public import proofs.«01_k».proof.Proof.Products

@[expose] public section

noncomputable section

namespace Cert.QkvMath

open Idealize.ShloMosaic Idealize.ShloMosaic.TcCoe
open Cert Cert.Products

/-- The numbers of columns of the two latents, as the programs write them. -/
abbrev cols256 : EReal := (Scalar.ofBits .f32 0x43800000#32 : Ideal .f32)
abbrev cols128 : EReal := (Scalar.ofBits .f32 0x43000000#32 : Ideal .f32)
/-- The number added to a mean square, the single-precision number nearest to 10⁻⁶. -/
abbrev eps : EReal := (Scalar.ofBits .f32 0x358637BD#32 : Ideal .f32)
/-- The queries' scale, the single-precision number nearest to 96^(-1/2) log₂ e. -/
abbrev scale : EReal := (Scalar.ofBits .f32 0x3E16C740#32 : Ideal .f32)

/-- A row divided by its root mean square and scaled by `g`. -/
def rms {n : ℕ} (cols : EReal) (x : Fin n → EReal) (g : Mat 1 n) (j : Fin n) : EReal :=
  x j * Ideal.rsqrt (Ideal.div (∑ k, x k * x k) cols + eps) * g (ix2 0 j)

variable (z : Mat 8448 4096) (gq : Mat 1 256) (gkv : Mat 1 128) (wq : Mat 256 768) (wkv : Mat 128 1024) (co si : Mat 8448 16)

/-- The queries' latent, normalised. -/
def qn (i : Fin 8448) (j : Fin 256) : EReal := rms cols256 (fun k : Fin 256 => z (ix2 i (⟨1536 + k.val, by omega⟩ : Fin 4096))) gq j

/-- The keys' and values' latent, normalised. -/
def kvn (i : Fin 8448) (j : Fin 128) : EReal := rms cols128 (fun k : Fin 128 => z (ix2 i (⟨1792 + k.val, by omega⟩ : Fin 4096))) gkv j

/-- The latent beside the shared rotary key. -/
def kin (i : Fin 8448) (j : Fin 256) : EReal :=
  if h : j.val < 128 then kvn z gkv i ⟨j.val, h⟩ else z (ix2 i (⟨1792 + j.val, by omega⟩ : Fin 4096))

/-- A head's column: the last 32 turned in pairs by the position's angles. -/
def rope (x : Fin 96 → EReal) (c s : Fin 16 → EReal) (d : Fin 96) : EReal :=
  if h : d.val < 64 then x d
  else if h' : d.val - 64 < 16 then x d * c ⟨d.val - 64, h'⟩ - x ⟨d.val + 16, by omega⟩ * s ⟨d.val - 64, h'⟩
  else x d * c ⟨d.val - 64 - 16, by omega⟩ + x ⟨d.val - 16, by omega⟩ * s ⟨d.val - 64 - 16, by omega⟩

/-- The column `d` of the query head that lane `j` belongs to. -/
def qHead (i : Fin 8448) (j : Fin 1024) (d : Fin 96) : EReal :=
  ∑ k : Fin 256, qn z gq i k * wq (ix2 k (⟨96 * (j.val / 128) + d.val, by omega⟩ : Fin 768))

/-- The column `d` of the key head that lane `j` belongs to: its own 64, then the shared 32. -/
def kHead (i : Fin 8448) (j : Fin 1024) (d : Fin 96) : EReal :=
  if h : d.val < 64 then ∑ k : Fin 128, kvn z gkv i k * wkv (ix2 k (⟨128 * (j.val / 128) + d.val, by omega⟩ : Fin 1024))
  else z (ix2 i (⟨1920 + (d.val - 64), by omega⟩ : Fin 4096))

/-- The queries, scaled. -/
def q (i : Fin 8448) (j : Fin 1024) : EReal :=
  if h : j.val % 128 < 96 then rope (qHead z gq wq i j) (fun e => co (ix2 i e)) (fun e => si (ix2 i e)) ⟨j.val % 128, h⟩ * scale else 0

/-- The keys. -/
def k (i : Fin 8448) (j : Fin 1024) : EReal :=
  if h : j.val % 128 < 96 then rope (kHead z gkv wkv i j) (fun e => co (ix2 i e)) (fun e => si (ix2 i e)) ⟨j.val % 128, h⟩ else 0

/-- The values, beside ones. -/
def v (i : Fin 8448) (j : Fin 1024) : EReal :=
  if h : j.val % 128 < 64 then ∑ k : Fin 128, kvn z gkv i k * wkv (ix2 k (⟨j.val + 64, by omega⟩ : Fin 1024)) else 1

/-- The rotation by two shifts of all lanes against tables that are zero outside their lanes is the rotation of each head. -/
theorem turn (p : Fin 1024 → EReal) (x : Fin 96 → EReal) (c s : Fin 16 → EReal) (j : Fin 1024)
    (hp : ∀ k : Fin 1024, k.val / 128 = j.val / 128 → p k = if h : k.val % 128 < 96 then x ⟨k.val % 128, h⟩ else 0) :
    p j * (if h : j.val % 128 < 64 then 1 else if h : j.val % 128 - 64 < 16 then c ⟨j.val % 128 - 64, h⟩
          else if h : j.val % 128 - 64 - 16 < 16 then c ⟨j.val % 128 - 64 - 16, h⟩ else 0)
      + p (⟨(j.val + 1024 - 16) % 1024, by omega⟩ : Fin 1024)
        * (if j.val % 128 < 80 then 0 else if h : j.val % 128 - 80 < 16 then s ⟨j.val % 128 - 80, h⟩ else 0)
      + p (⟨(j.val + 1024 - 1008) % 1024, by omega⟩ : Fin 1024)
        * (if j.val % 128 < 64 then 0 else if h : j.val % 128 - 64 < 16 then -s ⟨j.val % 128 - 64, h⟩ else 0)
      = if h : j.val % 128 < 96 then rope x c s ⟨j.val % 128, h⟩ else 0 := by
  have hj := j.isLt
  by_cases h64 : j.val % 128 < 64
  · rw [dif_pos h64, if_pos (by omega), if_pos h64, dif_pos (by omega), rope, dif_pos h64, hp j rfl, dif_pos (by omega), mul_one, mul_zero, mul_zero, add_zero, add_zero]
  by_cases h80 : j.val % 128 - 64 < 16
  · rw [dif_neg h64, dif_pos h80, if_pos (by omega), if_neg h64, dif_pos h80, dif_pos (by omega), rope, dif_neg h64, dif_pos h80, hp j rfl, dif_pos (by omega), mul_zero, add_zero,
      hp ⟨(j.val + 1024 - 1008) % 1024, by omega⟩ (by show (j.val + 1024 - 1008) % 1024 / 128 = _; omega), dif_pos (by show (j.val + 1024 - 1008) % 1024 % 128 < 96; omega), mul_neg]
    have e : (j.val + 1024 - 1008) % 1024 % 128 = j.val % 128 + 16 := by omega
    simp only [e]
    rfl
  by_cases h96 : j.val % 128 - 64 - 16 < 16
  · rw [dif_neg h64, dif_neg h80, dif_pos h96, if_neg (by omega), dif_pos (by omega), if_neg h64, dif_neg h80, dif_pos (by omega), rope, dif_neg h64, dif_neg h80, hp j rfl, dif_pos (by omega), mul_zero, add_zero,
      hp ⟨(j.val + 1024 - 16) % 1024, by omega⟩ (by show (j.val + 1024 - 16) % 1024 / 128 = _; omega), dif_pos (by show (j.val + 1024 - 16) % 1024 % 128 < 96; omega)]
    have e : (j.val + 1024 - 16) % 1024 % 128 = j.val % 128 - 16 := by omega
    have e' : j.val % 128 - 80 = j.val % 128 - 64 - 16 := by omega
    simp only [e, e']
  · rw [dif_neg h64, dif_neg h80, dif_neg h96, if_neg (by omega), dif_neg (by omega), if_neg h64, dif_neg h80, dif_neg (by omega), mul_zero, mul_zero, mul_zero, add_zero, add_zero]

end Cert.QkvMath
end
-- ==== Proof.QkvKernel.lean ====
/- The kernel of the queries, keys and values, read at an index: 22 blocks of rows. -/
module

public import proofs.«01_k».proof.Proof.QkvHost
public import proofs.«01_k».proof.Proof.QkvMath

@[expose] public section

set_option maxRecDepth 16384

noncomputable section

namespace Cert.QkvIdeal.Val

open Cert.QkvIdeal Cert.QkvIdeal.Gen Idealize.ShloMosaic Idealize.ShloMosaic.TcCoe Idealize.SL.Sem
open Idealize.ShloMosaic.Pipeline (Dat)
open Cert Cert.Products Cert.QkvMath

variable (m : (ℓ : Loc nD τ sig) → Buf (Elt Ideal) ℓ)

theorem idx0 : ∀ t : Fin cfg0.N, win0_0.index t = ![t.val, 3] ∧ win0_1.index t = ![0, 0] ∧ win0_2.index t = ![0, 0] ∧ win0_3.index t = ![0, 0] ∧ win0_4.index t = ![0, 0]
    ∧ win0_5.index t = ![0, 0] ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, win0_0.index t = ![t.val, 3] ∧ win0_1.index t = ![0, 0] ∧ win0_2.index t = ![0, 0] ∧ win0_3.index t = ![0, 0] ∧ win0_4.index t = ![0, 0]
    ∧ win0_5.index t = ![0, 0] ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0])

theorem lt22 (t : Fin cfg0.N) : t.val < 22 := N_0 ▸ t.isLt

/-- The row of the whole array that a point's row is. -/
abbrev row (t : Fin cfg0.N) (r : Fin 384) : Fin 8448 := ⟨384 * t.val + r.val, by have := lt22 t; omega⟩

/-! ## The blocks that a point reads -/

theorem b0 (c : Dev nD) (t : Fin cfg0.N) (r : Fin 384) (l : Fin 512) : iblk m c 0 t (ix2 r l) = zv m c (ix2 (row t r) (⟨1536 + l.val, by omega⟩ : Fin 4096)) := by
  have := lt22 t
  blk_ext [iblk, V_main_arg0 m c, idx0 t]

theorem b1 (c : Dev nD) (t : Fin cfg0.N) (r : Fin 1) (l : Fin 256) : iblk m c 1 t (ix2 r l) = gqv m c (ix2 0 l) := by
  have := lt22 t
  blk_ext [iblk, V_main_arg1 m c, idx0 t]

theorem b2 (c : Dev nD) (t : Fin cfg0.N) (r : Fin 1) (l : Fin 128) : iblk m c 2 t (ix2 r l) = gkvv m c (ix2 0 l) := by
  have := lt22 t
  blk_ext [iblk, V_main_arg2 m c, idx0 t]

theorem b3 (c : Dev nD) (t : Fin cfg0.N) (k : Fin 256) (j : Fin 1024) : iblk m c 3 t (ix2 k j) = wqOf (wuqv m c) (ix2 k j) := by
  have hp : (win0_3.blk t).view.emb (ix2 k j) = ix2 k j := by
    blk_ext [iblk, idx0 t]
  show V m c main_v2 ((win0_3.blk t).view.emb (ix2 k j)) = _
  rw [hp, V_wq]

theorem b4 (c : Dev nD) (t : Fin cfg0.N) (k : Fin 256) (j : Fin 1024) : iblk m c 4 t (ix2 k j) = wkOf (wukvv m c) (ix2 k j) := by
  have hp : (win0_4.blk t).view.emb (ix2 k j) = ix2 k j := by
    blk_ext [iblk, idx0 t]
  show V m c main_v19 ((win0_4.blk t).view.emb (ix2 k j)) = _
  rw [hp, V_wk]

theorem b5 (c : Dev nD) (t : Fin cfg0.N) (k : Fin 128) (j : Fin 1024) : iblk m c 5 t (ix2 k j) = wvOf (wukvv m c) (ix2 k j) := by
  have hp : (win0_5.blk t).view.emb (ix2 k j) = ix2 k j := by
    blk_ext [iblk, idx0 t]
  show V m c main_v22 ((win0_5.blk t).view.emb (ix2 k j)) = _
  rw [hp, V_wv]

theorem b6 (c : Dev nD) (t : Fin cfg0.N) (r : Fin 384) (d : Fin 128) : iblk m c 6 t (ix2 r d) = cOf (cosv m c) (ix2 (row t r) d) := by
  have hp : (win0_6.blk t).view.emb (ix2 r d) = ix2 (row t r) d := by
    have := lt22 t
    blk_ext [iblk, idx0 t]
  show V m c main_v25 ((win0_6.blk t).view.emb (ix2 r d)) = _
  rw [hp, V_c]

theorem b7 (c : Dev nD) (t : Fin cfg0.N) (r : Fin 384) (d : Fin 128) : iblk m c 7 t (ix2 r d) = s1Of (sinv m c) (ix2 (row t r) d) := by
  have hp : (win0_7.blk t).view.emb (ix2 r d) = ix2 (row t r) d := by
    have := lt22 t
    blk_ext [iblk, idx0 t]
  show V m c main_v28 ((win0_7.blk t).view.emb (ix2 r d)) = _
  rw [hp, V_s1]

theorem b8 (c : Dev nD) (t : Fin cfg0.N) (r : Fin 384) (d : Fin 128) : iblk m c 8 t (ix2 r d) = s2Of (sinv m c) (ix2 (row t r) d) := by
  have hp : (win0_8.blk t).view.emb (ix2 r d) = ix2 (row t r) d := by
    have := lt22 t
    blk_ext [iblk, idx0 t]
  show V m c main_v32 ((win0_8.blk t).view.emb (ix2 r d)) = _
  rw [hp, V_s2]

/-! ## A table repeated for the eight heads -/

theorem tile (x : Mat 384 128) (r : Fin 384) (j : Fin 1024) : k0_pay5 (F := Ideal) x (ix2 r j) = x (ix2 r (⟨j.val % 128, by omega⟩ : Fin 128)) := by
  pointwise [k0_pay5]
  split_ifs <;> exact congrArg (fun k => x (ix2 r k)) (Fin.ext (by show (_ : ℕ) = j.val % 128; simp only; omega))

theorem tile6 (x : Mat 384 128) (r : Fin 384) (j : Fin 1024) : k0_pay6 (F := Ideal) x (ix2 r j) = x (ix2 r (⟨j.val % 128, by omega⟩ : Fin 128)) := tile x r j
theorem tile7 (x : Mat 384 128) (r : Fin 384) (j : Fin 1024) : k0_pay7 (F := Ideal) x (ix2 r j) = x (ix2 r (⟨j.val % 128, by omega⟩ : Fin 128)) := tile x r j

/-! ## The values of a point -/

theorem pay2_apply (c : Dev nD) (t : Fin cfg0.N) (r : Fin 384) (j : Fin 256) :
    k0_pay2 (F := Ideal) (iblk m c 0 t) (iblk m c 1 t) (ix2 r j) = qn (zv m c) (gqv m c) (row t r) j := by
  pointwise [k0_pay2]
  simp only [b0, b1]
  rfl

theorem pay3_apply (c : Dev nD) (t : Fin cfg0.N) (r : Fin 384) (j : Fin 128) :
    k0_pay3 (F := Ideal) (iblk m c 0 t) (iblk m c 2 t) (ix2 r j) = kvn (zv m c) (gkvv m c) (row t r) j := by
  pointwise [k0_pay3]
  simp only [b0, b2]
  simp only [← Nat.add_assoc]
  rfl

theorem pay4_apply (c : Dev nD) (t : Fin cfg0.N) (r : Fin 384) (j : Fin 256) :
    k0_pay4 (F := Ideal) (iblk m c 0 t) (iblk m c 2 t) (ix2 r j) = kin (zv m c) (gkvv m c) (row t r) j := by
  pointwise [k0_pay4]
  rw [kin]
  split <;> rename_i h
  · rw [pay3_apply]
  · rw [b0]
    have e : 1536 + (384 + (j.val - 128)) = 1792 + j.val := by omega
    simp only [e]

/-- The queries before the rotation, over all lanes. -/
theorem q_pre (z : Mat 8448 4096) (gq : Mat 1 256) (w : Mat 256 768) (i : Fin 8448) (j k : Fin 1024) (hk : k.val / 128 = j.val / 128) :
    ∑ x, qn z gq i x * wqOf w (ix2 x k) = if h : k.val % 128 < 96 then qHead z gq w i j ⟨k.val % 128, h⟩ else 0 := by
  split <;> rename_i h
  · refine Finset.sum_congr rfl fun x _ => ?_
    rw [wq_apply, dif_pos h]
    simp only [hk]
  · refine Finset.sum_eq_zero fun x _ => ?_
    rw [wq_apply, dif_neg h, mul_zero]

/-- The keys before the rotation, over all lanes. -/
theorem k_pre (z : Mat 8448 4096) (gkv : Mat 1 128) (w : Mat 128 1024) (i : Fin 8448) (j k : Fin 1024) (hk : k.val / 128 = j.val / 128) :
    ∑ x, kin z gkv i x * wkOf w (ix2 x k) = if h : k.val % 128 < 96 then kHead z gkv w i j ⟨k.val % 128, h⟩ else 0 := by
  refine (Fin.sum_univ_add (a := 128) (b := 128) fun x : Fin 256 => kin z gkv i x * wkOf w (ix2 x k)).trans ?_
  have e1 : ∀ x : Fin 128, kin z gkv i (Fin.castAdd 128 x : Fin 256) * wkOf w (ix2 (Fin.castAdd 128 x : Fin 256) k)
      = kvn z gkv i x * (if k.val % 128 < 64 then w (ix2 x k) else 0) := fun x => by
    rw [wk_apply, kin, dif_pos (by show x.val < 128; exact x.isLt), dif_pos (by show x.val < 128; exact x.isLt), wkTop_apply]
    rfl
  have e2 : ∀ x : Fin 128, kin z gkv i (Fin.natAdd 128 x : Fin 256) * wkOf w (ix2 (Fin.natAdd 128 x : Fin 256) k)
      = z (ix2 i (⟨1920 + x.val, by omega⟩ : Fin 4096)) * (if x.val < 32 ∧ k.val % 128 = 64 + x.val then 1 else 0) := fun x => by
    have hx : ¬ (Fin.natAdd 128 x : Fin 256).val < 128 := by show ¬ 128 + x.val < 128; omega
    rw [wk_apply, kin, dif_neg hx, dif_neg hx, place_apply]
    have e : (Fin.natAdd 128 x : Fin 256).val - 128 = x.val := by show 128 + x.val - 128 = x.val; omega
    have e' : 1792 + (Fin.natAdd 128 x : Fin 256).val = 1920 + x.val := by show 1792 + (128 + x.val) = _; omega
    simp only [e, e']
  rw [Finset.sum_congr rfl fun x _ => e1 x, Finset.sum_congr rfl fun x _ => e2 x]
  by_cases h64 : k.val % 128 < 64
  · have hz : ∑ x : Fin 128, z (ix2 i (⟨1920 + x.val, by omega⟩ : Fin 4096)) * (if x.val < 32 ∧ k.val % 128 = 64 + x.val then (1 : EReal) else 0) = 0 :=
      Finset.sum_eq_zero fun x _ => by rw [if_neg (by omega), mul_zero]
    rw [dif_pos (by omega), kHead, dif_pos h64, hz, add_zero]
    refine Finset.sum_congr rfl fun x _ => ?_
    have e : 128 * (j.val / 128) + k.val % 128 = k.val := by omega
    rw [if_pos h64]
    simp only [e]
  rw [Finset.sum_eq_zero fun x _ => by rw [if_neg h64, mul_zero], zero_add]
  by_cases h96 : k.val % 128 < 96
  · rw [dif_pos h96, kHead, dif_neg h64, Finset.sum_eq_single (⟨k.val % 128 - 64, by omega⟩ : Fin 128)
      (fun x _ hx => by
        rw [if_neg (fun h => hx (Fin.ext (by show x.val = k.val % 128 - 64; omega))), mul_zero])
      (fun h => absurd (Finset.mem_univ _) h), if_pos (by show k.val % 128 - 64 < 32 ∧ k.val % 128 = 64 + (k.val % 128 - 64); omega), mul_one]
  · rw [dif_neg h96, Finset.sum_eq_zero fun x _ => by rw [if_neg (by omega), mul_zero]]

theorem after9_apply (c : Dev nD) (t : Fin cfg0.N) (r : Fin 384) (j : Fin 1024) :
    out0_9 (iblk m c 0 t) (iblk m c 1 t) (iblk m c 2 t) (iblk m c 3 t) (iblk m c 4 t) (iblk m c 5 t) (iblk m c 6 t) (iblk m c 7 t) (iblk m c 8 t) (ix2 r j)
      = q (zv m c) (gqv m c) (wuqv m c) (cosv m c) (sinv m c) (row t r) j := by
  unfold_out out0_9
  frame_out
  pointwise [k0_pay8]
  rw [tile, tile6, tile7, b6, b7, b8, c_apply, s1_apply, s2_apply]
  simp only [pay2_apply, b3]
  rw [turn (fun k => ∑ x, qn (zv m c) (gqv m c) (row t r) x * wqOf (wuqv m c) (ix2 x k)) (qHead (zv m c) (gqv m c) (wuqv m c) (row t r) j)
    (fun e => cosv m c (ix2 (row t r) e)) (fun e => sinv m c (ix2 (row t r) e)) j (fun k hk => q_pre _ _ _ _ j k hk), q]
  split
  · rfl
  · rw [zero_mul]

theorem after10_apply (c : Dev nD) (t : Fin cfg0.N) (r : Fin 384) (j : Fin 1024) :
    out0_10 (iblk m c 0 t) (iblk m c 1 t) (iblk m c 2 t) (iblk m c 3 t) (iblk m c 4 t) (iblk m c 5 t) (iblk m c 6 t) (iblk m c 7 t) (iblk m c 8 t) (ix2 r j)
      = k (zv m c) (gkvv m c) (wukvv m c) (cosv m c) (sinv m c) (row t r) j := by
  unfold_out out0_10
  frame_out
  pointwise [k0_pay9]
  rw [tile, tile6, tile7, b6, b7, b8, c_apply, s1_apply, s2_apply]
  simp only [pay4_apply, b4]
  exact turn (fun k => ∑ x, kin (zv m c) (gkvv m c) (row t r) x * wkOf (wukvv m c) (ix2 x k)) (kHead (zv m c) (gkvv m c) (wukvv m c) (row t r) j)
    (fun e => cosv m c (ix2 (row t r) e)) (fun e => sinv m c (ix2 (row t r) e)) j (fun k hk => k_pre _ _ _ _ j k hk)

theorem lanes_eq (j : Fin 1024) : IntOp.cmpi CmpIPredicate.slt (IntOp.andi (BitVec.ofNat 32 j.val) 127#32) 64#32 = if j.val % 128 < 64 then 1#1 else 0#1 :=
  (by decide +kernel : ∀ j : Fin 1024, IntOp.cmpi CmpIPredicate.slt (IntOp.andi (BitVec.ofNat 32 j.val) 127#32) 64#32 = if j.val % 128 < 64 then 1#1 else 0#1) j

theorem after11_apply (c : Dev nD) (t : Fin cfg0.N) (r : Fin 384) (j : Fin 1024) :
    out0_11 (iblk m c 0 t) (iblk m c 1 t) (iblk m c 2 t) (iblk m c 3 t) (iblk m c 4 t) (iblk m c 5 t) (iblk m c 6 t) (iblk m c 7 t) (iblk m c 8 t) (ix2 r j)
      = v (zv m c) (gkvv m c) (wukvv m c) (row t r) j := by
  unfold_out out0_11
  frame_out
  pointwise [k0_pay1, k0_pay10, k0_pay11, k0_pay12]
  simp only [pay3_apply, b5]
  rw [lanes_eq, v]
  by_cases h : j.val % 128 < 64
  · rw [if_pos h, dif_pos h]
    simp only [wv_apply, dif_pos h]
    rfl
  · rw [if_neg h, dif_neg h]
    rfl

theorem after12_apply (c : Dev nD) (t : Fin cfg0.N) (r : Fin 384) (j : Fin 256) :
    out0_12 (iblk m c 0 t) (iblk m c 1 t) (iblk m c 2 t) (iblk m c 3 t) (iblk m c 4 t) (iblk m c 5 t) (iblk m c 6 t) (iblk m c 7 t) (iblk m c 8 t) (ix2 r j)
      = qn (zv m c) (gqv m c) (row t r) j := by
  unfold_out out0_12
  frame_out
  exact pay2_apply m c t r j

theorem after13_apply (c : Dev nD) (t : Fin cfg0.N) (r : Fin 384) (j : Fin 256) :
    out0_13 (iblk m c 0 t) (iblk m c 1 t) (iblk m c 2 t) (iblk m c 3 t) (iblk m c 4 t) (iblk m c 5 t) (iblk m c 6 t) (iblk m c 7 t) (iblk m c 8 t) (ix2 r j)
      = kin (zv m c) (gkvv m c) (row t r) j := by
  unfold_out out0_13
  frame_out
  exact pay4_apply m c t r j

/-! ## The whole arrays -/

theorem final9 (c : Dev nD) : (dats m 0 c).arrAt 9 cfg0.N = mat (q (zv m c) (gqv m c) (wuqv m c) (cosv m c) (sinv m c)) := by
  refine (dats m 0 c).arrAt_eq_of_covers 9 _ (by decide +kernel) fun t hf y => ?_
  blk_simp
  rw [after0_9]
  idx_vars y
  have := lt22 t
  have hy : (win0_9.blk t).view.emb (ix2 y0 y1) = ix2 (row t y0) y1 := by
    blk_ext [idx0 t]
  rw [hy, after9_apply m c t]
  rfl

theorem final10 (c : Dev nD) : (dats m 0 c).arrAt 10 cfg0.N = mat (k (zv m c) (gkvv m c) (wukvv m c) (cosv m c) (sinv m c)) := by
  refine (dats m 0 c).arrAt_eq_of_covers 10 _ (by decide +kernel) fun t hf y => ?_
  blk_simp
  rw [after0_10]
  idx_vars y
  have := lt22 t
  have hy : (win0_10.blk t).view.emb (ix2 y0 y1) = ix2 (row t y0) y1 := by
    blk_ext [idx0 t]
  rw [hy, after10_apply m c t]
  rfl

theorem final11 (c : Dev nD) : (dats m 0 c).arrAt 11 cfg0.N = mat (v (zv m c) (gkvv m c) (wukvv m c)) := by
  refine (dats m 0 c).arrAt_eq_of_covers 11 _ (by decide +kernel) fun t hf y => ?_
  blk_simp
  rw [after0_11]
  idx_vars y
  have := lt22 t
  have hy : (win0_11.blk t).view.emb (ix2 y0 y1) = ix2 (row t y0) y1 := by
    blk_ext [idx0 t]
  rw [hy, after11_apply m c t]
  rfl

theorem final12 (c : Dev nD) : (dats m 0 c).arrAt 12 cfg0.N = mat (qn (zv m c) (gqv m c)) := by
  refine (dats m 0 c).arrAt_eq_of_covers 12 _ (by decide +kernel) fun t hf y => ?_
  blk_simp
  rw [after0_12]
  idx_vars y
  have := lt22 t
  have hy : (win0_12.blk t).view.emb (ix2 y0 y1) = ix2 (row t y0) y1 := by
    blk_ext [idx0 t]
  rw [hy, after12_apply m c t]
  rfl

theorem final13 (c : Dev nD) : (dats m 0 c).arrAt 13 cfg0.N = mat (kin (zv m c) (gkvv m c)) := by
  refine (dats m 0 c).arrAt_eq_of_covers 13 _ (by decide +kernel) fun t hf y => ?_
  blk_simp
  rw [after0_13]
  idx_vars y
  have := lt22 t
  have hy : (win0_13.blk t).view.emb (ix2 y0 y1) = ix2 (row t y0) y1 := by
    blk_ext [idx0 t]
  rw [hy, after13_apply m c t]
  rfl

end Cert.QkvIdeal.Val
end
-- ==== Proof.QkvRef.lean ====
/- The reference's queries, keys and values in closed form. -/
module

public import proofs.«01_k».proof.Proof.Gen.QkvReferenceIdeal.Read
public import proofs.«01_k».proof.Proof.QkvMath

@[expose] public section

set_option maxRecDepth 16384

noncomputable section

namespace Cert.QkvReferenceIdeal.Val

open Idealize.ShloMosaic Idealize.ShloMosaic.TcCoe Idealize.SL.Sem
open Cert Cert.Products Cert.QkvMath Cert.QkvReferenceIdeal Cert.QkvReferenceIdeal.Gen Cert.QkvReferenceIdeal.Read

variable (z : Mat 8448 4096) (gq : Mat 1 256) (gkv : Mat 1 128) (wq : Mat 256 768) (wkv : Mat 128 1024) (co si : Mat 8448 16)

theorem v17_apply (i : Fin 8448) (j : Fin 256) : val_main_v17 (F := Ideal) z gq (ix2 i j) = qn z gq i j := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v30_apply (i : Fin 8448) (j : Fin 128) : val_main_v30 (F := Ideal) z gkv (ix2 i j) = kvn z gkv i j := by
  pointwise [val_main_v30, val_main_v29, val_main_v28, val_main_v27, val_main_v26, val_main_v25, val_main_v24, val_main_v23, val_main_v22, val_main_v21, val_main_v20, val_main_v19, val_main_v18, val_main_v2, val_main_v0, val_main_cst_2, val_main_cst_3, val_main_cst_4]
  simp only [← Nat.add_assoc]
  rfl

theorem v3_apply (i : Fin 8448) (l : Fin 32) : val_main_v3 (F := Ideal) z (ix2 i l) = z (ix2 i (⟨1920 + l.val, by omega⟩ : Fin 4096)) := by
  pointwise [val_main_v3, val_main_v0]
  simp only [← Nat.add_assoc]

theorem v4_apply (i : Fin 8448) (l : Fin 96) : val_main_v4 (F := Ideal) z (ix2 i l) = z (ix2 i (⟨1952 + l.val, by omega⟩ : Fin 4096)) := by
  pointwise [val_main_v4, val_main_v0]
  simp only [← Nat.add_assoc]

/-- The query heads before the rotation. -/
theorem v34_apply (i : Fin 8448) (h : Fin 8) (d : Fin 96) (j : Fin 1024) (hj : j.val / 128 = h.val) :
    val_main_v34 (F := Ideal) z gq wq (ix3 i h d) = qHead z gq wq i j d := by
  pointwise [val_main_v34, val_main_v33, val_main_v32, val_main_v31]
  refine Finset.sum_congr rfl fun x _ => ?_
  rw [v17_apply]
  have e : h.val * 96 + d.val = 96 * (j.val / 128) + d.val := by omega
  simp only [e]

theorem v58_apply (i : Fin 8448) (h : Fin 8) (d : Fin 128) :
    val_main_v58 (F := Ideal) z gkv wkv (ix3 i h d) = ∑ x : Fin 128, kvn z gkv i x * wkv (ix2 x (⟨128 * h.val + d.val, by omega⟩ : Fin 1024)) := by
  pointwise [val_main_v58, val_main_v57, val_main_v56, val_main_v55]
  refine Finset.sum_congr rfl fun x _ => ?_
  rw [v30_apply]
  have e : h.val * 128 + d.val = 128 * h.val + d.val := by omega
  simp only [e]

/-- The query heads, rotated and scaled. -/
theorem v54_apply (i : Fin 8448) (h : Fin 8) (d : Fin 96) (j : Fin 1024) (hj : j.val / 128 = h.val) :
    val_main_v54 (F := Ideal) z gq wq co si (ix3 i h d) = rope (qHead z gq wq i j) (fun e => co (ix2 i e)) (fun e => si (ix2 i e)) d * scale := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_cst_5]
  refine congrArg (· * scale) ?_
  simp only [fun d' => v34_apply z gq wq i h d' j hj]
  rw [rope]
  split
  · rfl
  split <;> rename_i h1 h2
  · have e1 : 64 + (d.val - 64) = d.val := by omega
    have e2 : 64 + (16 + (d.val - 64)) = d.val + 16 := by omega
    simp only [e1, e2]
  · have e1 : 64 + (16 + (d.val - 64 - 16)) = d.val := by omega
    have e2 : 64 + (d.val - 64 - 16) = d.val - 16 := by omega
    simp only [e1, e2]

theorem q_eq : val_main_v79 (F := Ideal) z gq wq co si = mat (q z gq wq co si) := by
  funext y
  idx_vars y
  pointwise [val_main_v79, val_main_v78, val_main_v77, val_main_v76, val_main_cst_6]
  show _ = q z gq wq co si y0 y1
  rw [q]
  split
  · rw [v54_apply z gq wq co si y0 _ _ y1 rfl]
  · rfl

/-- The shared rotary columns of the keys, rotated. -/
theorem v69_apply (i : Fin 8448) (l : Fin 32) : val_main_v69 (F := Ideal) z co si (ix2 i l)
    = if h : l.val < 16 then z (ix2 i (⟨1920 + l.val, by omega⟩ : Fin 4096)) * co (ix2 i (⟨l.val, h⟩ : Fin 16)) - z (ix2 i (⟨1936 + l.val, by omega⟩ : Fin 4096)) * si (ix2 i (⟨l.val, h⟩ : Fin 16))
      else z (ix2 i (⟨1920 + l.val, by omega⟩ : Fin 4096)) * co (ix2 i (⟨l.val - 16, by omega⟩ : Fin 16)) + z (ix2 i (⟨1904 + l.val, by omega⟩ : Fin 4096)) * si (ix2 i (⟨l.val - 16, by omega⟩ : Fin 16)) := by
  pointwise [val_main_v69, val_main_v68, val_main_v67, val_main_v66, val_main_v65, val_main_v64, val_main_v63, val_main_v62, val_main_v61, val_main_v60, val_main_v59]
  simp only [v3_apply]
  split
  · have e : 1920 + (16 + l.val) = 1936 + l.val := by omega
    simp only [e]
  · have e : 1920 + (16 + (l.val - 16)) = 1920 + l.val := by omega
    have e' : 1920 + (l.val - 16) = 1904 + l.val := by omega
    simp only [e, e']

/-- The key heads, rotated. -/
theorem v73_apply (i : Fin 8448) (h : Fin 8) (d : Fin 96) (j : Fin 1024) (hj : j.val / 128 = h.val) :
    val_main_v73 (F := Ideal) z gkv wkv co si (ix3 i h d) = rope (kHead z gkv wkv i j) (fun e => co (ix2 i e)) (fun e => si (ix2 i e)) d := by
  pointwise [val_main_v73, val_main_v72, val_main_v71, val_main_v70]
  rw [rope]
  split <;> rename_i h1
  · rw [v58_apply, kHead, dif_pos h1]
    simp only [hj]
  rw [v69_apply]
  split <;> rename_i h2
  · rw [kHead, dif_neg h1, kHead, dif_neg (by show ¬ d.val + 16 < 64; omega)]
    have e : 1936 + (d.val - 64) = 1920 + (d.val + 16 - 64) := by omega
    simp only [e]
  · have h2' : ¬ d.val - 64 < 16 := h2
    rw [kHead, dif_neg h1, kHead, dif_neg (by show ¬ d.val - 16 < 64; omega)]
    have e' : 1904 + (d.val - 64) = 1920 + (d.val - 16 - 64) := by omega
    simp only [e']

theorem k_eq : val_main_v83 (F := Ideal) z gkv wkv co si = mat (k z gkv wkv co si) := by
  funext y
  idx_vars y
  pointwise [val_main_v83, val_main_v82, val_main_v81, val_main_v80, val_main_cst_7]
  show _ = k z gkv wkv co si y0 y1
  rw [k]
  split
  · rw [v73_apply z gkv wkv co si y0 _ _ y1 rfl]
  · rfl

theorem v_eq : val_main_v88 (F := Ideal) z gkv wkv = mat (v z gkv wkv) := by
  funext y
  idx_vars y
  pointwise [val_main_v88, val_main_v87, val_main_v86, val_main_v85, val_main_v84, val_main_cst_8]
  show _ = v z gkv wkv y0 y1
  rw [v]
  split
  · rw [v58_apply]
    have e : 128 * (y1.val / 128) + (64 + y1.val % 128) = y1.val + 64 := by omega
    simp only [e]
  · rfl

theorem qn_eq : val_main_v17 (F := Ideal) z gq = mat (qn z gq) := by
  funext y
  idx_vars y
  exact v17_apply z gq y0 y1

theorem kin_eq : val_main_v75 (F := Ideal) z gkv = mat (kin z gkv) := by
  funext y
  idx_vars y
  pointwise [val_main_v75, val_main_v74, val_main_v59]
  show _ = kin z gkv y0 y1
  rw [kin]
  split
  · rw [v30_apply]
  split
  · rw [v3_apply]
    have e : 1920 + (y1.val - 128) = 1792 + y1.val := by omega
    simp only [e]
  · rw [v4_apply]
    have e : 1952 + (y1.val - 128 - 32) = 1792 + y1.val := by omega
    simp only [e]

end Cert.QkvReferenceIdeal.Val
end
-- ==== Proof.QkvClaim.lean ====
/- The claims about the queries, keys and values: the frames, and the equality of the five results. -/
module

public import proofs.«01_k».proof.Proof.Gen.Qkv.Frame
public import proofs.«01_k».proof.Proof.QkvKernel
public import proofs.«01_k».proof.Proof.QkvRef

@[expose] public section

set_option maxRecDepth 16384

noncomputable section

namespace Cert.QkvClaim

open Idealize.ShloMosaic Idealize.ShloMosaic.TcCoe Idealize.SL.Sem
open Cert Cert.Products Cert.QkvMath Cert.QkvIdeal.Val

local instance : Cert.Qkv.Facts := Cert.Qkv.Gen.facts
local instance : Cert.QkvIdeal.Facts := Cert.QkvIdeal.Gen.facts
local instance : Cert.QkvReferenceIdeal.Facts := Cert.QkvReferenceIdeal.Gen.facts

theorem frame_k : Cert.quiescent_Qkv := fun m ρ _ => Cert.Qkv.Gen.frame m ρ
theorem frame_ki : Cert.quiescent_QkvIdeal := fun m ρ _ => Cert.QkvIdeal.Gen.frame m ρ
theorem frame_ri : Cert.quiescent_QkvReferenceIdeal := fun m ρ _ =>
  (θ_run Cert.QkvReferenceIdeal.defs _ _).mono (fun r h => ⟨fun c => (h c).2.2.2.2.2, sem_eq_zero_of_no_sems (by decide) r.2⟩)
    (Cert.QkvReferenceIdeal.Value.run (F := Ideal) m ρ)

/-- Both programs leave the closed forms of QkvMath. -/
theorem algebraic : Cert.algebraic_QkvIdeal_QkvReferenceIdeal := fun m g m' g' _ hm =>
  ⟨fun c => mat (q (zv m c) (gqv m c) (wuqv m c) (cosv m c) (sinv m c)),
   fun c => mat (k (zv m c) (gkvv m c) (wukvv m c) (cosv m c) (sinv m c)),
   fun c => mat (v (zv m c) (gkvv m c) (wukvv m c)),
   fun c => mat (qn (zv m c) (gqv m c)),
   fun c => mat (kin (zv m c) (gkvv m c)),
   (θ_run Cert.QkvIdeal.defs _ _).mono (fun _ h c =>
      ⟨(h c).1.trans (final9 m c), (h c).2.1.trans (final10 m c), (h c).2.2.1.trans (final11 m c), (h c).2.2.2.1.trans (final12 m c), (h c).2.2.2.2.1.trans (final13 m c), (h c).2.2.2.2.2⟩)
     (Cert.QkvIdeal.Value.run_blocks (F := Ideal) m g),
   (θ_run Cert.QkvReferenceIdeal.defs _ _).mono (fun _ h c => by
      obtain ⟨e0, e1, e2, e3, e4, e5, e6⟩ := hm c
      obtain ⟨h0, h1, h2, h3, h4, hk⟩ := h c
      refine ⟨h0.trans ?_, h1.trans ?_, h2.trans ?_, h3.trans ?_, h4.trans ?_, hk⟩
      · rw [QkvReferenceIdeal.Read.val_main_v79_eq, e0, e1, e3, e5, e6]
        exact QkvReferenceIdeal.Val.q_eq _ _ _ _ _
      · rw [QkvReferenceIdeal.Read.val_main_v83_eq, e0, e2, e4, e5, e6]
        exact QkvReferenceIdeal.Val.k_eq _ _ _ _ _
      · rw [QkvReferenceIdeal.Read.val_main_v88_eq, e0, e2, e4]
        exact QkvReferenceIdeal.Val.v_eq _ _ _
      · rw [QkvReferenceIdeal.Read.val_main_v17_eq, e0, e1]
        exact QkvReferenceIdeal.Val.qn_eq _ _
      · rw [QkvReferenceIdeal.Read.val_main_v75_eq, e0, e2]
        exact QkvReferenceIdeal.Val.kin_eq _ _)
     (Cert.QkvReferenceIdeal.Value.run (F := Ideal) m' g')⟩

end Cert.QkvClaim
end
-- ==== Proof.QkvBwdHost.lean ====
/- What the host prepares for the kernel of the gradients of the queries', keys' and values' projections: the same weights over
   lanes and the same tables as for the projections themselves, and the values' weight alone. -/
module

public import proofs.«01_k».proof.Proof.Gen.QkvBwdIdeal.Value
public import proofs.«01_k».proof.Proof.QkvHost

@[expose] public section

set_option maxRecDepth 16384

noncomputable section

namespace Cert.QkvBwdIdeal.Val

open Cert.QkvBwdIdeal Cert.QkvBwdIdeal.Gen Idealize.ShloMosaic Idealize.ShloMosaic.TcCoe Idealize.SL.Sem
open Idealize.ShloMosaic.Pipeline (Dat)
open Cert Cert.Products
open Cert.QkvIdeal.Val (wqOf wkOf cOf s1Of s2Of)

variable (m : (ℓ : Loc nD τ sig) → Buf (Elt Ideal) ℓ)

abbrev dqv (c : Dev nD) : Mat 8448 1024 := m (c, main_arg0)
abbrev dkv (c : Dev nD) : Mat 8448 1024 := m (c, main_arg1)
abbrev dvv (c : Dev nD) : Mat 8448 512 := m (c, main_arg2)
abbrev zv (c : Dev nD) : Mat 8448 4096 := m (c, main_arg3)
abbrev gqv (c : Dev nD) : Mat 1 256 := m (c, main_arg4)
abbrev gkvv (c : Dev nD) : Mat 1 128 := m (c, main_arg5)
abbrev wuqv (c : Dev nD) : Mat 256 768 := m (c, main_arg6)
abbrev wukvv (c : Dev nD) : Mat 128 1024 := m (c, main_arg7)
abbrev cosv (c : Dev nD) : Mat 8448 16 := m (c, main_arg8)
abbrev sinv (c : Dev nD) : Mat 8448 16 := m (c, main_arg9)

/-- The values' weight: the last 64 of 128 columns a head. -/
abbrev wv64 (w : Mat 128 1024) : Mat 128 512 := shapeCast S128x512
    (extractStridedSlice S128x8x64 ![0, 0, 64] (shapeCast S128x8x128 w shapeCasts_S128x1024_S128x8x128) slices_S128x8x128_S128x8x64_0_0_64) shapeCasts_S128x8x64_S128x512

theorem wv64_apply (w : Mat 128 1024) (k : Fin 128) (j : Fin 512) : wv64 w (ix2 k j) = w (ix2 k (⟨128 * (j.val / 64) + 64 + j.val % 64, by omega⟩ : Fin 1024)) := by
  pointwise
  have e : j.val / 64 * 128 + (64 + j.val % 64) = 128 * (j.val / 64) + 64 + j.val % 64 := by omega
  simp only [e]

theorem V_wq (c : Dev nD) : V m c main_v2 = wqOf (wuqv m c) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V_wv (c : Dev nD) : V m c main_v25 = wv64 (wukvv m c) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V_wk (c : Dev nD) : V m c main_v19 = wkOf (wukvv m c) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The host's operations before the tables. -/
abbrev front : List (HloOp τ sig (Elt Ideal)) := hostOps0 ++ (hostOps0_1 ++ (hostOps0_2 ++ (hostOps0_3 ++ (hostOps0_4 ++ (hostOps0_5 ++ (hostOps0_6 ++ hostOps0_7))))))

theorem front_arg8 (v : Idealize.ShloMosaic.Valuation τ sig (Elt Ideal)) : StableHlo.after front v (Proc.devRef .tc main_arg8) = v (Proc.devRef .tc main_arg8) := by
  simp only [front, hostOps0, hostOps0_1, hostOps0_2, hostOps0_3, hostOps0_4, hostOps0_5, hostOps0_6, hostOps0_7, List.cons_append, List.nil_append]
  entry_read
  rfl

theorem front_arg9 (v : Idealize.ShloMosaic.Valuation τ sig (Elt Ideal)) : StableHlo.after front v (Proc.devRef .tc main_arg9) = v (Proc.devRef .tc main_arg9) := by
  simp only [front, hostOps0, hostOps0_1, hostOps0_2, hostOps0_3, hostOps0_4, hostOps0_5, hostOps0_6, hostOps0_7, List.cons_append, List.nil_append]
  entry_read
  rfl

theorem take5 (v : Idealize.ShloMosaic.Valuation τ sig (Elt Ideal)) :
    StableHlo.after (hostOps0_8.take 8) v (Proc.devRef .tc main_v26) = broadcastInDim S8448x64 ![] bcast_S_S8448x64 (constant (F := Ideal) S_ .f32 0x3F800000#32)
    ∧ StableHlo.after (hostOps0_8.take 8) v (Proc.devRef .tc main_v27) = broadcastInDim S8448x32 ![] bcast_S_S8448x32 (constant (F := Ideal) S_ .f32 0x00000000#32)
    ∧ StableHlo.after (hostOps0_8.take 8) v (Proc.devRef .tc main_arg8) = v (Proc.devRef .tc main_arg8)
    ∧ StableHlo.after (hostOps0_8.take 8) v (Proc.devRef .tc main_arg9) = v (Proc.devRef .tc main_arg9) := by
  rw [hostOps0_8, List.take_succ_cons, List.take_succ_cons, List.take_succ_cons, List.take_succ_cons, List.take_succ_cons, List.take_succ_cons, List.take_succ_cons, List.take_succ_cons, List.take_zero]
  refine ⟨?_, ?_, ?_, ?_⟩ <;> (entry_read; try rfl)

theorem drop6 (v : Idealize.ShloMosaic.Valuation τ sig (Elt Ideal)) :
    StableHlo.after (hostOps0_8.drop 9) v (Proc.devRef .tc main_v28) = v (Proc.devRef .tc main_v28) := by
  rw [hostOps0_8, List.drop_succ_cons, List.drop_succ_cons, List.drop_succ_cons, List.drop_succ_cons, List.drop_succ_cons, List.drop_succ_cons, List.drop_succ_cons, List.drop_succ_cons, List.drop_succ_cons, List.drop_zero]
  entry_read
  rfl

theorem at5 (v : Idealize.ShloMosaic.Valuation τ sig (Elt Ideal)) :
    StableHlo.after ((hostOps0_8.drop 8).take 1) v (Proc.devRef .tc main_v28)
      = concatenate S8448x128 1 [⟨S8448x64, v (Proc.devRef .tc main_v26)⟩, ⟨S8448x16, v (Proc.devRef .tc main_arg8)⟩, ⟨S8448x16, v (Proc.devRef .tc main_arg8)⟩,
          ⟨S8448x32, v (Proc.devRef .tc main_v27)⟩] concatenates_S8448x64_S8448x16_S8448x16_S8448x32_S8448x128_d1 := by
  rw [hostOps0_8, List.drop_succ_cons, List.drop_succ_cons, List.drop_succ_cons, List.drop_succ_cons, List.drop_succ_cons, List.drop_succ_cons, List.drop_succ_cons, List.drop_succ_cons, List.drop_zero, List.take_succ_cons, List.take_zero,
    StableHlo.after_cons, StableHlo.after_nil]
  exact StableHlo.nary_result _ _ _ _ _ _

theorem cut5 : (hostOps0_8 : List (HloOp τ sig (Elt Ideal))) = hostOps0_8.take 8 ++ ((hostOps0_8.drop 8).take 1 ++ hostOps0_8.drop 9) := rfl

theorem host8_c (v : Idealize.ShloMosaic.Valuation τ sig (Elt Ideal)) :
    StableHlo.after hostOps0_8 v (Proc.devRef .tc main_v28) = cOf (v (Proc.devRef .tc main_arg8)) := by
  rw [cut5, StableHlo.after_append, StableHlo.after_append, drop6, at5, (take5 v).1, (take5 v).2.1, (take5 v).2.2.1]

theorem take10 (v : Idealize.ShloMosaic.Valuation τ sig (Elt Ideal)) :
    StableHlo.after (hostOps0_8.take 13) v (Proc.devRef .tc main_v29) = broadcastInDim S8448x80 ![] bcast_S_S8448x80 (constant (F := Ideal) S_ .f32 0x00000000#32)
    ∧ StableHlo.after (hostOps0_8.take 13) v (Proc.devRef .tc main_v30) = broadcastInDim S8448x32 ![] bcast_S_S8448x32 (constant (F := Ideal) S_ .f32 0x00000000#32)
    ∧ StableHlo.after (hostOps0_8.take 13) v (Proc.devRef .tc main_arg9) = v (Proc.devRef .tc main_arg9) := by
  rw [hostOps0_8, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_zero]
  refine ⟨?_, ?_, ?_⟩ <;> (entry_read; try rfl)

theorem at10 (v : Idealize.ShloMosaic.Valuation τ sig (Elt Ideal)) :
    StableHlo.after ((hostOps0_8.drop 13).take 1) v (Proc.devRef .tc main_v31)
      = concatenate S8448x128 1 [⟨S8448x80, v (Proc.devRef .tc main_v29)⟩, ⟨S8448x16, v (Proc.devRef .tc main_arg9)⟩,
          ⟨S8448x32, v (Proc.devRef .tc main_v30)⟩] concatenates_S8448x80_S8448x16_S8448x32_S8448x128_d1 := by
  rw [hostOps0_8, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_zero, List.take_succ_cons, List.take_zero,
    StableHlo.after_cons, StableHlo.after_nil]
  exact StableHlo.nary_result _ _ _ _ _ _

theorem drop11 (v : Idealize.ShloMosaic.Valuation τ sig (Elt Ideal)) :
    StableHlo.after (hostOps0_8.drop 14) v (Proc.devRef .tc main_v31) = v (Proc.devRef .tc main_v31) := by
  rw [hostOps0_8, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_zero]
  entry_read
  rfl

theorem host8_s1 (v : Idealize.ShloMosaic.Valuation τ sig (Elt Ideal)) :
    StableHlo.after hostOps0_8 v (Proc.devRef .tc main_v31) = s1Of (v (Proc.devRef .tc main_arg9)) := by
  rw [show (hostOps0_8 : List (HloOp τ sig (Elt Ideal))) = hostOps0_8.take 13 ++ ((hostOps0_8.drop 13).take 1 ++ hostOps0_8.drop 14) from rfl,
    StableHlo.after_append, StableHlo.after_append, drop11, at10, (take10 v).1, (take10 v).2.1, (take10 v).2.2]

theorem take16 (v : Idealize.ShloMosaic.Valuation τ sig (Elt Ideal)) :
    StableHlo.after (hostOps0_8.take 19) v (Proc.devRef .tc main_v32) = broadcastInDim S8448x64 ![] bcast_S_S8448x64 (constant (F := Ideal) S_ .f32 0x00000000#32)
    ∧ StableHlo.after (hostOps0_8.take 19) v (Proc.devRef .tc main_v34) = broadcastInDim S8448x48 ![] bcast_S_S8448x48 (constant (F := Ideal) S_ .f32 0x00000000#32)
    ∧ StableHlo.after (hostOps0_8.take 19) v (Proc.devRef .tc main_v33) = Host.negf (F := Ideal) (φ := .f32) (v (Proc.devRef .tc main_arg9)) := by
  rw [hostOps0_8, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_succ_cons, List.take_zero]
  refine ⟨?_, ?_, ?_⟩ <;> (entry_read; try rfl)

theorem at16 (v : Idealize.ShloMosaic.Valuation τ sig (Elt Ideal)) :
    StableHlo.after (hostOps0_8.drop 19) v (Proc.devRef .tc main_v35)
      = concatenate S8448x128 1 [⟨S8448x64, v (Proc.devRef .tc main_v32)⟩, ⟨S8448x16, v (Proc.devRef .tc main_v33)⟩,
          ⟨S8448x48, v (Proc.devRef .tc main_v34)⟩] concatenates_S8448x64_S8448x16_S8448x48_S8448x128_d1 := by
  rw [hostOps0_8, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_succ_cons, List.drop_zero,
    StableHlo.after_cons, StableHlo.after_nil]
  exact StableHlo.nary_result _ _ _ _ _ _

theorem host8_s2 (v : Idealize.ShloMosaic.Valuation τ sig (Elt Ideal)) :
    StableHlo.after hostOps0_8 v (Proc.devRef .tc main_v35) = s2Of (v (Proc.devRef .tc main_arg9)) := by
  rw [show (hostOps0_8 : List (HloOp τ sig (Elt Ideal))) = hostOps0_8.take 19 ++ hostOps0_8.drop 19 from rfl,
    StableHlo.after_append, at16, (take16 v).1, (take16 v).2.1, (take16 v).2.2]

theorem V_eq (c : Dev nD) (b : Ref sig .tc) : V m c b = StableHlo.after hostOps0_8 (StableHlo.after front (fun b => m (c, b))) (Proc.devRef .tc b) := by
  rw [← StableHlo.after_append]
  rfl

theorem V_c (c : Dev nD) : V m c main_v28 = cOf (cosv m c) := by
  rw [V_eq, host8_c, front_arg8]

theorem V_s1 (c : Dev nD) : V m c main_v31 = s1Of (sinv m c) := by
  rw [V_eq, host8_s1, front_arg9]

theorem V_s2 (c : Dev nD) : V m c main_v35 = s2Of (sinv m c) := by
  rw [V_eq, host8_s2, front_arg9]

end Cert.QkvBwdIdeal.Val
end
-- ==== Proof.QkvBwdMath.lean ====
/- The closed forms of the gradients of the queries', keys' and values' projections: the rotation turned back, the products with the
   weights' transposes over lanes, and the gradient of the root-mean-square norm. -/
module

public import proofs.«01_k».proof.Proof.QkvMath
public import proofs.«01_k».proof.Proof.LnMath

@[expose] public section

noncomputable section

namespace Cert.QkvBwdMath

open Idealize.ShloMosaic Idealize.ShloMosaic.TcCoe
open Cert Cert.Products Cert.FfnMath Cert.QkvMath
open Cert.LnMath (mhalf two)

/-- The softmax's scale, the single-precision number nearest to 96^(-1/2). -/
abbrev scale96 : EReal := (Scalar.ofBits .f32 0x3DD105EC#32 : Ideal .f32)

/-! ## The rotation turned back -/

/-- A head's column of a gradient: the last 32 turned back in pairs. -/
def ropeT (x : Fin 96 → EReal) (c s : Fin 16 → EReal) (d : Fin 96) : EReal :=
  if h : d.val < 64 then x d
  else if h' : d.val - 64 < 16 then x d * c ⟨d.val - 64, h'⟩ + x ⟨d.val + 16, by omega⟩ * s ⟨d.val - 64, h'⟩
  else x d * c ⟨d.val - 64 - 16, by omega⟩ - x ⟨d.val - 16, by omega⟩ * s ⟨d.val - 64 - 16, by omega⟩

/-- A head's 96 columns among 128 lanes a head. -/
def head (p : Fin 1024 → EReal) (h : Fin 8) (d : Fin 96) : EReal := p ⟨128 * h.val + d.val, by omega⟩

/-- The heads' columns over lanes, zero beside them. -/
def lanes (f : Fin 8 → Fin 96 → EReal) (j : Fin 1024) : EReal :=
  if h : j.val % 128 < 96 then f ⟨j.val / 128, by omega⟩ ⟨j.val % 128, h⟩ else 0

/-- Turning back by two shifts of all lanes against tables that are zero outside their lanes is turning back each head. -/
theorem turn_back (p : Fin 1024 → EReal) (c s : Fin 16 → EReal) (j : Fin 1024) :
    p j * (if h : j.val % 128 < 64 then 1 else if h : j.val % 128 - 64 < 16 then c ⟨j.val % 128 - 64, h⟩
          else if h : j.val % 128 - 64 - 16 < 16 then c ⟨j.val % 128 - 64 - 16, h⟩ else 0)
      + p (⟨(j.val + 1024 - 1008) % 1024, by omega⟩ : Fin 1024)
        * (if (j.val + 1024 - 1008) % 1024 % 128 < 80 then 0
          else if h : (j.val + 1024 - 1008) % 1024 % 128 - 80 < 16 then s ⟨(j.val + 1024 - 1008) % 1024 % 128 - 80, h⟩ else 0)
      + p (⟨(j.val + 1024 - 16) % 1024, by omega⟩ : Fin 1024)
        * (if (j.val + 1024 - 16) % 1024 % 128 < 64 then 0
          else if h : (j.val + 1024 - 16) % 1024 % 128 - 64 < 16 then -s ⟨(j.val + 1024 - 16) % 1024 % 128 - 64, h⟩ else 0)
      = lanes (fun h => ropeT (head p h) c s) j := by
  have hj := j.isLt
  rw [lanes]
  have ej : 128 * (j.val / 128) + j.val % 128 = j.val := by omega
  by_cases h64 : j.val % 128 < 64
  · have e1 : ¬ (80 ≤ (j.val + 1024 - 1008) % 1024 % 128) := by omega
    have e2 : (j.val + 1024 - 16) % 1024 % 128 < 64 ∨ ¬ ((j.val + 1024 - 16) % 1024 % 128 - 64 < 16) := by omega
    have z2 : (if (j.val + 1024 - 16) % 1024 % 128 < 64 then (0 : EReal)
          else if h : (j.val + 1024 - 16) % 1024 % 128 - 64 < 16 then -s ⟨(j.val + 1024 - 16) % 1024 % 128 - 64, h⟩ else 0) = 0 := by
      rcases e2 with e | e
      · rw [if_pos e]
      · rw [dif_neg e, ite_self]
    rw [z2, dif_pos h64, if_pos (by omega), dif_pos (by omega), ropeT, dif_pos h64, head, mul_one, mul_zero, mul_zero, add_zero, add_zero]
    simp only [ej]
  by_cases h80 : j.val % 128 - 64 < 16
  · have e1 : (j.val + 1024 - 1008) % 1024 % 128 - 80 = j.val % 128 - 64 := by omega
    have e3 : 128 * (j.val / 128) + (j.val % 128 + 16) = (j.val + 1024 - 1008) % 1024 := by omega
    have e2 : (j.val + 1024 - 16) % 1024 % 128 < 64 := by omega
    rw [dif_neg h64, dif_pos h80, if_neg (show ¬ (j.val + 1024 - 1008) % 1024 % 128 < 80 by omega), dif_pos (by omega), if_pos e2, mul_zero, add_zero, dif_pos (by omega),
      ropeT, dif_neg h64, dif_pos h80, head, head]
    simp only [ej, e1, e3]
  by_cases h96 : j.val % 128 - 64 - 16 < 16
  · have e1 : (j.val + 1024 - 16) % 1024 % 128 - 64 = j.val % 128 - 64 - 16 := by omega
    have e3 : 128 * (j.val / 128) + (j.val % 128 - 16) = (j.val + 1024 - 16) % 1024 := by omega
    have z1 : (if (j.val + 1024 - 1008) % 1024 % 128 < 80 then (0 : EReal)
          else if h : (j.val + 1024 - 1008) % 1024 % 128 - 80 < 16 then s ⟨(j.val + 1024 - 1008) % 1024 % 128 - 80, h⟩ else 0) = 0 := by
      rw [if_neg (by omega), dif_neg (by omega)]
    rw [z1, dif_neg h64, dif_neg h80, dif_pos h96, if_neg (show ¬ (j.val + 1024 - 16) % 1024 % 128 < 64 by omega), dif_pos (by omega), mul_zero, add_zero, dif_pos (by omega),
      ropeT, dif_neg h64, dif_neg h80, head, head, mul_neg, ← sub_eq_add_neg]
    simp only [ej, e1, e3]
  · have z1 : (if (j.val + 1024 - 1008) % 1024 % 128 < 80 then (0 : EReal)
          else if h : (j.val + 1024 - 1008) % 1024 % 128 - 80 < 16 then s ⟨(j.val + 1024 - 1008) % 1024 % 128 - 80, h⟩ else 0) = 0 := by
      by_cases e : (j.val + 1024 - 1008) % 1024 % 128 < 80
      · rw [if_pos e]
      · rw [if_neg e, dif_neg (by omega)]
    have z2 : (if (j.val + 1024 - 16) % 1024 % 128 < 64 then (0 : EReal)
          else if h : (j.val + 1024 - 16) % 1024 % 128 - 64 < 16 then -s ⟨(j.val + 1024 - 16) % 1024 % 128 - 64, h⟩ else 0) = 0 := by
      rw [if_neg (by omega), dif_neg (by omega)]
    rw [z1, z2, dif_neg h64, dif_neg h80, dif_neg h96, dif_neg (by omega), mul_zero, mul_zero, mul_zero, add_zero, add_zero]

/-! ## Sums over lanes -/

/-- A sum over 128 lanes a head of terms that are zero from the 96th on is the sum over 96 columns a head. -/
theorem sum_96 (g : Fin 768 → EReal) :
    ∑ j : Fin 1024, (if h : j.val % 128 < 96 then g ⟨96 * (j.val / 128) + j.val % 128, by omega⟩ else 0) = ∑ x : Fin 768, g x := by
  refine (Fintype.sum_of_injective (fun x : Fin 768 => (⟨128 * (x.val / 96) + x.val % 96, by omega⟩ : Fin 1024)) (fun x y h => ?_) _ _ (fun j hj => ?_) (fun x => ?_)).symm
  · have := congrArg Fin.val h
    simp only at this
    exact Fin.ext (by omega)
  · refine dif_neg fun h => hj ⟨⟨96 * (j.val / 128) + j.val % 128, by omega⟩, Fin.ext ?_⟩
    show 128 * ((96 * (j.val / 128) + j.val % 128) / 96) + (96 * (j.val / 128) + j.val % 128) % 96 = j.val
    omega
  · have e : 96 * ((128 * (x.val / 96) + x.val % 96) / 128) + (128 * (x.val / 96) + x.val % 96) % 128 = x.val := by omega
    rw [dif_pos (by show (128 * (x.val / 96) + x.val % 96) % 128 < 96; omega)]
    simp only [e]

/-- A sum over the last 64 of 128 lanes a head is the sum over 64 columns a head. -/
theorem sum_64 (g : Fin 512 → EReal) :
    ∑ j : Fin 1024, (if h : j.val % 128 < 64 then 0 else g ⟨64 * (j.val / 128) + (j.val % 128 - 64), by omega⟩) = ∑ x : Fin 512, g x := by
  refine (Fintype.sum_of_injective (fun x : Fin 512 => (⟨128 * (x.val / 64) + 64 + x.val % 64, by omega⟩ : Fin 1024)) (fun x y h => ?_) _ _ (fun j hj => ?_) (fun x => ?_)).symm
  · have := congrArg Fin.val h
    simp only at this
    exact Fin.ext (by omega)
  · by_cases h : j.val % 128 < 64
    · exact dif_pos h
    · refine absurd ⟨⟨64 * (j.val / 128) + (j.val % 128 - 64), by omega⟩, Fin.ext ?_⟩ hj
      show 128 * ((64 * (j.val / 128) + (j.val % 128 - 64)) / 64) + 64 + (64 * (j.val / 128) + (j.val % 128 - 64)) % 64 = j.val
      omega
  · have e : 64 * ((128 * (x.val / 64) + 64 + x.val % 64) / 128) + ((128 * (x.val / 64) + 64 + x.val % 64) % 128 - 64) = x.val := by omega
    rw [dif_neg (by show ¬ (128 * (x.val / 64) + 64 + x.val % 64) % 128 < 64; omega)]
    simp only [e]

/-- A sum over the lanes that hold one shared column is the sum over the heads. -/
theorem sum_8 (f : Fin 8 → Fin 96 → EReal) (r : Fin 128) :
    ∑ j : Fin 1024, lanes f j * (if r.val < 32 ∧ j.val % 128 = 64 + r.val then 1 else 0)
      = if h : r.val < 32 then ∑ k : Fin 8, f k ⟨64 + r.val, by omega⟩ else 0 := by
  by_cases h : r.val < 32
  · rw [dif_pos h]
    refine (Fintype.sum_of_injective (fun k : Fin 8 => (⟨128 * k.val + 64 + r.val, by omega⟩ : Fin 1024)) (fun x y h => ?_) _ _ (fun j hj => ?_) (fun k => ?_)).symm
    · have := congrArg Fin.val h
      simp only at this
      exact Fin.ext (by omega)
    · rw [if_neg fun h' => hj ⟨⟨j.val / 128, by omega⟩, Fin.ext (by show 128 * (j.val / 128) + 64 + r.val = j.val; omega)⟩, mul_zero]
    · have e : (128 * k.val + 64 + r.val) % 128 = 64 + r.val := by omega
      have e' : (128 * k.val + 64 + r.val) / 128 = k.val := by omega
      rw [if_pos ⟨h, e⟩, mul_one, lanes, dif_pos (by show (128 * k.val + 64 + r.val) % 128 < 96; omega)]
      simp only [e, e']
  · rw [dif_neg h]
    exact Finset.sum_eq_zero fun j _ => by rw [if_neg fun h' => h h'.1, mul_zero]

/-! ## The gradient of the root-mean-square norm -/

section norm
variable {n : ℕ} (cols : EReal) (d x : Fin n → EReal)

/-- The mean square of a row and the small number added to it. -/
def ms : EReal := Ideal.div (∑ k, x k * x k) cols + eps
/-- The row divided by its root mean square. -/
def xn (j : Fin n) : EReal := x j * Ideal.rsqrt (ms cols x)

/-- The gradient in the row, under the cotangent `d` of the normalised row, as the kernel computes it. -/
def rdx (j : Fin n) : EReal :=
  Ideal.rsqrt (ms cols x) * (d j - xn cols x j * Ideal.div (∑ k, d k * xn cols x k) cols)

/-- The same as differentiating line by line gives it. -/
def rdxLines (j : Fin n) : EReal :=
  d j * Ideal.rsqrt (ms cols x) + Ideal.div ((∑ k, x k * d k) * (mhalf * Ideal.div (Ideal.rsqrt (ms cols x)) (ms cols x))) cols * (two * x j)

end norm

theorem cols256_eq : cols256 = ((256 : ℝ) : EReal) := by
  show Ideal.ofBits FTy.f32 0x43800000#32 = _
  simp [Ideal.ofBits, Ideal.ieee]
  norm_num
  rw [← EReal.coe_mul]
  norm_num

theorem cols128_eq : cols128 = ((128 : ℝ) : EReal) := by
  show Ideal.ofBits FTy.f32 0x43000000#32 = _
  simp [Ideal.ofBits, Ideal.ieee]
  norm_num
  rw [← EReal.coe_mul]
  norm_num

theorem eps_eq : ∃ e : ℝ, 0 < e ∧ eps = (e : EReal) := by
  refine ⟨_, ?_, show Ideal.ofBits FTy.f32 0x358637BD#32 = ((8796093 / 2 ^ 43 : ℝ) : EReal) from ?_⟩
  · norm_num
  · simp [Ideal.ofBits, Ideal.ieee]
    norm_num
    rw [← EReal.coe_mul]
    norm_num

/-- The equality over the reals: `s` is the inverse root of `v`. -/
theorem real_rdx {n : ℕ} (d x : Fin n → ℝ) (v s N : ℝ) (hs : s * s = 1 / v) (j : Fin n) :
    s * (d j - x j * s * ((∑ k, d k * (x k * s)) * (1 / N)))
      = d j * s + ((∑ k, x k * d k) * (-(1 / 2) * (s * (1 / v)))) * (1 / N) * (2 * x j) := by
  have h1 : ∑ k, d k * (x k * s) = (∑ k, x k * d k) * s := by
    rw [Finset.sum_mul]
    exact Finset.sum_congr rfl fun k _ => by ring
  rw [h1, ← hs]
  ring

/-- At a finite cotangent the kernel's gradient is the derivative's: at a row that holds an infinity both are zero. -/
theorem rdx_eq {n : ℕ} {N : ℝ} (hN : 0 < N) {cols : EReal} (hc : cols = (N : EReal)) {d x : Fin n → EReal} (hd : ∀ k, Fin' (d k)) (j : Fin n) :
    rdx cols d x j = rdxLines cols d x j := by
  obtain ⟨e, he, hq⟩ := eps_eq
  subst hc
  have hdc : ∀ a : ℝ, Ideal.div (a : EReal) (N : EReal) = ((a * (1 / N) : ℝ) : EReal) := fun a => by
    rw [Ideal.div_coe hN.ne', ← EReal.coe_mul]
  by_cases hx : ∀ k, Fin' (x k)
  · choose d' hd' using hd
    choose x' hx' using hx
    obtain rfl : d = fun k => (d' k : EReal) := funext hd'
    obtain rfl : x = fun k => (x' k : EReal) := funext hx'
    have hv : 0 < (∑ k, x' k * x' k) * (1 / N) + e := by
      have : 0 ≤ ∑ k, x' k * x' k := Finset.sum_nonneg fun k _ => mul_self_nonneg _
      positivity
    have hm : ms (N : EReal) (fun k => (x' k : EReal)) = (((∑ k, x' k * x' k) * (1 / N) + e : ℝ) : EReal) := by
      unfold ms
      simp only [← EReal.coe_mul]
      rw [LnMath.coe_sum, hdc, hq, ← EReal.coe_add]
    generalize (∑ k, x' k * x' k) * (1 / N) + e = v at hv hm
    have hr : Ideal.rsqrt (v : EReal) = (((Real.sqrt v)⁻¹ : ℝ) : EReal) := by
      rw [Ideal.rsqrt_coe, if_neg (not_lt.2 hv.le), if_neg hv.ne']
    have hdv : ∀ a : ℝ, Ideal.div (a : EReal) (v : EReal) = ((a * (1 / v) : ℝ) : EReal) := fun a => by
      rw [Ideal.div_coe hv.ne', ← EReal.coe_mul]
    unfold rdx rdxLines xn
    simp only [hm, hr, hdv, LnMath.mhalf_eq, LnMath.two_eq, ← EReal.coe_mul, LnMath.coe_sum, hdc, ← EReal.coe_add, ← EReal.coe_sub]
    refine congrArg _ (real_rdx d' x' v _ N ?_ j)
    rw [← mul_inv, Real.mul_self_sqrt hv.le, one_div]
  · have hnn : ∀ a : EReal, 0 ≤ a * a := fun a => by
      induction a with
      | bot => simp
      | top => simp
      | coe a => rw [← EReal.coe_mul]; exact_mod_cast mul_self_nonneg a
    have hs : ∑ k, x k * x k = ⊤ := by
      refine (LnMath.not_fin fun hf => hx fun k => ?_).resolve_left fun hb => ?_
      · have hk := LnMath.fin_of_sum _ hf k (Finset.mem_univ k)
        induction hxk : x k with
        | bot => rw [hxk] at hk; obtain ⟨r, hr⟩ := hk; simp at hr
        | top => rw [hxk] at hk; obtain ⟨r, hr⟩ := hk; simp at hr
        | coe a => exact ⟨a, rfl⟩
      · have : (0 : EReal) ≤ ∑ k, x k * x k := Finset.sum_nonneg fun k _ => hnn _
        rw [hb] at this
        simp at this
    have hm : ms (N : EReal) x = ⊤ := by
      unfold ms
      rw [hs, Ideal.div_coe hN.ne', EReal.top_mul_coe_of_pos (by positivity), hq]
      exact EReal.top_add_coe e
    have hr : Ideal.rsqrt (⊤ : EReal) = 0 := rfl
    have hz : Ideal.div 0 (N : EReal) = 0 := by
      rw [Ideal.div_coe hN.ne', zero_mul]
    unfold rdx rdxLines
    rw [hm, hr, show Ideal.div 0 (⊤ : EReal) = 0 from by simp [Ideal.div], mul_zero, mul_zero, mul_zero, hz, zero_mul, zero_mul, add_zero]

/-! ## The closed forms of the results -/

section forms
variable (dq dk : Mat 8448 1024) (dv : Mat 8448 512) (z : Mat 8448 4096) (gq : Mat 1 256) (gkv : Mat 1 128) (wq : Mat 256 768) (wkv : Mat 128 1024) (co si : Mat 8448 16)

/-- The gradient of the query heads before the rotation. -/
def dqHead (i : Fin 8448) (h : Fin 8) : Fin 96 → EReal :=
  ropeT (head (fun j => dq (ix2 i j) * scale96) h) (fun e => co (ix2 i e)) (fun e => si (ix2 i e))

/-- The gradient of the key heads before the rotation. -/
def dkHead (i : Fin 8448) (h : Fin 8) : Fin 96 → EReal :=
  ropeT (head (fun j => dk (ix2 i j)) h) (fun e => co (ix2 i e)) (fun e => si (ix2 i e))

/-- The gradient of the queries' normalised latent. -/
def dqn (i : Fin 8448) (k : Fin 256) : EReal :=
  ∑ x : Fin 768, dqHead dq co si i ⟨x.val / 96, by omega⟩ ⟨x.val % 96, by omega⟩ * wq (ix2 k x)

/-- The gradient of the product that keys and values come from: 64 columns of the keys' beside 64 of the values'. -/
def dkvHead (i : Fin 8448) (j : Fin 1024) : EReal :=
  if h : j.val % 128 < 64 then dkHead dk co si i ⟨j.val / 128, by omega⟩ ⟨j.val % 128, by omega⟩
  else dv (ix2 i (⟨64 * (j.val / 128) + (j.val % 128 - 64), by omega⟩ : Fin 512))

/-- The gradient of the keys' and values' normalised latent. -/
def dkvn (i : Fin 8448) (k : Fin 128) : EReal := ∑ x : Fin 1024, dkvHead dk dv co si i x * wkv (ix2 k x)

/-- The rows of the two latents. -/
def cq (i : Fin 8448) (k : Fin 256) : EReal := z (ix2 i (⟨1536 + k.val, by omega⟩ : Fin 4096))
def ckv (i : Fin 8448) (k : Fin 128) : EReal := z (ix2 i (⟨1792 + k.val, by omega⟩ : Fin 4096))

/-- The cotangents of the two normalised rows, scaled by the gains. -/
def hq (i : Fin 8448) (k : Fin 256) : EReal := dqn dq wq co si i k * gq (ix2 0 k)
def hkv (i : Fin 8448) (k : Fin 128) : EReal := dkvn dk dv wkv co si i k * gkv (ix2 0 k)

/-- The gradient of the shared rotary key, beside zeros. -/
def dkr (i : Fin 8448) (r : Fin 128) : EReal := if h : r.val < 32 then ∑ k : Fin 8, dkHead dk co si i k ⟨64 + r.val, by omega⟩ else 0

/-- The gradient of the projections' columns, with the norms' gradients `F` and `G` of the two latents. -/
def dz (F : Fin 256 → EReal) (G : Fin 128 → EReal) (i : Fin 8448) (j : Fin 512) : EReal :=
  if h : j.val < 256 then F ⟨j.val, h⟩ else if h' : j.val - 256 < 128 then G ⟨j.val - 256, h'⟩ else dkr dk co si i ⟨j.val - 384, by omega⟩

/-- A row of numbers and seven rows of zeros. -/
def firstRow {n : ℕ} (f : Fin n → EReal) : Mat 8 n := fun y => if (y 0).val = 0 then f (y 1) else 0

theorem firstRow_ix2 {n : ℕ} (f : Fin n → EReal) (k : Fin 8) (l : Fin n) : firstRow f (ix2 k l) = if k.val = 0 then f l else 0 := rfl

/-- The gradients of the two gains. -/
def dgq (l : Fin 256) : EReal := ∑ t : Fin 8448, dqn dq wq co si t l * xn cols256 (cq z t) l
def dgkv (l : Fin 128) : EReal := ∑ t : Fin 8448, dkvn dk dv wkv co si t l * xn cols128 (ckv z t) l

end forms

/-! ## Finiteness -/

theorem fin_sub {x y : EReal} (hx : Fin' x) (hy : Fin' y) : Fin' (x - y) := by
  obtain ⟨a, rfl⟩ := hx
  obtain ⟨b, rfl⟩ := hy
  exact ⟨a - b, (EReal.coe_sub a b).symm⟩

theorem fin_ropeT {x : Fin 96 → EReal} {c s : Fin 16 → EReal} (hx : ∀ d, Fin' (x d)) (hc : ∀ d, Fin' (c d)) (hs : ∀ d, Fin' (s d)) (d : Fin 96) : Fin' (ropeT x c s d) := by
  unfold ropeT
  split
  · exact hx _
  split
  · exact fin_add (fin_mul (hx _) (hc _)) (fin_mul (hx _) (hs _))
  · exact fin_sub (fin_mul (hx _) (hc _)) (fin_mul (hx _) (hs _))

theorem scale96_fin : Fin' scale96 := by
  refine ⟨13698540 / 2 ^ 27, show Ideal.ofBits FTy.f32 0x3DD105EC#32 = _ from ?_⟩
  simp [Ideal.ofBits, Ideal.ieee]
  norm_num
  rw [← EReal.coe_mul]
  norm_num

end Cert.QkvBwdMath
end
-- ==== Proof.QkvBwdKernel.lean ====
/- The kernel of the gradients of the queries', keys' and values' projections, read at an index: its six results are the closed forms. -/
module

public import proofs.«01_k».proof.Proof.QkvBwdHost
public import proofs.«01_k».proof.Proof.QkvBwdMath
public import proofs.«01_k».proof.Proof.Rows

@[expose] public section

set_option maxRecDepth 16384

noncomputable section

namespace Cert.QkvBwdIdeal.Val

open Cert.QkvBwdIdeal Cert.QkvBwdIdeal.Gen Idealize.ShloMosaic Idealize.ShloMosaic.TcCoe Idealize.SL.Sem
open Idealize.ShloMosaic.Pipeline (Dat)
open Cert Cert.Products Cert.QkvMath Cert.QkvBwdMath
open Cert.QkvIdeal.Val (wqOf wkOf cOf s1Of s2Of wq_apply wkTop_apply wk_apply place_apply c_apply s1_apply s2_apply)

variable (m : (ℓ : Loc nD τ sig) → Buf (Elt Ideal) ℓ)

theorem idx0 : ∀ t : Fin cfg0.N, win0_0.index t = ![t.val, 0] ∧ win0_1.index t = ![t.val, 0] ∧ win0_2.index t = ![t.val, 0] ∧ win0_3.index t = ![t.val, 3] ∧ win0_4.index t = ![0, 0]
    ∧ win0_5.index t = ![0, 0] ∧ win0_6.index t = ![0, 0] ∧ win0_7.index t = ![0, 0] ∧ win0_8.index t = ![0, 0] ∧ win0_9.index t = ![t.val, 0]
    ∧ win0_10.index t = ![t.val, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![0, 0] ∧ win0_17.index t = ![0, 0] :=
  (by decide +kernel : ∀ t : Fin grid0.N, win0_0.index t = ![t.val, 0] ∧ win0_1.index t = ![t.val, 0] ∧ win0_2.index t = ![t.val, 0] ∧ win0_3.index t = ![t.val, 3] ∧ win0_4.index t = ![0, 0]
    ∧ win0_5.index t = ![0, 0] ∧ win0_6.index t = ![0, 0] ∧ win0_7.index t = ![0, 0] ∧ win0_8.index t = ![0, 0] ∧ win0_9.index t = ![t.val, 0]
    ∧ win0_10.index t = ![t.val, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![0, 0] ∧ win0_17.index t = ![0, 0])

theorem lt22 (t : Fin cfg0.N) : t.val < 22 := N_0 ▸ t.isLt

/-- The row of the whole array that a point's row is. -/
abbrev row (t : Fin cfg0.N) (r : Fin 384) : Fin 8448 := ⟨384 * t.val + r.val, by have := lt22 t; omega⟩

/-! ## The blocks that a point reads -/

theorem b0 (c : Dev nD) (t : Fin cfg0.N) (r : Fin 384) (l : Fin 1024) : iblk m c 0 t (ix2 r l) = dqv m c (ix2 (row t r) l) := by
  have := lt22 t
  blk_ext [iblk, V_main_arg0 m c, idx0 t]

theorem b1 (c : Dev nD) (t : Fin cfg0.N) (r : Fin 384) (l : Fin 1024) : iblk m c 1 t (ix2 r l) = dkv m c (ix2 (row t r) l) := by
  have := lt22 t
  blk_ext [iblk, V_main_arg1 m c, idx0 t]

theorem b2 (c : Dev nD) (t : Fin cfg0.N) (r : Fin 384) (l : Fin 512) : iblk m c 2 t (ix2 r l) = dvv m c (ix2 (row t r) l) := by
  have := lt22 t
  blk_ext [iblk, V_main_arg2 m c, idx0 t]

theorem b3 (c : Dev nD) (t : Fin cfg0.N) (r : Fin 384) (l : Fin 512) : iblk m c 3 t (ix2 r l) = zv m c (ix2 (row t r) (⟨1536 + l.val, by omega⟩ : Fin 4096)) := by
  have := lt22 t
  blk_ext [iblk, V_main_arg3 m c, idx0 t]

theorem b4 (c : Dev nD) (t : Fin cfg0.N) (r : Fin 1) (l : Fin 256) : iblk m c 4 t (ix2 r l) = gqv m c (ix2 0 l) := by
  have := lt22 t
  blk_ext [iblk, V_main_arg4 m c, idx0 t]

theorem b5 (c : Dev nD) (t : Fin cfg0.N) (r : Fin 1) (l : Fin 128) : iblk m c 5 t (ix2 r l) = gkvv m c (ix2 0 l) := by
  have := lt22 t
  blk_ext [iblk, V_main_arg5 m c, idx0 t]

theorem b6 (c : Dev nD) (t : Fin cfg0.N) (k : Fin 256) (j : Fin 1024) : iblk m c 6 t (ix2 k j) = wqOf (wuqv m c) (ix2 k j) := by
  have hp : (win0_6.blk t).view.emb (ix2 k j) = ix2 k j := by
    blk_ext [iblk, idx0 t]
  show V m c main_v2 ((win0_6.blk t).view.emb (ix2 k j)) = _
  rw [hp, V_wq]

theorem b7 (c : Dev nD) (t : Fin cfg0.N) (k : Fin 256) (j : Fin 1024) : iblk m c 7 t (ix2 k j) = wkOf (wukvv m c) (ix2 k j) := by
  have hp : (win0_7.blk t).view.emb (ix2 k j) = ix2 k j := by
    blk_ext [iblk, idx0 t]
  show V m c main_v19 ((win0_7.blk t).view.emb (ix2 k j)) = _
  rw [hp, V_wk]

theorem b8 (c : Dev nD) (t : Fin cfg0.N) (k : Fin 128) (j : Fin 512) : iblk m c 8 t (ix2 k j) = wv64 (wukvv m c) (ix2 k j) := by
  have hp : (win0_8.blk t).view.emb (ix2 k j) = ix2 k j := by
    blk_ext [iblk, idx0 t]
  show V m c main_v25 ((win0_8.blk t).view.emb (ix2 k j)) = _
  rw [hp, V_wv]

theorem b9 (c : Dev nD) (t : Fin cfg0.N) (r : Fin 384) (d : Fin 128) : iblk m c 9 t (ix2 r d) = cOf (cosv m c) (ix2 (row t r) d) := by
  have hp : (win0_9.blk t).view.emb (ix2 r d) = ix2 (row t r) d := by
    have := lt22 t
    blk_ext [iblk, idx0 t]
  show V m c main_v28 ((win0_9.blk t).view.emb (ix2 r d)) = _
  rw [hp, V_c]

theorem b10 (c : Dev nD) (t : Fin cfg0.N) (r : Fin 384) (d : Fin 128) : iblk m c 10 t (ix2 r d) = s1Of (sinv m c) (ix2 (row t r) d) := by
  have hp : (win0_10.blk t).view.emb (ix2 r d) = ix2 (row t r) d := by
    have := lt22 t
    blk_ext [iblk, idx0 t]
  show V m c main_v31 ((win0_10.blk t).view.emb (ix2 r d)) = _
  rw [hp, V_s1]

theorem b11 (c : Dev nD) (t : Fin cfg0.N) (r : Fin 384) (d : Fin 128) : iblk m c 11 t (ix2 r d) = s2Of (sinv m c) (ix2 (row t r) d) := by
  have hp : (win0_11.blk t).view.emb (ix2 r d) = ix2 (row t r) d := by
    have := lt22 t
    blk_ext [iblk, idx0 t]
  show V m c main_v35 ((win0_11.blk t).view.emb (ix2 r d)) = _
  rw [hp, V_s2]

/-! ## A table repeated for the eight heads -/

theorem tile (x : Mat 384 128) (r : Fin 384) (j : Fin 1024) : k0_pay5 (F := Ideal) x (ix2 r j) = x (ix2 r (⟨j.val % 128, by omega⟩ : Fin 128)) := by
  pointwise [k0_pay5]
  split_ifs <;> exact congrArg (fun k => x (ix2 r k)) (Fin.ext (by show (_ : ℕ) = j.val % 128; simp only; omega))

theorem tile4 (x : Mat 384 128) (r : Fin 384) (j : Fin 1024) : k0_pay4 (F := Ideal) x (ix2 r j) = x (ix2 r (⟨j.val % 128, by omega⟩ : Fin 128)) := tile x r j
theorem tile3 (x : Mat 384 128) (r : Fin 384) (j : Fin 1024) : k0_pay3 (F := Ideal) x (ix2 r j) = x (ix2 r (⟨j.val % 128, by omega⟩ : Fin 128)) := tile x r j

/-! ## The values of a point -/

/-- The queries' gradient turned back. -/
abbrev pq (c : Dev nD) (t : Fin cfg0.N) := k0_pay6 (F := Ideal) (iblk m c 9 t) (iblk m c 10 t) (iblk m c 11 t) (iblk m c 0 t)
/-- The keys' gradient turned back. -/
abbrev pk (c : Dev nD) (t : Fin cfg0.N) := k0_pay7 (F := Ideal) (iblk m c 9 t) (iblk m c 10 t) (iblk m c 11 t) (iblk m c 1 t)
/-- The values' gradient. -/
abbrev pv (c : Dev nD) (t : Fin cfg0.N) := k0_pay8 (F := Ideal) (iblk m c 2 t)

theorem pq_apply (c : Dev nD) (t : Fin cfg0.N) (r : Fin 384) (j : Fin 1024) :
    pq m c t (ix2 r j) = lanes (dqHead (dqv m c) (cosv m c) (sinv m c) (row t r)) j := by
  pointwise [pq, k0_pay6]
  rw [tile3, tile4, tile, b9, b10, b11, c_apply, s1_apply, s2_apply]
  simp only [b0]
  exact turn_back (fun j => dqv m c (ix2 (row t r) j) * scale96) (fun e => cosv m c (ix2 (row t r) e)) (fun e => sinv m c (ix2 (row t r) e)) j

theorem pk_apply (c : Dev nD) (t : Fin cfg0.N) (r : Fin 384) (j : Fin 1024) :
    pk m c t (ix2 r j) = lanes (dkHead (dkv m c) (cosv m c) (sinv m c) (row t r)) j := by
  pointwise [pk, k0_pay7]
  rw [tile3, tile4, tile, b9, b10, b11, c_apply, s1_apply, s2_apply]
  simp only [b1]
  exact turn_back (fun j => dkv m c (ix2 (row t r) j)) (fun e => cosv m c (ix2 (row t r) e)) (fun e => sinv m c (ix2 (row t r) e)) j

theorem pv_apply (c : Dev nD) (t : Fin cfg0.N) (r : Fin 384) (j : Fin 512) : pv m c t (ix2 r j) = dvv m c (ix2 (row t r) j) := by
  pointwise [pv, k0_pay8]
  rw [b2]

theorem pay9_apply (c : Dev nD) (t : Fin cfg0.N) (r : Fin 384) (k : Fin 256) :
    k0_pay9 (F := Ideal) (pq m c t) (iblk m c 6 t) (ix2 r k) = dqn (dqv m c) (wuqv m c) (cosv m c) (sinv m c) (row t r) k := by
  pointwise [k0_pay9]
  rw [dqn, ← sum_96]
  refine Finset.sum_congr rfl fun j _ => ?_
  rw [pq_apply, b6, wq_apply, lanes]
  split <;> rename_i h
  · have e : (96 * (j.val / 128) + j.val % 128) / 96 = j.val / 128 := by omega
    have e' : (96 * (j.val / 128) + j.val % 128) % 96 = j.val % 128 := by omega
    simp only [e, e']
  · rw [mul_zero]

theorem pay10_at (a : Mat 384 1024) (w : Mat 256 1024) (r : Fin 384) (k : Fin 256) :
    k0_pay10 (F := Ideal) a w (ix2 r k) = ∑ j : Fin 1024, a (ix2 r j) * w (ix2 k j) := by
  pointwise [k0_pay10]

theorem pay10_apply (c : Dev nD) (t : Fin cfg0.N) (r : Fin 384) (k : Fin 256) :
    k0_pay10 (F := Ideal) (pk m c t) (iblk m c 7 t) (ix2 r k)
      = ∑ j : Fin 1024, lanes (dkHead (dkv m c) (cosv m c) (sinv m c) (row t r)) j * wkOf (wukvv m c) (ix2 k j) := by
  rw [pay10_at]
  refine Finset.sum_congr rfl fun j _ => ?_
  rw [pk_apply, b7]

theorem pay11_apply (c : Dev nD) (t : Fin cfg0.N) (r : Fin 384) (k : Fin 128) :
    k0_pay11 (F := Ideal) (pk m c t) (pv m c t) (iblk m c 7 t) (iblk m c 8 t) (ix2 r k)
      = dkvn (dkv m c) (dvv m c) (wukvv m c) (cosv m c) (sinv m c) (row t r) k := by
  pointwise [k0_pay11]
  rw [pay10_apply]
  simp only [pv_apply, b8, wv64_apply]
  rw [dkvn, ← sum_64, ← Finset.sum_add_distrib]
  refine Finset.sum_congr rfl fun j _ => ?_
  rw [wk_apply, dif_pos (by show k.val < 128; exact k.isLt), wkTop_apply, lanes, dkvHead]
  by_cases h : j.val % 128 < 64
  · rw [dif_pos (by omega), if_pos h, dif_pos h, dif_pos h, add_zero]
  · have e : 128 * ((64 * (j.val / 128) + (j.val % 128 - 64)) / 64) + 64 + (64 * (j.val / 128) + (j.val % 128 - 64)) % 64 = j.val := by omega
    rw [if_neg h, dif_neg h, dif_neg h, mul_zero, zero_add]
    simp only [e]

theorem pay14_apply (c : Dev nD) (t : Fin cfg0.N) (r : Fin 384) (k : Fin 256) :
    k0_pay14 (F := Ideal) (iblk m c 3 t) (ix2 r k) = xn cols256 (cq (zv m c) (row t r)) k := by
  pointwise [k0_pay14, k0_pay13, k0_pay12]
  simp only [b3]
  rfl

theorem pay13_apply (c : Dev nD) (t : Fin cfg0.N) (r : Fin 384) (k : Fin 1) :
    k0_pay13 (F := Ideal) (iblk m c 3 t) (ix2 r k) = Ideal.rsqrt (ms cols256 (cq (zv m c) (row t r))) := by
  pointwise [k0_pay13, k0_pay12]
  simp only [b3]
  rfl

theorem pay15_apply (c : Dev nD) (t : Fin cfg0.N) (r : Fin 384) (k : Fin 256) :
    k0_pay15 (F := Ideal) (pq m c t) (iblk m c 6 t) (iblk m c 3 t) (iblk m c 4 t) (ix2 r k)
      = rdx cols256 (hq (dqv m c) (gqv m c) (wuqv m c) (cosv m c) (sinv m c) (row t r)) (cq (zv m c) (row t r)) k := by
  pointwise [k0_pay15]
  simp only [pay13_apply, pay14_apply, pay9_apply, b4]
  rfl

theorem pay17_apply (c : Dev nD) (t : Fin cfg0.N) (r : Fin 384) (k : Fin 128) :
    k0_pay17 (F := Ideal) (iblk m c 3 t) (ix2 r k) = ckv (zv m c) (row t r) k := by
  pointwise [k0_pay17]
  rw [b3, ckv]
  have e : 1536 + (256 + k.val) = 1792 + k.val := by omega
  simp only [e]

theorem pay19_apply (c : Dev nD) (t : Fin cfg0.N) (r : Fin 384) (k : Fin 128) :
    k0_pay19 (F := Ideal) (k0_pay17 (iblk m c 3 t)) (ix2 r k) = xn cols128 (ckv (zv m c) (row t r)) k := by
  pointwise [k0_pay19, k0_pay18]
  simp only [pay17_apply]
  rfl

theorem pay18_apply (c : Dev nD) (t : Fin cfg0.N) (r : Fin 384) (k : Fin 1) :
    k0_pay18 (F := Ideal) (k0_pay17 (iblk m c 3 t)) (ix2 r k) = Ideal.rsqrt (ms cols128 (ckv (zv m c) (row t r))) := by
  pointwise [k0_pay18]
  simp only [pay17_apply]
  rfl

theorem pay22_apply (c : Dev nD) (t : Fin cfg0.N) (r : Fin 384) (k : Fin 128) :
    k0_pay22 (F := Ideal) (k0_pay11 (pk m c t) (pv m c t) (iblk m c 7 t) (iblk m c 8 t)) (k0_pay17 (iblk m c 3 t)) (iblk m c 5 t) (ix2 r k)
      = rdx cols128 (hkv (dkv m c) (dvv m c) (gkvv m c) (wukvv m c) (cosv m c) (sinv m c) (row t r)) (ckv (zv m c) (row t r)) k := by
  pointwise [k0_pay22]
  simp only [pay18_apply, pay19_apply, pay11_apply, b5]
  rfl

theorem pay23_apply (c : Dev nD) (t : Fin cfg0.N) (r : Fin 384) (k : Fin 128) :
    k0_pay23 (F := Ideal) (k0_pay10 (pk m c t) (iblk m c 7 t)) (ix2 r k) = dkr (dkv m c) (cosv m c) (sinv m c) (row t r) k := by
  pointwise [k0_pay23]
  rw [pay10_apply, dkr, ← sum_8]
  refine Finset.sum_congr rfl fun j _ => ?_
  have e : 128 + k.val - 128 = k.val := by omega
  rw [wk_apply, dif_neg (by show ¬ 128 + k.val < 128; omega), place_apply]
  simp only [e]

/-! ## The gradient of the projections' columns -/

/-- The newest store of some columns, read from a list of stores. -/
theorem canon_cols {o W : ℕ} (inb : ∀ a : Fin 2, (![0, o] : Fin 2 → ℕ) a + (![384, W] : Fin 2 → ℕ) a ≤ (![384, 512] : Fin 2 → ℕ) a)
    (w : (Rect.unit (s := S384x512) ![0, o] ![384, W] inb).shape.Idx → Elt Ideal .bf16) (L : List (View.Piece (Elt Ideal) S384x512 .bf16))
    (r : Fin 384) (l : Fin 512) :
    View.canon ((⟨Rect.unit (s := S384x512) ![0, o] ![384, W] inb, w⟩ : View.Piece (Elt Ideal) S384x512 .bf16) :: L) (ix2 r l)
      = if h : o ≤ l.val ∧ l.val < o + W then w (ix2 r (⟨l.val - o, by omega⟩ : Fin W)) else View.canon L (ix2 r l) := by
  split
  · rename_i h
    have hy : (Rect.unit (s := S384x512) ![0, o] ![384, W] inb).emb (ix2 r (⟨l.val - o, by omega⟩ : Fin W)) = ix2 r l := by
      funext a
      apply Fin.ext
      match a with
      | ⟨0, _⟩ => show 0 + 1 * r.val = r.val; omega
      | ⟨1, _⟩ => show o + 1 * (l.val - o) = l.val; omega
    rw [← hy]
    exact View.canon_cons_emb _ _ _ _
  · rename_i h
    refine View.canon_cons_of_not_mem _ _ ?_
    show ix2 r l ∉ (Rect.unit (s := S384x512) ![0, o] ![384, W] inb).set
    rw [Rect.mem_set_unit]
    intro hm
    have h1 : o ≤ l.val ∧ l.val < o + W := hm 1
    exact h h1

/-- The gradient of a row's projections, with the norms' gradients as the kernel computes them. -/
abbrev dzRow (c : Dev nD) (i : Fin 8448) : Fin 512 → EReal :=
  dz (dkv m c) (cosv m c) (sinv m c)
    (rdx cols256 (hq (dqv m c) (gqv m c) (wuqv m c) (cosv m c) (sinv m c) i) (cq (zv m c) i))
    (rdx cols128 (hkv (dkv m c) (dvv m c) (gkvv m c) (wukvv m c) (cosv m c) (sinv m c) i) (ckv (zv m c) i)) i

theorem cols_eq (c : Dev nD) (t : Fin cfg0.N) (r : Fin 384) (l : Fin 512)
    (i3 : ∀ a : Fin 2, (![0, 384] : Fin 2 → ℕ) a + (![384, 128] : Fin 2 → ℕ) a ≤ (![384, 512] : Fin 2 → ℕ) a)
    (i2 : ∀ a : Fin 2, (![0, 256] : Fin 2 → ℕ) a + (![384, 128] : Fin 2 → ℕ) a ≤ (![384, 512] : Fin 2 → ℕ) a)
    (i1 : ∀ a : Fin 2, (![0, 0] : Fin 2 → ℕ) a + (![384, 256] : Fin 2 → ℕ) a ≤ (![384, 512] : Fin 2 → ℕ) a) :
    View.canon (s := S384x512) (e := .bf16) (Val := Elt Ideal)
      [⟨Rect.unit (s := S384x512) ![0, 384] ![384, 128] i3, k0_pay23 (F := Ideal) (k0_pay10 (pk m c t) (iblk m c 7 t))⟩,
       ⟨Rect.unit (s := S384x512) ![0, 256] ![384, 128] i2, k0_pay22 (F := Ideal) (k0_pay11 (pk m c t) (pv m c t) (iblk m c 7 t) (iblk m c 8 t)) (k0_pay17 (iblk m c 3 t)) (iblk m c 5 t)⟩,
       ⟨Rect.unit (s := S384x512) ![0, 0] ![384, 256] i1, k0_pay21 (F := Ideal) (k0_pay15 (pq m c t) (iblk m c 6 t) (iblk m c 3 t) (iblk m c 4 t))⟩] (ix2 r l)
      = dzRow m c (row t r) l := by
  rw [canon_cols, canon_cols, canon_cols, dzRow, dz]
  by_cases h3 : 384 ≤ l.val
  · rw [dif_pos (by omega), pay23_apply, dif_neg (by omega), dif_neg (by omega)]
  by_cases h2 : 256 ≤ l.val
  · rw [dif_neg (by omega), dif_pos (by omega), pay22_apply, dif_neg (by omega), dif_pos (by omega)]
  · rw [dif_neg (by omega), dif_neg (by omega), dif_pos (by omega), dif_pos (by omega)]
    exact pay15_apply m c t r ⟨l.val - 0, by omega⟩

theorem after12_apply (c : Dev nD) (t : Fin cfg0.N) (y : S384x512.Idx) : (outsAt0 m c t.val t.isLt).1 y = dzRow m c (row t (y 0)) (y 1) := by
  by_cases h0 : t.val % 22 = 0
  · rw [outsAt0_A m c t h0]
    frame_out
    idx_vars y
    exact cols_eq m c t y0 y1 _ _ _
  · rw [outsAt0_B m c t h0]
    frame_out
    idx_vars y
    exact cols_eq m c t y0 y1 _ _ _

theorem final12 (c : Dev nD) : (dats m 0 c).arrAt 12 cfg0.N = mat (fun i => dzRow m c i) := by
  refine (dats m 0 c).arrAt_eq_of_covers 12 _ (by decide +kernel) fun t hf y => ?_
  blk_simp
  rw [after0_12]
  have hy : (win0_12.blk t).view.emb y = ix2 (row t (y 0)) (y 1) := by
    have := lt22 t
    blk_ext [idx0 t]
  rw [hy, after12_apply]
  rfl

/-! ## The gradients turned back, and the values' -/

theorem after13_apply (c : Dev nD) (t : Fin cfg0.N) (y : S384x1024.Idx) : (outsAt0 m c t.val t.isLt).2.1 y = lanes (dqHead (dqv m c) (cosv m c) (sinv m c) (row t (y 0))) (y 1) := by
  by_cases h0 : t.val % 22 = 0
  · rw [outsAt0_A m c t h0]
    frame_out
    idx_vars y
    exact pq_apply m c t y0 y1
  · rw [outsAt0_B m c t h0]
    frame_out
    idx_vars y
    exact pq_apply m c t y0 y1

theorem final13 (c : Dev nD) : (dats m 0 c).arrAt 13 cfg0.N = mat (fun i => lanes (dqHead (dqv m c) (cosv m c) (sinv m c) i)) := by
  refine (dats m 0 c).arrAt_eq_of_covers 13 _ (by decide +kernel) fun t hf y => ?_
  blk_simp
  rw [after0_13]
  have hy : (win0_13.blk t).view.emb y = ix2 (row t (y 0)) (y 1) := by
    have := lt22 t
    blk_ext [idx0 t]
  rw [hy, after13_apply]
  rfl

theorem after14_apply (c : Dev nD) (t : Fin cfg0.N) (y : S384x1024.Idx) : (outsAt0 m c t.val t.isLt).2.2.1 y = lanes (dkHead (dkv m c) (cosv m c) (sinv m c) (row t (y 0))) (y 1) := by
  by_cases h0 : t.val % 22 = 0
  · rw [outsAt0_A m c t h0]
    frame_out
    idx_vars y
    exact pk_apply m c t y0 y1
  · rw [outsAt0_B m c t h0]
    frame_out
    idx_vars y
    exact pk_apply m c t y0 y1

theorem final14 (c : Dev nD) : (dats m 0 c).arrAt 14 cfg0.N = mat (fun i => lanes (dkHead (dkv m c) (cosv m c) (sinv m c) i)) := by
  refine (dats m 0 c).arrAt_eq_of_covers 14 _ (by decide +kernel) fun t hf y => ?_
  blk_simp
  rw [after0_14]
  have hy : (win0_14.blk t).view.emb y = ix2 (row t (y 0)) (y 1) := by
    have := lt22 t
    blk_ext [idx0 t]
  rw [hy, after14_apply]
  rfl

theorem after15_apply (c : Dev nD) (t : Fin cfg0.N) (y : S384x512.Idx) : (outsAt0 m c t.val t.isLt).2.2.2.1 y = dvv m c (ix2 (row t (y 0)) (y 1)) := by
  by_cases h0 : t.val % 22 = 0
  · rw [outsAt0_A m c t h0]
    frame_out
    idx_vars y
    exact pv_apply m c t y0 y1
  · rw [outsAt0_B m c t h0]
    frame_out
    idx_vars y
    exact pv_apply m c t y0 y1

theorem final15 (c : Dev nD) : (dats m 0 c).arrAt 15 cfg0.N = mat (fun i j => dvv m c (ix2 i j)) := by
  refine (dats m 0 c).arrAt_eq_of_covers 15 _ (by decide +kernel) fun t hf y => ?_
  blk_simp
  rw [after0_15]
  have hy : (win0_15.blk t).view.emb y = ix2 (row t (y 0)) (y 1) := by
    have := lt22 t
    blk_ext [idx0 t]
  rw [hy, after15_apply]
  rfl

/-! ## The gradients of the two gains -/

/-- What row `i` adds to the queries' gain. -/
abbrev addQ (c : Dev nD) (l : Fin 256) (i : Fin 8448) : EReal :=
  dqn (dqv m c) (wuqv m c) (cosv m c) (sinv m c) i l * xn cols256 (cq (zv m c) i) l
/-- What row `i` adds to the keys' gain. -/
abbrev addK (c : Dev nD) (l : Fin 128) (i : Fin 8448) : EReal :=
  dkvn (dkv m c) (dvv m c) (wukvv m c) (cosv m c) (sinv m c) i l * xn cols128 (ckv (zv m c) i) l

/-- What point `t` adds to each. -/
def termQ (c : Dev nD) (t : Fin cfg0.N) : S8x256.Idx → EReal := firstRow fun l => ∑ r : Fin 384, addQ m c l (row t r)
def termK (c : Dev nD) (t : Fin cfg0.N) : S8x128.Idx → EReal := firstRow fun l => ∑ r : Fin 384, addK m c l (row t r)

theorem rowQ_apply (c : Dev nD) (t : Fin cfg0.N) (v : Vec Ideal S1x256 .f32) (l : Fin 256) :
    k0_pay1 (F := Ideal) (k0_pay16 (pq m c t) (iblk m c 6 t) (iblk m c 3 t)) (k0_pay26 v) (ix2 (0 : Fin 1) l)
      = v (ix2 (0 : Fin 1) l) + ∑ r : Fin 384, addQ m c l (row t r) := by
  pointwise [k0_pay1, k0_pay16, k0_pay26]
  simp only [pay9_apply, pay14_apply]

theorem rowK_apply (c : Dev nD) (t : Fin cfg0.N) (v : Vec Ideal S1x128 .f32) (l : Fin 128) :
    k0_pay2 (F := Ideal) (k0_pay20 (k0_pay11 (pk m c t) (pv m c t) (iblk m c 7 t) (iblk m c 8 t)) (k0_pay17 (iblk m c 3 t))) v (ix2 (0 : Fin 1) l)
      = v (ix2 (0 : Fin 1) l) + ∑ r : Fin 384, addK m c l (row t r) := by
  pointwise [k0_pay2, k0_pay20]
  simp only [pay11_apply, pay19_apply]

/-- The first row that a store leaves, over the values `X` held before. -/
theorem rows_eq {n : ℕ} (X : Mat 8 n) (f : Fin n → EReal) (y0 : Fin 8) (y1 : Fin n) :
    (if y0.val = 0 then X (ix2 (0 : Fin 8) y1) + f y1 else X (ix2 y0 y1)) = X (ix2 y0 y1) + firstRow f (ix2 y0 y1) := by
  rw [firstRow_ix2]
  obtain ⟨k, hk⟩ := y0
  by_cases h : k = 0
  · subst h; rfl
  · rw [if_neg h, if_neg h, add_zero]

theorem stepQ_A (c : Dev nD) (t : Fin cfg0.N) (h0 : t.val % 22 = 0) (y : S8x256.Idx) :
    (outsAt0 m c t.val t.isLt).2.2.2.2.1 y = k0_pay24 (F := Ideal) y + termQ m c t y := by
  rw [outsAt0_A m c t h0]
  frame_open
  simp (disch := decide) only [↓ View.readCov_skip, ↓ View.readCov_cons_toLoadRect, ↓ View.readCov_fill]
  frame_out
  idx_vars y
  rw [Rows.canon_row, rowQ_apply, Rows.ld_row (by decide), View.canon_cons_unit_lit (S := S8x256)]
  · exact rows_eq (k0_pay24 (F := Ideal)) (fun l => ∑ r : Fin 384, addQ m c l (row t r)) y0 y1
  · decide

theorem stepQ_B (c : Dev nD) (t : Fin cfg0.N) (h0 : ¬ t.val % 22 = 0) (y : S8x256.Idx) : (outsAt0 m c t.val t.isLt).2.2.2.2.1 y
     = (outsAt0 m c (t.val - 1) (Nat.lt_of_le_of_lt (Nat.sub_le _ _) t.isLt)).2.2.2.2.1 y + termQ m c t y := by
  rw [outsAt0_B m c t h0]
  frame_out
  idx_vars y
  rw [Rows.read_row, rowQ_apply, Rows.ld_row (by decide), View.writes, Memref.IsWhole.read_unread]
  exact rows_eq (outsAt0 m c (t.val - 1) (Nat.lt_of_le_of_lt (Nat.sub_le _ _) t.isLt)).2.2.2.2.1 (fun l => ∑ r : Fin 384, addQ m c l (row t r)) y0 y1

theorem stepK_A (c : Dev nD) (t : Fin cfg0.N) (h0 : t.val % 22 = 0) (y : S8x128.Idx) :
    (outsAt0 m c t.val t.isLt).2.2.2.2.2 y = k0_pay25 (F := Ideal) y + termK m c t y := by
  rw [outsAt0_A m c t h0]
  frame_open
  simp (disch := decide) only [↓ View.readCov_skip, ↓ View.readCov_cons_toLoadRect, ↓ View.readCov_fill]
  frame_out
  idx_vars y
  rw [Rows.canon_row, rowK_apply, Rows.ld_row (by decide), View.canon_cons_unit_lit (S := S8x128)]
  · exact rows_eq (k0_pay25 (F := Ideal)) (fun l => ∑ r : Fin 384, addK m c l (row t r)) y0 y1
  · decide

theorem stepK_B (c : Dev nD) (t : Fin cfg0.N) (h0 : ¬ t.val % 22 = 0) (y : S8x128.Idx) : (outsAt0 m c t.val t.isLt).2.2.2.2.2 y
     = (outsAt0 m c (t.val - 1) (Nat.lt_of_le_of_lt (Nat.sub_le _ _) t.isLt)).2.2.2.2.2 y + termK m c t y := by
  rw [outsAt0_B m c t h0]
  frame_out
  idx_vars y
  rw [Rows.read_row, rowK_apply, Rows.ld_row (by decide), View.writes, Memref.IsWhole.read_unread]
  exact rows_eq (outsAt0 m c (t.val - 1) (Nat.lt_of_le_of_lt (Nat.sub_le _ _) t.isLt)).2.2.2.2.2 (fun l => ∑ r : Fin 384, addK m c l (row t r)) y0 y1

/-- The points' sums are the sum over all rows. -/
theorem sum_rows (g : Fin 8448 → EReal) : ∑ t : Fin 22, ∑ r : Fin 384, g (⟨384 * t.val + r.val, by omega⟩ : Fin 8448) = ∑ t : Fin 8448, g t := by
  have h := Fin.sum_univ_univ_mul_add 22 384 (fun t => if h : t < 8448 then g ⟨t, h⟩ else 0)
  simp only [Nat.reduceMul, Fin.is_lt, dif_pos, Fin.eta] at h
  rw [← h]
  refine Finset.sum_congr rfl fun t _ => Finset.sum_congr rfl fun r _ => ?_
  rw [dif_pos (by omega)]
  exact congrArg g (Fin.ext (show 384 * t.val + r.val = t.val * 384 + r.val by omega))

/-- The last point. -/
def tLast : Fin cfg0.N := ⟨21, (by rw [N_0]; decide : 21 < grid0.N)⟩

/-- The queries' gain's gradient, and the keys'. -/
abbrev dgqRow (c : Dev nD) : Mat 8 256 := firstRow (dgq (dqv m c) (zv m c) (wuqv m c) (cosv m c) (sinv m c))
abbrev dgkvRow (c : Dev nD) : Mat 8 128 := firstRow (dgkv (dkv m c) (dvv m c) (zv m c) (wukvv m c) (cosv m c) (sinv m c))

theorem after16_apply (c : Dev nD) (t : Fin cfg0.N) (ht : t.val + 1 = cfg0.N) (j : S8x256.Idx) :
    (outsAt0 m c t.val t.isLt).2.2.2.2.1 j = dgqRow m c j := by
  rw [Pipeline.eq_sum_fin_of_reset_step_apply_last (fun n h => (outsAt0 m c n h).2.2.2.2.1) 22 (k0_pay24 (F := Ideal)) (termQ m c)
    (stepQ_A m c) (stepQ_B m c) (by decide) t ht j]
  idx_vars j
  pointwise [k0_pay24]
  unfold dgqRow dgq termQ
  simp only [firstRow_ix2]
  rw [← sum_rows]
  by_cases h0 : j0.val = 0
  · simp only [if_pos h0]; rfl
  · simp only [if_neg h0]; simp

theorem final16 (c : Dev nD) : (dats m 0 c).arrAt 16 cfg0.N = dgqRow m c := by
  refine (dats m 0 c).arrAt_eq_of_after_last 16 tLast (by decide +kernel) _ fun j => ?_
  blk_simp
  rw [after0_16]
  exact after16_apply m c tLast N_0.symm j

theorem after17_apply (c : Dev nD) (t : Fin cfg0.N) (ht : t.val + 1 = cfg0.N) (j : S8x128.Idx) :
    (outsAt0 m c t.val t.isLt).2.2.2.2.2 j = dgkvRow m c j := by
  rw [Pipeline.eq_sum_fin_of_reset_step_apply_last (fun n h => (outsAt0 m c n h).2.2.2.2.2) 22 (k0_pay25 (F := Ideal)) (termK m c)
    (stepK_A m c) (stepK_B m c) (by decide) t ht j]
  idx_vars j
  pointwise [k0_pay25]
  unfold dgkvRow dgkv termK
  simp only [firstRow_ix2]
  rw [← sum_rows]
  by_cases h0 : j0.val = 0
  · simp only [if_pos h0]; rfl
  · simp only [if_neg h0]; simp

theorem final17 (c : Dev nD) : (dats m 0 c).arrAt 17 cfg0.N = dgkvRow m c := by
  refine (dats m 0 c).arrAt_eq_of_after_last 17 tLast (by decide +kernel) _ fun j => ?_
  blk_simp
  rw [after0_17]
  exact after17_apply m c tLast N_0.symm j

end Cert.QkvBwdIdeal.Val
end
-- ==== Proof.QkvBwdRef.lean ====
/- The reference's gradients of the queries', keys' and values' projections in closed form. -/
module

public import proofs.«01_k».proof.Proof.Gen.QkvBwdReferenceIdeal.Read
public import proofs.«01_k».proof.Proof.QkvBwdMath

@[expose] public section

set_option maxRecDepth 16384

noncomputable section

namespace Cert.QkvBwdReferenceIdeal.Val

open Idealize.ShloMosaic Idealize.ShloMosaic.TcCoe Idealize.SL.Sem
open Cert Cert.Products Cert.QkvMath Cert.QkvBwdMath Cert.QkvBwdReferenceIdeal Cert.QkvBwdReferenceIdeal.Gen Cert.QkvBwdReferenceIdeal.Read
open Cert.LnMath (mhalf two)

variable (dq dk : Mat 8448 1024) (dv : Mat 8448 512) (z : Mat 8448 4096) (gq : Mat 1 256) (gkv : Mat 1 128) (wq : Mat 256 768) (wkv : Mat 128 1024) (co si : Mat 8448 16)

/-! ## The rotation turned back -/

theorem v24_apply (i : Fin 8448) (h : Fin 8) (d : Fin 96) : val_main_v24 (F := Ideal) dq (ix3 i h d) = head (fun j => dq (ix2 i j) * scale96) h d := by
  pointwise [val_main_v24, val_main_v23, val_main_cst_1, val_main_v22, val_main_v21]
  rw [head]
  have e : h.val * 128 + d.val = 128 * h.val + d.val := by omega
  simp only [e]

theorem v63_apply (i : Fin 8448) (h : Fin 8) (d : Fin 96) : val_main_v63 (F := Ideal) dk (ix3 i h d) = head (fun j => dk (ix2 i j)) h d := by
  pointwise [val_main_v63, val_main_v62]
  rw [head]
  have e : h.val * 128 + d.val = 128 * h.val + d.val := by omega
  simp only [e]

theorem v39_apply (i : Fin 8448) (h : Fin 8) (e : Fin 16) : val_main_v39 (F := Ideal) dq co si (ix3 i h e)
    = head (fun j => dq (ix2 i j) * scale96) h ⟨64 + e.val, by omega⟩ * co (ix2 i e) + head (fun j => dq (ix2 i j) * scale96) h ⟨64 + e.val + 16, by omega⟩ * si (ix2 i e) := by
  pointwise [val_main_v39, val_main_v38, val_main_v37, val_main_v30, val_main_v29, val_main_v28, val_main_v27, val_main_v26, val_main_v3, val_main_v4]
  simp only [v24_apply]
  have e' : 64 + (16 + e.val) = 64 + e.val + 16 := by omega
  simp only [e']
  exact add_comm _ _

theorem v36_apply (i : Fin 8448) (h : Fin 8) (e : Fin 16) : val_main_v36 (F := Ideal) dq co si (ix3 i h e)
    = head (fun j => dq (ix2 i j) * scale96) h ⟨64 + e.val + 16, by omega⟩ * co (ix2 i e) - head (fun j => dq (ix2 i j) * scale96) h ⟨64 + e.val, by omega⟩ * si (ix2 i e) := by
  pointwise [val_main_v36, val_main_v35, val_main_v34, val_main_v33, val_main_v32, val_main_v31, val_main_v28, val_main_v27, val_main_v26, val_main_v3, val_main_v4]
  simp only [v24_apply]
  have e' : 64 + (16 + e.val) = 64 + e.val + 16 := by omega
  simp only [e']
  rw [EReal.neg_mul, ← sub_eq_add_neg]
  rfl

theorem v78_apply (i : Fin 8448) (h : Fin 8) (e : Fin 16) : val_main_v78 (F := Ideal) dk co si (ix3 i h e)
    = head (fun j => dk (ix2 i j)) h ⟨64 + e.val, by omega⟩ * co (ix2 i e) + head (fun j => dk (ix2 i j)) h ⟨64 + e.val + 16, by omega⟩ * si (ix2 i e) := by
  pointwise [val_main_v78, val_main_v77, val_main_v76, val_main_v69, val_main_v68, val_main_v67, val_main_v66, val_main_v65, val_main_v46, val_main_v47]
  simp only [v63_apply]
  have e' : 64 + (16 + e.val) = 64 + e.val + 16 := by omega
  simp only [e']
  exact add_comm _ _

theorem v75_apply (i : Fin 8448) (h : Fin 8) (e : Fin 16) : val_main_v75 (F := Ideal) dk co si (ix3 i h e)
    = head (fun j => dk (ix2 i j)) h ⟨64 + e.val + 16, by omega⟩ * co (ix2 i e) - head (fun j => dk (ix2 i j)) h ⟨64 + e.val, by omega⟩ * si (ix2 i e) := by
  pointwise [val_main_v75, val_main_v74, val_main_v73, val_main_v72, val_main_v71, val_main_v70, val_main_v67, val_main_v66, val_main_v65, val_main_v46, val_main_v47]
  simp only [v63_apply]
  have e' : 64 + (16 + e.val) = 64 + e.val + 16 := by omega
  simp only [e']
  rw [EReal.neg_mul, ← sub_eq_add_neg]

theorem v43_apply (i : Fin 8448) (h : Fin 8) (d : Fin 96) : val_main_v43 (F := Ideal) dq co si (ix3 i h d) = dqHead dq co si i h d := by
  pointwise [val_main_v43, val_main_v42, val_main_v41, val_main_v40, val_main_v25, val_main_cst_2, val_main_cst_3]
  rw [dqHead, ropeT]
  by_cases h1 : d.val < 64
  · rw [dif_neg (by omega), dif_pos h1, dif_pos h1, zero_add, v24_apply]
  rw [dif_pos (by omega), dif_neg h1, dif_neg h1, add_zero]
  by_cases h2 : d.val - 64 < 16
  · have e1 : 64 + (d.val - 64) = d.val := by omega
    rw [dif_pos h2, dif_pos h2, v39_apply]
    simp only [e1]
  · have e1 : 64 + (d.val - 64 - 16) + 16 = d.val := by omega
    have e2 : 64 + (d.val - 64 - 16) = d.val - 16 := by omega
    rw [dif_neg h2, dif_neg h2, v36_apply]
    have e3 : d.val - 16 + 16 = d.val := by omega
    simp only [e2, e3]

theorem v82_apply (i : Fin 8448) (h : Fin 8) (d : Fin 96) : val_main_v82 (F := Ideal) dk co si (ix3 i h d) = dkHead dk co si i h d := by
  pointwise [val_main_v82, val_main_v81, val_main_v80, val_main_v79, val_main_v64, val_main_cst_4, val_main_cst_5]
  rw [dkHead, ropeT]
  by_cases h1 : d.val < 64
  · rw [dif_neg (by omega), dif_pos h1, dif_pos h1, zero_add, v63_apply]
  rw [dif_pos (by omega), dif_neg h1, dif_neg h1, add_zero]
  by_cases h2 : d.val - 64 < 16
  · have e1 : 64 + (d.val - 64) = d.val := by omega
    rw [dif_pos h2, dif_pos h2, v78_apply]
    simp only [e1]
  · have e1 : 64 + (d.val - 64 - 16) + 16 = d.val := by omega
    have e2 : 64 + (d.val - 64 - 16) = d.val - 16 := by omega
    rw [dif_neg h2, dif_neg h2, v75_apply]
    have e3 : d.val - 16 + 16 = d.val := by omega
    simp only [e2, e3]

/-! ## The products -/

theorem v87_apply (i : Fin 8448) (k : Fin 256) : val_main_v87 (F := Ideal) dq wq co si (ix2 i k) = dqn dq wq co si i k := by
  pointwise [val_main_v87, val_main_v86, val_main_v84]
  rw [dqn]
  exact Finset.sum_congr rfl fun x _ => by rw [v43_apply]

theorem v103_apply (i : Fin 8448) (j : Fin 1024) (h : Fin 8) (d : Fin 128) (hh : h.val = j.val / 128) (hd : d.val = j.val % 128) :
    val_main_v103 (F := Ideal) dk dv co si (ix3 i h d) = dkvHead dk dv co si i j := by
  pointwise [val_main_v103, val_main_v102, val_main_v100, val_main_v99, val_main_v98, val_main_cst_9, val_main_cst_10]
  rw [dkvHead]
  by_cases h1 : d.val < 64
  · rw [dif_neg (by omega), dif_pos h1, dif_pos (by omega), zero_add, v82_apply]
    have eh : h = (⟨j.val / 128, by omega⟩ : Fin 8) := Fin.ext hh
    rw [← eh]
    simp only [hd]
  · have e : h.val * 64 + (d.val - 64) = 64 * (j.val / 128) + (j.val % 128 - 64) := by omega
    rw [dif_pos (by omega), dif_neg h1, dif_neg (by omega), add_zero]
    simp only [e]

theorem v108_apply (i : Fin 8448) (k : Fin 128) : val_main_v108 (F := Ideal) dk dv wkv co si (ix2 i k) = dkvn dk dv wkv co si i k := by
  pointwise [val_main_v108, val_main_v107, val_main_v90]
  rw [dkvn]
  refine Finset.sum_congr rfl fun x _ => ?_
  rw [v103_apply dk dv co si i x _ _ rfl rfl]

theorem v106_apply (i : Fin 8448) (r : Fin 32) : val_main_v106 (F := Ideal) dk co si (ix2 i r) = ∑ k : Fin 8, dkHead dk co si i k ⟨64 + r.val, by omega⟩ := by
  pointwise [val_main_v106, val_main_v105, val_main_v104, val_main_v101, val_main_cst_11, val_main_cst_12]
  simp only [v82_apply, Fin.sum_univ_one]

/-! ## The norms' gradients -/

theorem v119_apply (i : Fin 8448) (k : Fin 1) : val_main_v119 (F := Ideal) z (ix2 i k) = ms cols256 (cq z i) := by
  pointwise [val_main_v119, val_main_v118, val_main_v117, val_main_v116, val_main_v115, val_main_v114, val_main_v111, val_main_v109, val_main_cst_14, val_main_cst_15, val_main_cst_16]
  rfl

theorem v120_apply (i : Fin 8448) (k : Fin 1) : val_main_v120 (F := Ideal) z (ix2 i k) = Ideal.rsqrt (ms cols256 (cq z i)) := by
  pointwise [val_main_v120]
  rw [v119_apply]
  rfl

theorem v132_apply (i : Fin 8448) (k : Fin 256) : val_main_v132 (F := Ideal) dq gq wq co si (ix2 i k) = hq dq gq wq co si i k := by
  pointwise [val_main_v132, val_main_v131]
  rw [v87_apply]
  rfl

theorem v144_apply (i : Fin 8448) (k : Fin 256) : val_main_v144 (F := Ideal) dq z gq wq co si (ix2 i k) = rdxLines cols256 (hq dq gq wq co si i) (cq z i) k := by
  pointwise [val_main_v144, val_main_v143, val_main_v142, val_main_v141, val_main_v140, val_main_v139, val_main_v138, val_main_v137, val_main_v136, val_main_v135, val_main_v134, val_main_v133,
    val_main_v123, val_main_v122, val_main_v121, val_main_v113, val_main_v112, val_main_v109, val_main_cst_13, val_main_cst_17, val_main_cst_19, val_main_cst_20, val_main_cst_21]
  simp only [v119_apply, v120_apply, v132_apply, Fin.sum_univ_one]
  rfl

theorem v153_apply (i : Fin 8448) (k : Fin 1) : val_main_v153 (F := Ideal) z (ix2 i k) = ms cols128 (ckv z i) := by
  pointwise [val_main_v153, val_main_v152, val_main_v151, val_main_v150, val_main_v149, val_main_v148, val_main_v145, val_main_v110, val_main_cst_23, val_main_cst_24, val_main_cst_25]
  rfl

theorem v154_apply (i : Fin 8448) (k : Fin 1) : val_main_v154 (F := Ideal) z (ix2 i k) = Ideal.rsqrt (ms cols128 (ckv z i)) := by
  pointwise [val_main_v154]
  rw [v153_apply]
  rfl

theorem v166_apply (i : Fin 8448) (k : Fin 128) : val_main_v166 (F := Ideal) dk dv gkv wkv co si (ix2 i k) = hkv dk dv gkv wkv co si i k := by
  pointwise [val_main_v166, val_main_v165]
  rw [v108_apply]
  rfl

theorem v178_apply (i : Fin 8448) (k : Fin 128) : val_main_v178 (F := Ideal) dk dv z gkv wkv co si (ix2 i k) = rdxLines cols128 (hkv dk dv gkv wkv co si i) (ckv z i) k := by
  pointwise [val_main_v178, val_main_v177, val_main_v176, val_main_v175, val_main_v174, val_main_v173, val_main_v172, val_main_v171, val_main_v170, val_main_v169, val_main_v168, val_main_v167,
    val_main_v157, val_main_v156, val_main_v155, val_main_v147, val_main_v146, val_main_v110, val_main_cst_22, val_main_cst_26, val_main_cst_28, val_main_cst_29, val_main_cst_30]
  simp only [v153_apply, v154_apply, v166_apply, Fin.sum_univ_one]
  rfl

/-! ## The results -/

theorem dz_eq : val_main_v185 (F := Ideal) dq dk dv z gq gkv wq wkv co si
    = mat (fun i => dz dk co si (rdxLines cols256 (hq dq gq wq co si i) (cq z i)) (rdxLines cols128 (hkv dk dv gkv wkv co si i) (ckv z i)) i) := by
  funext y
  idx_vars y
  pointwise [val_main_v185, val_main_v180, val_main_v179, val_main_cst_31]
  show _ = dz dk co si (rdxLines cols256 (hq dq gq wq co si y0) (cq z y0)) (rdxLines cols128 (hkv dk dv gkv wkv co si y0) (ckv z y0)) y0 y1
  rw [dz]
  by_cases h1 : y1.val < 256
  · rw [dif_pos h1, dif_pos h1, v144_apply]
  by_cases h2 : y1.val - 256 < 128
  · rw [dif_neg h1, dif_neg h1, dif_pos h2, dif_pos h2, v178_apply]
  rw [dif_neg h1, dif_neg h1, dif_neg h2, dif_neg h2, dkr]
  have e : y1.val - 256 - 128 = y1.val - 384 := by omega
  by_cases h3 : y1.val - 384 < 32
  · rw [dif_pos (by omega), dif_pos h3, v106_apply]
    simp only [e]
  · rw [dif_neg (by omega), dif_neg h3]

theorem dqb_eq : val_main_v189 (F := Ideal) dq co si = mat (fun i => lanes (dqHead dq co si i)) := by
  funext y
  idx_vars y
  pointwise [val_main_v189, val_main_v188, val_main_v187, val_main_v186, val_main_cst_34]
  show _ = lanes (dqHead dq co si y0) y1
  rw [lanes]
  simp only [v43_apply]

theorem dkb_eq : val_main_v193 (F := Ideal) dk co si = mat (fun i => lanes (dkHead dk co si i)) := by
  funext y
  idx_vars y
  pointwise [val_main_v193, val_main_v192, val_main_v191, val_main_v190, val_main_cst_35]
  show _ = lanes (dkHead dk co si y0) y1
  rw [lanes]
  simp only [v82_apply]

theorem dvb_eq : val_main_v194 (F := Ideal) dv = mat (fun i j => dv (ix2 i j)) := by
  funext y
  idx_vars y
  pointwise [val_main_v194]
  rfl

theorem dgq_eq : val_main_v182 (F := Ideal) dq z wq co si = firstRow (dgq dq z wq co si) := by
  funext y
  idx_vars y
  pointwise [val_main_v182, val_main_v181, val_main_v130, val_main_v129, val_main_v128, val_main_v125, val_main_v124, val_main_v109, val_main_cst_18, val_main_cst_32]
  simp only [v120_apply, v87_apply]
  rw [firstRow_ix2]
  by_cases h : y0.val = 0
  · rw [dif_pos (by omega), if_pos h]
    exact Finset.sum_congr rfl fun t _ => mul_comm _ _
  · rw [dif_neg (by omega), if_neg h]

theorem dgkv_eq : val_main_v184 (F := Ideal) dk dv z wkv co si = firstRow (dgkv dk dv z wkv co si) := by
  funext y
  idx_vars y
  pointwise [val_main_v184, val_main_v183, val_main_v164, val_main_v163, val_main_v162, val_main_v159, val_main_v158, val_main_v110, val_main_cst_27, val_main_cst_33]
  simp only [v154_apply, v108_apply]
  rw [firstRow_ix2]
  by_cases h : y0.val = 0
  · rw [dif_pos (by omega), if_pos h]
    exact Finset.sum_congr rfl fun t _ => mul_comm _ _
  · rw [dif_neg (by omega), if_neg h]

end Cert.QkvBwdReferenceIdeal.Val
end
-- ==== Proof.QkvBwdClaim.lean ====
/- The claims about the gradients of the queries', keys' and values' projections: the frames, and the equality of the results where the
   cotangents, the gains, the weights and the tables are finite. -/
module

public import proofs.«01_k».proof.Proof.Gen.QkvBwd.Frame
public import proofs.«01_k».proof.Proof.QkvBwdKernel
public import proofs.«01_k».proof.Proof.QkvBwdRef

@[expose] public section

set_option maxRecDepth 16384

noncomputable section

namespace Cert.QkvBwdClaim

open Idealize.ShloMosaic Idealize.ShloMosaic.TcCoe Idealize.SL.Sem
open Cert Cert.Products Cert.QkvMath Cert.FfnMath Cert.QkvBwdMath Cert.QkvBwdIdeal.Val

local instance : Cert.QkvBwd.Facts := Cert.QkvBwd.Gen.facts
local instance : Cert.QkvBwdIdeal.Facts := Cert.QkvBwdIdeal.Gen.facts
local instance : Cert.QkvBwdReferenceIdeal.Facts := Cert.QkvBwdReferenceIdeal.Gen.facts

/-- What the precondition's comparisons need of the shapes. -/
theorem preFacts : Cert.Pre_finite_qkvbwd.Facts := ⟨by decide, by decide, by decide, by decide, by decide, by decide, by decide, by decide⟩

local instance : Cert.Pre_finite_qkvbwd.Facts := preFacts

theorem frame_k : Cert.quiescent_QkvBwd := fun m ρ _ => Cert.QkvBwd.Gen.frame m ρ
theorem frame_ki : Cert.quiescent_QkvBwdIdeal := fun m ρ _ => Cert.QkvBwdIdeal.Gen.frame m ρ
theorem frame_ki_pre : Cert.quiescent_QkvBwdIdeal_pre_finite_qkvbwd := fun m ρ _ => Cert.QkvBwdIdeal.Gen.frame m ρ
theorem frame_ri : Cert.quiescent_QkvBwdReferenceIdeal := fun m ρ _ =>
  (θ_run Cert.QkvBwdReferenceIdeal.defs _ _).mono (fun r h => ⟨fun c => (h c).2.2.2.2.2.2, sem_eq_zero_of_no_sems (by decide) r.2⟩)
    (Cert.QkvBwdReferenceIdeal.Value.run (F := Ideal) m ρ)
theorem frame_ri_pre : Cert.quiescent_QkvBwdReferenceIdeal_pre_finite_qkvbwd := fun m ρ _ => frame_ri m ρ trivial

variable (m : (ℓ : Loc Cert.QkvBwdIdeal.nD Cert.QkvBwdIdeal.τ Cert.QkvBwdIdeal.sig) → Buf (Elt Ideal) ℓ)

/-- The queries' gradient turned back is finite. -/
theorem fin_dq (hp : Cert.Pre_QkvBwdIdeal_finite_qkvbwd m) (c : Dev Cert.QkvBwdIdeal.nD) (i : Fin 8448) (h : Fin 8) (d : Fin 96) :
    Fin' (dqHead (dqv m c) (cosv m c) (sinv m c) i h d) := by
  obtain ⟨h0, h1, h2, h4, h5, h6, h7, h8, h9⟩ := hp c
  exact fin_ropeT (fun d => fin_mul (fin_of_abs (congrFun h0 _)) scale96_fin) (fun e => fin_of_abs (congrFun h8 _)) (fun e => fin_of_abs (congrFun h9 _)) d

/-- The keys' gradient turned back is finite. -/
theorem fin_dk (hp : Cert.Pre_QkvBwdIdeal_finite_qkvbwd m) (c : Dev Cert.QkvBwdIdeal.nD) (i : Fin 8448) (h : Fin 8) (d : Fin 96) :
    Fin' (dkHead (dkv m c) (cosv m c) (sinv m c) i h d) := by
  obtain ⟨h0, h1, h2, h4, h5, h6, h7, h8, h9⟩ := hp c
  exact fin_ropeT (fun d => fin_of_abs (congrFun h1 _)) (fun e => fin_of_abs (congrFun h8 _)) (fun e => fin_of_abs (congrFun h9 _)) d

/-- The cotangent of the queries' normalised row is finite. -/
theorem fin_hq (hp : Cert.Pre_QkvBwdIdeal_finite_qkvbwd m) (c : Dev Cert.QkvBwdIdeal.nD) (i : Fin 8448) (k : Fin 256) :
    Fin' (hq (dqv m c) (gqv m c) (wuqv m c) (cosv m c) (sinv m c) i k) := by
  have hd := fin_dq m hp c
  obtain ⟨h0, h1, h2, h4, h5, h6, h7, h8, h9⟩ := hp c
  exact fin_mul (fin_sum _ fun x => fin_mul (hd _ _ _) (fin_of_abs (congrFun h6 (ix2 k x)))) (fin_of_abs (congrFun h4 _))

/-- The cotangent of the keys' and values' normalised row is finite. -/
theorem fin_hkv (hp : Cert.Pre_QkvBwdIdeal_finite_qkvbwd m) (c : Dev Cert.QkvBwdIdeal.nD) (i : Fin 8448) (k : Fin 128) :
    Fin' (hkv (dkv m c) (dvv m c) (gkvv m c) (wukvv m c) (cosv m c) (sinv m c) i k) := by
  have hd := fin_dk m hp c
  obtain ⟨h0, h1, h2, h4, h5, h6, h7, h8, h9⟩ := hp c
  refine fin_mul (fin_sum _ fun x => fin_mul ?_ (fin_of_abs (congrFun h7 (ix2 k x)))) (fin_of_abs (congrFun h5 _))
  unfold dkvHead
  split
  · exact hd _ _ _
  · exact fin_of_abs (congrFun h2 _)

/-- The kernel's form of a row's gradient is the reference's. -/
theorem rows_eq (hp : Cert.Pre_QkvBwdIdeal_finite_qkvbwd m) (c : Dev Cert.QkvBwdIdeal.nD) (i : Fin 8448) :
    dz (dkv m c) (cosv m c) (sinv m c) (rdxLines cols256 (hq (dqv m c) (gqv m c) (wuqv m c) (cosv m c) (sinv m c) i) (cq (zv m c) i))
        (rdxLines cols128 (hkv (dkv m c) (dvv m c) (gkvv m c) (wukvv m c) (cosv m c) (sinv m c) i) (ckv (zv m c) i)) i
      = dzRow m c i := by
  rw [dzRow, show rdx cols256 (hq (dqv m c) (gqv m c) (wuqv m c) (cosv m c) (sinv m c) i) (cq (zv m c) i) = _ from
      funext fun j => rdx_eq (by norm_num) cols256_eq (fin_hq m hp c i) j,
    show rdx cols128 (hkv (dkv m c) (dvv m c) (gkvv m c) (wukvv m c) (cosv m c) (sinv m c) i) (ckv (zv m c) i) = _ from
      funext fun j => rdx_eq (by norm_num) cols128_eq (fin_hkv m hp c i) j]

/-- Both programs leave the closed forms of QkvBwdMath. -/
theorem algebraic : Cert.algebraic_QkvBwdIdeal_QkvBwdReferenceIdeal_pre_finite_qkvbwd := fun m g m' g' hp hm =>
  ⟨fun c => mat (fun i => dzRow m c i),
   fun c => mat (fun i => lanes (dqHead (dqv m c) (cosv m c) (sinv m c) i)),
   fun c => mat (fun i => lanes (dkHead (dkv m c) (cosv m c) (sinv m c) i)),
   fun c => mat (fun i j => dvv m c (ix2 i j)),
   fun c => dgqRow m c,
   fun c => dgkvRow m c,
   (θ_run Cert.QkvBwdIdeal.defs _ _).mono (fun _ h c => ⟨(h c).1.trans (final12 m c), (h c).2.1.trans (final13 m c), (h c).2.2.1.trans (final14 m c),
      (h c).2.2.2.1.trans (final15 m c), (h c).2.2.2.2.1.trans (final16 m c), (h c).2.2.2.2.2.1.trans (final17 m c), (h c).2.2.2.2.2.2⟩)
     (Cert.QkvBwdIdeal.Value.run_blocks (F := Ideal) m g),
   (θ_run Cert.QkvBwdReferenceIdeal.defs _ _).mono (fun _ h c => by
      obtain ⟨e0, e1, e2, e3, e4, e5, e6, e7, e8, e9⟩ := hm c
      have E0 : StableHlo.launchContents m' c (Proc.devRef .tc QkvBwdReferenceIdeal.main_arg0) = dqv m c := e0
      have E1 : StableHlo.launchContents m' c (Proc.devRef .tc QkvBwdReferenceIdeal.main_arg1) = dkv m c := e1
      have E2 : StableHlo.launchContents m' c (Proc.devRef .tc QkvBwdReferenceIdeal.main_arg2) = dvv m c := e2
      have E3 : StableHlo.launchContents m' c (Proc.devRef .tc QkvBwdReferenceIdeal.main_arg3) = zv m c := e3
      have E4 : StableHlo.launchContents m' c (Proc.devRef .tc QkvBwdReferenceIdeal.main_arg4) = gqv m c := e4
      have E5 : StableHlo.launchContents m' c (Proc.devRef .tc QkvBwdReferenceIdeal.main_arg5) = gkvv m c := e5
      have E6 : StableHlo.launchContents m' c (Proc.devRef .tc QkvBwdReferenceIdeal.main_arg6) = wuqv m c := e6
      have E7 : StableHlo.launchContents m' c (Proc.devRef .tc QkvBwdReferenceIdeal.main_arg7) = wukvv m c := e7
      have E8 : StableHlo.launchContents m' c (Proc.devRef .tc QkvBwdReferenceIdeal.main_arg8) = cosv m c := e8
      have E9 : StableHlo.launchContents m' c (Proc.devRef .tc QkvBwdReferenceIdeal.main_arg9) = sinv m c := e9
      obtain ⟨h0, h1, h2, h3, h4, h5, hk⟩ := h c
      refine ⟨(h0.trans (QkvBwdReferenceIdeal.Read.val_main_v185_eq _)).trans ?_, (h1.trans (QkvBwdReferenceIdeal.Read.val_main_v189_eq _)).trans ?_,
        (h2.trans (QkvBwdReferenceIdeal.Read.val_main_v193_eq _)).trans ?_, h3.trans ?_, (h4.trans (QkvBwdReferenceIdeal.Read.val_main_v182_eq _)).trans ?_,
        (h5.trans (QkvBwdReferenceIdeal.Read.val_main_v184_eq _)).trans ?_, hk⟩
      · rw [E0, E1, E2, E3, E4, E5, E6, E7, E8, E9]
        exact (QkvBwdReferenceIdeal.Val.dz_eq _ _ _ _ _ _ _ _ _ _).trans (congrArg mat (funext fun i => rows_eq m hp c i))
      · rw [E0, E8, E9]
        exact QkvBwdReferenceIdeal.Val.dqb_eq _ _ _
      · rw [E1, E8, E9]
        exact QkvBwdReferenceIdeal.Val.dkb_eq _ _ _
      · rw [E2]
        exact QkvBwdReferenceIdeal.Val.dvb_eq _
      · rw [E0, E3, E6, E8, E9]
        exact QkvBwdReferenceIdeal.Val.dgq_eq _ _ _ _ _
      · rw [E1, E2, E3, E7, E8, E9]
        exact QkvBwdReferenceIdeal.Val.dgkv_eq _ _ _ _ _ _)
     (Cert.QkvBwdReferenceIdeal.Value.run (F := Ideal) m' g')⟩

end Cert.QkvBwdClaim
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateReferenceIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpReferenceIdeal
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxReferenceIdeal
public import proofs.«01_k».proof.Proof.Gen.MixDx
public import proofs.«01_k».proof.Proof.Gen.MixDx.Skeleton
public import proofs.«01_k».proof.Proof.Gen.MixDx.Launch
public import proofs.«01_k».proof.Proof.Gen.MixDx.Points
public import proofs.«01_k».proof.Proof.Gen.MixDx.Frame
public import proofs.«01_k».proof.Proof.Gen.MixDxIdeal
public import proofs.«01_k».proof.Proof.Gen.MixDxIdeal.Skeleton
public import proofs.«01_k».proof.Proof.Gen.MixDxIdeal.Launch
public import proofs.«01_k».proof.Proof.Gen.MixDxIdeal.Points
public import proofs.«01_k».proof.Proof.Gen.MixDxIdeal.Frame
public import proofs.«01_k».proof.Proof.Gen.MixDxReferenceIdeal
public import proofs.«01_k».proof.Proof.Gen.WIn
public import proofs.«01_k».proof.Proof.Gen.WIn.Skeleton
public import proofs.«01_k».proof.Proof.Gen.WIn.Launch
public import proofs.«01_k».proof.Proof.Gen.WIn.Points
public import proofs.«01_k».proof.Proof.Gen.WIn.Frame
public import proofs.«01_k».proof.Proof.Gen.WInIdeal
public import proofs.«01_k».proof.Proof.Gen.WInIdeal.Skeleton
public import proofs.«01_k».proof.Proof.Gen.WInIdeal.Launch
public import proofs.«01_k».proof.Proof.Gen.WInIdeal.Points
public import proofs.«01_k».proof.Proof.Gen.WInIdeal.Frame
public import proofs.«01_k».proof.Proof.Gen.WInReferenceIdeal
public import proofs.«01_k».proof.Proof.Gen.WOut
public import proofs.«01_k».proof.Proof.Gen.WOut.Skeleton
public import proofs.«01_k».proof.Proof.Gen.WOut.Launch
public import proofs.«01_k».proof.Proof.Gen.WOut.Points
public import proofs.«01_k».proof.Proof.Gen.WOut.Frame
public import proofs.«01_k».proof.Proof.Gen.WOutIdeal
public import proofs.«01_k».proof.Proof.Gen.WOutIdeal.Skeleton
public import proofs.«01_k».proof.Proof.Gen.WOutIdeal.Launch
public import proofs.«01_k».proof.Proof.Gen.WOutIdeal.Points
public import proofs.«01_k».proof.Proof.Gen.WOutIdeal.Frame
public import proofs.«01_k».proof.Proof.Gen.WOutReferenceIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidReferenceIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpReferenceIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownReferenceIdeal
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInReferenceIdeal
public import proofs.«01_k».proof.Proof.Gen.Branch
public import proofs.«01_k».proof.Proof.Gen.Branch.Skeleton
public import proofs.«01_k».proof.Proof.Gen.Branch.Launch
public import proofs.«01_k».proof.Proof.Gen.Branch.Points
public import proofs.«01_k».proof.Proof.Gen.Branch.Frame
public import proofs.«01_k».proof.Proof.Gen.BranchIdeal
public import proofs.«01_k».proof.Proof.Gen.BranchIdeal.Skeleton
public import proofs.«01_k».proof.Proof.Gen.BranchIdeal.Launch
public import proofs.«01_k».proof.Proof.Gen.BranchIdeal.Points
public import proofs.«01_k».proof.Proof.Gen.BranchIdeal.Frame
public import proofs.«01_k».proof.Proof.Gen.BranchReferenceIdeal
public import proofs.«01_k».proof.Proof.Gen.DYConv
public import proofs.«01_k».proof.Proof.Gen.DYConv.Skeleton
public import proofs.«01_k».proof.Proof.Gen.DYConv.Launch
public import proofs.«01_k».proof.Proof.Gen.DYConv.Points
public import proofs.«01_k».proof.Proof.Gen.DYConv.Frame
public import proofs.«01_k».proof.Proof.Gen.DYConvIdeal
public import proofs.«01_k».proof.Proof.Gen.DYConvIdeal.Skeleton
public import proofs.«01_k».proof.Proof.Gen.DYConvIdeal.Launch
public import proofs.«01_k».proof.Proof.Gen.DYConvIdeal.Points
public import proofs.«01_k».proof.Proof.Gen.DYConvIdeal.Frame
public import proofs.«01_k».proof.Proof.Gen.DYConvReferenceIdeal
public import proofs.«01_k».proof.Proof.Gen.DYMla
public import proofs.«01_k».proof.Proof.Gen.DYMla.Skeleton
public import proofs.«01_k».proof.Proof.Gen.DYMla.Launch
public import proofs.«01_k».proof.Proof.Gen.DYMla.Points
public import proofs.«01_k».proof.Proof.Gen.DYMla.Frame
public import proofs.«01_k».proof.Proof.Gen.DYMlaIdeal
public import proofs.«01_k».proof.Proof.Gen.DYMlaIdeal.Skeleton
public import proofs.«01_k».proof.Proof.Gen.DYMlaIdeal.Launch
public import proofs.«01_k».proof.Proof.Gen.DYMlaIdeal.Points
public import proofs.«01_k».proof.Proof.Gen.DYMlaIdeal.Frame
public import proofs.«01_k».proof.Proof.Gen.DYMlaReferenceIdeal
public import proofs.«01_k».proof.Proof.Gen.WUq
public import proofs.«01_k».proof.Proof.Gen.WUq.Skeleton
public import proofs.«01_k».proof.Proof.Gen.WUq.Launch
public import proofs.«01_k».proof.Proof.Gen.WUq.Points
public import proofs.«01_k».proof.Proof.Gen.WUq.Frame
public import proofs.«01_k».proof.Proof.Gen.WUqIdeal
public import proofs.«01_k».proof.Proof.Gen.WUqIdeal.Skeleton
public import proofs.«01_k».proof.Proof.Gen.WUqIdeal.Launch
public import proofs.«01_k».proof.Proof.Gen.WUqIdeal.Points
public import proofs.«01_k».proof.Proof.Gen.WUqIdeal.Frame
public import proofs.«01_k».proof.Proof.Gen.WUqReferenceIdeal
public import proofs.«01_k».proof.Proof.Gen.WUv
public import proofs.«01_k».proof.Proof.Gen.WUv.Skeleton
public import proofs.«01_k».proof.Proof.Gen.WUv.Launch
public import proofs.«01_k».proof.Proof.Gen.WUv.Points
public import proofs.«01_k».proof.Proof.Gen.WUv.Frame
public import proofs.«01_k».proof.Proof.Gen.WUvIdeal
public import proofs.«01_k».proof.Proof.Gen.WUvIdeal.Skeleton
public import proofs.«01_k».proof.Proof.Gen.WUvIdeal.Launch
public import proofs.«01_k».proof.Proof.Gen.WUvIdeal.Points
public import proofs.«01_k».proof.Proof.Gen.WUvIdeal.Frame
public import proofs.«01_k».proof.Proof.Gen.WUvReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdReferenceIdeal
public import proofs.«01_k».proof.Proof.Gen.LnBwd
public import proofs.«01_k».proof.Proof.Gen.LnBwd.Skeleton
public import proofs.«01_k».proof.Proof.Gen.LnBwd.Launch
public import proofs.«01_k».proof.Proof.Gen.LnBwd.Points
public import proofs.«01_k».proof.Proof.Gen.LnBwd.Frame
public import proofs.«01_k».proof.Proof.Gen.LnBwdIdeal
public import proofs.«01_k».proof.Proof.Gen.LnBwdIdeal.Skeleton
public import proofs.«01_k».proof.Proof.Gen.LnBwdIdeal.Launch
public import proofs.«01_k».proof.Proof.Gen.LnBwdIdeal.Points
public import proofs.«01_k».proof.Proof.Gen.LnBwdIdeal.Frame
public import proofs.«01_k».proof.Proof.Gen.LnBwdReferenceIdeal
public import proofs.«01_k».proof.Proof.Gen.LnBwdM
public import proofs.«01_k».proof.Proof.Gen.LnBwdM.Skeleton
public import proofs.«01_k».proof.Proof.Gen.LnBwdM.Launch
public import proofs.«01_k».proof.Proof.Gen.LnBwdM.Points
public import proofs.«01_k».proof.Proof.Gen.LnBwdM.Frame
public import proofs.«01_k».proof.Proof.Gen.LnBwdMIdeal
public import proofs.«01_k».proof.Proof.Gen.LnBwdMIdeal.Skeleton
public import proofs.«01_k».proof.Proof.Gen.LnBwdMIdeal.Launch
public import proofs.«01_k».proof.Proof.Gen.LnBwdMIdeal.Points
public import proofs.«01_k».proof.Proof.Gen.LnBwdMIdeal.Frame
public import proofs.«01_k».proof.Proof.Gen.LnBwdMReferenceIdeal
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadReferenceIdeal
public import proofs.«01_k».proof.Proof.Gen.Pre_finite_mid
public import proofs.«01_k».proof.Proof.Gen.Pre_finite_ffnup
public import proofs.«01_k».proof.Proof.Gen.Pre_finite_lnbwd
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GateIdeal.Value
public import proofs.«01_k».proof.Proof.Gen.GateReferenceIdeal.Run
public import proofs.«01_k».proof.Proof.Gen.GateReferenceIdeal.Read
public import proofs.«01_k».proof.Proof.Gen.DownIdeal.Value
public import proofs.«01_k».proof.Proof.Gen.DownReferenceIdeal.Run
public import proofs.«01_k».proof.Proof.Gen.DownReferenceIdeal.Read
public import proofs.«01_k».proof.Proof.Gen.UpIdeal.Value
public import proofs.«01_k».proof.Proof.Gen.UpReferenceIdeal.Run
public import proofs.«01_k».proof.Proof.Gen.UpReferenceIdeal.Read
public import proofs.«01_k».proof.Proof.Gen.DxIdeal.Value
public import proofs.«01_k».proof.Proof.Gen.DxReferenceIdeal.Run
public import proofs.«01_k».proof.Proof.Gen.DxReferenceIdeal.Read
public import proofs.«01_k».proof.Proof.Gen.MixDxIdeal.Value
public import proofs.«01_k».proof.Proof.Gen.MixDxReferenceIdeal.Run
public import proofs.«01_k».proof.Proof.Gen.MixDxReferenceIdeal.Read
public import proofs.«01_k».proof.Proof.Gen.WInIdeal.Value
public import proofs.«01_k».proof.Proof.Gen.WInReferenceIdeal.Run
public import proofs.«01_k».proof.Proof.Gen.WInReferenceIdeal.Read
public import proofs.«01_k».proof.Proof.Gen.WOutIdeal.Value
public import proofs.«01_k».proof.Proof.Gen.WOutReferenceIdeal.Run
public import proofs.«01_k».proof.Proof.Gen.WOutReferenceIdeal.Read
public import proofs.«01_k».proof.Proof.Gen.MidIdeal.Value
public import proofs.«01_k».proof.Proof.Gen.MidReferenceIdeal.Run
public import proofs.«01_k».proof.Proof.Gen.MidReferenceIdeal.Read
public import proofs.«01_k».proof.Proof.Gen.FfnUpIdeal.Value
public import proofs.«01_k».proof.Proof.Gen.FfnUpReferenceIdeal.Run
public import proofs.«01_k».proof.Proof.Gen.FfnUpReferenceIdeal.Read
public import proofs.«01_k».proof.Proof.Gen.FfnDownIdeal.Value
public import proofs.«01_k».proof.Proof.Gen.FfnDownReferenceIdeal.Run
public import proofs.«01_k».proof.Proof.Gen.FfnDownReferenceIdeal.Read
public import proofs.«01_k».proof.Proof.Gen.MixInIdeal.Value
public import proofs.«01_k».proof.Proof.Gen.MixInReferenceIdeal.Run
public import proofs.«01_k».proof.Proof.Gen.MixInReferenceIdeal.Read
public import proofs.«01_k».proof.Proof.Gen.BranchIdeal.Value
public import proofs.«01_k».proof.Proof.Gen.BranchReferenceIdeal.Run
public import proofs.«01_k».proof.Proof.Gen.BranchReferenceIdeal.Read
public import proofs.«01_k».proof.Proof.Gen.DYConvIdeal.Value
public import proofs.«01_k».proof.Proof.Gen.DYConvReferenceIdeal.Run
public import proofs.«01_k».proof.Proof.Gen.DYConvReferenceIdeal.Read
public import proofs.«01_k».proof.Proof.Gen.DYMlaIdeal.Value
public import proofs.«01_k».proof.Proof.Gen.DYMlaReferenceIdeal.Run
public import proofs.«01_k».proof.Proof.Gen.DYMlaReferenceIdeal.Read
public import proofs.«01_k».proof.Proof.Gen.WUqIdeal.Value
public import proofs.«01_k».proof.Proof.Gen.WUqReferenceIdeal.Run
public import proofs.«01_k».proof.Proof.Gen.WUqReferenceIdeal.Read
public import proofs.«01_k».proof.Proof.Gen.WUvIdeal.Value
public import proofs.«01_k».proof.Proof.Gen.WUvReferenceIdeal.Run
public import proofs.«01_k».proof.Proof.Gen.WUvReferenceIdeal.Read
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Gen.ConvFwdIdeal.Value
public import proofs.«01_k».proof.Proof.Gen.ConvFwdReferenceIdeal.Run
public import proofs.«01_k».proof.Proof.Gen.ConvFwdReferenceIdeal.Read
public import proofs.«01_k».proof.Proof.Gen.LnBwdIdeal.Value
public import proofs.«01_k».proof.Proof.Gen.LnBwdReferenceIdeal.Run
public import proofs.«01_k».proof.Proof.Gen.LnBwdReferenceIdeal.Read
public import proofs.«01_k».proof.Proof.Gen.LnBwdMIdeal.Value
public import proofs.«01_k».proof.Proof.Gen.LnBwdMReferenceIdeal.Run
public import proofs.«01_k».proof.Proof.Gen.LnBwdMReferenceIdeal.Read
public import proofs.«01_k».proof.Proof.Gen.LossHeadIdeal.Value
public import proofs.«01_k».proof.Proof.Gen.LossHeadReferenceIdeal.Run
public import proofs.«01_k».proof.Proof.Gen.LossHeadReferenceIdeal.Read
public import proofs.«01_k».proof.Proof.ConvClaim
public import proofs.«01_k».proof.Proof.GateClaim
public import proofs.«01_k».proof.Proof.DownClaim
public import proofs.«01_k».proof.Proof.UpClaim
public import proofs.«01_k».proof.Proof.DxClaim
public import proofs.«01_k».proof.Proof.MixDxClaim
public import proofs.«01_k».proof.Proof.WInClaim
public import proofs.«01_k».proof.Proof.WOutClaim
public import proofs.«01_k».proof.Proof.MidClaim
public import proofs.«01_k».proof.Proof.FfnUpClaim
public import proofs.«01_k».proof.Proof.FfnDownClaim
public import proofs.«01_k».proof.Proof.MixInClaim
public import proofs.«01_k».proof.Proof.BranchClaim
public import proofs.«01_k».proof.Proof.DYConvClaim
public import proofs.«01_k».proof.Proof.DYMlaClaim
public import proofs.«01_k».proof.Proof.WUqClaim
public import proofs.«01_k».proof.Proof.WUvClaim
public import proofs.«01_k».proof.Proof.MergeClaim
public import proofs.«01_k».proof.Proof.ConvFwdClaim
public import proofs.«01_k».proof.Proof.LnBwdClaim
public import proofs.«01_k».proof.Proof.LnBwdMClaim
public import proofs.«01_k».proof.Proof.LossHeadClaim
public import proofs.«01_k».proof.Proof.Gen.Qkv.Frame
public import proofs.«01_k».proof.Proof.Gen.QkvIdeal.Value
public import proofs.«01_k».proof.Proof.Gen.QkvReferenceIdeal.Run
public import proofs.«01_k».proof.Proof.Gen.QkvReferenceIdeal.Read
public import proofs.«01_k».proof.Proof.QkvClaim
public import proofs.«01_k».proof.Proof.Gen.QkvBwd.Frame
public import proofs.«01_k».proof.Proof.Gen.QkvBwdIdeal.Value
public import proofs.«01_k».proof.Proof.Gen.QkvBwdReferenceIdeal.Run
public import proofs.«01_k».proof.Proof.Gen.QkvBwdReferenceIdeal.Read
public import proofs.«01_k».proof.Proof.QkvBwdClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Gate.Gen.facts, Cert.GateIdeal.Gen.facts, Cert.GateReferenceIdeal.Gen.facts, Cert.Down.Gen.facts, Cert.DownIdeal.Gen.facts, Cert.DownReferenceIdeal.Gen.facts, Cert.Up.Gen.facts, Cert.UpIdeal.Gen.facts, Cert.UpReferenceIdeal.Gen.facts, Cert.Dx.Gen.facts, Cert.DxIdeal.Gen.facts, Cert.DxReferenceIdeal.Gen.facts, Cert.MixDx.Gen.facts, Cert.MixDxIdeal.Gen.facts, Cert.MixDxReferenceIdeal.Gen.facts, Cert.WIn.Gen.facts, Cert.WInIdeal.Gen.facts, Cert.WInReferenceIdeal.Gen.facts, Cert.WOut.Gen.facts, Cert.WOutIdeal.Gen.facts, Cert.WOutReferenceIdeal.Gen.facts, Cert.Mid.Gen.facts, Cert.MidIdeal.Gen.facts, Cert.MidReferenceIdeal.Gen.facts, Cert.FfnUp.Gen.facts, Cert.FfnUpIdeal.Gen.facts, Cert.FfnUpReferenceIdeal.Gen.facts, Cert.FfnDown.Gen.facts, Cert.FfnDownIdeal.Gen.facts, Cert.FfnDownReferenceIdeal.Gen.facts, Cert.MixIn.Gen.facts, Cert.MixInIdeal.Gen.facts, Cert.MixInReferenceIdeal.Gen.facts, Cert.Branch.Gen.facts, Cert.BranchIdeal.Gen.facts, Cert.BranchReferenceIdeal.Gen.facts, Cert.DYConv.Gen.facts, Cert.DYConvIdeal.Gen.facts, Cert.DYConvReferenceIdeal.Gen.facts, Cert.DYMla.Gen.facts, Cert.DYMlaIdeal.Gen.facts, Cert.DYMlaReferenceIdeal.Gen.facts, Cert.WUq.Gen.facts, Cert.WUqIdeal.Gen.facts, Cert.WUqReferenceIdeal.Gen.facts, Cert.WUv.Gen.facts, Cert.WUvIdeal.Gen.facts, Cert.WUvReferenceIdeal.Gen.facts, Cert.Merge.Gen.facts, Cert.MergeIdeal.Gen.facts, Cert.MergeReferenceIdeal.Gen.facts, Cert.ConvFwd.Gen.facts, Cert.ConvFwdIdeal.Gen.facts, Cert.ConvFwdReferenceIdeal.Gen.facts, Cert.LnBwd.Gen.facts, Cert.LnBwdIdeal.Gen.facts, Cert.LnBwdReferenceIdeal.Gen.facts, Cert.LnBwdM.Gen.facts, Cert.LnBwdMIdeal.Gen.facts, Cert.LnBwdMReferenceIdeal.Gen.facts, Cert.LossHead.Gen.facts, Cert.LossHeadIdeal.Gen.facts, Cert.LossHeadReferenceIdeal.Gen.facts, Cert.Qkv.Gen.facts, Cert.QkvIdeal.Gen.facts, Cert.QkvReferenceIdeal.Gen.facts, Cert.QkvBwd.Gen.facts, Cert.QkvBwdIdeal.Gen.facts, Cert.QkvBwdReferenceIdeal.Gen.facts, MidClaim.preFacts, FfnUpClaim.preFacts, LnBwdClaim.preFacts, QkvBwdClaim.preFacts,
  ConvClaim.frame_k, ConvClaim.frame_ki, ConvClaim.frame_ri, GateClaim.frame_k, GateClaim.frame_ki, GateClaim.frame_ri, DownClaim.frame_k, DownClaim.frame_ki, DownClaim.frame_ri, UpClaim.frame_k, UpClaim.frame_ki, UpClaim.frame_ri, DxClaim.frame_k, DxClaim.frame_ki, DxClaim.frame_ri, MixDxClaim.frame_k, MixDxClaim.frame_ki, MixDxClaim.frame_ri, WInClaim.frame_k, WInClaim.frame_ki, WInClaim.frame_ri, WOutClaim.frame_k, WOutClaim.frame_ki, WOutClaim.frame_ri, MidClaim.frame_k, MidClaim.frame_ki, MidClaim.frame_ki_pre, MidClaim.frame_ri, MidClaim.frame_ri_pre, FfnUpClaim.frame_k, FfnUpClaim.frame_ki, FfnUpClaim.frame_ki_pre, FfnUpClaim.frame_ri, FfnUpClaim.frame_ri_pre, FfnDownClaim.frame_k, FfnDownClaim.frame_ki, FfnDownClaim.frame_ri, MixInClaim.frame_k, MixInClaim.frame_ki, MixInClaim.frame_ri, BranchClaim.frame_k, BranchClaim.frame_ki, BranchClaim.frame_ri, DYConvClaim.frame_k, DYConvClaim.frame_ki, DYConvClaim.frame_ri, DYMlaClaim.frame_k, DYMlaClaim.frame_ki, DYMlaClaim.frame_ri, WUqClaim.frame_k, WUqClaim.frame_ki, WUqClaim.frame_ri, WUvClaim.frame_k, WUvClaim.frame_ki, WUvClaim.frame_ri, MergeClaim.frame_k, MergeClaim.frame_ki, MergeClaim.frame_ri, ConvFwdClaim.frame_k, ConvFwdClaim.frame_ki, ConvFwdClaim.frame_ri, LnBwdClaim.frame_k, LnBwdClaim.frame_ki, LnBwdClaim.frame_ki_pre, LnBwdClaim.frame_ri, LnBwdClaim.frame_ri_pre, LnBwdMClaim.frame_k, LnBwdMClaim.frame_ki, LnBwdMClaim.frame_ki_pre, LnBwdMClaim.frame_ri, LnBwdMClaim.frame_ri_pre, LossHeadClaim.frame_k, LossHeadClaim.frame_ki, LossHeadClaim.frame_ri, QkvClaim.frame_k, QkvClaim.frame_ki, QkvClaim.frame_ri, QkvBwdClaim.frame_k, QkvBwdClaim.frame_ki, QkvBwdClaim.frame_ki_pre, QkvBwdClaim.frame_ri, QkvBwdClaim.frame_ri_pre,
  trivial, ConvClaim.algebraic, trivial, GateClaim.algebraic, trivial, DownClaim.algebraic, trivial, UpClaim.algebraic, trivial, DxClaim.algebraic, trivial, MixDxClaim.algebraic, trivial, WInClaim.algebraic, trivial, WOutClaim.algebraic, trivial, MidClaim.algebraic, trivial, FfnUpClaim.algebraic, trivial, FfnDownClaim.algebraic, trivial, MixInClaim.algebraic, trivial, BranchClaim.algebraic, trivial, DYConvClaim.algebraic, trivial, DYMlaClaim.algebraic, trivial, WUqClaim.algebraic, trivial, WUvClaim.algebraic, trivial, MergeClaim.algebraic, trivial, ConvFwdClaim.algebraic, trivial, LnBwdClaim.algebraic, trivial, LnBwdMClaim.algebraic, trivial, LossHeadClaim.algebraic, trivial, QkvClaim.algebraic, trivial, QkvBwdClaim.algebraic⟩

end Cert.Proof

end
